-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxReferenceIdeal (m : (ℓ : Loc Cert.DownDxReferenceIdeal.nD Cert.DownDxReferenceIdeal.τ Cert.DownDxReferenceIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwReferenceIdeal (m : (ℓ : Loc Cert.DownDwReferenceIdeal.nD Cert.DownDwReferenceIdeal.τ Cert.DownDwReferenceIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxReferenceIdeal (m : (ℓ : Loc Cert.UpDxReferenceIdeal.nD Cert.UpDxReferenceIdeal.τ Cert.UpDxReferenceIdeal.sig) → Buf (Elt Ideal) ℓ) : Prop :=
  True

def Pre_UpDxOne (m : (ℓ : Loc Cert.UpDxOne.nD Cert.UpDxOne.τ Cert.UpDxOne.sig) → Buf (Elt Bits) ℓ) : Prop :=
  True

def Pre_UpDxOneIdeal (m : (ℓ : Loc Cert.UpDxOneIdeal.nD Cert.UpDxOneIdeal.τ Cert.UpDxOneIdeal.sig) → Buf (Elt Ideal) ℓ) : Prop :=
  True

def Pre_UpDxOneReferenceIdeal (m : (ℓ : Loc Cert.UpDxOneReferenceIdeal.nD Cert.UpDxOneReferenceIdeal.τ Cert.UpDxOneReferenceIdeal.sig) → Buf (Elt Ideal) ℓ) : Prop :=
  True

def Pre_UpDxTop (m : (ℓ : Loc Cert.UpDxTop.nD Cert.UpDxTop.τ Cert.UpDxTop.sig) → Buf (Elt Bits) ℓ) : Prop :=
  True

def Pre_UpDxTopIdeal (m : (ℓ : Loc Cert.UpDxTopIdeal.nD Cert.UpDxTopIdeal.τ Cert.UpDxTopIdeal.sig) → Buf (Elt Ideal) ℓ) : Prop :=
  True

def Pre_UpDxTopReferenceIdeal (m : (ℓ : Loc Cert.UpDxTopReferenceIdeal.nD Cert.UpDxTopReferenceIdeal.τ Cert.UpDxTopReferenceIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwReferenceIdeal (m : (ℓ : Loc Cert.UpDwReferenceIdeal.nD Cert.UpDwReferenceIdeal.τ Cert.UpDwReferenceIdeal.sig) → Buf (Elt Ideal) ℓ) : Prop :=
  True

def Pre_DownDxOne (m : (ℓ : Loc Cert.DownDxOne.nD Cert.DownDxOne.τ Cert.DownDxOne.sig) → Buf (Elt Bits) ℓ) : Prop :=
  True

def Pre_DownDxOneIdeal (m : (ℓ : Loc Cert.DownDxOneIdeal.nD Cert.DownDxOneIdeal.τ Cert.DownDxOneIdeal.sig) → Buf (Elt Ideal) ℓ) : Prop :=
  True

def Pre_DownDxOneReferenceIdeal (m : (ℓ : Loc Cert.DownDxOneReferenceIdeal.nD Cert.DownDxOneReferenceIdeal.τ Cert.DownDxOneReferenceIdeal.sig) → Buf (Elt Ideal) ℓ) : Prop :=
  True

def Pre_DownDxTwo (m : (ℓ : Loc Cert.DownDxTwo.nD Cert.DownDxTwo.τ Cert.DownDxTwo.sig) → Buf (Elt Bits) ℓ) : Prop :=
  True

def Pre_DownDxTwoIdeal (m : (ℓ : Loc Cert.DownDxTwoIdeal.nD Cert.DownDxTwoIdeal.τ Cert.DownDxTwoIdeal.sig) → Buf (Elt Ideal) ℓ) : Prop :=
  True

def Pre_DownDxTwoReferenceIdeal (m : (ℓ : Loc Cert.DownDxTwoReferenceIdeal.nD Cert.DownDxTwoReferenceIdeal.τ Cert.DownDxTwoReferenceIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxReferenceIdeal (m : (ℓ : Loc Cert.InDxReferenceIdeal.nD Cert.InDxReferenceIdeal.τ Cert.InDxReferenceIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwReferenceIdeal (m : (ℓ : Loc Cert.InDwReferenceIdeal.nD Cert.InDwReferenceIdeal.τ Cert.InDwReferenceIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwReferenceIdeal (m : (ℓ : Loc Cert.OutDwReferenceIdeal.nD Cert.OutDwReferenceIdeal.τ Cert.OutDwReferenceIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxReferenceIdeal (m : (ℓ : Loc Cert.OutDxReferenceIdeal.nD Cert.OutDxReferenceIdeal.τ Cert.OutDxReferenceIdeal.sig) → Buf (Elt Ideal) ℓ) : Prop :=
  True

def Pre_SsdIn (m : (ℓ : Loc Cert.SsdIn.nD Cert.SsdIn.τ Cert.SsdIn.sig) → Buf (Elt Bits) ℓ) : Prop :=
  True

def Pre_SsdInIdeal (m : (ℓ : Loc Cert.SsdInIdeal.nD Cert.SsdInIdeal.τ Cert.SsdInIdeal.sig) → Buf (Elt Ideal) ℓ) : Prop :=
  True

def Pre_SsdInReferenceIdeal (m : (ℓ : Loc Cert.SsdInReferenceIdeal.nD Cert.SsdInReferenceIdeal.τ Cert.SsdInReferenceIdeal.sig) → Buf (Elt Ideal) ℓ) : Prop :=
  True

def Pre_SsdOut (m : (ℓ : Loc Cert.SsdOut.nD Cert.SsdOut.τ Cert.SsdOut.sig) → Buf (Elt Bits) ℓ) : Prop :=
  True

def Pre_SsdOutIdeal (m : (ℓ : Loc Cert.SsdOutIdeal.nD Cert.SsdOutIdeal.τ Cert.SsdOutIdeal.sig) → Buf (Elt Ideal) ℓ) : Prop :=
  True

def Pre_SsdOutReferenceIdeal (m : (ℓ : Loc Cert.SsdOutReferenceIdeal.nD Cert.SsdOutReferenceIdeal.τ Cert.SsdOutReferenceIdeal.sig) → Buf (Elt Ideal) ℓ) : Prop :=
  True

def Pre_MlpUpOne (m : (ℓ : Loc Cert.MlpUpOne.nD Cert.MlpUpOne.τ Cert.MlpUpOne.sig) → Buf (Elt Bits) ℓ) : Prop :=
  True

def Pre_MlpUpOneIdeal (m : (ℓ : Loc Cert.MlpUpOneIdeal.nD Cert.MlpUpOneIdeal.τ Cert.MlpUpOneIdeal.sig) → Buf (Elt Ideal) ℓ) : Prop :=
  True

def Pre_MlpUpOneReferenceIdeal (m : (ℓ : Loc Cert.MlpUpOneReferenceIdeal.nD Cert.MlpUpOneReferenceIdeal.τ Cert.MlpUpOneReferenceIdeal.sig) → Buf (Elt Ideal) ℓ) : Prop :=
  True

def Pre_MlpUpTwo (m : (ℓ : Loc Cert.MlpUpTwo.nD Cert.MlpUpTwo.τ Cert.MlpUpTwo.sig) → Buf (Elt Bits) ℓ) : Prop :=
  True

def Pre_MlpUpTwoIdeal (m : (ℓ : Loc Cert.MlpUpTwoIdeal.nD Cert.MlpUpTwoIdeal.τ Cert.MlpUpTwoIdeal.sig) → Buf (Elt Ideal) ℓ) : Prop :=
  True

def Pre_MlpUpTwoReferenceIdeal (m : (ℓ : Loc Cert.MlpUpTwoReferenceIdeal.nD Cert.MlpUpTwoReferenceIdeal.τ Cert.MlpUpTwoReferenceIdeal.sig) → Buf (Elt Ideal) ℓ) : Prop :=
  True

def Pre_MlpUpTop (m : (ℓ : Loc Cert.MlpUpTop.nD Cert.MlpUpTop.τ Cert.MlpUpTop.sig) → Buf (Elt Bits) ℓ) : Prop :=
  True

def Pre_MlpUpTopIdeal (m : (ℓ : Loc Cert.MlpUpTopIdeal.nD Cert.MlpUpTopIdeal.τ Cert.MlpUpTopIdeal.sig) → Buf (Elt Ideal) ℓ) : Prop :=
  True

def Pre_MlpUpTopReferenceIdeal (m : (ℓ : Loc Cert.MlpUpTopReferenceIdeal.nD Cert.MlpUpTopReferenceIdeal.τ Cert.MlpUpTopReferenceIdeal.sig) → Buf (Elt Ideal) ℓ) : Prop :=
  True

def Pre_MlpDownOne (m : (ℓ : Loc Cert.MlpDownOne.nD Cert.MlpDownOne.τ Cert.MlpDownOne.sig) → Buf (Elt Bits) ℓ) : Prop :=
  True

def Pre_MlpDownOneIdeal (m : (ℓ : Loc Cert.MlpDownOneIdeal.nD Cert.MlpDownOneIdeal.τ Cert.MlpDownOneIdeal.sig) → Buf (Elt Ideal) ℓ) : Prop :=
  True

def Pre_MlpDownOneReferenceIdeal (m : (ℓ : Loc Cert.MlpDownOneReferenceIdeal.nD Cert.MlpDownOneReferenceIdeal.τ Cert.MlpDownOneReferenceIdeal.sig) → Buf (Elt Ideal) ℓ) : Prop :=
  True

def Pre_MlpDownTwo (m : (ℓ : Loc Cert.MlpDownTwo.nD Cert.MlpDownTwo.τ Cert.MlpDownTwo.sig) → Buf (Elt Bits) ℓ) : Prop :=
  True

def Pre_MlpDownTwoIdeal (m : (ℓ : Loc Cert.MlpDownTwoIdeal.nD Cert.MlpDownTwoIdeal.τ Cert.MlpDownTwoIdeal.sig) → Buf (Elt Ideal) ℓ) : Prop :=
  True

def Pre_MlpDownTwoReferenceIdeal (m : (ℓ : Loc Cert.MlpDownTwoReferenceIdeal.nD Cert.MlpDownTwoReferenceIdeal.τ Cert.MlpDownTwoReferenceIdeal.sig) → Buf (Elt Ideal) ℓ) : Prop :=
  True

def Pre_MlpDownTop (m : (ℓ : Loc Cert.MlpDownTop.nD Cert.MlpDownTop.τ Cert.MlpDownTop.sig) → Buf (Elt Bits) ℓ) : Prop :=
  True

def Pre_MlpDownTopIdeal (m : (ℓ : Loc Cert.MlpDownTopIdeal.nD Cert.MlpDownTopIdeal.τ Cert.MlpDownTopIdeal.sig) → Buf (Elt Ideal) ℓ) : Prop :=
  True

def Pre_MlpDownTopReferenceIdeal (m : (ℓ : Loc Cert.MlpDownTopReferenceIdeal.nD Cert.MlpDownTopReferenceIdeal.τ Cert.MlpDownTopReferenceIdeal.sig) → Buf (Elt Ideal) ℓ) : Prop :=
  True

def Pre_UpDwTop (m : (ℓ : Loc Cert.UpDwTop.nD Cert.UpDwTop.τ Cert.UpDwTop.sig) → Buf (Elt Bits) ℓ) : Prop :=
  True

def Pre_UpDwTopIdeal (m : (ℓ : Loc Cert.UpDwTopIdeal.nD Cert.UpDwTopIdeal.τ Cert.UpDwTopIdeal.sig) → Buf (Elt Ideal) ℓ) : Prop :=
  True

def Pre_UpDwTopReferenceIdeal (m : (ℓ : Loc Cert.UpDwTopReferenceIdeal.nD Cert.UpDwTopReferenceIdeal.τ Cert.UpDwTopReferenceIdeal.sig) → Buf (Elt Ideal) ℓ) : Prop :=
  True

def Pre_DownDwTop (m : (ℓ : Loc Cert.DownDwTop.nD Cert.DownDwTop.τ Cert.DownDwTop.sig) → Buf (Elt Bits) ℓ) : Prop :=
  True

def Pre_DownDwTopIdeal (m : (ℓ : Loc Cert.DownDwTopIdeal.nD Cert.DownDwTopIdeal.τ Cert.DownDwTopIdeal.sig) → Buf (Elt Ideal) ℓ) : Prop :=
  True

def Pre_DownDwTopReferenceIdeal (m : (ℓ : Loc Cert.DownDwTopReferenceIdeal.nD Cert.DownDwTopReferenceIdeal.τ Cert.DownDwTopReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxReferenceIdeal [hDownDxReferenceIdeal : Cert.DownDxReferenceIdeal.Facts] : Prop :=
  ∀ (m : (ℓ : Loc Cert.DownDxReferenceIdeal.nD Cert.DownDxReferenceIdeal.τ Cert.DownDxReferenceIdeal.sig) → Buf (Elt Ideal) ℓ) (g : Dev Cert.DownDxReferenceIdeal.nD → PrngReg), Pre_DownDxReferenceIdeal m →
    θ_run (Cert.DownDxReferenceIdeal.defs (F := Ideal)) (onTc (τ := Cert.DownDxReferenceIdeal.τ) (Cert.DownDxReferenceIdeal.main (F := Ideal))) ⟨m, fun _ => 0, g⟩ (fun r => (∀ c : Dev Cert.DownDxReferenceIdeal.nD,
      r.2.mem ((c.tc : Thread Cert.DownDxReferenceIdeal.nD Cert.DownDxReferenceIdeal.τ).loc Cert.DownDxReferenceIdeal.main_arg0) = m ((c.tc : Thread Cert.DownDxReferenceIdeal.nD Cert.DownDxReferenceIdeal.τ).loc Cert.DownDxReferenceIdeal.main_arg0)
      ∧ r.2.mem ((c.tc : Thread Cert.DownDxReferenceIdeal.nD Cert.DownDxReferenceIdeal.τ).loc Cert.DownDxReferenceIdeal.main_arg1) = m ((c.tc : Thread Cert.DownDxReferenceIdeal.nD Cert.DownDxReferenceIdeal.τ).loc Cert.DownDxReferenceIdeal.main_arg1)
      ∧ r.2.mem ((c.tc : Thread Cert.DownDxReferenceIdeal.nD Cert.DownDxReferenceIdeal.τ).loc Cert.DownDxReferenceIdeal.main_arg2) = m ((c.tc : Thread Cert.DownDxReferenceIdeal.nD Cert.DownDxReferenceIdeal.τ).loc Cert.DownDxReferenceIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1)
      ∧ r.2.mem ((c.tc : Thread Cert.DownDw.nD Cert.DownDw.τ).loc Cert.DownDw.main_arg2) = m ((c.tc : Thread Cert.DownDw.nD Cert.DownDw.τ).loc Cert.DownDw.main_arg2))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
      ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ r.2.sem = fun _ => 0)

def quiescent_DownDwReferenceIdeal [hDownDwReferenceIdeal : Cert.DownDwReferenceIdeal.Facts] : Prop :=
  ∀ (m : (ℓ : Loc Cert.DownDwReferenceIdeal.nD Cert.DownDwReferenceIdeal.τ Cert.DownDwReferenceIdeal.sig) → Buf (Elt Ideal) ℓ) (g : Dev Cert.DownDwReferenceIdeal.nD → PrngReg), Pre_DownDwReferenceIdeal m →
    θ_run (Cert.DownDwReferenceIdeal.defs (F := Ideal)) (onTc (τ := Cert.DownDwReferenceIdeal.τ) (Cert.DownDwReferenceIdeal.main (F := Ideal))) ⟨m, fun _ => 0, g⟩ (fun r => (∀ c : Dev Cert.DownDwReferenceIdeal.nD,
      r.2.mem ((c.tc : Thread Cert.DownDwReferenceIdeal.nD Cert.DownDwReferenceIdeal.τ).loc Cert.DownDwReferenceIdeal.main_arg0) = m ((c.tc : Thread Cert.DownDwReferenceIdeal.nD Cert.DownDwReferenceIdeal.τ).loc Cert.DownDwReferenceIdeal.main_arg0)
      ∧ r.2.mem ((c.tc : Thread Cert.DownDwReferenceIdeal.nD Cert.DownDwReferenceIdeal.τ).loc Cert.DownDwReferenceIdeal.main_arg1) = m ((c.tc : Thread Cert.DownDwReferenceIdeal.nD Cert.DownDwReferenceIdeal.τ).loc Cert.DownDwReferenceIdeal.main_arg1)
      ∧ r.2.mem ((c.tc : Thread Cert.DownDwReferenceIdeal.nD Cert.DownDwReferenceIdeal.τ).loc Cert.DownDwReferenceIdeal.main_arg2) = m ((c.tc : Thread Cert.DownDwReferenceIdeal.nD Cert.DownDwReferenceIdeal.τ).loc Cert.DownDwReferenceIdeal.main_arg2))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2)
      ∧ r.2.mem ((c.tc : Thread Cert.UpDx.nD Cert.UpDx.τ).loc Cert.UpDx.main_arg3) = m ((c.tc : Thread Cert.UpDx.nD Cert.UpDx.τ).loc Cert.UpDx.main_arg3)
      ∧ r.2.mem ((c.tc : Thread Cert.UpDx.nD Cert.UpDx.τ).loc Cert.UpDx.main_arg4) = m ((c.tc : Thread Cert.UpDx.nD Cert.UpDx.τ).loc Cert.UpDx.main_arg4))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
      ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
      ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ r.2.sem = fun _ => 0)

def quiescent_UpDxReferenceIdeal [hUpDxReferenceIdeal : Cert.UpDxReferenceIdeal.Facts] : Prop :=
  ∀ (m : (ℓ : Loc Cert.UpDxReferenceIdeal.nD Cert.UpDxReferenceIdeal.τ Cert.UpDxReferenceIdeal.sig) → Buf (Elt Ideal) ℓ) (g : Dev Cert.UpDxReferenceIdeal.nD → PrngReg), Pre_UpDxReferenceIdeal m →
    θ_run (Cert.UpDxReferenceIdeal.defs (F := Ideal)) (onTc (τ := Cert.UpDxReferenceIdeal.τ) (Cert.UpDxReferenceIdeal.main (F := Ideal))) ⟨m, fun _ => 0, g⟩ (fun r => (∀ c : Dev Cert.UpDxReferenceIdeal.nD,
      r.2.mem ((c.tc : Thread Cert.UpDxReferenceIdeal.nD Cert.UpDxReferenceIdeal.τ).loc Cert.UpDxReferenceIdeal.main_arg0) = m ((c.tc : Thread Cert.UpDxReferenceIdeal.nD Cert.UpDxReferenceIdeal.τ).loc Cert.UpDxReferenceIdeal.main_arg0)
      ∧ r.2.mem ((c.tc : Thread Cert.UpDxReferenceIdeal.nD Cert.UpDxReferenceIdeal.τ).loc Cert.UpDxReferenceIdeal.main_arg1) = m ((c.tc : Thread Cert.UpDxReferenceIdeal.nD Cert.UpDxReferenceIdeal.τ).loc Cert.UpDxReferenceIdeal.main_arg1)
      ∧ r.2.mem ((c.tc : Thread Cert.UpDxReferenceIdeal.nD Cert.UpDxReferenceIdeal.τ).loc Cert.UpDxReferenceIdeal.main_arg2) = m ((c.tc : Thread Cert.UpDxReferenceIdeal.nD Cert.UpDxReferenceIdeal.τ).loc Cert.UpDxReferenceIdeal.main_arg2)
      ∧ r.2.mem ((c.tc : Thread Cert.UpDxReferenceIdeal.nD Cert.UpDxReferenceIdeal.τ).loc Cert.UpDxReferenceIdeal.main_arg3) = m ((c.tc : Thread Cert.UpDxReferenceIdeal.nD Cert.UpDxReferenceIdeal.τ).loc Cert.UpDxReferenceIdeal.main_arg3)
      ∧ r.2.mem ((c.tc : Thread Cert.UpDxReferenceIdeal.nD Cert.UpDxReferenceIdeal.τ).loc Cert.UpDxReferenceIdeal.main_arg4) = m ((c.tc : Thread Cert.UpDxReferenceIdeal.nD Cert.UpDxReferenceIdeal.τ).loc Cert.UpDxReferenceIdeal.main_arg4))
      ∧ r.2.sem = fun _ => 0)

def quiescent_UpDxOne [hUpDxOne : Cert.UpDxOne.Facts] : Prop :=
  ∀ (m : (ℓ : Loc Cert.UpDxOne.nD Cert.UpDxOne.τ Cert.UpDxOne.sig) → Buf (Elt Bits) ℓ) (g : Dev Cert.UpDxOne.nD → PrngReg), Pre_UpDxOne m →
    θ_run (Cert.UpDxOne.defs (F := Bits)) (onTc (τ := Cert.UpDxOne.τ) (Cert.UpDxOne.main (F := Bits))) ⟨m, fun _ => 0, g⟩ (fun r => (∀ c : Dev Cert.UpDxOne.nD,
      r.2.mem ((c.tc : Thread Cert.UpDxOne.nD Cert.UpDxOne.τ).loc Cert.UpDxOne.main_arg0) = m ((c.tc : Thread Cert.UpDxOne.nD Cert.UpDxOne.τ).loc Cert.UpDxOne.main_arg0)
      ∧ r.2.mem ((c.tc : Thread Cert.UpDxOne.nD Cert.UpDxOne.τ).loc Cert.UpDxOne.main_arg1) = m ((c.tc : Thread Cert.UpDxOne.nD Cert.UpDxOne.τ).loc Cert.UpDxOne.main_arg1)
      ∧ r.2.mem ((c.tc : Thread Cert.UpDxOne.nD Cert.UpDxOne.τ).loc Cert.UpDxOne.main_arg2) = m ((c.tc : Thread Cert.UpDxOne.nD Cert.UpDxOne.τ).loc Cert.UpDxOne.main_arg2)
      ∧ r.2.mem ((c.tc : Thread Cert.UpDxOne.nD Cert.UpDxOne.τ).loc Cert.UpDxOne.main_arg3) = m ((c.tc : Thread Cert.UpDxOne.nD Cert.UpDxOne.τ).loc Cert.UpDxOne.main_arg3)
      ∧ r.2.mem ((c.tc : Thread Cert.UpDxOne.nD Cert.UpDxOne.τ).loc Cert.UpDxOne.main_arg4) = m ((c.tc : Thread Cert.UpDxOne.nD Cert.UpDxOne.τ).loc Cert.UpDxOne.main_arg4))
      ∧ r.2.sem = fun _ => 0)

def quiescent_UpDxOneIdeal [hUpDxOneIdeal : Cert.UpDxOneIdeal.Facts] : Prop :=
  ∀ (m : (ℓ : Loc Cert.UpDxOneIdeal.nD Cert.UpDxOneIdeal.τ Cert.UpDxOneIdeal.sig) → Buf (Elt Ideal) ℓ) (g : Dev Cert.UpDxOneIdeal.nD → PrngReg), Pre_UpDxOneIdeal m →
    θ_run (Cert.UpDxOneIdeal.defs (F := Ideal)) (onTc (τ := Cert.UpDxOneIdeal.τ) (Cert.UpDxOneIdeal.main (F := Ideal))) ⟨m, fun _ => 0, g⟩ (fun r => (∀ c : Dev Cert.UpDxOneIdeal.nD,
      r.2.mem ((c.tc : Thread Cert.UpDxOneIdeal.nD Cert.UpDxOneIdeal.τ).loc Cert.UpDxOneIdeal.main_arg0) = m ((c.tc : Thread Cert.UpDxOneIdeal.nD Cert.UpDxOneIdeal.τ).loc Cert.UpDxOneIdeal.main_arg0)
      ∧ r.2.mem ((c.tc : Thread Cert.UpDxOneIdeal.nD Cert.UpDxOneIdeal.τ).loc Cert.UpDxOneIdeal.main_arg1) = m ((c.tc : Thread Cert.UpDxOneIdeal.nD Cert.UpDxOneIdeal.τ).loc Cert.UpDxOneIdeal.main_arg1)
      ∧ r.2.mem ((c.tc : Thread Cert.UpDxOneIdeal.nD Cert.UpDxOneIdeal.τ).loc Cert.UpDxOneIdeal.main_arg2) = m ((c.tc : Thread Cert.UpDxOneIdeal.nD Cert.UpDxOneIdeal.τ).loc Cert.UpDxOneIdeal.main_arg2)
      ∧ r.2.mem ((c.tc : Thread Cert.UpDxOneIdeal.nD Cert.UpDxOneIdeal.τ).loc Cert.UpDxOneIdeal.main_arg3) = m ((c.tc : Thread Cert.UpDxOneIdeal.nD Cert.UpDxOneIdeal.τ).loc Cert.UpDxOneIdeal.main_arg3)
      ∧ r.2.mem ((c.tc : Thread Cert.UpDxOneIdeal.nD Cert.UpDxOneIdeal.τ).loc Cert.UpDxOneIdeal.main_arg4) = m ((c.tc : Thread Cert.UpDxOneIdeal.nD Cert.UpDxOneIdeal.τ).loc Cert.UpDxOneIdeal.main_arg4))
      ∧ r.2.sem = fun _ => 0)

def quiescent_UpDxOneReferenceIdeal [hUpDxOneReferenceIdeal : Cert.UpDxOneReferenceIdeal.Facts] : Prop :=
  ∀ (m : (ℓ : Loc Cert.UpDxOneReferenceIdeal.nD Cert.UpDxOneReferenceIdeal.τ Cert.UpDxOneReferenceIdeal.sig) → Buf (Elt Ideal) ℓ) (g : Dev Cert.UpDxOneReferenceIdeal.nD → PrngReg), Pre_UpDxOneReferenceIdeal m →
    θ_run (Cert.UpDxOneReferenceIdeal.defs (F := Ideal)) (onTc (τ := Cert.UpDxOneReferenceIdeal.τ) (Cert.UpDxOneReferenceIdeal.main (F := Ideal))) ⟨m, fun _ => 0, g⟩ (fun r => (∀ c : Dev Cert.UpDxOneReferenceIdeal.nD,
      r.2.mem ((c.tc : Thread Cert.UpDxOneReferenceIdeal.nD Cert.UpDxOneReferenceIdeal.τ).loc Cert.UpDxOneReferenceIdeal.main_arg0) = m ((c.tc : Thread Cert.UpDxOneReferenceIdeal.nD Cert.UpDxOneReferenceIdeal.τ).loc Cert.UpDxOneReferenceIdeal.main_arg0)
      ∧ r.2.mem ((c.tc : Thread Cert.UpDxOneReferenceIdeal.nD Cert.UpDxOneReferenceIdeal.τ).loc Cert.UpDxOneReferenceIdeal.main_arg1) = m ((c.tc : Thread Cert.UpDxOneReferenceIdeal.nD Cert.UpDxOneReferenceIdeal.τ).loc Cert.UpDxOneReferenceIdeal.main_arg1)
      ∧ r.2.mem ((c.tc : Thread Cert.UpDxOneReferenceIdeal.nD Cert.UpDxOneReferenceIdeal.τ).loc Cert.UpDxOneReferenceIdeal.main_arg2) = m ((c.tc : Thread Cert.UpDxOneReferenceIdeal.nD Cert.UpDxOneReferenceIdeal.τ).loc Cert.UpDxOneReferenceIdeal.main_arg2)
      ∧ r.2.mem ((c.tc : Thread Cert.UpDxOneReferenceIdeal.nD Cert.UpDxOneReferenceIdeal.τ).loc Cert.UpDxOneReferenceIdeal.main_arg3) = m ((c.tc : Thread Cert.UpDxOneReferenceIdeal.nD Cert.UpDxOneReferenceIdeal.τ).loc Cert.UpDxOneReferenceIdeal.main_arg3)
      ∧ r.2.mem ((c.tc : Thread Cert.UpDxOneReferenceIdeal.nD Cert.UpDxOneReferenceIdeal.τ).loc Cert.UpDxOneReferenceIdeal.main_arg4) = m ((c.tc : Thread Cert.UpDxOneReferenceIdeal.nD Cert.UpDxOneReferenceIdeal.τ).loc Cert.UpDxOneReferenceIdeal.main_arg4))
      ∧ r.2.sem = fun _ => 0)

def quiescent_UpDxTop [hUpDxTop : Cert.UpDxTop.Facts] : Prop :=
  ∀ (m : (ℓ : Loc Cert.UpDxTop.nD Cert.UpDxTop.τ Cert.UpDxTop.sig) → Buf (Elt Bits) ℓ) (g : Dev Cert.UpDxTop.nD → PrngReg), Pre_UpDxTop m →
    θ_run (Cert.UpDxTop.defs (F := Bits)) (onTc (τ := Cert.UpDxTop.τ) (Cert.UpDxTop.main (F := Bits))) ⟨m, fun _ => 0, g⟩ (fun r => (∀ c : Dev Cert.UpDxTop.nD,
      r.2.mem ((c.tc : Thread Cert.UpDxTop.nD Cert.UpDxTop.τ).loc Cert.UpDxTop.main_arg0) = m ((c.tc : Thread Cert.UpDxTop.nD Cert.UpDxTop.τ).loc Cert.UpDxTop.main_arg0)
      ∧ r.2.mem ((c.tc : Thread Cert.UpDxTop.nD Cert.UpDxTop.τ).loc Cert.UpDxTop.main_arg1) = m ((c.tc : Thread Cert.UpDxTop.nD Cert.UpDxTop.τ).loc Cert.UpDxTop.main_arg1)
      ∧ r.2.mem ((c.tc : Thread Cert.UpDxTop.nD Cert.UpDxTop.τ).loc Cert.UpDxTop.main_arg2) = m ((c.tc : Thread Cert.UpDxTop.nD Cert.UpDxTop.τ).loc Cert.UpDxTop.main_arg2)
      ∧ r.2.mem ((c.tc : Thread Cert.UpDxTop.nD Cert.UpDxTop.τ).loc Cert.UpDxTop.main_arg3) = m ((c.tc : Thread Cert.UpDxTop.nD Cert.UpDxTop.τ).loc Cert.UpDxTop.main_arg3)
      ∧ r.2.mem ((c.tc : Thread Cert.UpDxTop.nD Cert.UpDxTop.τ).loc Cert.UpDxTop.main_arg4) = m ((c.tc : Thread Cert.UpDxTop.nD Cert.UpDxTop.τ).loc Cert.UpDxTop.main_arg4))
      ∧ r.2.sem = fun _ => 0)

def quiescent_UpDxTopIdeal [hUpDxTopIdeal : Cert.UpDxTopIdeal.Facts] : Prop :=
  ∀ (m : (ℓ : Loc Cert.UpDxTopIdeal.nD Cert.UpDxTopIdeal.τ Cert.UpDxTopIdeal.sig) → Buf (Elt Ideal) ℓ) (g : Dev Cert.UpDxTopIdeal.nD → PrngReg), Pre_UpDxTopIdeal m →
    θ_run (Cert.UpDxTopIdeal.defs (F := Ideal)) (onTc (τ := Cert.UpDxTopIdeal.τ) (Cert.UpDxTopIdeal.main (F := Ideal))) ⟨m, fun _ => 0, g⟩ (fun r => (∀ c : Dev Cert.UpDxTopIdeal.nD,
      r.2.mem ((c.tc : Thread Cert.UpDxTopIdeal.nD Cert.UpDxTopIdeal.τ).loc Cert.UpDxTopIdeal.main_arg0) = m ((c.tc : Thread Cert.UpDxTopIdeal.nD Cert.UpDxTopIdeal.τ).loc Cert.UpDxTopIdeal.main_arg0)
      ∧ r.2.mem ((c.tc : Thread Cert.UpDxTopIdeal.nD Cert.UpDxTopIdeal.τ).loc Cert.UpDxTopIdeal.main_arg1) = m ((c.tc : Thread Cert.UpDxTopIdeal.nD Cert.UpDxTopIdeal.τ).loc Cert.UpDxTopIdeal.main_arg1)
      ∧ r.2.mem ((c.tc : Thread Cert.UpDxTopIdeal.nD Cert.UpDxTopIdeal.τ).loc Cert.UpDxTopIdeal.main_arg2) = m ((c.tc : Thread Cert.UpDxTopIdeal.nD Cert.UpDxTopIdeal.τ).loc Cert.UpDxTopIdeal.main_arg2)
      ∧ r.2.mem ((c.tc : Thread Cert.UpDxTopIdeal.nD Cert.UpDxTopIdeal.τ).loc Cert.UpDxTopIdeal.main_arg3) = m ((c.tc : Thread Cert.UpDxTopIdeal.nD Cert.UpDxTopIdeal.τ).loc Cert.UpDxTopIdeal.main_arg3)
      ∧ r.2.mem ((c.tc : Thread Cert.UpDxTopIdeal.nD Cert.UpDxTopIdeal.τ).loc Cert.UpDxTopIdeal.main_arg4) = m ((c.tc : Thread Cert.UpDxTopIdeal.nD Cert.UpDxTopIdeal.τ).loc Cert.UpDxTopIdeal.main_arg4))
      ∧ r.2.sem = fun _ => 0)

def quiescent_UpDxTopReferenceIdeal [hUpDxTopReferenceIdeal : Cert.UpDxTopReferenceIdeal.Facts] : Prop :=
  ∀ (m : (ℓ : Loc Cert.UpDxTopReferenceIdeal.nD Cert.UpDxTopReferenceIdeal.τ Cert.UpDxTopReferenceIdeal.sig) → Buf (Elt Ideal) ℓ) (g : Dev Cert.UpDxTopReferenceIdeal.nD → PrngReg), Pre_UpDxTopReferenceIdeal m →
    θ_run (Cert.UpDxTopReferenceIdeal.defs (F := Ideal)) (onTc (τ := Cert.UpDxTopReferenceIdeal.τ) (Cert.UpDxTopReferenceIdeal.main (F := Ideal))) ⟨m, fun _ => 0, g⟩ (fun r => (∀ c : Dev Cert.UpDxTopReferenceIdeal.nD,
      r.2.mem ((c.tc : Thread Cert.UpDxTopReferenceIdeal.nD Cert.UpDxTopReferenceIdeal.τ).loc Cert.UpDxTopReferenceIdeal.main_arg0) = m ((c.tc : Thread Cert.UpDxTopReferenceIdeal.nD Cert.UpDxTopReferenceIdeal.τ).loc Cert.UpDxTopReferenceIdeal.main_arg0)
      ∧ r.2.mem ((c.tc : Thread Cert.UpDxTopReferenceIdeal.nD Cert.UpDxTopReferenceIdeal.τ).loc Cert.UpDxTopReferenceIdeal.main_arg1) = m ((c.tc : Thread Cert.UpDxTopReferenceIdeal.nD Cert.UpDxTopReferenceIdeal.τ).loc Cert.UpDxTopReferenceIdeal.main_arg1)
      ∧ r.2.mem ((c.tc : Thread Cert.UpDxTopReferenceIdeal.nD Cert.UpDxTopReferenceIdeal.τ).loc Cert.UpDxTopReferenceIdeal.main_arg2) = m ((c.tc : Thread Cert.UpDxTopReferenceIdeal.nD Cert.UpDxTopReferenceIdeal.τ).loc Cert.UpDxTopReferenceIdeal.main_arg2)
      ∧ r.2.mem ((c.tc : Thread Cert.UpDxTopReferenceIdeal.nD Cert.UpDxTopReferenceIdeal.τ).loc Cert.UpDxTopReferenceIdeal.main_arg3) = m ((c.tc : Thread Cert.UpDxTopReferenceIdeal.nD Cert.UpDxTopReferenceIdeal.τ).loc Cert.UpDxTopReferenceIdeal.main_arg3)
      ∧ r.2.mem ((c.tc : Thread Cert.UpDxTopReferenceIdeal.nD Cert.UpDxTopReferenceIdeal.τ).loc Cert.UpDxTopReferenceIdeal.main_arg4) = m ((c.tc : Thread Cert.UpDxTopReferenceIdeal.nD Cert.UpDxTopReferenceIdeal.τ).loc Cert.UpDxTopReferenceIdeal.main_arg4))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1)
      ∧ r.2.mem ((c.tc : Thread Cert.UpDw.nD Cert.UpDw.τ).loc Cert.UpDw.main_arg2) = m ((c.tc : Thread Cert.UpDw.nD Cert.UpDw.τ).loc Cert.UpDw.main_arg2))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
      ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ r.2.sem = fun _ => 0)

def quiescent_UpDwReferenceIdeal [hUpDwReferenceIdeal : Cert.UpDwReferenceIdeal.Facts] : Prop :=
  ∀ (m : (ℓ : Loc Cert.UpDwReferenceIdeal.nD Cert.UpDwReferenceIdeal.τ Cert.UpDwReferenceIdeal.sig) → Buf (Elt Ideal) ℓ) (g : Dev Cert.UpDwReferenceIdeal.nD → PrngReg), Pre_UpDwReferenceIdeal m →
    θ_run (Cert.UpDwReferenceIdeal.defs (F := Ideal)) (onTc (τ := Cert.UpDwReferenceIdeal.τ) (Cert.UpDwReferenceIdeal.main (F := Ideal))) ⟨m, fun _ => 0, g⟩ (fun r => (∀ c : Dev Cert.UpDwReferenceIdeal.nD,
      r.2.mem ((c.tc : Thread Cert.UpDwReferenceIdeal.nD Cert.UpDwReferenceIdeal.τ).loc Cert.UpDwReferenceIdeal.main_arg0) = m ((c.tc : Thread Cert.UpDwReferenceIdeal.nD Cert.UpDwReferenceIdeal.τ).loc Cert.UpDwReferenceIdeal.main_arg0)
      ∧ r.2.mem ((c.tc : Thread Cert.UpDwReferenceIdeal.nD Cert.UpDwReferenceIdeal.τ).loc Cert.UpDwReferenceIdeal.main_arg1) = m ((c.tc : Thread Cert.UpDwReferenceIdeal.nD Cert.UpDwReferenceIdeal.τ).loc Cert.UpDwReferenceIdeal.main_arg1)
      ∧ r.2.mem ((c.tc : Thread Cert.UpDwReferenceIdeal.nD Cert.UpDwReferenceIdeal.τ).loc Cert.UpDwReferenceIdeal.main_arg2) = m ((c.tc : Thread Cert.UpDwReferenceIdeal.nD Cert.UpDwReferenceIdeal.τ).loc Cert.UpDwReferenceIdeal.main_arg2))
      ∧ r.2.sem = fun _ => 0)

def quiescent_DownDxOne [hDownDxOne : Cert.DownDxOne.Facts] : Prop :=
  ∀ (m : (ℓ : Loc Cert.DownDxOne.nD Cert.DownDxOne.τ Cert.DownDxOne.sig) → Buf (Elt Bits) ℓ) (g : Dev Cert.DownDxOne.nD → PrngReg), Pre_DownDxOne m →
    θ_run (Cert.DownDxOne.defs (F := Bits)) (onTc (τ := Cert.DownDxOne.τ) (Cert.DownDxOne.main (F := Bits))) ⟨m, fun _ => 0, g⟩ (fun r => (∀ c : Dev Cert.DownDxOne.nD,
      r.2.mem ((c.tc : Thread Cert.DownDxOne.nD Cert.DownDxOne.τ).loc Cert.DownDxOne.main_arg0) = m ((c.tc : Thread Cert.DownDxOne.nD Cert.DownDxOne.τ).loc Cert.DownDxOne.main_arg0)
      ∧ r.2.mem ((c.tc : Thread Cert.DownDxOne.nD Cert.DownDxOne.τ).loc Cert.DownDxOne.main_arg1) = m ((c.tc : Thread Cert.DownDxOne.nD Cert.DownDxOne.τ).loc Cert.DownDxOne.main_arg1)
      ∧ r.2.mem ((c.tc : Thread Cert.DownDxOne.nD Cert.DownDxOne.τ).loc Cert.DownDxOne.main_arg2) = m ((c.tc : Thread Cert.DownDxOne.nD Cert.DownDxOne.τ).loc Cert.DownDxOne.main_arg2))
      ∧ r.2.sem = fun _ => 0)

def quiescent_DownDxOneIdeal [hDownDxOneIdeal : Cert.DownDxOneIdeal.Facts] : Prop :=
  ∀ (m : (ℓ : Loc Cert.DownDxOneIdeal.nD Cert.DownDxOneIdeal.τ Cert.DownDxOneIdeal.sig) → Buf (Elt Ideal) ℓ) (g : Dev Cert.DownDxOneIdeal.nD → PrngReg), Pre_DownDxOneIdeal m →
    θ_run (Cert.DownDxOneIdeal.defs (F := Ideal)) (onTc (τ := Cert.DownDxOneIdeal.τ) (Cert.DownDxOneIdeal.main (F := Ideal))) ⟨m, fun _ => 0, g⟩ (fun r => (∀ c : Dev Cert.DownDxOneIdeal.nD,
      r.2.mem ((c.tc : Thread Cert.DownDxOneIdeal.nD Cert.DownDxOneIdeal.τ).loc Cert.DownDxOneIdeal.main_arg0) = m ((c.tc : Thread Cert.DownDxOneIdeal.nD Cert.DownDxOneIdeal.τ).loc Cert.DownDxOneIdeal.main_arg0)
      ∧ r.2.mem ((c.tc : Thread Cert.DownDxOneIdeal.nD Cert.DownDxOneIdeal.τ).loc Cert.DownDxOneIdeal.main_arg1) = m ((c.tc : Thread Cert.DownDxOneIdeal.nD Cert.DownDxOneIdeal.τ).loc Cert.DownDxOneIdeal.main_arg1)
      ∧ r.2.mem ((c.tc : Thread Cert.DownDxOneIdeal.nD Cert.DownDxOneIdeal.τ).loc Cert.DownDxOneIdeal.main_arg2) = m ((c.tc : Thread Cert.DownDxOneIdeal.nD Cert.DownDxOneIdeal.τ).loc Cert.DownDxOneIdeal.main_arg2))
      ∧ r.2.sem = fun _ => 0)

def quiescent_DownDxOneReferenceIdeal [hDownDxOneReferenceIdeal : Cert.DownDxOneReferenceIdeal.Facts] : Prop :=
  ∀ (m : (ℓ : Loc Cert.DownDxOneReferenceIdeal.nD Cert.DownDxOneReferenceIdeal.τ Cert.DownDxOneReferenceIdeal.sig) → Buf (Elt Ideal) ℓ) (g : Dev Cert.DownDxOneReferenceIdeal.nD → PrngReg), Pre_DownDxOneReferenceIdeal m →
    θ_run (Cert.DownDxOneReferenceIdeal.defs (F := Ideal)) (onTc (τ := Cert.DownDxOneReferenceIdeal.τ) (Cert.DownDxOneReferenceIdeal.main (F := Ideal))) ⟨m, fun _ => 0, g⟩ (fun r => (∀ c : Dev Cert.DownDxOneReferenceIdeal.nD,
      r.2.mem ((c.tc : Thread Cert.DownDxOneReferenceIdeal.nD Cert.DownDxOneReferenceIdeal.τ).loc Cert.DownDxOneReferenceIdeal.main_arg0) = m ((c.tc : Thread Cert.DownDxOneReferenceIdeal.nD Cert.DownDxOneReferenceIdeal.τ).loc Cert.DownDxOneReferenceIdeal.main_arg0)
      ∧ r.2.mem ((c.tc : Thread Cert.DownDxOneReferenceIdeal.nD Cert.DownDxOneReferenceIdeal.τ).loc Cert.DownDxOneReferenceIdeal.main_arg1) = m ((c.tc : Thread Cert.DownDxOneReferenceIdeal.nD Cert.DownDxOneReferenceIdeal.τ).loc Cert.DownDxOneReferenceIdeal.main_arg1)
      ∧ r.2.mem ((c.tc : Thread Cert.DownDxOneReferenceIdeal.nD Cert.DownDxOneReferenceIdeal.τ).loc Cert.DownDxOneReferenceIdeal.main_arg2) = m ((c.tc : Thread Cert.DownDxOneReferenceIdeal.nD Cert.DownDxOneReferenceIdeal.τ).loc Cert.DownDxOneReferenceIdeal.main_arg2))
      ∧ r.2.sem = fun _ => 0)

def quiescent_DownDxTwo [hDownDxTwo : Cert.DownDxTwo.Facts] : Prop :=
  ∀ (m : (ℓ : Loc Cert.DownDxTwo.nD Cert.DownDxTwo.τ Cert.DownDxTwo.sig) → Buf (Elt Bits) ℓ) (g : Dev Cert.DownDxTwo.nD → PrngReg), Pre_DownDxTwo m →
    θ_run (Cert.DownDxTwo.defs (F := Bits)) (onTc (τ := Cert.DownDxTwo.τ) (Cert.DownDxTwo.main (F := Bits))) ⟨m, fun _ => 0, g⟩ (fun r => (∀ c : Dev Cert.DownDxTwo.nD,
      r.2.mem ((c.tc : Thread Cert.DownDxTwo.nD Cert.DownDxTwo.τ).loc Cert.DownDxTwo.main_arg0) = m ((c.tc : Thread Cert.DownDxTwo.nD Cert.DownDxTwo.τ).loc Cert.DownDxTwo.main_arg0)
      ∧ r.2.mem ((c.tc : Thread Cert.DownDxTwo.nD Cert.DownDxTwo.τ).loc Cert.DownDxTwo.main_arg1) = m ((c.tc : Thread Cert.DownDxTwo.nD Cert.DownDxTwo.τ).loc Cert.DownDxTwo.main_arg1)
      ∧ r.2.mem ((c.tc : Thread Cert.DownDxTwo.nD Cert.DownDxTwo.τ).loc Cert.DownDxTwo.main_arg2) = m ((c.tc : Thread Cert.DownDxTwo.nD Cert.DownDxTwo.τ).loc Cert.DownDxTwo.main_arg2))
      ∧ r.2.sem = fun _ => 0)

def quiescent_DownDxTwoIdeal [hDownDxTwoIdeal : Cert.DownDxTwoIdeal.Facts] : Prop :=
  ∀ (m : (ℓ : Loc Cert.DownDxTwoIdeal.nD Cert.DownDxTwoIdeal.τ Cert.DownDxTwoIdeal.sig) → Buf (Elt Ideal) ℓ) (g : Dev Cert.DownDxTwoIdeal.nD → PrngReg), Pre_DownDxTwoIdeal m →
    θ_run (Cert.DownDxTwoIdeal.defs (F := Ideal)) (onTc (τ := Cert.DownDxTwoIdeal.τ) (Cert.DownDxTwoIdeal.main (F := Ideal))) ⟨m, fun _ => 0, g⟩ (fun r => (∀ c : Dev Cert.DownDxTwoIdeal.nD,
      r.2.mem ((c.tc : Thread Cert.DownDxTwoIdeal.nD Cert.DownDxTwoIdeal.τ).loc Cert.DownDxTwoIdeal.main_arg0) = m ((c.tc : Thread Cert.DownDxTwoIdeal.nD Cert.DownDxTwoIdeal.τ).loc Cert.DownDxTwoIdeal.main_arg0)
      ∧ r.2.mem ((c.tc : Thread Cert.DownDxTwoIdeal.nD Cert.DownDxTwoIdeal.τ).loc Cert.DownDxTwoIdeal.main_arg1) = m ((c.tc : Thread Cert.DownDxTwoIdeal.nD Cert.DownDxTwoIdeal.τ).loc Cert.DownDxTwoIdeal.main_arg1)
      ∧ r.2.mem ((c.tc : Thread Cert.DownDxTwoIdeal.nD Cert.DownDxTwoIdeal.τ).loc Cert.DownDxTwoIdeal.main_arg2) = m ((c.tc : Thread Cert.DownDxTwoIdeal.nD Cert.DownDxTwoIdeal.τ).loc Cert.DownDxTwoIdeal.main_arg2))
      ∧ r.2.sem = fun _ => 0)

def quiescent_DownDxTwoReferenceIdeal [hDownDxTwoReferenceIdeal : Cert.DownDxTwoReferenceIdeal.Facts] : Prop :=
  ∀ (m : (ℓ : Loc Cert.DownDxTwoReferenceIdeal.nD Cert.DownDxTwoReferenceIdeal.τ Cert.DownDxTwoReferenceIdeal.sig) → Buf (Elt Ideal) ℓ) (g : Dev Cert.DownDxTwoReferenceIdeal.nD → PrngReg), Pre_DownDxTwoReferenceIdeal m →
    θ_run (Cert.DownDxTwoReferenceIdeal.defs (F := Ideal)) (onTc (τ := Cert.DownDxTwoReferenceIdeal.τ) (Cert.DownDxTwoReferenceIdeal.main (F := Ideal))) ⟨m, fun _ => 0, g⟩ (fun r => (∀ c : Dev Cert.DownDxTwoReferenceIdeal.nD,
      r.2.mem ((c.tc : Thread Cert.DownDxTwoReferenceIdeal.nD Cert.DownDxTwoReferenceIdeal.τ).loc Cert.DownDxTwoReferenceIdeal.main_arg0) = m ((c.tc : Thread Cert.DownDxTwoReferenceIdeal.nD Cert.DownDxTwoReferenceIdeal.τ).loc Cert.DownDxTwoReferenceIdeal.main_arg0)
      ∧ r.2.mem ((c.tc : Thread Cert.DownDxTwoReferenceIdeal.nD Cert.DownDxTwoReferenceIdeal.τ).loc Cert.DownDxTwoReferenceIdeal.main_arg1) = m ((c.tc : Thread Cert.DownDxTwoReferenceIdeal.nD Cert.DownDxTwoReferenceIdeal.τ).loc Cert.DownDxTwoReferenceIdeal.main_arg1)
      ∧ r.2.mem ((c.tc : Thread Cert.DownDxTwoReferenceIdeal.nD Cert.DownDxTwoReferenceIdeal.τ).loc Cert.DownDxTwoReferenceIdeal.main_arg2) = m ((c.tc : Thread Cert.DownDxTwoReferenceIdeal.nD Cert.DownDxTwoReferenceIdeal.τ).loc Cert.DownDxTwoReferenceIdeal.main_arg2))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ r.2.sem = fun _ => 0)

def quiescent_InDxReferenceIdeal [hInDxReferenceIdeal : Cert.InDxReferenceIdeal.Facts] : Prop :=
  ∀ (m : (ℓ : Loc Cert.InDxReferenceIdeal.nD Cert.InDxReferenceIdeal.τ Cert.InDxReferenceIdeal.sig) → Buf (Elt Ideal) ℓ) (g : Dev Cert.InDxReferenceIdeal.nD → PrngReg), Pre_InDxReferenceIdeal m →
    θ_run (Cert.InDxReferenceIdeal.defs (F := Ideal)) (onTc (τ := Cert.InDxReferenceIdeal.τ) (Cert.InDxReferenceIdeal.main (F := Ideal))) ⟨m, fun _ => 0, g⟩ (fun r => (∀ c : Dev Cert.InDxReferenceIdeal.nD,
      r.2.mem ((c.tc : Thread Cert.InDxReferenceIdeal.nD Cert.InDxReferenceIdeal.τ).loc Cert.InDxReferenceIdeal.main_arg0) = m ((c.tc : Thread Cert.InDxReferenceIdeal.nD Cert.InDxReferenceIdeal.τ).loc Cert.InDxReferenceIdeal.main_arg0)
      ∧ r.2.mem ((c.tc : Thread Cert.InDxReferenceIdeal.nD Cert.InDxReferenceIdeal.τ).loc Cert.InDxReferenceIdeal.main_arg1) = m ((c.tc : Thread Cert.InDxReferenceIdeal.nD Cert.InDxReferenceIdeal.τ).loc Cert.InDxReferenceIdeal.main_arg1)
      ∧ r.2.mem ((c.tc : Thread Cert.InDxReferenceIdeal.nD Cert.InDxReferenceIdeal.τ).loc Cert.InDxReferenceIdeal.main_arg2) = m ((c.tc : Thread Cert.InDxReferenceIdeal.nD Cert.InDxReferenceIdeal.τ).loc Cert.InDxReferenceIdeal.main_arg2)
      ∧ r.2.mem ((c.tc : Thread Cert.InDxReferenceIdeal.nD Cert.InDxReferenceIdeal.τ).loc Cert.InDxReferenceIdeal.main_arg3) = m ((c.tc : Thread Cert.InDxReferenceIdeal.nD Cert.InDxReferenceIdeal.τ).loc Cert.InDxReferenceIdeal.main_arg3)
      ∧ r.2.mem ((c.tc : Thread Cert.InDxReferenceIdeal.nD Cert.InDxReferenceIdeal.τ).loc Cert.InDxReferenceIdeal.main_arg4) = m ((c.tc : Thread Cert.InDxReferenceIdeal.nD Cert.InDxReferenceIdeal.τ).loc Cert.InDxReferenceIdeal.main_arg4))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwReferenceIdeal [hInDwReferenceIdeal : Cert.InDwReferenceIdeal.Facts] : Prop :=
  ∀ (m : (ℓ : Loc Cert.InDwReferenceIdeal.nD Cert.InDwReferenceIdeal.τ Cert.InDwReferenceIdeal.sig) → Buf (Elt Ideal) ℓ) (g : Dev Cert.InDwReferenceIdeal.nD → PrngReg), Pre_InDwReferenceIdeal m →
    θ_run (Cert.InDwReferenceIdeal.defs (F := Ideal)) (onTc (τ := Cert.InDwReferenceIdeal.τ) (Cert.InDwReferenceIdeal.main (F := Ideal))) ⟨m, fun _ => 0, g⟩ (fun r => (∀ c : Dev Cert.InDwReferenceIdeal.nD,
      r.2.mem ((c.tc : Thread Cert.InDwReferenceIdeal.nD Cert.InDwReferenceIdeal.τ).loc Cert.InDwReferenceIdeal.main_arg0) = m ((c.tc : Thread Cert.InDwReferenceIdeal.nD Cert.InDwReferenceIdeal.τ).loc Cert.InDwReferenceIdeal.main_arg0)
      ∧ r.2.mem ((c.tc : Thread Cert.InDwReferenceIdeal.nD Cert.InDwReferenceIdeal.τ).loc Cert.InDwReferenceIdeal.main_arg1) = m ((c.tc : Thread Cert.InDwReferenceIdeal.nD Cert.InDwReferenceIdeal.τ).loc Cert.InDwReferenceIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwReferenceIdeal [hOutDwReferenceIdeal : Cert.OutDwReferenceIdeal.Facts] : Prop :=
  ∀ (m : (ℓ : Loc Cert.OutDwReferenceIdeal.nD Cert.OutDwReferenceIdeal.τ Cert.OutDwReferenceIdeal.sig) → Buf (Elt Ideal) ℓ) (g : Dev Cert.OutDwReferenceIdeal.nD → PrngReg), Pre_OutDwReferenceIdeal m →
    θ_run (Cert.OutDwReferenceIdeal.defs (F := Ideal)) (onTc (τ := Cert.OutDwReferenceIdeal.τ) (Cert.OutDwReferenceIdeal.main (F := Ideal))) ⟨m, fun _ => 0, g⟩ (fun r => (∀ c : Dev Cert.OutDwReferenceIdeal.nD,
      r.2.mem ((c.tc : Thread Cert.OutDwReferenceIdeal.nD Cert.OutDwReferenceIdeal.τ).loc Cert.OutDwReferenceIdeal.main_arg0) = m ((c.tc : Thread Cert.OutDwReferenceIdeal.nD Cert.OutDwReferenceIdeal.τ).loc Cert.OutDwReferenceIdeal.main_arg0)
      ∧ r.2.mem ((c.tc : Thread Cert.OutDwReferenceIdeal.nD Cert.OutDwReferenceIdeal.τ).loc Cert.OutDwReferenceIdeal.main_arg1) = m ((c.tc : Thread Cert.OutDwReferenceIdeal.nD Cert.OutDwReferenceIdeal.τ).loc Cert.OutDwReferenceIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxReferenceIdeal [hOutDxReferenceIdeal : Cert.OutDxReferenceIdeal.Facts] : Prop :=
  ∀ (m : (ℓ : Loc Cert.OutDxReferenceIdeal.nD Cert.OutDxReferenceIdeal.τ Cert.OutDxReferenceIdeal.sig) → Buf (Elt Ideal) ℓ) (g : Dev Cert.OutDxReferenceIdeal.nD → PrngReg), Pre_OutDxReferenceIdeal m →
    θ_run (Cert.OutDxReferenceIdeal.defs (F := Ideal)) (onTc (τ := Cert.OutDxReferenceIdeal.τ) (Cert.OutDxReferenceIdeal.main (F := Ideal))) ⟨m, fun _ => 0, g⟩ (fun r => (∀ c : Dev Cert.OutDxReferenceIdeal.nD,
      r.2.mem ((c.tc : Thread Cert.OutDxReferenceIdeal.nD Cert.OutDxReferenceIdeal.τ).loc Cert.OutDxReferenceIdeal.main_arg0) = m ((c.tc : Thread Cert.OutDxReferenceIdeal.nD Cert.OutDxReferenceIdeal.τ).loc Cert.OutDxReferenceIdeal.main_arg0)
      ∧ r.2.mem ((c.tc : Thread Cert.OutDxReferenceIdeal.nD Cert.OutDxReferenceIdeal.τ).loc Cert.OutDxReferenceIdeal.main_arg1) = m ((c.tc : Thread Cert.OutDxReferenceIdeal.nD Cert.OutDxReferenceIdeal.τ).loc Cert.OutDxReferenceIdeal.main_arg1))
      ∧ r.2.sem = fun _ => 0)

def quiescent_SsdIn [hSsdIn : Cert.SsdIn.Facts] : Prop :=
  ∀ (m : (ℓ : Loc Cert.SsdIn.nD Cert.SsdIn.τ Cert.SsdIn.sig) → Buf (Elt Bits) ℓ) (g : Dev Cert.SsdIn.nD → PrngReg), Pre_SsdIn m →
    θ_run (Cert.SsdIn.defs (F := Bits)) (onTc (τ := Cert.SsdIn.τ) (Cert.SsdIn.main (F := Bits))) ⟨m, fun _ => 0, g⟩ (fun r => (∀ c : Dev Cert.SsdIn.nD,
      r.2.mem ((c.tc : Thread Cert.SsdIn.nD Cert.SsdIn.τ).loc Cert.SsdIn.main_arg0) = m ((c.tc : Thread Cert.SsdIn.nD Cert.SsdIn.τ).loc Cert.SsdIn.main_arg0)
      ∧ r.2.mem ((c.tc : Thread Cert.SsdIn.nD Cert.SsdIn.τ).loc Cert.SsdIn.main_arg1) = m ((c.tc : Thread Cert.SsdIn.nD Cert.SsdIn.τ).loc Cert.SsdIn.main_arg1))
      ∧ r.2.sem = fun _ => 0)

def quiescent_SsdInIdeal [hSsdInIdeal : Cert.SsdInIdeal.Facts] : Prop :=
  ∀ (m : (ℓ : Loc Cert.SsdInIdeal.nD Cert.SsdInIdeal.τ Cert.SsdInIdeal.sig) → Buf (Elt Ideal) ℓ) (g : Dev Cert.SsdInIdeal.nD → PrngReg), Pre_SsdInIdeal m →
    θ_run (Cert.SsdInIdeal.defs (F := Ideal)) (onTc (τ := Cert.SsdInIdeal.τ) (Cert.SsdInIdeal.main (F := Ideal))) ⟨m, fun _ => 0, g⟩ (fun r => (∀ c : Dev Cert.SsdInIdeal.nD,
      r.2.mem ((c.tc : Thread Cert.SsdInIdeal.nD Cert.SsdInIdeal.τ).loc Cert.SsdInIdeal.main_arg0) = m ((c.tc : Thread Cert.SsdInIdeal.nD Cert.SsdInIdeal.τ).loc Cert.SsdInIdeal.main_arg0)
      ∧ r.2.mem ((c.tc : Thread Cert.SsdInIdeal.nD Cert.SsdInIdeal.τ).loc Cert.SsdInIdeal.main_arg1) = m ((c.tc : Thread Cert.SsdInIdeal.nD Cert.SsdInIdeal.τ).loc Cert.SsdInIdeal.main_arg1))
      ∧ r.2.sem = fun _ => 0)

def quiescent_SsdInReferenceIdeal [hSsdInReferenceIdeal : Cert.SsdInReferenceIdeal.Facts] : Prop :=
  ∀ (m : (ℓ : Loc Cert.SsdInReferenceIdeal.nD Cert.SsdInReferenceIdeal.τ Cert.SsdInReferenceIdeal.sig) → Buf (Elt Ideal) ℓ) (g : Dev Cert.SsdInReferenceIdeal.nD → PrngReg), Pre_SsdInReferenceIdeal m →
    θ_run (Cert.SsdInReferenceIdeal.defs (F := Ideal)) (onTc (τ := Cert.SsdInReferenceIdeal.τ) (Cert.SsdInReferenceIdeal.main (F := Ideal))) ⟨m, fun _ => 0, g⟩ (fun r => (∀ c : Dev Cert.SsdInReferenceIdeal.nD,
      r.2.mem ((c.tc : Thread Cert.SsdInReferenceIdeal.nD Cert.SsdInReferenceIdeal.τ).loc Cert.SsdInReferenceIdeal.main_arg0) = m ((c.tc : Thread Cert.SsdInReferenceIdeal.nD Cert.SsdInReferenceIdeal.τ).loc Cert.SsdInReferenceIdeal.main_arg0)
      ∧ r.2.mem ((c.tc : Thread Cert.SsdInReferenceIdeal.nD Cert.SsdInReferenceIdeal.τ).loc Cert.SsdInReferenceIdeal.main_arg1) = m ((c.tc : Thread Cert.SsdInReferenceIdeal.nD Cert.SsdInReferenceIdeal.τ).loc Cert.SsdInReferenceIdeal.main_arg1))
      ∧ r.2.sem = fun _ => 0)

def quiescent_SsdOut [hSsdOut : Cert.SsdOut.Facts] : Prop :=
  ∀ (m : (ℓ : Loc Cert.SsdOut.nD Cert.SsdOut.τ Cert.SsdOut.sig) → Buf (Elt Bits) ℓ) (g : Dev Cert.SsdOut.nD → PrngReg), Pre_SsdOut m →
    θ_run (Cert.SsdOut.defs (F := Bits)) (onTc (τ := Cert.SsdOut.τ) (Cert.SsdOut.main (F := Bits))) ⟨m, fun _ => 0, g⟩ (fun r => (∀ c : Dev Cert.SsdOut.nD,
      r.2.mem ((c.tc : Thread Cert.SsdOut.nD Cert.SsdOut.τ).loc Cert.SsdOut.main_arg0) = m ((c.tc : Thread Cert.SsdOut.nD Cert.SsdOut.τ).loc Cert.SsdOut.main_arg0)
      ∧ r.2.mem ((c.tc : Thread Cert.SsdOut.nD Cert.SsdOut.τ).loc Cert.SsdOut.main_arg1) = m ((c.tc : Thread Cert.SsdOut.nD Cert.SsdOut.τ).loc Cert.SsdOut.main_arg1)
      ∧ r.2.mem ((c.tc : Thread Cert.SsdOut.nD Cert.SsdOut.τ).loc Cert.SsdOut.main_arg2) = m ((c.tc : Thread Cert.SsdOut.nD Cert.SsdOut.τ).loc Cert.SsdOut.main_arg2)
      ∧ r.2.mem ((c.tc : Thread Cert.SsdOut.nD Cert.SsdOut.τ).loc Cert.SsdOut.main_arg3) = m ((c.tc : Thread Cert.SsdOut.nD Cert.SsdOut.τ).loc Cert.SsdOut.main_arg3))
      ∧ r.2.sem = fun _ => 0)

def quiescent_SsdOutIdeal [hSsdOutIdeal : Cert.SsdOutIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg), Pre_SsdOutIdeal m →
    θ_run (Cert.SsdOutIdeal.defs (F := Ideal)) (onTc (τ := Cert.SsdOutIdeal.τ) (Cert.SsdOutIdeal.main (F := Ideal))) ⟨m, fun _ => 0, g⟩ (fun r => (∀ c : Dev Cert.SsdOutIdeal.nD,
      r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
      ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1)
      ∧ r.2.mem ((c.tc : Thread Cert.SsdOutIdeal.nD Cert.SsdOutIdeal.τ).loc Cert.SsdOutIdeal.main_arg2) = m ((c.tc : Thread Cert.SsdOutIdeal.nD Cert.SsdOutIdeal.τ).loc Cert.SsdOutIdeal.main_arg2)
      ∧ r.2.mem ((c.tc : Thread Cert.SsdOutIdeal.nD Cert.SsdOutIdeal.τ).loc Cert.SsdOutIdeal.main_arg3) = m ((c.tc : Thread Cert.SsdOutIdeal.nD Cert.SsdOutIdeal.τ).loc Cert.SsdOutIdeal.main_arg3))
      ∧ r.2.sem = fun _ => 0)

def quiescent_SsdOutReferenceIdeal [hSsdOutReferenceIdeal : Cert.SsdOutReferenceIdeal.Facts] : Prop :=
  ∀ (m : (ℓ : Loc Cert.SsdOutReferenceIdeal.nD Cert.SsdOutReferenceIdeal.τ Cert.SsdOutReferenceIdeal.sig) → Buf (Elt Ideal) ℓ) (g : Dev Cert.SsdOutReferenceIdeal.nD → PrngReg), Pre_SsdOutReferenceIdeal m →
    θ_run (Cert.SsdOutReferenceIdeal.defs (F := Ideal)) (onTc (τ := Cert.SsdOutReferenceIdeal.τ) (Cert.SsdOutReferenceIdeal.main (F := Ideal))) ⟨m, fun _ => 0, g⟩ (fun r => (∀ c : Dev Cert.SsdOutReferenceIdeal.nD,
      r.2.mem ((c.tc : Thread Cert.SsdOutReferenceIdeal.nD Cert.SsdOutReferenceIdeal.τ).loc Cert.SsdOutReferenceIdeal.main_arg0) = m ((c.tc : Thread Cert.SsdOutReferenceIdeal.nD Cert.SsdOutReferenceIdeal.τ).loc Cert.SsdOutReferenceIdeal.main_arg0)
      ∧ r.2.mem ((c.tc : Thread Cert.SsdOutReferenceIdeal.nD Cert.SsdOutReferenceIdeal.τ).loc Cert.SsdOutReferenceIdeal.main_arg1) = m ((c.tc : Thread Cert.SsdOutReferenceIdeal.nD Cert.SsdOutReferenceIdeal.τ).loc Cert.SsdOutReferenceIdeal.main_arg1)
      ∧ r.2.mem ((c.tc : Thread Cert.SsdOutReferenceIdeal.nD Cert.SsdOutReferenceIdeal.τ).loc Cert.SsdOutReferenceIdeal.main_arg2) = m ((c.tc : Thread Cert.SsdOutReferenceIdeal.nD Cert.SsdOutReferenceIdeal.τ).loc Cert.SsdOutReferenceIdeal.main_arg2)
      ∧ r.2.mem ((c.tc : Thread Cert.SsdOutReferenceIdeal.nD Cert.SsdOutReferenceIdeal.τ).loc Cert.SsdOutReferenceIdeal.main_arg3) = m ((c.tc : Thread Cert.SsdOutReferenceIdeal.nD Cert.SsdOutReferenceIdeal.τ).loc Cert.SsdOutReferenceIdeal.main_arg3))
      ∧ r.2.sem = fun _ => 0)

def quiescent_MlpUpOne [hMlpUpOne : Cert.MlpUpOne.Facts] : Prop :=
  ∀ (m : (ℓ : Loc Cert.MlpUpOne.nD Cert.MlpUpOne.τ Cert.MlpUpOne.sig) → Buf (Elt Bits) ℓ) (g : Dev Cert.MlpUpOne.nD → PrngReg), Pre_MlpUpOne m →
    θ_run (Cert.MlpUpOne.defs (F := Bits)) (onTc (τ := Cert.MlpUpOne.τ) (Cert.MlpUpOne.main (F := Bits))) ⟨m, fun _ => 0, g⟩ (fun r => (∀ c : Dev Cert.MlpUpOne.nD,
      r.2.mem ((c.tc : Thread Cert.MlpUpOne.nD Cert.MlpUpOne.τ).loc Cert.MlpUpOne.main_arg0) = m ((c.tc : Thread Cert.MlpUpOne.nD Cert.MlpUpOne.τ).loc Cert.MlpUpOne.main_arg0)
      ∧ r.2.mem ((c.tc : Thread Cert.MlpUpOne.nD Cert.MlpUpOne.τ).loc Cert.MlpUpOne.main_arg1) = m ((c.tc : Thread Cert.MlpUpOne.nD Cert.MlpUpOne.τ).loc Cert.MlpUpOne.main_arg1))
      ∧ r.2.sem = fun _ => 0)

def quiescent_MlpUpOneIdeal [hMlpUpOneIdeal : Cert.MlpUpOneIdeal.Facts] : Prop :=
  ∀ (m : (ℓ : Loc Cert.MlpUpOneIdeal.nD Cert.MlpUpOneIdeal.τ Cert.MlpUpOneIdeal.sig) → Buf (Elt Ideal) ℓ) (g : Dev Cert.MlpUpOneIdeal.nD → PrngReg), Pre_MlpUpOneIdeal m →
    θ_run (Cert.MlpUpOneIdeal.defs (F := Ideal)) (onTc (τ := Cert.MlpUpOneIdeal.τ) (Cert.MlpUpOneIdeal.main (F := Ideal))) ⟨m, fun _ => 0, g⟩ (fun r => (∀ c : Dev Cert.MlpUpOneIdeal.nD,
      r.2.mem ((c.tc : Thread Cert.MlpUpOneIdeal.nD Cert.MlpUpOneIdeal.τ).loc Cert.MlpUpOneIdeal.main_arg0) = m ((c.tc : Thread Cert.MlpUpOneIdeal.nD Cert.MlpUpOneIdeal.τ).loc Cert.MlpUpOneIdeal.main_arg0)
      ∧ r.2.mem ((c.tc : Thread Cert.MlpUpOneIdeal.nD Cert.MlpUpOneIdeal.τ).loc Cert.MlpUpOneIdeal.main_arg1) = m ((c.tc : Thread Cert.MlpUpOneIdeal.nD Cert.MlpUpOneIdeal.τ).loc Cert.MlpUpOneIdeal.main_arg1))
      ∧ r.2.sem = fun _ => 0)

def quiescent_MlpUpOneReferenceIdeal [hMlpUpOneReferenceIdeal : Cert.MlpUpOneReferenceIdeal.Facts] : Prop :=
  ∀ (m : (ℓ : Loc Cert.MlpUpOneReferenceIdeal.nD Cert.MlpUpOneReferenceIdeal.τ Cert.MlpUpOneReferenceIdeal.sig) → Buf (Elt Ideal) ℓ) (g : Dev Cert.MlpUpOneReferenceIdeal.nD → PrngReg), Pre_MlpUpOneReferenceIdeal m →
    θ_run (Cert.MlpUpOneReferenceIdeal.defs (F := Ideal)) (onTc (τ := Cert.MlpUpOneReferenceIdeal.τ) (Cert.MlpUpOneReferenceIdeal.main (F := Ideal))) ⟨m, fun _ => 0, g⟩ (fun r => (∀ c : Dev Cert.MlpUpOneReferenceIdeal.nD,
      r.2.mem ((c.tc : Thread Cert.MlpUpOneReferenceIdeal.nD Cert.MlpUpOneReferenceIdeal.τ).loc Cert.MlpUpOneReferenceIdeal.main_arg0) = m ((c.tc : Thread Cert.MlpUpOneReferenceIdeal.nD Cert.MlpUpOneReferenceIdeal.τ).loc Cert.MlpUpOneReferenceIdeal.main_arg0)
      ∧ r.2.mem ((c.tc : Thread Cert.MlpUpOneReferenceIdeal.nD Cert.MlpUpOneReferenceIdeal.τ).loc Cert.MlpUpOneReferenceIdeal.main_arg1) = m ((c.tc : Thread Cert.MlpUpOneReferenceIdeal.nD Cert.MlpUpOneReferenceIdeal.τ).loc Cert.MlpUpOneReferenceIdeal.main_arg1))
      ∧ r.2.sem = fun _ => 0)

def quiescent_MlpUpTwo [hMlpUpTwo : Cert.MlpUpTwo.Facts] : Prop :=
  ∀ (m : (ℓ : Loc Cert.MlpUpTwo.nD Cert.MlpUpTwo.τ Cert.MlpUpTwo.sig) → Buf (Elt Bits) ℓ) (g : Dev Cert.MlpUpTwo.nD → PrngReg), Pre_MlpUpTwo m →
    θ_run (Cert.MlpUpTwo.defs (F := Bits)) (onTc (τ := Cert.MlpUpTwo.τ) (Cert.MlpUpTwo.main (F := Bits))) ⟨m, fun _ => 0, g⟩ (fun r => (∀ c : Dev Cert.MlpUpTwo.nD,
      r.2.mem ((c.tc : Thread Cert.MlpUpTwo.nD Cert.MlpUpTwo.τ).loc Cert.MlpUpTwo.main_arg0) = m ((c.tc : Thread Cert.MlpUpTwo.nD Cert.MlpUpTwo.τ).loc Cert.MlpUpTwo.main_arg0)
      ∧ r.2.mem ((c.tc : Thread Cert.MlpUpTwo.nD Cert.MlpUpTwo.τ).loc Cert.MlpUpTwo.main_arg1) = m ((c.tc : Thread Cert.MlpUpTwo.nD Cert.MlpUpTwo.τ).loc Cert.MlpUpTwo.main_arg1))
      ∧ r.2.sem = fun _ => 0)

def quiescent_MlpUpTwoIdeal [hMlpUpTwoIdeal : Cert.MlpUpTwoIdeal.Facts] : Prop :=
  ∀ (m : (ℓ : Loc Cert.MlpUpTwoIdeal.nD Cert.MlpUpTwoIdeal.τ Cert.MlpUpTwoIdeal.sig) → Buf (Elt Ideal) ℓ) (g : Dev Cert.MlpUpTwoIdeal.nD → PrngReg), Pre_MlpUpTwoIdeal m →
    θ_run (Cert.MlpUpTwoIdeal.defs (F := Ideal)) (onTc (τ := Cert.MlpUpTwoIdeal.τ) (Cert.MlpUpTwoIdeal.main (F := Ideal))) ⟨m, fun _ => 0, g⟩ (fun r => (∀ c : Dev Cert.MlpUpTwoIdeal.nD,
      r.2.mem ((c.tc : Thread Cert.MlpUpTwoIdeal.nD Cert.MlpUpTwoIdeal.τ).loc Cert.MlpUpTwoIdeal.main_arg0) = m ((c.tc : Thread Cert.MlpUpTwoIdeal.nD Cert.MlpUpTwoIdeal.τ).loc Cert.MlpUpTwoIdeal.main_arg0)
      ∧ r.2.mem ((c.tc : Thread Cert.MlpUpTwoIdeal.nD Cert.MlpUpTwoIdeal.τ).loc Cert.MlpUpTwoIdeal.main_arg1) = m ((c.tc : Thread Cert.MlpUpTwoIdeal.nD Cert.MlpUpTwoIdeal.τ).loc Cert.MlpUpTwoIdeal.main_arg1))
      ∧ r.2.sem = fun _ => 0)

def quiescent_MlpUpTwoReferenceIdeal [hMlpUpTwoReferenceIdeal : Cert.MlpUpTwoReferenceIdeal.Facts] : Prop :=
  ∀ (m : (ℓ : Loc Cert.MlpUpTwoReferenceIdeal.nD Cert.MlpUpTwoReferenceIdeal.τ Cert.MlpUpTwoReferenceIdeal.sig) → Buf (Elt Ideal) ℓ) (g : Dev Cert.MlpUpTwoReferenceIdeal.nD → PrngReg), Pre_MlpUpTwoReferenceIdeal m →
    θ_run (Cert.MlpUpTwoReferenceIdeal.defs (F := Ideal)) (onTc (τ := Cert.MlpUpTwoReferenceIdeal.τ) (Cert.MlpUpTwoReferenceIdeal.main (F := Ideal))) ⟨m, fun _ => 0, g⟩ (fun r => (∀ c : Dev Cert.MlpUpTwoReferenceIdeal.nD,
      r.2.mem ((c.tc : Thread Cert.MlpUpTwoReferenceIdeal.nD Cert.MlpUpTwoReferenceIdeal.τ).loc Cert.MlpUpTwoReferenceIdeal.main_arg0) = m ((c.tc : Thread Cert.MlpUpTwoReferenceIdeal.nD Cert.MlpUpTwoReferenceIdeal.τ).loc Cert.MlpUpTwoReferenceIdeal.main_arg0)
      ∧ r.2.mem ((c.tc : Thread Cert.MlpUpTwoReferenceIdeal.nD Cert.MlpUpTwoReferenceIdeal.τ).loc Cert.MlpUpTwoReferenceIdeal.main_arg1) = m ((c.tc : Thread Cert.MlpUpTwoReferenceIdeal.nD Cert.MlpUpTwoReferenceIdeal.τ).loc Cert.MlpUpTwoReferenceIdeal.main_arg1))
      ∧ r.2.sem = fun _ => 0)

def quiescent_MlpUpTop [hMlpUpTop : Cert.MlpUpTop.Facts] : Prop :=
  ∀ (m : (ℓ : Loc Cert.MlpUpTop.nD Cert.MlpUpTop.τ Cert.MlpUpTop.sig) → Buf (Elt Bits) ℓ) (g : Dev Cert.MlpUpTop.nD → PrngReg), Pre_MlpUpTop m →
    θ_run (Cert.MlpUpTop.defs (F := Bits)) (onTc (τ := Cert.MlpUpTop.τ) (Cert.MlpUpTop.main (F := Bits))) ⟨m, fun _ => 0, g⟩ (fun r => (∀ c : Dev Cert.MlpUpTop.nD,
      r.2.mem ((c.tc : Thread Cert.MlpUpTop.nD Cert.MlpUpTop.τ).loc Cert.MlpUpTop.main_arg0) = m ((c.tc : Thread Cert.MlpUpTop.nD Cert.MlpUpTop.τ).loc Cert.MlpUpTop.main_arg0)
      ∧ r.2.mem ((c.tc : Thread Cert.MlpUpTop.nD Cert.MlpUpTop.τ).loc Cert.MlpUpTop.main_arg1) = m ((c.tc : Thread Cert.MlpUpTop.nD Cert.MlpUpTop.τ).loc Cert.MlpUpTop.main_arg1))
      ∧ r.2.sem = fun _ => 0)

def quiescent_MlpUpTopIdeal [hMlpUpTopIdeal : Cert.MlpUpTopIdeal.Facts] : Prop :=
  ∀ (m : (ℓ : Loc Cert.MlpUpTopIdeal.nD Cert.MlpUpTopIdeal.τ Cert.MlpUpTopIdeal.sig) → Buf (Elt Ideal) ℓ) (g : Dev Cert.MlpUpTopIdeal.nD → PrngReg), Pre_MlpUpTopIdeal m →
    θ_run (Cert.MlpUpTopIdeal.defs (F := Ideal)) (onTc (τ := Cert.MlpUpTopIdeal.τ) (Cert.MlpUpTopIdeal.main (F := Ideal))) ⟨m, fun _ => 0, g⟩ (fun r => (∀ c : Dev Cert.MlpUpTopIdeal.nD,
      r.2.mem ((c.tc : Thread Cert.MlpUpTopIdeal.nD Cert.MlpUpTopIdeal.τ).loc Cert.MlpUpTopIdeal.main_arg0) = m ((c.tc : Thread Cert.MlpUpTopIdeal.nD Cert.MlpUpTopIdeal.τ).loc Cert.MlpUpTopIdeal.main_arg0)
      ∧ r.2.mem ((c.tc : Thread Cert.MlpUpTopIdeal.nD Cert.MlpUpTopIdeal.τ).loc Cert.MlpUpTopIdeal.main_arg1) = m ((c.tc : Thread Cert.MlpUpTopIdeal.nD Cert.MlpUpTopIdeal.τ).loc Cert.MlpUpTopIdeal.main_arg1))
      ∧ r.2.sem = fun _ => 0)

def quiescent_MlpUpTopReferenceIdeal [hMlpUpTopReferenceIdeal : Cert.MlpUpTopReferenceIdeal.Facts] : Prop :=
  ∀ (m : (ℓ : Loc Cert.MlpUpTopReferenceIdeal.nD Cert.MlpUpTopReferenceIdeal.τ Cert.MlpUpTopReferenceIdeal.sig) → Buf (Elt Ideal) ℓ) (g : Dev Cert.MlpUpTopReferenceIdeal.nD → PrngReg), Pre_MlpUpTopReferenceIdeal m →
    θ_run (Cert.MlpUpTopReferenceIdeal.defs (F := Ideal)) (onTc (τ := Cert.MlpUpTopReferenceIdeal.τ) (Cert.MlpUpTopReferenceIdeal.main (F := Ideal))) ⟨m, fun _ => 0, g⟩ (fun r => (∀ c : Dev Cert.MlpUpTopReferenceIdeal.nD,
      r.2.mem ((c.tc : Thread Cert.MlpUpTopReferenceIdeal.nD Cert.MlpUpTopReferenceIdeal.τ).loc Cert.MlpUpTopReferenceIdeal.main_arg0) = m ((c.tc : Thread Cert.MlpUpTopReferenceIdeal.nD Cert.MlpUpTopReferenceIdeal.τ).loc Cert.MlpUpTopReferenceIdeal.main_arg0)
      ∧ r.2.mem ((c.tc : Thread Cert.MlpUpTopReferenceIdeal.nD Cert.MlpUpTopReferenceIdeal.τ).loc Cert.MlpUpTopReferenceIdeal.main_arg1) = m ((c.tc : Thread Cert.MlpUpTopReferenceIdeal.nD Cert.MlpUpTopReferenceIdeal.τ).loc Cert.MlpUpTopReferenceIdeal.main_arg1))
      ∧ r.2.sem = fun _ => 0)

def quiescent_MlpDownOne [hMlpDownOne : Cert.MlpDownOne.Facts] : Prop :=
  ∀ (m : (ℓ : Loc Cert.MlpDownOne.nD Cert.MlpDownOne.τ Cert.MlpDownOne.sig) → Buf (Elt Bits) ℓ) (g : Dev Cert.MlpDownOne.nD → PrngReg), Pre_MlpDownOne m →
    θ_run (Cert.MlpDownOne.defs (F := Bits)) (onTc (τ := Cert.MlpDownOne.τ) (Cert.MlpDownOne.main (F := Bits))) ⟨m, fun _ => 0, g⟩ (fun r => (∀ c : Dev Cert.MlpDownOne.nD,
      r.2.mem ((c.tc : Thread Cert.MlpDownOne.nD Cert.MlpDownOne.τ).loc Cert.MlpDownOne.main_arg0) = m ((c.tc : Thread Cert.MlpDownOne.nD Cert.MlpDownOne.τ).loc Cert.MlpDownOne.main_arg0)
      ∧ r.2.mem ((c.tc : Thread Cert.MlpDownOne.nD Cert.MlpDownOne.τ).loc Cert.MlpDownOne.main_arg1) = m ((c.tc : Thread Cert.MlpDownOne.nD Cert.MlpDownOne.τ).loc Cert.MlpDownOne.main_arg1)
      ∧ r.2.mem ((c.tc : Thread Cert.MlpDownOne.nD Cert.MlpDownOne.τ).loc Cert.MlpDownOne.main_arg2) = m ((c.tc : Thread Cert.MlpDownOne.nD Cert.MlpDownOne.τ).loc Cert.MlpDownOne.main_arg2)
      ∧ r.2.mem ((c.tc : Thread Cert.MlpDownOne.nD Cert.MlpDownOne.τ).loc Cert.MlpDownOne.main_arg3) = m ((c.tc : Thread Cert.MlpDownOne.nD Cert.MlpDownOne.τ).loc Cert.MlpDownOne.main_arg3))
      ∧ r.2.sem = fun _ => 0)

def quiescent_MlpDownOneIdeal [hMlpDownOneIdeal : Cert.MlpDownOneIdeal.Facts] : Prop :=
  ∀ (m : (ℓ : Loc Cert.MlpDownOneIdeal.nD Cert.MlpDownOneIdeal.τ Cert.MlpDownOneIdeal.sig) → Buf (Elt Ideal) ℓ) (g : Dev Cert.MlpDownOneIdeal.nD → PrngReg), Pre_MlpDownOneIdeal m →
    θ_run (Cert.MlpDownOneIdeal.defs (F := Ideal)) (onTc (τ := Cert.MlpDownOneIdeal.τ) (Cert.MlpDownOneIdeal.main (F := Ideal))) ⟨m, fun _ => 0, g⟩ (fun r => (∀ c : Dev Cert.MlpDownOneIdeal.nD,
      r.2.mem ((c.tc : Thread Cert.MlpDownOneIdeal.nD Cert.MlpDownOneIdeal.τ).loc Cert.MlpDownOneIdeal.main_arg0) = m ((c.tc : Thread Cert.MlpDownOneIdeal.nD Cert.MlpDownOneIdeal.τ).loc Cert.MlpDownOneIdeal.main_arg0)
      ∧ r.2.mem ((c.tc : Thread Cert.MlpDownOneIdeal.nD Cert.MlpDownOneIdeal.τ).loc Cert.MlpDownOneIdeal.main_arg1) = m ((c.tc : Thread Cert.MlpDownOneIdeal.nD Cert.MlpDownOneIdeal.τ).loc Cert.MlpDownOneIdeal.main_arg1)
      ∧ r.2.mem ((c.tc : Thread Cert.MlpDownOneIdeal.nD Cert.MlpDownOneIdeal.τ).loc Cert.MlpDownOneIdeal.main_arg2) = m ((c.tc : Thread Cert.MlpDownOneIdeal.nD Cert.MlpDownOneIdeal.τ).loc Cert.MlpDownOneIdeal.main_arg2)
      ∧ r.2.mem ((c.tc : Thread Cert.MlpDownOneIdeal.nD Cert.MlpDownOneIdeal.τ).loc Cert.MlpDownOneIdeal.main_arg3) = m ((c.tc : Thread Cert.MlpDownOneIdeal.nD Cert.MlpDownOneIdeal.τ).loc Cert.MlpDownOneIdeal.main_arg3))
      ∧ r.2.sem = fun _ => 0)

def quiescent_MlpDownOneReferenceIdeal [hMlpDownOneReferenceIdeal : Cert.MlpDownOneReferenceIdeal.Facts] : Prop :=
  ∀ (m : (ℓ : Loc Cert.MlpDownOneReferenceIdeal.nD Cert.MlpDownOneReferenceIdeal.τ Cert.MlpDownOneReferenceIdeal.sig) → Buf (Elt Ideal) ℓ) (g : Dev Cert.MlpDownOneReferenceIdeal.nD → PrngReg), Pre_MlpDownOneReferenceIdeal m →
    θ_run (Cert.MlpDownOneReferenceIdeal.defs (F := Ideal)) (onTc (τ := Cert.MlpDownOneReferenceIdeal.τ) (Cert.MlpDownOneReferenceIdeal.main (F := Ideal))) ⟨m, fun _ => 0, g⟩ (fun r => (∀ c : Dev Cert.MlpDownOneReferenceIdeal.nD,
      r.2.mem ((c.tc : Thread Cert.MlpDownOneReferenceIdeal.nD Cert.MlpDownOneReferenceIdeal.τ).loc Cert.MlpDownOneReferenceIdeal.main_arg0) = m ((c.tc : Thread Cert.MlpDownOneReferenceIdeal.nD Cert.MlpDownOneReferenceIdeal.τ).loc Cert.MlpDownOneReferenceIdeal.main_arg0)
      ∧ r.2.mem ((c.tc : Thread Cert.MlpDownOneReferenceIdeal.nD Cert.MlpDownOneReferenceIdeal.τ).loc Cert.MlpDownOneReferenceIdeal.main_arg1) = m ((c.tc : Thread Cert.MlpDownOneReferenceIdeal.nD Cert.MlpDownOneReferenceIdeal.τ).loc Cert.MlpDownOneReferenceIdeal.main_arg1)
      ∧ r.2.mem ((c.tc : Thread Cert.MlpDownOneReferenceIdeal.nD Cert.MlpDownOneReferenceIdeal.τ).loc Cert.MlpDownOneReferenceIdeal.main_arg2) = m ((c.tc : Thread Cert.MlpDownOneReferenceIdeal.nD Cert.MlpDownOneReferenceIdeal.τ).loc Cert.MlpDownOneReferenceIdeal.main_arg2)
      ∧ r.2.mem ((c.tc : Thread Cert.MlpDownOneReferenceIdeal.nD Cert.MlpDownOneReferenceIdeal.τ).loc Cert.MlpDownOneReferenceIdeal.main_arg3) = m ((c.tc : Thread Cert.MlpDownOneReferenceIdeal.nD Cert.MlpDownOneReferenceIdeal.τ).loc Cert.MlpDownOneReferenceIdeal.main_arg3))
      ∧ r.2.sem = fun _ => 0)

def quiescent_MlpDownTwo [hMlpDownTwo : Cert.MlpDownTwo.Facts] : Prop :=
  ∀ (m : (ℓ : Loc Cert.MlpDownTwo.nD Cert.MlpDownTwo.τ Cert.MlpDownTwo.sig) → Buf (Elt Bits) ℓ) (g : Dev Cert.MlpDownTwo.nD → PrngReg), Pre_MlpDownTwo m →
    θ_run (Cert.MlpDownTwo.defs (F := Bits)) (onTc (τ := Cert.MlpDownTwo.τ) (Cert.MlpDownTwo.main (F := Bits))) ⟨m, fun _ => 0, g⟩ (fun r => (∀ c : Dev Cert.MlpDownTwo.nD,
      r.2.mem ((c.tc : Thread Cert.MlpDownTwo.nD Cert.MlpDownTwo.τ).loc Cert.MlpDownTwo.main_arg0) = m ((c.tc : Thread Cert.MlpDownTwo.nD Cert.MlpDownTwo.τ).loc Cert.MlpDownTwo.main_arg0)
      ∧ r.2.mem ((c.tc : Thread Cert.MlpDownTwo.nD Cert.MlpDownTwo.τ).loc Cert.MlpDownTwo.main_arg1) = m ((c.tc : Thread Cert.MlpDownTwo.nD Cert.MlpDownTwo.τ).loc Cert.MlpDownTwo.main_arg1)
      ∧ r.2.mem ((c.tc : Thread Cert.MlpDownTwo.nD Cert.MlpDownTwo.τ).loc Cert.MlpDownTwo.main_arg2) = m ((c.tc : Thread Cert.MlpDownTwo.nD Cert.MlpDownTwo.τ).loc Cert.MlpDownTwo.main_arg2)
      ∧ r.2.mem ((c.tc : Thread Cert.MlpDownTwo.nD Cert.MlpDownTwo.τ).loc Cert.MlpDownTwo.main_arg3) = m ((c.tc : Thread Cert.MlpDownTwo.nD Cert.MlpDownTwo.τ).loc Cert.MlpDownTwo.main_arg3))
      ∧ r.2.sem = fun _ => 0)

def quiescent_MlpDownTwoIdeal [hMlpDownTwoIdeal : Cert.MlpDownTwoIdeal.Facts] : Prop :=
  ∀ (m : (ℓ : Loc Cert.MlpDownTwoIdeal.nD Cert.MlpDownTwoIdeal.τ Cert.MlpDownTwoIdeal.sig) → Buf (Elt Ideal) ℓ) (g : Dev Cert.MlpDownTwoIdeal.nD → PrngReg), Pre_MlpDownTwoIdeal m →
    θ_run (Cert.MlpDownTwoIdeal.defs (F := Ideal)) (onTc (τ := Cert.MlpDownTwoIdeal.τ) (Cert.MlpDownTwoIdeal.main (F := Ideal))) ⟨m, fun _ => 0, g⟩ (fun r => (∀ c : Dev Cert.MlpDownTwoIdeal.nD,
      r.2.mem ((c.tc : Thread Cert.MlpDownTwoIdeal.nD Cert.MlpDownTwoIdeal.τ).loc Cert.MlpDownTwoIdeal.main_arg0) = m ((c.tc : Thread Cert.MlpDownTwoIdeal.nD Cert.MlpDownTwoIdeal.τ).loc Cert.MlpDownTwoIdeal.main_arg0)
      ∧ r.2.mem ((c.tc : Thread Cert.MlpDownTwoIdeal.nD Cert.MlpDownTwoIdeal.τ).loc Cert.MlpDownTwoIdeal.main_arg1) = m ((c.tc : Thread Cert.MlpDownTwoIdeal.nD Cert.MlpDownTwoIdeal.τ).loc Cert.MlpDownTwoIdeal.main_arg1)
      ∧ r.2.mem ((c.tc : Thread Cert.MlpDownTwoIdeal.nD Cert.MlpDownTwoIdeal.τ).loc Cert.MlpDownTwoIdeal.main_arg2) = m ((c.tc : Thread Cert.MlpDownTwoIdeal.nD Cert.MlpDownTwoIdeal.τ).loc Cert.MlpDownTwoIdeal.main_arg2)
      ∧ r.2.mem ((c.tc : Thread Cert.MlpDownTwoIdeal.nD Cert.MlpDownTwoIdeal.τ).loc Cert.MlpDownTwoIdeal.main_arg3) = m ((c.tc : Thread Cert.MlpDownTwoIdeal.nD Cert.MlpDownTwoIdeal.τ).loc Cert.MlpDownTwoIdeal.main_arg3))
      ∧ r.2.sem = fun _ => 0)

def quiescent_MlpDownTwoReferenceIdeal [hMlpDownTwoReferenceIdeal : Cert.MlpDownTwoReferenceIdeal.Facts] : Prop :=
  ∀ (m : (ℓ : Loc Cert.MlpDownTwoReferenceIdeal.nD Cert.MlpDownTwoReferenceIdeal.τ Cert.MlpDownTwoReferenceIdeal.sig) → Buf (Elt Ideal) ℓ) (g : Dev Cert.MlpDownTwoReferenceIdeal.nD → PrngReg), Pre_MlpDownTwoReferenceIdeal m →
    θ_run (Cert.MlpDownTwoReferenceIdeal.defs (F := Ideal)) (onTc (τ := Cert.MlpDownTwoReferenceIdeal.τ) (Cert.MlpDownTwoReferenceIdeal.main (F := Ideal))) ⟨m, fun _ => 0, g⟩ (fun r => (∀ c : Dev Cert.MlpDownTwoReferenceIdeal.nD,
      r.2.mem ((c.tc : Thread Cert.MlpDownTwoReferenceIdeal.nD Cert.MlpDownTwoReferenceIdeal.τ).loc Cert.MlpDownTwoReferenceIdeal.main_arg0) = m ((c.tc : Thread Cert.MlpDownTwoReferenceIdeal.nD Cert.MlpDownTwoReferenceIdeal.τ).loc Cert.MlpDownTwoReferenceIdeal.main_arg0)
      ∧ r.2.mem ((c.tc : Thread Cert.MlpDownTwoReferenceIdeal.nD Cert.MlpDownTwoReferenceIdeal.τ).loc Cert.MlpDownTwoReferenceIdeal.main_arg1) = m ((c.tc : Thread Cert.MlpDownTwoReferenceIdeal.nD Cert.MlpDownTwoReferenceIdeal.τ).loc Cert.MlpDownTwoReferenceIdeal.main_arg1)
      ∧ r.2.mem ((c.tc : Thread Cert.MlpDownTwoReferenceIdeal.nD Cert.MlpDownTwoReferenceIdeal.τ).loc Cert.MlpDownTwoReferenceIdeal.main_arg2) = m ((c.tc : Thread Cert.MlpDownTwoReferenceIdeal.nD Cert.MlpDownTwoReferenceIdeal.τ).loc Cert.MlpDownTwoReferenceIdeal.main_arg2)
      ∧ r.2.mem ((c.tc : Thread Cert.MlpDownTwoReferenceIdeal.nD Cert.MlpDownTwoReferenceIdeal.τ).loc Cert.MlpDownTwoReferenceIdeal.main_arg3) = m ((c.tc : Thread Cert.MlpDownTwoReferenceIdeal.nD Cert.MlpDownTwoReferenceIdeal.τ).loc Cert.MlpDownTwoReferenceIdeal.main_arg3))
      ∧ r.2.sem = fun _ => 0)

def quiescent_MlpDownTop [hMlpDownTop : Cert.MlpDownTop.Facts] : Prop :=
  ∀ (m : (ℓ : Loc Cert.MlpDownTop.nD Cert.MlpDownTop.τ Cert.MlpDownTop.sig) → Buf (Elt Bits) ℓ) (g : Dev Cert.MlpDownTop.nD → PrngReg), Pre_MlpDownTop m →
    θ_run (Cert.MlpDownTop.defs (F := Bits)) (onTc (τ := Cert.MlpDownTop.τ) (Cert.MlpDownTop.main (F := Bits))) ⟨m, fun _ => 0, g⟩ (fun r => (∀ c : Dev Cert.MlpDownTop.nD,
      r.2.mem ((c.tc : Thread Cert.MlpDownTop.nD Cert.MlpDownTop.τ).loc Cert.MlpDownTop.main_arg0) = m ((c.tc : Thread Cert.MlpDownTop.nD Cert.MlpDownTop.τ).loc Cert.MlpDownTop.main_arg0)
      ∧ r.2.mem ((c.tc : Thread Cert.MlpDownTop.nD Cert.MlpDownTop.τ).loc Cert.MlpDownTop.main_arg1) = m ((c.tc : Thread Cert.MlpDownTop.nD Cert.MlpDownTop.τ).loc Cert.MlpDownTop.main_arg1)
      ∧ r.2.mem ((c.tc : Thread Cert.MlpDownTop.nD Cert.MlpDownTop.τ).loc Cert.MlpDownTop.main_arg2) = m ((c.tc : Thread Cert.MlpDownTop.nD Cert.MlpDownTop.τ).loc Cert.MlpDownTop.main_arg2))
      ∧ r.2.sem = fun _ => 0)

def quiescent_MlpDownTopIdeal [hMlpDownTopIdeal : Cert.MlpDownTopIdeal.Facts] : Prop :=
  ∀ (m : (ℓ : Loc Cert.MlpDownTopIdeal.nD Cert.MlpDownTopIdeal.τ Cert.MlpDownTopIdeal.sig) → Buf (Elt Ideal) ℓ) (g : Dev Cert.MlpDownTopIdeal.nD → PrngReg), Pre_MlpDownTopIdeal m →
    θ_run (Cert.MlpDownTopIdeal.defs (F := Ideal)) (onTc (τ := Cert.MlpDownTopIdeal.τ) (Cert.MlpDownTopIdeal.main (F := Ideal))) ⟨m, fun _ => 0, g⟩ (fun r => (∀ c : Dev Cert.MlpDownTopIdeal.nD,
      r.2.mem ((c.tc : Thread Cert.MlpDownTopIdeal.nD Cert.MlpDownTopIdeal.τ).loc Cert.MlpDownTopIdeal.main_arg0) = m ((c.tc : Thread Cert.MlpDownTopIdeal.nD Cert.MlpDownTopIdeal.τ).loc Cert.MlpDownTopIdeal.main_arg0)
      ∧ r.2.mem ((c.tc : Thread Cert.MlpDownTopIdeal.nD Cert.MlpDownTopIdeal.τ).loc Cert.MlpDownTopIdeal.main_arg1) = m ((c.tc : Thread Cert.MlpDownTopIdeal.nD Cert.MlpDownTopIdeal.τ).loc Cert.MlpDownTopIdeal.main_arg1)
      ∧ r.2.mem ((c.tc : Thread Cert.MlpDownTopIdeal.nD Cert.MlpDownTopIdeal.τ).loc Cert.MlpDownTopIdeal.main_arg2) = m ((c.tc : Thread Cert.MlpDownTopIdeal.nD Cert.MlpDownTopIdeal.τ).loc Cert.MlpDownTopIdeal.main_arg2))
      ∧ r.2.sem = fun _ => 0)

def quiescent_MlpDownTopReferenceIdeal [hMlpDownTopReferenceIdeal : Cert.MlpDownTopReferenceIdeal.Facts] : Prop :=
  ∀ (m : (ℓ : Loc Cert.MlpDownTopReferenceIdeal.nD Cert.MlpDownTopReferenceIdeal.τ Cert.MlpDownTopReferenceIdeal.sig) → Buf (Elt Ideal) ℓ) (g : Dev Cert.MlpDownTopReferenceIdeal.nD → PrngReg), Pre_MlpDownTopReferenceIdeal m →
    θ_run (Cert.MlpDownTopReferenceIdeal.defs (F := Ideal)) (onTc (τ := Cert.MlpDownTopReferenceIdeal.τ) (Cert.MlpDownTopReferenceIdeal.main (F := Ideal))) ⟨m, fun _ => 0, g⟩ (fun r => (∀ c : Dev Cert.MlpDownTopReferenceIdeal.nD,
      r.2.mem ((c.tc : Thread Cert.MlpDownTopReferenceIdeal.nD Cert.MlpDownTopReferenceIdeal.τ).loc Cert.MlpDownTopReferenceIdeal.main_arg0) = m ((c.tc : Thread Cert.MlpDownTopReferenceIdeal.nD Cert.MlpDownTopReferenceIdeal.τ).loc Cert.MlpDownTopReferenceIdeal.main_arg0)
      ∧ r.2.mem ((c.tc : Thread Cert.MlpDownTopReferenceIdeal.nD Cert.MlpDownTopReferenceIdeal.τ).loc Cert.MlpDownTopReferenceIdeal.main_arg1) = m ((c.tc : Thread Cert.MlpDownTopReferenceIdeal.nD Cert.MlpDownTopReferenceIdeal.τ).loc Cert.MlpDownTopReferenceIdeal.main_arg1)
      ∧ r.2.mem ((c.tc : Thread Cert.MlpDownTopReferenceIdeal.nD Cert.MlpDownTopReferenceIdeal.τ).loc Cert.MlpDownTopReferenceIdeal.main_arg2) = m ((c.tc : Thread Cert.MlpDownTopReferenceIdeal.nD Cert.MlpDownTopReferenceIdeal.τ).loc Cert.MlpDownTopReferenceIdeal.main_arg2))
      ∧ r.2.sem = fun _ => 0)

def quiescent_UpDwTop [hUpDwTop : Cert.UpDwTop.Facts] : Prop :=
  ∀ (m : (ℓ : Loc Cert.UpDwTop.nD Cert.UpDwTop.τ Cert.UpDwTop.sig) → Buf (Elt Bits) ℓ) (g : Dev Cert.UpDwTop.nD → PrngReg), Pre_UpDwTop m →
    θ_run (Cert.UpDwTop.defs (F := Bits)) (onTc (τ := Cert.UpDwTop.τ) (Cert.UpDwTop.main (F := Bits))) ⟨m, fun _ => 0, g⟩ (fun r => (∀ c : Dev Cert.UpDwTop.nD,
      r.2.mem ((c.tc : Thread Cert.UpDwTop.nD Cert.UpDwTop.τ).loc Cert.UpDwTop.main_arg0) = m ((c.tc : Thread Cert.UpDwTop.nD Cert.UpDwTop.τ).loc Cert.UpDwTop.main_arg0)
      ∧ r.2.mem ((c.tc : Thread Cert.UpDwTop.nD Cert.UpDwTop.τ).loc Cert.UpDwTop.main_arg1) = m ((c.tc : Thread Cert.UpDwTop.nD Cert.UpDwTop.τ).loc Cert.UpDwTop.main_arg1))
      ∧ r.2.sem = fun _ => 0)

def quiescent_UpDwTopIdeal [hUpDwTopIdeal : Cert.UpDwTopIdeal.Facts] : Prop :=
  ∀ (m : (ℓ : Loc Cert.UpDwTopIdeal.nD Cert.UpDwTopIdeal.τ Cert.UpDwTopIdeal.sig) → Buf (Elt Ideal) ℓ) (g : Dev Cert.UpDwTopIdeal.nD → PrngReg), Pre_UpDwTopIdeal m →
    θ_run (Cert.UpDwTopIdeal.defs (F := Ideal)) (onTc (τ := Cert.UpDwTopIdeal.τ) (Cert.UpDwTopIdeal.main (F := Ideal))) ⟨m, fun _ => 0, g⟩ (fun r => (∀ c : Dev Cert.UpDwTopIdeal.nD,
      r.2.mem ((c.tc : Thread Cert.UpDwTopIdeal.nD Cert.UpDwTopIdeal.τ).loc Cert.UpDwTopIdeal.main_arg0) = m ((c.tc : Thread Cert.UpDwTopIdeal.nD Cert.UpDwTopIdeal.τ).loc Cert.UpDwTopIdeal.main_arg0)
      ∧ r.2.mem ((c.tc : Thread Cert.UpDwTopIdeal.nD Cert.UpDwTopIdeal.τ).loc Cert.UpDwTopIdeal.main_arg1) = m ((c.tc : Thread Cert.UpDwTopIdeal.nD Cert.UpDwTopIdeal.τ).loc Cert.UpDwTopIdeal.main_arg1))
      ∧ r.2.sem = fun _ => 0)

def quiescent_UpDwTopReferenceIdeal [hUpDwTopReferenceIdeal : Cert.UpDwTopReferenceIdeal.Facts] : Prop :=
  ∀ (m : (ℓ : Loc Cert.UpDwTopReferenceIdeal.nD Cert.UpDwTopReferenceIdeal.τ Cert.UpDwTopReferenceIdeal.sig) → Buf (Elt Ideal) ℓ) (g : Dev Cert.UpDwTopReferenceIdeal.nD → PrngReg), Pre_UpDwTopReferenceIdeal m →
    θ_run (Cert.UpDwTopReferenceIdeal.defs (F := Ideal)) (onTc (τ := Cert.UpDwTopReferenceIdeal.τ) (Cert.UpDwTopReferenceIdeal.main (F := Ideal))) ⟨m, fun _ => 0, g⟩ (fun r => (∀ c : Dev Cert.UpDwTopReferenceIdeal.nD,
      r.2.mem ((c.tc : Thread Cert.UpDwTopReferenceIdeal.nD Cert.UpDwTopReferenceIdeal.τ).loc Cert.UpDwTopReferenceIdeal.main_arg0) = m ((c.tc : Thread Cert.UpDwTopReferenceIdeal.nD Cert.UpDwTopReferenceIdeal.τ).loc Cert.UpDwTopReferenceIdeal.main_arg0)
      ∧ r.2.mem ((c.tc : Thread Cert.UpDwTopReferenceIdeal.nD Cert.UpDwTopReferenceIdeal.τ).loc Cert.UpDwTopReferenceIdeal.main_arg1) = m ((c.tc : Thread Cert.UpDwTopReferenceIdeal.nD Cert.UpDwTopReferenceIdeal.τ).loc Cert.UpDwTopReferenceIdeal.main_arg1))
      ∧ r.2.sem = fun _ => 0)

def quiescent_DownDwTop [hDownDwTop : Cert.DownDwTop.Facts] : Prop :=
  ∀ (m : (ℓ : Loc Cert.DownDwTop.nD Cert.DownDwTop.τ Cert.DownDwTop.sig) → Buf (Elt Bits) ℓ) (g : Dev Cert.DownDwTop.nD → PrngReg), Pre_DownDwTop m →
    θ_run (Cert.DownDwTop.defs (F := Bits)) (onTc (τ := Cert.DownDwTop.τ) (Cert.DownDwTop.main (F := Bits))) ⟨m, fun _ => 0, g⟩ (fun r => (∀ c : Dev Cert.DownDwTop.nD,
      r.2.mem ((c.tc : Thread Cert.DownDwTop.nD Cert.DownDwTop.τ).loc Cert.DownDwTop.main_arg0) = m ((c.tc : Thread Cert.DownDwTop.nD Cert.DownDwTop.τ).loc Cert.DownDwTop.main_arg0)
      ∧ r.2.mem ((c.tc : Thread Cert.DownDwTop.nD Cert.DownDwTop.τ).loc Cert.DownDwTop.main_arg1) = m ((c.tc : Thread Cert.DownDwTop.nD Cert.DownDwTop.τ).loc Cert.DownDwTop.main_arg1))
      ∧ r.2.sem = fun _ => 0)

def quiescent_DownDwTopIdeal [hDownDwTopIdeal : Cert.DownDwTopIdeal.Facts] : Prop :=
  ∀ (m : (ℓ : Loc Cert.DownDwTopIdeal.nD Cert.DownDwTopIdeal.τ Cert.DownDwTopIdeal.sig) → Buf (Elt Ideal) ℓ) (g : Dev Cert.DownDwTopIdeal.nD → PrngReg), Pre_DownDwTopIdeal m →
    θ_run (Cert.DownDwTopIdeal.defs (F := Ideal)) (onTc (τ := Cert.DownDwTopIdeal.τ) (Cert.DownDwTopIdeal.main (F := Ideal))) ⟨m, fun _ => 0, g⟩ (fun r => (∀ c : Dev Cert.DownDwTopIdeal.nD,
      r.2.mem ((c.tc : Thread Cert.DownDwTopIdeal.nD Cert.DownDwTopIdeal.τ).loc Cert.DownDwTopIdeal.main_arg0) = m ((c.tc : Thread Cert.DownDwTopIdeal.nD Cert.DownDwTopIdeal.τ).loc Cert.DownDwTopIdeal.main_arg0)
      ∧ r.2.mem ((c.tc : Thread Cert.DownDwTopIdeal.nD Cert.DownDwTopIdeal.τ).loc Cert.DownDwTopIdeal.main_arg1) = m ((c.tc : Thread Cert.DownDwTopIdeal.nD Cert.DownDwTopIdeal.τ).loc Cert.DownDwTopIdeal.main_arg1))
      ∧ r.2.sem = fun _ => 0)

def quiescent_DownDwTopReferenceIdeal [hDownDwTopReferenceIdeal : Cert.DownDwTopReferenceIdeal.Facts] : Prop :=
  ∀ (m : (ℓ : Loc Cert.DownDwTopReferenceIdeal.nD Cert.DownDwTopReferenceIdeal.τ Cert.DownDwTopReferenceIdeal.sig) → Buf (Elt Ideal) ℓ) (g : Dev Cert.DownDwTopReferenceIdeal.nD → PrngReg), Pre_DownDwTopReferenceIdeal m →
    θ_run (Cert.DownDwTopReferenceIdeal.defs (F := Ideal)) (onTc (τ := Cert.DownDwTopReferenceIdeal.τ) (Cert.DownDwTopReferenceIdeal.main (F := Ideal))) ⟨m, fun _ => 0, g⟩ (fun r => (∀ c : Dev Cert.DownDwTopReferenceIdeal.nD,
      r.2.mem ((c.tc : Thread Cert.DownDwTopReferenceIdeal.nD Cert.DownDwTopReferenceIdeal.τ).loc Cert.DownDwTopReferenceIdeal.main_arg0) = m ((c.tc : Thread Cert.DownDwTopReferenceIdeal.nD Cert.DownDwTopReferenceIdeal.τ).loc Cert.DownDwTopReferenceIdeal.main_arg0)
      ∧ r.2.mem ((c.tc : Thread Cert.DownDwTopReferenceIdeal.nD Cert.DownDwTopReferenceIdeal.τ).loc Cert.DownDwTopReferenceIdeal.main_arg1) = m ((c.tc : Thread Cert.DownDwTopReferenceIdeal.nD Cert.DownDwTopReferenceIdeal.τ).loc Cert.DownDwTopReferenceIdeal.main_arg1))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "exp2_scale" .f32 0x3E16C740#32 (((3424635 / 33554432) * (Real.log 2)⁻¹ : ℝ) : EReal)
  ∧ IdealRules.named_const.Statement Cert.KernelIdeal.κ "scale" .f32 0x3DD105EC#32 ((3424635 / 33554432 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v54_0)) (v1 : (c : Dev Cert.KernelIdeal.nD) → Buf (Elt Ideal) ((c.tc : Thread Cert.KernelIdeal.nD Cert.KernelIdeal.τ).loc Cert.KernelIdeal.main_v54_1)) (v2 : (c : Dev Cert.KernelIdeal.nD) → Buf (Elt Ideal) ((c.tc : Thread Cert.KernelIdeal.nD Cert.KernelIdeal.τ).loc Cert.KernelIdeal.main_v54_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54_0) = v0 c
          ∧ r.2.mem ((c.tc : Thread Cert.KernelIdeal.nD Cert.KernelIdeal.τ).loc Cert.KernelIdeal.main_v54_1) = v1 c
          ∧ r.2.mem ((c.tc : Thread Cert.KernelIdeal.nD Cert.KernelIdeal.τ).loc Cert.KernelIdeal.main_v54_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v73) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_DownDx_DownDxIdeal : Prop :=
  True

def algebraic_DownDxIdeal_DownDxReferenceIdeal [hDownDxIdeal : Cert.DownDxIdeal.Facts] [hDownDxReferenceIdeal : Cert.DownDxReferenceIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxReferenceIdeal.nD Cert.DownDxReferenceIdeal.τ Cert.DownDxReferenceIdeal.sig) → Buf (Elt Ideal) ℓ) (g' : Dev Cert.DownDxReferenceIdeal.nD → PrngReg), Pre_DownDxIdeal m →
    (∀ c : Dev Cert.DownDxIdeal.nD,
      m' ((c.tc : Thread Cert.DownDxReferenceIdeal.nD Cert.DownDxReferenceIdeal.τ).loc Cert.DownDxReferenceIdeal.main_arg0) = m ((c.tc : Thread Cert.DownDxIdeal.nD Cert.DownDxIdeal.τ).loc Cert.DownDxIdeal.main_arg0)
      ∧ m' ((c.tc : Thread Cert.DownDxReferenceIdeal.nD Cert.DownDxReferenceIdeal.τ).loc Cert.DownDxReferenceIdeal.main_arg1) = m ((c.tc : Thread Cert.DownDxIdeal.nD Cert.DownDxIdeal.τ).loc Cert.DownDxIdeal.main_arg1)
      ∧ m' ((c.tc : Thread Cert.DownDxReferenceIdeal.nD Cert.DownDxReferenceIdeal.τ).loc Cert.DownDxReferenceIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v3)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v3) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxReferenceIdeal.defs (F := Ideal)) (onTc (τ := Cert.DownDxReferenceIdeal.τ) (Cert.DownDxReferenceIdeal.main (F := Ideal))) ⟨m', fun _ => 0, g'⟩ (fun r => ∀ c : Dev Cert.DownDxReferenceIdeal.nD,
          r.2.mem ((c.tc : Thread Cert.DownDxReferenceIdeal.nD Cert.DownDxReferenceIdeal.τ).loc Cert.DownDxReferenceIdeal.main_v14) = v0 c
          ∧ r.2.mem ((c.tc : Thread Cert.DownDxReferenceIdeal.nD Cert.DownDxReferenceIdeal.τ).loc Cert.DownDxReferenceIdeal.main_arg0) = m' ((c.tc : Thread Cert.DownDxReferenceIdeal.nD Cert.DownDxReferenceIdeal.τ).loc Cert.DownDxReferenceIdeal.main_arg0)
          ∧ r.2.mem ((c.tc : Thread Cert.DownDxReferenceIdeal.nD Cert.DownDxReferenceIdeal.τ).loc Cert.DownDxReferenceIdeal.main_arg1) = m' ((c.tc : Thread Cert.DownDxReferenceIdeal.nD Cert.DownDxReferenceIdeal.τ).loc Cert.DownDxReferenceIdeal.main_arg1)
          ∧ r.2.mem ((c.tc : Thread Cert.DownDxReferenceIdeal.nD Cert.DownDxReferenceIdeal.τ).loc Cert.DownDxReferenceIdeal.main_arg2) = m' ((c.tc : Thread Cert.DownDxReferenceIdeal.nD Cert.DownDxReferenceIdeal.τ).loc Cert.DownDxReferenceIdeal.main_arg2))

def preserves_DownDw_DownDwIdeal : Prop :=
  True

def algebraic_DownDwIdeal_DownDwReferenceIdeal [hDownDwIdeal : Cert.DownDwIdeal.Facts] [hDownDwReferenceIdeal : Cert.DownDwReferenceIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwReferenceIdeal.nD Cert.DownDwReferenceIdeal.τ Cert.DownDwReferenceIdeal.sig) → Buf (Elt Ideal) ℓ) (g' : Dev Cert.DownDwReferenceIdeal.nD → PrngReg), Pre_DownDwIdeal m →
    (∀ c : Dev Cert.DownDwIdeal.nD,
      m' ((c.tc : Thread Cert.DownDwReferenceIdeal.nD Cert.DownDwReferenceIdeal.τ).loc Cert.DownDwReferenceIdeal.main_arg0) = m ((c.tc : Thread Cert.DownDwIdeal.nD Cert.DownDwIdeal.τ).loc Cert.DownDwIdeal.main_arg0)
      ∧ m' ((c.tc : Thread Cert.DownDwReferenceIdeal.nD Cert.DownDwReferenceIdeal.τ).loc Cert.DownDwReferenceIdeal.main_arg1) = m ((c.tc : Thread Cert.DownDwIdeal.nD Cert.DownDwIdeal.τ).loc Cert.DownDwIdeal.main_arg1)
      ∧ m' ((c.tc : Thread Cert.DownDwReferenceIdeal.nD Cert.DownDwReferenceIdeal.τ).loc Cert.DownDwReferenceIdeal.main_arg2) = m ((c.tc : Thread Cert.DownDwIdeal.nD Cert.DownDwIdeal.τ).loc Cert.DownDwIdeal.main_arg2)) →
    ∃ (v0 : (c : Dev Cert.DownDwIdeal.nD) → Buf (Elt Ideal) ((c.tc : Thread Cert.DownDwIdeal.nD Cert.DownDwIdeal.τ).loc Cert.DownDwIdeal.main_v1)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v1) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
          ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ θ_run (Cert.DownDwReferenceIdeal.defs (F := Ideal)) (onTc (τ := Cert.DownDwReferenceIdeal.τ) (Cert.DownDwReferenceIdeal.main (F := Ideal))) ⟨m', fun _ => 0, g'⟩ (fun r => ∀ c : Dev Cert.DownDwReferenceIdeal.nD,
          r.2.mem ((c.tc : Thread Cert.DownDwReferenceIdeal.nD Cert.DownDwReferenceIdeal.τ).loc Cert.DownDwReferenceIdeal.main_v10) = v0 c
          ∧ r.2.mem ((c.tc : Thread Cert.DownDwReferenceIdeal.nD Cert.DownDwReferenceIdeal.τ).loc Cert.DownDwReferenceIdeal.main_arg0) = m' ((c.tc : Thread Cert.DownDwReferenceIdeal.nD Cert.DownDwReferenceIdeal.τ).loc Cert.DownDwReferenceIdeal.main_arg0)
          ∧ r.2.mem ((c.tc : Thread Cert.DownDwReferenceIdeal.nD Cert.DownDwReferenceIdeal.τ).loc Cert.DownDwReferenceIdeal.main_arg1) = m' ((c.tc : Thread Cert.DownDwReferenceIdeal.nD Cert.DownDwReferenceIdeal.τ).loc Cert.DownDwReferenceIdeal.main_arg1)
          ∧ r.2.mem ((c.tc : Thread Cert.DownDwReferenceIdeal.nD Cert.DownDwReferenceIdeal.τ).loc Cert.DownDwReferenceIdeal.main_arg2) = m' ((c.tc : Thread Cert.DownDwReferenceIdeal.nD Cert.DownDwReferenceIdeal.τ).loc Cert.DownDwReferenceIdeal.main_arg2))

def preserves_UpDx_UpDxIdeal : Prop :=
  True

def algebraic_UpDxIdeal_UpDxReferenceIdeal [hUpDxIdeal : Cert.UpDxIdeal.Facts] [hUpDxReferenceIdeal : Cert.UpDxReferenceIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxReferenceIdeal.nD Cert.UpDxReferenceIdeal.τ Cert.UpDxReferenceIdeal.sig) → Buf (Elt Ideal) ℓ) (g' : Dev Cert.UpDxReferenceIdeal.nD → PrngReg), Pre_UpDxIdeal m →
    (∀ c : Dev Cert.UpDxIdeal.nD,
      m' ((c.tc : Thread Cert.UpDxReferenceIdeal.nD Cert.UpDxReferenceIdeal.τ).loc Cert.UpDxReferenceIdeal.main_arg0) = m ((c.tc : Thread Cert.UpDxIdeal.nD Cert.UpDxIdeal.τ).loc Cert.UpDxIdeal.main_arg0)
      ∧ m' ((c.tc : Thread Cert.UpDxReferenceIdeal.nD Cert.UpDxReferenceIdeal.τ).loc Cert.UpDxReferenceIdeal.main_arg1) = m ((c.tc : Thread Cert.UpDxIdeal.nD Cert.UpDxIdeal.τ).loc Cert.UpDxIdeal.main_arg1)
      ∧ m' ((c.tc : Thread Cert.UpDxReferenceIdeal.nD Cert.UpDxReferenceIdeal.τ).loc Cert.UpDxReferenceIdeal.main_arg2) = m ((c.tc : Thread Cert.UpDxIdeal.nD Cert.UpDxIdeal.τ).loc Cert.UpDxIdeal.main_arg2)
      ∧ m' ((c.tc : Thread Cert.UpDxReferenceIdeal.nD Cert.UpDxReferenceIdeal.τ).loc Cert.UpDxReferenceIdeal.main_arg3) = m ((c.tc : Thread Cert.UpDxIdeal.nD Cert.UpDxIdeal.τ).loc Cert.UpDxIdeal.main_arg3)
      ∧ m' ((c.tc : Thread Cert.UpDxReferenceIdeal.nD Cert.UpDxReferenceIdeal.τ).loc Cert.UpDxReferenceIdeal.main_arg4) = m ((c.tc : Thread Cert.UpDxIdeal.nD Cert.UpDxIdeal.τ).loc Cert.UpDxIdeal.main_arg4)) →
    ∃ (v0 : (c : Dev Cert.UpDxIdeal.nD) → Buf (Elt Ideal) ((c.tc : Thread Cert.UpDxIdeal.nD Cert.UpDxIdeal.τ).loc Cert.UpDxIdeal.main_v6_0)) (v1 : (c : Dev Cert.UpDxIdeal.nD) → Buf (Elt Ideal) ((c.tc : Thread Cert.UpDxIdeal.nD Cert.UpDxIdeal.τ).loc Cert.UpDxIdeal.main_v6_1)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v6_0) = v0 c
          ∧ r.2.mem ((c.tc : Thread Cert.UpDxIdeal.nD Cert.UpDxIdeal.τ).loc Cert.UpDxIdeal.main_v6_1) = v1 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
          ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
          ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ θ_run (Cert.UpDxReferenceIdeal.defs (F := Ideal)) (onTc (τ := Cert.UpDxReferenceIdeal.τ) (Cert.UpDxReferenceIdeal.main (F := Ideal))) ⟨m', fun _ => 0, g'⟩ (fun r => ∀ c : Dev Cert.UpDxReferenceIdeal.nD,
          r.2.mem ((c.tc : Thread Cert.UpDxReferenceIdeal.nD Cert.UpDxReferenceIdeal.τ).loc Cert.UpDxReferenceIdeal.main_v41) = v0 c
          ∧ r.2.mem ((c.tc : Thread Cert.UpDxReferenceIdeal.nD Cert.UpDxReferenceIdeal.τ).loc Cert.UpDxReferenceIdeal.main_v42) = v1 c
          ∧ r.2.mem ((c.tc : Thread Cert.UpDxReferenceIdeal.nD Cert.UpDxReferenceIdeal.τ).loc Cert.UpDxReferenceIdeal.main_arg0) = m' ((c.tc : Thread Cert.UpDxReferenceIdeal.nD Cert.UpDxReferenceIdeal.τ).loc Cert.UpDxReferenceIdeal.main_arg0)
          ∧ r.2.mem ((c.tc : Thread Cert.UpDxReferenceIdeal.nD Cert.UpDxReferenceIdeal.τ).loc Cert.UpDxReferenceIdeal.main_arg1) = m' ((c.tc : Thread Cert.UpDxReferenceIdeal.nD Cert.UpDxReferenceIdeal.τ).loc Cert.UpDxReferenceIdeal.main_arg1)
          ∧ r.2.mem ((c.tc : Thread Cert.UpDxReferenceIdeal.nD Cert.UpDxReferenceIdeal.τ).loc Cert.UpDxReferenceIdeal.main_arg2) = m' ((c.tc : Thread Cert.UpDxReferenceIdeal.nD Cert.UpDxReferenceIdeal.τ).loc Cert.UpDxReferenceIdeal.main_arg2)
          ∧ r.2.mem ((c.tc : Thread Cert.UpDxReferenceIdeal.nD Cert.UpDxReferenceIdeal.τ).loc Cert.UpDxReferenceIdeal.main_arg3) = m' ((c.tc : Thread Cert.UpDxReferenceIdeal.nD Cert.UpDxReferenceIdeal.τ).loc Cert.UpDxReferenceIdeal.main_arg3)
          ∧ r.2.mem ((c.tc : Thread Cert.UpDxReferenceIdeal.nD Cert.UpDxReferenceIdeal.τ).loc Cert.UpDxReferenceIdeal.main_arg4) = m' ((c.tc : Thread Cert.UpDxReferenceIdeal.nD Cert.UpDxReferenceIdeal.τ).loc Cert.UpDxReferenceIdeal.main_arg4))

def preserves_UpDxOne_UpDxOneIdeal : Prop :=
  True

def algebraic_UpDxOneIdeal_UpDxOneReferenceIdeal [hUpDxOneIdeal : Cert.UpDxOneIdeal.Facts] [hUpDxOneReferenceIdeal : Cert.UpDxOneReferenceIdeal.Facts] : Prop :=
  ∀ (m : (ℓ : Loc Cert.UpDxOneIdeal.nD Cert.UpDxOneIdeal.τ Cert.UpDxOneIdeal.sig) → Buf (Elt Ideal) ℓ) (g : Dev Cert.UpDxOneIdeal.nD → PrngReg)
    (m' : (ℓ : Loc Cert.UpDxOneReferenceIdeal.nD Cert.UpDxOneReferenceIdeal.τ Cert.UpDxOneReferenceIdeal.sig) → Buf (Elt Ideal) ℓ) (g' : Dev Cert.UpDxOneReferenceIdeal.nD → PrngReg), Pre_UpDxOneIdeal m →
    (∀ c : Dev Cert.UpDxOneIdeal.nD,
      m' ((c.tc : Thread Cert.UpDxOneReferenceIdeal.nD Cert.UpDxOneReferenceIdeal.τ).loc Cert.UpDxOneReferenceIdeal.main_arg0) = m ((c.tc : Thread Cert.UpDxOneIdeal.nD Cert.UpDxOneIdeal.τ).loc Cert.UpDxOneIdeal.main_arg0)
      ∧ m' ((c.tc : Thread Cert.UpDxOneReferenceIdeal.nD Cert.UpDxOneReferenceIdeal.τ).loc Cert.UpDxOneReferenceIdeal.main_arg1) = m ((c.tc : Thread Cert.UpDxOneIdeal.nD Cert.UpDxOneIdeal.τ).loc Cert.UpDxOneIdeal.main_arg1)
      ∧ m' ((c.tc : Thread Cert.UpDxOneReferenceIdeal.nD Cert.UpDxOneReferenceIdeal.τ).loc Cert.UpDxOneReferenceIdeal.main_arg2) = m ((c.tc : Thread Cert.UpDxOneIdeal.nD Cert.UpDxOneIdeal.τ).loc Cert.UpDxOneIdeal.main_arg2)
      ∧ m' ((c.tc : Thread Cert.UpDxOneReferenceIdeal.nD Cert.UpDxOneReferenceIdeal.τ).loc Cert.UpDxOneReferenceIdeal.main_arg3) = m ((c.tc : Thread Cert.UpDxOneIdeal.nD Cert.UpDxOneIdeal.τ).loc Cert.UpDxOneIdeal.main_arg3)
      ∧ m' ((c.tc : Thread Cert.UpDxOneReferenceIdeal.nD Cert.UpDxOneReferenceIdeal.τ).loc Cert.UpDxOneReferenceIdeal.main_arg4) = m ((c.tc : Thread Cert.UpDxOneIdeal.nD Cert.UpDxOneIdeal.τ).loc Cert.UpDxOneIdeal.main_arg4)) →
    ∃ (v0 : (c : Dev Cert.UpDxOneIdeal.nD) → Buf (Elt Ideal) ((c.tc : Thread Cert.UpDxOneIdeal.nD Cert.UpDxOneIdeal.τ).loc Cert.UpDxOneIdeal.main_v6_0)) (v1 : (c : Dev Cert.UpDxOneIdeal.nD) → Buf (Elt Ideal) ((c.tc : Thread Cert.UpDxOneIdeal.nD Cert.UpDxOneIdeal.τ).loc Cert.UpDxOneIdeal.main_v6_1)),
      θ_run (Cert.UpDxOneIdeal.defs (F := Ideal)) (onTc (τ := Cert.UpDxOneIdeal.τ) (Cert.UpDxOneIdeal.main (F := Ideal))) ⟨m, fun _ => 0, g⟩ (fun r => ∀ c : Dev Cert.UpDxOneIdeal.nD,
          r.2.mem ((c.tc : Thread Cert.UpDxOneIdeal.nD Cert.UpDxOneIdeal.τ).loc Cert.UpDxOneIdeal.main_v6_0) = v0 c
          ∧ r.2.mem ((c.tc : Thread Cert.UpDxOneIdeal.nD Cert.UpDxOneIdeal.τ).loc Cert.UpDxOneIdeal.main_v6_1) = v1 c
          ∧ r.2.mem ((c.tc : Thread Cert.UpDxOneIdeal.nD Cert.UpDxOneIdeal.τ).loc Cert.UpDxOneIdeal.main_arg0) = m ((c.tc : Thread Cert.UpDxOneIdeal.nD Cert.UpDxOneIdeal.τ).loc Cert.UpDxOneIdeal.main_arg0)
          ∧ r.2.mem ((c.tc : Thread Cert.UpDxOneIdeal.nD Cert.UpDxOneIdeal.τ).loc Cert.UpDxOneIdeal.main_arg1) = m ((c.tc : Thread Cert.UpDxOneIdeal.nD Cert.UpDxOneIdeal.τ).loc Cert.UpDxOneIdeal.main_arg1)
          ∧ r.2.mem ((c.tc : Thread Cert.UpDxOneIdeal.nD Cert.UpDxOneIdeal.τ).loc Cert.UpDxOneIdeal.main_arg2) = m ((c.tc : Thread Cert.UpDxOneIdeal.nD Cert.UpDxOneIdeal.τ).loc Cert.UpDxOneIdeal.main_arg2)
          ∧ r.2.mem ((c.tc : Thread Cert.UpDxOneIdeal.nD Cert.UpDxOneIdeal.τ).loc Cert.UpDxOneIdeal.main_arg3) = m ((c.tc : Thread Cert.UpDxOneIdeal.nD Cert.UpDxOneIdeal.τ).loc Cert.UpDxOneIdeal.main_arg3)
          ∧ r.2.mem ((c.tc : Thread Cert.UpDxOneIdeal.nD Cert.UpDxOneIdeal.τ).loc Cert.UpDxOneIdeal.main_arg4) = m ((c.tc : Thread Cert.UpDxOneIdeal.nD Cert.UpDxOneIdeal.τ).loc Cert.UpDxOneIdeal.main_arg4))
      ∧ θ_run (Cert.UpDxOneReferenceIdeal.defs (F := Ideal)) (onTc (τ := Cert.UpDxOneReferenceIdeal.τ) (Cert.UpDxOneReferenceIdeal.main (F := Ideal))) ⟨m', fun _ => 0, g'⟩ (fun r => ∀ c : Dev Cert.UpDxOneReferenceIdeal.nD,
          r.2.mem ((c.tc : Thread Cert.UpDxOneReferenceIdeal.nD Cert.UpDxOneReferenceIdeal.τ).loc Cert.UpDxOneReferenceIdeal.main_v40) = v0 c
          ∧ r.2.mem ((c.tc : Thread Cert.UpDxOneReferenceIdeal.nD Cert.UpDxOneReferenceIdeal.τ).loc Cert.UpDxOneReferenceIdeal.main_v41) = v1 c
          ∧ r.2.mem ((c.tc : Thread Cert.UpDxOneReferenceIdeal.nD Cert.UpDxOneReferenceIdeal.τ).loc Cert.UpDxOneReferenceIdeal.main_arg0) = m' ((c.tc : Thread Cert.UpDxOneReferenceIdeal.nD Cert.UpDxOneReferenceIdeal.τ).loc Cert.UpDxOneReferenceIdeal.main_arg0)
          ∧ r.2.mem ((c.tc : Thread Cert.UpDxOneReferenceIdeal.nD Cert.UpDxOneReferenceIdeal.τ).loc Cert.UpDxOneReferenceIdeal.main_arg1) = m' ((c.tc : Thread Cert.UpDxOneReferenceIdeal.nD Cert.UpDxOneReferenceIdeal.τ).loc Cert.UpDxOneReferenceIdeal.main_arg1)
          ∧ r.2.mem ((c.tc : Thread Cert.UpDxOneReferenceIdeal.nD Cert.UpDxOneReferenceIdeal.τ).loc Cert.UpDxOneReferenceIdeal.main_arg2) = m' ((c.tc : Thread Cert.UpDxOneReferenceIdeal.nD Cert.UpDxOneReferenceIdeal.τ).loc Cert.UpDxOneReferenceIdeal.main_arg2)
          ∧ r.2.mem ((c.tc : Thread Cert.UpDxOneReferenceIdeal.nD Cert.UpDxOneReferenceIdeal.τ).loc Cert.UpDxOneReferenceIdeal.main_arg3) = m' ((c.tc : Thread Cert.UpDxOneReferenceIdeal.nD Cert.UpDxOneReferenceIdeal.τ).loc Cert.UpDxOneReferenceIdeal.main_arg3)
          ∧ r.2.mem ((c.tc : Thread Cert.UpDxOneReferenceIdeal.nD Cert.UpDxOneReferenceIdeal.τ).loc Cert.UpDxOneReferenceIdeal.main_arg4) = m' ((c.tc : Thread Cert.UpDxOneReferenceIdeal.nD Cert.UpDxOneReferenceIdeal.τ).loc Cert.UpDxOneReferenceIdeal.main_arg4))

def preserves_UpDxTop_UpDxTopIdeal : Prop :=
  True

def algebraic_UpDxTopIdeal_UpDxTopReferenceIdeal [hUpDxTopIdeal : Cert.UpDxTopIdeal.Facts] [hUpDxTopReferenceIdeal : Cert.UpDxTopReferenceIdeal.Facts] : Prop :=
  ∀ (m : (ℓ : Loc Cert.UpDxTopIdeal.nD Cert.UpDxTopIdeal.τ Cert.UpDxTopIdeal.sig) → Buf (Elt Ideal) ℓ) (g : Dev Cert.UpDxTopIdeal.nD → PrngReg)
    (m' : (ℓ : Loc Cert.UpDxTopReferenceIdeal.nD Cert.UpDxTopReferenceIdeal.τ Cert.UpDxTopReferenceIdeal.sig) → Buf (Elt Ideal) ℓ) (g' : Dev Cert.UpDxTopReferenceIdeal.nD → PrngReg), Pre_UpDxTopIdeal m →
    (∀ c : Dev Cert.UpDxTopIdeal.nD,
      m' ((c.tc : Thread Cert.UpDxTopReferenceIdeal.nD Cert.UpDxTopReferenceIdeal.τ).loc Cert.UpDxTopReferenceIdeal.main_arg0) = m ((c.tc : Thread Cert.UpDxTopIdeal.nD Cert.UpDxTopIdeal.τ).loc Cert.UpDxTopIdeal.main_arg0)
      ∧ m' ((c.tc : Thread Cert.UpDxTopReferenceIdeal.nD Cert.UpDxTopReferenceIdeal.τ).loc Cert.UpDxTopReferenceIdeal.main_arg1) = m ((c.tc : Thread Cert.UpDxTopIdeal.nD Cert.UpDxTopIdeal.τ).loc Cert.UpDxTopIdeal.main_arg1)
      ∧ m' ((c.tc : Thread Cert.UpDxTopReferenceIdeal.nD Cert.UpDxTopReferenceIdeal.τ).loc Cert.UpDxTopReferenceIdeal.main_arg2) = m ((c.tc : Thread Cert.UpDxTopIdeal.nD Cert.UpDxTopIdeal.τ).loc Cert.UpDxTopIdeal.main_arg2)
      ∧ m' ((c.tc : Thread Cert.UpDxTopReferenceIdeal.nD Cert.UpDxTopReferenceIdeal.τ).loc Cert.UpDxTopReferenceIdeal.main_arg3) = m ((c.tc : Thread Cert.UpDxTopIdeal.nD Cert.UpDxTopIdeal.τ).loc Cert.UpDxTopIdeal.main_arg3)
      ∧ m' ((c.tc : Thread Cert.UpDxTopReferenceIdeal.nD Cert.UpDxTopReferenceIdeal.τ).loc Cert.UpDxTopReferenceIdeal.main_arg4) = m ((c.tc : Thread Cert.UpDxTopIdeal.nD Cert.UpDxTopIdeal.τ).loc Cert.UpDxTopIdeal.main_arg4)) →
    ∃ (v0 : (c : Dev Cert.UpDxTopIdeal.nD) → Buf (Elt Ideal) ((c.tc : Thread Cert.UpDxTopIdeal.nD Cert.UpDxTopIdeal.τ).loc Cert.UpDxTopIdeal.main_v6_0)) (v1 : (c : Dev Cert.UpDxTopIdeal.nD) → Buf (Elt Ideal) ((c.tc : Thread Cert.UpDxTopIdeal.nD Cert.UpDxTopIdeal.τ).loc Cert.UpDxTopIdeal.main_v6_1)),
      θ_run (Cert.UpDxTopIdeal.defs (F := Ideal)) (onTc (τ := Cert.UpDxTopIdeal.τ) (Cert.UpDxTopIdeal.main (F := Ideal))) ⟨m, fun _ => 0, g⟩ (fun r => ∀ c : Dev Cert.UpDxTopIdeal.nD,
          r.2.mem ((c.tc : Thread Cert.UpDxTopIdeal.nD Cert.UpDxTopIdeal.τ).loc Cert.UpDxTopIdeal.main_v6_0) = v0 c
          ∧ r.2.mem ((c.tc : Thread Cert.UpDxTopIdeal.nD Cert.UpDxTopIdeal.τ).loc Cert.UpDxTopIdeal.main_v6_1) = v1 c
          ∧ r.2.mem ((c.tc : Thread Cert.UpDxTopIdeal.nD Cert.UpDxTopIdeal.τ).loc Cert.UpDxTopIdeal.main_arg0) = m ((c.tc : Thread Cert.UpDxTopIdeal.nD Cert.UpDxTopIdeal.τ).loc Cert.UpDxTopIdeal.main_arg0)
          ∧ r.2.mem ((c.tc : Thread Cert.UpDxTopIdeal.nD Cert.UpDxTopIdeal.τ).loc Cert.UpDxTopIdeal.main_arg1) = m ((c.tc : Thread Cert.UpDxTopIdeal.nD Cert.UpDxTopIdeal.τ).loc Cert.UpDxTopIdeal.main_arg1)
          ∧ r.2.mem ((c.tc : Thread Cert.UpDxTopIdeal.nD Cert.UpDxTopIdeal.τ).loc Cert.UpDxTopIdeal.main_arg2) = m ((c.tc : Thread Cert.UpDxTopIdeal.nD Cert.UpDxTopIdeal.τ).loc Cert.UpDxTopIdeal.main_arg2)
          ∧ r.2.mem ((c.tc : Thread Cert.UpDxTopIdeal.nD Cert.UpDxTopIdeal.τ).loc Cert.UpDxTopIdeal.main_arg3) = m ((c.tc : Thread Cert.UpDxTopIdeal.nD Cert.UpDxTopIdeal.τ).loc Cert.UpDxTopIdeal.main_arg3)
          ∧ r.2.mem ((c.tc : Thread Cert.UpDxTopIdeal.nD Cert.UpDxTopIdeal.τ).loc Cert.UpDxTopIdeal.main_arg4) = m ((c.tc : Thread Cert.UpDxTopIdeal.nD Cert.UpDxTopIdeal.τ).loc Cert.UpDxTopIdeal.main_arg4))
      ∧ θ_run (Cert.UpDxTopReferenceIdeal.defs (F := Ideal)) (onTc (τ := Cert.UpDxTopReferenceIdeal.τ) (Cert.UpDxTopReferenceIdeal.main (F := Ideal))) ⟨m', fun _ => 0, g'⟩ (fun r => ∀ c : Dev Cert.UpDxTopReferenceIdeal.nD,
          r.2.mem ((c.tc : Thread Cert.UpDxTopReferenceIdeal.nD Cert.UpDxTopReferenceIdeal.τ).loc Cert.UpDxTopReferenceIdeal.main_v41) = v0 c
          ∧ r.2.mem ((c.tc : Thread Cert.UpDxTopReferenceIdeal.nD Cert.UpDxTopReferenceIdeal.τ).loc Cert.UpDxTopReferenceIdeal.main_v42) = v1 c
          ∧ r.2.mem ((c.tc : Thread Cert.UpDxTopReferenceIdeal.nD Cert.UpDxTopReferenceIdeal.τ).loc Cert.UpDxTopReferenceIdeal.main_arg0) = m' ((c.tc : Thread Cert.UpDxTopReferenceIdeal.nD Cert.UpDxTopReferenceIdeal.τ).loc Cert.UpDxTopReferenceIdeal.main_arg0)
          ∧ r.2.mem ((c.tc : Thread Cert.UpDxTopReferenceIdeal.nD Cert.UpDxTopReferenceIdeal.τ).loc Cert.UpDxTopReferenceIdeal.main_arg1) = m' ((c.tc : Thread Cert.UpDxTopReferenceIdeal.nD Cert.UpDxTopReferenceIdeal.τ).loc Cert.UpDxTopReferenceIdeal.main_arg1)
          ∧ r.2.mem ((c.tc : Thread Cert.UpDxTopReferenceIdeal.nD Cert.UpDxTopReferenceIdeal.τ).loc Cert.UpDxTopReferenceIdeal.main_arg2) = m' ((c.tc : Thread Cert.UpDxTopReferenceIdeal.nD Cert.UpDxTopReferenceIdeal.τ).loc Cert.UpDxTopReferenceIdeal.main_arg2)
          ∧ r.2.mem ((c.tc : Thread Cert.UpDxTopReferenceIdeal.nD Cert.UpDxTopReferenceIdeal.τ).loc Cert.UpDxTopReferenceIdeal.main_arg3) = m' ((c.tc : Thread Cert.UpDxTopReferenceIdeal.nD Cert.UpDxTopReferenceIdeal.τ).loc Cert.UpDxTopReferenceIdeal.main_arg3)
          ∧ r.2.mem ((c.tc : Thread Cert.UpDxTopReferenceIdeal.nD Cert.UpDxTopReferenceIdeal.τ).loc Cert.UpDxTopReferenceIdeal.main_arg4) = m' ((c.tc : Thread Cert.UpDxTopReferenceIdeal.nD Cert.UpDxTopReferenceIdeal.τ).loc Cert.UpDxTopReferenceIdeal.main_arg4))

def preserves_UpDw_UpDwIdeal : Prop :=
  True

def algebraic_UpDwIdeal_UpDwReferenceIdeal [hUpDwIdeal : Cert.UpDwIdeal.Facts] [hUpDwReferenceIdeal : Cert.UpDwReferenceIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwReferenceIdeal.nD Cert.UpDwReferenceIdeal.τ Cert.UpDwReferenceIdeal.sig) → Buf (Elt Ideal) ℓ) (g' : Dev Cert.UpDwReferenceIdeal.nD → PrngReg), Pre_UpDwIdeal m →
    (∀ c : Dev Cert.UpDwIdeal.nD,
      m' ((c.tc : Thread Cert.UpDwReferenceIdeal.nD Cert.UpDwReferenceIdeal.τ).loc Cert.UpDwReferenceIdeal.main_arg0) = m ((c.tc : Thread Cert.UpDwIdeal.nD Cert.UpDwIdeal.τ).loc Cert.UpDwIdeal.main_arg0)
      ∧ m' ((c.tc : Thread Cert.UpDwReferenceIdeal.nD Cert.UpDwReferenceIdeal.τ).loc Cert.UpDwReferenceIdeal.main_arg1) = m ((c.tc : Thread Cert.UpDwIdeal.nD Cert.UpDwIdeal.τ).loc Cert.UpDwIdeal.main_arg1)
      ∧ m' ((c.tc : Thread Cert.UpDwReferenceIdeal.nD Cert.UpDwReferenceIdeal.τ).loc Cert.UpDwReferenceIdeal.main_arg2) = m ((c.tc : Thread Cert.UpDwIdeal.nD Cert.UpDwIdeal.τ).loc Cert.UpDwIdeal.main_arg2)) →
    ∃ (v0 : (c : Dev Cert.UpDwIdeal.nD) → Buf (Elt Ideal) ((c.tc : Thread Cert.UpDwIdeal.nD Cert.UpDwIdeal.τ).loc Cert.UpDwIdeal.main_v2)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v2) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
          ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ θ_run (Cert.UpDwReferenceIdeal.defs (F := Ideal)) (onTc (τ := Cert.UpDwReferenceIdeal.τ) (Cert.UpDwReferenceIdeal.main (F := Ideal))) ⟨m', fun _ => 0, g'⟩ (fun r => ∀ c : Dev Cert.UpDwReferenceIdeal.nD,
          r.2.mem ((c.tc : Thread Cert.UpDwReferenceIdeal.nD Cert.UpDwReferenceIdeal.τ).loc Cert.UpDwReferenceIdeal.main_v8) = v0 c
          ∧ r.2.mem ((c.tc : Thread Cert.UpDwReferenceIdeal.nD Cert.UpDwReferenceIdeal.τ).loc Cert.UpDwReferenceIdeal.main_arg0) = m' ((c.tc : Thread Cert.UpDwReferenceIdeal.nD Cert.UpDwReferenceIdeal.τ).loc Cert.UpDwReferenceIdeal.main_arg0)
          ∧ r.2.mem ((c.tc : Thread Cert.UpDwReferenceIdeal.nD Cert.UpDwReferenceIdeal.τ).loc Cert.UpDwReferenceIdeal.main_arg1) = m' ((c.tc : Thread Cert.UpDwReferenceIdeal.nD Cert.UpDwReferenceIdeal.τ).loc Cert.UpDwReferenceIdeal.main_arg1)
          ∧ r.2.mem ((c.tc : Thread Cert.UpDwReferenceIdeal.nD Cert.UpDwReferenceIdeal.τ).loc Cert.UpDwReferenceIdeal.main_arg2) = m' ((c.tc : Thread Cert.UpDwReferenceIdeal.nD Cert.UpDwReferenceIdeal.τ).loc Cert.UpDwReferenceIdeal.main_arg2))

def preserves_DownDxOne_DownDxOneIdeal : Prop :=
  True

def algebraic_DownDxOneIdeal_DownDxOneReferenceIdeal [hDownDxOneIdeal : Cert.DownDxOneIdeal.Facts] [hDownDxOneReferenceIdeal : Cert.DownDxOneReferenceIdeal.Facts] : Prop :=
  ∀ (m : (ℓ : Loc Cert.DownDxOneIdeal.nD Cert.DownDxOneIdeal.τ Cert.DownDxOneIdeal.sig) → Buf (Elt Ideal) ℓ) (g : Dev Cert.DownDxOneIdeal.nD → PrngReg)
    (m' : (ℓ : Loc Cert.DownDxOneReferenceIdeal.nD Cert.DownDxOneReferenceIdeal.τ Cert.DownDxOneReferenceIdeal.sig) → Buf (Elt Ideal) ℓ) (g' : Dev Cert.DownDxOneReferenceIdeal.nD → PrngReg), Pre_DownDxOneIdeal m →
    (∀ c : Dev Cert.DownDxOneIdeal.nD,
      m' ((c.tc : Thread Cert.DownDxOneReferenceIdeal.nD Cert.DownDxOneReferenceIdeal.τ).loc Cert.DownDxOneReferenceIdeal.main_arg0) = m ((c.tc : Thread Cert.DownDxOneIdeal.nD Cert.DownDxOneIdeal.τ).loc Cert.DownDxOneIdeal.main_arg0)
      ∧ m' ((c.tc : Thread Cert.DownDxOneReferenceIdeal.nD Cert.DownDxOneReferenceIdeal.τ).loc Cert.DownDxOneReferenceIdeal.main_arg1) = m ((c.tc : Thread Cert.DownDxOneIdeal.nD Cert.DownDxOneIdeal.τ).loc Cert.DownDxOneIdeal.main_arg1)
      ∧ m' ((c.tc : Thread Cert.DownDxOneReferenceIdeal.nD Cert.DownDxOneReferenceIdeal.τ).loc Cert.DownDxOneReferenceIdeal.main_arg2) = m ((c.tc : Thread Cert.DownDxOneIdeal.nD Cert.DownDxOneIdeal.τ).loc Cert.DownDxOneIdeal.main_arg2)) →
    ∃ (v0 : (c : Dev Cert.DownDxOneIdeal.nD) → Buf (Elt Ideal) ((c.tc : Thread Cert.DownDxOneIdeal.nD Cert.DownDxOneIdeal.τ).loc Cert.DownDxOneIdeal.main_v2)),
      θ_run (Cert.DownDxOneIdeal.defs (F := Ideal)) (onTc (τ := Cert.DownDxOneIdeal.τ) (Cert.DownDxOneIdeal.main (F := Ideal))) ⟨m, fun _ => 0, g⟩ (fun r => ∀ c : Dev Cert.DownDxOneIdeal.nD,
          r.2.mem ((c.tc : Thread Cert.DownDxOneIdeal.nD Cert.DownDxOneIdeal.τ).loc Cert.DownDxOneIdeal.main_v2) = v0 c
          ∧ r.2.mem ((c.tc : Thread Cert.DownDxOneIdeal.nD Cert.DownDxOneIdeal.τ).loc Cert.DownDxOneIdeal.main_arg0) = m ((c.tc : Thread Cert.DownDxOneIdeal.nD Cert.DownDxOneIdeal.τ).loc Cert.DownDxOneIdeal.main_arg0)
          ∧ r.2.mem ((c.tc : Thread Cert.DownDxOneIdeal.nD Cert.DownDxOneIdeal.τ).loc Cert.DownDxOneIdeal.main_arg1) = m ((c.tc : Thread Cert.DownDxOneIdeal.nD Cert.DownDxOneIdeal.τ).loc Cert.DownDxOneIdeal.main_arg1)
          ∧ r.2.mem ((c.tc : Thread Cert.DownDxOneIdeal.nD Cert.DownDxOneIdeal.τ).loc Cert.DownDxOneIdeal.main_arg2) = m ((c.tc : Thread Cert.DownDxOneIdeal.nD Cert.DownDxOneIdeal.τ).loc Cert.DownDxOneIdeal.main_arg2))
      ∧ θ_run (Cert.DownDxOneReferenceIdeal.defs (F := Ideal)) (onTc (τ := Cert.DownDxOneReferenceIdeal.τ) (Cert.DownDxOneReferenceIdeal.main (F := Ideal))) ⟨m', fun _ => 0, g'⟩ (fun r => ∀ c : Dev Cert.DownDxOneReferenceIdeal.nD,
          r.2.mem ((c.tc : Thread Cert.DownDxOneReferenceIdeal.nD Cert.DownDxOneReferenceIdeal.τ).loc Cert.DownDxOneReferenceIdeal.main_v13) = v0 c
          ∧ r.2.mem ((c.tc : Thread Cert.DownDxOneReferenceIdeal.nD Cert.DownDxOneReferenceIdeal.τ).loc Cert.DownDxOneReferenceIdeal.main_arg0) = m' ((c.tc : Thread Cert.DownDxOneReferenceIdeal.nD Cert.DownDxOneReferenceIdeal.τ).loc Cert.DownDxOneReferenceIdeal.main_arg0)
          ∧ r.2.mem ((c.tc : Thread Cert.DownDxOneReferenceIdeal.nD Cert.DownDxOneReferenceIdeal.τ).loc Cert.DownDxOneReferenceIdeal.main_arg1) = m' ((c.tc : Thread Cert.DownDxOneReferenceIdeal.nD Cert.DownDxOneReferenceIdeal.τ).loc Cert.DownDxOneReferenceIdeal.main_arg1)
          ∧ r.2.mem ((c.tc : Thread Cert.DownDxOneReferenceIdeal.nD Cert.DownDxOneReferenceIdeal.τ).loc Cert.DownDxOneReferenceIdeal.main_arg2) = m' ((c.tc : Thread Cert.DownDxOneReferenceIdeal.nD Cert.DownDxOneReferenceIdeal.τ).loc Cert.DownDxOneReferenceIdeal.main_arg2))

def preserves_DownDxTwo_DownDxTwoIdeal : Prop :=
  True

def algebraic_DownDxTwoIdeal_DownDxTwoReferenceIdeal [hDownDxTwoIdeal : Cert.DownDxTwoIdeal.Facts] [hDownDxTwoReferenceIdeal : Cert.DownDxTwoReferenceIdeal.Facts] : Prop :=
  ∀ (m : (ℓ : Loc Cert.DownDxTwoIdeal.nD Cert.DownDxTwoIdeal.τ Cert.DownDxTwoIdeal.sig) → Buf (Elt Ideal) ℓ) (g : Dev Cert.DownDxTwoIdeal.nD → PrngReg)
    (m' : (ℓ : Loc Cert.DownDxTwoReferenceIdeal.nD Cert.DownDxTwoReferenceIdeal.τ Cert.DownDxTwoReferenceIdeal.sig) → Buf (Elt Ideal) ℓ) (g' : Dev Cert.DownDxTwoReferenceIdeal.nD → PrngReg), Pre_DownDxTwoIdeal m →
    (∀ c : Dev Cert.DownDxTwoIdeal.nD,
      m' ((c.tc : Thread Cert.DownDxTwoReferenceIdeal.nD Cert.DownDxTwoReferenceIdeal.τ).loc Cert.DownDxTwoReferenceIdeal.main_arg0) = m ((c.tc : Thread Cert.DownDxTwoIdeal.nD Cert.DownDxTwoIdeal.τ).loc Cert.DownDxTwoIdeal.main_arg0)
      ∧ m' ((c.tc : Thread Cert.DownDxTwoReferenceIdeal.nD Cert.DownDxTwoReferenceIdeal.τ).loc Cert.DownDxTwoReferenceIdeal.main_arg1) = m ((c.tc : Thread Cert.DownDxTwoIdeal.nD Cert.DownDxTwoIdeal.τ).loc Cert.DownDxTwoIdeal.main_arg1)
      ∧ m' ((c.tc : Thread Cert.DownDxTwoReferenceIdeal.nD Cert.DownDxTwoReferenceIdeal.τ).loc Cert.DownDxTwoReferenceIdeal.main_arg2) = m ((c.tc : Thread Cert.DownDxTwoIdeal.nD Cert.DownDxTwoIdeal.τ).loc Cert.DownDxTwoIdeal.main_arg2)) →
    ∃ (v0 : (c : Dev Cert.DownDxTwoIdeal.nD) → Buf (Elt Ideal) ((c.tc : Thread Cert.DownDxTwoIdeal.nD Cert.DownDxTwoIdeal.τ).loc Cert.DownDxTwoIdeal.main_v2)),
      θ_run (Cert.DownDxTwoIdeal.defs (F := Ideal)) (onTc (τ := Cert.DownDxTwoIdeal.τ) (Cert.DownDxTwoIdeal.main (F := Ideal))) ⟨m, fun _ => 0, g⟩ (fun r => ∀ c : Dev Cert.DownDxTwoIdeal.nD,
          r.2.mem ((c.tc : Thread Cert.DownDxTwoIdeal.nD Cert.DownDxTwoIdeal.τ).loc Cert.DownDxTwoIdeal.main_v2) = v0 c
          ∧ r.2.mem ((c.tc : Thread Cert.DownDxTwoIdeal.nD Cert.DownDxTwoIdeal.τ).loc Cert.DownDxTwoIdeal.main_arg0) = m ((c.tc : Thread Cert.DownDxTwoIdeal.nD Cert.DownDxTwoIdeal.τ).loc Cert.DownDxTwoIdeal.main_arg0)
          ∧ r.2.mem ((c.tc : Thread Cert.DownDxTwoIdeal.nD Cert.DownDxTwoIdeal.τ).loc Cert.DownDxTwoIdeal.main_arg1) = m ((c.tc : Thread Cert.DownDxTwoIdeal.nD Cert.DownDxTwoIdeal.τ).loc Cert.DownDxTwoIdeal.main_arg1)
          ∧ r.2.mem ((c.tc : Thread Cert.DownDxTwoIdeal.nD Cert.DownDxTwoIdeal.τ).loc Cert.DownDxTwoIdeal.main_arg2) = m ((c.tc : Thread Cert.DownDxTwoIdeal.nD Cert.DownDxTwoIdeal.τ).loc Cert.DownDxTwoIdeal.main_arg2))
      ∧ θ_run (Cert.DownDxTwoReferenceIdeal.defs (F := Ideal)) (onTc (τ := Cert.DownDxTwoReferenceIdeal.τ) (Cert.DownDxTwoReferenceIdeal.main (F := Ideal))) ⟨m', fun _ => 0, g'⟩ (fun r => ∀ c : Dev Cert.DownDxTwoReferenceIdeal.nD,
          r.2.mem ((c.tc : Thread Cert.DownDxTwoReferenceIdeal.nD Cert.DownDxTwoReferenceIdeal.τ).loc Cert.DownDxTwoReferenceIdeal.main_v14) = v0 c
          ∧ r.2.mem ((c.tc : Thread Cert.DownDxTwoReferenceIdeal.nD Cert.DownDxTwoReferenceIdeal.τ).loc Cert.DownDxTwoReferenceIdeal.main_arg0) = m' ((c.tc : Thread Cert.DownDxTwoReferenceIdeal.nD Cert.DownDxTwoReferenceIdeal.τ).loc Cert.DownDxTwoReferenceIdeal.main_arg0)
          ∧ r.2.mem ((c.tc : Thread Cert.DownDxTwoReferenceIdeal.nD Cert.DownDxTwoReferenceIdeal.τ).loc Cert.DownDxTwoReferenceIdeal.main_arg1) = m' ((c.tc : Thread Cert.DownDxTwoReferenceIdeal.nD Cert.DownDxTwoReferenceIdeal.τ).loc Cert.DownDxTwoReferenceIdeal.main_arg1)
          ∧ r.2.mem ((c.tc : Thread Cert.DownDxTwoReferenceIdeal.nD Cert.DownDxTwoReferenceIdeal.τ).loc Cert.DownDxTwoReferenceIdeal.main_arg2) = m' ((c.tc : Thread Cert.DownDxTwoReferenceIdeal.nD Cert.DownDxTwoReferenceIdeal.τ).loc Cert.DownDxTwoReferenceIdeal.main_arg2))

def preserves_InDx_InDxIdeal : Prop :=
  True

def algebraic_InDxIdeal_InDxReferenceIdeal [hInDxIdeal : Cert.InDxIdeal.Facts] [hInDxReferenceIdeal : Cert.InDxReferenceIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxReferenceIdeal.nD Cert.InDxReferenceIdeal.τ Cert.InDxReferenceIdeal.sig) → Buf (Elt Ideal) ℓ) (g' : Dev Cert.InDxReferenceIdeal.nD → PrngReg), Pre_InDxIdeal m →
    (∀ c : Dev Cert.InDxIdeal.nD,
      m' ((c.tc : Thread Cert.InDxReferenceIdeal.nD Cert.InDxReferenceIdeal.τ).loc Cert.InDxReferenceIdeal.main_arg0) = m ((c.tc : Thread Cert.InDxIdeal.nD Cert.InDxIdeal.τ).loc Cert.InDxIdeal.main_arg0)
      ∧ m' ((c.tc : Thread Cert.InDxReferenceIdeal.nD Cert.InDxReferenceIdeal.τ).loc Cert.InDxReferenceIdeal.main_arg1) = m ((c.tc : Thread Cert.InDxIdeal.nD Cert.InDxIdeal.τ).loc Cert.InDxIdeal.main_arg1)
      ∧ m' ((c.tc : Thread Cert.InDxReferenceIdeal.nD Cert.InDxReferenceIdeal.τ).loc Cert.InDxReferenceIdeal.main_arg2) = m ((c.tc : Thread Cert.InDxIdeal.nD Cert.InDxIdeal.τ).loc Cert.InDxIdeal.main_arg2)
      ∧ m' ((c.tc : Thread Cert.InDxReferenceIdeal.nD Cert.InDxReferenceIdeal.τ).loc Cert.InDxReferenceIdeal.main_arg3) = m ((c.tc : Thread Cert.InDxIdeal.nD Cert.InDxIdeal.τ).loc Cert.InDxIdeal.main_arg3)
      ∧ m' ((c.tc : Thread Cert.InDxReferenceIdeal.nD Cert.InDxReferenceIdeal.τ).loc Cert.InDxReferenceIdeal.main_arg4) = m ((c.tc : Thread Cert.InDxIdeal.nD Cert.InDxIdeal.τ).loc Cert.InDxIdeal.main_arg4)) →
    ∃ (v0 : (c : Dev Cert.InDxIdeal.nD) → Buf (Elt Ideal) ((c.tc : Thread Cert.InDxIdeal.nD Cert.InDxIdeal.τ).loc Cert.InDxIdeal.main_v8_0)) (v1 : (c : Dev Cert.InDxIdeal.nD) → Buf (Elt Ideal) ((c.tc : Thread Cert.InDxIdeal.nD Cert.InDxIdeal.τ).loc Cert.InDxIdeal.main_v8_1)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v8_0) = v0 c
          ∧ r.2.mem ((c.tc : Thread Cert.InDxIdeal.nD Cert.InDxIdeal.τ).loc Cert.InDxIdeal.main_v8_1) = v1 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ θ_run (Cert.InDxReferenceIdeal.defs (F := Ideal)) (onTc (τ := Cert.InDxReferenceIdeal.τ) (Cert.InDxReferenceIdeal.main (F := Ideal))) ⟨m', fun _ => 0, g'⟩ (fun r => ∀ c : Dev Cert.InDxReferenceIdeal.nD,
          r.2.mem ((c.tc : Thread Cert.InDxReferenceIdeal.nD Cert.InDxReferenceIdeal.τ).loc Cert.InDxReferenceIdeal.main_v39) = v0 c
          ∧ r.2.mem ((c.tc : Thread Cert.InDxReferenceIdeal.nD Cert.InDxReferenceIdeal.τ).loc Cert.InDxReferenceIdeal.main_v40) = v1 c
          ∧ r.2.mem ((c.tc : Thread Cert.InDxReferenceIdeal.nD Cert.InDxReferenceIdeal.τ).loc Cert.InDxReferenceIdeal.main_arg0) = m' ((c.tc : Thread Cert.InDxReferenceIdeal.nD Cert.InDxReferenceIdeal.τ).loc Cert.InDxReferenceIdeal.main_arg0)
          ∧ r.2.mem ((c.tc : Thread Cert.InDxReferenceIdeal.nD Cert.InDxReferenceIdeal.τ).loc Cert.InDxReferenceIdeal.main_arg1) = m' ((c.tc : Thread Cert.InDxReferenceIdeal.nD Cert.InDxReferenceIdeal.τ).loc Cert.InDxReferenceIdeal.main_arg1)
          ∧ r.2.mem ((c.tc : Thread Cert.InDxReferenceIdeal.nD Cert.InDxReferenceIdeal.τ).loc Cert.InDxReferenceIdeal.main_arg2) = m' ((c.tc : Thread Cert.InDxReferenceIdeal.nD Cert.InDxReferenceIdeal.τ).loc Cert.InDxReferenceIdeal.main_arg2)
          ∧ r.2.mem ((c.tc : Thread Cert.InDxReferenceIdeal.nD Cert.InDxReferenceIdeal.τ).loc Cert.InDxReferenceIdeal.main_arg3) = m' ((c.tc : Thread Cert.InDxReferenceIdeal.nD Cert.InDxReferenceIdeal.τ).loc Cert.InDxReferenceIdeal.main_arg3)
          ∧ r.2.mem ((c.tc : Thread Cert.InDxReferenceIdeal.nD Cert.InDxReferenceIdeal.τ).loc Cert.InDxReferenceIdeal.main_arg4) = m' ((c.tc : Thread Cert.InDxReferenceIdeal.nD Cert.InDxReferenceIdeal.τ).loc Cert.InDxReferenceIdeal.main_arg4))

def preserves_InDw_InDwIdeal : Prop :=
  True

def algebraic_InDwIdeal_InDwReferenceIdeal [hInDwIdeal : Cert.InDwIdeal.Facts] [hInDwReferenceIdeal : Cert.InDwReferenceIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwReferenceIdeal.nD Cert.InDwReferenceIdeal.τ Cert.InDwReferenceIdeal.sig) → Buf (Elt Ideal) ℓ) (g' : Dev Cert.InDwReferenceIdeal.nD → PrngReg), Pre_InDwIdeal m →
    (∀ c : Dev Cert.InDwIdeal.nD,
      m' ((c.tc : Thread Cert.InDwReferenceIdeal.nD Cert.InDwReferenceIdeal.τ).loc Cert.InDwReferenceIdeal.main_arg0) = m ((c.tc : Thread Cert.InDwIdeal.nD Cert.InDwIdeal.τ).loc Cert.InDwIdeal.main_arg0)
      ∧ m' ((c.tc : Thread Cert.InDwReferenceIdeal.nD Cert.InDwReferenceIdeal.τ).loc Cert.InDwReferenceIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v3)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v3) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwReferenceIdeal.defs (F := Ideal)) (onTc (τ := Cert.InDwReferenceIdeal.τ) (Cert.InDwReferenceIdeal.main (F := Ideal))) ⟨m', fun _ => 0, g'⟩ (fun r => ∀ c : Dev Cert.InDwReferenceIdeal.nD,
          r.2.mem ((c.tc : Thread Cert.InDwReferenceIdeal.nD Cert.InDwReferenceIdeal.τ).loc Cert.InDwReferenceIdeal.main_v5) = v0 c
          ∧ r.2.mem ((c.tc : Thread Cert.InDwReferenceIdeal.nD Cert.InDwReferenceIdeal.τ).loc Cert.InDwReferenceIdeal.main_arg0) = m' ((c.tc : Thread Cert.InDwReferenceIdeal.nD Cert.InDwReferenceIdeal.τ).loc Cert.InDwReferenceIdeal.main_arg0)
          ∧ r.2.mem ((c.tc : Thread Cert.InDwReferenceIdeal.nD Cert.InDwReferenceIdeal.τ).loc Cert.InDwReferenceIdeal.main_arg1) = m' ((c.tc : Thread Cert.InDwReferenceIdeal.nD Cert.InDwReferenceIdeal.τ).loc Cert.InDwReferenceIdeal.main_arg1))

def preserves_OutDw_OutDwIdeal : Prop :=
  True

def algebraic_OutDwIdeal_OutDwReferenceIdeal [hOutDwIdeal : Cert.OutDwIdeal.Facts] [hOutDwReferenceIdeal : Cert.OutDwReferenceIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwReferenceIdeal.nD Cert.OutDwReferenceIdeal.τ Cert.OutDwReferenceIdeal.sig) → Buf (Elt Ideal) ℓ) (g' : Dev Cert.OutDwReferenceIdeal.nD → PrngReg), Pre_OutDwIdeal m →
    (∀ c : Dev Cert.OutDwIdeal.nD,
      m' ((c.tc : Thread Cert.OutDwReferenceIdeal.nD Cert.OutDwReferenceIdeal.τ).loc Cert.OutDwReferenceIdeal.main_arg0) = m ((c.tc : Thread Cert.OutDwIdeal.nD Cert.OutDwIdeal.τ).loc Cert.OutDwIdeal.main_arg0)
      ∧ m' ((c.tc : Thread Cert.OutDwReferenceIdeal.nD Cert.OutDwReferenceIdeal.τ).loc Cert.OutDwReferenceIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v1)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v1) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwReferenceIdeal.defs (F := Ideal)) (onTc (τ := Cert.OutDwReferenceIdeal.τ) (Cert.OutDwReferenceIdeal.main (F := Ideal))) ⟨m', fun _ => 0, g'⟩ (fun r => ∀ c : Dev Cert.OutDwReferenceIdeal.nD,
          r.2.mem ((c.tc : Thread Cert.OutDwReferenceIdeal.nD Cert.OutDwReferenceIdeal.τ).loc Cert.OutDwReferenceIdeal.main_v4) = v0 c
          ∧ r.2.mem ((c.tc : Thread Cert.OutDwReferenceIdeal.nD Cert.OutDwReferenceIdeal.τ).loc Cert.OutDwReferenceIdeal.main_arg0) = m' ((c.tc : Thread Cert.OutDwReferenceIdeal.nD Cert.OutDwReferenceIdeal.τ).loc Cert.OutDwReferenceIdeal.main_arg0)
          ∧ r.2.mem ((c.tc : Thread Cert.OutDwReferenceIdeal.nD Cert.OutDwReferenceIdeal.τ).loc Cert.OutDwReferenceIdeal.main_arg1) = m' ((c.tc : Thread Cert.OutDwReferenceIdeal.nD Cert.OutDwReferenceIdeal.τ).loc Cert.OutDwReferenceIdeal.main_arg1))

def preserves_OutDx_OutDxIdeal : Prop :=
  True

def algebraic_OutDxIdeal_OutDxReferenceIdeal [hOutDxIdeal : Cert.OutDxIdeal.Facts] [hOutDxReferenceIdeal : Cert.OutDxReferenceIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxReferenceIdeal.nD Cert.OutDxReferenceIdeal.τ Cert.OutDxReferenceIdeal.sig) → Buf (Elt Ideal) ℓ) (g' : Dev Cert.OutDxReferenceIdeal.nD → PrngReg), Pre_OutDxIdeal m →
    (∀ c : Dev Cert.OutDxIdeal.nD,
      m' ((c.tc : Thread Cert.OutDxReferenceIdeal.nD Cert.OutDxReferenceIdeal.τ).loc Cert.OutDxReferenceIdeal.main_arg0) = m ((c.tc : Thread Cert.OutDxIdeal.nD Cert.OutDxIdeal.τ).loc Cert.OutDxIdeal.main_arg0)
      ∧ m' ((c.tc : Thread Cert.OutDxReferenceIdeal.nD Cert.OutDxReferenceIdeal.τ).loc Cert.OutDxReferenceIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v1)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v1) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxReferenceIdeal.defs (F := Ideal)) (onTc (τ := Cert.OutDxReferenceIdeal.τ) (Cert.OutDxReferenceIdeal.main (F := Ideal))) ⟨m', fun _ => 0, g'⟩ (fun r => ∀ c : Dev Cert.OutDxReferenceIdeal.nD,
          r.2.mem ((c.tc : Thread Cert.OutDxReferenceIdeal.nD Cert.OutDxReferenceIdeal.τ).loc Cert.OutDxReferenceIdeal.main_v3) = v0 c
          ∧ r.2.mem ((c.tc : Thread Cert.OutDxReferenceIdeal.nD Cert.OutDxReferenceIdeal.τ).loc Cert.OutDxReferenceIdeal.main_arg0) = m' ((c.tc : Thread Cert.OutDxReferenceIdeal.nD Cert.OutDxReferenceIdeal.τ).loc Cert.OutDxReferenceIdeal.main_arg0)
          ∧ r.2.mem ((c.tc : Thread Cert.OutDxReferenceIdeal.nD Cert.OutDxReferenceIdeal.τ).loc Cert.OutDxReferenceIdeal.main_arg1) = m' ((c.tc : Thread Cert.OutDxReferenceIdeal.nD Cert.OutDxReferenceIdeal.τ).loc Cert.OutDxReferenceIdeal.main_arg1))

def preserves_SsdIn_SsdInIdeal : Prop :=
  True

def algebraic_SsdInIdeal_SsdInReferenceIdeal [hSsdInIdeal : Cert.SsdInIdeal.Facts] [hSsdInReferenceIdeal : Cert.SsdInReferenceIdeal.Facts] : Prop :=
  ∀ (m : (ℓ : Loc Cert.SsdInIdeal.nD Cert.SsdInIdeal.τ Cert.SsdInIdeal.sig) → Buf (Elt Ideal) ℓ) (g : Dev Cert.SsdInIdeal.nD → PrngReg)
    (m' : (ℓ : Loc Cert.SsdInReferenceIdeal.nD Cert.SsdInReferenceIdeal.τ Cert.SsdInReferenceIdeal.sig) → Buf (Elt Ideal) ℓ) (g' : Dev Cert.SsdInReferenceIdeal.nD → PrngReg), Pre_SsdInIdeal m →
    (∀ c : Dev Cert.SsdInIdeal.nD,
      m' ((c.tc : Thread Cert.SsdInReferenceIdeal.nD Cert.SsdInReferenceIdeal.τ).loc Cert.SsdInReferenceIdeal.main_arg0) = m ((c.tc : Thread Cert.SsdInIdeal.nD Cert.SsdInIdeal.τ).loc Cert.SsdInIdeal.main_arg0)
      ∧ m' ((c.tc : Thread Cert.SsdInReferenceIdeal.nD Cert.SsdInReferenceIdeal.τ).loc Cert.SsdInReferenceIdeal.main_arg1) = m ((c.tc : Thread Cert.SsdInIdeal.nD Cert.SsdInIdeal.τ).loc Cert.SsdInIdeal.main_arg1)) →
    ∃ (v0 : (c : Dev Cert.SsdInIdeal.nD) → Buf (Elt Ideal) ((c.tc : Thread Cert.SsdInIdeal.nD Cert.SsdInIdeal.τ).loc Cert.SsdInIdeal.main_v3)),
      θ_run (Cert.SsdInIdeal.defs (F := Ideal)) (onTc (τ := Cert.SsdInIdeal.τ) (Cert.SsdInIdeal.main (F := Ideal))) ⟨m, fun _ => 0, g⟩ (fun r => ∀ c : Dev Cert.SsdInIdeal.nD,
          r.2.mem ((c.tc : Thread Cert.SsdInIdeal.nD Cert.SsdInIdeal.τ).loc Cert.SsdInIdeal.main_v3) = v0 c
          ∧ r.2.mem ((c.tc : Thread Cert.SsdInIdeal.nD Cert.SsdInIdeal.τ).loc Cert.SsdInIdeal.main_arg0) = m ((c.tc : Thread Cert.SsdInIdeal.nD Cert.SsdInIdeal.τ).loc Cert.SsdInIdeal.main_arg0)
          ∧ r.2.mem ((c.tc : Thread Cert.SsdInIdeal.nD Cert.SsdInIdeal.τ).loc Cert.SsdInIdeal.main_arg1) = m ((c.tc : Thread Cert.SsdInIdeal.nD Cert.SsdInIdeal.τ).loc Cert.SsdInIdeal.main_arg1))
      ∧ θ_run (Cert.SsdInReferenceIdeal.defs (F := Ideal)) (onTc (τ := Cert.SsdInReferenceIdeal.τ) (Cert.SsdInReferenceIdeal.main (F := Ideal))) ⟨m', fun _ => 0, g'⟩ (fun r => ∀ c : Dev Cert.SsdInReferenceIdeal.nD,
          r.2.mem ((c.tc : Thread Cert.SsdInReferenceIdeal.nD Cert.SsdInReferenceIdeal.τ).loc Cert.SsdInReferenceIdeal.main_v1) = v0 c
          ∧ r.2.mem ((c.tc : Thread Cert.SsdInReferenceIdeal.nD Cert.SsdInReferenceIdeal.τ).loc Cert.SsdInReferenceIdeal.main_arg0) = m' ((c.tc : Thread Cert.SsdInReferenceIdeal.nD Cert.SsdInReferenceIdeal.τ).loc Cert.SsdInReferenceIdeal.main_arg0)
          ∧ r.2.mem ((c.tc : Thread Cert.SsdInReferenceIdeal.nD Cert.SsdInReferenceIdeal.τ).loc Cert.SsdInReferenceIdeal.main_arg1) = m' ((c.tc : Thread Cert.SsdInReferenceIdeal.nD Cert.SsdInReferenceIdeal.τ).loc Cert.SsdInReferenceIdeal.main_arg1))

def preserves_SsdOut_SsdOutIdeal : Prop :=
  True

def algebraic_SsdOutIdeal_SsdOutReferenceIdeal [hSsdOutIdeal : Cert.SsdOutIdeal.Facts] [hSsdOutReferenceIdeal : Cert.SsdOutReferenceIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg)
    (m' : (ℓ : Loc Cert.SsdOutReferenceIdeal.nD Cert.SsdOutReferenceIdeal.τ Cert.SsdOutReferenceIdeal.sig) → Buf (Elt Ideal) ℓ) (g' : Dev Cert.SsdOutReferenceIdeal.nD → PrngReg), Pre_SsdOutIdeal m →
    (∀ c : Dev Cert.SsdOutIdeal.nD,
      m' ((c.tc : Thread Cert.SsdOutReferenceIdeal.nD Cert.SsdOutReferenceIdeal.τ).loc Cert.SsdOutReferenceIdeal.main_arg0) = m ((c.tc : Thread Cert.SsdOutIdeal.nD Cert.SsdOutIdeal.τ).loc Cert.SsdOutIdeal.main_arg0)
      ∧ m' ((c.tc : Thread Cert.SsdOutReferenceIdeal.nD Cert.SsdOutReferenceIdeal.τ).loc Cert.SsdOutReferenceIdeal.main_arg1) = m ((c.tc : Thread Cert.SsdOutIdeal.nD Cert.SsdOutIdeal.τ).loc Cert.SsdOutIdeal.main_arg1)
      ∧ m' ((c.tc : Thread Cert.SsdOutReferenceIdeal.nD Cert.SsdOutReferenceIdeal.τ).loc Cert.SsdOutReferenceIdeal.main_arg2) = m ((c.tc : Thread Cert.SsdOutIdeal.nD Cert.SsdOutIdeal.τ).loc Cert.SsdOutIdeal.main_arg2)
      ∧ m' ((c.tc : Thread Cert.SsdOutReferenceIdeal.nD Cert.SsdOutReferenceIdeal.τ).loc Cert.SsdOutReferenceIdeal.main_arg3) = m ((c.tc : Thread Cert.SsdOutIdeal.nD Cert.SsdOutIdeal.τ).loc Cert.SsdOutIdeal.main_arg3)) →
    ∃ (v0 : (c : Dev Cert.SsdOutIdeal.nD) → Buf (Elt Ideal) ((c.tc : Thread Cert.SsdOutIdeal.nD Cert.SsdOutIdeal.τ).loc Cert.SsdOutIdeal.main_v3_0)) (v1 : (c : Dev Cert.SsdOutIdeal.nD) → Buf (Elt Ideal) ((c.tc : Thread Cert.SsdOutIdeal.nD Cert.SsdOutIdeal.τ).loc Cert.SsdOutIdeal.main_v3_1)),
      θ_run (Cert.SsdOutIdeal.defs (F := Ideal)) (onTc (τ := Cert.SsdOutIdeal.τ) (Cert.SsdOutIdeal.main (F := Ideal))) ⟨m, fun _ => 0, g⟩ (fun r => ∀ c : Dev Cert.SsdOutIdeal.nD,
          r.2.mem ((c.tc : Thread Cert.SsdOutIdeal.nD Cert.SsdOutIdeal.τ).loc Cert.SsdOutIdeal.main_v3_0) = v0 c
          ∧ r.2.mem ((c.tc : Thread Cert.SsdOutIdeal.nD Cert.SsdOutIdeal.τ).loc Cert.SsdOutIdeal.main_v3_1) = v1 c
          ∧ r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
          ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1)
          ∧ r.2.mem ((c.tc : Thread Cert.SsdOutIdeal.nD Cert.SsdOutIdeal.τ).loc Cert.SsdOutIdeal.main_arg2) = m ((c.tc : Thread Cert.SsdOutIdeal.nD Cert.SsdOutIdeal.τ).loc Cert.SsdOutIdeal.main_arg2)
          ∧ r.2.mem ((c.tc : Thread Cert.SsdOutIdeal.nD Cert.SsdOutIdeal.τ).loc Cert.SsdOutIdeal.main_arg3) = m ((c.tc : Thread Cert.SsdOutIdeal.nD Cert.SsdOutIdeal.τ).loc Cert.SsdOutIdeal.main_arg3))
      ∧ θ_run (Cert.SsdOutReferenceIdeal.defs (F := Ideal)) (onTc (τ := Cert.SsdOutReferenceIdeal.τ) (Cert.SsdOutReferenceIdeal.main (F := Ideal))) ⟨m', fun _ => 0, g'⟩ (fun r => ∀ c : Dev Cert.SsdOutReferenceIdeal.nD,
          r.2.mem ((c.tc : Thread Cert.SsdOutReferenceIdeal.nD Cert.SsdOutReferenceIdeal.τ).loc Cert.SsdOutReferenceIdeal.main_v2) = v0 c
          ∧ r.2.mem ((c.tc : Thread Cert.SsdOutReferenceIdeal.nD Cert.SsdOutReferenceIdeal.τ).loc Cert.SsdOutReferenceIdeal.main_v16) = v1 c
          ∧ r.2.mem ((c.tc : Thread Cert.SsdOutReferenceIdeal.nD Cert.SsdOutReferenceIdeal.τ).loc Cert.SsdOutReferenceIdeal.main_arg0) = m' ((c.tc : Thread Cert.SsdOutReferenceIdeal.nD Cert.SsdOutReferenceIdeal.τ).loc Cert.SsdOutReferenceIdeal.main_arg0)
          ∧ r.2.mem ((c.tc : Thread Cert.SsdOutReferenceIdeal.nD Cert.SsdOutReferenceIdeal.τ).loc Cert.SsdOutReferenceIdeal.main_arg1) = m' ((c.tc : Thread Cert.SsdOutReferenceIdeal.nD Cert.SsdOutReferenceIdeal.τ).loc Cert.SsdOutReferenceIdeal.main_arg1)
          ∧ r.2.mem ((c.tc : Thread Cert.SsdOutReferenceIdeal.nD Cert.SsdOutReferenceIdeal.τ).loc Cert.SsdOutReferenceIdeal.main_arg2) = m' ((c.tc : Thread Cert.SsdOutReferenceIdeal.nD Cert.SsdOutReferenceIdeal.τ).loc Cert.SsdOutReferenceIdeal.main_arg2)
          ∧ r.2.mem ((c.tc : Thread Cert.SsdOutReferenceIdeal.nD Cert.SsdOutReferenceIdeal.τ).loc Cert.SsdOutReferenceIdeal.main_arg3) = m' ((c.tc : Thread Cert.SsdOutReferenceIdeal.nD Cert.SsdOutReferenceIdeal.τ).loc Cert.SsdOutReferenceIdeal.main_arg3))

def preserves_MlpUpOne_MlpUpOneIdeal : Prop :=
  True

def algebraic_MlpUpOneIdeal_MlpUpOneReferenceIdeal [hMlpUpOneIdeal : Cert.MlpUpOneIdeal.Facts] [hMlpUpOneReferenceIdeal : Cert.MlpUpOneReferenceIdeal.Facts] : Prop :=
  ∀ (m : (ℓ : Loc Cert.MlpUpOneIdeal.nD Cert.MlpUpOneIdeal.τ Cert.MlpUpOneIdeal.sig) → Buf (Elt Ideal) ℓ) (g : Dev Cert.MlpUpOneIdeal.nD → PrngReg)
    (m' : (ℓ : Loc Cert.MlpUpOneReferenceIdeal.nD Cert.MlpUpOneReferenceIdeal.τ Cert.MlpUpOneReferenceIdeal.sig) → Buf (Elt Ideal) ℓ) (g' : Dev Cert.MlpUpOneReferenceIdeal.nD → PrngReg), Pre_MlpUpOneIdeal m →
    (∀ c : Dev Cert.MlpUpOneIdeal.nD,
      m' ((c.tc : Thread Cert.MlpUpOneReferenceIdeal.nD Cert.MlpUpOneReferenceIdeal.τ).loc Cert.MlpUpOneReferenceIdeal.main_arg0) = m ((c.tc : Thread Cert.MlpUpOneIdeal.nD Cert.MlpUpOneIdeal.τ).loc Cert.MlpUpOneIdeal.main_arg0)
      ∧ m' ((c.tc : Thread Cert.MlpUpOneReferenceIdeal.nD Cert.MlpUpOneReferenceIdeal.τ).loc Cert.MlpUpOneReferenceIdeal.main_arg1) = m ((c.tc : Thread Cert.MlpUpOneIdeal.nD Cert.MlpUpOneIdeal.τ).loc Cert.MlpUpOneIdeal.main_arg1)) →
    ∃ (v0 : (c : Dev Cert.MlpUpOneIdeal.nD) → Buf (Elt Ideal) ((c.tc : Thread Cert.MlpUpOneIdeal.nD Cert.MlpUpOneIdeal.τ).loc Cert.MlpUpOneIdeal.main_v2)),
      θ_run (Cert.MlpUpOneIdeal.defs (F := Ideal)) (onTc (τ := Cert.MlpUpOneIdeal.τ) (Cert.MlpUpOneIdeal.main (F := Ideal))) ⟨m, fun _ => 0, g⟩ (fun r => ∀ c : Dev Cert.MlpUpOneIdeal.nD,
          r.2.mem ((c.tc : Thread Cert.MlpUpOneIdeal.nD Cert.MlpUpOneIdeal.τ).loc Cert.MlpUpOneIdeal.main_v2) = v0 c
          ∧ r.2.mem ((c.tc : Thread Cert.MlpUpOneIdeal.nD Cert.MlpUpOneIdeal.τ).loc Cert.MlpUpOneIdeal.main_arg0) = m ((c.tc : Thread Cert.MlpUpOneIdeal.nD Cert.MlpUpOneIdeal.τ).loc Cert.MlpUpOneIdeal.main_arg0)
          ∧ r.2.mem ((c.tc : Thread Cert.MlpUpOneIdeal.nD Cert.MlpUpOneIdeal.τ).loc Cert.MlpUpOneIdeal.main_arg1) = m ((c.tc : Thread Cert.MlpUpOneIdeal.nD Cert.MlpUpOneIdeal.τ).loc Cert.MlpUpOneIdeal.main_arg1))
      ∧ θ_run (Cert.MlpUpOneReferenceIdeal.defs (F := Ideal)) (onTc (τ := Cert.MlpUpOneReferenceIdeal.τ) (Cert.MlpUpOneReferenceIdeal.main (F := Ideal))) ⟨m', fun _ => 0, g'⟩ (fun r => ∀ c : Dev Cert.MlpUpOneReferenceIdeal.nD,
          r.2.mem ((c.tc : Thread Cert.MlpUpOneReferenceIdeal.nD Cert.MlpUpOneReferenceIdeal.τ).loc Cert.MlpUpOneReferenceIdeal.main_v2) = v0 c
          ∧ r.2.mem ((c.tc : Thread Cert.MlpUpOneReferenceIdeal.nD Cert.MlpUpOneReferenceIdeal.τ).loc Cert.MlpUpOneReferenceIdeal.main_arg0) = m' ((c.tc : Thread Cert.MlpUpOneReferenceIdeal.nD Cert.MlpUpOneReferenceIdeal.τ).loc Cert.MlpUpOneReferenceIdeal.main_arg0)
          ∧ r.2.mem ((c.tc : Thread Cert.MlpUpOneReferenceIdeal.nD Cert.MlpUpOneReferenceIdeal.τ).loc Cert.MlpUpOneReferenceIdeal.main_arg1) = m' ((c.tc : Thread Cert.MlpUpOneReferenceIdeal.nD Cert.MlpUpOneReferenceIdeal.τ).loc Cert.MlpUpOneReferenceIdeal.main_arg1))

def preserves_MlpUpTwo_MlpUpTwoIdeal : Prop :=
  True

def algebraic_MlpUpTwoIdeal_MlpUpTwoReferenceIdeal [hMlpUpTwoIdeal : Cert.MlpUpTwoIdeal.Facts] [hMlpUpTwoReferenceIdeal : Cert.MlpUpTwoReferenceIdeal.Facts] : Prop :=
  ∀ (m : (ℓ : Loc Cert.MlpUpTwoIdeal.nD Cert.MlpUpTwoIdeal.τ Cert.MlpUpTwoIdeal.sig) → Buf (Elt Ideal) ℓ) (g : Dev Cert.MlpUpTwoIdeal.nD → PrngReg)
    (m' : (ℓ : Loc Cert.MlpUpTwoReferenceIdeal.nD Cert.MlpUpTwoReferenceIdeal.τ Cert.MlpUpTwoReferenceIdeal.sig) → Buf (Elt Ideal) ℓ) (g' : Dev Cert.MlpUpTwoReferenceIdeal.nD → PrngReg), Pre_MlpUpTwoIdeal m →
    (∀ c : Dev Cert.MlpUpTwoIdeal.nD,
      m' ((c.tc : Thread Cert.MlpUpTwoReferenceIdeal.nD Cert.MlpUpTwoReferenceIdeal.τ).loc Cert.MlpUpTwoReferenceIdeal.main_arg0) = m ((c.tc : Thread Cert.MlpUpTwoIdeal.nD Cert.MlpUpTwoIdeal.τ).loc Cert.MlpUpTwoIdeal.main_arg0)
      ∧ m' ((c.tc : Thread Cert.MlpUpTwoReferenceIdeal.nD Cert.MlpUpTwoReferenceIdeal.τ).loc Cert.MlpUpTwoReferenceIdeal.main_arg1) = m ((c.tc : Thread Cert.MlpUpTwoIdeal.nD Cert.MlpUpTwoIdeal.τ).loc Cert.MlpUpTwoIdeal.main_arg1)) →
    ∃ (v0 : (c : Dev Cert.MlpUpTwoIdeal.nD) → Buf (Elt Ideal) ((c.tc : Thread Cert.MlpUpTwoIdeal.nD Cert.MlpUpTwoIdeal.τ).loc Cert.MlpUpTwoIdeal.main_v2)),
      θ_run (Cert.MlpUpTwoIdeal.defs (F := Ideal)) (onTc (τ := Cert.MlpUpTwoIdeal.τ) (Cert.MlpUpTwoIdeal.main (F := Ideal))) ⟨m, fun _ => 0, g⟩ (fun r => ∀ c : Dev Cert.MlpUpTwoIdeal.nD,
          r.2.mem ((c.tc : Thread Cert.MlpUpTwoIdeal.nD Cert.MlpUpTwoIdeal.τ).loc Cert.MlpUpTwoIdeal.main_v2) = v0 c
          ∧ r.2.mem ((c.tc : Thread Cert.MlpUpTwoIdeal.nD Cert.MlpUpTwoIdeal.τ).loc Cert.MlpUpTwoIdeal.main_arg0) = m ((c.tc : Thread Cert.MlpUpTwoIdeal.nD Cert.MlpUpTwoIdeal.τ).loc Cert.MlpUpTwoIdeal.main_arg0)
          ∧ r.2.mem ((c.tc : Thread Cert.MlpUpTwoIdeal.nD Cert.MlpUpTwoIdeal.τ).loc Cert.MlpUpTwoIdeal.main_arg1) = m ((c.tc : Thread Cert.MlpUpTwoIdeal.nD Cert.MlpUpTwoIdeal.τ).loc Cert.MlpUpTwoIdeal.main_arg1))
      ∧ θ_run (Cert.MlpUpTwoReferenceIdeal.defs (F := Ideal)) (onTc (τ := Cert.MlpUpTwoReferenceIdeal.τ) (Cert.MlpUpTwoReferenceIdeal.main (F := Ideal))) ⟨m', fun _ => 0, g'⟩ (fun r => ∀ c : Dev Cert.MlpUpTwoReferenceIdeal.nD,
          r.2.mem ((c.tc : Thread Cert.MlpUpTwoReferenceIdeal.nD Cert.MlpUpTwoReferenceIdeal.τ).loc Cert.MlpUpTwoReferenceIdeal.main_v3) = v0 c
          ∧ r.2.mem ((c.tc : Thread Cert.MlpUpTwoReferenceIdeal.nD Cert.MlpUpTwoReferenceIdeal.τ).loc Cert.MlpUpTwoReferenceIdeal.main_arg0) = m' ((c.tc : Thread Cert.MlpUpTwoReferenceIdeal.nD Cert.MlpUpTwoReferenceIdeal.τ).loc Cert.MlpUpTwoReferenceIdeal.main_arg0)
          ∧ r.2.mem ((c.tc : Thread Cert.MlpUpTwoReferenceIdeal.nD Cert.MlpUpTwoReferenceIdeal.τ).loc Cert.MlpUpTwoReferenceIdeal.main_arg1) = m' ((c.tc : Thread Cert.MlpUpTwoReferenceIdeal.nD Cert.MlpUpTwoReferenceIdeal.τ).loc Cert.MlpUpTwoReferenceIdeal.main_arg1))

def preserves_MlpUpTop_MlpUpTopIdeal : Prop :=
  True

def algebraic_MlpUpTopIdeal_MlpUpTopReferenceIdeal [hMlpUpTopIdeal : Cert.MlpUpTopIdeal.Facts] [hMlpUpTopReferenceIdeal : Cert.MlpUpTopReferenceIdeal.Facts] : Prop :=
  ∀ (m : (ℓ : Loc Cert.MlpUpTopIdeal.nD Cert.MlpUpTopIdeal.τ Cert.MlpUpTopIdeal.sig) → Buf (Elt Ideal) ℓ) (g : Dev Cert.MlpUpTopIdeal.nD → PrngReg)
    (m' : (ℓ : Loc Cert.MlpUpTopReferenceIdeal.nD Cert.MlpUpTopReferenceIdeal.τ Cert.MlpUpTopReferenceIdeal.sig) → Buf (Elt Ideal) ℓ) (g' : Dev Cert.MlpUpTopReferenceIdeal.nD → PrngReg), Pre_MlpUpTopIdeal m →
    (∀ c : Dev Cert.MlpUpTopIdeal.nD,
      m' ((c.tc : Thread Cert.MlpUpTopReferenceIdeal.nD Cert.MlpUpTopReferenceIdeal.τ).loc Cert.MlpUpTopReferenceIdeal.main_arg0) = m ((c.tc : Thread Cert.MlpUpTopIdeal.nD Cert.MlpUpTopIdeal.τ).loc Cert.MlpUpTopIdeal.main_arg0)
      ∧ m' ((c.tc : Thread Cert.MlpUpTopReferenceIdeal.nD Cert.MlpUpTopReferenceIdeal.τ).loc Cert.MlpUpTopReferenceIdeal.main_arg1) = m ((c.tc : Thread Cert.MlpUpTopIdeal.nD Cert.MlpUpTopIdeal.τ).loc Cert.MlpUpTopIdeal.main_arg1)) →
    ∃ (v0 : (c : Dev Cert.MlpUpTopIdeal.nD) → Buf (Elt Ideal) ((c.tc : Thread Cert.MlpUpTopIdeal.nD Cert.MlpUpTopIdeal.τ).loc Cert.MlpUpTopIdeal.main_v2)),
      θ_run (Cert.MlpUpTopIdeal.defs (F := Ideal)) (onTc (τ := Cert.MlpUpTopIdeal.τ) (Cert.MlpUpTopIdeal.main (F := Ideal))) ⟨m, fun _ => 0, g⟩ (fun r => ∀ c : Dev Cert.MlpUpTopIdeal.nD,
          r.2.mem ((c.tc : Thread Cert.MlpUpTopIdeal.nD Cert.MlpUpTopIdeal.τ).loc Cert.MlpUpTopIdeal.main_v2) = v0 c
          ∧ r.2.mem ((c.tc : Thread Cert.MlpUpTopIdeal.nD Cert.MlpUpTopIdeal.τ).loc Cert.MlpUpTopIdeal.main_arg0) = m ((c.tc : Thread Cert.MlpUpTopIdeal.nD Cert.MlpUpTopIdeal.τ).loc Cert.MlpUpTopIdeal.main_arg0)
          ∧ r.2.mem ((c.tc : Thread Cert.MlpUpTopIdeal.nD Cert.MlpUpTopIdeal.τ).loc Cert.MlpUpTopIdeal.main_arg1) = m ((c.tc : Thread Cert.MlpUpTopIdeal.nD Cert.MlpUpTopIdeal.τ).loc Cert.MlpUpTopIdeal.main_arg1))
      ∧ θ_run (Cert.MlpUpTopReferenceIdeal.defs (F := Ideal)) (onTc (τ := Cert.MlpUpTopReferenceIdeal.τ) (Cert.MlpUpTopReferenceIdeal.main (F := Ideal))) ⟨m', fun _ => 0, g'⟩ (fun r => ∀ c : Dev Cert.MlpUpTopReferenceIdeal.nD,
          r.2.mem ((c.tc : Thread Cert.MlpUpTopReferenceIdeal.nD Cert.MlpUpTopReferenceIdeal.τ).loc Cert.MlpUpTopReferenceIdeal.main_v3) = v0 c
          ∧ r.2.mem ((c.tc : Thread Cert.MlpUpTopReferenceIdeal.nD Cert.MlpUpTopReferenceIdeal.τ).loc Cert.MlpUpTopReferenceIdeal.main_arg0) = m' ((c.tc : Thread Cert.MlpUpTopReferenceIdeal.nD Cert.MlpUpTopReferenceIdeal.τ).loc Cert.MlpUpTopReferenceIdeal.main_arg0)
          ∧ r.2.mem ((c.tc : Thread Cert.MlpUpTopReferenceIdeal.nD Cert.MlpUpTopReferenceIdeal.τ).loc Cert.MlpUpTopReferenceIdeal.main_arg1) = m' ((c.tc : Thread Cert.MlpUpTopReferenceIdeal.nD Cert.MlpUpTopReferenceIdeal.τ).loc Cert.MlpUpTopReferenceIdeal.main_arg1))

def preserves_MlpDownOne_MlpDownOneIdeal : Prop :=
  True

def algebraic_MlpDownOneIdeal_MlpDownOneReferenceIdeal [hMlpDownOneIdeal : Cert.MlpDownOneIdeal.Facts] [hMlpDownOneReferenceIdeal : Cert.MlpDownOneReferenceIdeal.Facts] : Prop :=
  ∀ (m : (ℓ : Loc Cert.MlpDownOneIdeal.nD Cert.MlpDownOneIdeal.τ Cert.MlpDownOneIdeal.sig) → Buf (Elt Ideal) ℓ) (g : Dev Cert.MlpDownOneIdeal.nD → PrngReg)
    (m' : (ℓ : Loc Cert.MlpDownOneReferenceIdeal.nD Cert.MlpDownOneReferenceIdeal.τ Cert.MlpDownOneReferenceIdeal.sig) → Buf (Elt Ideal) ℓ) (g' : Dev Cert.MlpDownOneReferenceIdeal.nD → PrngReg), Pre_MlpDownOneIdeal m →
    (∀ c : Dev Cert.MlpDownOneIdeal.nD,
      m' ((c.tc : Thread Cert.MlpDownOneReferenceIdeal.nD Cert.MlpDownOneReferenceIdeal.τ).loc Cert.MlpDownOneReferenceIdeal.main_arg0) = m ((c.tc : Thread Cert.MlpDownOneIdeal.nD Cert.MlpDownOneIdeal.τ).loc Cert.MlpDownOneIdeal.main_arg0)
      ∧ m' ((c.tc : Thread Cert.MlpDownOneReferenceIdeal.nD Cert.MlpDownOneReferenceIdeal.τ).loc Cert.MlpDownOneReferenceIdeal.main_arg1) = m ((c.tc : Thread Cert.MlpDownOneIdeal.nD Cert.MlpDownOneIdeal.τ).loc Cert.MlpDownOneIdeal.main_arg1)
      ∧ m' ((c.tc : Thread Cert.MlpDownOneReferenceIdeal.nD Cert.MlpDownOneReferenceIdeal.τ).loc Cert.MlpDownOneReferenceIdeal.main_arg2) = m ((c.tc : Thread Cert.MlpDownOneIdeal.nD Cert.MlpDownOneIdeal.τ).loc Cert.MlpDownOneIdeal.main_arg2)
      ∧ m' ((c.tc : Thread Cert.MlpDownOneReferenceIdeal.nD Cert.MlpDownOneReferenceIdeal.τ).loc Cert.MlpDownOneReferenceIdeal.main_arg3) = m ((c.tc : Thread Cert.MlpDownOneIdeal.nD Cert.MlpDownOneIdeal.τ).loc Cert.MlpDownOneIdeal.main_arg3)) →
    ∃ (v0 : (c : Dev Cert.MlpDownOneIdeal.nD) → Buf (Elt Ideal) ((c.tc : Thread Cert.MlpDownOneIdeal.nD Cert.MlpDownOneIdeal.τ).loc Cert.MlpDownOneIdeal.main_v3_0)) (v1 : (c : Dev Cert.MlpDownOneIdeal.nD) → Buf (Elt Ideal) ((c.tc : Thread Cert.MlpDownOneIdeal.nD Cert.MlpDownOneIdeal.τ).loc Cert.MlpDownOneIdeal.main_v3_1)),
      θ_run (Cert.MlpDownOneIdeal.defs (F := Ideal)) (onTc (τ := Cert.MlpDownOneIdeal.τ) (Cert.MlpDownOneIdeal.main (F := Ideal))) ⟨m, fun _ => 0, g⟩ (fun r => ∀ c : Dev Cert.MlpDownOneIdeal.nD,
          r.2.mem ((c.tc : Thread Cert.MlpDownOneIdeal.nD Cert.MlpDownOneIdeal.τ).loc Cert.MlpDownOneIdeal.main_v3_0) = v0 c
          ∧ r.2.mem ((c.tc : Thread Cert.MlpDownOneIdeal.nD Cert.MlpDownOneIdeal.τ).loc Cert.MlpDownOneIdeal.main_v3_1) = v1 c
          ∧ r.2.mem ((c.tc : Thread Cert.MlpDownOneIdeal.nD Cert.MlpDownOneIdeal.τ).loc Cert.MlpDownOneIdeal.main_arg0) = m ((c.tc : Thread Cert.MlpDownOneIdeal.nD Cert.MlpDownOneIdeal.τ).loc Cert.MlpDownOneIdeal.main_arg0)
          ∧ r.2.mem ((c.tc : Thread Cert.MlpDownOneIdeal.nD Cert.MlpDownOneIdeal.τ).loc Cert.MlpDownOneIdeal.main_arg1) = m ((c.tc : Thread Cert.MlpDownOneIdeal.nD Cert.MlpDownOneIdeal.τ).loc Cert.MlpDownOneIdeal.main_arg1)
          ∧ r.2.mem ((c.tc : Thread Cert.MlpDownOneIdeal.nD Cert.MlpDownOneIdeal.τ).loc Cert.MlpDownOneIdeal.main_arg2) = m ((c.tc : Thread Cert.MlpDownOneIdeal.nD Cert.MlpDownOneIdeal.τ).loc Cert.MlpDownOneIdeal.main_arg2)
          ∧ r.2.mem ((c.tc : Thread Cert.MlpDownOneIdeal.nD Cert.MlpDownOneIdeal.τ).loc Cert.MlpDownOneIdeal.main_arg3) = m ((c.tc : Thread Cert.MlpDownOneIdeal.nD Cert.MlpDownOneIdeal.τ).loc Cert.MlpDownOneIdeal.main_arg3))
      ∧ θ_run (Cert.MlpDownOneReferenceIdeal.defs (F := Ideal)) (onTc (τ := Cert.MlpDownOneReferenceIdeal.τ) (Cert.MlpDownOneReferenceIdeal.main (F := Ideal))) ⟨m', fun _ => 0, g'⟩ (fun r => ∀ c : Dev Cert.MlpDownOneReferenceIdeal.nD,
          r.2.mem ((c.tc : Thread Cert.MlpDownOneReferenceIdeal.nD Cert.MlpDownOneReferenceIdeal.τ).loc Cert.MlpDownOneReferenceIdeal.main_v4) = v0 c
          ∧ r.2.mem ((c.tc : Thread Cert.MlpDownOneReferenceIdeal.nD Cert.MlpDownOneReferenceIdeal.τ).loc Cert.MlpDownOneReferenceIdeal.main_v18) = v1 c
          ∧ r.2.mem ((c.tc : Thread Cert.MlpDownOneReferenceIdeal.nD Cert.MlpDownOneReferenceIdeal.τ).loc Cert.MlpDownOneReferenceIdeal.main_arg0) = m' ((c.tc : Thread Cert.MlpDownOneReferenceIdeal.nD Cert.MlpDownOneReferenceIdeal.τ).loc Cert.MlpDownOneReferenceIdeal.main_arg0)
          ∧ r.2.mem ((c.tc : Thread Cert.MlpDownOneReferenceIdeal.nD Cert.MlpDownOneReferenceIdeal.τ).loc Cert.MlpDownOneReferenceIdeal.main_arg1) = m' ((c.tc : Thread Cert.MlpDownOneReferenceIdeal.nD Cert.MlpDownOneReferenceIdeal.τ).loc Cert.MlpDownOneReferenceIdeal.main_arg1)
          ∧ r.2.mem ((c.tc : Thread Cert.MlpDownOneReferenceIdeal.nD Cert.MlpDownOneReferenceIdeal.τ).loc Cert.MlpDownOneReferenceIdeal.main_arg2) = m' ((c.tc : Thread Cert.MlpDownOneReferenceIdeal.nD Cert.MlpDownOneReferenceIdeal.τ).loc Cert.MlpDownOneReferenceIdeal.main_arg2)
          ∧ r.2.mem ((c.tc : Thread Cert.MlpDownOneReferenceIdeal.nD Cert.MlpDownOneReferenceIdeal.τ).loc Cert.MlpDownOneReferenceIdeal.main_arg3) = m' ((c.tc : Thread Cert.MlpDownOneReferenceIdeal.nD Cert.MlpDownOneReferenceIdeal.τ).loc Cert.MlpDownOneReferenceIdeal.main_arg3))

def preserves_MlpDownTwo_MlpDownTwoIdeal : Prop :=
  True

def algebraic_MlpDownTwoIdeal_MlpDownTwoReferenceIdeal [hMlpDownTwoIdeal : Cert.MlpDownTwoIdeal.Facts] [hMlpDownTwoReferenceIdeal : Cert.MlpDownTwoReferenceIdeal.Facts] : Prop :=
  ∀ (m : (ℓ : Loc Cert.MlpDownTwoIdeal.nD Cert.MlpDownTwoIdeal.τ Cert.MlpDownTwoIdeal.sig) → Buf (Elt Ideal) ℓ) (g : Dev Cert.MlpDownTwoIdeal.nD → PrngReg)
    (m' : (ℓ : Loc Cert.MlpDownTwoReferenceIdeal.nD Cert.MlpDownTwoReferenceIdeal.τ Cert.MlpDownTwoReferenceIdeal.sig) → Buf (Elt Ideal) ℓ) (g' : Dev Cert.MlpDownTwoReferenceIdeal.nD → PrngReg), Pre_MlpDownTwoIdeal m →
    (∀ c : Dev Cert.MlpDownTwoIdeal.nD,
      m' ((c.tc : Thread Cert.MlpDownTwoReferenceIdeal.nD Cert.MlpDownTwoReferenceIdeal.τ).loc Cert.MlpDownTwoReferenceIdeal.main_arg0) = m ((c.tc : Thread Cert.MlpDownTwoIdeal.nD Cert.MlpDownTwoIdeal.τ).loc Cert.MlpDownTwoIdeal.main_arg0)
      ∧ m' ((c.tc : Thread Cert.MlpDownTwoReferenceIdeal.nD Cert.MlpDownTwoReferenceIdeal.τ).loc Cert.MlpDownTwoReferenceIdeal.main_arg1) = m ((c.tc : Thread Cert.MlpDownTwoIdeal.nD Cert.MlpDownTwoIdeal.τ).loc Cert.MlpDownTwoIdeal.main_arg1)
      ∧ m' ((c.tc : Thread Cert.MlpDownTwoReferenceIdeal.nD Cert.MlpDownTwoReferenceIdeal.τ).loc Cert.MlpDownTwoReferenceIdeal.main_arg2) = m ((c.tc : Thread Cert.MlpDownTwoIdeal.nD Cert.MlpDownTwoIdeal.τ).loc Cert.MlpDownTwoIdeal.main_arg2)
      ∧ m' ((c.tc : Thread Cert.MlpDownTwoReferenceIdeal.nD Cert.MlpDownTwoReferenceIdeal.τ).loc Cert.MlpDownTwoReferenceIdeal.main_arg3) = m ((c.tc : Thread Cert.MlpDownTwoIdeal.nD Cert.MlpDownTwoIdeal.τ).loc Cert.MlpDownTwoIdeal.main_arg3)) →
    ∃ (v0 : (c : Dev Cert.MlpDownTwoIdeal.nD) → Buf (Elt Ideal) ((c.tc : Thread Cert.MlpDownTwoIdeal.nD Cert.MlpDownTwoIdeal.τ).loc Cert.MlpDownTwoIdeal.main_v3_0)) (v1 : (c : Dev Cert.MlpDownTwoIdeal.nD) → Buf (Elt Ideal) ((c.tc : Thread Cert.MlpDownTwoIdeal.nD Cert.MlpDownTwoIdeal.τ).loc Cert.MlpDownTwoIdeal.main_v3_1)),
      θ_run (Cert.MlpDownTwoIdeal.defs (F := Ideal)) (onTc (τ := Cert.MlpDownTwoIdeal.τ) (Cert.MlpDownTwoIdeal.main (F := Ideal))) ⟨m, fun _ => 0, g⟩ (fun r => ∀ c : Dev Cert.MlpDownTwoIdeal.nD,
          r.2.mem ((c.tc : Thread Cert.MlpDownTwoIdeal.nD Cert.MlpDownTwoIdeal.τ).loc Cert.MlpDownTwoIdeal.main_v3_0) = v0 c
          ∧ r.2.mem ((c.tc : Thread Cert.MlpDownTwoIdeal.nD Cert.MlpDownTwoIdeal.τ).loc Cert.MlpDownTwoIdeal.main_v3_1) = v1 c
          ∧ r.2.mem ((c.tc : Thread Cert.MlpDownTwoIdeal.nD Cert.MlpDownTwoIdeal.τ).loc Cert.MlpDownTwoIdeal.main_arg0) = m ((c.tc : Thread Cert.MlpDownTwoIdeal.nD Cert.MlpDownTwoIdeal.τ).loc Cert.MlpDownTwoIdeal.main_arg0)
          ∧ r.2.mem ((c.tc : Thread Cert.MlpDownTwoIdeal.nD Cert.MlpDownTwoIdeal.τ).loc Cert.MlpDownTwoIdeal.main_arg1) = m ((c.tc : Thread Cert.MlpDownTwoIdeal.nD Cert.MlpDownTwoIdeal.τ).loc Cert.MlpDownTwoIdeal.main_arg1)
          ∧ r.2.mem ((c.tc : Thread Cert.MlpDownTwoIdeal.nD Cert.MlpDownTwoIdeal.τ).loc Cert.MlpDownTwoIdeal.main_arg2) = m ((c.tc : Thread Cert.MlpDownTwoIdeal.nD Cert.MlpDownTwoIdeal.τ).loc Cert.MlpDownTwoIdeal.main_arg2)
          ∧ r.2.mem ((c.tc : Thread Cert.MlpDownTwoIdeal.nD Cert.MlpDownTwoIdeal.τ).loc Cert.MlpDownTwoIdeal.main_arg3) = m ((c.tc : Thread Cert.MlpDownTwoIdeal.nD Cert.MlpDownTwoIdeal.τ).loc Cert.MlpDownTwoIdeal.main_arg3))
      ∧ θ_run (Cert.MlpDownTwoReferenceIdeal.defs (F := Ideal)) (onTc (τ := Cert.MlpDownTwoReferenceIdeal.τ) (Cert.MlpDownTwoReferenceIdeal.main (F := Ideal))) ⟨m', fun _ => 0, g'⟩ (fun r => ∀ c : Dev Cert.MlpDownTwoReferenceIdeal.nD,
          r.2.mem ((c.tc : Thread Cert.MlpDownTwoReferenceIdeal.nD Cert.MlpDownTwoReferenceIdeal.τ).loc Cert.MlpDownTwoReferenceIdeal.main_v5) = v0 c
          ∧ r.2.mem ((c.tc : Thread Cert.MlpDownTwoReferenceIdeal.nD Cert.MlpDownTwoReferenceIdeal.τ).loc Cert.MlpDownTwoReferenceIdeal.main_v19) = v1 c
          ∧ r.2.mem ((c.tc : Thread Cert.MlpDownTwoReferenceIdeal.nD Cert.MlpDownTwoReferenceIdeal.τ).loc Cert.MlpDownTwoReferenceIdeal.main_arg0) = m' ((c.tc : Thread Cert.MlpDownTwoReferenceIdeal.nD Cert.MlpDownTwoReferenceIdeal.τ).loc Cert.MlpDownTwoReferenceIdeal.main_arg0)
          ∧ r.2.mem ((c.tc : Thread Cert.MlpDownTwoReferenceIdeal.nD Cert.MlpDownTwoReferenceIdeal.τ).loc Cert.MlpDownTwoReferenceIdeal.main_arg1) = m' ((c.tc : Thread Cert.MlpDownTwoReferenceIdeal.nD Cert.MlpDownTwoReferenceIdeal.τ).loc Cert.MlpDownTwoReferenceIdeal.main_arg1)
          ∧ r.2.mem ((c.tc : Thread Cert.MlpDownTwoReferenceIdeal.nD Cert.MlpDownTwoReferenceIdeal.τ).loc Cert.MlpDownTwoReferenceIdeal.main_arg2) = m' ((c.tc : Thread Cert.MlpDownTwoReferenceIdeal.nD Cert.MlpDownTwoReferenceIdeal.τ).loc Cert.MlpDownTwoReferenceIdeal.main_arg2)
          ∧ r.2.mem ((c.tc : Thread Cert.MlpDownTwoReferenceIdeal.nD Cert.MlpDownTwoReferenceIdeal.τ).loc Cert.MlpDownTwoReferenceIdeal.main_arg3) = m' ((c.tc : Thread Cert.MlpDownTwoReferenceIdeal.nD Cert.MlpDownTwoReferenceIdeal.τ).loc Cert.MlpDownTwoReferenceIdeal.main_arg3))

def preserves_MlpDownTop_MlpDownTopIdeal : Prop :=
  True

def algebraic_MlpDownTopIdeal_MlpDownTopReferenceIdeal [hMlpDownTopIdeal : Cert.MlpDownTopIdeal.Facts] [hMlpDownTopReferenceIdeal : Cert.MlpDownTopReferenceIdeal.Facts] : Prop :=
  ∀ (m : (ℓ : Loc Cert.MlpDownTopIdeal.nD Cert.MlpDownTopIdeal.τ Cert.MlpDownTopIdeal.sig) → Buf (Elt Ideal) ℓ) (g : Dev Cert.MlpDownTopIdeal.nD → PrngReg)
    (m' : (ℓ : Loc Cert.MlpDownTopReferenceIdeal.nD Cert.MlpDownTopReferenceIdeal.τ Cert.MlpDownTopReferenceIdeal.sig) → Buf (Elt Ideal) ℓ) (g' : Dev Cert.MlpDownTopReferenceIdeal.nD → PrngReg), Pre_MlpDownTopIdeal m →
    (∀ c : Dev Cert.MlpDownTopIdeal.nD,
      m' ((c.tc : Thread Cert.MlpDownTopReferenceIdeal.nD Cert.MlpDownTopReferenceIdeal.τ).loc Cert.MlpDownTopReferenceIdeal.main_arg0) = m ((c.tc : Thread Cert.MlpDownTopIdeal.nD Cert.MlpDownTopIdeal.τ).loc Cert.MlpDownTopIdeal.main_arg0)
      ∧ m' ((c.tc : Thread Cert.MlpDownTopReferenceIdeal.nD Cert.MlpDownTopReferenceIdeal.τ).loc Cert.MlpDownTopReferenceIdeal.main_arg1) = m ((c.tc : Thread Cert.MlpDownTopIdeal.nD Cert.MlpDownTopIdeal.τ).loc Cert.MlpDownTopIdeal.main_arg1)
      ∧ m' ((c.tc : Thread Cert.MlpDownTopReferenceIdeal.nD Cert.MlpDownTopReferenceIdeal.τ).loc Cert.MlpDownTopReferenceIdeal.main_arg2) = m ((c.tc : Thread Cert.MlpDownTopIdeal.nD Cert.MlpDownTopIdeal.τ).loc Cert.MlpDownTopIdeal.main_arg2)) →
    ∃ (v0 : (c : Dev Cert.MlpDownTopIdeal.nD) → Buf (Elt Ideal) ((c.tc : Thread Cert.MlpDownTopIdeal.nD Cert.MlpDownTopIdeal.τ).loc Cert.MlpDownTopIdeal.main_v2)),
      θ_run (Cert.MlpDownTopIdeal.defs (F := Ideal)) (onTc (τ := Cert.MlpDownTopIdeal.τ) (Cert.MlpDownTopIdeal.main (F := Ideal))) ⟨m, fun _ => 0, g⟩ (fun r => ∀ c : Dev Cert.MlpDownTopIdeal.nD,
          r.2.mem ((c.tc : Thread Cert.MlpDownTopIdeal.nD Cert.MlpDownTopIdeal.τ).loc Cert.MlpDownTopIdeal.main_v2) = v0 c
          ∧ r.2.mem ((c.tc : Thread Cert.MlpDownTopIdeal.nD Cert.MlpDownTopIdeal.τ).loc Cert.MlpDownTopIdeal.main_arg0) = m ((c.tc : Thread Cert.MlpDownTopIdeal.nD Cert.MlpDownTopIdeal.τ).loc Cert.MlpDownTopIdeal.main_arg0)
          ∧ r.2.mem ((c.tc : Thread Cert.MlpDownTopIdeal.nD Cert.MlpDownTopIdeal.τ).loc Cert.MlpDownTopIdeal.main_arg1) = m ((c.tc : Thread Cert.MlpDownTopIdeal.nD Cert.MlpDownTopIdeal.τ).loc Cert.MlpDownTopIdeal.main_arg1)
          ∧ r.2.mem ((c.tc : Thread Cert.MlpDownTopIdeal.nD Cert.MlpDownTopIdeal.τ).loc Cert.MlpDownTopIdeal.main_arg2) = m ((c.tc : Thread Cert.MlpDownTopIdeal.nD Cert.MlpDownTopIdeal.τ).loc Cert.MlpDownTopIdeal.main_arg2))
      ∧ θ_run (Cert.MlpDownTopReferenceIdeal.defs (F := Ideal)) (onTc (τ := Cert.MlpDownTopReferenceIdeal.τ) (Cert.MlpDownTopReferenceIdeal.main (F := Ideal))) ⟨m', fun _ => 0, g'⟩ (fun r => ∀ c : Dev Cert.MlpDownTopReferenceIdeal.nD,
          r.2.mem ((c.tc : Thread Cert.MlpDownTopReferenceIdeal.nD Cert.MlpDownTopReferenceIdeal.τ).loc Cert.MlpDownTopReferenceIdeal.main_v5) = v0 c
          ∧ r.2.mem ((c.tc : Thread Cert.MlpDownTopReferenceIdeal.nD Cert.MlpDownTopReferenceIdeal.τ).loc Cert.MlpDownTopReferenceIdeal.main_arg0) = m' ((c.tc : Thread Cert.MlpDownTopReferenceIdeal.nD Cert.MlpDownTopReferenceIdeal.τ).loc Cert.MlpDownTopReferenceIdeal.main_arg0)
          ∧ r.2.mem ((c.tc : Thread Cert.MlpDownTopReferenceIdeal.nD Cert.MlpDownTopReferenceIdeal.τ).loc Cert.MlpDownTopReferenceIdeal.main_arg1) = m' ((c.tc : Thread Cert.MlpDownTopReferenceIdeal.nD Cert.MlpDownTopReferenceIdeal.τ).loc Cert.MlpDownTopReferenceIdeal.main_arg1)
          ∧ r.2.mem ((c.tc : Thread Cert.MlpDownTopReferenceIdeal.nD Cert.MlpDownTopReferenceIdeal.τ).loc Cert.MlpDownTopReferenceIdeal.main_arg2) = m' ((c.tc : Thread Cert.MlpDownTopReferenceIdeal.nD Cert.MlpDownTopReferenceIdeal.τ).loc Cert.MlpDownTopReferenceIdeal.main_arg2))

def preserves_UpDwTop_UpDwTopIdeal : Prop :=
  True

def algebraic_UpDwTopIdeal_UpDwTopReferenceIdeal [hUpDwTopIdeal : Cert.UpDwTopIdeal.Facts] [hUpDwTopReferenceIdeal : Cert.UpDwTopReferenceIdeal.Facts] : Prop :=
  ∀ (m : (ℓ : Loc Cert.UpDwTopIdeal.nD Cert.UpDwTopIdeal.τ Cert.UpDwTopIdeal.sig) → Buf (Elt Ideal) ℓ) (g : Dev Cert.UpDwTopIdeal.nD → PrngReg)
    (m' : (ℓ : Loc Cert.UpDwTopReferenceIdeal.nD Cert.UpDwTopReferenceIdeal.τ Cert.UpDwTopReferenceIdeal.sig) → Buf (Elt Ideal) ℓ) (g' : Dev Cert.UpDwTopReferenceIdeal.nD → PrngReg), Pre_UpDwTopIdeal m →
    (∀ c : Dev Cert.UpDwTopIdeal.nD,
      m' ((c.tc : Thread Cert.UpDwTopReferenceIdeal.nD Cert.UpDwTopReferenceIdeal.τ).loc Cert.UpDwTopReferenceIdeal.main_arg0) = m ((c.tc : Thread Cert.UpDwTopIdeal.nD Cert.UpDwTopIdeal.τ).loc Cert.UpDwTopIdeal.main_arg0)
      ∧ m' ((c.tc : Thread Cert.UpDwTopReferenceIdeal.nD Cert.UpDwTopReferenceIdeal.τ).loc Cert.UpDwTopReferenceIdeal.main_arg1) = m ((c.tc : Thread Cert.UpDwTopIdeal.nD Cert.UpDwTopIdeal.τ).loc Cert.UpDwTopIdeal.main_arg1)) →
    ∃ (v0 : (c : Dev Cert.UpDwTopIdeal.nD) → Buf (Elt Ideal) ((c.tc : Thread Cert.UpDwTopIdeal.nD Cert.UpDwTopIdeal.τ).loc Cert.UpDwTopIdeal.main_v4)),
      θ_run (Cert.UpDwTopIdeal.defs (F := Ideal)) (onTc (τ := Cert.UpDwTopIdeal.τ) (Cert.UpDwTopIdeal.main (F := Ideal))) ⟨m, fun _ => 0, g⟩ (fun r => ∀ c : Dev Cert.UpDwTopIdeal.nD,
          r.2.mem ((c.tc : Thread Cert.UpDwTopIdeal.nD Cert.UpDwTopIdeal.τ).loc Cert.UpDwTopIdeal.main_v4) = v0 c
          ∧ r.2.mem ((c.tc : Thread Cert.UpDwTopIdeal.nD Cert.UpDwTopIdeal.τ).loc Cert.UpDwTopIdeal.main_arg0) = m ((c.tc : Thread Cert.UpDwTopIdeal.nD Cert.UpDwTopIdeal.τ).loc Cert.UpDwTopIdeal.main_arg0)
          ∧ r.2.mem ((c.tc : Thread Cert.UpDwTopIdeal.nD Cert.UpDwTopIdeal.τ).loc Cert.UpDwTopIdeal.main_arg1) = m ((c.tc : Thread Cert.UpDwTopIdeal.nD Cert.UpDwTopIdeal.τ).loc Cert.UpDwTopIdeal.main_arg1))
      ∧ θ_run (Cert.UpDwTopReferenceIdeal.defs (F := Ideal)) (onTc (τ := Cert.UpDwTopReferenceIdeal.τ) (Cert.UpDwTopReferenceIdeal.main (F := Ideal))) ⟨m', fun _ => 0, g'⟩ (fun r => ∀ c : Dev Cert.UpDwTopReferenceIdeal.nD,
          r.2.mem ((c.tc : Thread Cert.UpDwTopReferenceIdeal.nD Cert.UpDwTopReferenceIdeal.τ).loc Cert.UpDwTopReferenceIdeal.main_v3) = v0 c
          ∧ r.2.mem ((c.tc : Thread Cert.UpDwTopReferenceIdeal.nD Cert.UpDwTopReferenceIdeal.τ).loc Cert.UpDwTopReferenceIdeal.main_arg0) = m' ((c.tc : Thread Cert.UpDwTopReferenceIdeal.nD Cert.UpDwTopReferenceIdeal.τ).loc Cert.UpDwTopReferenceIdeal.main_arg0)
          ∧ r.2.mem ((c.tc : Thread Cert.UpDwTopReferenceIdeal.nD Cert.UpDwTopReferenceIdeal.τ).loc Cert.UpDwTopReferenceIdeal.main_arg1) = m' ((c.tc : Thread Cert.UpDwTopReferenceIdeal.nD Cert.UpDwTopReferenceIdeal.τ).loc Cert.UpDwTopReferenceIdeal.main_arg1))

def preserves_DownDwTop_DownDwTopIdeal : Prop :=
  True

def algebraic_DownDwTopIdeal_DownDwTopReferenceIdeal [hDownDwTopIdeal : Cert.DownDwTopIdeal.Facts] [hDownDwTopReferenceIdeal : Cert.DownDwTopReferenceIdeal.Facts] : Prop :=
  ∀ (m : (ℓ : Loc Cert.DownDwTopIdeal.nD Cert.DownDwTopIdeal.τ Cert.DownDwTopIdeal.sig) → Buf (Elt Ideal) ℓ) (g : Dev Cert.DownDwTopIdeal.nD → PrngReg)
    (m' : (ℓ : Loc Cert.DownDwTopReferenceIdeal.nD Cert.DownDwTopReferenceIdeal.τ Cert.DownDwTopReferenceIdeal.sig) → Buf (Elt Ideal) ℓ) (g' : Dev Cert.DownDwTopReferenceIdeal.nD → PrngReg), Pre_DownDwTopIdeal m →
    (∀ c : Dev Cert.DownDwTopIdeal.nD,
      m' ((c.tc : Thread Cert.DownDwTopReferenceIdeal.nD Cert.DownDwTopReferenceIdeal.τ).loc Cert.DownDwTopReferenceIdeal.main_arg0) = m ((c.tc : Thread Cert.DownDwTopIdeal.nD Cert.DownDwTopIdeal.τ).loc Cert.DownDwTopIdeal.main_arg0)
      ∧ m' ((c.tc : Thread Cert.DownDwTopReferenceIdeal.nD Cert.DownDwTopReferenceIdeal.τ).loc Cert.DownDwTopReferenceIdeal.main_arg1) = m ((c.tc : Thread Cert.DownDwTopIdeal.nD Cert.DownDwTopIdeal.τ).loc Cert.DownDwTopIdeal.main_arg1)) →
    ∃ (v0 : (c : Dev Cert.DownDwTopIdeal.nD) → Buf (Elt Ideal) ((c.tc : Thread Cert.DownDwTopIdeal.nD Cert.DownDwTopIdeal.τ).loc Cert.DownDwTopIdeal.main_v3)),
      θ_run (Cert.DownDwTopIdeal.defs (F := Ideal)) (onTc (τ := Cert.DownDwTopIdeal.τ) (Cert.DownDwTopIdeal.main (F := Ideal))) ⟨m, fun _ => 0, g⟩ (fun r => ∀ c : Dev Cert.DownDwTopIdeal.nD,
          r.2.mem ((c.tc : Thread Cert.DownDwTopIdeal.nD Cert.DownDwTopIdeal.τ).loc Cert.DownDwTopIdeal.main_v3) = v0 c
          ∧ r.2.mem ((c.tc : Thread Cert.DownDwTopIdeal.nD Cert.DownDwTopIdeal.τ).loc Cert.DownDwTopIdeal.main_arg0) = m ((c.tc : Thread Cert.DownDwTopIdeal.nD Cert.DownDwTopIdeal.τ).loc Cert.DownDwTopIdeal.main_arg0)
          ∧ r.2.mem ((c.tc : Thread Cert.DownDwTopIdeal.nD Cert.DownDwTopIdeal.τ).loc Cert.DownDwTopIdeal.main_arg1) = m ((c.tc : Thread Cert.DownDwTopIdeal.nD Cert.DownDwTopIdeal.τ).loc Cert.DownDwTopIdeal.main_arg1))
      ∧ θ_run (Cert.DownDwTopReferenceIdeal.defs (F := Ideal)) (onTc (τ := Cert.DownDwTopReferenceIdeal.τ) (Cert.DownDwTopReferenceIdeal.main (F := Ideal))) ⟨m', fun _ => 0, g'⟩ (fun r => ∀ c : Dev Cert.DownDwTopReferenceIdeal.nD,
          r.2.mem ((c.tc : Thread Cert.DownDwTopReferenceIdeal.nD Cert.DownDwTopReferenceIdeal.τ).loc Cert.DownDwTopReferenceIdeal.main_v5) = v0 c
          ∧ r.2.mem ((c.tc : Thread Cert.DownDwTopReferenceIdeal.nD Cert.DownDwTopReferenceIdeal.τ).loc Cert.DownDwTopReferenceIdeal.main_arg0) = m' ((c.tc : Thread Cert.DownDwTopReferenceIdeal.nD Cert.DownDwTopReferenceIdeal.τ).loc Cert.DownDwTopReferenceIdeal.main_arg0)
          ∧ r.2.mem ((c.tc : Thread Cert.DownDwTopReferenceIdeal.nD Cert.DownDwTopReferenceIdeal.τ).loc Cert.DownDwTopReferenceIdeal.main_arg1) = m' ((c.tc : Thread Cert.DownDwTopReferenceIdeal.nD Cert.DownDwTopReferenceIdeal.τ).loc Cert.DownDwTopReferenceIdeal.main_arg1))

def Claim : Prop :=
  ∃ (hKernel : Cert.Kernel.Facts) (hKernelIdeal : Cert.KernelIdeal.Facts) (hReferenceIdeal : Cert.ReferenceIdeal.Facts) (hDownDx : Cert.DownDx.Facts) (hDownDxIdeal : Cert.DownDxIdeal.Facts) (hDownDxReferenceIdeal : Cert.DownDxReferenceIdeal.Facts) (hDownDw : Cert.DownDw.Facts) (hDownDwIdeal : Cert.DownDwIdeal.Facts) (hDownDwReferenceIdeal : Cert.DownDwReferenceIdeal.Facts) (hUpDx : Cert.UpDx.Facts) (hUpDxIdeal : Cert.UpDxIdeal.Facts) (hUpDxReferenceIdeal : Cert.UpDxReferenceIdeal.Facts) (hUpDxOne : Cert.UpDxOne.Facts) (hUpDxOneIdeal : Cert.UpDxOneIdeal.Facts) (hUpDxOneReferenceIdeal : Cert.UpDxOneReferenceIdeal.Facts) (hUpDxTop : Cert.UpDxTop.Facts) (hUpDxTopIdeal : Cert.UpDxTopIdeal.Facts) (hUpDxTopReferenceIdeal : Cert.UpDxTopReferenceIdeal.Facts) (hUpDw : Cert.UpDw.Facts) (hUpDwIdeal : Cert.UpDwIdeal.Facts) (hUpDwReferenceIdeal : Cert.UpDwReferenceIdeal.Facts) (hDownDxOne : Cert.DownDxOne.Facts) (hDownDxOneIdeal : Cert.DownDxOneIdeal.Facts) (hDownDxOneReferenceIdeal : Cert.DownDxOneReferenceIdeal.Facts) (hDownDxTwo : Cert.DownDxTwo.Facts) (hDownDxTwoIdeal : Cert.DownDxTwoIdeal.Facts) (hDownDxTwoReferenceIdeal : Cert.DownDxTwoReferenceIdeal.Facts) (hInDx : Cert.InDx.Facts) (hInDxIdeal : Cert.InDxIdeal.Facts) (hInDxReferenceIdeal : Cert.InDxReferenceIdeal.Facts) (hInDw : Cert.InDw.Facts) (hInDwIdeal : Cert.InDwIdeal.Facts) (hInDwReferenceIdeal : Cert.InDwReferenceIdeal.Facts) (hOutDw : Cert.OutDw.Facts) (hOutDwIdeal : Cert.OutDwIdeal.Facts) (hOutDwReferenceIdeal : Cert.OutDwReferenceIdeal.Facts) (hOutDx : Cert.OutDx.Facts) (hOutDxIdeal : Cert.OutDxIdeal.Facts) (hOutDxReferenceIdeal : Cert.OutDxReferenceIdeal.Facts) (hSsdIn : Cert.SsdIn.Facts) (hSsdInIdeal : Cert.SsdInIdeal.Facts) (hSsdInReferenceIdeal : Cert.SsdInReferenceIdeal.Facts) (hSsdOut : Cert.SsdOut.Facts) (hSsdOutIdeal : Cert.SsdOutIdeal.Facts) (hSsdOutReferenceIdeal : Cert.SsdOutReferenceIdeal.Facts) (hMlpUpOne : Cert.MlpUpOne.Facts) (hMlpUpOneIdeal : Cert.MlpUpOneIdeal.Facts) (hMlpUpOneReferenceIdeal : Cert.MlpUpOneReferenceIdeal.Facts) (hMlpUpTwo : Cert.MlpUpTwo.Facts) (hMlpUpTwoIdeal : Cert.MlpUpTwoIdeal.Facts) (hMlpUpTwoReferenceIdeal : Cert.MlpUpTwoReferenceIdeal.Facts) (hMlpUpTop : Cert.MlpUpTop.Facts) (hMlpUpTopIdeal : Cert.MlpUpTopIdeal.Facts) (hMlpUpTopReferenceIdeal : Cert.MlpUpTopReferenceIdeal.Facts) (hMlpDownOne : Cert.MlpDownOne.Facts) (hMlpDownOneIdeal : Cert.MlpDownOneIdeal.Facts) (hMlpDownOneReferenceIdeal : Cert.MlpDownOneReferenceIdeal.Facts) (hMlpDownTwo : Cert.MlpDownTwo.Facts) (hMlpDownTwoIdeal : Cert.MlpDownTwoIdeal.Facts) (hMlpDownTwoReferenceIdeal : Cert.MlpDownTwoReferenceIdeal.Facts) (hMlpDownTop : Cert.MlpDownTop.Facts) (hMlpDownTopIdeal : Cert.MlpDownTopIdeal.Facts) (hMlpDownTopReferenceIdeal : Cert.MlpDownTopReferenceIdeal.Facts) (hUpDwTop : Cert.UpDwTop.Facts) (hUpDwTopIdeal : Cert.UpDwTopIdeal.Facts) (hUpDwTopReferenceIdeal : Cert.UpDwTopReferenceIdeal.Facts) (hDownDwTop : Cert.DownDwTop.Facts) (hDownDwTopIdeal : Cert.DownDwTopIdeal.Facts) (hDownDwTopReferenceIdeal : Cert.DownDwTopReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownDx (hDownDx := hDownDx)
    ∧ quiescent_DownDxIdeal (hDownDxIdeal := hDownDxIdeal)
    ∧ quiescent_DownDxReferenceIdeal (hDownDxReferenceIdeal := hDownDxReferenceIdeal)
    ∧ quiescent_DownDw (hDownDw := hDownDw)
    ∧ quiescent_DownDwIdeal (hDownDwIdeal := hDownDwIdeal)
    ∧ quiescent_DownDwReferenceIdeal (hDownDwReferenceIdeal := hDownDwReferenceIdeal)
    ∧ quiescent_UpDx (hUpDx := hUpDx)
    ∧ quiescent_UpDxIdeal (hUpDxIdeal := hUpDxIdeal)
    ∧ quiescent_UpDxReferenceIdeal (hUpDxReferenceIdeal := hUpDxReferenceIdeal)
    ∧ quiescent_UpDxOne (hUpDxOne := hUpDxOne)
    ∧ quiescent_UpDxOneIdeal (hUpDxOneIdeal := hUpDxOneIdeal)
    ∧ quiescent_UpDxOneReferenceIdeal (hUpDxOneReferenceIdeal := hUpDxOneReferenceIdeal)
    ∧ quiescent_UpDxTop (hUpDxTop := hUpDxTop)
    ∧ quiescent_UpDxTopIdeal (hUpDxTopIdeal := hUpDxTopIdeal)
    ∧ quiescent_UpDxTopReferenceIdeal (hUpDxTopReferenceIdeal := hUpDxTopReferenceIdeal)
    ∧ quiescent_UpDw (hUpDw := hUpDw)
    ∧ quiescent_UpDwIdeal (hUpDwIdeal := hUpDwIdeal)
    ∧ quiescent_UpDwReferenceIdeal (hUpDwReferenceIdeal := hUpDwReferenceIdeal)
    ∧ quiescent_DownDxOne (hDownDxOne := hDownDxOne)
    ∧ quiescent_DownDxOneIdeal (hDownDxOneIdeal := hDownDxOneIdeal)
    ∧ quiescent_DownDxOneReferenceIdeal (hDownDxOneReferenceIdeal := hDownDxOneReferenceIdeal)
    ∧ quiescent_DownDxTwo (hDownDxTwo := hDownDxTwo)
    ∧ quiescent_DownDxTwoIdeal (hDownDxTwoIdeal := hDownDxTwoIdeal)
    ∧ quiescent_DownDxTwoReferenceIdeal (hDownDxTwoReferenceIdeal := hDownDxTwoReferenceIdeal)
    ∧ quiescent_InDx (hInDx := hInDx)
    ∧ quiescent_InDxIdeal (hInDxIdeal := hInDxIdeal)
    ∧ quiescent_InDxReferenceIdeal (hInDxReferenceIdeal := hInDxReferenceIdeal)
    ∧ quiescent_InDw (hInDw := hInDw)
    ∧ quiescent_InDwIdeal (hInDwIdeal := hInDwIdeal)
    ∧ quiescent_InDwReferenceIdeal (hInDwReferenceIdeal := hInDwReferenceIdeal)
    ∧ quiescent_OutDw (hOutDw := hOutDw)
    ∧ quiescent_OutDwIdeal (hOutDwIdeal := hOutDwIdeal)
    ∧ quiescent_OutDwReferenceIdeal (hOutDwReferenceIdeal := hOutDwReferenceIdeal)
    ∧ quiescent_OutDx (hOutDx := hOutDx)
    ∧ quiescent_OutDxIdeal (hOutDxIdeal := hOutDxIdeal)
    ∧ quiescent_OutDxReferenceIdeal (hOutDxReferenceIdeal := hOutDxReferenceIdeal)
    ∧ quiescent_SsdIn (hSsdIn := hSsdIn)
    ∧ quiescent_SsdInIdeal (hSsdInIdeal := hSsdInIdeal)
    ∧ quiescent_SsdInReferenceIdeal (hSsdInReferenceIdeal := hSsdInReferenceIdeal)
    ∧ quiescent_SsdOut (hSsdOut := hSsdOut)
    ∧ quiescent_SsdOutIdeal (hSsdOutIdeal := hSsdOutIdeal)
    ∧ quiescent_SsdOutReferenceIdeal (hSsdOutReferenceIdeal := hSsdOutReferenceIdeal)
    ∧ quiescent_MlpUpOne (hMlpUpOne := hMlpUpOne)
    ∧ quiescent_MlpUpOneIdeal (hMlpUpOneIdeal := hMlpUpOneIdeal)
    ∧ quiescent_MlpUpOneReferenceIdeal (hMlpUpOneReferenceIdeal := hMlpUpOneReferenceIdeal)
    ∧ quiescent_MlpUpTwo (hMlpUpTwo := hMlpUpTwo)
    ∧ quiescent_MlpUpTwoIdeal (hMlpUpTwoIdeal := hMlpUpTwoIdeal)
    ∧ quiescent_MlpUpTwoReferenceIdeal (hMlpUpTwoReferenceIdeal := hMlpUpTwoReferenceIdeal)
    ∧ quiescent_MlpUpTop (hMlpUpTop := hMlpUpTop)
    ∧ quiescent_MlpUpTopIdeal (hMlpUpTopIdeal := hMlpUpTopIdeal)
    ∧ quiescent_MlpUpTopReferenceIdeal (hMlpUpTopReferenceIdeal := hMlpUpTopReferenceIdeal)
    ∧ quiescent_MlpDownOne (hMlpDownOne := hMlpDownOne)
    ∧ quiescent_MlpDownOneIdeal (hMlpDownOneIdeal := hMlpDownOneIdeal)
    ∧ quiescent_MlpDownOneReferenceIdeal (hMlpDownOneReferenceIdeal := hMlpDownOneReferenceIdeal)
    ∧ quiescent_MlpDownTwo (hMlpDownTwo := hMlpDownTwo)
    ∧ quiescent_MlpDownTwoIdeal (hMlpDownTwoIdeal := hMlpDownTwoIdeal)
    ∧ quiescent_MlpDownTwoReferenceIdeal (hMlpDownTwoReferenceIdeal := hMlpDownTwoReferenceIdeal)
    ∧ quiescent_MlpDownTop (hMlpDownTop := hMlpDownTop)
    ∧ quiescent_MlpDownTopIdeal (hMlpDownTopIdeal := hMlpDownTopIdeal)
    ∧ quiescent_MlpDownTopReferenceIdeal (hMlpDownTopReferenceIdeal := hMlpDownTopReferenceIdeal)
    ∧ quiescent_UpDwTop (hUpDwTop := hUpDwTop)
    ∧ quiescent_UpDwTopIdeal (hUpDwTopIdeal := hUpDwTopIdeal)
    ∧ quiescent_UpDwTopReferenceIdeal (hUpDwTopReferenceIdeal := hUpDwTopReferenceIdeal)
    ∧ quiescent_DownDwTop (hDownDwTop := hDownDwTop)
    ∧ quiescent_DownDwTopIdeal (hDownDwTopIdeal := hDownDwTopIdeal)
    ∧ quiescent_DownDwTopReferenceIdeal (hDownDwTopReferenceIdeal := hDownDwTopReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DownDx_DownDxIdeal
    ∧ algebraic_DownDxIdeal_DownDxReferenceIdeal (hDownDxIdeal := hDownDxIdeal) (hDownDxReferenceIdeal := hDownDxReferenceIdeal)
    ∧ preserves_DownDw_DownDwIdeal
    ∧ algebraic_DownDwIdeal_DownDwReferenceIdeal (hDownDwIdeal := hDownDwIdeal) (hDownDwReferenceIdeal := hDownDwReferenceIdeal)
    ∧ preserves_UpDx_UpDxIdeal
    ∧ algebraic_UpDxIdeal_UpDxReferenceIdeal (hUpDxIdeal := hUpDxIdeal) (hUpDxReferenceIdeal := hUpDxReferenceIdeal)
    ∧ preserves_UpDxOne_UpDxOneIdeal
    ∧ algebraic_UpDxOneIdeal_UpDxOneReferenceIdeal (hUpDxOneIdeal := hUpDxOneIdeal) (hUpDxOneReferenceIdeal := hUpDxOneReferenceIdeal)
    ∧ preserves_UpDxTop_UpDxTopIdeal
    ∧ algebraic_UpDxTopIdeal_UpDxTopReferenceIdeal (hUpDxTopIdeal := hUpDxTopIdeal) (hUpDxTopReferenceIdeal := hUpDxTopReferenceIdeal)
    ∧ preserves_UpDw_UpDwIdeal
    ∧ algebraic_UpDwIdeal_UpDwReferenceIdeal (hUpDwIdeal := hUpDwIdeal) (hUpDwReferenceIdeal := hUpDwReferenceIdeal)
    ∧ preserves_DownDxOne_DownDxOneIdeal
    ∧ algebraic_DownDxOneIdeal_DownDxOneReferenceIdeal (hDownDxOneIdeal := hDownDxOneIdeal) (hDownDxOneReferenceIdeal := hDownDxOneReferenceIdeal)
    ∧ preserves_DownDxTwo_DownDxTwoIdeal
    ∧ algebraic_DownDxTwoIdeal_DownDxTwoReferenceIdeal (hDownDxTwoIdeal := hDownDxTwoIdeal) (hDownDxTwoReferenceIdeal := hDownDxTwoReferenceIdeal)
    ∧ preserves_InDx_InDxIdeal
    ∧ algebraic_InDxIdeal_InDxReferenceIdeal (hInDxIdeal := hInDxIdeal) (hInDxReferenceIdeal := hInDxReferenceIdeal)
    ∧ preserves_InDw_InDwIdeal
    ∧ algebraic_InDwIdeal_InDwReferenceIdeal (hInDwIdeal := hInDwIdeal) (hInDwReferenceIdeal := hInDwReferenceIdeal)
    ∧ preserves_OutDw_OutDwIdeal
    ∧ algebraic_OutDwIdeal_OutDwReferenceIdeal (hOutDwIdeal := hOutDwIdeal) (hOutDwReferenceIdeal := hOutDwReferenceIdeal)
    ∧ preserves_OutDx_OutDxIdeal
    ∧ algebraic_OutDxIdeal_OutDxReferenceIdeal (hOutDxIdeal := hOutDxIdeal) (hOutDxReferenceIdeal := hOutDxReferenceIdeal)
    ∧ preserves_SsdIn_SsdInIdeal
    ∧ algebraic_SsdInIdeal_SsdInReferenceIdeal (hSsdInIdeal := hSsdInIdeal) (hSsdInReferenceIdeal := hSsdInReferenceIdeal)
    ∧ preserves_SsdOut_SsdOutIdeal
    ∧ algebraic_SsdOutIdeal_SsdOutReferenceIdeal (hSsdOutIdeal := hSsdOutIdeal) (hSsdOutReferenceIdeal := hSsdOutReferenceIdeal)
    ∧ preserves_MlpUpOne_MlpUpOneIdeal
    ∧ algebraic_MlpUpOneIdeal_MlpUpOneReferenceIdeal (hMlpUpOneIdeal := hMlpUpOneIdeal) (hMlpUpOneReferenceIdeal := hMlpUpOneReferenceIdeal)
    ∧ preserves_MlpUpTwo_MlpUpTwoIdeal
    ∧ algebraic_MlpUpTwoIdeal_MlpUpTwoReferenceIdeal (hMlpUpTwoIdeal := hMlpUpTwoIdeal) (hMlpUpTwoReferenceIdeal := hMlpUpTwoReferenceIdeal)
    ∧ preserves_MlpUpTop_MlpUpTopIdeal
    ∧ algebraic_MlpUpTopIdeal_MlpUpTopReferenceIdeal (hMlpUpTopIdeal := hMlpUpTopIdeal) (hMlpUpTopReferenceIdeal := hMlpUpTopReferenceIdeal)
    ∧ preserves_MlpDownOne_MlpDownOneIdeal
    ∧ algebraic_MlpDownOneIdeal_MlpDownOneReferenceIdeal (hMlpDownOneIdeal := hMlpDownOneIdeal) (hMlpDownOneReferenceIdeal := hMlpDownOneReferenceIdeal)
    ∧ preserves_MlpDownTwo_MlpDownTwoIdeal
    ∧ algebraic_MlpDownTwoIdeal_MlpDownTwoReferenceIdeal (hMlpDownTwoIdeal := hMlpDownTwoIdeal) (hMlpDownTwoReferenceIdeal := hMlpDownTwoReferenceIdeal)
    ∧ preserves_MlpDownTop_MlpDownTopIdeal
    ∧ algebraic_MlpDownTopIdeal_MlpDownTopReferenceIdeal (hMlpDownTopIdeal := hMlpDownTopIdeal) (hMlpDownTopReferenceIdeal := hMlpDownTopReferenceIdeal)
    ∧ preserves_UpDwTop_UpDwTopIdeal
    ∧ algebraic_UpDwTopIdeal_UpDwTopReferenceIdeal (hUpDwTopIdeal := hUpDwTopIdeal) (hUpDwTopReferenceIdeal := hUpDwTopReferenceIdeal)
    ∧ preserves_DownDwTop_DownDwTopIdeal
    ∧ algebraic_DownDwTopIdeal_DownDwTopReferenceIdeal (hDownDwTopIdeal := hDownDwTopIdeal) (hDownDwTopReferenceIdeal := hDownDwTopReferenceIdeal)
-- ==== Pre_finite.lean ====
abbrev S1x4112x16x96 : Shape := ⟨4, ![1, 4112, 16, 96]⟩
abbrev S1x4112x16x64 : Shape := ⟨4, ![1, 4112, 16, 64]⟩
abbrev S_ : Shape := ⟨0, ![]⟩

class Facts : Prop where
  bcast_S_S1x4112x16x96 : S_.BroadcastsInDim S1x4112x16x96 (![] : Fin 0 → Fin S1x4112x16x96.rank)
  reducesTo_S1x4112x16x96_S_d0_1_2_3 : S1x4112x16x96.ReducesTo [0, 1, 2, 3] S_
  h_S_ : 0 < S_.numel
  bcast_S_S1x4112x16x64 : S_.BroadcastsInDim S1x4112x16x64 (![] : Fin 0 → Fin S1x4112x16x64.rank)
  reducesTo_S1x4112x16x64_S_d0_1_2_3 : S1x4112x16x64.ReducesTo [0, 1, 2, 3] S_

variable [Facts]

def fn_part1 {F : FTy → Type} [FloatOps F] (main_v13 : IVec S_ 1) (main_v16 : IVec S1x4112x16x64 1) : IVec S_ 1 :=
  let main_c_5 : IVec S_ 1 := constantI S_ 1 1#1
  let main_v17 : IVec S_ 1 := (fun x v => Host.reduce IntOp.andi x v reducesTo_S1x4112x16x64_S_d0_1_2_3 h_S_) main_v16 main_c_5
  let main_v18 : IVec S_ 1 := andi main_v13 main_v17
  main_v18

def fn {F : FTy → Type} [FloatOps F] (main_arg0 : FVec F S1x4112x16x96 .f32) (main_arg1 : FVec F S1x4112x16x96 .f32) (main_arg2 : FVec F S1x4112x16x64 .f32) (main_arg3 : FVec F S1x4112x16x64 .f32) : IVec S_ 1 :=
  let main_v0 : FVec F S1x4112x16x96 .f32 := Host.absf main_arg0
  let main_cst : FVec F S_ .f32 := constant S_ .f32 0x7F800000#32
  let main_v1 : FVec F S1x4112x16x96 .f32 := broadcastInDim S1x4112x16x96 ![] bcast_S_S1x4112x16x96 main_cst
  let main_v2 : IVec S1x4112x16x96 1 := cmpf .olt main_v0 main_v1
  let main_c : IVec S_ 1 := constantI S_ 1 1#1
  let main_v3 : IVec S_ 1 := (fun x v => Host.reduce IntOp.andi x v reducesTo_S1x4112x16x96_S_d0_1_2_3 h_S_) main_v2 main_c
  let main_v4 : FVec F S1x4112x16x96 .f32 := Host.absf main_arg1
  let main_cst_0 : FVec F S_ .f32 := constant S_ .f32 0x7F800000#32
  let main_v5 : FVec F S1x4112x16x96 .f32 := broadcastInDim S1x4112x16x96 ![] bcast_S_S1x4112x16x96 main_cst_0
  let main_v6 : IVec S1x4112x16x96 1 := cmpf .olt main_v4 main_v5
  let main_c_1 : IVec S_ 1 := constantI S_ 1 1#1
  let main_v7 : IVec S_ 1 := (fun x v => Host.reduce IntOp.andi x v reducesTo_S1x4112x16x96_S_d0_1_2_3 h_S_) main_v6 main_c_1
  let main_v8 : IVec S_ 1 := andi main_v3 main_v7
  let main_v9 : FVec F S1x4112x16x64 .f32 := Host.absf main_arg2
  let main_cst_2 : FVec F S_ .f32 := constant S_ .f32 0x7F800000#32
  let main_v10 : FVec F S1x4112x16x64 .f32 := broadcastInDim S1x4112x16x64 ![] bcast_S_S1x4112x16x64 main_cst_2
  let main_v11 : IVec S1x4112x16x64 1 := cmpf .olt main_v9 main_v10
  let main_c_3 : IVec S_ 1 := constantI S_ 1 1#1
  let main_v12 : IVec S_ 1 := (fun x v => Host.reduce IntOp.andi x v reducesTo_S1x4112x16x64_S_d0_1_2_3 h_S_) main_v11 main_c_3
  let main_v13 : IVec S_ 1 := andi main_v8 main_v12
  let main_v14 : FVec F S1x4112x16x64 .f32 := Host.absf main_arg3
  let main_cst_4 : FVec F S_ .f32 := constant S_ .f32 0x7F800000#32
  let main_v15 : FVec F S1x4112x16x64 .f32 := broadcastInDim S1x4112x16x64 ![] bcast_S_S1x4112x16x64 main_cst_4
  let main_v16 : IVec S1x4112x16x64 1 := cmpf .olt main_v14 main_v15
  fn_part1 (F := F) main_v13 main_v16
-- ==== Kernel.lean ====
abbrev S1x4112x16x96 : Shape := ⟨4, ![1, 4112, 16, 96]⟩
abbrev S1x4112x16x64 : Shape := ⟨4, ![1, 4112, 16, 64]⟩
abbrev S4112x16x96 : Shape := ⟨3, ![4112, 16, 96]⟩
abbrev S16x4112x4112 : Shape := ⟨3, ![16, 4112, 4112]⟩
abbrev S_ : Shape := ⟨0, ![]⟩
abbrev S4112 : Shape := ⟨1, ![4112]⟩
abbrev S1x4112 : Shape := ⟨2, ![1, 4112]⟩
abbrev S4112x1 : Shape := ⟨2, ![4112, 1]⟩
abbrev S4112x4112 : Shape := ⟨2, ![4112, 4112]⟩
abbrev S16x4112 : Shape := ⟨2, ![16, 4112]⟩
abbrev S16x4112x1 : Shape := ⟨3, ![16, 4112, 1]⟩
abbrev S4112x16x64 : Shape := ⟨3, ![4112, 16, 64]⟩
abbrev S16x4112x64 : Shape := ⟨3, ![16, 4112, 64]⟩
abbrev S4224x2048 : Shape := ⟨2, ![4224, 2048]⟩
abbrev S4224x16x128 : Shape := ⟨3, ![4224, 16, 128]⟩
abbrev S16x4224x1 : Shape := ⟨3, ![16, 4224, 1]⟩
abbrev S4224x256 : Shape := ⟨2, ![4224, 256]⟩
abbrev S384x256 : Shape := ⟨2, ![384, 256]⟩
abbrev S2x4224x1 : Shape := ⟨3, ![2, 4224, 1]⟩
abbrev S2x384x384 : Shape := ⟨3, ![2, 384, 384]⟩
abbrev S384x128 : Shape := ⟨2, ![384, 128]⟩
abbrev S384x384 : Shape := ⟨2, ![384, 384]⟩
abbrev S1x384x384 : Shape := ⟨3, ![1, 384, 384]⟩
abbrev S1x384x1 : Shape := ⟨3, ![1, 384, 1]⟩
abbrev S384x1 : Shape := ⟨2, ![384, 1]⟩
abbrev S1x384x128 : Shape := ⟨3, ![1, 384, 128]⟩
abbrev S1x128 : Shape := ⟨2, ![1, 128]⟩

abbrev nBuf : Space → Nat
  | .hbm => 106
  | .vmem => 22
  | .smem => 0
  | _ => 0

abbrev bufTy : (tb : Table) → Fin (tcTables nBuf tb) → BufTy
  | .hbm, ⟨0, _⟩ => ⟨S1x4112x16x96, .f32⟩
  | .hbm, ⟨1, _⟩ => ⟨S1x4112x16x96, .f32⟩
  | .hbm, ⟨2, _⟩ => ⟨S1x4112x16x64, .f32⟩
  | .hbm, ⟨3, _⟩ => ⟨S1x4112x16x64, .f32⟩
  | .hbm, ⟨4, _⟩ => ⟨S4112x16x96, .f32⟩
  | .hbm, ⟨5, _⟩ => ⟨S4112x16x96, .f32⟩
  | .hbm, ⟨6, _⟩ => ⟨S16x4112x4112, .f32⟩
  | .hbm, ⟨7, _⟩ => ⟨S_, .f32⟩
  | .hbm, ⟨8, _⟩ => ⟨S16x4112x4112, .f32⟩
  | .hbm, ⟨9, _⟩ => ⟨S16x4112x4112, .f32⟩
  | .hbm, ⟨10, _⟩ => ⟨S4112, .i32⟩
  | .hbm, ⟨11, _⟩ => ⟨S1x4112, .i32⟩
  | .hbm, ⟨12, _⟩ => ⟨S4112, .i32⟩
  | .hbm, ⟨13, _⟩ => ⟨S4112x1, .i32⟩
  | .hbm, ⟨14, _⟩ => ⟨S4112x4112, .i32⟩
  | .hbm, ⟨15, _⟩ => ⟨S4112x4112, .i32⟩
  | .hbm, ⟨16, _⟩ => ⟨S4112x4112, .i1⟩
  | .hbm, ⟨17, _⟩ => ⟨S_, .f32⟩
  | .hbm, ⟨18, _⟩ => ⟨S_, .f32⟩
  | .hbm, ⟨19, _⟩ => ⟨S16x4112x4112, .i1⟩
  | .hbm, ⟨20, _⟩ => ⟨S16x4112x4112, .f32⟩
  | .hbm, ⟨21, _⟩ => ⟨S16x4112x4112, .f32⟩
  | .hbm, ⟨22, _⟩ => ⟨S_, .f32⟩
  | .hbm, ⟨23, _⟩ => ⟨S16x4112, .f32⟩
  | .hbm, ⟨24, _⟩ => ⟨S16x4112x1, .f32⟩
  | .hbm, ⟨25, _⟩ => ⟨S16x4112x4112, .f32⟩
  | .hbm, ⟨26, _⟩ => ⟨S16x4112x4112, .f32⟩
  | .hbm, ⟨27, _⟩ => ⟨S16x4112x4112, .f32⟩
  | .hbm, ⟨28, _⟩ => ⟨S_, .f32⟩
  | .hbm, ⟨29, _⟩ => ⟨S16x4112, .f32⟩
  | .hbm, ⟨30, _⟩ => ⟨S16x4112x1, .f32⟩
  | .hbm, ⟨31, _⟩ => ⟨S16x4112x1, .f32⟩
  | .hbm, ⟨32, _⟩ => ⟨S16x4112x1, .f32⟩
  | .hbm, ⟨33, _⟩ => ⟨S16x4112x4112, .f32⟩
  | .hbm, ⟨34, _⟩ => ⟨S16x4112x4112, .f32⟩
  | .hbm, ⟨35, _⟩ => ⟨S4112x16x64, .f32⟩
  | .hbm, ⟨36, _⟩ => ⟨S16x4112x64, .f32⟩
  | .hbm, ⟨37, _⟩ => ⟨S4112x16x64, .f32⟩
  | .hbm, ⟨38, _⟩ => ⟨S16x4112x64, .f32⟩
  | .hbm, ⟨39, _⟩ => ⟨S16x4112x64, .f32⟩
  | .hbm, ⟨40, _⟩ => ⟨S_, .f32⟩
  | .hbm, ⟨41, _⟩ => ⟨S16x4112, .f32⟩
  | .hbm, ⟨42, _⟩ => ⟨S16x4112x1, .f32⟩
  | .hbm, ⟨43, _⟩ => ⟨S4224x2048, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S4224x2048, .i32⟩
  | .hbm, ⟨51, _⟩ => ⟨S4224x2048, .i32⟩
  | .hbm, ⟨52, _⟩ => ⟨S_, .i32⟩
  | .hbm, ⟨53, _⟩ => ⟨S4224x2048, .i32⟩
  | .hbm, ⟨54, _⟩ => ⟨S4224x2048, .i1⟩
  | .hbm, ⟨55, _⟩ => ⟨S_, .i32⟩
  | .hbm, ⟨56, _⟩ => ⟨S4224x2048, .i32⟩
  | .hbm, ⟨57, _⟩ => ⟨S4224x2048, .i1⟩
  | .hbm, ⟨58, _⟩ => ⟨S_, .i32⟩
  | .hbm, ⟨59, _⟩ => ⟨S_, .i1⟩
  | .hbm, ⟨60, _⟩ => ⟨S4224x2048, .i1⟩
  | .hbm, ⟨61, _⟩ => ⟨S4224x2048, .i1⟩
  | .hbm, ⟨62, _⟩ => ⟨S4224x2048, .i1⟩
  | .hbm, ⟨63, _⟩ => ⟨S4224x2048, .i32⟩
  | .hbm, ⟨64, _⟩ => ⟨S4224x2048, .i32⟩
  | .hbm, ⟨65, _⟩ => ⟨S4224x2048, .i32⟩
  | .hbm, ⟨66, _⟩ => ⟨S_, .i32⟩
  | .hbm, ⟨67, _⟩ => ⟨S4224x2048, .i32⟩
  | .hbm, ⟨68, _⟩ => ⟨S4224x2048, .i1⟩
  | .hbm, ⟨69, _⟩ => ⟨S4112x16x64, .f32⟩
  | .hbm, ⟨70, _⟩ => ⟨S_, .i32⟩
  | .hbm, ⟨71, _⟩ => ⟨S_, .f32⟩
  | .hbm, ⟨72, _⟩ => ⟨S4224x16x128, .f32⟩
  | .hbm, ⟨73, _⟩ => ⟨S4224x2048, .f32⟩
  | .hbm, ⟨74, _⟩ => ⟨S_, .f32⟩
  | .hbm, ⟨75, _⟩ => ⟨S_, .f32⟩
  | .hbm, ⟨76, _⟩ => ⟨S4224x2048, .f32⟩
  | .hbm, ⟨77, _⟩ => ⟨S4224x2048, .f32⟩
  | .hbm, ⟨78, _⟩ => ⟨S4112x16x96, .f32⟩
  | .hbm, ⟨79, _⟩ => ⟨S_, .i32⟩
  | .hbm, ⟨80, _⟩ => ⟨S_, .f32⟩
  | .hbm, ⟨81, _⟩ => ⟨S4224x16x128, .f32⟩
  | .hbm, ⟨82, _⟩ => ⟨S4224x2048, .f32⟩
  | .hbm, ⟨83, _⟩ => ⟨S4224x2048, .bf16⟩
  | .hbm, ⟨84, _⟩ => ⟨S4112x16x96, .f32⟩
  | .hbm, ⟨85, _⟩ => ⟨S_, .i32⟩
  | .hbm, ⟨86, _⟩ => ⟨S_, .f32⟩
  | .hbm, ⟨87, _⟩ => ⟨S4224x16x128, .f32⟩
  | .hbm, ⟨88, _⟩ => ⟨S4224x2048, .f32⟩
  | .hbm, ⟨89, _⟩ => ⟨S4224x2048, .bf16⟩
  | .hbm, ⟨90, _⟩ => ⟨S4224x2048, .bf16⟩
  | .hbm, ⟨91, _⟩ => ⟨S4112x16x64, .f32⟩
  | .hbm, ⟨92, _⟩ => ⟨S_, .i32⟩
  | .hbm, ⟨93, _⟩ => ⟨S_, .f32⟩
  | .hbm, ⟨94, _⟩ => ⟨S4224x16x128, .f32⟩
  | .hbm, ⟨95, _⟩ => ⟨S4224x2048, .f32⟩
  | .hbm, ⟨96, _⟩ => ⟨S4224x2048, .bf16⟩
  | .hbm, ⟨97, _⟩ => ⟨S_, .i32⟩
  | .hbm, ⟨98, _⟩ => ⟨S_, .f32⟩
  | .hbm, ⟨99, _⟩ => ⟨S16x4224x1, .f32⟩
  | .hbm, ⟨100, _⟩ => ⟨S_, .i32⟩
  | .hbm, ⟨101, _⟩ => ⟨S_, .f32⟩
  | .hbm, ⟨102, _⟩ => ⟨S16x4224x1, .f32⟩
  | .hbm, ⟨103, _⟩ => ⟨S4224x2048, .f32⟩
  | .hbm, ⟨104, _⟩ => ⟨S4224x2048, .f32⟩
  | .hbm, ⟨105, _⟩ => ⟨S4224x2048, .f32⟩
  | .local _ .vmem, ⟨0, _⟩ => ⟨S4224x256, .bf16⟩
  | .local _ .vmem, ⟨1, _⟩ => ⟨S4224x256, .bf16⟩
  | .local _ .vmem, ⟨2, _⟩ => ⟨S384x256, .bf16⟩
  | .local _ .vmem, ⟨3, _⟩ => ⟨S384x256, .bf16⟩
  | .local _ .vmem, ⟨4, _⟩ => ⟨S384x256, .bf16⟩
  | .local _ .vmem, ⟨5, _⟩ => ⟨S384x256, .bf16⟩
  | .local _ .vmem, ⟨6, _⟩ => ⟨S4224x256, .bf16⟩
  | .local _ .vmem, ⟨7, _⟩ => ⟨S4224x256, .bf16⟩
  | .local _ .vmem, ⟨8, _⟩ => ⟨S2x4224x1, .f32⟩
  | .local _ .vmem, ⟨9, _⟩ => ⟨S2x4224x1, .f32⟩
  | .local _ .vmem, ⟨10, _⟩ => ⟨S2x4224x1, .f32⟩
  | .local _ .vmem, ⟨11, _⟩ => ⟨S2x4224x1, .f32⟩
  | .local _ .vmem, ⟨12, _⟩ => ⟨S4224x256, .f32⟩
  | .local _ .vmem, ⟨13, _⟩ => ⟨S4224x256, .f32⟩
  | .local _ .vmem, ⟨14, _⟩ => ⟨S384x256, .f32⟩
  | .local _ .vmem, ⟨15, _⟩ => ⟨S384x256, .f32⟩
  | .local _ .vmem, ⟨16, _⟩ => ⟨S384x256, .f32⟩
  | .local _ .vmem, ⟨17, _⟩ => ⟨S384x256, .f32⟩
  | .local _ .vmem, ⟨18, _⟩ => ⟨S2x384x384, .f32⟩
  | .local _ .vmem, ⟨19, _⟩ => ⟨S2x384x384, .f32⟩
  | .local _ .vmem, ⟨20, _⟩ => ⟨S2x384x384, .bf16⟩
  | .local _ .vmem, ⟨21, _⟩ => ⟨S2x384x384, .bf16⟩
  | _, _ => ⟨S1x4112x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c : Ref sig .tc := ⟨.hbm, 44, rfl⟩
abbrev main_call1_v0 : Ref sig .tc := ⟨.hbm, 45, rfl⟩
abbrev main_call1_c : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_c_1 : Ref sig .tc := ⟨.hbm, 52, rfl⟩
abbrev main_call1_v5 : Ref sig .tc := ⟨.hbm, 53, rfl⟩
abbrev main_call1_v6 : Ref sig .tc := ⟨.hbm, 54, rfl⟩
abbrev main_call1_c_2 : Ref sig .tc := ⟨.hbm, 55, rfl⟩
abbrev main_call1_v7 : Ref sig .tc := ⟨.hbm, 56, rfl⟩
abbrev main_call1_v8 : Ref sig .tc := ⟨.hbm, 57, rfl⟩
abbrev main_call1_c_3 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_v32 : Ref sig .tc := ⟨.hbm, 65, rfl⟩
abbrev main_c_4 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_c_5 : Ref sig .tc := ⟨.hbm, 70, rfl⟩
abbrev main_call2_v0 : Ref sig .tc := ⟨.hbm, 71, rfl⟩
abbrev main_v36 : Ref sig .tc := ⟨.hbm, 72, rfl⟩
abbrev main_v37 : Ref sig .tc := ⟨.hbm, 73, rfl⟩
abbrev main_cst_6 : Ref sig .tc := ⟨.hbm, 74, rfl⟩
abbrev main_call3_v0 : Ref sig .tc := ⟨.hbm, 75, rfl⟩
abbrev main_call3_v1 : Ref sig .tc := ⟨.hbm, 76, rfl⟩
abbrev main_v38 : Ref sig .tc := ⟨.hbm, 77, rfl⟩
abbrev main_v39 : Ref sig .tc := ⟨.hbm, 78, rfl⟩
abbrev main_c_7 : Ref sig .tc := ⟨.hbm, 79, rfl⟩
abbrev main_call4_v0 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_c_8 : Ref sig .tc := ⟨.hbm, 85, rfl⟩
abbrev main_call5_v0 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_c_9 : Ref sig .tc := ⟨.hbm, 92, rfl⟩
abbrev main_call6_v0 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_c_10 : Ref sig .tc := ⟨.hbm, 97, rfl⟩
abbrev main_call7_v0 : Ref sig .tc := ⟨.hbm, 98, rfl⟩
abbrev main_v52 : Ref sig .tc := ⟨.hbm, 99, rfl⟩
abbrev main_c_11 : Ref sig .tc := ⟨.hbm, 100, rfl⟩
abbrev main_call8_v0 : Ref sig .tc := ⟨.hbm, 101, rfl⟩
abbrev main_v53 : Ref sig .tc := ⟨.hbm, 102, rfl⟩
abbrev main_v54_0 : Ref sig .tc := ⟨.hbm, 103, rfl⟩
abbrev main_v54_1 : Ref sig .tc := ⟨.hbm, 104, rfl⟩
abbrev main_v54_2 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 11], ![false, false]⟩

def k0_mult1 (i : grid0.Coords) : BitVec 32 :=
  let arg1 : BitVec 32 := BitVec.ofNat 32 (i 1).val
  let c384_i32 : BitVec 32 := 384#32
  let v7 : BitVec 32 := Scalar.muli arg1 c384_i32
  v7
def k0_off1 (i : grid0.Coords) : Fin 2 → Nat :=
  let arg1 : BitVec 32 := BitVec.ofNat 32 (i 1).val
  let c384_i32 : BitVec 32 := 384#32
  let v7 : BitVec 32 := Scalar.muli arg1 c384_i32
  let v8 : BitVec 32 := v7
  let v9 : Index := Scalar.indexCast v8
  let c0_5 : Index := 0#32
  ![v9.toNat, 0]
def k0_off2 (i : grid0.Coords) : Fin 3 → Nat :=
  let c0_19 : Index := 0#32
  let arg1 : BitVec 32 := BitVec.ofNat 32 (i 1).val
  let c384_i32 : BitVec 32 := 384#32
  let v7 : BitVec 32 := Scalar.muli arg1 c384_i32
  let v8 : BitVec 32 := v7
  let v27 : Index := Scalar.indexCast v8
  let c0_20 : Index := 0#32
  ![0, v27.toNat, 0]
def k0_off3 (i : grid0.Coords) : Fin 2 → Nat :=
  let arg1 : BitVec 32 := BitVec.ofNat 32 (i 1).val
  let c384_i32 : BitVec 32 := 384#32
  let v7 : BitVec 32 := Scalar.muli arg1 c384_i32
  let v8 : BitVec 32 := v7
  let v186 : Index := Scalar.indexCast v8
  let c128_96 : Index := 128#32
  ![v186.toNat, 128]
def k0_off4 (i : grid0.Coords) : Fin 3 → Nat :=
  let c1_109 : Index := 1#32
  let arg1 : BitVec 32 := BitVec.ofNat 32 (i 1).val
  let c384_i32 : BitVec 32 := 384#32
  let v7 : BitVec 32 := Scalar.muli arg1 c384_i32
  let v8 : BitVec 32 := v7
  let v204 : Index := Scalar.indexCast v8
  let c0_110 : Index := 0#32
  ![1, v204.toNat, 0]
def k0_cond2 (i : grid0.Coords) : BitVec 1 :=
  let arg1 : BitVec 32 := BitVec.ofNat 32 (i 1).val
  let c0_i32_191 : BitVec 32 := 0#32
  let v363 : BitVec 1 := Scalar.cmpi .eq arg1 c0_i32_191
  let v364 : BitVec 32 := Scalar.extui v363
  let c0_i32_192 : BitVec 32 := 0#32
  let v365 : BitVec 1 := Scalar.cmpi .ne v364 c0_i32_192
  v365

@[reducible] def k0_t1_loop (i : grid0.Coords) : Scf.Loop 32 :=
  let arg1 : BitVec 32 := BitVec.ofNat 32 (i 1).val
  let c1_i32 : BitVec 32 := 1#32
  let v374 : BitVec 32 := Scalar.addi arg1 c1_i32
  let c11_i32 : BitVec 32 := 11#32
  let v375 : BitVec 32 := Scalar.subi c11_i32 v374
  let c1_i32_201 : BitVec 32 := 1#32
  let v377 : BitVec 32 := Scalar.divsi v375 c1_i32_201
  let v378 : BitVec 32 := Scalar.muli v377 c1_i32_201
  let v379 : BitVec 32 := Scalar.addi v374 v378
  let c1_i32_202 : BitVec 32 := 1#32
  ⟨v374, v379, c1_i32_202⟩
def k0_mult2 (i : grid0.Coords) (k0_t1 : Fin (k0_t1_loop i).trips) : BitVec 32 :=
  let arg1 : BitVec 32 := BitVec.ofNat 32 (i 1).val
  let c1_i32 : BitVec 32 := 1#32
  let v374 : BitVec 32 := Scalar.addi arg1 c1_i32
  let c1_i32_202 : BitVec 32 := 1#32
  let arg15 : BitVec 32 := Scf.iv v374 c1_i32_202 k0_t1
  let c384_i32_204 : BitVec 32 := 384#32
  let v380 : BitVec 32 := Scalar.muli arg15 c384_i32_204
  v380
def k0_off5 (i : grid0.Coords) (k0_t1 : Fin (k0_t1_loop i).trips) : Fin 2 → Nat :=
  let arg1 : BitVec 32 := BitVec.ofNat 32 (i 1).val
  let c1_i32 : BitVec 32 := 1#32
  let v374 : BitVec 32 := Scalar.addi arg1 c1_i32
  let c1_i32_202 : BitVec 32 := 1#32
  let arg15 : BitVec 32 := Scf.iv v374 c1_i32_202 k0_t1
  let c384_i32_204 : BitVec 32 := 384#32
  let v380 : BitVec 32 := Scalar.muli arg15 c384_i32_204
  let v381 : BitVec 32 := v380
  let v382 : Index := Scalar.indexCast v381
  let c0_205 : Index := 0#32
  ![v382.toNat, 0]
def k0_off6 (i : grid0.Coords) (k0_t1 : Fin (k0_t1_loop i).trips) : Fin 3 → Nat :=
  let c0_219 : Index := 0#32
  let arg1 : BitVec 32 := BitVec.ofNat 32 (i 1).val
  let c1_i32 : BitVec 32 := 1#32
  let v374 : BitVec 32 := Scalar.addi arg1 c1_i32
  let c1_i32_202 : BitVec 32 := 1#32
  let arg15 : BitVec 32 := Scf.iv v374 c1_i32_202 k0_t1
  let c384_i32_204 : BitVec 32 := 384#32
  let v380 : BitVec 32 := Scalar.muli arg15 c384_i32_204
  let v381 : BitVec 32 := v380
  let v400 : Index := Scalar.indexCast v381
  let c0_220 : Index := 0#32
  ![0, v400.toNat, 0]
def k0_off7 (i : grid0.Coords) (k0_t1 : Fin (k0_t1_loop i).trips) : Fin 2 → Nat :=
  let arg1 : BitVec 32 := BitVec.ofNat 32 (i 1).val
  let c1_i32 : BitVec 32 := 1#32
  let v374 : BitVec 32 := Scalar.addi arg1 c1_i32
  let c1_i32_202 : BitVec 32 := 1#32
  let arg15 : BitVec 32 := Scf.iv v374 c1_i32_202 k0_t1
  let c384_i32_204 : BitVec 32 := 384#32
  let v380 : BitVec 32 := Scalar.muli arg15 c384_i32_204
  let v381 : BitVec 32 := v380
  let v526 : Index := Scalar.indexCast v381
  let c128_298 : Index := 128#32
  ![v526.toNat, 128]
def k0_off8 (i : grid0.Coords) (k0_t1 : Fin (k0_t1_loop i).trips) : Fin 3 → Nat :=
  let c1_312 : Index := 1#32
  let arg1 : BitVec 32 := BitVec.ofNat 32 (i 1).val
  let c1_i32 : BitVec 32 := 1#32
  let v374 : BitVec 32 := Scalar.addi arg1 c1_i32
  let c1_i32_202 : BitVec 32 := 1#32
  let arg15 : BitVec 32 := Scf.iv v374 c1_i32_202 k0_t1
  let c384_i32_204 : BitVec 32 := 384#32
  let v380 : BitVec 32 := Scalar.muli arg15 c384_i32_204
  let v381 : BitVec 32 := v380
  let v544 : Index := Scalar.indexCast v381
  let c0_313 : Index := 0#32
  ![1, v544.toNat, 0]
@[reducible] def k0_t2_loop (i : grid0.Coords) : Scf.Loop 32 :=
  let arg1 : BitVec 32 := BitVec.ofNat 32 (i 1).val
  let c1_i32 : BitVec 32 := 1#32
  let v374 : BitVec 32 := Scalar.addi arg1 c1_i32
  let c11_i32 : BitVec 32 := 11#32
  let v375 : BitVec 32 := Scalar.subi c11_i32 v374
  let c1_i32_201 : BitVec 32 := 1#32
  let v377 : BitVec 32 := Scalar.divsi v375 c1_i32_201
  let v378 : BitVec 32 := Scalar.muli v377 c1_i32_201
  let v379 : BitVec 32 := Scalar.addi v374 v378
  let v376 : BitVec 32 := Scalar.addi v374 v375
  let c1_i32_203 : BitVec 32 := 1#32
  ⟨v379, v376, c1_i32_203⟩
def k0_mult3 (i : grid0.Coords) (k0_t2 : Fin (k0_t2_loop i).trips) : BitVec 32 :=
  let arg1 : BitVec 32 := BitVec.ofNat 32 (i 1).val
  let c1_i32 : BitVec 32 := 1#32
  let v374 : BitVec 32 := Scalar.addi arg1 c1_i32
  let c11_i32 : BitVec 32 := 11#32
  let v375 : BitVec 32 := Scalar.subi c11_i32 v374
  let c1_i32_201 : BitVec 32 := 1#32
  let v377 : BitVec 32 := Scalar.divsi v375 c1_i32_201
  let v378 : BitVec 32 := Scalar.muli v377 c1_i32_201
  let v379 : BitVec 32 := Scalar.addi v374 v378
  let c1_i32_203 : BitVec 32 := 1#32
  let arg15 : BitVec 32 := Scf.iv v379 c1_i32_203 k0_t2
  let c384_i32_204 : BitVec 32 := 384#32
  let v380 : BitVec 32 := Scalar.muli arg15 c384_i32_204
  v380
def k0_off9 (i : grid0.Coords) (k0_t2 : Fin (k0_t2_loop i).trips) : Fin 2 → Nat :=
  let arg1 : BitVec 32 := BitVec.ofNat 32 (i 1).val
  let c1_i32 : BitVec 32 := 1#32
  let v374 : BitVec 32 := Scalar.addi arg1 c1_i32
  let c11_i32 : BitVec 32 := 11#32
  let v375 : BitVec 32 := Scalar.subi c11_i32 v374
  let c1_i32_201 : BitVec 32 := 1#32
  let v377 : BitVec 32 := Scalar.divsi v375 c1_i32_201
  let v378 : BitVec 32 := Scalar.muli v377 c1_i32_201
  let v379 : BitVec 32 := Scalar.addi v374 v378
  let c1_i32_203 : BitVec 32 := 1#32
  let arg15 : BitVec 32 := Scf.iv v379 c1_i32_203 k0_t2
  let c384_i32_204 : BitVec 32 := 384#32
  let v380 : BitVec 32 := Scalar.muli arg15 c384_i32_204
  let v381 : BitVec 32 := v380
  let v382 : Index := Scalar.indexCast v381
  let c0_205 : Index := 0#32
  ![v382.toNat, 0]
def k0_off10 (i : grid0.Coords) (k0_t2 : Fin (k0_t2_loop i).trips) : Fin 3 → Nat :=
  let c0_219 : Index := 0#32
  let arg1 : BitVec 32 := BitVec.ofNat 32 (i 1).val
  let c1_i32 : BitVec 32 := 1#32
  let v374 : BitVec 32 := Scalar.addi arg1 c1_i32
  let c11_i32 : BitVec 32 := 11#32
  let v375 : BitVec 32 := Scalar.subi c11_i32 v374
  let c1_i32_201 : BitVec 32 := 1#32
  let v377 : BitVec 32 := Scalar.divsi v375 c1_i32_201
  let v378 : BitVec 32 := Scalar.muli v377 c1_i32_201
  let v379 : BitVec 32 := Scalar.addi v374 v378
  let c1_i32_203 : BitVec 32 := 1#32
  let arg15 : BitVec 32 := Scf.iv v379 c1_i32_203 k0_t2
  let c384_i32_204 : BitVec 32 := 384#32
  let v380 : BitVec 32 := Scalar.muli arg15 c384_i32_204
  let v381 : BitVec 32 := v380
  let v400 : Index := Scalar.indexCast v381
  let c0_220 : Index := 0#32
  ![0, v400.toNat, 0]
def k0_off11 (i : grid0.Coords) (k0_t2 : Fin (k0_t2_loop i).trips) : Fin 2 → Nat :=
  let arg1 : BitVec 32 := BitVec.ofNat 32 (i 1).val
  let c1_i32 : BitVec 32 := 1#32
  let v374 : BitVec 32 := Scalar.addi arg1 c1_i32
  let c11_i32 : BitVec 32 := 11#32
  let v375 : BitVec 32 := Scalar.subi c11_i32 v374
  let c1_i32_201 : BitVec 32 := 1#32
  let v377 : BitVec 32 := Scalar.divsi v375 c1_i32_201
  let v378 : BitVec 32 := Scalar.muli v377 c1_i32_201
  let v379 : BitVec 32 := Scalar.addi v374 v378
  let c1_i32_203 : BitVec 32 := 1#32
  let arg15 : BitVec 32 := Scf.iv v379 c1_i32_203 k0_t2
  let c384_i32_204 : BitVec 32 := 384#32
  let v380 : BitVec 32 := Scalar.muli arg15 c384_i32_204
  let v381 : BitVec 32 := v380
  let v526 : Index := Scalar.indexCast v381
  let c128_298 : Index := 128#32
  ![v526.toNat, 128]
def k0_off12 (i : grid0.Coords) (k0_t2 : Fin (k0_t2_loop i).trips) : Fin 3 → Nat :=
  let c1_312 : Index := 1#32
  let arg1 : BitVec 32 := BitVec.ofNat 32 (i 1).val
  let c1_i32 : BitVec 32 := 1#32
  let v374 : BitVec 32 := Scalar.addi arg1 c1_i32
  let c11_i32 : BitVec 32 := 11#32
  let v375 : BitVec 32 := Scalar.subi c11_i32 v374
  let c1_i32_201 : BitVec 32 := 1#32
  let v377 : BitVec 32 := Scalar.divsi v375 c1_i32_201
  let v378 : BitVec 32 := Scalar.muli v377 c1_i32_201
  let v379 : BitVec 32 := Scalar.addi v374 v378
  let c1_i32_203 : BitVec 32 := 1#32
  let arg15 : BitVec 32 := Scf.iv v379 c1_i32_203 k0_t2
  let c384_i32_204 : BitVec 32 := 384#32
  let v380 : BitVec 32 := Scalar.muli arg15 c384_i32_204
  let v381 : BitVec 32 := v380
  let v544 : Index := Scalar.indexCast v381
  let c0_313 : Index := 0#32
  ![1, v544.toNat, 0]
def k0_cond3 (i : grid0.Coords) : BitVec 1 :=
  let arg1 : BitVec 32 := BitVec.ofNat 32 (i 1).val
  let c0_i32_193 : BitVec 32 := 0#32
  let v366 : BitVec 1 := Scalar.cmpi .sgt arg1 c0_i32_193
  let v367 : BitVec 32 := Scalar.extui v366
  let c0_i32_194 : BitVec 32 := 0#32
  let v368 : BitVec 1 := Scalar.cmpi .ne v367 c0_i32_194
  v368

@[reducible] def k0_t3_loop (i : grid0.Coords) : Scf.Loop 32 :=
  let arg1 : BitVec 32 := BitVec.ofNat 32 (i 1).val
  let c1_i32 : BitVec 32 := 1#32
  let v374 : BitVec 32 := Scalar.addi arg1 c1_i32
  let c11_i32 : BitVec 32 := 11#32
  let v375 : BitVec 32 := Scalar.subi c11_i32 v374
  let c1_i32_201 : BitVec 32 := 1#32
  let v377 : BitVec 32 := Scalar.divsi v375 c1_i32_201
  let v378 : BitVec 32 := Scalar.muli v377 c1_i32_201
  let v379 : BitVec 32 := Scalar.addi v374 v378
  let c1_i32_202 : BitVec 32 := 1#32
  ⟨v374, v379, c1_i32_202⟩
def k0_mult4 (i : grid0.Coords) (k0_t3 : Fin (k0_t3_loop i).trips) : BitVec 32 :=
  let arg1 : BitVec 32 := BitVec.ofNat 32 (i 1).val
  let c1_i32 : BitVec 32 := 1#32
  let v374 : BitVec 32 := Scalar.addi arg1 c1_i32
  let c1_i32_202 : BitVec 32 := 1#32
  let arg15 : BitVec 32 := Scf.iv v374 c1_i32_202 k0_t3
  let c384_i32_204 : BitVec 32 := 384#32
  let v380 : BitVec 32 := Scalar.muli arg15 c384_i32_204
  v380
def k0_off13 (i : grid0.Coords) (k0_t3 : Fin (k0_t3_loop i).trips) : Fin 2 → Nat :=
  let arg1 : BitVec 32 := BitVec.ofNat 32 (i 1).val
  let c1_i32 : BitVec 32 := 1#32
  let v374 : BitVec 32 := Scalar.addi arg1 c1_i32
  let c1_i32_202 : BitVec 32 := 1#32
  let arg15 : BitVec 32 := Scf.iv v374 c1_i32_202 k0_t3
  let c384_i32_204 : BitVec 32 := 384#32
  let v380 : BitVec 32 := Scalar.muli arg15 c384_i32_204
  let v381 : BitVec 32 := v380
  let v382 : Index := Scalar.indexCast v381
  let c0_205 : Index := 0#32
  ![v382.toNat, 0]
def k0_off14 (i : grid0.Coords) (k0_t3 : Fin (k0_t3_loop i).trips) : Fin 3 → Nat :=
  let c0_219 : Index := 0#32
  let arg1 : BitVec 32 := BitVec.ofNat 32 (i 1).val
  let c1_i32 : BitVec 32 := 1#32
  let v374 : BitVec 32 := Scalar.addi arg1 c1_i32
  let c1_i32_202 : BitVec 32 := 1#32
  let arg15 : BitVec 32 := Scf.iv v374 c1_i32_202 k0_t3
  let c384_i32_204 : BitVec 32 := 384#32
  let v380 : BitVec 32 := Scalar.muli arg15 c384_i32_204
  let v381 : BitVec 32 := v380
  let v400 : Index := Scalar.indexCast v381
  let c0_220 : Index := 0#32
  ![0, v400.toNat, 0]
def k0_off15 (i : grid0.Coords) (k0_t3 : Fin (k0_t3_loop i).trips) : Fin 2 → Nat :=
  let arg1 : BitVec 32 := BitVec.ofNat 32 (i 1).val
  let c1_i32 : BitVec 32 := 1#32
  let v374 : BitVec 32 := Scalar.addi arg1 c1_i32
  let c1_i32_202 : BitVec 32 := 1#32
  let arg15 : BitVec 32 := Scf.iv v374 c1_i32_202 k0_t3
  let c384_i32_204 : BitVec 32 := 384#32
  let v380 : BitVec 32 := Scalar.muli arg15 c384_i32_204
  let v381 : BitVec 32 := v380
  let v493 : Index := Scalar.indexCast v381
  let c128_286 : Index := 128#32
  ![v493.toNat, 128]
def k0_off16 (i : grid0.Coords) (k0_t3 : Fin (k0_t3_loop i).trips) : Fin 3 → Nat :=
  let c1_300 : Index := 1#32
  let arg1 : BitVec 32 := BitVec.ofNat 32 (i 1).val
  let c1_i32 : BitVec 32 := 1#32
  let v374 : BitVec 32 := Scalar.addi arg1 c1_i32
  let c1_i32_202 : BitVec 32 := 1#32
  let arg15 : BitVec 32 := Scf.iv v374 c1_i32_202 k0_t3
  let c384_i32_204 : BitVec 32 := 384#32
  let v380 : BitVec 32 := Scalar.muli arg15 c384_i32_204
  let v381 : BitVec 32 := v380
  let v511 : Index := Scalar.indexCast v381
  let c0_301 : Index := 0#32
  ![1, v511.toNat, 0]
@[reducible] def k0_t4_loop (i : grid0.Coords) : Scf.Loop 32 :=
  let arg1 : BitVec 32 := BitVec.ofNat 32 (i 1).val
  let c1_i32 : BitVec 32 := 1#32
  let v374 : BitVec 32 := Scalar.addi arg1 c1_i32
  let c11_i32 : BitVec 32 := 11#32
  let v375 : BitVec 32 := Scalar.subi c11_i32 v374
  let c1_i32_201 : BitVec 32 := 1#32
  let v377 : BitVec 32 := Scalar.divsi v375 c1_i32_201
  let v378 : BitVec 32 := Scalar.muli v377 c1_i32_201
  let v379 : BitVec 32 := Scalar.addi v374 v378
  let v376 : BitVec 32 := Scalar.addi v374 v375
  let c1_i32_203 : BitVec 32 := 1#32
  ⟨v379, v376, c1_i32_203⟩
def k0_mult5 (i : grid0.Coords) (k0_t4 : Fin (k0_t4_loop i).trips) : BitVec 32 :=
  let arg1 : BitVec 32 := BitVec.ofNat 32 (i 1).val
  let c1_i32 : BitVec 32 := 1#32
  let v374 : BitVec 32 := Scalar.addi arg1 c1_i32
  let c11_i32 : BitVec 32 := 11#32
  let v375 : BitVec 32 := Scalar.subi c11_i32 v374
  let c1_i32_201 : BitVec 32 := 1#32
  let v377 : BitVec 32 := Scalar.divsi v375 c1_i32_201
  let v378 : BitVec 32 := Scalar.muli v377 c1_i32_201
  let v379 : BitVec 32 := Scalar.addi v374 v378
  let c1_i32_203 : BitVec 32 := 1#32
  let arg15 : BitVec 32 := Scf.iv v379 c1_i32_203 k0_t4
  let c384_i32_204 : BitVec 32 := 384#32
  let v380 : BitVec 32 := Scalar.muli arg15 c384_i32_204
  v380
def k0_off17 (i : grid0.Coords) (k0_t4 : Fin (k0_t4_loop i).trips) : Fin 2 → Nat :=
  let arg1 : BitVec 32 := BitVec.ofNat 32 (i 1).val
  let c1_i32 : BitVec 32 := 1#32
  let v374 : BitVec 32 := Scalar.addi arg1 c1_i32
  let c11_i32 : BitVec 32 := 11#32
  let v375 : BitVec 32 := Scalar.subi c11_i32 v374
  let c1_i32_201 : BitVec 32 := 1#32
  let v377 : BitVec 32 := Scalar.divsi v375 c1_i32_201
  let v378 : BitVec 32 := Scalar.muli v377 c1_i32_201
  let v379 : BitVec 32 := Scalar.addi v374 v378
  let c1_i32_203 : BitVec 32 := 1#32
  let arg15 : BitVec 32 := Scf.iv v379 c1_i32_203 k0_t4
  let c384_i32_204 : BitVec 32 := 384#32
  let v380 : BitVec 32 := Scalar.muli arg15 c384_i32_204
  let v381 : BitVec 32 := v380
  let v382 : Index := Scalar.indexCast v381
  let c0_205 : Index := 0#32
  ![v382.toNat, 0]
def k0_off18 (i : grid0.Coords) (k0_t4 : Fin (k0_t4_loop i).trips) : Fin 3 → Nat :=
  let c0_219 : Index := 0#32
  let arg1 : BitVec 32 := BitVec.ofNat 32 (i 1).val
  let c1_i32 : BitVec 32 := 1#32
  let v374 : BitVec 32 := Scalar.addi arg1 c1_i32
  let c11_i32 : BitVec 32 := 11#32
  let v375 : BitVec 32 := Scalar.subi c11_i32 v374
  let c1_i32_201 : BitVec 32 := 1#32
  let v377 : BitVec 32 := Scalar.divsi v375 c1_i32_201
  let v378 : BitVec 32 := Scalar.muli v377 c1_i32_201
  let v379 : BitVec 32 := Scalar.addi v374 v378
  let c1_i32_203 : BitVec 32 := 1#32
  let arg15 : BitVec 32 := Scf.iv v379 c1_i32_203 k0_t4
  let c384_i32_204 : BitVec 32 := 384#32
  let v380 : BitVec 32 := Scalar.muli arg15 c384_i32_204
  let v381 : BitVec 32 := v380
  let v400 : Index := Scalar.indexCast v381
  let c0_220 : Index := 0#32
  ![0, v400.toNat, 0]
def k0_off19 (i : grid0.Coords) (k0_t4 : Fin (k0_t4_loop i).trips) : Fin 2 → Nat :=
  let arg1 : BitVec 32 := BitVec.ofNat 32 (i 1).val
  let c1_i32 : BitVec 32 := 1#32
  let v374 : BitVec 32 := Scalar.addi arg1 c1_i32
  let c11_i32 : BitVec 32 := 11#32
  let v375 : BitVec 32 := Scalar.subi c11_i32 v374
  let c1_i32_201 : BitVec 32 := 1#32
  let v377 : BitVec 32 := Scalar.divsi v375 c1_i32_201
  let v378 : BitVec 32 := Scalar.muli v377 c1_i32_201
  let v379 : BitVec 32 := Scalar.addi v374 v378
  let c1_i32_203 : BitVec 32 := 1#32
  let arg15 : BitVec 32 := Scf.iv v379 c1_i32_203 k0_t4
  let c384_i32_204 : BitVec 32 := 384#32
  let v380 : BitVec 32 := Scalar.muli arg15 c384_i32_204
  let v381 : BitVec 32 := v380
  let v493 : Index := Scalar.indexCast v381
  let c128_286 : Index := 128#32
  ![v493.toNat, 128]
def k0_off20 (i : grid0.Coords) (k0_t4 : Fin (k0_t4_loop i).trips) : Fin 3 → Nat :=
  let c1_300 : Index := 1#32
  let arg1 : BitVec 32 := BitVec.ofNat 32 (i 1).val
  let c1_i32 : BitVec 32 := 1#32
  let v374 : BitVec 32 := Scalar.addi arg1 c1_i32
  let c11_i32 : BitVec 32 := 11#32
  let v375 : BitVec 32 := Scalar.subi c11_i32 v374
  let c1_i32_201 : BitVec 32 := 1#32
  let v377 : BitVec 32 := Scalar.divsi v375 c1_i32_201
  let v378 : BitVec 32 := Scalar.muli v377 c1_i32_201
  let v379 : BitVec 32 := Scalar.addi v374 v378
  let c1_i32_203 : BitVec 32 := 1#32
  let arg15 : BitVec 32 := Scf.iv v379 c1_i32_203 k0_t4
  let c384_i32_204 : BitVec 32 := 384#32
  let v380 : BitVec 32 := Scalar.muli arg15 c384_i32_204
  let v381 : BitVec 32 := v380
  let v511 : Index := Scalar.indexCast v381
  let c0_301 : Index := 0#32
  ![1, v511.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4224x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S384x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4224x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x4224x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x4224x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4224x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S384x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S384x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "exp2_scale" => some (((3424635 / 33554432) * (Real.log 2)⁻¹ : ℝ) : EReal)
  | "log2e" => some (((Real.log 2)⁻¹ : ℝ) : EReal)
  | "scale" => some ((3424635 / 33554432 : ℝ) : EReal)
  | _ => none
-- ==== ReferenceIdeal.lean ====
abbrev S1x4112x16x96 : Shape := ⟨4, ![1, 4112, 16, 96]⟩
abbrev S1x4112x16x64 : Shape := ⟨4, ![1, 4112, 16, 64]⟩
abbrev S1x16x4112x4112 : Shape := ⟨4, ![1, 16, 4112, 4112]⟩
abbrev S_ : Shape := ⟨0, ![]⟩
abbrev S4112 : Shape := ⟨1, ![4112]⟩
abbrev S1x4112 : Shape := ⟨2, ![1, 4112]⟩
abbrev S4112x1 : Shape := ⟨2, ![4112, 1]⟩
abbrev S4112x4112 : Shape := ⟨2, ![4112, 4112]⟩
abbrev S1x16x4112 : Shape := ⟨3, ![1, 16, 4112]⟩
abbrev S1x16x4112x1 : Shape := ⟨4, ![1, 16, 4112, 1]⟩
abbrev S1x16x64x4112 : Shape := ⟨4, ![1, 16, 64, 4112]⟩
abbrev S16x4112 : Shape := ⟨2, ![16, 4112]⟩
abbrev S1x16x4112x96 : Shape := ⟨4, ![1, 16, 4112, 96]⟩
abbrev S4112x16x96 : Shape := ⟨3, ![4112, 16, 96]⟩
abbrev S4224x16x128 : Shape := ⟨3, ![4224, 16, 128]⟩
abbrev S4224x2048 : Shape := ⟨2, ![4224, 2048]⟩
abbrev S4112x16x64 : Shape := ⟨3, ![4112, 16, 64]⟩

abbrev nBuf : Space → Nat
  | .hbm => 106
  | .vmem => 0
  | .smem => 0
  | _ => 0

abbrev bufTy : (tb : Table) → Fin (tcTables nBuf tb) → BufTy
  | .hbm, ⟨0, _⟩ => ⟨S1x4112x16x96, .f32⟩
  | .hbm, ⟨1, _⟩ => ⟨S1x4112x16x96, .f32⟩
  | .hbm, ⟨2, _⟩ => ⟨S1x4112x16x64, .f32⟩
  | .hbm, ⟨3, _⟩ => ⟨S1x4112x16x64, .f32⟩
  | .hbm, ⟨4, _⟩ => ⟨S1x16x4112x4112, .f32⟩
  | .hbm, ⟨5, _⟩ => ⟨S_, .f32⟩
  | .hbm, ⟨6, _⟩ => ⟨S1x16x4112x4112, .f32⟩
  | .hbm, ⟨7, _⟩ => ⟨S1x16x4112x4112, .f32⟩
  | .hbm, ⟨8, _⟩ => ⟨S4112, .i32⟩
  | .hbm, ⟨9, _⟩ => ⟨S1x4112, .i32⟩
  | .hbm, ⟨10, _⟩ => ⟨S4112, .i32⟩
  | .hbm, ⟨11, _⟩ => ⟨S4112x1, .i32⟩
  | .hbm, ⟨12, _⟩ => ⟨S4112x4112, .i32⟩
  | .hbm, ⟨13, _⟩ => ⟨S4112x4112, .i32⟩
  | .hbm, ⟨14, _⟩ => ⟨S4112x4112, .i1⟩
  | .hbm, ⟨15, _⟩ => ⟨S_, .f32⟩
  | .hbm, ⟨16, _⟩ => ⟨S_, .f32⟩
  | .hbm, ⟨17, _⟩ => ⟨S1x16x4112x4112, .i1⟩
  | .hbm, ⟨18, _⟩ => ⟨S1x16x4112x4112, .f32⟩
  | .hbm, ⟨19, _⟩ => ⟨S1x16x4112x4112, .f32⟩
  | .hbm, ⟨20, _⟩ => ⟨S_, .f32⟩
  | .hbm, ⟨21, _⟩ => ⟨S1x16x4112x4112, .f32⟩
  | .hbm, ⟨22, _⟩ => ⟨S_, .f32⟩
  | .hbm, ⟨23, _⟩ => ⟨S1x16x4112, .f32⟩
  | .hbm, ⟨24, _⟩ => ⟨S1x16x4112x1, .f32⟩
  | .hbm, ⟨25, _⟩ => ⟨S1x16x4112x4112, .f32⟩
  | .hbm, ⟨26, _⟩ => ⟨S1x16x4112x4112, .i1⟩
  | .hbm, ⟨27, _⟩ => ⟨S1x16x4112x4112, .f32⟩
  | .hbm, ⟨28, _⟩ => ⟨S_, .f32⟩
  | .hbm, ⟨29, _⟩ => ⟨S1x16x4112, .f32⟩
  | .hbm, ⟨30, _⟩ => ⟨S_, .f32⟩
  | .hbm, ⟨31, _⟩ => ⟨S1x16x4112, .f32⟩
  | .hbm, ⟨32, _⟩ => ⟨S1x16x4112, .f32⟩
  | .hbm, ⟨33, _⟩ => ⟨S_, .f32⟩
  | .hbm, ⟨34, _⟩ => ⟨S1x16x4112, .f32⟩
  | .hbm, ⟨35, _⟩ => ⟨S1x16x4112, .i1⟩
  | .hbm, ⟨36, _⟩ => ⟨S_, .f32⟩
  | .hbm, ⟨37, _⟩ => ⟨S1x16x4112, .f32⟩
  | .hbm, ⟨38, _⟩ => ⟨S1x16x4112, .i1⟩
  | .hbm, ⟨39, _⟩ => ⟨S_, .f32⟩
  | .hbm, ⟨40, _⟩ => ⟨S1x16x4112, .f32⟩
  | .hbm, ⟨41, _⟩ => ⟨S_, .f32⟩
  | .hbm, ⟨42, _⟩ => ⟨S1x16x4112, .f32⟩
  | .hbm, ⟨43, _⟩ => ⟨S_, .f32⟩
  | .hbm, ⟨44, _⟩ => ⟨S1x16x4112, .f32⟩
  | .hbm, ⟨45, _⟩ => ⟨S1x16x4112, .f32⟩
  | .hbm, ⟨46, _⟩ => ⟨S1x16x4112, .f32⟩
  | .hbm, ⟨47, _⟩ => ⟨S1x16x4112x1, .f32⟩
  | .hbm, ⟨48, _⟩ => ⟨S1x16x4112x4112, .f32⟩
  | .hbm, ⟨49, _⟩ => ⟨S1x16x4112x4112, .f32⟩
  | .hbm, ⟨50, _⟩ => ⟨S1x16x4112x4112, .f32⟩
  | .hbm, ⟨51, _⟩ => ⟨S_, .f32⟩
  | .hbm, ⟨52, _⟩ => ⟨S1x16x4112, .f32⟩
  | .hbm, ⟨53, _⟩ => ⟨S1x16x4112x1, .f32⟩
  | .hbm, ⟨54, _⟩ => ⟨S1x16x4112x4112, .f32⟩
  | .hbm, ⟨55, _⟩ => ⟨S1x16x4112x4112, .f32⟩
  | .hbm, ⟨56, _⟩ => ⟨S1x16x4112x1, .f32⟩
  | .hbm, ⟨57, _⟩ => ⟨S_, .f32⟩
  | .hbm, ⟨58, _⟩ => ⟨S1x16x4112x1, .f32⟩
  | .hbm, ⟨59, _⟩ => ⟨S1x16x4112x1, .f32⟩
  | .hbm, ⟨60, _⟩ => ⟨S1x16x64x4112, .f32⟩
  | .hbm, ⟨61, _⟩ => ⟨S1x4112x16x64, .f32⟩
  | .hbm, ⟨62, _⟩ => ⟨S1x16x64x4112, .f32⟩
  | .hbm, ⟨63, _⟩ => ⟨S1x16x4112x4112, .f32⟩
  | .hbm, ⟨64, _⟩ => ⟨S1x16x64x4112, .f32⟩
  | .hbm, ⟨65, _⟩ => ⟨S1x4112x16x64, .f32⟩
  | .hbm, ⟨66, _⟩ => ⟨S1x16x4112x4112, .f32⟩
  | .hbm, ⟨67, _⟩ => ⟨S1x16x4112x4112, .f32⟩
  | .hbm, ⟨68, _⟩ => ⟨S1x16x4112x4112, .f32⟩
  | .hbm, ⟨69, _⟩ => ⟨S_, .f32⟩
  | .hbm, ⟨70, _⟩ => ⟨S1x16x4112, .f32⟩
  | .hbm, ⟨71, _⟩ => ⟨S1x16x4112x1, .f32⟩
  | .hbm, ⟨72, _⟩ => ⟨S1x16x4112x1, .f32⟩
  | .hbm, ⟨73, _⟩ => ⟨S1x16x4112x4112, .f32⟩
  | .hbm, ⟨74, _⟩ => ⟨S1x16x4112x4112, .f32⟩
  | .hbm, ⟨75, _⟩ => ⟨S_, .f32⟩
  | .hbm, ⟨76, _⟩ => ⟨S16x4112, .f32⟩
  | .hbm, ⟨77, _⟩ => ⟨S1x16x4112, .f32⟩
  | .hbm, ⟨78, _⟩ => ⟨S1x16x4112x4112, .f32⟩
  | .hbm, ⟨79, _⟩ => ⟨S1x16x4112x4112, .f32⟩
  | .hbm, ⟨80, _⟩ => ⟨S1x16x4112x4112, .f32⟩
  | .hbm, ⟨81, _⟩ => ⟨S_, .f32⟩
  | .hbm, ⟨82, _⟩ => ⟨S1x16x4112x4112, .f32⟩
  | .hbm, ⟨83, _⟩ => ⟨S1x16x4112x4112, .f32⟩
  | .hbm, ⟨84, _⟩ => ⟨S_, .f32⟩
  | .hbm, ⟨85, _⟩ => ⟨S1x16x4112x4112, .f32⟩
  | .hbm, ⟨86, _⟩ => ⟨S1x16x4112x4112, .f32⟩
  | .hbm, ⟨87, _⟩ => ⟨S1x16x4112x96, .f32⟩
  | .hbm, ⟨88, _⟩ => ⟨S1x4112x16x96, .f32⟩
  | .hbm, ⟨89, _⟩ => ⟨S1x16x4112x96, .f32⟩
  | .hbm, ⟨90, _⟩ => ⟨S1x4112x16x96, .f32⟩
  | .hbm, ⟨91, _⟩ => ⟨S4112x16x96, .f32⟩
  | .hbm, ⟨92, _⟩ => ⟨S_, .i32⟩
  | .hbm, ⟨93, _⟩ => ⟨S_, .f32⟩
  | .hbm, ⟨94, _⟩ => ⟨S4224x16x128, .f32⟩
  | .hbm, ⟨95, _⟩ => ⟨S4224x2048, .f32⟩
  | .hbm, ⟨96, _⟩ => ⟨S4112x16x96, .f32⟩
  | .hbm, ⟨97, _⟩ => ⟨S_, .i32⟩
  | .hbm, ⟨98, _⟩ => ⟨S_, .f32⟩
  | .hbm, ⟨99, _⟩ => ⟨S4224x16x128, .f32⟩
  | .hbm, ⟨100, _⟩ => ⟨S4224x2048, .f32⟩
  | .hbm, ⟨101, _⟩ => ⟨S4112x16x64, .f32⟩
  | .hbm, ⟨102, _⟩ => ⟨S_, .i32⟩
  | .hbm, ⟨103, _⟩ => ⟨S_, .f32⟩
  | .hbm, ⟨104, _⟩ => ⟨S4224x16x128, .f32⟩
  | .hbm, ⟨105, _⟩ => ⟨S4224x2048, .f32⟩
  | _, _ => ⟨S1x4112x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call1_cst : Ref sig .tc := ⟨.hbm, 81, rfl⟩
abbrev main_call1_v0 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c : Ref sig .tc := ⟨.hbm, 92, rfl⟩
abbrev main_call2_v0 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_14 : Ref sig .tc := ⟨.hbm, 97, rfl⟩
abbrev main_call3_v0 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_15 : Ref sig .tc := ⟨.hbm, 102, rfl⟩
abbrev main_call4_v0 : Ref sig .tc := ⟨.hbm, 103, rfl⟩
abbrev main_v72 : Ref sig .tc := ⟨.hbm, 104, rfl⟩
abbrev main_v73 : Ref sig .tc := ⟨.hbm, 105, rfl⟩

abbrev nD : Nat := 1
abbrev τ : Topo := Topo.v7x

variable {F : FTy → Type} [FloatOps F]
-- ==== DownDx.lean ====
abbrev S4224x1024 : Shape := ⟨2, ![4224, 1024]⟩
abbrev S4x4096x1024 : Shape := ⟨3, ![4, 4096, 1024]⟩
abbrev S4224x4096 : Shape := ⟨2, ![4224, 4096]⟩
abbrev S2x4096x1024 : Shape := ⟨3, ![2, 4096, 1024]⟩
abbrev S1408x1024 : Shape := ⟨2, ![1408, 1024]⟩
abbrev S1x1024x1024 : Shape := ⟨3, ![1, 1024, 1024]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4224x1024, .f32⟩
  | .hbm, ⟨1, _⟩ => ⟨S4x4096x1024, .f32⟩
  | .hbm, ⟨2, _⟩ => ⟨S4224x4096, .f32⟩
  | .hbm, ⟨3, _⟩ => ⟨S2x4096x1024, .f32⟩
  | .hbm, ⟨4, _⟩ => ⟨S2x4096x1024, .bf16⟩
  | .hbm, ⟨5, _⟩ => ⟨S4224x4096, .bf16⟩
  | .hbm, ⟨6, _⟩ => ⟨S4224x4096, .bf16⟩
  | .local _ .vmem, ⟨0, _⟩ => ⟨S1408x1024, .f32⟩
  | .local _ .vmem, ⟨1, _⟩ => ⟨S1408x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 4, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDxReferenceIdeal.lean ====
abbrev S4224x1024 : Shape := ⟨2, ![4224, 1024]⟩
abbrev S4x4096x1024 : Shape := ⟨3, ![4, 4096, 1024]⟩
abbrev S4224x4096 : Shape := ⟨2, ![4224, 4096]⟩
abbrev S1x4096x1024 : Shape := ⟨3, ![1, 4096, 1024]⟩
abbrev S4096x1024 : Shape := ⟨2, ![4096, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4x4096x1024, .f32⟩
  | .hbm, ⟨2, _⟩ => ⟨S4224x4096, .f32⟩
  | .hbm, ⟨3, _⟩ => ⟨S1x4096x1024, .f32⟩
  | .hbm, ⟨4, _⟩ => ⟨S4096x1024, .f32⟩
  | .hbm, ⟨5, _⟩ => ⟨S_, .f32⟩
  | .hbm, ⟨6, _⟩ => ⟨S4224x4096, .f32⟩
  | .hbm, ⟨7, _⟩ => ⟨S4224x4096, .f32⟩
  | .hbm, ⟨8, _⟩ => ⟨S_, .f32⟩
  | .hbm, ⟨9, _⟩ => ⟨S4224x4096, .f32⟩
  | .hbm, ⟨10, _⟩ => ⟨S4224x4096, .i1⟩
  | .hbm, ⟨11, _⟩ => ⟨S_, .f32⟩
  | .hbm, ⟨12, _⟩ => ⟨S4224x4096, .f32⟩
  | .hbm, ⟨13, _⟩ => ⟨S4224x4096, .f32⟩
  | .hbm, ⟨14, _⟩ => ⟨S_, .f32⟩
  | .hbm, ⟨15, _⟩ => ⟨S4224x4096, .f32⟩
  | .hbm, ⟨16, _⟩ => ⟨S4224x4096, .f32⟩
  | .hbm, ⟨17, _⟩ => ⟨S4224x1024, .f32⟩
  | .hbm, ⟨18, _⟩ => ⟨S4224x4096, .f32⟩
  | .hbm, ⟨19, _⟩ => ⟨S4224x4096, .f32⟩
  | .hbm, ⟨20, _⟩ => ⟨S_, .f32⟩
  | .hbm, ⟨21, _⟩ => ⟨S4224x4096, .f32⟩
  | .hbm, ⟨22, _⟩ => ⟨S4224x4096, .f32⟩
  | .hbm, ⟨23, _⟩ => ⟨S4224x4096, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== DownDw.lean ====
abbrev S4224x4096 : Shape := ⟨2, ![4224, 4096]⟩
abbrev S4224x1024 : Shape := ⟨2, ![4224, 1024]⟩
abbrev S2x4096x1024 : Shape := ⟨3, ![2, 4096, 1024]⟩
abbrev S1408x1024 : Shape := ⟨2, ![1408, 1024]⟩
abbrev S1x1024x1024 : Shape := ⟨3, ![1, 1024, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4224x4096, .f32⟩
  | .hbm, ⟨1, _⟩ => ⟨S4224x1024, .f32⟩
  | .hbm, ⟨2, _⟩ => ⟨S2x4096x1024, .f32⟩
  | .hbm, ⟨3, _⟩ => ⟨S4224x4096, .bf16⟩
  | .hbm, ⟨4, _⟩ => ⟨S2x4096x1024, .f32⟩
  | .local _ .vmem, ⟨0, _⟩ => ⟨S1408x1024, .bf16⟩
  | .local _ .vmem, ⟨1, _⟩ => ⟨S1408x1024, .bf16⟩
  | .local _ .vmem, ⟨2, _⟩ => ⟨S1408x1024, .f32⟩
  | .local _ .vmem, ⟨3, _⟩ => ⟨S1408x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S4224x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond2 (i : grid0.Coords) : BitVec 1 :=
  let arg2 : BitVec 32 := BitVec.ofNat 32 (i 2).val
  let c2_i32 : BitVec 32 := 2#32
  let v16 : BitVec 1 := Scalar.cmpi .eq arg2 c2_i32
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwReferenceIdeal.lean ====
abbrev S4224x4096 : Shape := ⟨2, ![4224, 4096]⟩
abbrev S4224x1024 : Shape := ⟨2, ![4224, 1024]⟩
abbrev S2x4096x1024 : Shape := ⟨3, ![2, 4096, 1024]⟩
abbrev S_ : Shape := ⟨0, ![]⟩
abbrev S4096x1024 : Shape := ⟨2, ![4096, 1024]⟩
abbrev S1024x4096 : Shape := ⟨2, ![1024, 4096]⟩
abbrev S1x4096x1024 : Shape := ⟨3, ![1, 4096, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4224x4096, .f32⟩
  | .hbm, ⟨1, _⟩ => ⟨S4224x1024, .f32⟩
  | .hbm, ⟨2, _⟩ => ⟨S2x4096x1024, .f32⟩
  | .hbm, ⟨3, _⟩ => ⟨S_, .f32⟩
  | .hbm, ⟨4, _⟩ => ⟨S4096x1024, .f32⟩
  | .hbm, ⟨5, _⟩ => ⟨S_, .f32⟩
  | .hbm, ⟨6, _⟩ => ⟨S4224x4096, .f32⟩
  | .hbm, ⟨7, _⟩ => ⟨S4224x4096, .f32⟩
  | .hbm, ⟨8, _⟩ => ⟨S4224x4096, .f32⟩
  | .hbm, ⟨9, _⟩ => ⟨S4224x1024, .f32⟩
  | .hbm, ⟨10, _⟩ => ⟨S1024x4096, .f32⟩
  | .hbm, ⟨11, _⟩ => ⟨S4096x1024, .f32⟩
  | .hbm, ⟨12, _⟩ => ⟨S1x4096x1024, .f32⟩
  | .hbm, ⟨13, _⟩ => ⟨S4096x1024, .f32⟩
  | .hbm, ⟨14, _⟩ => ⟨S1x4096x1024, .f32⟩
  | .hbm, ⟨15, _⟩ => ⟨S1x4096x1024, .f32⟩
  | .hbm, ⟨16, _⟩ => ⟨S2x4096x1024, .f32⟩
  | _, _ => ⟨S4224x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== UpDx.lean ====
abbrev S4112x4096 : Shape := ⟨2, ![4112, 4096]⟩
abbrev S4112x1024 : Shape := ⟨2, ![4112, 1024]⟩
abbrev S1024 : Shape := ⟨1, ![1024]⟩
abbrev S2x1024x4096 : Shape := ⟨3, ![2, 1024, 4096]⟩
abbrev S_ : Shape := ⟨0, ![]⟩
abbrev S4224x4096 : Shape := ⟨2, ![4224, 4096]⟩
abbrev S4224x1024 : Shape := ⟨2, ![4224, 1024]⟩
abbrev S1x1024 : Shape := ⟨2, ![1, 1024]⟩
abbrev S704x1024 : Shape := ⟨2, ![704, 1024]⟩
abbrev S1x1024x1024 : Shape := ⟨3, ![1, 1024, 1024]⟩
abbrev S1024x1024 : Shape := ⟨2, ![1024, 1024]⟩
abbrev S704 : Shape := ⟨1, ![704]⟩
abbrev S704x1 : Shape := ⟨2, ![704, 1]⟩

abbrev nBuf : Space → Nat
  | .hbm => 19
  | .vmem => 13
  | .smem => 0
  | _ => 0

abbrev bufTy : (tb : Table) → Fin (tcTables nBuf tb) → BufTy
  | .hbm, ⟨0, _⟩ => ⟨S4112x4096, .f32⟩
  | .hbm, ⟨1, _⟩ => ⟨S4112x1024, .f32⟩
  | .hbm, ⟨2, _⟩ => ⟨S4112x1024, .f32⟩
  | .hbm, ⟨3, _⟩ => ⟨S1024, .f32⟩
  | .hbm, ⟨4, _⟩ => ⟨S2x1024x4096, .f32⟩
  | .hbm, ⟨5, _⟩ => ⟨S_, .i32⟩
  | .hbm, ⟨6, _⟩ => ⟨S_, .f32⟩
  | .hbm, ⟨7, _⟩ => ⟨S4224x4096, .f32⟩
  | .hbm, ⟨8, _⟩ => ⟨S4224x4096, .bf16⟩
  | .hbm, ⟨9, _⟩ => ⟨S2x1024x4096, .bf16⟩
  | .hbm, ⟨10, _⟩ => ⟨S_, .i32⟩
  | .hbm, ⟨11, _⟩ => ⟨S_, .f32⟩
  | .hbm, ⟨12, _⟩ => ⟨S4224x1024, .f32⟩
  | .hbm, ⟨13, _⟩ => ⟨S_, .i32⟩
  | .hbm, ⟨14, _⟩ => ⟨S_, .f32⟩
  | .hbm, ⟨15, _⟩ => ⟨S4224x1024, .f32⟩
  | .hbm, ⟨16, _⟩ => ⟨S1x1024, .f32⟩
  | .hbm, ⟨17, _⟩ => ⟨S4224x1024, .f32⟩
  | .hbm, ⟨18, _⟩ => ⟨S1x1024, .f32⟩
  | .local _ .vmem, ⟨0, _⟩ => ⟨S704x1024, .bf16⟩
  | .local _ .vmem, ⟨1, _⟩ => ⟨S704x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S704x1024, .f32⟩
  | .local _ .vmem, ⟨5, _⟩ => ⟨S704x1024, .f32⟩
  | .local _ .vmem, ⟨6, _⟩ => ⟨S704x1024, .f32⟩
  | .local _ .vmem, ⟨7, _⟩ => ⟨S704x1024, .f32⟩
  | .local _ .vmem, ⟨8, _⟩ => ⟨S1x1024, .f32⟩
  | .local _ .vmem, ⟨9, _⟩ => ⟨S704x1024, .f32⟩
  | .local _ .vmem, ⟨10, _⟩ => ⟨S704x1024, .f32⟩
  | .local _ .vmem, ⟨11, _⟩ => ⟨S1x1024, .f32⟩
  | .local _ .vmem, ⟨12, _⟩ => ⟨S704x1024, .f32⟩
  | _, _ => ⟨S4112x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_c_1 : Ref sig .tc := ⟨.hbm, 13, rfl⟩
abbrev main_call2_v0 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![6, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_9 : BitVec 32 := 0#32
  let v15 : BitVec 1 := Scalar.cmpi .ne v14 c0_i32_9
  v15

def k0_cond3 (i : grid0.Coords) : BitVec 1 :=
  let arg0 : BitVec 32 := BitVec.ofNat 32 (i 0).val
  let c0_i32_28 : BitVec 32 := 0#32
  let v68 : BitVec 1 := Scalar.cmpi .eq arg0 c0_i32_28
  let v69 : BitVec 32 := Scalar.extui v68
  let c0_i32_29 : BitVec 32 := 0#32
  let v70 : BitVec 1 := Scalar.cmpi .ne v69 c0_i32_29
  v70

def k0_cond4 (i : grid0.Coords) : BitVec 1 :=
  let arg0 : BitVec 32 := BitVec.ofNat 32 (i 0).val
  let c0_i32_30 : BitVec 32 := 0#32
  let v71 : BitVec 1 := Scalar.cmpi .sgt arg0 c0_i32_30
  let v72 : BitVec 32 := Scalar.extui v71
  let c0_i32_31 : BitVec 32 := 0#32
  let v73 : BitVec 1 := Scalar.cmpi .ne v72 c0_i32_31
  v73

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S704x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S704x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S704x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== UpDxReferenceIdeal.lean ====
abbrev S4112x4096 : Shape := ⟨2, ![4112, 4096]⟩
abbrev S4112x1024 : Shape := ⟨2, ![4112, 1024]⟩
abbrev S1024 : Shape := ⟨1, ![1024]⟩
abbrev S2x1024x4096 : Shape := ⟨3, ![2, 1024, 4096]⟩
abbrev S_ : Shape := ⟨0, ![]⟩
abbrev S4112 : Shape := ⟨1, ![4112]⟩
abbrev S4112x1 : Shape := ⟨2, ![4112, 1]⟩
abbrev S1x1024 : Shape := ⟨2, ![1, 1024]⟩
abbrev S1x1024x4096 : Shape := ⟨3, ![1, 1024, 4096]⟩
abbrev S1024x4096 : Shape := ⟨2, ![1024, 4096]⟩
abbrev S4224x1024 : Shape := ⟨2, ![4224, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4112x4096, .f32⟩
  | .hbm, ⟨1, _⟩ => ⟨S4112x1024, .f32⟩
  | .hbm, ⟨2, _⟩ => ⟨S4112x1024, .f32⟩
  | .hbm, ⟨3, _⟩ => ⟨S1024, .f32⟩
  | .hbm, ⟨4, _⟩ => ⟨S2x1024x4096, .f32⟩
  | .hbm, ⟨5, _⟩ => ⟨S4112x1024, .f32⟩
  | .hbm, ⟨6, _⟩ => ⟨S_, .f32⟩
  | .hbm, ⟨7, _⟩ => ⟨S4112, .f32⟩
  | .hbm, ⟨8, _⟩ => ⟨S4112x1, .f32⟩
  | .hbm, ⟨9, _⟩ => ⟨S_, .f32⟩
  | .hbm, ⟨10, _⟩ => ⟨S4112x1, .f32⟩
  | .hbm, ⟨11, _⟩ => ⟨S4112x1, .f32⟩
  | .hbm, ⟨12, _⟩ => ⟨S_, .f32⟩
  | .hbm, ⟨13, _⟩ => ⟨S4112x1, .f32⟩
  | .hbm, ⟨14, _⟩ => ⟨S4112x1, .f32⟩
  | .hbm, ⟨15, _⟩ => ⟨S4112x1, .f32⟩
  | .hbm, ⟨16, _⟩ => ⟨S4112x1, .f32⟩
  | .hbm, ⟨17, _⟩ => ⟨S_, .f32⟩
  | .hbm, ⟨18, _⟩ => ⟨S4112x1, .f32⟩
  | .hbm, ⟨19, _⟩ => ⟨S4112x1, .f32⟩
  | .hbm, ⟨20, _⟩ => ⟨S4112x1024, .f32⟩
  | .hbm, ⟨21, _⟩ => ⟨S4112x1024, .f32⟩
  | .hbm, ⟨22, _⟩ => ⟨S1x1024, .f32⟩
  | .hbm, ⟨23, _⟩ => ⟨S4112x1024, .f32⟩
  | .hbm, ⟨24, _⟩ => ⟨S4112x1024, .f32⟩
  | .hbm, ⟨25, _⟩ => ⟨S1x1024x4096, .f32⟩
  | .hbm, ⟨26, _⟩ => ⟨S1024x4096, .f32⟩
  | .hbm, ⟨27, _⟩ => ⟨S4112x4096, .f32⟩
  | .hbm, ⟨28, _⟩ => ⟨S4112x1024, .f32⟩
  | .hbm, ⟨29, _⟩ => ⟨S4112x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4112x1024, .f32⟩
  | .hbm, ⟨34, _⟩ => ⟨S4112x1024, .f32⟩
  | .hbm, ⟨35, _⟩ => ⟨S_, .f32⟩
  | .hbm, ⟨36, _⟩ => ⟨S1024, .f32⟩
  | .hbm, ⟨37, _⟩ => ⟨S4112x1024, .f32⟩
  | .hbm, ⟨38, _⟩ => ⟨S_, .f32⟩
  | .hbm, ⟨39, _⟩ => ⟨S4112, .f32⟩
  | .hbm, ⟨40, _⟩ => ⟨S4112x1, .f32⟩
  | .hbm, ⟨41, _⟩ => ⟨S4112x1024, .f32⟩
  | .hbm, ⟨42, _⟩ => ⟨S4112x1024, .f32⟩
  | .hbm, ⟨43, _⟩ => ⟨S4112x1024, .f32⟩
  | .hbm, ⟨44, _⟩ => ⟨S4112x1, .f32⟩
  | .hbm, ⟨45, _⟩ => ⟨S_, .f32⟩
  | .hbm, ⟨46, _⟩ => ⟨S4112x1, .f32⟩
  | .hbm, ⟨47, _⟩ => ⟨S4112x1, .f32⟩
  | .hbm, ⟨48, _⟩ => ⟨S_, .f32⟩
  | .hbm, ⟨49, _⟩ => ⟨S4112, .f32⟩
  | .hbm, ⟨50, _⟩ => ⟨S4112x1024, .f32⟩
  | .hbm, ⟨51, _⟩ => ⟨S4112x1024, .f32⟩
  | .hbm, ⟨52, _⟩ => ⟨S4112x1024, .f32⟩
  | .hbm, ⟨53, _⟩ => ⟨S4112x1024, .f32⟩
  | .hbm, ⟨54, _⟩ => ⟨S4112x1024, .f32⟩
  | .hbm, ⟨55, _⟩ => ⟨S_, .i32⟩
  | .hbm, ⟨56, _⟩ => ⟨S_, .f32⟩
  | .hbm, ⟨57, _⟩ => ⟨S4224x1024, .f32⟩
  | .hbm, ⟨58, _⟩ => ⟨S1x1024, .f32⟩
  | _, _ => ⟨S4112x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c : Ref sig .tc := ⟨.hbm, 55, rfl⟩
abbrev main_call0_v0 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== UpDxOne.lean ====
abbrev S4112x4096 : Shape := ⟨2, ![4112, 4096]⟩
abbrev S4112x1024 : Shape := ⟨2, ![4112, 1024]⟩
abbrev S1024 : Shape := ⟨1, ![1024]⟩
abbrev S1x1024x4096 : Shape := ⟨3, ![1, 1024, 4096]⟩
abbrev S_ : Shape := ⟨0, ![]⟩
abbrev S4224x4096 : Shape := ⟨2, ![4224, 4096]⟩
abbrev S4224x1024 : Shape := ⟨2, ![4224, 1024]⟩
abbrev S1x1024 : Shape := ⟨2, ![1, 1024]⟩
abbrev S704x1024 : Shape := ⟨2, ![704, 1024]⟩
abbrev S1x1024x1024 : Shape := ⟨3, ![1, 1024, 1024]⟩
abbrev S1024x1024 : Shape := ⟨2, ![1024, 1024]⟩
abbrev S704 : Shape := ⟨1, ![704]⟩
abbrev S704x1 : Shape := ⟨2, ![704, 1]⟩

abbrev nBuf : Space → Nat
  | .hbm => 19
  | .vmem => 13
  | .smem => 0
  | _ => 0

abbrev bufTy : (tb : Table) → Fin (tcTables nBuf tb) → BufTy
  | .hbm, ⟨0, _⟩ => ⟨S4112x4096, .f32⟩
  | .hbm, ⟨1, _⟩ => ⟨S4112x1024, .f32⟩
  | .hbm, ⟨2, _⟩ => ⟨S4112x1024, .f32⟩
  | .hbm, ⟨3, _⟩ => ⟨S1024, .f32⟩
  | .hbm, ⟨4, _⟩ => ⟨S1x1024x4096, .f32⟩
  | .hbm, ⟨5, _⟩ => ⟨S_, .i32⟩
  | .hbm, ⟨6, _⟩ => ⟨S_, .f32⟩
  | .hbm, ⟨7, _⟩ => ⟨S4224x4096, .f32⟩
  | .hbm, ⟨8, _⟩ => ⟨S4224x4096, .bf16⟩
  | .hbm, ⟨9, _⟩ => ⟨S1x1024x4096, .bf16⟩
  | .hbm, ⟨10, _⟩ => ⟨S_, .i32⟩
  | .hbm, ⟨11, _⟩ => ⟨S_, .f32⟩
  | .hbm, ⟨12, _⟩ => ⟨S4224x1024, .f32⟩
  | .hbm, ⟨13, _⟩ => ⟨S_, .i32⟩
  | .hbm, ⟨14, _⟩ => ⟨S_, .f32⟩
  | .hbm, ⟨15, _⟩ => ⟨S4224x1024, .f32⟩
  | .hbm, ⟨16, _⟩ => ⟨S1x1024, .f32⟩
  | .hbm, ⟨17, _⟩ => ⟨S4224x1024, .f32⟩
  | .hbm, ⟨18, _⟩ => ⟨S1x1024, .f32⟩
  | .local _ .vmem, ⟨0, _⟩ => ⟨S704x1024, .bf16⟩
  | .local _ .vmem, ⟨1, _⟩ => ⟨S704x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S704x1024, .f32⟩
  | .local _ .vmem, ⟨5, _⟩ => ⟨S704x1024, .f32⟩
  | .local _ .vmem, ⟨6, _⟩ => ⟨S704x1024, .f32⟩
  | .local _ .vmem, ⟨7, _⟩ => ⟨S704x1024, .f32⟩
  | .local _ .vmem, ⟨8, _⟩ => ⟨S1x1024, .f32⟩
  | .local _ .vmem, ⟨9, _⟩ => ⟨S704x1024, .f32⟩
  | .local _ .vmem, ⟨10, _⟩ => ⟨S704x1024, .f32⟩
  | .local _ .vmem, ⟨11, _⟩ => ⟨S1x1024, .f32⟩
  | .local _ .vmem, ⟨12, _⟩ => ⟨S704x1024, .f32⟩
  | _, _ => ⟨S4112x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_c_1 : Ref sig .tc := ⟨.hbm, 13, rfl⟩
abbrev main_call2_v0 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![6, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_9 : BitVec 32 := 0#32
  let v15 : BitVec 1 := Scalar.cmpi .ne v14 c0_i32_9
  v15

def k0_cond3 (i : grid0.Coords) : BitVec 1 :=
  let arg0 : BitVec 32 := BitVec.ofNat 32 (i 0).val
  let c0_i32_28 : BitVec 32 := 0#32
  let v68 : BitVec 1 := Scalar.cmpi .eq arg0 c0_i32_28
  let v69 : BitVec 32 := Scalar.extui v68
  let c0_i32_29 : BitVec 32 := 0#32
  let v70 : BitVec 1 := Scalar.cmpi .ne v69 c0_i32_29
  v70

def k0_cond4 (i : grid0.Coords) : BitVec 1 :=
  let arg0 : BitVec 32 := BitVec.ofNat 32 (i 0).val
  let c0_i32_30 : BitVec 32 := 0#32
  let v71 : BitVec 1 := Scalar.cmpi .sgt arg0 c0_i32_30
  let v72 : BitVec 32 := Scalar.extui v71
  let c0_i32_31 : BitVec 32 := 0#32
  let v73 : BitVec 1 := Scalar.cmpi .ne v72 c0_i32_31
  v73

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S704x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S704x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S704x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== UpDxOneReferenceIdeal.lean ====
abbrev S4112x4096 : Shape := ⟨2, ![4112, 4096]⟩
abbrev S4112x1024 : Shape := ⟨2, ![4112, 1024]⟩
abbrev S1024 : Shape := ⟨1, ![1024]⟩
abbrev S1x1024x4096 : Shape := ⟨3, ![1, 1024, 4096]⟩
abbrev S_ : Shape := ⟨0, ![]⟩
abbrev S4112 : Shape := ⟨1, ![4112]⟩
abbrev S4112x1 : Shape := ⟨2, ![4112, 1]⟩
abbrev S1x1024 : Shape := ⟨2, ![1, 1024]⟩
abbrev S1024x4096 : Shape := ⟨2, ![1024, 4096]⟩
abbrev S4224x1024 : Shape := ⟨2, ![4224, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4112x4096, .f32⟩
  | .hbm, ⟨1, _⟩ => ⟨S4112x1024, .f32⟩
  | .hbm, ⟨2, _⟩ => ⟨S4112x1024, .f32⟩
  | .hbm, ⟨3, _⟩ => ⟨S1024, .f32⟩
  | .hbm, ⟨4, _⟩ => ⟨S1x1024x4096, .f32⟩
  | .hbm, ⟨5, _⟩ => ⟨S4112x1024, .f32⟩
  | .hbm, ⟨6, _⟩ => ⟨S_, .f32⟩
  | .hbm, ⟨7, _⟩ => ⟨S4112, .f32⟩
  | .hbm, ⟨8, _⟩ => ⟨S4112x1, .f32⟩
  | .hbm, ⟨9, _⟩ => ⟨S_, .f32⟩
  | .hbm, ⟨10, _⟩ => ⟨S4112x1, .f32⟩
  | .hbm, ⟨11, _⟩ => ⟨S4112x1, .f32⟩
  | .hbm, ⟨12, _⟩ => ⟨S_, .f32⟩
  | .hbm, ⟨13, _⟩ => ⟨S4112x1, .f32⟩
  | .hbm, ⟨14, _⟩ => ⟨S4112x1, .f32⟩
  | .hbm, ⟨15, _⟩ => ⟨S4112x1, .f32⟩
  | .hbm, ⟨16, _⟩ => ⟨S4112x1, .f32⟩
  | .hbm, ⟨17, _⟩ => ⟨S_, .f32⟩
  | .hbm, ⟨18, _⟩ => ⟨S4112x1, .f32⟩
  | .hbm, ⟨19, _⟩ => ⟨S4112x1, .f32⟩
  | .hbm, ⟨20, _⟩ => ⟨S4112x1024, .f32⟩
  | .hbm, ⟨21, _⟩ => ⟨S4112x1024, .f32⟩
  | .hbm, ⟨22, _⟩ => ⟨S1x1024, .f32⟩
  | .hbm, ⟨23, _⟩ => ⟨S4112x1024, .f32⟩
  | .hbm, ⟨24, _⟩ => ⟨S4112x1024, .f32⟩
  | .hbm, ⟨25, _⟩ => ⟨S1024x4096, .f32⟩
  | .hbm, ⟨26, _⟩ => ⟨S4112x4096, .f32⟩
  | .hbm, ⟨27, _⟩ => ⟨S4112x1024, .f32⟩
  | .hbm, ⟨28, _⟩ => ⟨S4112x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4112x1024, .f32⟩
  | .hbm, ⟨33, _⟩ => ⟨S4112x1024, .f32⟩
  | .hbm, ⟨34, _⟩ => ⟨S_, .f32⟩
  | .hbm, ⟨35, _⟩ => ⟨S1024, .f32⟩
  | .hbm, ⟨36, _⟩ => ⟨S4112x1024, .f32⟩
  | .hbm, ⟨37, _⟩ => ⟨S_, .f32⟩
  | .hbm, ⟨38, _⟩ => ⟨S4112, .f32⟩
  | .hbm, ⟨39, _⟩ => ⟨S4112x1, .f32⟩
  | .hbm, ⟨40, _⟩ => ⟨S4112x1024, .f32⟩
  | .hbm, ⟨41, _⟩ => ⟨S4112x1024, .f32⟩
  | .hbm, ⟨42, _⟩ => ⟨S4112x1024, .f32⟩
  | .hbm, ⟨43, _⟩ => ⟨S4112x1, .f32⟩
  | .hbm, ⟨44, _⟩ => ⟨S_, .f32⟩
  | .hbm, ⟨45, _⟩ => ⟨S4112x1, .f32⟩
  | .hbm, ⟨46, _⟩ => ⟨S4112x1, .f32⟩
  | .hbm, ⟨47, _⟩ => ⟨S_, .f32⟩
  | .hbm, ⟨48, _⟩ => ⟨S4112, .f32⟩
  | .hbm, ⟨49, _⟩ => ⟨S4112x1024, .f32⟩
  | .hbm, ⟨50, _⟩ => ⟨S4112x1024, .f32⟩
  | .hbm, ⟨51, _⟩ => ⟨S4112x1024, .f32⟩
  | .hbm, ⟨52, _⟩ => ⟨S4112x1024, .f32⟩
  | .hbm, ⟨53, _⟩ => ⟨S4112x1024, .f32⟩
  | .hbm, ⟨54, _⟩ => ⟨S_, .i32⟩
  | .hbm, ⟨55, _⟩ => ⟨S_, .f32⟩
  | .hbm, ⟨56, _⟩ => ⟨S4224x1024, .f32⟩
  | .hbm, ⟨57, _⟩ => ⟨S1x1024, .f32⟩
  | _, _ => ⟨S4112x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c : Ref sig .tc := ⟨.hbm, 54, rfl⟩
abbrev main_call0_v0 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== UpDxTop.lean ====
abbrev S4112x4096 : Shape := ⟨2, ![4112, 4096]⟩
abbrev S4112x1024 : Shape := ⟨2, ![4112, 1024]⟩
abbrev S1024 : Shape := ⟨1, ![1024]⟩
abbrev S2x1024x4096 : Shape := ⟨3, ![2, 1024, 4096]⟩
abbrev S_ : Shape := ⟨0, ![]⟩
abbrev S4224x4096 : Shape := ⟨2, ![4224, 4096]⟩
abbrev S4224x1024 : Shape := ⟨2, ![4224, 1024]⟩
abbrev S1x1024 : Shape := ⟨2, ![1, 1024]⟩
abbrev S704x1024 : Shape := ⟨2, ![704, 1024]⟩
abbrev S1x1024x1024 : Shape := ⟨3, ![1, 1024, 1024]⟩
abbrev S1024x1024 : Shape := ⟨2, ![1024, 1024]⟩
abbrev S704 : Shape := ⟨1, ![704]⟩
abbrev S704x1 : Shape := ⟨2, ![704, 1]⟩

abbrev nBuf : Space → Nat
  | .hbm => 19
  | .vmem => 13
  | .smem => 0
  | _ => 0

abbrev bufTy : (tb : Table) → Fin (tcTables nBuf tb) → BufTy
  | .hbm, ⟨0, _⟩ => ⟨S4112x4096, .f32⟩
  | .hbm, ⟨1, _⟩ => ⟨S4112x1024, .f32⟩
  | .hbm, ⟨2, _⟩ => ⟨S4112x1024, .f32⟩
  | .hbm, ⟨3, _⟩ => ⟨S1024, .f32⟩
  | .hbm, ⟨4, _⟩ => ⟨S2x1024x4096, .f32⟩
  | .hbm, ⟨5, _⟩ => ⟨S_, .i32⟩
  | .hbm, ⟨6, _⟩ => ⟨S_, .f32⟩
  | .hbm, ⟨7, _⟩ => ⟨S4224x4096, .f32⟩
  | .hbm, ⟨8, _⟩ => ⟨S4224x4096, .bf16⟩
  | .hbm, ⟨9, _⟩ => ⟨S2x1024x4096, .bf16⟩
  | .hbm, ⟨10, _⟩ => ⟨S_, .i32⟩
  | .hbm, ⟨11, _⟩ => ⟨S_, .f32⟩
  | .hbm, ⟨12, _⟩ => ⟨S4224x1024, .f32⟩
  | .hbm, ⟨13, _⟩ => ⟨S_, .i32⟩
  | .hbm, ⟨14, _⟩ => ⟨S_, .f32⟩
  | .hbm, ⟨15, _⟩ => ⟨S4224x1024, .f32⟩
  | .hbm, ⟨16, _⟩ => ⟨S1x1024, .f32⟩
  | .hbm, ⟨17, _⟩ => ⟨S4224x1024, .f32⟩
  | .hbm, ⟨18, _⟩ => ⟨S1x1024, .f32⟩
  | .local _ .vmem, ⟨0, _⟩ => ⟨S704x1024, .bf16⟩
  | .local _ .vmem, ⟨1, _⟩ => ⟨S704x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S704x1024, .f32⟩
  | .local _ .vmem, ⟨5, _⟩ => ⟨S704x1024, .f32⟩
  | .local _ .vmem, ⟨6, _⟩ => ⟨S704x1024, .f32⟩
  | .local _ .vmem, ⟨7, _⟩ => ⟨S704x1024, .f32⟩
  | .local _ .vmem, ⟨8, _⟩ => ⟨S1x1024, .f32⟩
  | .local _ .vmem, ⟨9, _⟩ => ⟨S704x1024, .f32⟩
  | .local _ .vmem, ⟨10, _⟩ => ⟨S704x1024, .f32⟩
  | .local _ .vmem, ⟨11, _⟩ => ⟨S1x1024, .f32⟩
  | .local _ .vmem, ⟨12, _⟩ => ⟨S704x1024, .f32⟩
  | _, _ => ⟨S4112x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_c_1 : Ref sig .tc := ⟨.hbm, 13, rfl⟩
abbrev main_call2_v0 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![6, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_9 : BitVec 32 := 0#32
  let v15 : BitVec 1 := Scalar.cmpi .ne v14 c0_i32_9
  v15

def k0_cond3 (i : grid0.Coords) : BitVec 1 :=
  let arg0 : BitVec 32 := BitVec.ofNat 32 (i 0).val
  let c0_i32_28 : BitVec 32 := 0#32
  let v68 : BitVec 1 := Scalar.cmpi .eq arg0 c0_i32_28
  let v69 : BitVec 32 := Scalar.extui v68
  let c0_i32_29 : BitVec 32 := 0#32
  let v70 : BitVec 1 := Scalar.cmpi .ne v69 c0_i32_29
  v70

def k0_cond4 (i : grid0.Coords) : BitVec 1 :=
  let arg0 : BitVec 32 := BitVec.ofNat 32 (i 0).val
  let c0_i32_30 : BitVec 32 := 0#32
  let v71 : BitVec 1 := Scalar.cmpi .sgt arg0 c0_i32_30
  let v72 : BitVec 32 := Scalar.extui v71
  let c0_i32_31 : BitVec 32 := 0#32
  let v73 : BitVec 1 := Scalar.cmpi .ne v72 c0_i32_31
  v73

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S704x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S704x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S704x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== UpDxTopReferenceIdeal.lean ====
abbrev S4112x4096 : Shape := ⟨2, ![4112, 4096]⟩
abbrev S4112x1024 : Shape := ⟨2, ![4112, 1024]⟩
abbrev S1024 : Shape := ⟨1, ![1024]⟩
abbrev S2x1024x4096 : Shape := ⟨3, ![2, 1024, 4096]⟩
abbrev S_ : Shape := ⟨0, ![]⟩
abbrev S4112 : Shape := ⟨1, ![4112]⟩
abbrev S4112x1 : Shape := ⟨2, ![4112, 1]⟩
abbrev S1x1024 : Shape := ⟨2, ![1, 1024]⟩
abbrev S1x1024x4096 : Shape := ⟨3, ![1, 1024, 4096]⟩
abbrev S1024x4096 : Shape := ⟨2, ![1024, 4096]⟩
abbrev S4224x1024 : Shape := ⟨2, ![4224, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4112x4096, .f32⟩
  | .hbm, ⟨1, _⟩ => ⟨S4112x1024, .f32⟩
  | .hbm, ⟨2, _⟩ => ⟨S4112x1024, .f32⟩
  | .hbm, ⟨3, _⟩ => ⟨S1024, .f32⟩
  | .hbm, ⟨4, _⟩ => ⟨S2x1024x4096, .f32⟩
  | .hbm, ⟨5, _⟩ => ⟨S4112x1024, .f32⟩
  | .hbm, ⟨6, _⟩ => ⟨S_, .f32⟩
  | .hbm, ⟨7, _⟩ => ⟨S4112, .f32⟩
  | .hbm, ⟨8, _⟩ => ⟨S4112x1, .f32⟩
  | .hbm, ⟨9, _⟩ => ⟨S_, .f32⟩
  | .hbm, ⟨10, _⟩ => ⟨S4112x1, .f32⟩
  | .hbm, ⟨11, _⟩ => ⟨S4112x1, .f32⟩
  | .hbm, ⟨12, _⟩ => ⟨S_, .f32⟩
  | .hbm, ⟨13, _⟩ => ⟨S4112x1, .f32⟩
  | .hbm, ⟨14, _⟩ => ⟨S4112x1, .f32⟩
  | .hbm, ⟨15, _⟩ => ⟨S4112x1, .f32⟩
  | .hbm, ⟨16, _⟩ => ⟨S4112x1, .f32⟩
  | .hbm, ⟨17, _⟩ => ⟨S_, .f32⟩
  | .hbm, ⟨18, _⟩ => ⟨S4112x1, .f32⟩
  | .hbm, ⟨19, _⟩ => ⟨S4112x1, .f32⟩
  | .hbm, ⟨20, _⟩ => ⟨S4112x1024, .f32⟩
  | .hbm, ⟨21, _⟩ => ⟨S4112x1024, .f32⟩
  | .hbm, ⟨22, _⟩ => ⟨S1x1024, .f32⟩
  | .hbm, ⟨23, _⟩ => ⟨S4112x1024, .f32⟩
  | .hbm, ⟨24, _⟩ => ⟨S4112x1024, .f32⟩
  | .hbm, ⟨25, _⟩ => ⟨S1x1024x4096, .f32⟩
  | .hbm, ⟨26, _⟩ => ⟨S1024x4096, .f32⟩
  | .hbm, ⟨27, _⟩ => ⟨S4112x4096, .f32⟩
  | .hbm, ⟨28, _⟩ => ⟨S4112x1024, .f32⟩
  | .hbm, ⟨29, _⟩ => ⟨S4112x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4112x1024, .f32⟩
  | .hbm, ⟨34, _⟩ => ⟨S4112x1024, .f32⟩
  | .hbm, ⟨35, _⟩ => ⟨S_, .f32⟩
  | .hbm, ⟨36, _⟩ => ⟨S1024, .f32⟩
  | .hbm, ⟨37, _⟩ => ⟨S4112x1024, .f32⟩
  | .hbm, ⟨38, _⟩ => ⟨S_, .f32⟩
  | .hbm, ⟨39, _⟩ => ⟨S4112, .f32⟩
  | .hbm, ⟨40, _⟩ => ⟨S4112x1, .f32⟩
  | .hbm, ⟨41, _⟩ => ⟨S4112x1024, .f32⟩
  | .hbm, ⟨42, _⟩ => ⟨S4112x1024, .f32⟩
  | .hbm, ⟨43, _⟩ => ⟨S4112x1024, .f32⟩
  | .hbm, ⟨44, _⟩ => ⟨S4112x1, .f32⟩
  | .hbm, ⟨45, _⟩ => ⟨S_, .f32⟩
  | .hbm, ⟨46, _⟩ => ⟨S4112x1, .f32⟩
  | .hbm, ⟨47, _⟩ => ⟨S4112x1, .f32⟩
  | .hbm, ⟨48, _⟩ => ⟨S_, .f32⟩
  | .hbm, ⟨49, _⟩ => ⟨S4112, .f32⟩
  | .hbm, ⟨50, _⟩ => ⟨S4112x1024, .f32⟩
  | .hbm, ⟨51, _⟩ => ⟨S4112x1024, .f32⟩
  | .hbm, ⟨52, _⟩ => ⟨S4112x1024, .f32⟩
  | .hbm, ⟨53, _⟩ => ⟨S4112x1024, .f32⟩
  | .hbm, ⟨54, _⟩ => ⟨S4112x1024, .f32⟩
  | .hbm, ⟨55, _⟩ => ⟨S_, .i32⟩
  | .hbm, ⟨56, _⟩ => ⟨S_, .f32⟩
  | .hbm, ⟨57, _⟩ => ⟨S4224x1024, .f32⟩
  | .hbm, ⟨58, _⟩ => ⟨S1x1024, .f32⟩
  | _, _ => ⟨S4112x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c : Ref sig .tc := ⟨.hbm, 55, rfl⟩
abbrev main_call0_v0 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== UpDw.lean ====
abbrev S4224x1024 : Shape := ⟨2, ![4224, 1024]⟩
abbrev S4224x4096 : Shape := ⟨2, ![4224, 4096]⟩
abbrev S2x1024x4096 : Shape := ⟨3, ![2, 1024, 4096]⟩
abbrev S1408x1024 : Shape := ⟨2, ![1408, 1024]⟩
abbrev S1x1024x1024 : Shape := ⟨3, ![1, 1024, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4224x1024, .f32⟩
  | .hbm, ⟨1, _⟩ => ⟨S4224x4096, .f32⟩
  | .hbm, ⟨2, _⟩ => ⟨S2x1024x4096, .f32⟩
  | .hbm, ⟨3, _⟩ => ⟨S4224x1024, .bf16⟩
  | .hbm, ⟨4, _⟩ => ⟨S4224x4096, .bf16⟩
  | .hbm, ⟨5, _⟩ => ⟨S2x1024x4096, .f32⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwReferenceIdeal.lean ====
abbrev S4224x1024 : Shape := ⟨2, ![4224, 1024]⟩
abbrev S4224x4096 : Shape := ⟨2, ![4224, 4096]⟩
abbrev S2x1024x4096 : Shape := ⟨3, ![2, 1024, 4096]⟩
abbrev S_ : Shape := ⟨0, ![]⟩
abbrev S1024x4096 : Shape := ⟨2, ![1024, 4096]⟩
abbrev S4096x1024 : Shape := ⟨2, ![4096, 1024]⟩
abbrev S1x1024x4096 : Shape := ⟨3, ![1, 1024, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x4096, .f32⟩
  | .hbm, ⟨2, _⟩ => ⟨S2x1024x4096, .f32⟩
  | .hbm, ⟨3, _⟩ => ⟨S_, .f32⟩
  | .hbm, ⟨4, _⟩ => ⟨S1024x4096, .f32⟩
  | .hbm, ⟨5, _⟩ => ⟨S4224x4096, .f32⟩
  | .hbm, ⟨6, _⟩ => ⟨S4096x1024, .f32⟩
  | .hbm, ⟨7, _⟩ => ⟨S1024x4096, .f32⟩
  | .hbm, ⟨8, _⟩ => ⟨S1x1024x4096, .f32⟩
  | .hbm, ⟨9, _⟩ => ⟨S1024x4096, .f32⟩
  | .hbm, ⟨10, _⟩ => ⟨S1x1024x4096, .f32⟩
  | .hbm, ⟨11, _⟩ => ⟨S1x1024x4096, .f32⟩
  | .hbm, ⟨12, _⟩ => ⟨S2x1024x4096, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== DownDxOne.lean ====
abbrev S4224x1024 : Shape := ⟨2, ![4224, 1024]⟩
abbrev S1x4096x1024 : Shape := ⟨3, ![1, 4096, 1024]⟩
abbrev S4224x4096 : Shape := ⟨2, ![4224, 4096]⟩
abbrev S1408x1024 : Shape := ⟨2, ![1408, 1024]⟩
abbrev S1x1024x1024 : Shape := ⟨3, ![1, 1024, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4224x1024, .f32⟩
  | .hbm, ⟨1, _⟩ => ⟨S1x4096x1024, .f32⟩
  | .hbm, ⟨2, _⟩ => ⟨S4224x4096, .f32⟩
  | .hbm, ⟨3, _⟩ => ⟨S1x4096x1024, .bf16⟩
  | .hbm, ⟨4, _⟩ => ⟨S4224x4096, .bf16⟩
  | .hbm, ⟨5, _⟩ => ⟨S4224x4096, .bf16⟩
  | .local _ .vmem, ⟨0, _⟩ => ⟨S1408x1024, .f32⟩
  | .local _ .vmem, ⟨1, _⟩ => ⟨S1408x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 4, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDxOneReferenceIdeal.lean ====
abbrev S4224x1024 : Shape := ⟨2, ![4224, 1024]⟩
abbrev S1x4096x1024 : Shape := ⟨3, ![1, 4096, 1024]⟩
abbrev S4224x4096 : Shape := ⟨2, ![4224, 4096]⟩
abbrev S4096x1024 : Shape := ⟨2, ![4096, 1024]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1x4096x1024, .f32⟩
  | .hbm, ⟨2, _⟩ => ⟨S4224x4096, .f32⟩
  | .hbm, ⟨3, _⟩ => ⟨S4096x1024, .f32⟩
  | .hbm, ⟨4, _⟩ => ⟨S_, .f32⟩
  | .hbm, ⟨5, _⟩ => ⟨S4224x4096, .f32⟩
  | .hbm, ⟨6, _⟩ => ⟨S4224x4096, .f32⟩
  | .hbm, ⟨7, _⟩ => ⟨S_, .f32⟩
  | .hbm, ⟨8, _⟩ => ⟨S4224x4096, .f32⟩
  | .hbm, ⟨9, _⟩ => ⟨S4224x4096, .i1⟩
  | .hbm, ⟨10, _⟩ => ⟨S_, .f32⟩
  | .hbm, ⟨11, _⟩ => ⟨S4224x4096, .f32⟩
  | .hbm, ⟨12, _⟩ => ⟨S4224x4096, .f32⟩
  | .hbm, ⟨13, _⟩ => ⟨S_, .f32⟩
  | .hbm, ⟨14, _⟩ => ⟨S4224x4096, .f32⟩
  | .hbm, ⟨15, _⟩ => ⟨S4224x4096, .f32⟩
  | .hbm, ⟨16, _⟩ => ⟨S4224x1024, .f32⟩
  | .hbm, ⟨17, _⟩ => ⟨S4224x4096, .f32⟩
  | .hbm, ⟨18, _⟩ => ⟨S4224x4096, .f32⟩
  | .hbm, ⟨19, _⟩ => ⟨S_, .f32⟩
  | .hbm, ⟨20, _⟩ => ⟨S4224x4096, .f32⟩
  | .hbm, ⟨21, _⟩ => ⟨S4224x4096, .f32⟩
  | .hbm, ⟨22, _⟩ => ⟨S4224x4096, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== DownDxTwo.lean ====
abbrev S4224x1024 : Shape := ⟨2, ![4224, 1024]⟩
abbrev S2x4096x1024 : Shape := ⟨3, ![2, 4096, 1024]⟩
abbrev S4224x4096 : Shape := ⟨2, ![4224, 4096]⟩
abbrev S1408x1024 : Shape := ⟨2, ![1408, 1024]⟩
abbrev S1x1024x1024 : Shape := ⟨3, ![1, 1024, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4224x1024, .f32⟩
  | .hbm, ⟨1, _⟩ => ⟨S2x4096x1024, .f32⟩
  | .hbm, ⟨2, _⟩ => ⟨S4224x4096, .f32⟩
  | .hbm, ⟨3, _⟩ => ⟨S2x4096x1024, .bf16⟩
  | .hbm, ⟨4, _⟩ => ⟨S4224x4096, .bf16⟩
  | .hbm, ⟨5, _⟩ => ⟨S4224x4096, .bf16⟩
  | .local _ .vmem, ⟨0, _⟩ => ⟨S1408x1024, .f32⟩
  | .local _ .vmem, ⟨1, _⟩ => ⟨S1408x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 4, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDxTwoReferenceIdeal.lean ====
abbrev S4224x1024 : Shape := ⟨2, ![4224, 1024]⟩
abbrev S2x4096x1024 : Shape := ⟨3, ![2, 4096, 1024]⟩
abbrev S4224x4096 : Shape := ⟨2, ![4224, 4096]⟩
abbrev S1x4096x1024 : Shape := ⟨3, ![1, 4096, 1024]⟩
abbrev S4096x1024 : Shape := ⟨2, ![4096, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S2x4096x1024, .f32⟩
  | .hbm, ⟨2, _⟩ => ⟨S4224x4096, .f32⟩
  | .hbm, ⟨3, _⟩ => ⟨S1x4096x1024, .f32⟩
  | .hbm, ⟨4, _⟩ => ⟨S4096x1024, .f32⟩
  | .hbm, ⟨5, _⟩ => ⟨S_, .f32⟩
  | .hbm, ⟨6, _⟩ => ⟨S4224x4096, .f32⟩
  | .hbm, ⟨7, _⟩ => ⟨S4224x4096, .f32⟩
  | .hbm, ⟨8, _⟩ => ⟨S_, .f32⟩
  | .hbm, ⟨9, _⟩ => ⟨S4224x4096, .f32⟩
  | .hbm, ⟨10, _⟩ => ⟨S4224x4096, .i1⟩
  | .hbm, ⟨11, _⟩ => ⟨S_, .f32⟩
  | .hbm, ⟨12, _⟩ => ⟨S4224x4096, .f32⟩
  | .hbm, ⟨13, _⟩ => ⟨S4224x4096, .f32⟩
  | .hbm, ⟨14, _⟩ => ⟨S_, .f32⟩
  | .hbm, ⟨15, _⟩ => ⟨S4224x4096, .f32⟩
  | .hbm, ⟨16, _⟩ => ⟨S4224x4096, .f32⟩
  | .hbm, ⟨17, _⟩ => ⟨S4224x1024, .f32⟩
  | .hbm, ⟨18, _⟩ => ⟨S4224x4096, .f32⟩
  | .hbm, ⟨19, _⟩ => ⟨S4224x4096, .f32⟩
  | .hbm, ⟨20, _⟩ => ⟨S_, .f32⟩
  | .hbm, ⟨21, _⟩ => ⟨S4224x4096, .f32⟩
  | .hbm, ⟨22, _⟩ => ⟨S4224x4096, .f32⟩
  | .hbm, ⟨23, _⟩ => ⟨S4224x4096, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== InDx.lean ====
abbrev S4112x6176 : Shape := ⟨2, ![4112, 6176]⟩
abbrev S4112x1024 : Shape := ⟨2, ![4112, 1024]⟩
abbrev S1024 : Shape := ⟨1, ![1024]⟩
abbrev S1024x6176 : Shape := ⟨2, ![1024, 6176]⟩
abbrev S_ : Shape := ⟨0, ![]⟩
abbrev S4112x6272 : Shape := ⟨2, ![4112, 6272]⟩
abbrev S4224x6272 : Shape := ⟨2, ![4224, 6272]⟩
abbrev S1024x6272 : Shape := ⟨2, ![1024, 6272]⟩
abbrev S4224x1024 : Shape := ⟨2, ![4224, 1024]⟩
abbrev S1x1024 : Shape := ⟨2, ![1, 1024]⟩
abbrev S704x896 : Shape := ⟨2, ![704, 896]⟩
abbrev S1024x896 : Shape := ⟨2, ![1024, 896]⟩
abbrev S704x1024 : Shape := ⟨2, ![704, 1024]⟩
abbrev S704 : Shape := ⟨1, ![704]⟩
abbrev S704x1 : Shape := ⟨2, ![704, 1]⟩

abbrev nBuf : Space → Nat
  | .hbm => 25
  | .vmem => 13
  | .smem => 0
  | _ => 0

abbrev bufTy : (tb : Table) → Fin (tcTables nBuf tb) → BufTy
  | .hbm, ⟨0, _⟩ => ⟨S4112x6176, .f32⟩
  | .hbm, ⟨1, _⟩ => ⟨S4112x1024, .f32⟩
  | .hbm, ⟨2, _⟩ => ⟨S4112x1024, .f32⟩
  | .hbm, ⟨3, _⟩ => ⟨S1024, .f32⟩
  | .hbm, ⟨4, _⟩ => ⟨S1024x6176, .f32⟩
  | .hbm, ⟨5, _⟩ => ⟨S_, .i32⟩
  | .hbm, ⟨6, _⟩ => ⟨S_, .f32⟩
  | .hbm, ⟨7, _⟩ => ⟨S4112x6272, .f32⟩
  | .hbm, ⟨8, _⟩ => ⟨S_, .i32⟩
  | .hbm, ⟨9, _⟩ => ⟨S_, .f32⟩
  | .hbm, ⟨10, _⟩ => ⟨S4224x6272, .f32⟩
  | .hbm, ⟨11, _⟩ => ⟨S4224x6272, .bf16⟩
  | .hbm, ⟨12, _⟩ => ⟨S_, .i32⟩
  | .hbm, ⟨13, _⟩ => ⟨S_, .f32⟩
  | .hbm, ⟨14, _⟩ => ⟨S1024x6272, .f32⟩
  | .hbm, ⟨15, _⟩ => ⟨S1024x6272, .bf16⟩
  | .hbm, ⟨16, _⟩ => ⟨S_, .i32⟩
  | .hbm, ⟨17, _⟩ => ⟨S_, .f32⟩
  | .hbm, ⟨18, _⟩ => ⟨S4224x1024, .f32⟩
  | .hbm, ⟨19, _⟩ => ⟨S_, .i32⟩
  | .hbm, ⟨20, _⟩ => ⟨S_, .f32⟩
  | .hbm, ⟨21, _⟩ => ⟨S4224x1024, .f32⟩
  | .hbm, ⟨22, _⟩ => ⟨S1x1024, .f32⟩
  | .hbm, ⟨23, _⟩ => ⟨S4224x1024, .f32⟩
  | .hbm, ⟨24, _⟩ => ⟨S1x1024, .f32⟩
  | .local _ .vmem, ⟨0, _⟩ => ⟨S704x896, .bf16⟩
  | .local _ .vmem, ⟨1, _⟩ => ⟨S704x896, .bf16⟩
  | .local _ .vmem, ⟨2, _⟩ => ⟨S1024x896, .bf16⟩
  | .local _ .vmem, ⟨3, _⟩ => ⟨S1024x896, .bf16⟩
  | .local _ .vmem, ⟨4, _⟩ => ⟨S704x1024, .f32⟩
  | .local _ .vmem, ⟨5, _⟩ => ⟨S704x1024, .f32⟩
  | .local _ .vmem, ⟨6, _⟩ => ⟨S704x1024, .f32⟩
  | .local _ .vmem, ⟨7, _⟩ => ⟨S704x1024, .f32⟩
  | .local _ .vmem, ⟨8, _⟩ => ⟨S1x1024, .f32⟩
  | .local _ .vmem, ⟨9, _⟩ => ⟨S704x1024, .f32⟩
  | .local _ .vmem, ⟨10, _⟩ => ⟨S704x1024, .f32⟩
  | .local _ .vmem, ⟨11, _⟩ => ⟨S1x1024, .f32⟩
  | .local _ .vmem, ⟨12, _⟩ => ⟨S704x1024, .f32⟩
  | _, _ => ⟨S4112x6176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_v2 : Ref sig .tc := ⟨.hbm, 11, rfl⟩
abbrev main_c_1 : Ref sig .tc := ⟨.hbm, 12, rfl⟩
abbrev main_call2_v0 : Ref sig .tc := ⟨.hbm, 13, rfl⟩
abbrev main_v3 : Ref sig .tc := ⟨.hbm, 14, rfl⟩
abbrev main_v4 : Ref sig .tc := ⟨.hbm, 15, rfl⟩
abbrev main_c_2 : Ref sig .tc := ⟨.hbm, 16, rfl⟩
abbrev main_call3_v0 : Ref sig .tc := ⟨.hbm, 17, rfl⟩
abbrev main_v5 : Ref sig .tc := ⟨.hbm, 18, rfl⟩
abbrev main_c_3 : Ref sig .tc := ⟨.hbm, 19, rfl⟩
abbrev main_call4_v0 : Ref sig .tc := ⟨.hbm, 20, rfl⟩
abbrev main_v6 : Ref sig .tc := ⟨.hbm, 21, rfl⟩
abbrev main_v7 : Ref sig .tc := ⟨.hbm, 22, rfl⟩
abbrev main_v8_0 : Ref sig .tc := ⟨.hbm, 23, rfl⟩
abbrev main_v8_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![6, 7], ![false, false]⟩

def k0_cond2 (i : grid0.Coords) : BitVec 1 :=
  let arg1 : BitVec 32 := BitVec.ofNat 32 (i 1).val
  let c6_i32 : BitVec 32 := 6#32
  let v13 : BitVec 1 := Scalar.cmpi .eq arg1 c6_i32
  let v14 : BitVec 32 := Scalar.extui v13
  let c0_i32_8 : BitVec 32 := 0#32
  let v15 : BitVec 1 := Scalar.cmpi .ne v14 c0_i32_8
  v15

def k0_cond3 (i : grid0.Coords) : BitVec 1 :=
  let arg0 : BitVec 32 := BitVec.ofNat 32 (i 0).val
  let c0_i32_27 : BitVec 32 := 0#32
  let v68 : BitVec 1 := Scalar.cmpi .eq arg0 c0_i32_27
  let v69 : BitVec 32 := Scalar.extui v68
  let c0_i32_28 : BitVec 32 := 0#32
  let v70 : BitVec 1 := Scalar.cmpi .ne v69 c0_i32_28
  v70

def k0_cond4 (i : grid0.Coords) : BitVec 1 :=
  let arg0 : BitVec 32 := BitVec.ofNat 32 (i 0).val
  let c0_i32_29 : BitVec 32 := 0#32
  let v71 : BitVec 1 := Scalar.cmpi .sgt arg0 c0_i32_29
  let v72 : BitVec 32 := Scalar.extui v71
  let c0_i32_30 : BitVec 32 := 0#32
  let v73 : BitVec 1 := Scalar.cmpi .ne v72 c0_i32_30
  v73

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S704x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S704x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S704x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== InDxReferenceIdeal.lean ====
abbrev S4112x6176 : Shape := ⟨2, ![4112, 6176]⟩
abbrev S4112x1024 : Shape := ⟨2, ![4112, 1024]⟩
abbrev S1024 : Shape := ⟨1, ![1024]⟩
abbrev S1024x6176 : Shape := ⟨2, ![1024, 6176]⟩
abbrev S_ : Shape := ⟨0, ![]⟩
abbrev S4112 : Shape := ⟨1, ![4112]⟩
abbrev S4112x1 : Shape := ⟨2, ![4112, 1]⟩
abbrev S1x1024 : Shape := ⟨2, ![1, 1024]⟩
abbrev S4224x1024 : Shape := ⟨2, ![4224, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4112x6176, .f32⟩
  | .hbm, ⟨1, _⟩ => ⟨S4112x1024, .f32⟩
  | .hbm, ⟨2, _⟩ => ⟨S4112x1024, .f32⟩
  | .hbm, ⟨3, _⟩ => ⟨S1024, .f32⟩
  | .hbm, ⟨4, _⟩ => ⟨S1024x6176, .f32⟩
  | .hbm, ⟨5, _⟩ => ⟨S4112x1024, .f32⟩
  | .hbm, ⟨6, _⟩ => ⟨S_, .f32⟩
  | .hbm, ⟨7, _⟩ => ⟨S4112, .f32⟩
  | .hbm, ⟨8, _⟩ => ⟨S4112x1, .f32⟩
  | .hbm, ⟨9, _⟩ => ⟨S_, .f32⟩
  | .hbm, ⟨10, _⟩ => ⟨S4112x1, .f32⟩
  | .hbm, ⟨11, _⟩ => ⟨S4112x1, .f32⟩
  | .hbm, ⟨12, _⟩ => ⟨S_, .f32⟩
  | .hbm, ⟨13, _⟩ => ⟨S4112x1, .f32⟩
  | .hbm, ⟨14, _⟩ => ⟨S4112x1, .f32⟩
  | .hbm, ⟨15, _⟩ => ⟨S4112x1, .f32⟩
  | .hbm, ⟨16, _⟩ => ⟨S4112x1, .f32⟩
  | .hbm, ⟨17, _⟩ => ⟨S_, .f32⟩
  | .hbm, ⟨18, _⟩ => ⟨S4112x1, .f32⟩
  | .hbm, ⟨19, _⟩ => ⟨S4112x1, .f32⟩
  | .hbm, ⟨20, _⟩ => ⟨S4112x1024, .f32⟩
  | .hbm, ⟨21, _⟩ => ⟨S4112x1024, .f32⟩
  | .hbm, ⟨22, _⟩ => ⟨S1x1024, .f32⟩
  | .hbm, ⟨23, _⟩ => ⟨S4112x1024, .f32⟩
  | .hbm, ⟨24, _⟩ => ⟨S4112x1024, .f32⟩
  | .hbm, ⟨25, _⟩ => ⟨S4112x6176, .f32⟩
  | .hbm, ⟨26, _⟩ => ⟨S4112x1024, .f32⟩
  | .hbm, ⟨27, _⟩ => ⟨S4112x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4112x1024, .f32⟩
  | .hbm, ⟨32, _⟩ => ⟨S4112x1024, .f32⟩
  | .hbm, ⟨33, _⟩ => ⟨S_, .f32⟩
  | .hbm, ⟨34, _⟩ => ⟨S1024, .f32⟩
  | .hbm, ⟨35, _⟩ => ⟨S4112x1024, .f32⟩
  | .hbm, ⟨36, _⟩ => ⟨S_, .f32⟩
  | .hbm, ⟨37, _⟩ => ⟨S4112, .f32⟩
  | .hbm, ⟨38, _⟩ => ⟨S4112x1, .f32⟩
  | .hbm, ⟨39, _⟩ => ⟨S4112x1024, .f32⟩
  | .hbm, ⟨40, _⟩ => ⟨S4112x1024, .f32⟩
  | .hbm, ⟨41, _⟩ => ⟨S4112x1024, .f32⟩
  | .hbm, ⟨42, _⟩ => ⟨S4112x1, .f32⟩
  | .hbm, ⟨43, _⟩ => ⟨S_, .f32⟩
  | .hbm, ⟨44, _⟩ => ⟨S4112x1, .f32⟩
  | .hbm, ⟨45, _⟩ => ⟨S4112x1, .f32⟩
  | .hbm, ⟨46, _⟩ => ⟨S_, .f32⟩
  | .hbm, ⟨47, _⟩ => ⟨S4112, .f32⟩
  | .hbm, ⟨48, _⟩ => ⟨S4112x1024, .f32⟩
  | .hbm, ⟨49, _⟩ => ⟨S4112x1024, .f32⟩
  | .hbm, ⟨50, _⟩ => ⟨S4112x1024, .f32⟩
  | .hbm, ⟨51, _⟩ => ⟨S4112x1024, .f32⟩
  | .hbm, ⟨52, _⟩ => ⟨S4112x1024, .f32⟩
  | .hbm, ⟨53, _⟩ => ⟨S_, .i32⟩
  | .hbm, ⟨54, _⟩ => ⟨S_, .f32⟩
  | .hbm, ⟨55, _⟩ => ⟨S4224x1024, .f32⟩
  | .hbm, ⟨56, _⟩ => ⟨S1x1024, .f32⟩
  | _, _ => ⟨S4112x6176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c : Ref sig .tc := ⟨.hbm, 53, rfl⟩
abbrev main_call0_v0 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== InDw.lean ====
abbrev S4224x1024 : Shape := ⟨2, ![4224, 1024]⟩
abbrev S4224x6176 : Shape := ⟨2, ![4224, 6176]⟩
abbrev S_ : Shape := ⟨0, ![]⟩
abbrev S4224x6272 : Shape := ⟨2, ![4224, 6272]⟩
abbrev S1x1024x6272 : Shape := ⟨3, ![1, 1024, 6272]⟩
abbrev S1408x1024 : Shape := ⟨2, ![1408, 1024]⟩
abbrev S1408x896 : Shape := ⟨2, ![1408, 896]⟩
abbrev S1x1024x896 : Shape := ⟨3, ![1, 1024, 896]⟩
abbrev S1024x896 : Shape := ⟨2, ![1024, 896]⟩

abbrev nBuf : Space → Nat
  | .hbm => 8
  | .vmem => 7
  | .smem => 0
  | _ => 0

abbrev bufTy : (tb : Table) → Fin (tcTables nBuf tb) → BufTy
  | .hbm, ⟨0, _⟩ => ⟨S4224x1024, .f32⟩
  | .hbm, ⟨1, _⟩ => ⟨S4224x6176, .f32⟩
  | .hbm, ⟨2, _⟩ => ⟨S4224x1024, .bf16⟩
  | .hbm, ⟨3, _⟩ => ⟨S_, .i32⟩
  | .hbm, ⟨4, _⟩ => ⟨S_, .f32⟩
  | .hbm, ⟨5, _⟩ => ⟨S4224x6272, .f32⟩
  | .hbm, ⟨6, _⟩ => ⟨S4224x6272, .bf16⟩
  | .hbm, ⟨7, _⟩ => ⟨S1x1024x6272, .f32⟩
  | .local _ .vmem, ⟨0, _⟩ => ⟨S1408x1024, .bf16⟩
  | .local _ .vmem, ⟨1, _⟩ => ⟨S1408x1024, .bf16⟩
  | .local _ .vmem, ⟨2, _⟩ => ⟨S1408x896, .bf16⟩
  | .local _ .vmem, ⟨3, _⟩ => ⟨S1408x896, .bf16⟩
  | .local _ .vmem, ⟨4, _⟩ => ⟨S1x1024x896, .f32⟩
  | .local _ .vmem, ⟨5, _⟩ => ⟨S1x1024x896, .f32⟩
  | .local _ .vmem, ⟨6, _⟩ => ⟨S1024x896, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 7, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwReferenceIdeal.lean ====
abbrev S4224x1024 : Shape := ⟨2, ![4224, 1024]⟩
abbrev S4224x6176 : Shape := ⟨2, ![4224, 6176]⟩
abbrev S_ : Shape := ⟨0, ![]⟩
abbrev S1024x6176 : Shape := ⟨2, ![1024, 6176]⟩
abbrev S6176x1024 : Shape := ⟨2, ![6176, 1024]⟩
abbrev S1024x6272 : Shape := ⟨2, ![1024, 6272]⟩
abbrev S1x1024x6272 : Shape := ⟨3, ![1, 1024, 6272]⟩

abbrev nBuf : Space → Nat
  | .hbm => 11
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x6176, .f32⟩
  | .hbm, ⟨2, _⟩ => ⟨S_, .f32⟩
  | .hbm, ⟨3, _⟩ => ⟨S1024x6176, .f32⟩
  | .hbm, ⟨4, _⟩ => ⟨S4224x6176, .f32⟩
  | .hbm, ⟨5, _⟩ => ⟨S6176x1024, .f32⟩
  | .hbm, ⟨6, _⟩ => ⟨S1024x6176, .f32⟩
  | .hbm, ⟨7, _⟩ => ⟨S_, .i32⟩
  | .hbm, ⟨8, _⟩ => ⟨S_, .f32⟩
  | .hbm, ⟨9, _⟩ => ⟨S1024x6272, .f32⟩
  | .hbm, ⟨10, _⟩ => ⟨S1x1024x6272, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== OutDw.lean ====
abbrev S4224x2048 : Shape := ⟨2, ![4224, 2048]⟩
abbrev S4224x1024 : Shape := ⟨2, ![4224, 1024]⟩
abbrev S1x2048x1024 : Shape := ⟨3, ![1, 2048, 1024]⟩
abbrev S1408x1024 : Shape := ⟨2, ![1408, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4224x2048, .f32⟩
  | .hbm, ⟨1, _⟩ => ⟨S4224x1024, .f32⟩
  | .hbm, ⟨2, _⟩ => ⟨S4224x2048, .bf16⟩
  | .hbm, ⟨3, _⟩ => ⟨S1x2048x1024, .f32⟩
  | .local _ .vmem, ⟨0, _⟩ => ⟨S1408x1024, .bf16⟩
  | .local _ .vmem, ⟨1, _⟩ => ⟨S1408x1024, .bf16⟩
  | .local _ .vmem, ⟨2, _⟩ => ⟨S1408x1024, .f32⟩
  | .local _ .vmem, ⟨3, _⟩ => ⟨S1408x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwReferenceIdeal.lean ====
abbrev S4224x2048 : Shape := ⟨2, ![4224, 2048]⟩
abbrev S4224x1024 : Shape := ⟨2, ![4224, 1024]⟩
abbrev S_ : Shape := ⟨0, ![]⟩
abbrev S2048x1024 : Shape := ⟨2, ![2048, 1024]⟩
abbrev S1024x2048 : Shape := ⟨2, ![1024, 2048]⟩
abbrev S1x2048x1024 : Shape := ⟨3, ![1, 2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4224x1024, .f32⟩
  | .hbm, ⟨2, _⟩ => ⟨S_, .f32⟩
  | .hbm, ⟨3, _⟩ => ⟨S2048x1024, .f32⟩
  | .hbm, ⟨4, _⟩ => ⟨S4224x1024, .f32⟩
  | .hbm, ⟨5, _⟩ => ⟨S1024x2048, .f32⟩
  | .hbm, ⟨6, _⟩ => ⟨S2048x1024, .f32⟩
  | .hbm, ⟨7, _⟩ => ⟨S1x2048x1024, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutDx.lean ====
abbrev S4224x1024 : Shape := ⟨2, ![4224, 1024]⟩
abbrev S1x2048x1024 : Shape := ⟨3, ![1, 2048, 1024]⟩
abbrev S4224x2048 : Shape := ⟨2, ![4224, 2048]⟩
abbrev S1408x1024 : Shape := ⟨2, ![1408, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4224x1024, .f32⟩
  | .hbm, ⟨1, _⟩ => ⟨S1x2048x1024, .f32⟩
  | .hbm, ⟨2, _⟩ => ⟨S1x2048x1024, .bf16⟩
  | .hbm, ⟨3, _⟩ => ⟨S4224x2048, .f32⟩
  | .local _ .vmem, ⟨0, _⟩ => ⟨S1408x1024, .f32⟩
  | .local _ .vmem, ⟨1, _⟩ => ⟨S1408x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxReferenceIdeal.lean ====
abbrev S4224x1024 : Shape := ⟨2, ![4224, 1024]⟩
abbrev S1x2048x1024 : Shape := ⟨3, ![1, 2048, 1024]⟩
abbrev S_ : Shape := ⟨0, ![]⟩
abbrev S4224x2048 : Shape := ⟨2, ![4224, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1x2048x1024, .f32⟩
  | .hbm, ⟨2, _⟩ => ⟨S_, .f32⟩
  | .hbm, ⟨3, _⟩ => ⟨S4224x2048, .f32⟩
  | .hbm, ⟨4, _⟩ => ⟨S2048x1024, .f32⟩
  | .hbm, ⟨5, _⟩ => ⟨S4224x1024, .f32⟩
  | .hbm, ⟨6, _⟩ => ⟨S4224x2048, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== SsdIn.lean ====
abbrev S4224x1024 : Shape := ⟨2, ![4224, 1024]⟩
abbrev S1024x6176 : Shape := ⟨2, ![1024, 6176]⟩
abbrev S_ : Shape := ⟨0, ![]⟩
abbrev S1024x6272 : Shape := ⟨2, ![1024, 6272]⟩
abbrev S4224x6272 : Shape := ⟨2, ![4224, 6272]⟩
abbrev S1408x1024 : Shape := ⟨2, ![1408, 1024]⟩
abbrev S1024x896 : Shape := ⟨2, ![1024, 896]⟩
abbrev S1408x896 : Shape := ⟨2, ![1408, 896]⟩

abbrev nBuf : Space → Nat
  | .hbm => 8
  | .vmem => 7
  | .smem => 0
  | _ => 0

abbrev bufTy : (tb : Table) → Fin (tcTables nBuf tb) → BufTy
  | .hbm, ⟨0, _⟩ => ⟨S4224x1024, .f32⟩
  | .hbm, ⟨1, _⟩ => ⟨S1024x6176, .f32⟩
  | .hbm, ⟨2, _⟩ => ⟨S4224x1024, .bf16⟩
  | .hbm, ⟨3, _⟩ => ⟨S_, .i32⟩
  | .hbm, ⟨4, _⟩ => ⟨S_, .f32⟩
  | .hbm, ⟨5, _⟩ => ⟨S1024x6272, .f32⟩
  | .hbm, ⟨6, _⟩ => ⟨S1024x6272, .bf16⟩
  | .hbm, ⟨7, _⟩ => ⟨S4224x6272, .f32⟩
  | .local _ .vmem, ⟨0, _⟩ => ⟨S1408x1024, .bf16⟩
  | .local _ .vmem, ⟨1, _⟩ => ⟨S1408x1024, .bf16⟩
  | .local _ .vmem, ⟨2, _⟩ => ⟨S1024x896, .bf16⟩
  | .local _ .vmem, ⟨3, _⟩ => ⟨S1024x896, .bf16⟩
  | .local _ .vmem, ⟨4, _⟩ => ⟨S1408x896, .f32⟩
  | .local _ .vmem, ⟨5, _⟩ => ⟨S1408x896, .f32⟩
  | .local _ .vmem, ⟨6, _⟩ => ⟨S1408x896, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 7, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdInReferenceIdeal.lean ====
abbrev S4224x1024 : Shape := ⟨2, ![4224, 1024]⟩
abbrev S1024x6176 : Shape := ⟨2, ![1024, 6176]⟩
abbrev S4224x6176 : Shape := ⟨2, ![4224, 6176]⟩
abbrev S_ : Shape := ⟨0, ![]⟩
abbrev S4224x6272 : Shape := ⟨2, ![4224, 6272]⟩

abbrev nBuf : Space → Nat
  | .hbm => 6
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x6176, .f32⟩
  | .hbm, ⟨2, _⟩ => ⟨S4224x6176, .f32⟩
  | .hbm, ⟨3, _⟩ => ⟨S_, .i32⟩
  | .hbm, ⟨4, _⟩ => ⟨S_, .f32⟩
  | .hbm, ⟨5, _⟩ => ⟨S4224x6272, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== SsdOut.lean ====
abbrev S4224x2048 : Shape := ⟨2, ![4224, 2048]⟩
abbrev S1x2048x1024 : Shape := ⟨3, ![1, 2048, 1024]⟩
abbrev S4224x1024 : Shape := ⟨2, ![4224, 1024]⟩
abbrev S1024 : Shape := ⟨1, ![1024]⟩
abbrev S1x1024 : Shape := ⟨2, ![1, 1024]⟩
abbrev S704x1024 : Shape := ⟨2, ![704, 1024]⟩
abbrev S1x1024x1024 : Shape := ⟨3, ![1, 1024, 1024]⟩
abbrev S1024x1024 : Shape := ⟨2, ![1024, 1024]⟩
abbrev S704 : Shape := ⟨1, ![704]⟩
abbrev S704x1 : Shape := ⟨2, ![704, 1]⟩

abbrev nBuf : Space → Nat
  | .hbm => 9
  | .vmem => 12
  | .smem => 0
  | _ => 0

abbrev bufTy : (tb : Table) → Fin (tcTables nBuf tb) → BufTy
  | .hbm, ⟨0, _⟩ => ⟨S4224x2048, .f32⟩
  | .hbm, ⟨1, _⟩ => ⟨S1x2048x1024, .f32⟩
  | .hbm, ⟨2, _⟩ => ⟨S4224x1024, .f32⟩
  | .hbm, ⟨3, _⟩ => ⟨S1024, .f32⟩
  | .hbm, ⟨4, _⟩ => ⟨S4224x2048, .bf16⟩
  | .hbm, ⟨5, _⟩ => ⟨S1x2048x1024, .bf16⟩
  | .hbm, ⟨6, _⟩ => ⟨S1x1024, .f32⟩
  | .hbm, ⟨7, _⟩ => ⟨S4224x1024, .f32⟩
  | .hbm, ⟨8, _⟩ => ⟨S4224x1024, .bf16⟩
  | .local _ .vmem, ⟨0, _⟩ => ⟨S704x1024, .bf16⟩
  | .local _ .vmem, ⟨1, _⟩ => ⟨S704x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S704x1024, .f32⟩
  | .local _ .vmem, ⟨5, _⟩ => ⟨S704x1024, .f32⟩
  | .local _ .vmem, ⟨6, _⟩ => ⟨S1x1024, .f32⟩
  | .local _ .vmem, ⟨7, _⟩ => ⟨S704x1024, .f32⟩
  | .local _ .vmem, ⟨8, _⟩ => ⟨S704x1024, .f32⟩
  | .local _ .vmem, ⟨9, _⟩ => ⟨S704x1024, .bf16⟩
  | .local _ .vmem, ⟨10, _⟩ => ⟨S704x1024, .bf16⟩
  | .local _ .vmem, ⟨11, _⟩ => ⟨S704x1024, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![6, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S704x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== SsdOutReferenceIdeal.lean ====
abbrev S4224x2048 : Shape := ⟨2, ![4224, 2048]⟩
abbrev S1x2048x1024 : Shape := ⟨3, ![1, 2048, 1024]⟩
abbrev S4224x1024 : Shape := ⟨2, ![4224, 1024]⟩
abbrev S1024 : Shape := ⟨1, ![1024]⟩
abbrev S2048x1024 : Shape := ⟨2, ![2048, 1024]⟩
abbrev S_ : Shape := ⟨0, ![]⟩
abbrev S4224 : Shape := ⟨1, ![4224]⟩
abbrev S4224x1 : Shape := ⟨2, ![4224, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S1x2048x1024, .f32⟩
  | .hbm, ⟨2, _⟩ => ⟨S4224x1024, .f32⟩
  | .hbm, ⟨3, _⟩ => ⟨S1024, .f32⟩
  | .hbm, ⟨4, _⟩ => ⟨S2048x1024, .f32⟩
  | .hbm, ⟨5, _⟩ => ⟨S4224x1024, .f32⟩
  | .hbm, ⟨6, _⟩ => ⟨S4224x1024, .f32⟩
  | .hbm, ⟨7, _⟩ => ⟨S4224x1024, .f32⟩
  | .hbm, ⟨8, _⟩ => ⟨S_, .f32⟩
  | .hbm, ⟨9, _⟩ => ⟨S4224, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S_, .f32⟩
  | .hbm, ⟨15, _⟩ => ⟨S4224x1, .f32⟩
  | .hbm, ⟨16, _⟩ => ⟨S4224x1, .f32⟩
  | .hbm, ⟨17, _⟩ => ⟨S4224x1, .f32⟩
  | .hbm, ⟨18, _⟩ => ⟨S4224x1024, .f32⟩
  | .hbm, ⟨19, _⟩ => ⟨S4224x1024, .f32⟩
  | .hbm, ⟨20, _⟩ => ⟨S1x1024, .f32⟩
  | .hbm, ⟨21, _⟩ => ⟨S4224x1024, .f32⟩
  | .hbm, ⟨22, _⟩ => ⟨S4224x1024, .f32⟩
  | .hbm, ⟨23, _⟩ => ⟨S4224x1024, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== MlpUpOne.lean ====
abbrev S4224x1024 : Shape := ⟨2, ![4224, 1024]⟩
abbrev S1x1024x4096 : Shape := ⟨3, ![1, 1024, 4096]⟩
abbrev S4224x4096 : Shape := ⟨2, ![4224, 4096]⟩
abbrev S1408x1024 : Shape := ⟨2, ![1408, 1024]⟩
abbrev S1x1024x1024 : Shape := ⟨3, ![1, 1024, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4224x1024, .f32⟩
  | .hbm, ⟨1, _⟩ => ⟨S1x1024x4096, .f32⟩
  | .hbm, ⟨2, _⟩ => ⟨S4224x1024, .bf16⟩
  | .hbm, ⟨3, _⟩ => ⟨S1x1024x4096, .bf16⟩
  | .hbm, ⟨4, _⟩ => ⟨S4224x4096, .bf16⟩
  | .local _ .vmem, ⟨0, _⟩ => ⟨S1408x1024, .bf16⟩
  | .local _ .vmem, ⟨1, _⟩ => ⟨S1408x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpUpOneReferenceIdeal.lean ====
abbrev S4224x1024 : Shape := ⟨2, ![4224, 1024]⟩
abbrev S1x1024x4096 : Shape := ⟨3, ![1, 1024, 4096]⟩
abbrev S1024x4096 : Shape := ⟨2, ![1024, 4096]⟩
abbrev S4224x4096 : Shape := ⟨2, ![4224, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1x1024x4096, .f32⟩
  | .hbm, ⟨2, _⟩ => ⟨S1024x4096, .f32⟩
  | .hbm, ⟨3, _⟩ => ⟨S4224x4096, .f32⟩
  | .hbm, ⟨4, _⟩ => ⟨S4224x4096, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MlpUpTwo.lean ====
abbrev S4224x1024 : Shape := ⟨2, ![4224, 1024]⟩
abbrev S2x1024x4096 : Shape := ⟨3, ![2, 1024, 4096]⟩
abbrev S4224x4096 : Shape := ⟨2, ![4224, 4096]⟩
abbrev S1408x1024 : Shape := ⟨2, ![1408, 1024]⟩
abbrev S1x1024x1024 : Shape := ⟨3, ![1, 1024, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4224x1024, .f32⟩
  | .hbm, ⟨1, _⟩ => ⟨S2x1024x4096, .f32⟩
  | .hbm, ⟨2, _⟩ => ⟨S4224x1024, .bf16⟩
  | .hbm, ⟨3, _⟩ => ⟨S2x1024x4096, .bf16⟩
  | .hbm, ⟨4, _⟩ => ⟨S4224x4096, .bf16⟩
  | .local _ .vmem, ⟨0, _⟩ => ⟨S1408x1024, .bf16⟩
  | .local _ .vmem, ⟨1, _⟩ => ⟨S1408x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpUpTwoReferenceIdeal.lean ====
abbrev S4224x1024 : Shape := ⟨2, ![4224, 1024]⟩
abbrev S2x1024x4096 : Shape := ⟨3, ![2, 1024, 4096]⟩
abbrev S1x1024x4096 : Shape := ⟨3, ![1, 1024, 4096]⟩
abbrev S1024x4096 : Shape := ⟨2, ![1024, 4096]⟩
abbrev S4224x4096 : Shape := ⟨2, ![4224, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S2x1024x4096, .f32⟩
  | .hbm, ⟨2, _⟩ => ⟨S1x1024x4096, .f32⟩
  | .hbm, ⟨3, _⟩ => ⟨S1024x4096, .f32⟩
  | .hbm, ⟨4, _⟩ => ⟨S4224x4096, .f32⟩
  | .hbm, ⟨5, _⟩ => ⟨S4224x4096, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MlpUpTop.lean ====
abbrev S4224x1024 : Shape := ⟨2, ![4224, 1024]⟩
abbrev S2x1024x4096 : Shape := ⟨3, ![2, 1024, 4096]⟩
abbrev S4224x4096 : Shape := ⟨2, ![4224, 4096]⟩
abbrev S1408x1024 : Shape := ⟨2, ![1408, 1024]⟩
abbrev S1x1024x1024 : Shape := ⟨3, ![1, 1024, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4224x1024, .f32⟩
  | .hbm, ⟨1, _⟩ => ⟨S2x1024x4096, .f32⟩
  | .hbm, ⟨2, _⟩ => ⟨S4224x1024, .bf16⟩
  | .hbm, ⟨3, _⟩ => ⟨S2x1024x4096, .bf16⟩
  | .hbm, ⟨4, _⟩ => ⟨S4224x4096, .bf16⟩
  | .local _ .vmem, ⟨0, _⟩ => ⟨S1408x1024, .bf16⟩
  | .local _ .vmem, ⟨1, _⟩ => ⟨S1408x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpUpTopReferenceIdeal.lean ====
abbrev S4224x1024 : Shape := ⟨2, ![4224, 1024]⟩
abbrev S2x1024x4096 : Shape := ⟨3, ![2, 1024, 4096]⟩
abbrev S1x1024x4096 : Shape := ⟨3, ![1, 1024, 4096]⟩
abbrev S1024x4096 : Shape := ⟨2, ![1024, 4096]⟩
abbrev S4224x4096 : Shape := ⟨2, ![4224, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S2x1024x4096, .f32⟩
  | .hbm, ⟨2, _⟩ => ⟨S1x1024x4096, .f32⟩
  | .hbm, ⟨3, _⟩ => ⟨S1024x4096, .f32⟩
  | .hbm, ⟨4, _⟩ => ⟨S4224x4096, .f32⟩
  | .hbm, ⟨5, _⟩ => ⟨S4224x4096, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MlpDownOne.lean ====
abbrev S4224x4096 : Shape := ⟨2, ![4224, 4096]⟩
abbrev S1x4096x1024 : Shape := ⟨3, ![1, 4096, 1024]⟩
abbrev S4224x1024 : Shape := ⟨2, ![4224, 1024]⟩
abbrev S1024 : Shape := ⟨1, ![1024]⟩
abbrev S1x1024 : Shape := ⟨2, ![1, 1024]⟩
abbrev S704x1024 : Shape := ⟨2, ![704, 1024]⟩
abbrev S1x1024x1024 : Shape := ⟨3, ![1, 1024, 1024]⟩
abbrev S1024x1024 : Shape := ⟨2, ![1024, 1024]⟩
abbrev S704 : Shape := ⟨1, ![704]⟩
abbrev S704x1 : Shape := ⟨2, ![704, 1]⟩

abbrev nBuf : Space → Nat
  | .hbm => 9
  | .vmem => 12
  | .smem => 0
  | _ => 0

abbrev bufTy : (tb : Table) → Fin (tcTables nBuf tb) → BufTy
  | .hbm, ⟨0, _⟩ => ⟨S4224x4096, .f32⟩
  | .hbm, ⟨1, _⟩ => ⟨S1x4096x1024, .f32⟩
  | .hbm, ⟨2, _⟩ => ⟨S4224x1024, .f32⟩
  | .hbm, ⟨3, _⟩ => ⟨S1024, .f32⟩
  | .hbm, ⟨4, _⟩ => ⟨S4224x4096, .bf16⟩
  | .hbm, ⟨5, _⟩ => ⟨S1x4096x1024, .bf16⟩
  | .hbm, ⟨6, _⟩ => ⟨S1x1024, .f32⟩
  | .hbm, ⟨7, _⟩ => ⟨S4224x1024, .f32⟩
  | .hbm, ⟨8, _⟩ => ⟨S4224x1024, .bf16⟩
  | .local _ .vmem, ⟨0, _⟩ => ⟨S704x1024, .bf16⟩
  | .local _ .vmem, ⟨1, _⟩ => ⟨S704x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S704x1024, .f32⟩
  | .local _ .vmem, ⟨5, _⟩ => ⟨S704x1024, .f32⟩
  | .local _ .vmem, ⟨6, _⟩ => ⟨S1x1024, .f32⟩
  | .local _ .vmem, ⟨7, _⟩ => ⟨S704x1024, .f32⟩
  | .local _ .vmem, ⟨8, _⟩ => ⟨S704x1024, .f32⟩
  | .local _ .vmem, ⟨9, _⟩ => ⟨S704x1024, .bf16⟩
  | .local _ .vmem, ⟨10, _⟩ => ⟨S704x1024, .bf16⟩
  | .local _ .vmem, ⟨11, _⟩ => ⟨S704x1024, .f32⟩
  | _, _ => ⟨S4224x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![6, 1, 4], ![false, false, false]⟩

def k0_cond2 (i : grid0.Coords) : BitVec 1 :=
  let arg2 : BitVec 32 := BitVec.ofNat 32 (i 2).val
  let c3_i32 : BitVec 32 := 3#32
  let v16 : BitVec 1 := Scalar.cmpi .eq arg2 c3_i32
  let v17 : BitVec 32 := Scalar.extui v16
  let c0_i32_10 : BitVec 32 := 0#32
  let v18 : BitVec 1 := Scalar.cmpi .ne v17 c0_i32_10
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S704x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== MlpDownOneReferenceIdeal.lean ====
abbrev S4224x4096 : Shape := ⟨2, ![4224, 4096]⟩
abbrev S1x4096x1024 : Shape := ⟨3, ![1, 4096, 1024]⟩
abbrev S4224x1024 : Shape := ⟨2, ![4224, 1024]⟩
abbrev S1024 : Shape := ⟨1, ![1024]⟩
abbrev S4096x1024 : Shape := ⟨2, ![4096, 1024]⟩
abbrev S_ : Shape := ⟨0, ![]⟩
abbrev S4224 : Shape := ⟨1, ![4224]⟩
abbrev S4224x1 : Shape := ⟨2, ![4224, 1]⟩
abbrev S1x1024 : Shape := ⟨2, ![1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4224x4096, .f32⟩
  | .hbm, ⟨1, _⟩ => ⟨S1x4096x1024, .f32⟩
  | .hbm, ⟨2, _⟩ => ⟨S4224x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4224x4096, .f32⟩
  | .hbm, ⟨7, _⟩ => ⟨S4224x4096, .f32⟩
  | .hbm, ⟨8, _⟩ => ⟨S4224x4096, .f32⟩
  | .hbm, ⟨9, _⟩ => ⟨S4224x1024, .f32⟩
  | .hbm, ⟨10, _⟩ => ⟨S4224x1024, .f32⟩
  | .hbm, ⟨11, _⟩ => ⟨S4224x1024, .f32⟩
  | .hbm, ⟨12, _⟩ => ⟨S_, .f32⟩
  | .hbm, ⟨13, _⟩ => ⟨S4224, .f32⟩
  | .hbm, ⟨14, _⟩ => ⟨S4224x1, .f32⟩
  | .hbm, ⟨15, _⟩ => ⟨S_, .f32⟩
  | .hbm, ⟨16, _⟩ => ⟨S4224x1, .f32⟩
  | .hbm, ⟨17, _⟩ => ⟨S4224x1, .f32⟩
  | .hbm, ⟨18, _⟩ => ⟨S_, .f32⟩
  | .hbm, ⟨19, _⟩ => ⟨S4224x1, .f32⟩
  | .hbm, ⟨20, _⟩ => ⟨S4224x1, .f32⟩
  | .hbm, ⟨21, _⟩ => ⟨S4224x1, .f32⟩
  | .hbm, ⟨22, _⟩ => ⟨S4224x1024, .f32⟩
  | .hbm, ⟨23, _⟩ => ⟨S4224x1024, .f32⟩
  | .hbm, ⟨24, _⟩ => ⟨S1x1024, .f32⟩
  | .hbm, ⟨25, _⟩ => ⟨S4224x1024, .f32⟩
  | .hbm, ⟨26, _⟩ => ⟨S4224x1024, .f32⟩
  | .hbm, ⟨27, _⟩ => ⟨S4224x1024, .bf16⟩
  | _, _ => ⟨S4224x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== MlpDownTwo.lean ====
abbrev S4224x4096 : Shape := ⟨2, ![4224, 4096]⟩
abbrev S2x4096x1024 : Shape := ⟨3, ![2, 4096, 1024]⟩
abbrev S4224x1024 : Shape := ⟨2, ![4224, 1024]⟩
abbrev S1024 : Shape := ⟨1, ![1024]⟩
abbrev S1x1024 : Shape := ⟨2, ![1, 1024]⟩
abbrev S704x1024 : Shape := ⟨2, ![704, 1024]⟩
abbrev S1x1024x1024 : Shape := ⟨3, ![1, 1024, 1024]⟩
abbrev S1024x1024 : Shape := ⟨2, ![1024, 1024]⟩
abbrev S704 : Shape := ⟨1, ![704]⟩
abbrev S704x1 : Shape := ⟨2, ![704, 1]⟩

abbrev nBuf : Space → Nat
  | .hbm => 9
  | .vmem => 12
  | .smem => 0
  | _ => 0

abbrev bufTy : (tb : Table) → Fin (tcTables nBuf tb) → BufTy
  | .hbm, ⟨0, _⟩ => ⟨S4224x4096, .f32⟩
  | .hbm, ⟨1, _⟩ => ⟨S2x4096x1024, .f32⟩
  | .hbm, ⟨2, _⟩ => ⟨S4224x1024, .f32⟩
  | .hbm, ⟨3, _⟩ => ⟨S1024, .f32⟩
  | .hbm, ⟨4, _⟩ => ⟨S4224x4096, .bf16⟩
  | .hbm, ⟨5, _⟩ => ⟨S2x4096x1024, .bf16⟩
  | .hbm, ⟨6, _⟩ => ⟨S1x1024, .f32⟩
  | .hbm, ⟨7, _⟩ => ⟨S4224x1024, .f32⟩
  | .hbm, ⟨8, _⟩ => ⟨S4224x1024, .bf16⟩
  | .local _ .vmem, ⟨0, _⟩ => ⟨S704x1024, .bf16⟩
  | .local _ .vmem, ⟨1, _⟩ => ⟨S704x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S704x1024, .f32⟩
  | .local _ .vmem, ⟨5, _⟩ => ⟨S704x1024, .f32⟩
  | .local _ .vmem, ⟨6, _⟩ => ⟨S1x1024, .f32⟩
  | .local _ .vmem, ⟨7, _⟩ => ⟨S704x1024, .f32⟩
  | .local _ .vmem, ⟨8, _⟩ => ⟨S704x1024, .f32⟩
  | .local _ .vmem, ⟨9, _⟩ => ⟨S704x1024, .bf16⟩
  | .local _ .vmem, ⟨10, _⟩ => ⟨S704x1024, .bf16⟩
  | .local _ .vmem, ⟨11, _⟩ => ⟨S704x1024, .f32⟩
  | _, _ => ⟨S4224x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![6, 1, 4], ![false, false, false]⟩

def k0_cond2 (i : grid0.Coords) : BitVec 1 :=
  let arg2 : BitVec 32 := BitVec.ofNat 32 (i 2).val
  let c3_i32 : BitVec 32 := 3#32
  let v16 : BitVec 1 := Scalar.cmpi .eq arg2 c3_i32
  let v17 : BitVec 32 := Scalar.extui v16
  let c0_i32_10 : BitVec 32 := 0#32
  let v18 : BitVec 1 := Scalar.cmpi .ne v17 c0_i32_10
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S704x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== MlpDownTwoReferenceIdeal.lean ====
abbrev S4224x4096 : Shape := ⟨2, ![4224, 4096]⟩
abbrev S2x4096x1024 : Shape := ⟨3, ![2, 4096, 1024]⟩
abbrev S4224x1024 : Shape := ⟨2, ![4224, 1024]⟩
abbrev S1024 : Shape := ⟨1, ![1024]⟩
abbrev S1x4096x1024 : Shape := ⟨3, ![1, 4096, 1024]⟩
abbrev S4096x1024 : Shape := ⟨2, ![4096, 1024]⟩
abbrev S_ : Shape := ⟨0, ![]⟩
abbrev S4224 : Shape := ⟨1, ![4224]⟩
abbrev S4224x1 : Shape := ⟨2, ![4224, 1]⟩
abbrev S1x1024 : Shape := ⟨2, ![1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4224x4096, .f32⟩
  | .hbm, ⟨1, _⟩ => ⟨S2x4096x1024, .f32⟩
  | .hbm, ⟨2, _⟩ => ⟨S4224x1024, .f32⟩
  | .hbm, ⟨3, _⟩ => ⟨S1024, .f32⟩
  | .hbm, ⟨4, _⟩ => ⟨S1x4096x1024, .f32⟩
  | .hbm, ⟨5, _⟩ => ⟨S4096x1024, .f32⟩
  | .hbm, ⟨6, _⟩ => ⟨S_, .f32⟩
  | .hbm, ⟨7, _⟩ => ⟨S4224x4096, .f32⟩
  | .hbm, ⟨8, _⟩ => ⟨S4224x4096, .f32⟩
  | .hbm, ⟨9, _⟩ => ⟨S4224x4096, .f32⟩
  | .hbm, ⟨10, _⟩ => ⟨S4224x1024, .f32⟩
  | .hbm, ⟨11, _⟩ => ⟨S4224x1024, .f32⟩
  | .hbm, ⟨12, _⟩ => ⟨S4224x1024, .f32⟩
  | .hbm, ⟨13, _⟩ => ⟨S_, .f32⟩
  | .hbm, ⟨14, _⟩ => ⟨S4224, .f32⟩
  | .hbm, ⟨15, _⟩ => ⟨S4224x1, .f32⟩
  | .hbm, ⟨16, _⟩ => ⟨S_, .f32⟩
  | .hbm, ⟨17, _⟩ => ⟨S4224x1, .f32⟩
  | .hbm, ⟨18, _⟩ => ⟨S4224x1, .f32⟩
  | .hbm, ⟨19, _⟩ => ⟨S_, .f32⟩
  | .hbm, ⟨20, _⟩ => ⟨S4224x1, .f32⟩
  | .hbm, ⟨21, _⟩ => ⟨S4224x1, .f32⟩
  | .hbm, ⟨22, _⟩ => ⟨S4224x1, .f32⟩
  | .hbm, ⟨23, _⟩ => ⟨S4224x1024, .f32⟩
  | .hbm, ⟨24, _⟩ => ⟨S4224x1024, .f32⟩
  | .hbm, ⟨25, _⟩ => ⟨S1x1024, .f32⟩
  | .hbm, ⟨26, _⟩ => ⟨S4224x1024, .f32⟩
  | .hbm, ⟨27, _⟩ => ⟨S4224x1024, .f32⟩
  | .hbm, ⟨28, _⟩ => ⟨S4224x1024, .bf16⟩
  | _, _ => ⟨S4224x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== MlpDownTop.lean ====
abbrev S4224x4096 : Shape := ⟨2, ![4224, 4096]⟩
abbrev S2x4096x1024 : Shape := ⟨3, ![2, 4096, 1024]⟩
abbrev S4224x1024 : Shape := ⟨2, ![4224, 1024]⟩
abbrev S1408x1024 : Shape := ⟨2, ![1408, 1024]⟩
abbrev S1x1024x1024 : Shape := ⟨3, ![1, 1024, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4224x4096, .f32⟩
  | .hbm, ⟨1, _⟩ => ⟨S2x4096x1024, .f32⟩
  | .hbm, ⟨2, _⟩ => ⟨S4224x1024, .f32⟩
  | .hbm, ⟨3, _⟩ => ⟨S4224x4096, .bf16⟩
  | .hbm, ⟨4, _⟩ => ⟨S2x4096x1024, .bf16⟩
  | .hbm, ⟨5, _⟩ => ⟨S4224x1024, .f32⟩
  | .local _ .vmem, ⟨0, _⟩ => ⟨S1408x1024, .bf16⟩
  | .local _ .vmem, ⟨1, _⟩ => ⟨S1408x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | .local _ .vmem, ⟨7, _⟩ => ⟨S1408x1024, .f32⟩
  | .local _ .vmem, ⟨8, _⟩ => ⟨S1408x1024, .f32⟩
  | _, _ => ⟨S4224x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 1, 4], ![false, false, false]⟩

def k0_cond2 (i : grid0.Coords) : BitVec 1 :=
  let arg2 : BitVec 32 := BitVec.ofNat 32 (i 2).val
  let c3_i32 : BitVec 32 := 3#32
  let v16 : BitVec 1 := Scalar.cmpi .eq arg2 c3_i32
  let v17 : BitVec 32 := Scalar.extui v16
  let c0_i32_10 : BitVec 32 := 0#32
  let v18 : BitVec 1 := Scalar.cmpi .ne v17 c0_i32_10
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpDownTopReferenceIdeal.lean ====
abbrev S4224x4096 : Shape := ⟨2, ![4224, 4096]⟩
abbrev S2x4096x1024 : Shape := ⟨3, ![2, 4096, 1024]⟩
abbrev S4224x1024 : Shape := ⟨2, ![4224, 1024]⟩
abbrev S1x4096x1024 : Shape := ⟨3, ![1, 4096, 1024]⟩
abbrev S4096x1024 : Shape := ⟨2, ![4096, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4224x4096, .f32⟩
  | .hbm, ⟨1, _⟩ => ⟨S2x4096x1024, .f32⟩
  | .hbm, ⟨2, _⟩ => ⟨S4224x1024, .f32⟩
  | .hbm, ⟨3, _⟩ => ⟨S1x4096x1024, .f32⟩
  | .hbm, ⟨4, _⟩ => ⟨S4096x1024, .f32⟩
  | .hbm, ⟨5, _⟩ => ⟨S_, .f32⟩
  | .hbm, ⟨6, _⟩ => ⟨S4224x4096, .f32⟩
  | .hbm, ⟨7, _⟩ => ⟨S4224x4096, .f32⟩
  | .hbm, ⟨8, _⟩ => ⟨S4224x4096, .f32⟩
  | .hbm, ⟨9, _⟩ => ⟨S4224x1024, .f32⟩
  | .hbm, ⟨10, _⟩ => ⟨S4224x1024, .f32⟩
  | _, _ => ⟨S4224x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== UpDwTop.lean ====
abbrev S4224x1024 : Shape := ⟨2, ![4224, 1024]⟩
abbrev S4224x4096 : Shape := ⟨2, ![4224, 4096]⟩
abbrev S2x1024x4096 : Shape := ⟨3, ![2, 1024, 4096]⟩
abbrev S1408x1024 : Shape := ⟨2, ![1408, 1024]⟩
abbrev S1x1024x1024 : Shape := ⟨3, ![1, 1024, 1024]⟩
abbrev S1024x1024 : Shape := ⟨2, ![1024, 1024]⟩
abbrev S1x1024x4096 : Shape := ⟨3, ![1, 1024, 4096]⟩
abbrev S1024x4096 : Shape := ⟨2, ![1024, 4096]⟩

abbrev nBuf : Space → Nat
  | .hbm => 7
  | .vmem => 7
  | .smem => 0
  | _ => 0

abbrev bufTy : (tb : Table) → Fin (tcTables nBuf tb) → BufTy
  | .hbm, ⟨0, _⟩ => ⟨S4224x1024, .f32⟩
  | .hbm, ⟨1, _⟩ => ⟨S4224x4096, .f32⟩
  | .hbm, ⟨2, _⟩ => ⟨S4224x1024, .bf16⟩
  | .hbm, ⟨3, _⟩ => ⟨S4224x4096, .bf16⟩
  | .hbm, ⟨4, _⟩ => ⟨S2x1024x4096, .f32⟩
  | .hbm, ⟨5, _⟩ => ⟨S1x1024x4096, .f32⟩
  | .hbm, ⟨6, _⟩ => ⟨S1024x4096, .f32⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwTopReferenceIdeal.lean ====
abbrev S4224x1024 : Shape := ⟨2, ![4224, 1024]⟩
abbrev S4224x4096 : Shape := ⟨2, ![4224, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x4096, .f32⟩
  | .hbm, ⟨2, _⟩ => ⟨S_, .f32⟩
  | .hbm, ⟨3, _⟩ => ⟨S1024x4096, .f32⟩
  | .hbm, ⟨4, _⟩ => ⟨S4224x4096, .f32⟩
  | .hbm, ⟨5, _⟩ => ⟨S4096x1024, .f32⟩
  | .hbm, ⟨6, _⟩ => ⟨S1024x4096, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownDwTop.lean ====
abbrev S4224x4096 : Shape := ⟨2, ![4224, 4096]⟩
abbrev S4224x1024 : Shape := ⟨2, ![4224, 1024]⟩
abbrev S2x4096x1024 : Shape := ⟨3, ![2, 4096, 1024]⟩
abbrev S1408x1024 : Shape := ⟨2, ![1408, 1024]⟩
abbrev S1x1024x1024 : Shape := ⟨3, ![1, 1024, 1024]⟩
abbrev S1024x1024 : Shape := ⟨2, ![1024, 1024]⟩
abbrev S1x4096x1024 : Shape := ⟨3, ![1, 4096, 1024]⟩
abbrev S4096x1024 : Shape := ⟨2, ![4096, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4224x4096, .f32⟩
  | .hbm, ⟨1, _⟩ => ⟨S4224x1024, .f32⟩
  | .hbm, ⟨2, _⟩ => ⟨S4224x4096, .bf16⟩
  | .hbm, ⟨3, _⟩ => ⟨S2x4096x1024, .f32⟩
  | .hbm, ⟨4, _⟩ => ⟨S1x4096x1024, .f32⟩
  | .hbm, ⟨5, _⟩ => ⟨S4096x1024, .f32⟩
  | .local _ .vmem, ⟨0, _⟩ => ⟨S1408x1024, .bf16⟩
  | .local _ .vmem, ⟨1, _⟩ => ⟨S1408x1024, .bf16⟩
  | .local _ .vmem, ⟨2, _⟩ => ⟨S1408x1024, .f32⟩
  | .local _ .vmem, ⟨3, _⟩ => ⟨S1408x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S4224x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond2 (i : grid0.Coords) : BitVec 1 :=
  let arg2 : BitVec 32 := BitVec.ofNat 32 (i 2).val
  let c2_i32 : BitVec 32 := 2#32
  let v16 : BitVec 1 := Scalar.cmpi .eq arg2 c2_i32
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwTopReferenceIdeal.lean ====
abbrev S4224x4096 : Shape := ⟨2, ![4224, 4096]⟩
abbrev S4224x1024 : Shape := ⟨2, ![4224, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4224x4096, .f32⟩
  | .hbm, ⟨1, _⟩ => ⟨S4224x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S4224x4096, .f32⟩
  | .hbm, ⟨6, _⟩ => ⟨S4224x4096, .f32⟩
  | .hbm, ⟨7, _⟩ => ⟨S4224x4096, .f32⟩
  | .hbm, ⟨8, _⟩ => ⟨S4224x1024, .f32⟩
  | .hbm, ⟨9, _⟩ => ⟨S1024x4096, .f32⟩
  | .hbm, ⟨10, _⟩ => ⟨S4096x1024, .f32⟩
  | _, _ => ⟨S4224x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Proof.KernelIdeal.Held.lean ====
/-
  Hand-written, untrusted. What one grid point of the attention's backward kernel holds while it runs: the six operand
  windows and the three result windows at named contents, the four scratch buffers at any contents.
-/
module

public import proofs.«01_k».proof.Proof.Gen.KernelIdeal.Skeleton
public import proofs.«01_k».proof.Proof.Gen.KernelIdeal.Loops
public import Idealize.ShloMosaic.Lib.LoopRemainder
public import Idealize.ShloMosaic.Lib.Tactic
public import Idealize.ShloMosaic.Lib.Pipeline.Kit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the frame kit. -/
local notation "𝕄" => MT nD τ sig Unit (Elt F) ℕ (UR sig nD τ) ℕ
abbrev 𝒱₀ : Variants := Variants.none

/-- A buffer held whole at contents `f`, through a memref. -/
abbrev pt (c : Dev nD) {S : Shape} {e : EltTy} (M : Memref sig .tc .vmem S e) (f : Buf (Elt F) (M.view.loc (c : Thread nD τ))) : sProp 𝕄 :=
  M.view.loc (c : Thread nD τ) ↦[M.view.set]{fullShare} f

/-- A buffer held whole at some contents. -/
abbrev anyPt (c : Dev nD) {S : Shape} {e : EltTy} (M : Memref sig .tc .vmem S e) : sProp 𝕄 :=
  iprop(∃ f, pt (F := F) c M f)

/-- The type of a memref's buffer contents. -/
abbrev Ct (c : Dev nD) {S : Shape} {e : EltTy} (M : Memref sig .tc .vmem S e) : Type := Buf (Elt F) (M.view.loc (c : Thread nD τ))

/-- What a grid point holds. -/
abbrev Held (c : Dev nD) (arg2 : Memref sig .tc .vmem S4224x256 .bf16) (arg3 : Memref sig .tc .vmem S384x256 .bf16) (arg4 : Memref sig .tc .vmem S384x256 .bf16) (arg5 : Memref sig .tc .vmem S4224x256 .bf16) (arg6 : Memref sig .tc .vmem S2x4224x1 .f32) (arg7 : Memref sig .tc .vmem S2x4224x1 .f32) (arg8 : Memref sig .tc .vmem S4224x256 .f32) (arg9 : Memref sig .tc .vmem S384x256 .f32) (arg10 : Memref sig .tc .vmem S384x256 .f32) (arg11 : Memref sig .tc .vmem S2x384x384 .f32) (arg12 : Memref sig .tc .vmem S2x384x384 .f32) (arg13 : Memref sig .tc .vmem S2x384x384 .bf16) (arg14 : Memref sig .tc .vmem S2x384x384 .bf16) (f2 : Ct (F := F) c arg2) (f3 : Ct (F := F) c arg3) (f4 : Ct (F := F) c arg4) (f5 : Ct (F := F) c arg5) (f6 : Ct (F := F) c arg6) (f7 : Ct (F := F) c arg7) (f8 : Ct (F := F) c arg8) (f9 : Ct (F := F) c arg9) (f10 : Ct (F := F) c arg10) : sProp 𝕄 :=
  iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ anyPt (F := F) c arg11 ∗ anyPt (F := F) c arg12 ∗ anyPt (F := F) c arg13 ∗ anyPt (F := F) c arg14)

end Cert.KernelIdeal.Hand

end
-- ==== Proof.KernelIdeal.Trip3.lean ====
/-
  Hand-written, untrusted. One trip of the loop over the query blocks below the diagonal (a later key block).
-/
module

public import proofs.«01_k».proof.Proof.KernelIdeal.Held

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (arg2 : Memref sig .tc .vmem S4224x256 .bf16) (harg2 : arg2.IsWhole) (arg3 : Memref sig .tc .vmem S384x256 .bf16) (harg3 : arg3.IsWhole) (arg4 : Memref sig .tc .vmem S384x256 .bf16) (harg4 : arg4.IsWhole) (arg5 : Memref sig .tc .vmem S4224x256 .bf16) (harg5 : arg5.IsWhole) (arg6 : Memref sig .tc .vmem S2x4224x1 .f32) (harg6 : arg6.IsWhole) (arg7 : Memref sig .tc .vmem S2x4224x1 .f32) (harg7 : arg7.IsWhole) (arg8 : Memref sig .tc .vmem S4224x256 .f32) (harg8 : arg8.IsWhole) (arg9 : Memref sig .tc .vmem S384x256 .f32) (harg9 : arg9.IsWhole) (arg10 : Memref sig .tc .vmem S384x256 .f32) (harg10 : arg10.IsWhole) (arg11 : Memref sig .tc .vmem S2x384x384 .f32) (harg11 : arg11.IsWhole) (arg12 : Memref sig .tc .vmem S2x384x384 .f32) (harg12 : arg12.IsWhole) (arg13 : Memref sig .tc .vmem S2x384x384 .bf16) (harg13 : arg13.IsWhole) (arg14 : Memref sig .tc .vmem S2x384x384 .bf16) (harg14 : arg14.IsWhole)

set_option backward.proofsInPublic true in
/-- One trip at a symbolic query block: what it stores in the three result windows, found by the run. -/
@[irreducible] def trip3 (k0_h3 : k0_cond3 i = 1#1) (v374 : BitVec 32) (k : Fin (k0_t3_loop i).trips) (f2 : Ct (F := F) c arg2) (f3 : Ct (F := F) c arg3) (f4 : Ct (F := F) c arg4) (f5 : Ct (F := F) c arg5) (f6 : Ct (F := F) c arg6) (f7 : Ct (F := F) c arg7) (f8 : Ct (F := F) c arg8) (f9 : Ct (F := F) c arg9) (f10 : Ct (F := F) c arg10) :
    { L : List (View.Piece (Elt F) S4224x256 .f32) × List (View.Piece (Elt F) S384x256 .f32) × List (View.Piece (Elt F) S384x256 .f32) //
      Held (F := F) c arg2 arg3 arg4 arg5 arg6 arg7 arg8 arg9 arg10 arg11 arg12 arg13 arg14 f2 f3 f4 f5 f6 f7 f8 f9 f10 ⊢ wp frame (wpE (defs₀ (F := F)) 𝒱₀ (c : Thread nD τ) none) Set.univ
        (k0_t3_body (F := F) i arg2 harg2 arg3 harg3 arg4 harg4 arg5 harg5 arg6 harg6 arg7 harg7 arg8 harg8 arg9 harg9 arg10 harg10 arg11 harg11 arg12 harg12 arg13 harg13 arg14 harg14 k0_h3 v374 k ())
        (fun _ => Held (F := F) c arg2 arg3 arg4 arg5 arg6 arg7 arg8 arg9 arg10 arg11 arg12 arg13 arg14 f2 f3 f4 f5 f6 f7 (arg8.view.writes (Elt F) f8 L.1) (arg9.view.writes (Elt F) f9 L.2.1) (arg10.view.writes (Elt F) f10 L.2.2)) } := by
  refine ⟨⟨?_, ?_, ?_⟩, ?run⟩
  case run =>
    iintro ⟨H2, H3, H4, H5, H6, H7, H8, H9, H10, ⟨%f11, H11⟩, ⟨%f12, H12⟩, ⟨%f13, H13⟩, ⟨%f14, H14⟩⟩
    sl_unfold [k0_t3_body]
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    iexists _; iexact H14

end Cert.KernelIdeal.Hand

end
-- ==== Proof.KernelIdeal.Trip1.lean ====
/-
  Hand-written, untrusted. One trip of the loop over the query blocks below the diagonal (first key block).
-/
module

public import proofs.«01_k».proof.Proof.KernelIdeal.Held

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (arg2 : Memref sig .tc .vmem S4224x256 .bf16) (harg2 : arg2.IsWhole) (arg3 : Memref sig .tc .vmem S384x256 .bf16) (harg3 : arg3.IsWhole) (arg4 : Memref sig .tc .vmem S384x256 .bf16) (harg4 : arg4.IsWhole) (arg5 : Memref sig .tc .vmem S4224x256 .bf16) (harg5 : arg5.IsWhole) (arg6 : Memref sig .tc .vmem S2x4224x1 .f32) (harg6 : arg6.IsWhole) (arg7 : Memref sig .tc .vmem S2x4224x1 .f32) (harg7 : arg7.IsWhole) (arg8 : Memref sig .tc .vmem S4224x256 .f32) (harg8 : arg8.IsWhole) (arg9 : Memref sig .tc .vmem S384x256 .f32) (harg9 : arg9.IsWhole) (arg10 : Memref sig .tc .vmem S384x256 .f32) (harg10 : arg10.IsWhole) (arg11 : Memref sig .tc .vmem S2x384x384 .f32) (harg11 : arg11.IsWhole) (arg12 : Memref sig .tc .vmem S2x384x384 .f32) (harg12 : arg12.IsWhole) (arg13 : Memref sig .tc .vmem S2x384x384 .bf16) (harg13 : arg13.IsWhole) (arg14 : Memref sig .tc .vmem S2x384x384 .bf16) (harg14 : arg14.IsWhole)

set_option backward.proofsInPublic true in
/-- One trip at a symbolic query block: what it stores in the three result windows, found by the run. -/
@[irreducible] def trip1 (arg1 : BitVec 32) (v8 : BitVec 32) (v188 : FVec F S384x128 .bf16) (v191 : FVec F S384x128 .bf16) (v193 : FVec F S384x128 .bf16) (k0_h2 : k0_cond2 i = 1#1) (v374 : BitVec 32) (k : Fin (k0_t1_loop i).trips) (f2 : Ct (F := F) c arg2) (f3 : Ct (F := F) c arg3) (f4 : Ct (F := F) c arg4) (f5 : Ct (F := F) c arg5) (f6 : Ct (F := F) c arg6) (f7 : Ct (F := F) c arg7) (f8 : Ct (F := F) c arg8) (f9 : Ct (F := F) c arg9) (f10 : Ct (F := F) c arg10) :
    { L : List (View.Piece (Elt F) S4224x256 .f32) × List (View.Piece (Elt F) S384x256 .f32) × List (View.Piece (Elt F) S384x256 .f32) //
      Held (F := F) c arg2 arg3 arg4 arg5 arg6 arg7 arg8 arg9 arg10 arg11 arg12 arg13 arg14 f2 f3 f4 f5 f6 f7 f8 f9 f10 ⊢ wp frame (wpE (defs₀ (F := F)) 𝒱₀ (c : Thread nD τ) none) Set.univ
        (k0_t1_body (F := F) i arg2 harg2 arg3 harg3 arg4 harg4 arg5 harg5 arg6 harg6 arg7 harg7 arg8 harg8 arg9 harg9 arg10 harg10 arg11 harg11 arg12 harg12 arg13 harg13 arg14 harg14 arg1 v8 v188 v191 v193 k0_h2 v374 k ())
        (fun _ => Held (F := F) c arg2 arg3 arg4 arg5 arg6 arg7 arg8 arg9 arg10 arg11 arg12 arg13 arg14 f2 f3 f4 f5 f6 f7 (arg8.view.writes (Elt F) f8 L.1) (arg9.view.writes (Elt F) f9 L.2.1) (arg10.view.writes (Elt F) f10 L.2.2)) } := by
  refine ⟨⟨?_, ?_, ?_⟩, ?run⟩
  case run =>
    iintro ⟨H2, H3, H4, H5, H6, H7, H8, H9, H10, ⟨%f11, H11⟩, ⟨%f12, H12⟩, ⟨%f13, H13⟩, ⟨%f14, H14⟩⟩
    sl_unfold [k0_t1_body]
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    iexists _; iexact H14

end Cert.KernelIdeal.Hand

end
-- ==== Proof.KernelIdeal.Loops.lean ====
/-
  Hand-written, untrusted. The invariants of the two loops over the query blocks below the diagonal.
-/
module

public import proofs.«01_k».proof.Proof.KernelIdeal.Trip3
public import proofs.«01_k».proof.Proof.KernelIdeal.Trip1

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (arg2 : Memref sig .tc .vmem S4224x256 .bf16) (harg2 : arg2.IsWhole) (arg3 : Memref sig .tc .vmem S384x256 .bf16) (harg3 : arg3.IsWhole) (arg4 : Memref sig .tc .vmem S384x256 .bf16) (harg4 : arg4.IsWhole) (arg5 : Memref sig .tc .vmem S4224x256 .bf16) (harg5 : arg5.IsWhole) (arg6 : Memref sig .tc .vmem S2x4224x1 .f32) (harg6 : arg6.IsWhole) (arg7 : Memref sig .tc .vmem S2x4224x1 .f32) (harg7 : arg7.IsWhole) (arg8 : Memref sig .tc .vmem S4224x256 .f32) (harg8 : arg8.IsWhole) (arg9 : Memref sig .tc .vmem S384x256 .f32) (harg9 : arg9.IsWhole) (arg10 : Memref sig .tc .vmem S384x256 .f32) (harg10 : arg10.IsWhole) (arg11 : Memref sig .tc .vmem S2x384x384 .f32) (harg11 : arg11.IsWhole) (arg12 : Memref sig .tc .vmem S2x384x384 .f32) (harg12 : arg12.IsWhole) (arg13 : Memref sig .tc .vmem S2x384x384 .bf16) (harg13 : arg13.IsWhole) (arg14 : Memref sig .tc .vmem S2x384x384 .bf16) (harg14 : arg14.IsWhole)

/-- The state after the trips before `k` of a loop of `n` trips, each trip a function of the state. -/
def upTo {α : Type*} {n : ℕ} (g : Fin n → α → α) (s : α) : ℕ → α
  | 0 => s
  | k + 1 => if h : k < n then g ⟨k, h⟩ (upTo g s k) else upTo g s k

/-- One more trip. -/
theorem upTo_succ {α : Type*} {n : ℕ} (g : Fin n → α → α) (s : α) (k : Fin n) : upTo g s (k.val + 1) = g k (upTo g s k.val) := by
  rw [upTo, dif_pos k.isLt]

/-- The pieces of the three result windows after one more trip. -/
def stp3 (k0_h3 : k0_cond3 i = 1#1) (v374 : BitVec 32) (f2 : Ct (F := F) c arg2) (f3 : Ct (F := F) c arg3) (f4 : Ct (F := F) c arg4) (f5 : Ct (F := F) c arg5) (f6 : Ct (F := F) c arg6) (f7 : Ct (F := F) c arg7) (f8 : Ct (F := F) c arg8) (f9 : Ct (F := F) c arg9) (f10 : Ct (F := F) c arg10) (k : Fin (k0_t3_loop i).trips)
    (s : List (View.Piece (Elt F) S4224x256 .f32) × List (View.Piece (Elt F) S384x256 .f32) × List (View.Piece (Elt F) S384x256 .f32)) :
    List (View.Piece (Elt F) S4224x256 .f32) × List (View.Piece (Elt F) S384x256 .f32) × List (View.Piece (Elt F) S384x256 .f32) :=
  ((trip3 c i arg2 harg2 arg3 harg3 arg4 harg4 arg5 harg5 arg6 harg6 arg7 harg7 arg8 harg8 arg9 harg9 arg10 harg10 arg11 harg11 arg12 harg12 arg13 harg13 arg14 harg14 k0_h3 v374 k f2 f3 f4 f5 f6 f7 (arg8.view.writes (Elt F) f8 s.1) (arg9.view.writes (Elt F) f9 s.2.1) (arg10.view.writes (Elt F) f10 s.2.2)).1.1 ++ s.1,
    (trip3 c i arg2 harg2 arg3 harg3 arg4 harg4 arg5 harg5 arg6 harg6 arg7 harg7 arg8 harg8 arg9 harg9 arg10 harg10 arg11 harg11 arg12 harg12 arg13 harg13 arg14 harg14 k0_h3 v374 k f2 f3 f4 f5 f6 f7 (arg8.view.writes (Elt F) f8 s.1) (arg9.view.writes (Elt F) f9 s.2.1) (arg10.view.writes (Elt F) f10 s.2.2)).1.2.1 ++ s.2.1,
    (trip3 c i arg2 harg2 arg3 harg3 arg4 harg4 arg5 harg5 arg6 harg6 arg7 harg7 arg8 harg8 arg9 harg9 arg10 harg10 arg11 harg11 arg12 harg12 arg13 harg13 arg14 harg14 k0_h3 v374 k f2 f3 f4 f5 f6 f7 (arg8.view.writes (Elt F) f8 s.1) (arg9.view.writes (Elt F) f9 s.2.1) (arg10.view.writes (Elt F) f10 s.2.2)).1.2.2 ++ s.2.2)

set_option warn.classDefReducibility false in
/-- The loop's invariant: the operands as they were, the results after the trips before `k`. -/
@[sl_loop] def loopInv3 (k0_h3 : k0_cond3 i = 1#1) (v374 : BitVec 32) (f2 : Ct (F := F) c arg2) (f3 : Ct (F := F) c arg3) (f4 : Ct (F := F) c arg4) (f5 : Ct (F := F) c arg5) (f6 : Ct (F := F) c arg6) (f7 : Ct (F := F) c arg7) (f8 : Ct (F := F) c arg8) (f9 : Ct (F := F) c arg9) (f10 : Ct (F := F) c arg10) :
    LoopInvTy_k0_t3 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 k0_h3 v374 where
  inv k _ := iprop(∃ (s8 : Ct (F := F) c arg8) (s9 : Ct (F := F) c arg9) (s10 : Ct (F := F) c arg10), Held (F := F) c arg2 arg3 arg4 arg5 arg6 arg7 arg8 arg9 arg10 arg11 arg12 arg13 arg14 f2 f3 f4 f5 f6 f7 s8 s9 s10 ∗
    ⌜s8 = arg8.view.writes (Elt F) f8 (upTo (stp3 c i arg2 harg2 arg3 harg3 arg4 harg4 arg5 harg5 arg6 harg6 arg7 harg7 arg8 harg8 arg9 harg9 arg10 harg10 arg11 harg11 arg12 harg12 arg13 harg13 arg14 harg14 k0_h3 v374 f2 f3 f4 f5 f6 f7 f8 f9 f10) ([], [], []) k).1⌝ ∗
    ⌜s9 = arg9.view.writes (Elt F) f9 (upTo (stp3 c i arg2 harg2 arg3 harg3 arg4 harg4 arg5 harg5 arg6 harg6 arg7 harg7 arg8 harg8 arg9 harg9 arg10 harg10 arg11 harg11 arg12 harg12 arg13 harg13 arg14 harg14 k0_h3 v374 f2 f3 f4 f5 f6 f7 f8 f9 f10) ([], [], []) k).2.1⌝ ∗
    ⌜s10 = arg10.view.writes (Elt F) f10 (upTo (stp3 c i arg2 harg2 arg3 harg3 arg4 harg4 arg5 harg5 arg6 harg6 arg7 harg7 arg8 harg8 arg9 harg9 arg10 harg10 arg11 harg11 arg12 harg12 arg13 harg13 arg14 harg14 k0_h3 v374 f2 f3 f4 f5 f6 f7 f8 f9 f10) ([], [], []) k).2.2⌝)
  step k _ := by
    iintro ⟨%s8, %s9, %s10, H, %e8, %e9, %e10⟩
    subst e8; subst e9; subst e10
    rw [upTo_succ]
    iapply (wp_wand_r Idealize.ShloMosaic.frame (wpE (defs₀ (F := F)) 𝒱₀ (c : Thread nD τ) none) Set.univ)
    isplitl [H]
    · iapply (trip3 c i arg2 harg2 arg3 harg3 arg4 harg4 arg5 harg5 arg6 harg6 arg7 harg7 arg8 harg8 arg9 harg9 arg10 harg10 arg11 harg11 arg12 harg12 arg13 harg13 arg14 harg14 k0_h3 v374 k f2 f3 f4 f5 f6 f7 _ _ _).2
      iexact H
    · iintro %_ H
      iexists _; iexists _; iexists _
      isplitl [H]; · iexact H
      isplitr; · ipureintro; exact (View.writes_append ..).symm
      isplitr; · ipureintro; exact (View.writes_append ..).symm
      ipureintro; exact (View.writes_append ..).symm

/-- The pieces of the three result windows after one more trip. -/
def stp1 (arg1 : BitVec 32) (v8 : BitVec 32) (v188 : FVec F S384x128 .bf16) (v191 : FVec F S384x128 .bf16) (v193 : FVec F S384x128 .bf16) (k0_h2 : k0_cond2 i = 1#1) (v374 : BitVec 32) (f2 : Ct (F := F) c arg2) (f3 : Ct (F := F) c arg3) (f4 : Ct (F := F) c arg4) (f5 : Ct (F := F) c arg5) (f6 : Ct (F := F) c arg6) (f7 : Ct (F := F) c arg7) (f8 : Ct (F := F) c arg8) (f9 : Ct (F := F) c arg9) (f10 : Ct (F := F) c arg10) (k : Fin (k0_t1_loop i).trips)
    (s : List (View.Piece (Elt F) S4224x256 .f32) × List (View.Piece (Elt F) S384x256 .f32) × List (View.Piece (Elt F) S384x256 .f32)) :
    List (View.Piece (Elt F) S4224x256 .f32) × List (View.Piece (Elt F) S384x256 .f32) × List (View.Piece (Elt F) S384x256 .f32) :=
  ((trip1 c i arg2 harg2 arg3 harg3 arg4 harg4 arg5 harg5 arg6 harg6 arg7 harg7 arg8 harg8 arg9 harg9 arg10 harg10 arg11 harg11 arg12 harg12 arg13 harg13 arg14 harg14 arg1 v8 v188 v191 v193 k0_h2 v374 k f2 f3 f4 f5 f6 f7 (arg8.view.writes (Elt F) f8 s.1) (arg9.view.writes (Elt F) f9 s.2.1) (arg10.view.writes (Elt F) f10 s.2.2)).1.1 ++ s.1,
    (trip1 c i arg2 harg2 arg3 harg3 arg4 harg4 arg5 harg5 arg6 harg6 arg7 harg7 arg8 harg8 arg9 harg9 arg10 harg10 arg11 harg11 arg12 harg12 arg13 harg13 arg14 harg14 arg1 v8 v188 v191 v193 k0_h2 v374 k f2 f3 f4 f5 f6 f7 (arg8.view.writes (Elt F) f8 s.1) (arg9.view.writes (Elt F) f9 s.2.1) (arg10.view.writes (Elt F) f10 s.2.2)).1.2.1 ++ s.2.1,
    (trip1 c i arg2 harg2 arg3 harg3 arg4 harg4 arg5 harg5 arg6 harg6 arg7 harg7 arg8 harg8 arg9 harg9 arg10 harg10 arg11 harg11 arg12 harg12 arg13 harg13 arg14 harg14 arg1 v8 v188 v191 v193 k0_h2 v374 k f2 f3 f4 f5 f6 f7 (arg8.view.writes (Elt F) f8 s.1) (arg9.view.writes (Elt F) f9 s.2.1) (arg10.view.writes (Elt F) f10 s.2.2)).1.2.2 ++ s.2.2)

set_option warn.classDefReducibility false in
/-- The loop's invariant: the operands as they were, the results after the trips before `k`. -/
@[sl_loop] def loopInv1 (arg1 : BitVec 32) (v8 : BitVec 32) (v188 : FVec F S384x128 .bf16) (v191 : FVec F S384x128 .bf16) (v193 : FVec F S384x128 .bf16) (k0_h2 : k0_cond2 i = 1#1) (v374 : BitVec 32) (f2 : Ct (F := F) c arg2) (f3 : Ct (F := F) c arg3) (f4 : Ct (F := F) c arg4) (f5 : Ct (F := F) c arg5) (f6 : Ct (F := F) c arg6) (f7 : Ct (F := F) c arg7) (f8 : Ct (F := F) c arg8) (f9 : Ct (F := F) c arg9) (f10 : Ct (F := F) c arg10) :
    LoopInvTy_k0_t1 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg1 v8 v188 v191 v193 k0_h2 v374 where
  inv k _ := iprop(∃ (s8 : Ct (F := F) c arg8) (s9 : Ct (F := F) c arg9) (s10 : Ct (F := F) c arg10), Held (F := F) c arg2 arg3 arg4 arg5 arg6 arg7 arg8 arg9 arg10 arg11 arg12 arg13 arg14 f2 f3 f4 f5 f6 f7 s8 s9 s10 ∗
    ⌜s8 = arg8.view.writes (Elt F) f8 (upTo (stp1 c i arg2 harg2 arg3 harg3 arg4 harg4 arg5 harg5 arg6 harg6 arg7 harg7 arg8 harg8 arg9 harg9 arg10 harg10 arg11 harg11 arg12 harg12 arg13 harg13 arg14 harg14 arg1 v8 v188 v191 v193 k0_h2 v374 f2 f3 f4 f5 f6 f7 f8 f9 f10) ([], [], []) k).1⌝ ∗
    ⌜s9 = arg9.view.writes (Elt F) f9 (upTo (stp1 c i arg2 harg2 arg3 harg3 arg4 harg4 arg5 harg5 arg6 harg6 arg7 harg7 arg8 harg8 arg9 harg9 arg10 harg10 arg11 harg11 arg12 harg12 arg13 harg13 arg14 harg14 arg1 v8 v188 v191 v193 k0_h2 v374 f2 f3 f4 f5 f6 f7 f8 f9 f10) ([], [], []) k).2.1⌝ ∗
    ⌜s10 = arg10.view.writes (Elt F) f10 (upTo (stp1 c i arg2 harg2 arg3 harg3 arg4 harg4 arg5 harg5 arg6 harg6 arg7 harg7 arg8 harg8 arg9 harg9 arg10 harg10 arg11 harg11 arg12 harg12 arg13 harg13 arg14 harg14 arg1 v8 v188 v191 v193 k0_h2 v374 f2 f3 f4 f5 f6 f7 f8 f9 f10) ([], [], []) k).2.2⌝)
  step k _ := by
    iintro ⟨%s8, %s9, %s10, H, %e8, %e9, %e10⟩
    subst e8; subst e9; subst e10
    rw [upTo_succ]
    iapply (wp_wand_r Idealize.ShloMosaic.frame (wpE (defs₀ (F := F)) 𝒱₀ (c : Thread nD τ) none) Set.univ)
    isplitl [H]
    · iapply (trip1 c i arg2 harg2 arg3 harg3 arg4 harg4 arg5 harg5 arg6 harg6 arg7 harg7 arg8 harg8 arg9 harg9 arg10 harg10 arg11 harg11 arg12 harg12 arg13 harg13 arg14 harg14 arg1 v8 v188 v191 v193 k0_h2 v374 k f2 f3 f4 f5 f6 f7 _ _ _).2
      iexact H
    · iintro %_ H
      iexists _; iexists _; iexists _
      isplitl [H]; · iexact H
      isplitr; · ipureintro; exact (View.writes_append ..).symm
      isplitr; · ipureintro; exact (View.writes_append ..).symm
      ipureintro; exact (View.writes_append ..).symm

end Cert.KernelIdeal.Hand

end
-- ==== Proof.KernelIdeal.BodyA.lean ====
/-
  Hand-written, untrusted. The body at the first key block: what it leaves in the three result windows, found by the run.
-/
module

public import proofs.«01_k».proof.Proof.KernelIdeal.Loops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (arg2 : Memref sig .tc .vmem S4224x256 .bf16) (harg2 : arg2.IsWhole) (arg3 : Memref sig .tc .vmem S384x256 .bf16) (harg3 : arg3.IsWhole) (arg4 : Memref sig .tc .vmem S384x256 .bf16) (harg4 : arg4.IsWhole) (arg5 : Memref sig .tc .vmem S4224x256 .bf16) (harg5 : arg5.IsWhole) (arg6 : Memref sig .tc .vmem S2x4224x1 .f32) (harg6 : arg6.IsWhole) (arg7 : Memref sig .tc .vmem S2x4224x1 .f32) (harg7 : arg7.IsWhole) (arg8 : Memref sig .tc .vmem S4224x256 .f32) (harg8 : arg8.IsWhole) (arg9 : Memref sig .tc .vmem S384x256 .f32) (harg9 : arg9.IsWhole) (arg10 : Memref sig .tc .vmem S384x256 .f32) (harg10 : arg10.IsWhole) (arg11 : Memref sig .tc .vmem S2x384x384 .f32) (harg11 : arg11.IsWhole) (arg12 : Memref sig .tc .vmem S2x384x384 .f32) (harg12 : arg12.IsWhole) (arg13 : Memref sig .tc .vmem S2x384x384 .bf16) (harg13 : arg13.IsWhole) (arg14 : Memref sig .tc .vmem S2x384x384 .bf16) (harg14 : arg14.IsWhole)

set_option backward.proofsInPublic true in
/-- The body at the first key block: what it leaves in the three result windows, found by the run. -/
@[irreducible] def bodyA (h2 : k0_cond2 i = 1#1) (h3 : ¬ k0_cond3 i = 1#1) (f2 : Ct (F := F) c arg2) (f3 : Ct (F := F) c arg3) (f4 : Ct (F := F) c arg4) (f5 : Ct (F := F) c arg5) (f6 : Ct (F := F) c arg6) (f7 : Ct (F := F) c arg7) :
    { R : Ct (F := F) c arg8 × Ct (F := F) c arg9 × Ct (F := F) c arg10 //
      ∀ (f8 : Ct (F := F) c arg8) (f9 : Ct (F := F) c arg9) (f10 : Ct (F := F) c arg10), Held (F := F) c arg2 arg3 arg4 arg5 arg6 arg7 arg8 arg9 arg10 arg11 arg12 arg13 arg14 f2 f3 f4 f5 f6 f7 f8 f9 f10 ⊢ wp frame (wpE (defs₀ (F := F)) 𝒱₀ (c : Thread nD τ) none) Set.univ
        (cc0_mla_attn_b3 (F := F) i arg2 harg2 arg3 harg3 arg4 harg4 arg5 harg5 arg6 harg6 arg7 harg7 arg8 harg8 arg9 harg9 arg10 harg10 arg11 harg11 arg12 harg12 arg13 harg13 arg14 harg14)
        (fun _ => Held (F := F) c arg2 arg3 arg4 arg5 arg6 arg7 arg8 arg9 arg10 arg11 arg12 arg13 arg14 f2 f3 f4 f5 f6 f7 R.1 R.2.1 R.2.2) } := by
  refine ⟨⟨?_, ?_, ?_⟩, fun f8 f9 f10 => ?run⟩
  case run =>
    iintro ⟨H2, H3, H4, H5, H6, H7, H8, H9, H10, ⟨%f11, H11⟩, ⟨%f12, H12⟩, ⟨%f13, H13⟩, ⟨%f14, H14⟩⟩
    sl_unfold [cc0_mla_attn_b3]
    sl_exec

    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    iexists _; iexact H14

end Cert.KernelIdeal.Hand

end
-- ==== Proof.KernelIdeal.BodyB.lean ====
/-
  Hand-written, untrusted. The body at a later key block: what it leaves in the three result windows, found by the run.
-/
module

public import proofs.«01_k».proof.Proof.KernelIdeal.Loops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (arg2 : Memref sig .tc .vmem S4224x256 .bf16) (harg2 : arg2.IsWhole) (arg3 : Memref sig .tc .vmem S384x256 .bf16) (harg3 : arg3.IsWhole) (arg4 : Memref sig .tc .vmem S384x256 .bf16) (harg4 : arg4.IsWhole) (arg5 : Memref sig .tc .vmem S4224x256 .bf16) (harg5 : arg5.IsWhole) (arg6 : Memref sig .tc .vmem S2x4224x1 .f32) (harg6 : arg6.IsWhole) (arg7 : Memref sig .tc .vmem S2x4224x1 .f32) (harg7 : arg7.IsWhole) (arg8 : Memref sig .tc .vmem S4224x256 .f32) (harg8 : arg8.IsWhole) (arg9 : Memref sig .tc .vmem S384x256 .f32) (harg9 : arg9.IsWhole) (arg10 : Memref sig .tc .vmem S384x256 .f32) (harg10 : arg10.IsWhole) (arg11 : Memref sig .tc .vmem S2x384x384 .f32) (harg11 : arg11.IsWhole) (arg12 : Memref sig .tc .vmem S2x384x384 .f32) (harg12 : arg12.IsWhole) (arg13 : Memref sig .tc .vmem S2x384x384 .bf16) (harg13 : arg13.IsWhole) (arg14 : Memref sig .tc .vmem S2x384x384 .bf16) (harg14 : arg14.IsWhole)

set_option backward.proofsInPublic true in
/-- The body at a later key block: what it leaves in the three result windows, found by the run. -/
@[irreducible] def bodyB (h1 : ¬ k0_cond2 i = 1#1) (h3 : k0_cond3 i = 1#1) (f2 : Ct (F := F) c arg2) (f3 : Ct (F := F) c arg3) (f4 : Ct (F := F) c arg4) (f5 : Ct (F := F) c arg5) (f6 : Ct (F := F) c arg6) (f7 : Ct (F := F) c arg7) (f8 : Ct (F := F) c arg8) :
    { R : Ct (F := F) c arg8 × Ct (F := F) c arg9 × Ct (F := F) c arg10 //
      ∀ (f9 : Ct (F := F) c arg9) (f10 : Ct (F := F) c arg10), Held (F := F) c arg2 arg3 arg4 arg5 arg6 arg7 arg8 arg9 arg10 arg11 arg12 arg13 arg14 f2 f3 f4 f5 f6 f7 f8 f9 f10 ⊢ wp frame (wpE (defs₀ (F := F)) 𝒱₀ (c : Thread nD τ) none) Set.univ
        (cc0_mla_attn_b3 (F := F) i arg2 harg2 arg3 harg3 arg4 harg4 arg5 harg5 arg6 harg6 arg7 harg7 arg8 harg8 arg9 harg9 arg10 harg10 arg11 harg11 arg12 harg12 arg13 harg13 arg14 harg14)
        (fun _ => Held (F := F) c arg2 arg3 arg4 arg5 arg6 arg7 arg8 arg9 arg10 arg11 arg12 arg13 arg14 f2 f3 f4 f5 f6 f7 R.1 R.2.1 R.2.2) } := by
  refine ⟨⟨?_, ?_, ?_⟩, fun f9 f10 => ?run⟩
  case run =>
    iintro ⟨H2, H3, H4, H5, H6, H7, H8, H9, H10, ⟨%f11, H11⟩, ⟨%f12, H12⟩, ⟨%f13, H13⟩, ⟨%f14, H14⟩⟩
    sl_unfold [cc0_mla_attn_b3]
    sl_exec

    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    iexists _; iexact H14

end Cert.KernelIdeal.Hand

end
-- ==== Proof.KernelIdeal.Body.lean ====
/-
  Hand-written, untrusted. One grid point between arrays: the operand windows' arrays to the result windows' arrays.
-/
module

public import proofs.«01_k».proof.Proof.KernelIdeal.BodyA
public import proofs.«01_k».proof.Proof.KernelIdeal.BodyB
public import Idealize.ShloMosaic.Lib.Pipeline.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (arg2 : Memref sig .tc .vmem S4224x256 .bf16) (harg2 : arg2.IsWhole) (arg3 : Memref sig .tc .vmem S384x256 .bf16) (harg3 : arg3.IsWhole) (arg4 : Memref sig .tc .vmem S384x256 .bf16) (harg4 : arg4.IsWhole) (arg5 : Memref sig .tc .vmem S4224x256 .bf16) (harg5 : arg5.IsWhole) (arg6 : Memref sig .tc .vmem S2x4224x1 .f32) (harg6 : arg6.IsWhole) (arg7 : Memref sig .tc .vmem S2x4224x1 .f32) (harg7 : arg7.IsWhole) (arg8 : Memref sig .tc .vmem S4224x256 .f32) (harg8 : arg8.IsWhole) (arg9 : Memref sig .tc .vmem S384x256 .f32) (harg9 : arg9.IsWhole) (arg10 : Memref sig .tc .vmem S384x256 .f32) (harg10 : arg10.IsWhole) (arg11 : Memref sig .tc .vmem S2x384x384 .f32) (harg11 : arg11.IsWhole) (arg12 : Memref sig .tc .vmem S2x384x384 .f32) (harg12 : arg12.IsWhole) (arg13 : Memref sig .tc .vmem S2x384x384 .bf16) (harg13 : arg13.IsWhole) (arg14 : Memref sig .tc .vmem S2x384x384 .bf16) (harg14 : arg14.IsWhole)

set_option maxHeartbeats 2000000 in
/-- A run between raw contents, its dq window at any contents before, is one between arrays. -/
theorem ofA (x2 : Vec F S4224x256 .bf16) (x3 : Vec F S384x256 .bf16) (x4 : Vec F S384x256 .bf16) (x5 : Vec F S4224x256 .bf16) (x6 : Vec F S2x4224x1 .f32) (x7 : Vec F S2x4224x1 .f32) (R : Ct (F := F) c arg8 × Ct (F := F) c arg9 × Ct (F := F) c arg10) (P : Prog (TpuEff nD τ sig (Elt F) Λ₀ .tc) PUnit)
    (hR : ∀ (f8 : Ct (F := F) c arg8) (f9 : Ct (F := F) c arg9) (f10 : Ct (F := F) c arg10), Held (F := F) c arg2 arg3 arg4 arg5 arg6 arg7 arg8 arg9 arg10 arg11 arg12 arg13 arg14 (harg2.unread x2) (harg3.unread x3) (harg4.unread x4) (harg5.unread x5) (harg6.unread x6) (harg7.unread x7) f8 f9 f10 ⊢ wp frame (wpE (defs₀ (F := F)) 𝒱₀ (c : Thread nD τ) none) Set.univ P
      (fun _ => Held (F := F) c arg2 arg3 arg4 arg5 arg6 arg7 arg8 arg9 arg10 arg11 arg12 arg13 arg14 (harg2.unread x2) (harg3.unread x3) (harg4.unread x4) (harg5.unread x5) (harg6.unread x6) (harg7.unread x7) R.1 R.2.1 R.2.2)) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ anyPt (F := F) c arg11 ∗ anyPt (F := F) c arg12 ∗ anyPt (F := F) c arg13 ∗ anyPt (F := F) c arg14)
    ⊢ wp frame (wpE (defs₀ (F := F)) 𝒱₀ (c : Thread nD τ) none) Set.univ P
      (fun _ => iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (arg8.view.read (Elt F) R.1) ∗ owns (c : Thread nD τ) arg9 fullShare (arg9.view.read (Elt F) R.2.1)
        ∗ owns (c : Thread nD τ) arg10 fullShare (arg10.view.read (Elt F) R.2.2) ∗ anyPt (F := F) c arg11 ∗ anyPt (F := F) c arg12 ∗ anyPt (F := F) c arg13 ∗ anyPt (F := F) c arg14)) := by
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, ⟨%d10, %f10, -, H10⟩, H11, H12, H13, H14⟩
  obtain rfl := harg2.eq_unread e2
  obtain rfl := harg3.eq_unread e3
  obtain rfl := harg4.eq_unread e4
  obtain rfl := harg5.eq_unread e5
  obtain rfl := harg6.eq_unread e6
  obtain rfl := harg7.eq_unread e7
  iapply (wp_wand_r Idealize.ShloMosaic.frame (wpE (defs₀ (F := F)) 𝒱₀ (c : Thread nD τ) none) Set.univ)
  isplitl [H2 H3 H4 H5 H6 H7 H8 H9 H10 H11 H12 H13 H14]
  · iapply (hR f8 f9 f10)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · iintro %_ ⟨H2, H3, H4, H5, H6, H7, H8, H9, H10, H11, H12, H13, H14⟩
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; rfl
      iexact H8
    isplitl [H9]
    · iexists _; isplitr; · ipureintro; rfl
      iexact H9
    isplitl [H10]
    · iexists _; isplitr; · ipureintro; rfl
      iexact H10
    isplitl [H11]; · iexact H11
    isplitl [H12]; · iexact H12
    isplitl [H13]; · iexact H13
    iexact H14

set_option maxHeartbeats 2000000 in
/-- A run between raw contents, its dq window at named contents before, is one between arrays. -/
theorem ofB (x2 : Vec F S4224x256 .bf16) (x3 : Vec F S384x256 .bf16) (x4 : Vec F S384x256 .bf16) (x5 : Vec F S4224x256 .bf16) (x6 : Vec F S2x4224x1 .f32) (x7 : Vec F S2x4224x1 .f32) (x8 : Vec F S4224x256 .f32) (R : Ct (F := F) c arg8 × Ct (F := F) c arg9 × Ct (F := F) c arg10) (P : Prog (TpuEff nD τ sig (Elt F) Λ₀ .tc) PUnit)
    (hR : ∀ (f9 : Ct (F := F) c arg9) (f10 : Ct (F := F) c arg10), Held (F := F) c arg2 arg3 arg4 arg5 arg6 arg7 arg8 arg9 arg10 arg11 arg12 arg13 arg14 (harg2.unread x2) (harg3.unread x3) (harg4.unread x4) (harg5.unread x5) (harg6.unread x6) (harg7.unread x7) (harg8.unread x8) f9 f10 ⊢ wp frame (wpE (defs₀ (F := F)) 𝒱₀ (c : Thread nD τ) none) Set.univ P
      (fun _ => Held (F := F) c arg2 arg3 arg4 arg5 arg6 arg7 arg8 arg9 arg10 arg11 arg12 arg13 arg14 (harg2.unread x2) (harg3.unread x3) (harg4.unread x4) (harg5.unread x5) (harg6.unread x6) (harg7.unread x7) R.1 R.2.1 R.2.2)) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ anyPt (F := F) c arg11 ∗ anyPt (F := F) c arg12 ∗ anyPt (F := F) c arg13 ∗ anyPt (F := F) c arg14)
    ⊢ wp frame (wpE (defs₀ (F := F)) 𝒱₀ (c : Thread nD τ) none) Set.univ P
      (fun _ => iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (arg8.view.read (Elt F) R.1) ∗ owns (c : Thread nD τ) arg9 fullShare (arg9.view.read (Elt F) R.2.1)
        ∗ owns (c : Thread nD τ) arg10 fullShare (arg10.view.read (Elt F) R.2.2) ∗ anyPt (F := F) c arg11 ∗ anyPt (F := F) c arg12 ∗ anyPt (F := F) c arg13 ∗ anyPt (F := F) c arg14)) := by
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, ⟨%d10, %f10, -, H10⟩, H11, H12, H13, H14⟩
  obtain rfl := harg2.eq_unread e2
  obtain rfl := harg3.eq_unread e3
  obtain rfl := harg4.eq_unread e4
  obtain rfl := harg5.eq_unread e5
  obtain rfl := harg6.eq_unread e6
  obtain rfl := harg7.eq_unread e7
  obtain rfl := harg8.eq_unread e8
  iapply (wp_wand_r Idealize.ShloMosaic.frame (wpE (defs₀ (F := F)) 𝒱₀ (c : Thread nD τ) none) Set.univ)
  isplitl [H2 H3 H4 H5 H6 H7 H8 H9 H10 H11 H12 H13 H14]
  · iapply (hR f9 f10)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · iintro %_ ⟨H2, H3, H4, H5, H6, H7, H8, H9, H10, H11, H12, H13, H14⟩
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; rfl
      iexact H8
    isplitl [H9]
    · iexists _; isplitr; · ipureintro; rfl
      iexact H9
    isplitl [H10]
    · iexists _; isplitr; · ipureintro; rfl
      iexact H10
    isplitl [H11]; · iexact H11
    isplitl [H12]; · iexact H12
    isplitl [H13]; · iexact H13
    iexact H14

/-- The first key block: what it leaves in the three result windows, as arrays. -/
def resA (h2 : k0_cond2 i = 1#1) (h3 : ¬ k0_cond3 i = 1#1) (x2 : Vec F S4224x256 .bf16) (x3 : Vec F S384x256 .bf16) (x4 : Vec F S384x256 .bf16) (x5 : Vec F S4224x256 .bf16) (x6 : Vec F S2x4224x1 .f32) (x7 : Vec F S2x4224x1 .f32) : Vec F S4224x256 .f32 × Vec F S384x256 .f32 × Vec F S384x256 .f32 :=
  (arg8.view.read (Elt F) (bodyA c i arg2 harg2 arg3 harg3 arg4 harg4 arg5 harg5 arg6 harg6 arg7 harg7 arg8 harg8 arg9 harg9 arg10 harg10 arg11 harg11 arg12 harg12 arg13 harg13 arg14 harg14 h2 h3 (harg2.unread x2) (harg3.unread x3) (harg4.unread x4) (harg5.unread x5) (harg6.unread x6) (harg7.unread x7)).1.1,
    arg9.view.read (Elt F) (bodyA c i arg2 harg2 arg3 harg3 arg4 harg4 arg5 harg5 arg6 harg6 arg7 harg7 arg8 harg8 arg9 harg9 arg10 harg10 arg11 harg11 arg12 harg12 arg13 harg13 arg14 harg14 h2 h3 (harg2.unread x2) (harg3.unread x3) (harg4.unread x4) (harg5.unread x5) (harg6.unread x6) (harg7.unread x7)).1.2.1,
    arg10.view.read (Elt F) (bodyA c i arg2 harg2 arg3 harg3 arg4 harg4 arg5 harg5 arg6 harg6 arg7 harg7 arg8 harg8 arg9 harg9 arg10 harg10 arg11 harg11 arg12 harg12 arg13 harg13 arg14 harg14 h2 h3 (harg2.unread x2) (harg3.unread x3) (harg4.unread x4) (harg5.unread x5) (harg6.unread x6) (harg7.unread x7)).1.2.2)

/-- The first key block: the six operand windows stay, the result windows end at `resA`. -/
theorem runA (h2 : k0_cond2 i = 1#1) (h3 : ¬ k0_cond3 i = 1#1) (x2 : Vec F S4224x256 .bf16) (x3 : Vec F S384x256 .bf16) (x4 : Vec F S384x256 .bf16) (x5 : Vec F S4224x256 .bf16) (x6 : Vec F S2x4224x1 .f32) (x7 : Vec F S2x4224x1 .f32) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ anyPt (F := F) c arg11 ∗ anyPt (F := F) c arg12 ∗ anyPt (F := F) c arg13 ∗ anyPt (F := F) c arg14)
    ⊢ wp frame (wpE (defs₀ (F := F)) 𝒱₀ (c : Thread nD τ) none) Set.univ (cc0_mla_attn_b3 (F := F) i arg2 harg2 arg3 harg3 arg4 harg4 arg5 harg5 arg6 harg6 arg7 harg7 arg8 harg8 arg9 harg9 arg10 harg10 arg11 harg11 arg12 harg12 arg13 harg13 arg14 harg14)
      (fun _ => iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (resA c i arg2 harg2 arg3 harg3 arg4 harg4 arg5 harg5 arg6 harg6 arg7 harg7 arg8 harg8 arg9 harg9 arg10 harg10 arg11 harg11 arg12 harg12 arg13 harg13 arg14 harg14 h2 h3 x2 x3 x4 x5 x6 x7).1 ∗ owns (c : Thread nD τ) arg9 fullShare (resA c i arg2 harg2 arg3 harg3 arg4 harg4 arg5 harg5 arg6 harg6 arg7 harg7 arg8 harg8 arg9 harg9 arg10 harg10 arg11 harg11 arg12 harg12 arg13 harg13 arg14 harg14 h2 h3 x2 x3 x4 x5 x6 x7).2.1
        ∗ owns (c : Thread nD τ) arg10 fullShare (resA c i arg2 harg2 arg3 harg3 arg4 harg4 arg5 harg5 arg6 harg6 arg7 harg7 arg8 harg8 arg9 harg9 arg10 harg10 arg11 harg11 arg12 harg12 arg13 harg13 arg14 harg14 h2 h3 x2 x3 x4 x5 x6 x7).2.2 ∗ anyPt (F := F) c arg11 ∗ anyPt (F := F) c arg12 ∗ anyPt (F := F) c arg13 ∗ anyPt (F := F) c arg14)) :=
  ofA c arg2 harg2 arg3 harg3 arg4 harg4 arg5 harg5 arg6 harg6 arg7 harg7 arg8 arg9 arg10 arg11 arg12 arg13 arg14 x2 x3 x4 x5 x6 x7 (bodyA c i arg2 harg2 arg3 harg3 arg4 harg4 arg5 harg5 arg6 harg6 arg7 harg7 arg8 harg8 arg9 harg9 arg10 harg10 arg11 harg11 arg12 harg12 arg13 harg13 arg14 harg14 h2 h3 (harg2.unread x2) (harg3.unread x3) (harg4.unread x4) (harg5.unread x5) (harg6.unread x6) (harg7.unread x7)).1 _ (bodyA c i arg2 harg2 arg3 harg3 arg4 harg4 arg5 harg5 arg6 harg6 arg7 harg7 arg8 harg8 arg9 harg9 arg10 harg10 arg11 harg11 arg12 harg12 arg13 harg13 arg14 harg14 h2 h3 (harg2.unread x2) (harg3.unread x3) (harg4.unread x4) (harg5.unread x5) (harg6.unread x6) (harg7.unread x7)).2

/-- A later key block: what it leaves in the three result windows, as arrays. -/
def resB (h1 : ¬ k0_cond2 i = 1#1) (h3 : k0_cond3 i = 1#1) (x2 : Vec F S4224x256 .bf16) (x3 : Vec F S384x256 .bf16) (x4 : Vec F S384x256 .bf16) (x5 : Vec F S4224x256 .bf16) (x6 : Vec F S2x4224x1 .f32) (x7 : Vec F S2x4224x1 .f32) (x8 : Vec F S4224x256 .f32) : Vec F S4224x256 .f32 × Vec F S384x256 .f32 × Vec F S384x256 .f32 :=
  (arg8.view.read (Elt F) (bodyB c i arg2 harg2 arg3 harg3 arg4 harg4 arg5 harg5 arg6 harg6 arg7 harg7 arg8 harg8 arg9 harg9 arg10 harg10 arg11 harg11 arg12 harg12 arg13 harg13 arg14 harg14 h1 h3 (harg2.unread x2) (harg3.unread x3) (harg4.unread x4) (harg5.unread x5) (harg6.unread x6) (harg7.unread x7) (harg8.unread x8)).1.1,
    arg9.view.read (Elt F) (bodyB c i arg2 harg2 arg3 harg3 arg4 harg4 arg5 harg5 arg6 harg6 arg7 harg7 arg8 harg8 arg9 harg9 arg10 harg10 arg11 harg11 arg12 harg12 arg13 harg13 arg14 harg14 h1 h3 (harg2.unread x2) (harg3.unread x3) (harg4.unread x4) (harg5.unread x5) (harg6.unread x6) (harg7.unread x7) (harg8.unread x8)).1.2.1,
    arg10.view.read (Elt F) (bodyB c i arg2 harg2 arg3 harg3 arg4 harg4 arg5 harg5 arg6 harg6 arg7 harg7 arg8 harg8 arg9 harg9 arg10 harg10 arg11 harg11 arg12 harg12 arg13 harg13 arg14 harg14 h1 h3 (harg2.unread x2) (harg3.unread x3) (harg4.unread x4) (harg5.unread x5) (harg6.unread x6) (harg7.unread x7) (harg8.unread x8)).1.2.2)

/-- A later key block: the six operand windows stay, the result windows end at `resB`. -/
theorem runB (h1 : ¬ k0_cond2 i = 1#1) (h3 : k0_cond3 i = 1#1) (x2 : Vec F S4224x256 .bf16) (x3 : Vec F S384x256 .bf16) (x4 : Vec F S384x256 .bf16) (x5 : Vec F S4224x256 .bf16) (x6 : Vec F S2x4224x1 .f32) (x7 : Vec F S2x4224x1 .f32) (x8 : Vec F S4224x256 .f32) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ anyPt (F := F) c arg11 ∗ anyPt (F := F) c arg12 ∗ anyPt (F := F) c arg13 ∗ anyPt (F := F) c arg14)
    ⊢ wp frame (wpE (defs₀ (F := F)) 𝒱₀ (c : Thread nD τ) none) Set.univ (cc0_mla_attn_b3 (F := F) i arg2 harg2 arg3 harg3 arg4 harg4 arg5 harg5 arg6 harg6 arg7 harg7 arg8 harg8 arg9 harg9 arg10 harg10 arg11 harg11 arg12 harg12 arg13 harg13 arg14 harg14)
      (fun _ => iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (resB c i arg2 harg2 arg3 harg3 arg4 harg4 arg5 harg5 arg6 harg6 arg7 harg7 arg8 harg8 arg9 harg9 arg10 harg10 arg11 harg11 arg12 harg12 arg13 harg13 arg14 harg14 h1 h3 x2 x3 x4 x5 x6 x7 x8).1 ∗ owns (c : Thread nD τ) arg9 fullShare (resB c i arg2 harg2 arg3 harg3 arg4 harg4 arg5 harg5 arg6 harg6 arg7 harg7 arg8 harg8 arg9 harg9 arg10 harg10 arg11 harg11 arg12 harg12 arg13 harg13 arg14 harg14 h1 h3 x2 x3 x4 x5 x6 x7 x8).2.1
        ∗ owns (c : Thread nD τ) arg10 fullShare (resB c i arg2 harg2 arg3 harg3 arg4 harg4 arg5 harg5 arg6 harg6 arg7 harg7 arg8 harg8 arg9 harg9 arg10 harg10 arg11 harg11 arg12 harg12 arg13 harg13 arg14 harg14 h1 h3 x2 x3 x4 x5 x6 x7 x8).2.2 ∗ anyPt (F := F) c arg11 ∗ anyPt (F := F) c arg12 ∗ anyPt (F := F) c arg13 ∗ anyPt (F := F) c arg14)) :=
  ofB c arg2 harg2 arg3 harg3 arg4 harg4 arg5 harg5 arg6 harg6 arg7 harg7 arg8 harg8 arg9 arg10 arg11 arg12 arg13 arg14 x2 x3 x4 x5 x6 x7 x8 (bodyB c i arg2 harg2 arg3 harg3 arg4 harg4 arg5 harg5 arg6 harg6 arg7 harg7 arg8 harg8 arg9 harg9 arg10 harg10 arg11 harg11 arg12 harg12 arg13 harg13 arg14 harg14 h1 h3 (harg2.unread x2) (harg3.unread x3) (harg4.unread x4) (harg5.unread x5) (harg6.unread x6) (harg7.unread x7) (harg8.unread x8)).1 _ (bodyB c i arg2 harg2 arg3 harg3 arg4 harg4 arg5 harg5 arg6 harg6 arg7 harg7 arg8 harg8 arg9 harg9 arg10 harg10 arg11 harg11 arg12 harg12 arg13 harg13 arg14 harg14 h1 h3 (harg2.unread x2) (harg3.unread x3) (harg4.unread x4) (harg5.unread x5) (harg6.unread x6) (harg7.unread x7) (harg8.unread x8)).2

end Cert.KernelIdeal.Hand

end
-- ==== Proof.KernelIdeal.Launch.lean ====
/-
  Hand-written, untrusted. The launch of the attention's backward kernel: what each grid point leaves in the three result
  windows, the body obligation at a generic point, the run and the frame.
-/
module

public import proofs.«01_k».proof.Proof.KernelIdeal.Body
public import proofs.«01_k».proof.Proof.Gen.KernelIdeal.Frame
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.ShloMosaic.Rounds
open Idealize.ShloMosaic.Pipeline (Dat Cfg Window BodyObligation cellOf)
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Which points take which branch -/

/-- The first key block is the one at the points divisible by eleven. -/
theorem cond2_iff (t : Fin cfg0.N) : k0_cond2 (grid0.coords t) = 1#1 ↔ t.val % 11 = 0 :=
  (by decide +kernel : ∀ t : Fin grid0.N, k0_cond2 (grid0.coords t) = 1#1 ↔ t.val % 11 = 0) t

/-- A later key block is one at the other points. -/
theorem cond3_iff (t : Fin cfg0.N) : k0_cond3 (grid0.coords t) = 1#1 ↔ ¬ t.val % 11 = 0 :=
  (by decide +kernel : ∀ t : Fin grid0.N, k0_cond3 (grid0.coords t) = 1#1 ↔ ¬ t.val % 11 = 0) t

/-! ## What a point leaves -/

/-- The results at point `t`, the dq window's array before it `prev`. -/
def res (c : Dev nD) (t : Fin cfg0.N) (prev : Vec F S4224x256 .f32) : Vec F S4224x256 .f32 × Vec F S384x256 .f32 × Vec F S384x256 .f32 :=
  if h : t.val % 11 = 0 then
    resA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) ((cond2_iff t).mpr h) (fun e => (cond3_iff t).mp e h) (iblk m c 0 t) (iblk m c 1 t) (iblk m c 2 t) (iblk m c 3 t) (iblk m c 4 t) (iblk m c 5 t)
  else
    resB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (fun e => h ((cond2_iff t).mp e)) ((cond3_iff t).mpr h) (iblk m c 0 t) (iblk m c 1 t) (iblk m c 2 t) (iblk m c 3 t) (iblk m c 4 t) (iblk m c 5 t) prev

/-- The dq window's array after the first `n` points. -/
def acc (c : Dev nD) : ℕ → Vec F S4224x256 .f32
  | 0 => k0_pay176
  | n + 1 => if h : n < cfg0.N then (res m c ⟨n, h⟩ (acc c n)).1 else acc c n

/-- One more point. -/
theorem acc_succ (c : Dev nD) (t : Fin cfg0.N) : acc m c (t.val + 1) = (res m c t (acc m c t.val)).1 := by
  rw [acc, dif_pos t.isLt]

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => acc m c (t.val + 1)
    | ⟨7, _⟩ => (res m c t (acc m c t.val)).2.1
    | ⟨8, _⟩ => (res m c t (acc m c t.val)).2.2
  Φ _ := Pipeline.ΦA spec0 c
  q _ := fullShare
  owed _ := 0

/-- The arrays are those the region finds. -/
theorem A_eq (c : Dev nD) (w : Fin cfg0.W) : (dats m 0 c).A w = V m c (Pipeline.arrRef spec0 w) := by
  dsimp only [dats]

/-- What the body leaves in window 0. -/
theorem after0_0 (c : Dev nD) (t : Fin cfg0.N) : (dats m 0 c).after 0 t = iblk m c 0 t := by dsimp only [dats]
/-- What the body leaves in window 1. -/
theorem after0_1 (c : Dev nD) (t : Fin cfg0.N) : (dats m 0 c).after 1 t = iblk m c 1 t := by dsimp only [dats]
/-- What the body leaves in window 2. -/
theorem after0_2 (c : Dev nD) (t : Fin cfg0.N) : (dats m 0 c).after 2 t = iblk m c 2 t := by dsimp only [dats]
/-- What the body leaves in window 3. -/
theorem after0_3 (c : Dev nD) (t : Fin cfg0.N) : (dats m 0 c).after 3 t = iblk m c 3 t := by dsimp only [dats]
/-- What the body leaves in window 4. -/
theorem after0_4 (c : Dev nD) (t : Fin cfg0.N) : (dats m 0 c).after 4 t = iblk m c 4 t := by dsimp only [dats]
/-- What the body leaves in window 5. -/
theorem after0_5 (c : Dev nD) (t : Fin cfg0.N) : (dats m 0 c).after 5 t = iblk m c 5 t := by dsimp only [dats]
/-- What the body leaves in window 6. -/
theorem after0_6 (c : Dev nD) (t : Fin cfg0.N) : (dats m 0 c).after 6 t = acc m c (t.val + 1) := by dsimp only [dats]
/-- What the body leaves in window 7. -/
theorem after0_7 (c : Dev nD) (t : Fin cfg0.N) : (dats m 0 c).after 7 t = (res m c t (acc m c t.val)).2.1 := by dsimp only [dats]
/-- What the body leaves in window 8. -/
theorem after0_8 (c : Dev nD) (t : Fin cfg0.N) : (dats m 0 c).after 8 t = (res m c t (acc m c t.val)).2.2 := by dsimp only [dats]
/-- Operand window 0 holds its block at every point. -/
theorem before0_0 (c : Dev nD) (t : Fin cfg0.N) (d) : (dats m 0 c).before 0 t d = iblk m c 0 t :=
  before0_0_of m (dats m 0 c) (A_eq m c 0) (after0_0 m c) t d
/-- Operand window 1 holds its block at every point. -/
theorem before0_1 (c : Dev nD) (t : Fin cfg0.N) (d) : (dats m 0 c).before 1 t d = iblk m c 1 t :=
  before0_1_of m (dats m 0 c) (A_eq m c 1) (after0_1 m c) t d
/-- Operand window 2 holds its block at every point. -/
theorem before0_2 (c : Dev nD) (t : Fin cfg0.N) (d) : (dats m 0 c).before 2 t d = iblk m c 2 t :=
  before0_2_of m (dats m 0 c) (A_eq m c 2) (after0_2 m c) t d
/-- Operand window 3 holds its block at every point. -/
theorem before0_3 (c : Dev nD) (t : Fin cfg0.N) (d) : (dats m 0 c).before 3 t d = iblk m c 3 t :=
  before0_3_of m (dats m 0 c) (A_eq m c 3) (after0_3 m c) t d
/-- Operand window 4 holds its block at every point. -/
theorem before0_4 (c : Dev nD) (t : Fin cfg0.N) (d) : (dats m 0 c).before 4 t d = iblk m c 4 t :=
  before0_4_of m (dats m 0 c) (A_eq m c 4) (after0_4 m c) t d
/-- Operand window 5 holds its block at every point. -/
theorem before0_5 (c : Dev nD) (t : Fin cfg0.N) (d) : (dats m 0 c).before 5 t d = iblk m c 5 t :=
  before0_5_of m (dats m 0 c) (A_eq m c 5) (after0_5 m c) t d

/-- At a later key block the dq window holds what the point before left. -/
theorem before0_6 (c : Dev nD) (t : Fin cfg0.N) (h : ¬ t.val % 11 = 0) (d) : (dats m 0 c).before 6 t d = acc m c t.val := by
  have ht : t.val ≠ 0 := fun e => h (by rw [e])
  rw [Dat.before_out_kept (dats m 0 c) 6 rfl t ht (by
    rw [Bool.eq_false_iff]
    intro e
    have := (flush0_6 ⟨t.val - 1, Nat.lt_of_le_of_lt (Nat.sub_le _ _) t.isLt⟩).mp e
    dsimp only at this
    omega) (fun _ => rfl) (fun _ _ => rfl) d, after0_6]
  congr 1
  dsimp only
  omega

/-! ## The body obligation, at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)))

/-- And what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t))
/-- A whole buffer as the region holds it is the memref's. -/
theorem pt_whole (c : Dev nD) (b : Ref sig .tc) (f : Buf (Elt F) ((c : Thread nD τ).loc b)) :
    (((Memref.whole b).view.loc (c : Thread nD τ)) ↦[(Memref.whole b).view.set]{fullShare} f : sProp 𝕄) = (((c : Thread nD τ).loc b) ↦{fullShare} f) := by
  rw [(Memref.isWhole_whole b).set_eq_univ]
/-- Scratch buffer 0 as the region holds it is the memref's. -/
theorem scr_in0 (c : Dev nD) (f : Buf (Elt F) ((c : Thread nD τ).loc cc0_scratch0)) : (((c : Thread nD τ).loc cc0_scratch0) ↦{fullShare} f : sProp 𝕄) ⊢ anyPt (F := F) c (Memref.whole cc0_scratch0) := by
  rw [← pt_whole]
  iintro H
  iexists f
  iexact H
/-- And back. -/
theorem scr_out0 (c : Dev nD) : (anyPt (F := F) c (Memref.whole cc0_scratch0) : sProp 𝕄) ⊢ iprop(∃ f : Buf (Elt F) ((c : Thread nD τ).loc cc0_scratch0), ((c : Thread nD τ).loc cc0_scratch0) ↦{fullShare} f) := by
  simp only [← pt_whole]
  iintro ⟨%f, H⟩
  iexists f
  iexact H

/-- Scratch buffer 1 as the region holds it is the memref's. -/
theorem scr_in1 (c : Dev nD) (f : Buf (Elt F) ((c : Thread nD τ).loc cc0_scratch1)) : (((c : Thread nD τ).loc cc0_scratch1) ↦{fullShare} f : sProp 𝕄) ⊢ anyPt (F := F) c (Memref.whole cc0_scratch1) := by
  rw [← pt_whole]
  iintro H
  iexists f
  iexact H
/-- And back. -/
theorem scr_out1 (c : Dev nD) : (anyPt (F := F) c (Memref.whole cc0_scratch1) : sProp 𝕄) ⊢ iprop(∃ f : Buf (Elt F) ((c : Thread nD τ).loc cc0_scratch1), ((c : Thread nD τ).loc cc0_scratch1) ↦{fullShare} f) := by
  simp only [← pt_whole]
  iintro ⟨%f, H⟩
  iexists f
  iexact H

/-- Scratch buffer 2 as the region holds it is the memref's. -/
theorem scr_in2 (c : Dev nD) (f : Buf (Elt F) ((c : Thread nD τ).loc cc0_scratch2)) : (((c : Thread nD τ).loc cc0_scratch2) ↦{fullShare} f : sProp 𝕄) ⊢ anyPt (F := F) c (Memref.whole cc0_scratch2) := by
  rw [← pt_whole]
  iintro H
  iexists f
  iexact H
/-- And back. -/
theorem scr_out2 (c : Dev nD) : (anyPt (F := F) c (Memref.whole cc0_scratch2) : sProp 𝕄) ⊢ iprop(∃ f : Buf (Elt F) ((c : Thread nD τ).loc cc0_scratch2), ((c : Thread nD τ).loc cc0_scratch2) ↦{fullShare} f) := by
  simp only [← pt_whole]
  iintro ⟨%f, H⟩
  iexists f
  iexact H

/-- Scratch buffer 3 as the region holds it is the memref's. -/
theorem scr_in3 (c : Dev nD) (f : Buf (Elt F) ((c : Thread nD τ).loc cc0_scratch3)) : (((c : Thread nD τ).loc cc0_scratch3) ↦{fullShare} f : sProp 𝕄) ⊢ anyPt (F := F) c (Memref.whole cc0_scratch3) := by
  rw [← pt_whole]
  iintro H
  iexists f
  iexact H
/-- And back. -/
theorem scr_out3 (c : Dev nD) : (anyPt (F := F) c (Memref.whole cc0_scratch3) : sProp 𝕄) ⊢ iprop(∃ f : Buf (Elt F) ((c : Thread nD τ).loc cc0_scratch3), ((c : Thread nD τ).loc cc0_scratch3) ↦{fullShare} f) := by
  simp only [← pt_whole]
  iintro ⟨%f, H⟩
  iexists f
  iexact H

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, acc_succ]
  rw [show (dats m 0 c).Φ t.castSucc = Pipeline.ΦA spec0 c from rfl]
  unfold Pipeline.ΦA
  rw [scopedRest0_eq]
  iintro ⟨⟨⟨⟨%s0, S0⟩, ⟨%s1, S1⟩, ⟨%s2, S2⟩, ⟨%s3, S3⟩⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  by_cases h : t.val % 11 = 0
  · rw [res, dif_pos h]
    iapply (wp_wand_r Idealize.ShloMosaic.frame (wpE (defs₀ (F := F)) 𝒱₀ (c : Thread nD τ) none) Set.univ)
    isplitl [H0 H1 H2 H3 H4 H5 H6 H7 H8 S0 S1 S2 S3]
    · iapply (runA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) ((cond2_iff t).mpr h) (fun e => (cond3_iff t).mp e h) (iblk m c 0 t) (iblk m c 1 t) (iblk m c 2 t) (iblk m c 3 t) (iblk m c 4 t) (iblk m c 5 t))
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [S0]; · iapply (scr_in0 c s0); iexact S0
      isplitl [S1]; · iapply (scr_in1 c s1); iexact S1
      isplitl [S2]; · iapply (scr_in2 c s2); iexact S2
      iapply (scr_in3 c s3); iexact S3
    · iintro %_ ⟨H0, H1, H2, H3, H4, H5, H6, H7, H8, S0, S1, S2, S3⟩
      isplitl [S0 S1 S2 S3 HP]
      · isplitl [S0 S1 S2 S3]
        · isplitl [S0]; · iapply (scr_out0 c); iexact S0
          isplitl [S1]; · iapply (scr_out1 c); iexact S1
          isplitl [S2]; · iapply (scr_out2 c); iexact S2
          iapply (scr_out3 c); iexact S3
        iexact HP
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

  · rw [before0_6 m c t h, res, dif_neg h]
    iapply (wp_wand_r Idealize.ShloMosaic.frame (wpE (defs₀ (F := F)) 𝒱₀ (c : Thread nD τ) none) Set.univ)
    isplitl [H0 H1 H2 H3 H4 H5 H6 H7 H8 S0 S1 S2 S3]
    · iapply (runB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (fun e => h ((cond2_iff t).mp e)) ((cond3_iff t).mpr h) (iblk m c 0 t) (iblk m c 1 t) (iblk m c 2 t) (iblk m c 3 t) (iblk m c 4 t) (iblk m c 5 t) (acc m c t.val))
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [S0]; · iapply (scr_in0 c s0); iexact S0
      isplitl [S1]; · iapply (scr_in1 c s1); iexact S1
      isplitl [S2]; · iapply (scr_in2 c s2); iexact S2
      iapply (scr_in3 c s3); iexact S3
    · iintro %_ ⟨H0, H1, H2, H3, H4, H5, H6, H7, H8, S0, S1, S2, S3⟩
      isplitl [S0 S1 S2 S3 HP]
      · isplitl [S0 S1 S2 S3]
        · isplitl [S0]; · iapply (scr_out0 c); iexact S0
          isplitl [S1]; · iapply (scr_out1 c); iexact S1
          isplitl [S2]; · iapply (scr_out2 c); iexact S2
          iapply (scr_out3 c); iexact S3
        iexact HP
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: the arrays at what the proof data say, the rest as the region found it, every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Value.Tile.lean ====
/-
  Hand-written, untrusted. What each stored vector of the kernel holds over the extended reals, stated as a table of reals.
-/
module

public import proofs.«01_k».proof.Proof.KernelIdeal.Held
public import Idealize.ShloMosaic.Lib.Pointwise
public import Idealize.ShloMosaic.Lib.WordCmp
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.WordCmp

/-- A matrix of reals: the vector `x` holds `A` at each row and column. -/
def Is2 {n m : ℕ} (x : (⟨2, ![n, m]⟩ : Shape).Idx → EReal) (A : ℕ → ℕ → ℝ) : Prop :=
  ∀ (r : Fin n) (c : Fin m), x (ix2 r c) = ((A r c : ℝ) : EReal)

/-- The same of a vector with one leading index. -/
def Is3 {n m : ℕ} (x : (⟨3, ![1, n, m]⟩ : Shape).Idx → EReal) (A : ℕ → ℕ → ℝ) : Prop :=
  ∀ (r : Fin n) (c : Fin m), x (ix3 0 r c) = ((A r c : ℝ) : EReal)

/-- The three named constants. -/
def cLog : ℝ := (Real.log 2)⁻¹
def cScale : ℝ := 3424635 / 33554432
def cExp : ℝ := (3424635 / 33554432) * (Real.log 2)⁻¹

theorem named_log2e : Named.named (F := Ideal) κ "log2e" (φ := .f32) 0x3FB8AA3B#32 = ((cLog : ℝ) : EReal) :=
  IdealRules.named_const.ideal_named_scalar _ _ _ _ rfl
theorem named_exp2 : Named.named (F := Ideal) κ "exp2_scale" (φ := .f32) 0x3E16C740#32 = ((cExp : ℝ) : EReal) :=
  IdealRules.named_const.ideal_named_scalar _ _ _ _ rfl
theorem named_scale : Named.named (F := Ideal) κ "scale" (φ := .f32) 0x3DD105EC#32 = ((cScale : ℝ) : EReal) :=
  IdealRules.named_const.ideal_named_scalar _ _ _ _ rfl
theorem bits_scale : Ideal.ofBits .f32 0x3DD105EC#32 = ((cScale : ℝ) : EReal) := by
  simp [Ideal.ofBits, Ideal.ieee, cScale, -EReal.coe_mul]
  norm_num

/-- A finite sum of reals, in the extended reals. -/
theorem sum_coe {n : ℕ} (f : Fin n → EReal) (g : ℕ → ℝ) (h : ∀ k, f k = ((g k : ℝ) : EReal)) :
    ∑ k, f k = ((∑ k ∈ Finset.range n, g k : ℝ) : EReal) := by
  rw [Finset.sum_congr rfl fun k _ => h k, Finset.sum_range]
  induction (Finset.univ : Finset (Fin n)) using Finset.induction_on with
  | empty => simp
  | insert a s ha ih => rw [Finset.sum_insert ha, Finset.sum_insert ha, ih, EReal.coe_add]

theorem is_scores {a b : FVec Ideal S384x128 .bf16} {A B : ℕ → ℕ → ℝ} (ha : Is2 a A) (hb : Is2 b B) :
    Is3 (k0_pay103 (F := Ideal) a b) (fun r c => ∑ d ∈ Finset.range 128, A r d * B c d) := by
  intro r c
  pointwise [k0_pay103, k0_pay100, k0_pay102]
  refine sum_coe _ (fun d => A r d * B c d) fun d => ?_
  rw [ha r d, hb c d, EReal.coe_mul]

theorem is_lse {l : FVec Ideal S1x384x1 .f32} {L : ℕ → ℕ → ℝ} (h : Is3 l L) :
    Is2 (k0_pay105 (F := Ideal) l) (fun r c => L r c * cLog) := by
  intro r c
  obtain rfl : c = 0 := Subsingleton.elim _ _
  pointwise [k0_pay105]
  rw [named_log2e, h r 0, EReal.coe_mul]
  rfl

theorem is_del {l : FVec Ideal S1x384x1 .f32} {L : ℕ → ℕ → ℝ} (h : Is3 l L) :
    Is2 (k0_pay106 (F := Ideal) l) L := by
  intro r c
  obtain rfl : c = 0 := Subsingleton.elim _ _
  pointwise [k0_pay106]
  exact h r 0

/-- A cast to the same shape. -/
theorem is_cast {x : FVec Ideal S384x128 .bf16} {A : ℕ → ℕ → ℝ} (h : Is2 x A) : Is2 (k0_pay102 (F := Ideal) x) A := by
  intro r c
  pointwise [k0_pay102]
  exact h r c

theorem is_free {l : FVec Ideal S384x1 .f32} {s : FVec Ideal S1x384x128 .f32} {L S : ℕ → ℕ → ℝ} (hl : Is2 l L) (hs : Is3 s S) :
    Is2 (k0_pay112 (F := Ideal) l s) (fun r c => Real.rpow 2 (S r c * cExp - L r 0)) := by
  intro r c
  pointwise [k0_pay112]
  have := hl r 0
  rw [named_exp2, hs r c, hl r 0, ← EReal.coe_mul, ← EReal.coe_sub]
  rfl

theorem is_strip {p : FVec Ideal S384x128 .f32} {P : ℕ → ℕ → ℝ} (h : Is2 p P) :
    Is3 (k0_pay133 (F := Ideal) p) P := by
  intro r c
  pointwise [k0_pay133]
  exact h r c

theorem is_ds {del : FVec Ideal S384x1 .f32} {p : FVec Ideal S384x128 .f32} {e : FVec Ideal S1x384x128 .f32} {D P E : ℕ → ℕ → ℝ}
    (hd : Is2 del D) (hp : Is2 p P) (he : Is3 e E) :
    Is3 (k0_pay134 (F := Ideal) del p e) (fun r c => P r c * (E r c - D r 0)) := by
  intro r c
  pointwise [k0_pay134]
  rw [he r c, hp r c, hd r 0, ← EReal.coe_sub, ← EReal.coe_mul]
  rfl

theorem is_dq {k : FVec Ideal S384x128 .bf16} {old : FVec Ideal S384x128 .f32} {ds : FVec Ideal S1x384x384 .bf16} {K O D : ℕ → ℕ → ℝ}
    (hk : Is2 k K) (ho : Is2 old O) (hd : Is3 ds D) :
    Is2 (k0_pay118 (F := Ideal) k old ds) (fun r c => O r c + (∑ j ∈ Finset.range 384, D r j * K j c) * cScale) := by
  intro r c
  pointwise [k0_pay118]
  rw [ho r c, named_scale, sum_coe _ (fun j => D r j * K j c) fun j => ?_, ← EReal.coe_mul, ← EReal.coe_add]
  rw [hd r j, hk j c, EReal.coe_mul]

theorem is_dkv {q : FVec Ideal S384x128 .bf16} {old : FVec Ideal S384x128 .f32} {ds : FVec Ideal S1x384x384 .bf16} {Q O D : ℕ → ℕ → ℝ}
    (hq : Is2 q Q) (ho : Is2 old O) (hd : Is3 ds D) :
    Is2 (k0_pay2 (F := Ideal) q old ds) (fun r c => O r c + ∑ j ∈ Finset.range 384, D j r * Q j c) := by
  intro r c
  pointwise [k0_pay2]
  rw [ho r c, sum_coe _ (fun j => D j r * Q j c) fun j => ?_, ← EReal.coe_add]
  rw [hd j r, hq j c, EReal.coe_mul]

theorem is_fin {x : FVec Ideal S384x256 .f32} {X : ℕ → ℕ → ℝ} (hx : Is2 x X) :
    Is2 (k0_pay7 (F := Ideal) x) (fun r c => X r c * cScale) := by
  intro r c
  pointwise [k0_pay7]
  rw [hx r c, named_scale, ← EReal.coe_mul]

theorem word_sum (n o c : ℕ) : IntOp.addi (Scalar.addi (Scalar.muli (BitVec.ofNat 32 n) 384#32) (BitVec.ofNat 32 o)) (BitVec.ofNat 32 c)
    = BitVec.ofNat 32 (384 * n + (o + c)) := by
  show BitVec.ofNat 32 n * BitVec.ofNat 32 384 + BitVec.ofNat 32 o + BitVec.ofNat 32 c = _
  rw [← BitVec.ofNat_mul, ← BitVec.ofNat_add, ← BitVec.ofNat_add]
  congr 1; ring

theorem word_sum' (n c : ℕ) : IntOp.addi (Scalar.muli (BitVec.ofNat 32 n) 384#32) (BitVec.ofNat 32 c)
    = BitVec.ofNat 32 (384 * n + c) := by
  show BitVec.ofNat 32 n * BitVec.ofNat 32 384 + BitVec.ofNat 32 c = _
  rw [← BitVec.ofNat_mul, ← BitVec.ofNat_add]
  congr 1; ring

theorem select_bool {α : Type} (p : Prop) [Decidable p] (a b : α) : Scalar.select (BitVec.ofBool (decide p)) a b = if p then a else b := by
  by_cases h : p
  · rw [if_pos h, decide_eq_true h]; rfl
  · rw [if_neg h, decide_eq_false h]; rfl

theorem ori_bool (p q : Prop) [Decidable p] [Decidable q] :
    IntOp.ori (BitVec.ofBool (decide p)) (BitVec.ofBool (decide q)) = BitVec.ofBool (decide (p ∨ q)) := by
  by_cases h : p <;> by_cases h' : q <;> simp [h, h', IntOp.ori]

theorem andi_bool (p q : Prop) [Decidable p] [Decidable q] :
    IntOp.andi (BitVec.ofBool (decide p)) (BitVec.ofBool (decide q)) = BitVec.ofBool (decide (p ∧ q)) := by
  by_cases h : p <;> by_cases h' : q <;> simp [h, h', IntOp.andi]

/-- The strip of columns starting at `off` of key block `b`, zeroed where the column is a padded one. -/
def maskFirst (off b : BitVec 32) (p : FVec Ideal S384x128 .f32) : FVec Ideal S384x128 .f32 :=
  select (broadcastTo S384x128 (shapeCast S1x128 (cmpi .sge
      (addi (broadcast S1x128 (Scalar.addi (Scalar.muli b 384#32) off)) (iota .tc S1x128 32 [1] iota_S1x128_d1_w32))
      (broadcast S1x128 112#32)) shapeCasts_S1x128_S1x128) broadcasts_S1x128_S384x128)
    p (broadcast S384x128 (FloatOps.ofBits (F := Ideal) .f32 0#32))

/-- The strip of columns starting at `off` of diagonal block `b`, kept where the query sees the key. -/
def maskDiag (off b : BitVec 32) (p : FVec Ideal S384x128 .f32) : FVec Ideal S384x128 .f32 :=
  have col : IVec S1x128 32 := addi (broadcast S1x128 (Scalar.addi (Scalar.muli b 384#32) off)) (iota .tc S1x128 32 [1] iota_S1x128_d1_w32)
  have row : IVec S384x1 32 := addi (broadcast S384x1 (Scalar.muli b 384#32)) (iota .tc S384x1 32 [0] iota_S384x1_d0_w32)
  have col2 : IVec S384x128 32 := broadcastTo S384x128 col broadcasts_S1x128_S384x128
  have row2 : IVec S384x128 32 := broadcastTo S384x128 row broadcasts_S384x1_S384x128
  select (andi (cmpi .sle col2 row2)
      (ori (broadcastTo S384x128 (cmpi .sge col (broadcast S1x128 112#32)) broadcasts_S1x128_S384x128) (cmpi .eq col2 row2)))
    p (broadcast S384x128 (FloatOps.ofBits (F := Ideal) .f32 0#32))

theorem is_first {p : FVec Ideal S384x128 .f32} {P : ℕ → ℕ → ℝ} (h : Is2 p P) (o n : ℕ) (ho : o ≤ 256) (hn : n < 11) :
    Is2 (maskFirst (BitVec.ofNat 32 o) (BitVec.ofNat 32 n) p) (fun r c => if 112 ≤ 384 * n + (o + c) then P r c else 0) := by
  intro r c
  have hc := c.isLt
  pointwise [maskFirst]
  rw [word_sum n o c, cmpi_sge_ofNat (w := 32) (b := 112) (by omega) (by omega), select_bool]
  by_cases hm : 112 ≤ 384 * n + (o + c)
  · rw [if_pos hm, if_pos hm]; exact h r c
  · rw [if_neg hm, if_neg hm]; rfl

theorem is_diag {p : FVec Ideal S384x128 .f32} {P : ℕ → ℕ → ℝ} (h : Is2 p P) (o n : ℕ) (ho : o ≤ 256) (hn : n < 11) :
    Is2 (maskDiag (BitVec.ofNat 32 o) (BitVec.ofNat 32 n) p)
      (fun r c => if o + c ≤ r ∧ (112 ≤ 384 * n + (o + c) ∨ o + c = r) then P r c else 0) := by
  intro r c
  have hc := c.isLt
  have hr := r.isLt
  pointwise [maskDiag]
  rw [word_sum n o c, word_sum' n r, cmpi_sge_ofNat (w := 32) (b := 112) (by omega) (by omega),
    cmpi_sle_ofNat (w := 32) (by omega) (by omega), cmpi_eq_ofNat (w := 32) (by omega) (by omega), ori_bool, andi_bool, select_bool]
  by_cases hm : o + c ≤ r ∧ (112 ≤ 384 * n + (o + c) ∨ o + c = r)
  · rw [if_pos hm, if_pos (by omega)]; exact h r c
  · rw [if_neg hm, if_neg (by omega)]; rfl

end Cert.KernelIdeal.Hand
-- ==== Proof.Value.Host.lean ====
/-
  Hand-written, untrusted. What the host prepares for the call, as terms of the four arguments.
-/
module

public import proofs.«01_k».proof.Proof.Value.Tile
public import proofs.«01_k».proof.Proof.KernelIdeal.Launch
public import Idealize.ShloMosaic.Lib.Pipeline.ValueKit
public import Idealize.ShloMosaic.Lib.Claim
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- A padded zero. -/
abbrev zz : FVec Ideal S_ .f32 := sitofp .f32 (constantI S_ 32 0#32)

/-- The slots of 128 lanes of an array with 96 lanes a head. -/
def slot96 (X : FVec Ideal S1x4112x16x96 .f32) : FVec Ideal S4224x2048 .f32 :=
  shapeCast S4224x2048 (pad S4224x16x128 ![112, 0, 0] ![0, 0, 32] ![0, 0, 0] (shapeCast S4112x16x96 X shapeCasts_S1x4112x16x96_S4112x16x96) zz
    pads_S4112x16x96_S4224x16x128_11200_000_0320 h_S_) shapeCasts_S4224x16x128_S4224x2048

/-- The slots of 128 lanes of an array with 64 lanes a head. -/
def slot64 (X : FVec Ideal S1x4112x16x64 .f32) : FVec Ideal S4224x2048 .f32 :=
  shapeCast S4224x2048 (pad S4224x16x128 ![112, 0, 0] ![0, 0, 64] ![0, 0, 0] (shapeCast S4112x16x64 X shapeCasts_S1x4112x16x64_S4112x16x64) zz
    pads_S4112x16x64_S4224x16x128_11200_000_0640 h_S_) shapeCasts_S4224x16x128_S4224x2048

/-- The divisor of the lane's remainder. -/
def lane_by : IVec S_ 32 := select (cmpi .eq (constantI S_ 32 128#32) (constantI S_ 32 0#32)) (constantI S_ 32 1#32) (constantI S_ 32 128#32)
/-- The lane's truncated remainder. -/
def lane_rem : IVec S4224x2048 32 := Host.remsi (iotaInDim S4224x2048 32 1) (broadcastInDim S4224x2048 ![] bcast_S_S4224x2048 lane_by)
/-- The lane within its slot. -/
def lane_in : IVec S4224x2048 32 :=
  select (andi (cmpi .ne (cmpi .slt lane_rem (broadcastInDim S4224x2048 ![] bcast_S_S4224x2048 (constantI S_ 32 0#32)))
      (broadcastInDim S4224x2048 ![] bcast_S_S4224x2048 (cmpi .slt lane_by (constantI S_ 32 0#32))))
    (cmpi .ne lane_rem (broadcastInDim S4224x2048 ![] bcast_S_S4224x2048 (constantI S_ 32 0#32))))
    (addi lane_rem (broadcastInDim S4224x2048 ![] bcast_S_S4224x2048 lane_by)) lane_rem

/-- The values' slots, with a one in lane 64 of each. -/
def slotOne (X : FVec Ideal S1x4112x16x64 .f32) : FVec Ideal S4224x2048 .f32 :=
  select (cmpi .eq lane_in (broadcastInDim S4224x2048 ![] bcast_S_S4224x2048 (constantI S_ 32 64#32)))
    (broadcastInDim S4224x2048 ![] bcast_S_S4224x2048 (constant S_ .f32 0x3F800000#32)) (slot64 X)

/-- The scores. -/
def hS (X0 X1 : FVec Ideal S1x4112x16x96 .f32) : FVec Ideal S16x4112x4112 .f32 :=
  select (broadcastInDim S16x4112x4112 ![1, 2] bcast_S4112x4112_S16x4112x4112_1_2
      (cmpi .sle (broadcastInDim S4112x4112 ![0, 1] bcast_S1x4112_S4112x4112_0_1 (broadcastInDim S1x4112 ![1] bcast_S4112_S1x4112_1 (iotaInDim S4112 32 0)))
        (broadcastInDim S4112x4112 ![0, 1] bcast_S4112x1_S4112x4112_0_1 (broadcastInDim S4112x1 ![0] bcast_S4112_S4112x1_0 (iotaInDim S4112 32 0)))))
    (mulf (Host.dotGeneral dot_S4112x16x96_S4112x16x96_S16x4112x4112_2_2_0_0_1_1 none (shapeCast S4112x16x96 X0 shapeCasts_S1x4112x16x96_S4112x16x96)
        (shapeCast S4112x16x96 X1 shapeCasts_S1x4112x16x96_S4112x16x96)) (broadcastInDim S16x4112x4112 ![] bcast_S_S16x4112x4112 (constant S_ .f32 0x3DD105EC#32)))
    (broadcastInDim S16x4112x4112 ![] bcast_S_S16x4112x4112 (constant S_ .f32 0xFF800000#32))
/-- The largest score of a query. -/
def hM (S : FVec Ideal S16x4112x4112 .f32) : FVec Ideal S16x4112x1 .f32 :=
  broadcastInDim S16x4112x1 ![0, 1] bcast_S16x4112_S16x4112x1_0_1 (Host.reduce FloatOps.maximumf S (constant S_ .f32 0xFF800000#32) reducesTo_S16x4112x4112_S16x4112_d2 h_S_)
/-- The weights before they are normalised. -/
def hE (S : FVec Ideal S16x4112x4112 .f32) (Mx : FVec Ideal S16x4112x1 .f32) : FVec Ideal S16x4112x4112 .f32 :=
  Host.exp (subf S (broadcastInDim S16x4112x4112 ![0, 1, 2] bcast_S16x4112x1_S16x4112x4112_0_1_2 Mx))
/-- Their sums. -/
def hL (E : FVec Ideal S16x4112x4112 .f32) : FVec Ideal S16x4112x1 .f32 :=
  broadcastInDim S16x4112x1 ![0, 1] bcast_S16x4112_S16x4112x1_0_1 (Host.reduceAdd E (constant S_ .f32 0x00000000#32) reducesTo_S16x4112x4112_S16x4112_d2 h_S_)
/-- The logarithm of the sum of exponentials. -/
def hLse (Mx Ls : FVec Ideal S16x4112x1 .f32) : FVec Ideal S16x4112x1 .f32 := addf Mx (Host.log Ls)
/-- The row sums of the output times its cotangent. -/
def hDel (E : FVec Ideal S16x4112x4112 .f32) (Ls : FVec Ideal S16x4112x1 .f32) (X2 X3 : FVec Ideal S1x4112x16x64 .f32) : FVec Ideal S16x4112x1 .f32 :=
  broadcastInDim S16x4112x1 ![0, 1] bcast_S16x4112_S16x4112x1_0_1 (Host.reduceAdd
    (mulf (transpose S16x4112x64 [1, 0, 2] (shapeCast S4112x16x64 X3 shapeCasts_S1x4112x16x64_S4112x16x64) transposes_S4112x16x64_S16x4112x64_1_0_2)
      (Host.dotGeneral dot_S16x4112x4112_S4112x16x64_S16x4112x64_2_0_1_2_0_1 none
        (Host.divf E (broadcastInDim S16x4112x4112 ![0, 1, 2] bcast_S16x4112x1_S16x4112x4112_0_1_2 Ls)) (shapeCast S4112x16x64 X2 shapeCasts_S1x4112x16x64_S4112x16x64)))
    (constant S_ .f32 0x00000000#32) reducesTo_S16x4112x64_S16x4112_d2 h_S_)
/-- Rows of padding in front of a statistic. -/
def hPad (X : FVec Ideal S16x4112x1 .f32) : FVec Ideal S16x4224x1 .f32 :=
  pad S16x4224x1 ![0, 112, 0] ![0, 0, 0] ![0, 0, 0] X zz pads_S16x4112x1_S16x4224x1_000_11200_000 h_S_

variable (m : (ℓ : Loc nD τ sig) → Buf (Elt Ideal) ℓ) (c : Dev nD)

abbrev xq : FVec Ideal S1x4112x16x96 .f32 := m ((c : Thread nD τ).loc main_arg0)
abbrev xk : FVec Ideal S1x4112x16x96 .f32 := m ((c : Thread nD τ).loc main_arg1)
abbrev xv : FVec Ideal S1x4112x16x64 .f32 := m ((c : Thread nD τ).loc main_arg2)
abbrev xo : FVec Ideal S1x4112x16x64 .f32 := m ((c : Thread nD τ).loc main_arg3)

/-- The queries as the call reads them. -/
theorem V_main_v42 : V m c main_v42 = (truncf .bf16 (slot96 (xq m c)) bitsLt_bf16_f32 : FVec Ideal S4224x2048 .bf16) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append]
  entry_read
  simp -implicitDefEqProofs only [StableHlo.TRef.ofBuf, StableHlo.TRef.toBuf, cast_cast, cast_eq]
  rfl

/-- The keys as the call reads them. -/
theorem V_main_v46 : V m c main_v46 = (truncf .bf16 (slot96 (xk m c)) bitsLt_bf16_f32 : FVec Ideal S4224x2048 .bf16) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append]
  entry_read
  simp -implicitDefEqProofs only [StableHlo.TRef.ofBuf, StableHlo.TRef.toBuf, cast_cast, cast_eq]
  rfl

/-- The values as the call reads them. -/
theorem V_main_v47 : V m c main_v47 = (truncf .bf16 (slotOne (xv m c)) bitsLt_bf16_f32 : FVec Ideal S4224x2048 .bf16) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append]
  entry_read
  simp -implicitDefEqProofs only [StableHlo.TRef.ofBuf, StableHlo.TRef.toBuf, cast_cast, cast_eq]
  rfl

/-- The cotangent as the call reads it. -/
theorem V_main_v51 : V m c main_v51 = (truncf .bf16 (slot64 (xo m c)) bitsLt_bf16_f32 : FVec Ideal S4224x2048 .bf16) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append]
  entry_read
  simp -implicitDefEqProofs only [StableHlo.TRef.ofBuf, StableHlo.TRef.toBuf, cast_cast, cast_eq]
  rfl

/-- The logarithms as the call reads them. -/
theorem V_main_v52 : V m c main_v52 = hPad (hLse (hM (hS (xq m c) (xk m c))) (hL (hE (hS (xq m c) (xk m c)) (hM (hS (xq m c) (xk m c)))))) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append]
  entry_read
  simp -implicitDefEqProofs only [StableHlo.TRef.ofBuf, StableHlo.TRef.toBuf, cast_cast, cast_eq]
  rfl

/-- The row sums as the call reads them. -/
theorem V_main_v53 : V m c main_v53 = hPad (hDel (hE (hS (xq m c) (xk m c)) (hM (hS (xq m c) (xk m c)))) (hL (hE (hS (xq m c) (xk m c)) (hM (hS (xq m c) (xk m c))))) (xv m c) (xo m c)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append]
  entry_read
  simp -implicitDefEqProofs only [StableHlo.TRef.ofBuf, StableHlo.TRef.toBuf, cast_cast, cast_eq]
  rfl

end Cert.KernelIdeal.Hand
-- ==== Proof.Value.Slots.lean ====
/-
  Hand-written, untrusted. The layout of the operands at an index.
-/
module

public import proofs.«01_k».proof.Proof.Value.Host
public import Idealize.ShloMosaic.Lib.IdealHost

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- An array of reals: the argument holds `q` at each row, head and lane. -/
def Is4 {a b d : ℕ} (x : (⟨4, ![1, a, b, d]⟩ : Shape).Idx → EReal) (q : ℕ → ℕ → ℕ → ℝ) : Prop :=
  ∀ (i : Fin a) (h : Fin b) (e : Fin d), x (ix4 0 i h e) = ((q i h e : ℝ) : EReal)

/-- The padding's zero. -/
theorem zero_word : (FloatOps.sitofp .f32 0#32 : Ideal .f32) = ((0 : ℝ) : EReal) := by
  show (((0#32).toInt : ℝ) : EReal) = ((0 : ℝ) : EReal)
  simp

/-- The slots of 128 lanes, under 112 rows of zeros. -/
def slotted (n : ℕ) (q : ℕ → ℕ → ℕ → ℝ) (r y : ℕ) : ℝ := if 112 ≤ r ∧ y % 128 < n then q (r - 112) (y / 128) (y % 128) else 0

theorem is_slot96 {X : FVec Ideal S1x4112x16x96 .f32} {q : ℕ → ℕ → ℕ → ℝ} (h : Is4 X q) : Is2 (slot96 X) (slotted 96 q) := by
  intro r y
  pointwise [slot96]
  have hr := r.isLt
  have hy := y.isLt
  rw [slotted]
  by_cases hc : 112 ≤ r.val ∧ y.val % 128 < 96
  · rw [if_pos hc, dif_pos ⟨⟨hc.1, by omega⟩, by omega, hc.2⟩]
    exact h _ _ _
  · rw [if_neg hc, dif_neg (fun hh => hc ⟨hh.1.1, hh.2.2⟩)]
    exact zero_word

theorem is_slot64 {X : FVec Ideal S1x4112x16x64 .f32} {q : ℕ → ℕ → ℕ → ℝ} (h : Is4 X q) : Is2 (slot64 X) (slotted 64 q) := by
  intro r y
  pointwise [slot64]
  have hr := r.isLt
  have hy := y.isLt
  rw [slotted]
  by_cases hc : 112 ≤ r.val ∧ y.val % 128 < 64
  · rw [if_pos hc, dif_pos ⟨⟨hc.1, by omega⟩, by omega, hc.2⟩]
    exact h _ _ _
  · rw [if_neg hc, dif_neg (fun hh => hc ⟨hh.1.1, hh.2.2⟩)]
    exact zero_word

theorem lane (r : Fin 4224) (y : Fin 2048) (h : y.val % 128 < 64) :
    cmpi .eq lane_in (broadcastInDim S4224x2048 ![] bcast_S_S4224x2048 (constantI S_ 32 64#32)) (ix2 r y) = 0#1 := by
  pointwise [lane_in, lane_rem, lane_by]
  clear r
  revert y
  decide +kernel

/-- The values' slots agree with the padded values in the 64 lanes of each head; everywhere they are real. -/
theorem is_slotOne {X : FVec Ideal S1x4112x16x64 .f32} {q : ℕ → ℕ → ℕ → ℝ} (h : Is4 X q) :
    ∃ A : ℕ → ℕ → ℝ, Is2 (slotOne X) A ∧ ∀ r y, r < 4224 → y < 2048 → y % 128 < 64 → A r y = slotted 64 q r y := by
  have hs := is_slot64 h
  let B : ℕ → ℕ → BitVec 1 := fun r y => if hh : r < 4224 ∧ y < 2048 then
    cmpi .eq lane_in (broadcastInDim S4224x2048 ![] bcast_S_S4224x2048 (constantI S_ 32 64#32)) (ix2 (⟨r, hh.1⟩ : Fin 4224) (⟨y, hh.2⟩ : Fin 2048)) else 0#1
  have hB : ∀ (r : Fin 4224) (y : Fin 2048), cmpi .eq lane_in (broadcastInDim S4224x2048 ![] bcast_S_S4224x2048 (constantI S_ 32 64#32)) (ix2 r y) = B r y := by
    intro r y
    show _ = if hh : _ then _ else _
    rw [dif_pos ⟨r.isLt, y.isLt⟩]
  refine ⟨fun r y => if B r y = 1#1 then 1 else slotted 64 q r y, fun r y => ?_, fun r y hr hy hl => ?_⟩
  · have e : slotOne X (ix2 r y) = Scalar.select (B r y) (1 : EReal) (slot64 X (ix2 r y)) := by
      rw [← hB]
      show Scalar.select _ (Ideal.ofBits .f32 0x3F800000#32) _ = _
      rw [Idealize.ShloMosaic.Ideal.ofBits_one_f32]
    rw [e, hs r y, Scalar.select]
    split_ifs <;> simp_all
  · have := hB ⟨r, hr⟩ ⟨y, hy⟩
    rw [lane ⟨r, hr⟩ ⟨y, hy⟩ hl] at this
    show (if B r y = 1#1 then _ else _) = _
    rw [← this, if_neg (by decide)]

end Cert.KernelIdeal.Hand
-- ==== Proof.Value.Reads.lean ====
/-
  Hand-written, untrusted. Loads and stores of rectangles, read as tables of reals.
-/
module

public import proofs.«01_k».proof.Proof.Value.Tile
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- A vector of two heads, one column each: head `h`, row `r` holds `L h r`. -/
def IsH {n : ℕ} (x : (⟨3, ![2, n, 1]⟩ : Shape).Idx → EReal) (L : ℕ → ℕ → ℝ) : Prop :=
  ∀ (h : Fin 2) (r : Fin n), x (ix3 h r 0) = ((L h r : ℝ) : EReal)

theorem Is2.congr {n m : ℕ} {x : (⟨2, ![n, m]⟩ : Shape).Idx → EReal} {A B : ℕ → ℕ → ℝ} (h : Is2 x A)
    (e : ∀ r c, r < n → c < m → A r c = B r c) : Is2 x B := fun r c => by rw [h r c, e r c r.isLt c.isLt]

theorem Is3.congr {n m : ℕ} {x : (⟨3, ![1, n, m]⟩ : Shape).Idx → EReal} {A B : ℕ → ℕ → ℝ} (h : Is3 x A)
    (e : ∀ r c, r < n → c < m → A r c = B r c) : Is3 x B := fun r c => by rw [h r c, e r c r.isLt c.isLt]

theorem Is2.eq {n m : ℕ} {x : (⟨2, ![n, m]⟩ : Shape).Idx → EReal} {A : ℕ → ℕ → ℝ} (h : Is2 x A) (r : Fin n) (c : Fin m) {a : ℝ}
    (e : A r.val c.val = a) : x (ix2 r c) = ((a : ℝ) : EReal) := by rw [h r c, e]

theorem Is3.eq {n m : ℕ} {x : (⟨3, ![1, n, m]⟩ : Shape).Idx → EReal} {A : ℕ → ℕ → ℝ} (h : Is3 x A) (r : Fin n) (c : Fin m) {a : ℝ}
    (e : A r.val c.val = a) : x (ix3 0 r c) = ((a : ℝ) : EReal) := by rw [h r c, e]

variable {κ : Kind} {sp : Space}

/-- A rectangle of a matrix. -/
theorem tab_load {Val : EltTy → Type} {e : EltTy} {n m n' m' : ℕ} (v : View sig κ sp ⟨2, ![n, m]⟩ e) (f : v.ty.Contents Val) {off : Fin 2 → ℕ}
    (inb : ∀ a, off a + (![n', m'] : Fin 2 → ℕ) a ≤ (![n, m] : Fin 2 → ℕ) a) (r0 c0 : ℕ) (hoff : off = ![r0, c0]) {A : ℕ → ℕ → Val e}
    (h : ∀ (r : Fin n) (c : Fin m), v.read Val f (ix2 r c) = A r c) :
    ∀ (r : Fin n') (c : Fin m'), v.readAt Val (Rect.unit (s := ⟨2, ![n, m]⟩) off ![n', m'] inb).toLoadRect f (ix2 r c) = A (r0 + r) (c0 + c) := by
  subst hoff
  intro r c
  have h0 := inb 0
  have h1 := inb 1
  simp at h0 h1
  have := h ⟨r0 + r, by omega⟩ ⟨c0 + c, by omega⟩
  refine Eq.trans ?_ this
  show v.read Val f _ = _
  congr 1
  funext a
  apply Fin.ext
  fin_cases a
  · show r0 + 1 * r.val = r0 + r; omega
  · show c0 + 1 * c.val = c0 + c; omega

/-- A rectangle of a matrix. -/
theorem is_load16 {n m n' m' : ℕ} (v : View sig κ sp ⟨2, ![n, m]⟩ .bf16) (f : v.ty.Contents (Elt Ideal)) {off : Fin 2 → ℕ}
    (inb : ∀ a, off a + (![n', m'] : Fin 2 → ℕ) a ≤ (![n, m] : Fin 2 → ℕ) a) (r0 c0 : ℕ) (hoff : off = ![r0, c0]) {A : ℕ → ℕ → ℝ}
    (h : Is2 (v.read (Elt Ideal) f) A) :
    Is2 (n := n') (m := m') (v.readAt (Elt Ideal) (Rect.unit (s := ⟨2, ![n, m]⟩) off ![n', m'] inb).toLoadRect f) (fun r c => A (r0 + r) (c0 + c)) :=
  tab_load (Val := Elt Ideal) (e := .bf16) v f inb r0 c0 hoff (A := fun r c => ((A r c : ℝ) : EReal)) h

/-- A rectangle of a matrix. -/
theorem is_load32 {n m n' m' : ℕ} (v : View sig κ sp ⟨2, ![n, m]⟩ .f32) (f : v.ty.Contents (Elt Ideal)) {off : Fin 2 → ℕ}
    (inb : ∀ a, off a + (![n', m'] : Fin 2 → ℕ) a ≤ (![n, m] : Fin 2 → ℕ) a) (r0 c0 : ℕ) (hoff : off = ![r0, c0]) {A : ℕ → ℕ → ℝ}
    (h : Is2 (v.read (Elt Ideal) f) A) :
    Is2 (n := n') (m := m') (v.readAt (Elt Ideal) (Rect.unit (s := ⟨2, ![n, m]⟩) off ![n', m'] inb).toLoadRect f) (fun r c => A (r0 + r) (c0 + c)) :=
  tab_load (Val := Elt Ideal) (e := .f32) v f inb r0 c0 hoff (A := fun r c => ((A r c : ℝ) : EReal)) h

/-- Some rows of one head of a two-head column. -/
theorem is_loadH {n n' : ℕ} (v : View sig κ sp ⟨3, ![2, n, 1]⟩ .f32) (f : v.ty.Contents (Elt Ideal)) {off : Fin 3 → ℕ}
    (inb : ∀ a, off a + (![1, n', 1] : Fin 3 → ℕ) a ≤ (![2, n, 1] : Fin 3 → ℕ) a) (hd r0 : ℕ) (hoff : off = ![hd, r0, 0]) {L : ℕ → ℕ → ℝ}
    (h : IsH (v.read (Elt Ideal) f) L) :
    Is3 (n := n') (m := 1) (v.readAt (Elt Ideal) (Rect.unit (s := ⟨3, ![2, n, 1]⟩) off ![1, n', 1] inb).toLoadRect f) (fun r _ => L hd (r0 + r)) := by
  subst hoff
  intro r c
  have h0 := inb 0
  have h1 := inb 1
  simp at h0 h1
  have := h ⟨hd, by omega⟩ ⟨r0 + r, by omega⟩
  refine Eq.trans ?_ this
  show v.read (Elt Ideal) f _ = _
  congr 1
  funext a
  apply Fin.ext
  fin_cases a
  · show hd + 1 * 0 = hd; omega
  · show r0 + 1 * r.val = r0 + r; omega
  · show 0 + 1 * c.val = 0; omega

/-- A strip of columns of a head written whole, read back. -/
theorem is_strip_of_head (v : View sig κ sp S2x384x384 .f32) (hd o : ℕ)
    (inb : ∀ a, (![hd, 0, 0] : Fin 3 → ℕ) a + S1x384x384.size a ≤ S2x384x384.size a)
    (inb' : ∀ a, (![hd, 0, o] : Fin 3 → ℕ) a + S1x384x128.size a ≤ S2x384x384.size a)
    (w : S1x384x384.Idx → EReal) (L : List (View.Piece (Elt Ideal) S2x384x384 .f32)) {W : ℕ → ℕ → ℝ} (h : Is3 w W) :
    Is3 (n := 384) (m := 128) (v.readCov ((⟨Rect.unit (s := S2x384x384) ![hd, 0, 0] S1x384x384.size inb, w⟩ : View.Piece (Elt Ideal) S2x384x384 .f32) :: L)
      (Rect.unit (s := S2x384x384) ![hd, 0, o] S1x384x128.size inb').toLoadRect) (fun r c => W r (o + c)) := by
  intro r c
  have h2 : o + 128 ≤ 384 := inb' 2
  refine Eq.trans ?_ (h r ⟨o + c, by omega⟩)
  refine (View.read_writes_cons_unit_of_mem v v.junk inb w L _ (ix3 0 r ⟨o + c, by omega⟩) rfl fun a => ?_)
  fin_cases a
  · show hd + 1 * 0 = hd + 0; omega
  · show 0 + 1 * r.val = 0 + r; omega
  · show o + 1 * c.val = 0 + (o + c); omega

theorem head_aux (v : View sig κ sp S2x384x384 .bf16) (f : v.ty.Contents (Elt Ideal)) (hd : ℕ)
    (i0 : ∀ a, (![hd, 0, 0] : Fin 3 → ℕ) a + S1x384x128.size a ≤ S2x384x384.size a)
    (i1 : ∀ a, (![hd, 0, 128] : Fin 3 → ℕ) a + S1x384x128.size a ≤ S2x384x384.size a)
    (i2 : ∀ a, (![hd, 0, 256] : Fin 3 → ℕ) a + S1x384x128.size a ≤ S2x384x384.size a)
    (w0 w1 w2 : S1x384x128.Idx → EReal) (L : List (View.Piece (Elt Ideal) S2x384x384 .bf16)) {G : ℕ → ℕ → ℝ}
    (h0 : Is3 w0 fun r c => G r (0 + c)) (h1 : Is3 w1 fun r c => G r (128 + c)) (h2 : Is3 w2 fun r c => G r (256 + c))
    (y : S2x384x384.Idx) (r c : ℕ) (hr : r < 384) (hc : c < 384) (y0 : (y 0).val = hd) (y1 : (y 1).val = r) (y2 : (y 2).val = c) :
    v.read (Elt Ideal) (v.writes (Elt Ideal) f ((⟨Rect.unit (s := S2x384x384) ![hd, 0, 256] S1x384x128.size i2, w2⟩ : View.Piece (Elt Ideal) S2x384x384 .bf16)
        :: (⟨Rect.unit (s := S2x384x384) ![hd, 0, 128] S1x384x128.size i1, w1⟩ : View.Piece (Elt Ideal) S2x384x384 .bf16)
        :: (⟨Rect.unit (s := S2x384x384) ![hd, 0, 0] S1x384x128.size i0, w0⟩ : View.Piece (Elt Ideal) S2x384x384 .bf16) :: L)) y = ((G r c : ℝ) : EReal) := by
  by_cases c2 : 256 ≤ c
  · refine Eq.trans (View.read_writes_cons_unit_of_mem v f i2 w2 _ y (ix3 (0 : Fin 1) (⟨r, hr⟩ : Fin 384) (⟨c - 256, by omega⟩ : Fin 128)) rfl fun a => ?_)
      (h2.eq ⟨r, hr⟩ ⟨c - 256, by omega⟩ (by show G r (256 + (c - 256)) = G r c; congr 1; omega))
    fin_cases a
    · show (y 0).val = hd + 0; omega
    · show (y 1).val = 0 + r; omega
    · show (y 2).val = 256 + (c - 256); omega
  refine (View.read_writes_cons_unit_of_not_mem v f i2 w2 _ y rfl 2 (.inl (by show (y 2).val < 256; omega))).trans ?_
  by_cases c1 : 128 ≤ c
  · refine Eq.trans (View.read_writes_cons_unit_of_mem v f i1 w1 _ y (ix3 (0 : Fin 1) (⟨r, hr⟩ : Fin 384) (⟨c - 128, by omega⟩ : Fin 128)) rfl fun a => ?_)
      (h1.eq ⟨r, hr⟩ ⟨c - 128, by omega⟩ (by show G r (128 + (c - 128)) = G r c; congr 1; omega))
    fin_cases a
    · show (y 0).val = hd + 0; omega
    · show (y 1).val = 0 + r; omega
    · show (y 2).val = 128 + (c - 128); omega
  refine (View.read_writes_cons_unit_of_not_mem v f i1 w1 _ y rfl 2 (.inl (by show (y 2).val < 128; omega))).trans ?_
  refine Eq.trans (View.read_writes_cons_unit_of_mem v f i0 w0 _ y (ix3 (0 : Fin 1) (⟨r, hr⟩ : Fin 384) (⟨c, by omega⟩ : Fin 128)) rfl fun a => ?_)
    (h0.eq ⟨r, hr⟩ ⟨c, by omega⟩ (by show G r (0 + c) = G r c; congr 1; omega))
  fin_cases a
  · show (y 0).val = hd + 0; omega
  · show (y 1).val = 0 + r; omega
  · show (y 2).val = 0 + c; omega

/-- A head written in three strips, read back whole. -/
theorem is_head_of_strips (v : View sig κ sp S2x384x384 .bf16) (hd : ℕ)
    (i0 : ∀ a, (![hd, 0, 0] : Fin 3 → ℕ) a + S1x384x128.size a ≤ S2x384x384.size a)
    (i1 : ∀ a, (![hd, 0, 128] : Fin 3 → ℕ) a + S1x384x128.size a ≤ S2x384x384.size a)
    (i2 : ∀ a, (![hd, 0, 256] : Fin 3 → ℕ) a + S1x384x128.size a ≤ S2x384x384.size a)
    (inb' : ∀ a, (![hd, 0, 0] : Fin 3 → ℕ) a + S1x384x384.size a ≤ S2x384x384.size a)
    (w0 w1 w2 : S1x384x128.Idx → EReal) (L : List (View.Piece (Elt Ideal) S2x384x384 .bf16)) {G : ℕ → ℕ → ℝ}
    (h0 : Is3 w0 fun r c => G r (0 + c)) (h1 : Is3 w1 fun r c => G r (128 + c)) (h2 : Is3 w2 fun r c => G r (256 + c)) :
    Is3 (n := 384) (m := 384) (v.readCov ((⟨Rect.unit (s := S2x384x384) ![hd, 0, 256] S1x384x128.size i2, w2⟩ : View.Piece (Elt Ideal) S2x384x384 .bf16)
        :: (⟨Rect.unit (s := S2x384x384) ![hd, 0, 128] S1x384x128.size i1, w1⟩ : View.Piece (Elt Ideal) S2x384x384 .bf16)
        :: (⟨Rect.unit (s := S2x384x384) ![hd, 0, 0] S1x384x128.size i0, w0⟩ : View.Piece (Elt Ideal) S2x384x384 .bf16) :: L)
      (Rect.unit (s := S2x384x384) ![hd, 0, 0] S1x384x384.size inb').toLoadRect) G := by
  intro r c
  rw [View.readCov, View.readAt_apply]
  exact head_aux v v.junk hd i0 i1 i2 w0 w1 w2 L h0 h1 h2 _ r c r.isLt c.isLt (by show hd + 1 * 0 = hd; omega)
    (by show 0 + 1 * r.val = r; omega) (by show 0 + 1 * c.val = c; omega)

/-- Two stores of half the columns each, in some rows. -/
theorem is_store {n : ℕ} (v : View sig κ sp ⟨2, ![n, 256]⟩ .f32) (f : v.ty.Contents (Elt Ideal)) {o0 o1 : Fin 2 → ℕ} (r0 : ℕ)
    (i0 : ∀ a, o0 a + (![384, 128] : Fin 2 → ℕ) a ≤ (![n, 256] : Fin 2 → ℕ) a) (e0 : o0 = ![r0, 0])
    (i1 : ∀ a, o1 a + (![384, 128] : Fin 2 → ℕ) a ≤ (![n, 256] : Fin 2 → ℕ) a) (e1 : o1 = ![r0, 128])
    (w0 w1 : (⟨2, ![384, 128]⟩ : Shape).Idx → EReal) (L : List (View.Piece (Elt Ideal) ⟨2, ![n, 256]⟩ .f32)) {A G : ℕ → ℕ → ℝ}
    (h0 : Is2 w0 fun r c => G (r0 + r) (0 + c)) (h1 : Is2 w1 fun r c => G (r0 + r) (128 + c))
    (h : Is2 (v.read (Elt Ideal) (v.writes (Elt Ideal) f L)) A) :
    Is2 (v.read (Elt Ideal) (v.writes (Elt Ideal) f
        ((⟨Rect.unit (s := ⟨2, ![n, 256]⟩) o1 ![384, 128] i1, w1⟩ : View.Piece (Elt Ideal) ⟨2, ![n, 256]⟩ .f32)
        :: (⟨Rect.unit (s := ⟨2, ![n, 256]⟩) o0 ![384, 128] i0, w0⟩ : View.Piece (Elt Ideal) ⟨2, ![n, 256]⟩ .f32) :: L)))
      (fun r c => if r0 ≤ r ∧ r < r0 + 384 then G r c else A r c) := by
  intro r c
  subst e0 e1
  have hc := c.isLt
  beta_reduce
  by_cases hr : r0 ≤ r.val ∧ r.val < r0 + 384
  · rw [if_pos hr]
    by_cases c1 : 128 ≤ c.val
    · refine Eq.trans (View.read_writes_cons_unit_of_mem v f i1 w1 _ (ix2 r c) (ix2 (⟨r - r0, by omega⟩ : Fin 384) (⟨c - 128, by omega⟩ : Fin 128)) rfl fun a => ?_)
        (h1.eq ⟨r - r0, by omega⟩ ⟨c - 128, by omega⟩ (by
          show G (r0 + (r.val - r0)) (128 + (c.val - 128)) = G r.val c.val
          congr 1 <;> omega))
      fin_cases a
      · show r.val = r0 + (r.val - r0); omega
      · show c.val = 128 + (c.val - 128); omega
    refine (View.read_writes_cons_unit_of_not_mem v f i1 w1 _ (ix2 r c) rfl 1 (.inl (by show c.val < 128; omega))).trans ?_
    refine Eq.trans (View.read_writes_cons_unit_of_mem v f i0 w0 _ (ix2 r c) (ix2 (⟨r - r0, by omega⟩ : Fin 384) (⟨c, by omega⟩ : Fin 128)) rfl fun a => ?_)
      (h0.eq ⟨r - r0, by omega⟩ ⟨c, by omega⟩ (by
        show G (r0 + (r.val - r0)) (0 + c.val) = G r.val c.val
        congr 1 <;> omega))
    fin_cases a
    · show r.val = r0 + (r.val - r0); omega
    · show c.val = 0 + c; omega
  · rw [if_neg hr]
    refine Eq.trans ?_ (h r c)
    refine (View.read_writes_cons_unit_of_not_mem v f i1 w1 _ (ix2 r c) rfl 0 ?_).trans
      (View.read_writes_cons_unit_of_not_mem v f i0 w0 _ (ix2 r c) rfl 0 ?_)
    · show r.val < r0 ∨ r0 + 384 ≤ r.val; omega
    · show r.val < r0 ∨ r0 + 384 ≤ r.val; omega

end Cert.KernelIdeal.Hand
-- ==== Proof.Value.Pair.lean ====
/-
  Hand-written, untrusted. One tile of the attention's backward pass, for a pair of heads, as tables of reals.
-/
module

public import proofs.«01_k».proof.Proof.Value.Reads

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- What the kernel is given for a pair of heads: queries, keys, values and the result's gradient by row and lane (head 0 in lanes
0 to 127, head 1 in lanes 128 to 255), the saved log-sums and row corrections by head and row. -/
structure Pair where
  q : ℕ → ℕ → ℝ
  k : ℕ → ℕ → ℝ
  v : ℕ → ℕ → ℝ
  o : ℕ → ℕ → ℝ
  lse : ℕ → ℕ → ℝ
  del : ℕ → ℕ → ℝ

namespace Pair

variable (D : Pair)

/-- Row `r` sees column `c`: causal, and a padded column is seen by its own row only. -/
def vis (r c : ℕ) : Prop := c ≤ r ∧ (112 ≤ c ∨ c = r)

instance (r c : ℕ) : Decidable (vis r c) := inferInstanceAs (Decidable (_ ∧ _))

def sc (h r c : ℕ) : ℝ := ∑ d ∈ Finset.range 128, D.q r (128 * h + d) * D.k c (128 * h + d)
def dp (h r c : ℕ) : ℝ := ∑ d ∈ Finset.range 128, D.o r (128 * h + d) * D.v c (128 * h + d)
def raw (h r c : ℕ) : ℝ := Real.rpow 2 (D.sc h r c * cExp - D.lse h r * cLog)
def pr (h r c : ℕ) : ℝ := if vis r c then D.raw h r c else 0
def ds (h r c : ℕ) : ℝ := D.pr h r c * (D.dp h r c - D.del h r)

theorem pr_of_lt {h r c : ℕ} (hlt : r < c) : D.pr h r c = 0 := if_neg fun hv => absurd hv.1 (by omega)
theorem ds_of_lt {h r c : ℕ} (hlt : r < c) : D.ds h r c = 0 := by rw [ds, D.pr_of_lt hlt, zero_mul]

end Pair

variable (D : Pair)

section Loads
variable {κ : Kind} {sp : Space}

/-- Some rows of one head's lanes of a whole operand. -/
theorem load_rows (v : View sig κ sp S4224x256 .bf16) (f : v.ty.Contents (Elt Ideal)) {off : Fin 2 → ℕ}
    (inb : ∀ a, off a + S384x128.size a ≤ S4224x256.size a) (R0 hd : ℕ) (hoff : off = ![R0, 128 * hd]) {A : ℕ → ℕ → ℝ}
    (h : Is2 (v.read (Elt Ideal) f) A) :
    Is2 (n := 384) (m := 128) (v.readAt (Elt Ideal) (Rect.unit (s := S4224x256) off S384x128.size inb).toLoadRect f)
      (fun r d => A (R0 + r) (128 * hd + d)) := is_load16 v f inb R0 (128 * hd) hoff h

/-- One head's lanes of a block. -/
theorem load_blk (v : View sig κ sp S384x256 .bf16) (f : v.ty.Contents (Elt Ideal)) {off : Fin 2 → ℕ}
    (inb : ∀ a, off a + S384x128.size a ≤ S384x256.size a) (C0 hd : ℕ) (hoff : off = ![0, 128 * hd]) {A : ℕ → ℕ → ℝ}
    (h : Is2 (v.read (Elt Ideal) f) fun r d => A (C0 + r) d) :
    Is2 (n := 384) (m := 128) (v.readAt (Elt Ideal) (Rect.unit (s := S384x256) off S384x128.size inb).toLoadRect f)
      (fun r d => A (C0 + r) (128 * hd + d)) :=
  (is_load16 (n' := 384) (m' := 128) v f inb 0 (128 * hd) hoff h).congr fun r d _ _ => by rw [Nat.zero_add]

/-- The same of a block or of rows held at the wider type. -/
theorem load_rows32 (v : View sig κ sp S4224x256 .f32) (f : v.ty.Contents (Elt Ideal)) {off : Fin 2 → ℕ}
    (inb : ∀ a, off a + S384x128.size a ≤ S4224x256.size a) (R0 hd : ℕ) (hoff : off = ![R0, 128 * hd]) {A : ℕ → ℕ → ℝ}
    (h : Is2 (v.read (Elt Ideal) f) A) :
    Is2 (n := 384) (m := 128) (v.readAt (Elt Ideal) (Rect.unit (s := S4224x256) off S384x128.size inb).toLoadRect f)
      (fun r d => A (R0 + r) (128 * hd + d)) := is_load32 v f inb R0 (128 * hd) hoff h

theorem load_blk32 (v : View sig κ sp S384x256 .f32) (f : v.ty.Contents (Elt Ideal)) {off : Fin 2 → ℕ}
    (inb : ∀ a, off a + S384x128.size a ≤ S384x256.size a) (hd : ℕ) (hoff : off = ![0, 128 * hd]) {A : ℕ → ℕ → ℝ}
    (h : Is2 (v.read (Elt Ideal) f) A) :
    Is2 (n := 384) (m := 128) (v.readAt (Elt Ideal) (Rect.unit (s := S384x256) off S384x128.size inb).toLoadRect f)
      (fun r d => A (0 + r) (128 * hd + d)) := is_load32 v f inb 0 (128 * hd) hoff h

/-- Some rows of one head's column. -/
theorem load_col (v : View sig κ sp S2x4224x1 .f32) (f : v.ty.Contents (Elt Ideal)) {off : Fin 3 → ℕ}
    (inb : ∀ a, off a + S1x384x1.size a ≤ S2x4224x1.size a) (R0 hd : ℕ) (hoff : off = ![hd, R0, 0]) {A : ℕ → ℕ → ℝ}
    (h : IsH (v.read (Elt Ideal) f) A) :
    Is3 (n := 384) (m := 1) (v.readAt (Elt Ideal) (Rect.unit (s := S2x4224x1) off S1x384x1.size inb).toLoadRect f)
      (fun r _ => A hd (R0 + r)) := is_loadH v f inb hd R0 hoff h

end Loads

section Strips
variable {κ : Kind} {sp : Space} (v11 : View sig κ sp S2x384x384 .f32) (hd o R0 C0 : ℕ)
  (inb : ∀ a, (![hd, 0, 0] : Fin 3 → ℕ) a + S1x384x384.size a ≤ S2x384x384.size a)
  (inb' : ∀ a, (![hd, 0, o] : Fin 3 → ℕ) a + S1x384x128.size a ≤ S2x384x384.size a)
  (L11 : List (View.Piece (Elt Ideal) S2x384x384 .f32))

/-- The scores of a tile. -/
theorem is_sc {a b : FVec Ideal S384x128 .bf16} (ha : Is2 a fun r d => D.q (R0 + r) (128 * hd + d)) (hb : Is2 b fun r d => D.k (C0 + r) (128 * hd + d)) :
    Is3 (k0_pay103 (F := Ideal) a b) (fun r c => D.sc hd (R0 + r) (C0 + c)) := is_scores ha hb

/-- The gradients of a tile's weights. -/
theorem is_dp {a b : FVec Ideal S384x128 .bf16} (ha : Is2 a fun r d => D.o (R0 + r) (128 * hd + d)) (hb : Is2 b fun r d => D.v (C0 + r) (128 * hd + d)) :
    Is3 (k0_pay103 (F := Ideal) a b) (fun r c => D.dp hd (R0 + r) (C0 + c)) := is_scores ha hb

/-- The unmasked weights of a strip. -/
theorem is_raw {s : FVec Ideal S1x384x384 .f32} (hs : Is3 s fun r c => D.sc hd (R0 + r) (C0 + c))
    {l : FVec Ideal S1x384x1 .f32} (hl : Is3 l fun r _ => D.lse hd (R0 + r)) :
    Is2 (k0_pay112 (F := Ideal) (k0_pay105 l) (v11.readCov ((⟨Rect.unit (s := S2x384x384) ![hd, 0, 0] S1x384x384.size inb, s⟩ : View.Piece (Elt Ideal) S2x384x384 .f32) :: L11)
      (Rect.unit (s := S2x384x384) ![hd, 0, o] S1x384x128.size inb').toLoadRect)) (fun r c => D.raw hd (R0 + r) (C0 + (o + c))) :=
  is_free (is_lse hl) (is_strip_of_head v11 hd o inb inb' s L11 hs)

/-- The weights of a strip below the diagonal, away from the first key block. -/
theorem is_pr_free (hv : ∀ r c, r < 384 → c < 384 → Pair.vis (R0 + r) (C0 + c)) {p : FVec Ideal S384x128 .f32} (ho : o ≤ 256)
    (hp : Is2 p fun r c => D.raw hd (R0 + r) (C0 + (o + c))) : Is2 p fun r c => D.pr hd (R0 + r) (C0 + (o + c)) :=
  hp.congr fun r c hr hc => (if_pos (hv r (o + c) hr (by omega))).symm

/-- The weights of a strip below the diagonal, the first key block's mask applied. -/
theorem is_pr_first (n : ℕ) (hn : n < 11) (hC : C0 = 384 * n) (hR : C0 + 384 ≤ R0) {p : FVec Ideal S384x128 .f32} (ho : o ≤ 256)
    (hp : Is2 p fun r c => D.raw hd (R0 + r) (C0 + (o + c))) :
    Is2 (maskFirst (BitVec.ofNat 32 o) (BitVec.ofNat 32 n) p) fun r c => D.pr hd (R0 + r) (C0 + (o + c)) :=
  (is_first hp o n ho hn).congr fun r c hr hc => by
    subst hC
    exact if_congr (by unfold Pair.vis; omega) rfl rfl

/-- The weights of a strip of a diagonal tile. -/
theorem is_pr_diag (n : ℕ) (hn : n < 11) (hC : C0 = 384 * n) (hR : R0 = C0) {p : FVec Ideal S384x128 .f32} (ho : o ≤ 256)
    (hp : Is2 p fun r c => D.raw hd (R0 + r) (C0 + (o + c))) :
    Is2 (maskDiag (BitVec.ofNat 32 o) (BitVec.ofNat 32 n) p) fun r c => D.pr hd (R0 + r) (C0 + (o + c)) :=
  (is_diag hp o n ho hn).congr fun r c hr hc => by
    subst hC hR
    exact if_congr (by unfold Pair.vis; omega) rfl rfl

/-- The gradient of a strip's scores. -/
theorem is_ds_strip {e : FVec Ideal S1x384x384 .f32} (he : Is3 e fun r c => D.dp hd (R0 + r) (C0 + c))
    {del : FVec Ideal S1x384x1 .f32} (hdel : Is3 del fun r _ => D.del hd (R0 + r))
    {p : FVec Ideal S384x128 .f32} (hp : Is2 p fun r c => D.pr hd (R0 + r) (C0 + (o + c))) :
    Is3 (k0_pay134 (F := Ideal) (k0_pay106 del) p (v11.readCov ((⟨Rect.unit (s := S2x384x384) ![hd, 0, 0] S1x384x384.size inb, e⟩ : View.Piece (Elt Ideal) S2x384x384 .f32) :: L11)
      (Rect.unit (s := S2x384x384) ![hd, 0, o] S1x384x128.size inb').toLoadRect)) (fun r c => D.ds hd (R0 + r) (C0 + (o + c))) :=
  is_ds (is_del hdel) hp (is_strip_of_head v11 hd o inb inb' e L11 he)

end Strips

section Pieces
variable (hd R0 C0 : ℕ)

/-- What a tile adds to the queries' gradient. -/
theorem is_dq_tile {k : FVec Ideal S384x128 .bf16} {old : FVec Ideal S384x128 .f32} {ds : FVec Ideal S1x384x384 .bf16} {A : ℕ → ℕ → ℝ}
    (hk : Is2 k fun r d => D.k (C0 + r) (128 * hd + d)) (ho : Is2 old fun r d => A (R0 + r) (128 * hd + d))
    (hds : Is3 ds fun r c => D.ds hd (R0 + r) (C0 + c)) :
    Is2 (k0_pay118 (F := Ideal) k old ds) (fun r d => (fun x y => A x y + (∑ j ∈ Finset.range 384, D.ds (y / 128) x (C0 + j) * D.k (C0 + j) y) * cScale)
      (R0 + r) (128 * hd + d)) :=
  (is_dq hk ho hds).congr fun r d hr hd' => by
    have e : (128 * hd + d) / 128 = hd := by omega
    beta_reduce
    rw [e]

/-- What a tile adds to the keys' gradient. -/
theorem is_dk_tile {q : FVec Ideal S384x128 .bf16} {old : FVec Ideal S384x128 .f32} {ds : FVec Ideal S1x384x384 .bf16} {A : ℕ → ℕ → ℝ}
    (hq : Is2 q fun r d => D.q (R0 + r) (128 * hd + d)) (ho : Is2 old fun r d => A (0 + r) (128 * hd + d))
    (hds : Is3 ds fun r c => D.ds hd (R0 + r) (C0 + c)) :
    Is2 (k0_pay2 (F := Ideal) q old ds) (fun r d => (fun x y => A x y + ∑ j ∈ Finset.range 384, D.ds (y / 128) (R0 + j) (C0 + x) * D.q (R0 + j) y)
      (0 + r) (128 * hd + d)) :=
  (is_dkv hq ho hds).congr fun r d hr hd' => by
    have e : (128 * hd + d) / 128 = hd := by omega
    beta_reduce
    rw [e, Nat.zero_add]

/-- What a tile adds to the values' gradient. -/
theorem is_dv_tile {o : FVec Ideal S384x128 .bf16} {old : FVec Ideal S384x128 .f32} {p : FVec Ideal S1x384x384 .bf16} {A : ℕ → ℕ → ℝ}
    (hq : Is2 o fun r d => D.o (R0 + r) (128 * hd + d)) (ho : Is2 old fun r d => A (0 + r) (128 * hd + d))
    (hp : Is3 p fun r c => D.pr hd (R0 + r) (C0 + c)) :
    Is2 (k0_pay2 (F := Ideal) o old p) (fun r d => (fun x y => A x y + ∑ j ∈ Finset.range 384, D.pr (y / 128) (R0 + j) (C0 + x) * D.o (R0 + j) y)
      (0 + r) (128 * hd + d)) :=
  (is_dkv hq ho hp).congr fun r d hr hd' => by
    have e : (128 * hd + d) / 128 = hd := by omega
    beta_reduce
    rw [e, Nat.zero_add]

end Pieces

end Cert.KernelIdeal.Hand
-- ==== Proof.Value.Attn.lean ====
/-
  Hand-written, untrusted. The attention's gradient over the reals, and the kernel's tables of it.
-/
module

public import proofs.«01_k».proof.Proof.Value.Slots
public import proofs.«01_k».proof.Proof.Value.Pair

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The attention's operands: rows, heads, lanes; `o` is the cotangent of its result. -/
structure Attn where
  q : ℕ → ℕ → ℕ → ℝ
  k : ℕ → ℕ → ℕ → ℝ
  v : ℕ → ℕ → ℕ → ℝ
  o : ℕ → ℕ → ℕ → ℝ

namespace Attn
variable (a : Attn)

/-- The score of a key for a query. -/
def s (h i j : ℕ) : ℝ := (∑ d ∈ Finset.range 96, a.q i h d * a.k j h d) * cScale
/-- Its exponential where the key is not after the query. -/
def w (h i j : ℕ) : ℝ := if j ≤ i then Real.exp (a.s h i j) else 0
/-- The sum of the exponentials. -/
def z (h i : ℕ) : ℝ := ∑ j ∈ Finset.range 4112, a.w h i j
/-- The weight of a key. -/
def p (h i j : ℕ) : ℝ := a.w h i j / a.z h i
/-- The gradient of a weight. -/
def dp (h i j : ℕ) : ℝ := ∑ d ∈ Finset.range 64, a.o i h d * a.v j h d
/-- The weighted sum of the gradients of a query's weights. -/
def del (h i : ℕ) : ℝ := ∑ j ∈ Finset.range 4112, a.p h i j * a.dp h i j
/-- The gradient of a score. -/
def ds (h i j : ℕ) : ℝ := a.p h i j * (a.dp h i j - a.del h i)
/-- The queries' gradient. -/
def dq (i h d : ℕ) : ℝ := (∑ j ∈ Finset.range 4112, a.ds h i j * a.k j h d) * cScale
/-- The keys' gradient. -/
def dk (j h d : ℕ) : ℝ := (∑ i ∈ Finset.range 4112, a.ds h i j * a.q i h d) * cScale
/-- The values' gradient. -/
def dv (j h d : ℕ) : ℝ := ∑ i ∈ Finset.range 4112, a.p h i j * a.o i h d

theorem w_nonneg (h i j : ℕ) : 0 ≤ a.w h i j := by
  unfold w; split_ifs <;> positivity

theorem z_pos (h i : ℕ) (hi : i < 4112) : 0 < a.z h i :=
  Finset.sum_pos' (fun j _ => a.w_nonneg h i j) ⟨i, Finset.mem_range.mpr hi, by unfold w; rw [if_pos le_rfl]; positivity⟩

/-- The exponentials shifted by `M`. -/
def e (M : ℕ → ℕ → ℝ) (h i j : ℕ) : ℝ := if j ≤ i then Real.exp (a.s h i j - M h i) else 0

theorem e_eq (M : ℕ → ℕ → ℝ) (h i j : ℕ) : a.e M h i j = a.w h i j * Real.exp (-M h i) := by
  unfold e w
  split_ifs
  · rw [← Real.exp_add]; rfl
  · rw [zero_mul]

theorem e_sum (M : ℕ → ℕ → ℝ) (h i : ℕ) : ∑ j ∈ Finset.range 4112, a.e M h i j = a.z h i * Real.exp (-M h i) := by
  rw [z, Finset.sum_mul]
  exact Finset.sum_congr rfl fun j _ => a.e_eq M h i j

theorem e_sum_pos (M : ℕ → ℕ → ℝ) (h i : ℕ) (hi : i < 4112) : 0 < ∑ j ∈ Finset.range 4112, a.e M h i j := by
  rw [e_sum]
  exact mul_pos (a.z_pos h i hi) (Real.exp_pos _)

/-- A shift of the scores does not change the weights. -/
theorem e_div (M : ℕ → ℕ → ℝ) (h i j : ℕ) : a.e M h i j / ∑ j ∈ Finset.range 4112, a.e M h i j = a.p h i j := by
  rw [e_sum, e_eq, p, mul_div_mul_right _ _ (Real.exp_pos _).ne']

/-- A shift of the scores does not change the logarithm of the sum of their exponentials. -/
theorem lse_eq (M : ℕ → ℕ → ℝ) (h i : ℕ) (hi : i < 4112) : M h i + Real.log (∑ j ∈ Finset.range 4112, a.e M h i j) = Real.log (a.z h i) := by
  rw [e_sum, Real.log_mul (a.z_pos h i hi).ne' (Real.exp_pos _).ne', Real.log_exp]
  ring

/-- The row sums of the result times its cotangent. -/
theorem del_eq (h i : ℕ) : ∑ d ∈ Finset.range 64, a.o i h d * ∑ j ∈ Finset.range 4112, a.p h i j * a.v j h d = a.del h i := by
  simp only [del, dp, Finset.mul_sum]
  rw [Finset.sum_comm]
  exact Finset.sum_congr rfl fun j _ => Finset.sum_congr rfl fun d _ => by ring

/-- The kernel's power of two. -/
theorem pow_eq (h i j : ℕ) (hi : i < 4112) (hj : j ≤ i) (t : ℝ) (ht : t * cScale = a.s h i j) :
    Real.rpow 2 (t * cExp - Real.log (a.z h i) * cLog) = a.p h i j := by
  have h2 : Real.log 2 ≠ 0 := (Real.log_pos (by norm_num)).ne'
  have e : t * cExp - Real.log (a.z h i) * cLog = (a.s h i j - Real.log (a.z h i)) / Real.log 2 := by
    rw [← ht, cExp, cLog, cScale]
    field_simp
  rw [e]
  show (2 : ℝ) ^ ((a.s h i j - Real.log (a.z h i)) / Real.log 2) = _
  rw [Real.rpow_def_of_pos (by norm_num), mul_div_cancel₀ _ h2, Real.exp_sub, Real.exp_log (a.z_pos h i hi), p, w, if_pos hj]

/-- A statistic under 112 rows of zeros. -/
def padded (L : ℕ → ℕ → ℝ) (h r : ℕ) : ℝ := if 112 ≤ r then L h (r - 112) else 0

/-- The operands of a pair of heads as the kernel reads them; `vv` is the values' table. -/
def pair (vv : ℕ → ℕ → ℝ) (g : ℕ) : Pair where
  q r y := slotted 96 a.q r (256 * g + y)
  k r y := slotted 96 a.k r (256 * g + y)
  v r y := vv r (256 * g + y)
  o r y := slotted 64 a.o r (256 * g + y)
  lse h r := padded (fun h i => Real.log (a.z h i)) (2 * g + h) r
  del h r := padded a.del (2 * g + h) r

theorem slotted_at (n : ℕ) (hn : n ≤ 128) (x : ℕ → ℕ → ℕ → ℝ) (g h i d : ℕ) (hh : h < 2) (hd : d < 128) :
    slotted n x (112 + i) (256 * g + (128 * h + d)) = if d < n then x i (2 * g + h) d else 0 := by
  rw [slotted, show (256 * g + (128 * h + d)) % 128 = d by omega, show (256 * g + (128 * h + d)) / 128 = 2 * g + h by omega,
    show 112 + i - 112 = i by omega]
  simp

theorem slotted_low (n : ℕ) (x : ℕ → ℕ → ℕ → ℝ) (r y : ℕ) (hr : r < 112) : slotted n x r y = 0 := by
  rw [slotted, if_neg (by omega)]

/-- A sum over a slot whose terms past `n` are nought. -/
theorem sum_slot (n : ℕ) (hn : n ≤ 128) (f : ℕ → ℝ) : ∑ d ∈ Finset.range 128, (if d < n then f d else 0) = ∑ d ∈ Finset.range n, f d := by
  rw [← Finset.sum_filter]
  congr 1
  ext d
  simp only [Finset.mem_filter, Finset.mem_range]
  omega

variable (vv : ℕ → ℕ → ℝ) (hv : ∀ r y, r < 4224 → y < 2048 → y % 128 < 64 → vv r y = slotted 64 a.v r y) (g : ℕ) (hg : g < 8)

theorem pair_sc (h i j : ℕ) (hh : h < 2) : (a.pair vv g).sc h (112 + i) (112 + j) = ∑ d ∈ Finset.range 96, a.q i (2 * g + h) d * a.k j (2 * g + h) d := by
  rw [← sum_slot 96 (by decide)]
  refine Finset.sum_congr rfl fun d hd => ?_
  have hd' := Finset.mem_range.mp hd
  show slotted 96 a.q _ _ * slotted 96 a.k _ _ = _
  rw [slotted_at 96 (by decide) _ _ _ _ _ hh hd', slotted_at 96 (by decide) _ _ _ _ _ hh hd']
  split_ifs <;> simp

include hv hg in
theorem pair_dp (h i j : ℕ) (hh : h < 2) (hj : j < 4112) : (a.pair vv g).dp h (112 + i) (112 + j) = a.dp (2 * g + h) i j := by
  unfold dp
  rw [← sum_slot 64 (by decide)]
  refine Finset.sum_congr rfl fun d hd => ?_
  have hd' := Finset.mem_range.mp hd
  show slotted 64 a.o _ _ * vv _ _ = _
  rw [slotted_at 64 (by decide) _ _ _ _ _ hh hd']
  split_ifs with hlt
  · rw [hv _ _ (by omega) (by omega) (by omega), slotted_at 64 (by decide) _ _ _ _ _ hh hd', if_pos hlt]
  · rw [zero_mul]

theorem pair_pr (h i j : ℕ) (hh : h < 2) (hi : i < 4112) : (a.pair vv g).pr h (112 + i) (112 + j) = a.p (2 * g + h) i j := by
  unfold Pair.pr
  by_cases hj : j ≤ i
  · rw [if_pos (show Pair.vis _ _ from ⟨by omega, Or.inl (by omega)⟩)]
    unfold Pair.raw
    rw [pair_sc a vv g h i j hh, show (a.pair vv g).lse h (112 + i) = Real.log (a.z (2 * g + h) i) by
      show padded (fun h i => Real.log (a.z h i)) (2 * g + h) (112 + i) = _
      rw [padded, if_pos (by omega), show 112 + i - 112 = i by omega]]
    exact a.pow_eq _ _ _ hi hj _ rfl
  · rw [if_neg (fun hc : Pair.vis _ _ => hj (by have := hc.1; omega)), p, w, if_neg hj, zero_div]

theorem pair_pr_low (h i c : ℕ) (hc : c < 112) : (a.pair vv g).pr h (112 + i) c = 0 := by
  unfold Pair.pr
  rw [if_neg (fun hv : Pair.vis _ _ => by rcases hv.2 with h | h <;> omega)]

theorem pair_pr_top (h r j : ℕ) (hr : r < 112) : (a.pair vv g).pr h r (112 + j) = 0 := by
  unfold Pair.pr
  rw [if_neg (fun hv : Pair.vis _ _ => by have := hv.1; omega)]

include hv hg in
theorem pair_ds (h i j : ℕ) (hh : h < 2) (hi : i < 4112) (hj : j < 4112) : (a.pair vv g).ds h (112 + i) (112 + j) = a.ds (2 * g + h) i j := by
  unfold Pair.ds
  rw [pair_pr a vv g h i j hh hi, pair_dp a vv hv g hg h i j hh hj, show (a.pair vv g).del h (112 + i) = a.del (2 * g + h) i by
      show padded a.del (2 * g + h) (112 + i) = _
      rw [padded, if_pos (by omega), show 112 + i - 112 = i by omega]]
  rfl

theorem pair_ds_low (h i c : ℕ) (hc : c < 112) : (a.pair vv g).ds h (112 + i) c = 0 := by
  unfold Pair.ds
  rw [pair_pr_low a vv g h i c hc, zero_mul]

theorem pair_ds_top (h r j : ℕ) (hr : r < 112) : (a.pair vv g).ds h r (112 + j) = 0 := by
  unfold Pair.ds
  rw [pair_pr_top a vv g h r j hr, zero_mul]

/-- A sum over the rows, past the padding. -/
theorem sum_rows (f : ℕ → ℝ) (h0 : ∀ r, r < 112 → f r = 0) : ∑ r ∈ Finset.range 4224, f r = ∑ i ∈ Finset.range 4112, f (112 + i) := by
  rw [show (4224 : ℕ) = 112 + 4112 by norm_num, Finset.sum_range_add, Finset.sum_eq_zero (fun r hr => h0 r (Finset.mem_range.mp hr)), zero_add]

/-- A row past the padding, and a lane of a pair, by head and lane. -/
theorem slot_cases (n : ℕ) (hn : n ≤ 128) (x : ℕ → ℕ → ℕ → ℝ) (r y : ℕ) (hy : y < 256) (T : ℝ)
    (h1 : r < 112 → T = 0) (h2 : ∀ i h d, r = 112 + i → h < 2 → d < 128 → y = 128 * h + d → n ≤ d → T = 0)
    (h3 : ∀ i h d, r = 112 + i → h < 2 → d < n → y = 128 * h + d → T = x i (2 * g + h) d) : T = slotted n x r (256 * g + y) := by
  by_cases hr : r < 112
  · rw [slotted_low n x r _ hr, h1 hr]
  · obtain ⟨i, rfl⟩ : ∃ i, r = 112 + i := ⟨r - 112, by omega⟩
    have hy' : y = 128 * (y / 128) + y % 128 := by omega
    have hh : y / 128 < 2 := by omega
    have hd : y % 128 < 128 := by omega
    conv_rhs => rw [hy', slotted_at n hn x g (y / 128) i (y % 128) hh hd]
    split_ifs with hl
    · exact h3 _ _ _ rfl hh hl hy'
    · exact h2 _ _ _ rfl hh hd hy' (by omega)

theorem lane_head (h d : ℕ) (hd : d < 128) : (128 * h + d) / 128 = h := by omega

include hv hg in
/-- The kernel's table of the queries' gradient. -/
theorem pair_dq (x y : ℕ) (hx : x < 4224) (hy : y < 256) :
    (∑ c ∈ Finset.range 4224, (a.pair vv g).ds (y / 128) x c * (a.pair vv g).k c y) * cScale = slotted 96 a.dq x (256 * g + y) := by
  rw [sum_rows _ fun r hr => by
    show _ * slotted 96 a.k _ _ = 0
    rw [slotted_low 96 _ _ _ hr, mul_zero]]
  refine slot_cases g 96 (by decide) a.dq x y hy _ (fun hr => ?_) (fun i h d e hh hd ey hl => ?_) fun i h d e hh hd ey => ?_
  · rw [Finset.sum_eq_zero (fun j _ => by rw [pair_ds_top a vv g _ _ _ hr, zero_mul]), zero_mul]
  · rw [Finset.sum_eq_zero (fun j _ => by
      show _ * slotted 96 a.k _ _ = 0
      rw [ey, slotted_at 96 (by decide) _ _ _ _ _ hh hd, if_neg (by omega), mul_zero]), zero_mul]
  · subst e; subst ey
    rw [dq, lane_head h d (by omega)]
    refine congrArg (· * cScale) (Finset.sum_congr rfl fun j hj => ?_)
    show _ * slotted 96 a.k _ _ = _
    rw [pair_ds a vv hv g hg h i j hh (by omega) (Finset.mem_range.mp hj), slotted_at 96 (by decide) _ _ _ _ _ hh (by omega), if_pos hd]

include hv hg in
/-- The kernel's table of the keys' gradient. -/
theorem pair_dk (x y : ℕ) (hx : x < 4224) (hy : y < 256) :
    (∑ r ∈ Finset.range 4224, (a.pair vv g).ds (y / 128) r x * (a.pair vv g).q r y) * cScale = slotted 96 a.dk x (256 * g + y) := by
  rw [sum_rows _ fun r hr => by
    show _ * slotted 96 a.q _ _ = 0
    rw [slotted_low 96 _ _ _ hr, mul_zero]]
  refine slot_cases g 96 (by decide) a.dk x y hy _ (fun hr => ?_) (fun i h d e hh hd ey hl => ?_) fun i h d e hh hd ey => ?_
  · rw [Finset.sum_eq_zero (fun j _ => by rw [pair_ds_low a vv g _ _ _ hr, zero_mul]), zero_mul]
  · rw [Finset.sum_eq_zero (fun j _ => by
      show _ * slotted 96 a.q _ _ = 0
      rw [ey, slotted_at 96 (by decide) _ _ _ _ _ hh hd, if_neg (by omega), mul_zero]), zero_mul]
  · subst e; subst ey
    rw [dk, lane_head h d (by omega)]
    refine congrArg (· * cScale) (Finset.sum_congr rfl fun j hj => ?_)
    show _ * slotted 96 a.q _ _ = _
    rw [pair_ds a vv hv g hg h j i hh (Finset.mem_range.mp hj) (by omega), slotted_at 96 (by decide) _ _ _ _ _ hh (by omega), if_pos hd]

/-- The kernel's table of the values' gradient. -/
theorem pair_dv (x y : ℕ) (hx : x < 4224) (hy : y < 256) :
    ∑ r ∈ Finset.range 4224, (a.pair vv g).pr (y / 128) r x * (a.pair vv g).o r y = slotted 64 a.dv x (256 * g + y) := by
  rw [sum_rows _ fun r hr => by
    show _ * slotted 64 a.o _ _ = 0
    rw [slotted_low 64 _ _ _ hr, mul_zero]]
  refine slot_cases g 64 (by decide) a.dv x y hy _ (fun hr => ?_) (fun i h d e hh hd ey hl => ?_) fun i h d e hh hd ey => ?_
  · exact Finset.sum_eq_zero (fun j _ => by rw [pair_pr_low a vv g _ _ _ hr, zero_mul])
  · exact Finset.sum_eq_zero (fun j _ => by
      show _ * slotted 64 a.o _ _ = 0
      rw [ey, slotted_at 64 (by decide) _ _ _ _ _ hh hd, if_neg (by omega), mul_zero])
  · subst e; subst ey
    rw [dv, lane_head h d (by omega)]
    refine Finset.sum_congr rfl fun j hj => ?_
    show _ * slotted 64 a.o _ _ = _
    rw [pair_pr a vv g h j i hh (Finset.mem_range.mp hj), slotted_at 64 (by decide) _ _ _ _ _ hh (by omega), if_pos hd]

end Attn

end Cert.KernelIdeal.Hand
-- ==== Proof.Value.Soft.lean ====
/-
  Hand-written, untrusted. The softmax in the extended reals, and the host's statistics.
-/
module

public import proofs.«01_k».proof.Proof.Value.Attn

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- Reals at every pair of indices. -/
theorem table2 {a b : ℕ} (f : Fin a → Fin b → EReal) (h : ∀ i j, ∃ r : ℝ, f i j = (r : EReal)) :
    ∃ g : ℕ → ℕ → ℝ, ∀ (i : Fin a) (j : Fin b), f i j = ((g i j : ℝ) : EReal) := by
  choose r hr using h
  refine ⟨fun i j => if h : i < a ∧ j < b then r ⟨i, h.1⟩ ⟨j, h.2⟩ else 0, fun i j => ?_⟩
  show _ = (((if h : _ then _ else _ : ℝ)) : EReal)
  rw [dif_pos ⟨i.isLt, j.isLt⟩]
  exact hr i j

/-- Reals at every triple of indices. -/
theorem table3 {a b d : ℕ} (f : Fin a → Fin b → Fin d → EReal) (h : ∀ i j k, ∃ r : ℝ, f i j k = (r : EReal)) :
    ∃ g : ℕ → ℕ → ℕ → ℝ, ∀ (i : Fin a) (j : Fin b) (k : Fin d), f i j k = ((g i j k : ℝ) : EReal) := by
  choose r hr using h
  refine ⟨fun i j k => if h : i < a ∧ j < b ∧ k < d then r ⟨i, h.1⟩ ⟨j, h.2.1⟩ ⟨k, h.2.2⟩ else 0, fun i j k => ?_⟩
  show _ = (((if h : _ then _ else _ : ℝ)) : EReal)
  rw [dif_pos ⟨i.isLt, j.isLt, k.isLt⟩]
  exact hr i j k

/-- The word of minus infinity. -/
theorem bits_bot : Ideal.ofBits .f32 0xFF800000#32 = (⊥ : EReal) := by
  simp [Ideal.ofBits, Ideal.ieee]

/-- The comparison of two positions. -/
theorem pick (i j : ℕ) (hi : i < 4112) (hj : j < 4112) (x y : EReal) :
    Scalar.select (IntOp.cmpi .sle (BitVec.ofNat 32 j) (BitVec.ofNat 32 i)) x y = if j ≤ i then x else y := by
  rw [WordCmp.cmpi_sle_ofNat (w := 32) (by omega) (by omega), select_bool]

/-- The largest of finitely many scores, one of which is finite. -/
theorem fold_max {n : ℕ} (f : Fin n → EReal) (i : Fin n) (hb : f i ≠ ⊥) (ht : ∀ x, f x ≠ ⊤) :
    ∃ r : ℝ, Finset.fold max (⊥ : EReal) f Finset.univ = (r : EReal) := by
  have h1 : Finset.fold max (⊥ : EReal) f Finset.univ ≠ ⊤ :=
    ((Finset.fold_max_lt (c := ⊤)).mpr ⟨bot_lt_top, fun x _ => lt_top_iff_ne_top.mpr (ht x)⟩).ne
  have h2 : Finset.fold max (⊥ : EReal) f Finset.univ ≠ ⊥ :=
    ((Finset.lt_fold_max (c := ⊥)).mpr (Or.inr ⟨i, Finset.mem_univ i, bot_lt_iff_ne_bot.mpr hb⟩)).ne'
  exact ⟨_, (EReal.coe_toReal h1 h2).symm⟩

/-- A quotient of reals. -/
theorem div_real (x y : ℝ) (h : y ≠ 0) : Ideal.div (x : EReal) (y : EReal) = ((x / y : ℝ) : EReal) := by
  rw [Ideal.div_coe h, ← EReal.coe_mul, mul_one_div]

namespace Attn
variable (a : Attn)

/-- The masked scores. -/
def sm (h i j : ℕ) : EReal := if j ≤ i then ((a.s h i j : ℝ) : EReal) else ⊥

theorem sm_top (h i j : ℕ) : a.sm h i j ≠ ⊤ := by
  unfold sm
  split_ifs
  · exact EReal.coe_ne_top _
  · exact bot_ne_top

theorem sm_self (h i : ℕ) : a.sm h i i ≠ ⊥ := by
  unfold sm
  rw [if_pos le_rfl]
  exact EReal.coe_ne_bot _

/-- The largest masked score of a query. -/
theorem sm_max (h : ℕ) (i : Fin 4112) (f : Fin 4112 → EReal) (hf : ∀ j, f j = a.sm h i j) :
    ∃ r : ℝ, Finset.fold max (⊥ : EReal) f Finset.univ = (r : EReal) :=
  fold_max f i (by rw [hf]; exact a.sm_self h i) fun x => by rw [hf]; exact a.sm_top h i x

/-- A masked score less a real, exponentiated. -/
theorem sm_exp (M : ℕ → ℕ → ℝ) (h i j : ℕ) : Ideal.exp (a.sm h i j - ((M h i : ℝ) : EReal)) = ((a.e M h i j : ℝ) : EReal) := by
  unfold sm e
  split_ifs
  · rw [← EReal.coe_sub]; rfl
  · rw [EReal.bot_sub]; rfl

end Attn

variable {a : Attn} {X0 X1 : FVec Ideal S1x4112x16x96 .f32} {X2 X3 : FVec Ideal S1x4112x16x64 .f32}

theorem is_hS (hq : Is4 X0 a.q) (hk : Is4 X1 a.k) (h : Fin 16) (i j : Fin 4112) : hS X0 X1 (ix3 h i j) = a.sm h i j := by
  pointwise [hS]
  rw [pick _ _ i.isLt j.isLt, Attn.sm]
  refine if_congr Iff.rfl ?_ bits_bot
  rw [sum_coe _ (fun d => a.q i h d * a.k j h d) (fun d => by rw [hq, hk, EReal.coe_mul]), bits_scale, Attn.s, EReal.coe_mul]

theorem is_hM {S : FVec Ideal S16x4112x4112 .f32} (hS : ∀ h i j, S (ix3 h i j) = a.sm h i j) :
    ∃ Mr : ℕ → ℕ → ℝ, ∀ (h : Fin 16) (i : Fin 4112), hM S (ix3 h i 0) = ((Mr h i : ℝ) : EReal) := by
  refine table2 _ fun h i => ?_
  pointwise [hM]
  rw [bits_bot]
  exact a.sm_max h i _ fun j => hS h i j

variable {Mr : ℕ → ℕ → ℝ}

theorem is_hE {S : FVec Ideal S16x4112x4112 .f32} {Mx : FVec Ideal S16x4112x1 .f32} (hS : ∀ h i j, S (ix3 h i j) = a.sm h i j)
    (hM : ∀ (h : Fin 16) (i : Fin 4112), Mx (ix3 h i 0) = ((Mr h i : ℝ) : EReal)) (h : Fin 16) (i j : Fin 4112) :
    hE S Mx (ix3 h i j) = ((a.e Mr h i j : ℝ) : EReal) := by
  pointwise [hE]
  rw [hS, hM]
  exact a.sm_exp Mr h i j

theorem is_hL {E : FVec Ideal S16x4112x4112 .f32} (hE : ∀ (h : Fin 16) (i j : Fin 4112), E (ix3 h i j) = ((a.e Mr h i j : ℝ) : EReal))
    (h : Fin 16) (i : Fin 4112) : hL E (ix3 h i 0) = ((∑ j ∈ Finset.range 4112, a.e Mr h i j : ℝ) : EReal) := by
  pointwise [hL]
  exact sum_coe _ (fun j => a.e Mr h i j) fun j => hE h i j

theorem is_hLse {Mx Ls : FVec Ideal S16x4112x1 .f32} (hM : ∀ (h : Fin 16) (i : Fin 4112), Mx (ix3 h i 0) = ((Mr h i : ℝ) : EReal))
    (hL : ∀ (h : Fin 16) (i : Fin 4112), Ls (ix3 h i 0) = ((∑ j ∈ Finset.range 4112, a.e Mr h i j : ℝ) : EReal)) (h : Fin 16) (i : Fin 4112) :
    hLse Mx Ls (ix3 h i 0) = ((Real.log (a.z h i) : ℝ) : EReal) := by
  pointwise [hLse]
  rw [hM, hL, Ideal.log_coe, if_neg (a.e_sum_pos Mr h i i.isLt).not_ge, ← EReal.coe_add, a.lse_eq Mr h i i.isLt]

theorem is_hDel {E : FVec Ideal S16x4112x4112 .f32} {Ls : FVec Ideal S16x4112x1 .f32} (hE : ∀ (h : Fin 16) (i j : Fin 4112), E (ix3 h i j) = ((a.e Mr h i j : ℝ) : EReal))
    (hL : ∀ (h : Fin 16) (i : Fin 4112), Ls (ix3 h i 0) = ((∑ j ∈ Finset.range 4112, a.e Mr h i j : ℝ) : EReal))
    (hv : Is4 X2 a.v) (ho : Is4 X3 a.o) (h : Fin 16) (i : Fin 4112) : hDel E Ls X2 X3 (ix3 h i 0) = ((a.del h i : ℝ) : EReal) := by
  pointwise [hDel]
  rw [← a.del_eq]
  refine sum_coe _ (fun d => a.o i h d * ∑ j ∈ Finset.range 4112, a.p h i j * a.v j h d) fun d => ?_
  rw [ho, sum_coe _ (fun j => a.p h i j * a.v j h d) fun j => by
    rw [hE, hL, div_real _ _ (a.e_sum_pos Mr h i i.isLt).ne', a.e_div, hv, EReal.coe_mul], EReal.coe_mul]

/-- A statistic holds the table `L`. -/
def IsT {n b : ℕ} (x : (⟨3, ![b, n, 1]⟩ : Shape).Idx → EReal) (L : ℕ → ℕ → ℝ) : Prop :=
  ∀ (h : Fin b) (r : Fin n), x (ix3 h r 0) = ((L h r : ℝ) : EReal)

theorem is_hPad {Mx : FVec Ideal S16x4112x1 .f32} {L : ℕ → ℕ → ℝ} (hM : ∀ (h : Fin 16) (i : Fin 4112), Mx (ix3 h i 0) = ((L h i : ℝ) : EReal)) :
    IsT (hPad Mx) (Attn.padded L) := by
  intro h r
  pointwise [hPad]
  have hr := r.isLt
  rw [Attn.padded]
  by_cases hc : 112 ≤ r.val
  · rw [if_pos hc, dif_pos ⟨hc, by omega⟩]
    exact hM _ _
  · rw [if_neg hc, dif_neg (fun hh => hc hh.1)]
    exact zero_word

variable {m : (ℓ : Loc nD τ sig) → Buf (Elt Ideal) ℓ} {c : Dev nD}

/-- The arguments hold the attention's operands. -/
structure Given (m : (ℓ : Loc nD τ sig) → Buf (Elt Ideal) ℓ) (c : Dev nD) (a : Attn) : Prop where
  q : Is4 (xq m c) a.q
  k : Is4 (xk m c) a.k
  v : Is4 (xv m c) a.v
  o : Is4 (xo m c) a.o

/-- The two statistics the call reads. -/
theorem stats (G : Given m c a) :
    IsT (V m c main_v52 : FVec Ideal S16x4224x1 .f32) (Attn.padded fun h i => Real.log (a.z h i))
      ∧ IsT (V m c main_v53 : FVec Ideal S16x4224x1 .f32) (Attn.padded a.del) := by
  have hS := is_hS G.q G.k
  obtain ⟨Mr, hM⟩ := is_hM hS
  have hE := is_hE hS hM
  have hL := is_hL hE
  rw [V_main_v52, V_main_v53]
  exact ⟨is_hPad (is_hLse hM hL), is_hPad (is_hDel hE hL G.v G.o)⟩

end Cert.KernelIdeal.Hand
-- ==== Proof.Value.Finite.lean ====
/-
  Hand-written, untrusted. Arguments that are finite are arrays of reals.
-/
module

public import proofs.«01_k».proof.Proof.Value.Soft
public import proofs.«01_k».proof.Pre_finite
public import Idealize.ShloMosaic.Lib.ReduceAll

@[expose] public section

set_option maxRecDepth 16384

noncomputable section

namespace Cert.Pre_finite.Hand

open Cert.Pre_finite
open Cert.KernelIdeal.Hand (Attn Is4 table3)
open Idealize.ShloMosaic Idealize.ShloMosaic.TcCoe Idealize.ShloMosaic.Tactic

/-- The predicate's side conditions. -/
theorem facts : Cert.Pre_finite.Facts where
  bcast_S_S1x4112x16x96 := by decide
  reducesTo_S1x4112x16x96_S_d0_1_2_3 := by decide
  h_S_ := by decide
  bcast_S_S1x4112x16x64 := by decide
  reducesTo_S1x4112x16x64_S_d0_1_2_3 := by decide

/-- The word of infinity. -/
theorem bits_top : Ideal.ofBits .f32 0x7F800000#32 = (⊤ : EReal) := by
  simp [Ideal.ofBits, Ideal.ieee]

/-- A number whose magnitude is below infinity is real. -/
theorem real_of_abs (x : EReal) (h : Ideal.cmp .olt (max x (-x)) (Ideal.ofBits .f32 0x7F800000#32 : EReal) = 1#1) : ∃ r : ℝ, x = (r : EReal) := by
  rw [bits_top] at h
  have h' : max x (-x) < ⊤ := by
    by_contra hn
    simp [Ideal.cmp, hn] at h
  induction x using EReal.rec with
  | bot => simp at h'
  | top => simp at h'
  | coe r => exact ⟨r, rfl⟩

/-- A reduction by "and" of the comparisons that gives true: every entry is real. -/
theorem real_of_reduce {s : Shape} {axes : List (Fin s.rank)} (x : FVec Ideal s .f32) (hb : S_.BroadcastsInDim s (![] : Fin 0 → Fin s.rank)) (hr : s.ReducesTo axes S_)
    (hu : 0 < S_.numel) (j : S_.Idx)
    (h : Host.reduce IntOp.andi (cmpf .olt (Host.absf x) (broadcastInDim s ![] hb (constant S_ .f32 0x7F800000#32))) (constantI S_ 1 1#1) hr hu j = 1#1) (i : s.Idx) :
    ∃ r : ℝ, x i = (r : EReal) :=
  real_of_abs (x i) (Host.reduce_andi_all _ _ hr hu j h i)

/-- An array whose entries are real is a table of reals. -/
theorem is4_of_real {a b d : ℕ} (x : (⟨4, ![1, a, b, d]⟩ : Shape).Idx → EReal) (h : ∀ i, ∃ r : ℝ, x i = (r : EReal)) : ∃ q, Is4 x q :=
  table3 (fun i j k => x (ix4 0 i j k)) fun _ _ _ => h _

variable [Cert.Pre_finite.Facts]

/-- Finite arguments are tables of reals. -/
theorem tables (x0 x1 : FVec Ideal S1x4112x16x96 .f32) (x2 x3 : FVec Ideal S1x4112x16x64 .f32) (h : Cert.Pre_finite.fn (F := Ideal) x0 x1 x2 x3 = fun _ => 1#1) :
    ∃ a : Attn, Is4 x0 a.q ∧ Is4 x1 a.k ∧ Is4 x2 a.v ∧ Is4 x3 a.o := by
  have e := congrFun h (fun i => i.elim0)
  obtain ⟨e, h3⟩ := IntOp.andi_eq_one.1 e
  obtain ⟨e, h2⟩ := IntOp.andi_eq_one.1 e
  obtain ⟨h0, h1⟩ := IntOp.andi_eq_one.1 e
  obtain ⟨q, hq⟩ := is4_of_real x0 (real_of_reduce x0 _ _ _ _ h0)
  obtain ⟨k, hk⟩ := is4_of_real x1 (real_of_reduce x1 _ _ _ _ h1)
  obtain ⟨v, hv⟩ := is4_of_real x2 (real_of_reduce x2 _ _ _ _ h2)
  obtain ⟨o, ho⟩ := is4_of_real x3 (real_of_reduce x3 _ _ _ _ h3)
  exact ⟨⟨q, k, v, o⟩, hq, hk, hv, ho⟩

end Cert.Pre_finite.Hand
-- ==== Proof.Value.Reads2.lean ====
/-
  Hand-written, untrusted. A load next to a store, and the zeros the gradients start from.
-/
module

public import proofs.«01_k».proof.Proof.Value.Reads
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {κ : Kind} {sp : Space}

/-- The second head's lanes of some rows do not see a store to the first head's. -/
theorem load_skip {n : ℕ} (v : View sig κ sp ⟨2, ![n, 256]⟩ .f32) (f : v.ty.Contents (Elt Ideal)) {o0 o1 : Fin 2 → ℕ} (r0 : ℕ)
    (i0 : ∀ a, o0 a + (![384, 128] : Fin 2 → ℕ) a ≤ (![n, 256] : Fin 2 → ℕ) a) (e0 : o0 = ![r0, 0])
    (i1 : ∀ a, o1 a + (![384, 128] : Fin 2 → ℕ) a ≤ (![n, 256] : Fin 2 → ℕ) a) (e1 : o1 = ![r0, 128])
    (w0 : (⟨2, ![384, 128]⟩ : Shape).Idx → EReal) (L : List (View.Piece (Elt Ideal) ⟨2, ![n, 256]⟩ .f32)) {A : ℕ → ℕ → ℝ}
    (h : Is2 (v.read (Elt Ideal) (v.writes (Elt Ideal) f L)) A) :
    Is2 (n := 384) (m := 128) (v.readAt (Elt Ideal) (Rect.unit (s := ⟨2, ![n, 256]⟩) o1 ![384, 128] i1).toLoadRect
      (v.writes (Elt Ideal) f ((⟨Rect.unit (s := ⟨2, ![n, 256]⟩) o0 ![384, 128] i0, w0⟩ : View.Piece (Elt Ideal) ⟨2, ![n, 256]⟩ .f32) :: L)))
      (fun r d => A (r0 + r) (128 * 1 + d)) := by
  subst e0 e1
  have b0 : r0 + 384 ≤ n := i1 0
  have hs : ∀ (r : Fin n) (c : Fin 256), 128 ≤ c.val → v.read (Elt Ideal) (v.writes (Elt Ideal) f
      ((⟨Rect.unit (s := ⟨2, ![n, 256]⟩) ![r0, 0] ![384, 128] i0, w0⟩ : View.Piece (Elt Ideal) ⟨2, ![n, 256]⟩ .f32) :: L)) (ix2 r c) = ((A r c : ℝ) : EReal) :=
    fun r c hc => (View.read_writes_cons_unit_of_not_mem v f i0 w0 _ (ix2 r c) rfl 1 (.inr (by show 0 + 128 ≤ c.val; omega))).trans (h r c)
  intro r c
  have hr := r.isLt
  have hc := c.isLt
  refine Eq.trans ?_ (hs ⟨r0 + r, by omega⟩ ⟨128 * 1 + c, by omega⟩ (by show 128 ≤ 128 * 1 + c.val; omega))
  rw [View.readAt_apply]
  congr 1
  funext a
  apply Fin.ext
  fin_cases a
  · show r0 + 1 * r.val = r0 + r; omega
  · show 128 + 1 * c.val = 128 * 1 + c; omega

theorem is_zero_blk (v : View sig κ sp S384x256 .f32) (f : v.ty.Contents (Elt Ideal)) {off : Fin 2 → ℕ}
    (inb : ∀ a, off a + S384x256.size a ≤ S384x256.size a) :
    Is2 (v.read (Elt Ideal) (v.writes (Elt Ideal) f [(⟨Rect.unit (s := S384x256) off S384x256.size inb, k0_pay177 (F := Ideal)⟩ : View.Piece (Elt Ideal) S384x256 .f32)]))
      (fun _ _ => 0) := by
  rw [View.read_writes_full]
  intro r c
  pointwise [k0_pay177]
  rfl

theorem is_zero_all (v : View sig κ sp S4224x256 .f32) (f : v.ty.Contents (Elt Ideal)) {off : Fin 2 → ℕ}
    (inb : ∀ a, off a + S4224x256.size a ≤ S4224x256.size a) :
    Is2 (v.read (Elt Ideal) (v.writes (Elt Ideal) f [(⟨Rect.unit (s := S4224x256) off S4224x256.size inb, k0_pay176 (F := Ideal)⟩ : View.Piece (Elt Ideal) S4224x256 .f32)]))
      (fun _ _ => 0) := by
  rw [View.read_writes_full]
  intro r c
  pointwise [k0_pay176]
  rfl

/-- The keys' gradient scaled once, at the end. -/
theorem is_fin_store (v : View sig κ sp S384x256 .f32) (f : v.ty.Contents (Elt Ideal)) {off off' : Fin 2 → ℕ}
    (inb : ∀ a, off a + S384x256.size a ≤ S384x256.size a) (inb' : ∀ a, off' a + S384x256.size a ≤ S384x256.size a)
    (L M : List (View.Piece (Elt Ideal) S384x256 .f32)) {A : ℕ → ℕ → ℝ}
    (h : Is2 (v.read (Elt Ideal) (v.writes (Elt Ideal) f M)) A) :
    Is2 (v.read (Elt Ideal) (v.writes (Elt Ideal) f ((⟨Rect.unit (s := S384x256) off S384x256.size inb,
      k0_pay7 (F := Ideal) (v.readAt (Elt Ideal) (Rect.unit (s := S384x256) off' S384x256.size inb').toLoadRect (v.writes (Elt Ideal) f M))⟩ : View.Piece (Elt Ideal) S384x256 .f32) :: L)))
      (fun r c => A r c * cScale) := by
  rw [View.read_writes_full, View.readAt_full]
  exact is_fin h

end Cert.KernelIdeal.Hand
-- ==== Proof.Value.Trip1.lean ====
/-
  Hand-written, untrusted. One trip of the loop below the diagonal of the first key block: what it adds to the three gradients.
-/
module

public import proofs.«01_k».proof.Proof.Value.Pair
public import proofs.«01_k».proof.Proof.KernelIdeal.Trip1

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (c : Dev nD) (i : grid0.Coords) (arg2 : Memref sig .tc .vmem S4224x256 .bf16) (harg2 : arg2.IsWhole) (arg3 : Memref sig .tc .vmem S384x256 .bf16) (harg3 : arg3.IsWhole) (arg4 : Memref sig .tc .vmem S384x256 .bf16) (harg4 : arg4.IsWhole) (arg5 : Memref sig .tc .vmem S4224x256 .bf16) (harg5 : arg5.IsWhole) (arg6 : Memref sig .tc .vmem S2x4224x1 .f32) (harg6 : arg6.IsWhole) (arg7 : Memref sig .tc .vmem S2x4224x1 .f32) (harg7 : arg7.IsWhole) (arg8 : Memref sig .tc .vmem S4224x256 .f32) (harg8 : arg8.IsWhole) (arg9 : Memref sig .tc .vmem S384x256 .f32) (harg9 : arg9.IsWhole) (arg10 : Memref sig .tc .vmem S384x256 .f32) (harg10 : arg10.IsWhole) (arg11 : Memref sig .tc .vmem S2x384x384 .f32) (harg11 : arg11.IsWhole) (arg12 : Memref sig .tc .vmem S2x384x384 .f32) (harg12 : arg12.IsWhole) (arg13 : Memref sig .tc .vmem S2x384x384 .bf16) (harg13 : arg13.IsWhole) (arg14 : Memref sig .tc .vmem S2x384x384 .bf16) (harg14 : arg14.IsWhole)
  (n : ℕ) (hn : n < 11) (v8 : BitVec 32) (v188 : FVec Ideal S384x128 .bf16) (v191 : FVec Ideal S384x128 .bf16) (v193 : FVec Ideal S384x128 .bf16) (k0_h2 : k0_cond2 i = 1#1) (v374 : BitVec 32) (k : Fin (k0_t1_loop i).trips)
  (f2 : Ct (F := Ideal) c arg2) (f3 : Ct (F := Ideal) c arg3) (f4 : Ct (F := Ideal) c arg4) (f5 : Ct (F := Ideal) c arg5) (f6 : Ct (F := Ideal) c arg6) (f7 : Ct (F := Ideal) c arg7) (f8 : Ct (F := Ideal) c arg8) (f9 : Ct (F := Ideal) c arg9) (f10 : Ct (F := Ideal) c arg10)
  (D : Pair) (R0 C0 : ℕ) (hR : R0 = 384 * (i 1).val + 384 * k.val + 384)
  (h2 : Is2 (arg2.view.read (Elt Ideal) f2) D.q) (h3 : Is2 (arg3.view.read (Elt Ideal) f3) fun r d => D.k (C0 + r) d)
  (h4 : Is2 (arg4.view.read (Elt Ideal) f4) fun r d => D.v (C0 + r) d) (h5 : Is2 (arg5.view.read (Elt Ideal) f5) D.o)
  (h6 : IsH (arg6.view.read (Elt Ideal) f6) D.lse) (h7 : IsH (arg7.view.read (Elt Ideal) f7) D.del)
  (hC : C0 = 384 * n) (hv : C0 + 384 ≤ R0)

section
include hR

theorem t1_off5 : k0_off5 i k = ![R0, 0] := by rw [k0_off5_eq, hR]
theorem t1_off7 : k0_off7 i k = ![R0, 128] := by rw [k0_off7_eq, hR]
theorem t1_off6 : k0_off6 i k = ![0, R0, 0] := by rw [k0_off6_eq, hR]
theorem t1_off8 : k0_off8 i k = ![1, R0, 0] := by rw [k0_off8_eq, hR]

end

section
include hn hC hR h2 h3 h6 hv in
/-- The weights of the trip's tile, head 0. -/
theorem t1_p0 : Is3 (trip1.sl.v514 (F := Ideal) c i arg2 arg3 arg6 arg11 arg13 (BitVec.ofNat 32 n) k0_h2 k f2 f3 f6) fun r x => D.pr 0 (R0 + r) (C0 + x) := by
  have hq := load_rows arg2.view f2 (k0_off5_inb i k k0_h2) R0 0 (t1_off5 i k R0 hR) h2
  have hk := load_blk arg3.view f3 (off := ![0, 0]) (by decide +kernel) C0 0 rfl h3
  have hs := is_sc D 0 R0 C0 hq hk
  have hl := load_col arg6.view f6 (k0_off6_inb i k k0_h2) R0 0 (t1_off6 i k R0 hR) h6
  have hr := fun o inb inb' L ho => is_pr_first D 0 o R0 C0 n hn hC hv ho (is_raw D arg11.view 0 o R0 C0 inb inb' L hs hl)
  exact is_head_of_strips arg13.view 0 _ _ _ _ _ _ _ _ (G := fun r x => D.pr 0 (R0 + r) (C0 + x))
    (is_strip (hr 0 _ _ _ (by decide))) (is_strip (hr 128 _ _ _ (by decide))) (is_strip (hr 256 _ _ _ (by decide)))

include hn hC h4 h5 h7 hR h2 h3 h6 hv in
/-- The gradient of the scores of the trip's tile, head 0. -/
theorem t1_ds0 : Is3 (trip1.sl.v504 (F := Ideal) c i arg2 arg3 arg4 arg5 arg6 arg7 arg11 arg12 arg14 (BitVec.ofNat 32 n) k0_h2 k f2 f3 f4 f5 f6 f7) fun r x => D.ds 0 (R0 + r) (C0 + x) := by
  have hq := load_rows arg2.view f2 (k0_off5_inb i k k0_h2) R0 0 (t1_off5 i k R0 hR) h2
  have hk := load_blk arg3.view f3 (off := ![0, 0]) (by decide +kernel) C0 0 rfl h3
  have hs := is_sc D 0 R0 C0 hq hk
  have hl := load_col arg6.view f6 (k0_off6_inb i k k0_h2) R0 0 (t1_off6 i k R0 hR) h6
  have hr := fun o inb inb' L ho => is_pr_first D 0 o R0 C0 n hn hC hv ho (is_raw D arg11.view 0 o R0 C0 inb inb' L hs hl)
  have ho := load_rows arg5.view f5 (k0_off5_inb i k k0_h2) R0 0 (t1_off5 i k R0 hR) h5
  have hvv := load_blk arg4.view f4 (off := ![0, 0]) (by decide +kernel) C0 0 rfl h4
  have he := is_dp D 0 R0 C0 ho hvv
  have hd := load_col arg7.view f7 (k0_off6_inb i k k0_h2) R0 0 (t1_off6 i k R0 hR) h7
  have hr' := fun o inb inb' L a b M ho => is_ds_strip D arg12.view 0 o R0 C0 a b M he hd (hr o inb inb' L ho)
  exact is_head_of_strips arg14.view 0 _ _ _ _ _ _ _ _ (G := fun r x => D.ds 0 (R0 + r) (C0 + x))
    (hr' 0 _ _ _ _ _ _ (by decide)) (hr' 128 _ _ _ _ _ _ (by decide)) (hr' 256 _ _ _ _ _ _ (by decide))
end

section
include hn hC hR h2 h3 h6 hv in
/-- The weights of the trip's tile, head 1. -/
theorem t1_p1 : Is3 (trip1.sl.v658 (F := Ideal) c i arg2 arg3 arg6 arg11 arg13 (BitVec.ofNat 32 n) k0_h2 k f2 f3 f6) fun r x => D.pr 1 (R0 + r) (C0 + x) := by
  have hq := load_rows arg2.view f2 (k0_off7_inb i k k0_h2) R0 1 (t1_off7 i k R0 hR) h2
  have hk := load_blk arg3.view f3 (off := ![0, 128]) (by decide +kernel) C0 1 rfl h3
  have hs := is_sc D 1 R0 C0 hq hk
  have hl := load_col arg6.view f6 (k0_off8_inb i k k0_h2) R0 1 (t1_off8 i k R0 hR) h6
  have hr := fun o inb inb' L ho => is_pr_first D 1 o R0 C0 n hn hC hv ho (is_raw D arg11.view 1 o R0 C0 inb inb' L hs hl)
  exact is_head_of_strips arg13.view 1 _ _ _ _ _ _ _ _ (G := fun r x => D.pr 1 (R0 + r) (C0 + x))
    (is_strip (hr 0 _ _ _ (by decide))) (is_strip (hr 128 _ _ _ (by decide))) (is_strip (hr 256 _ _ _ (by decide)))

include hn hC h4 h5 h7 hR h2 h3 h6 hv in
/-- The gradient of the scores of the trip's tile, head 1. -/
theorem t1_ds1 : Is3 (trip1.sl.v648 (F := Ideal) c i arg2 arg3 arg4 arg5 arg6 arg7 arg11 arg12 arg14 (BitVec.ofNat 32 n) k0_h2 k f2 f3 f4 f5 f6 f7) fun r x => D.ds 1 (R0 + r) (C0 + x) := by
  have hq := load_rows arg2.view f2 (k0_off7_inb i k k0_h2) R0 1 (t1_off7 i k R0 hR) h2
  have hk := load_blk arg3.view f3 (off := ![0, 128]) (by decide +kernel) C0 1 rfl h3
  have hs := is_sc D 1 R0 C0 hq hk
  have hl := load_col arg6.view f6 (k0_off8_inb i k k0_h2) R0 1 (t1_off8 i k R0 hR) h6
  have hr := fun o inb inb' L ho => is_pr_first D 1 o R0 C0 n hn hC hv ho (is_raw D arg11.view 1 o R0 C0 inb inb' L hs hl)
  have ho := load_rows arg5.view f5 (k0_off7_inb i k k0_h2) R0 1 (t1_off7 i k R0 hR) h5
  have hvv := load_blk arg4.view f4 (off := ![0, 128]) (by decide +kernel) C0 1 rfl h4
  have he := is_dp D 1 R0 C0 ho hvv
  have hd := load_col arg7.view f7 (k0_off8_inb i k k0_h2) R0 1 (t1_off8 i k R0 hR) h7
  have hr' := fun o inb inb' L a b M ho => is_ds_strip D arg12.view 1 o R0 C0 a b M he hd (hr o inb inb' L ho)
  exact is_head_of_strips arg14.view 1 _ _ _ _ _ _ _ _ (G := fun r x => D.ds 1 (R0 + r) (C0 + x))
    (hr' 0 _ _ _ _ _ _ (by decide)) (hr' 128 _ _ _ _ _ _ (by decide)) (hr' 256 _ _ _ _ _ _ (by decide))
end

section
include hn hC hR h2 h3 h4 h5 h6 h7 hv

/-- What the trip leaves in the queries' gradient. -/
theorem t1_dq {A : ℕ → ℕ → ℝ} (h8 : Is2 (arg8.view.read (Elt Ideal) f8) A) :
    Is2 (arg8.view.read (Elt Ideal) (arg8.view.writes (Elt Ideal) f8 (trip1 (F := Ideal) c i arg2 harg2 arg3 harg3 arg4 harg4 arg5 harg5 arg6 harg6 arg7 harg7 arg8 harg8 arg9 harg9 arg10 harg10 arg11 harg11 arg12 harg12 arg13 harg13 arg14 harg14 (BitVec.ofNat 32 n) v8 v188 v191 v193 k0_h2 v374 k f2 f3 f4 f5 f6 f7 f8 f9 f10).1.1))
      (fun x y => if R0 ≤ x ∧ x < R0 + 384 then A x y + (∑ j ∈ Finset.range 384, D.ds (y / 128) x (C0 + j) * D.k (C0 + j) y) * cScale else A x y) := by
  unfold trip1
  exact is_store arg8.view f8 R0 _ (t1_off5 i k R0 hR) _ (t1_off7 i k R0 hR) _ _ []
    (is_dq_tile D 0 R0 C0 (is_cast <| load_blk arg3.view f3 (off := ![0, 0]) (by decide +kernel) C0 0 rfl h3) (load_rows32 arg8.view f8 (k0_off5_inb i k k0_h2) R0 0 (t1_off5 i k R0 hR) h8) (t1_ds0 c i arg2 arg3 arg4 arg5 arg6 arg7 arg11 arg12 arg14 n hn k0_h2 k f2 f3 f4 f5 f6 f7 D R0 C0 hR h2 h3 h4 h5 h6 h7 hC hv))
    (is_dq_tile D 1 R0 C0 (is_cast <| load_blk arg3.view f3 (off := ![0, 128]) (by decide +kernel) C0 1 rfl h3) (load_rows32 arg8.view f8 (k0_off7_inb i k k0_h2) R0 1 (t1_off7 i k R0 hR) h8) (t1_ds1 c i arg2 arg3 arg4 arg5 arg6 arg7 arg11 arg12 arg14 n hn k0_h2 k f2 f3 f4 f5 f6 f7 D R0 C0 hR h2 h3 h4 h5 h6 h7 hC hv)) h8

/-- What the trip leaves in the keys' gradient. -/
theorem t1_dk {A : ℕ → ℕ → ℝ} (h9 : Is2 (arg9.view.read (Elt Ideal) f9) A) :
    Is2 (arg9.view.read (Elt Ideal) (arg9.view.writes (Elt Ideal) f9 (trip1 (F := Ideal) c i arg2 harg2 arg3 harg3 arg4 harg4 arg5 harg5 arg6 harg6 arg7 harg7 arg8 harg8 arg9 harg9 arg10 harg10 arg11 harg11 arg12 harg12 arg13 harg13 arg14 harg14 (BitVec.ofNat 32 n) v8 v188 v191 v193 k0_h2 v374 k f2 f3 f4 f5 f6 f7 f8 f9 f10).1.2.1))
      (fun x y => A x y + ∑ j ∈ Finset.range 384, D.ds (y / 128) (R0 + j) (C0 + x) * D.q (R0 + j) y) := by
  unfold trip1
  exact (is_store arg9.view f9 0 _ rfl _ rfl _ _ []
    (is_dk_tile D 0 R0 C0 (is_cast <| load_rows arg2.view f2 (k0_off5_inb i k k0_h2) R0 0 (t1_off5 i k R0 hR) h2) (load_blk32 arg9.view f9 (off := ![0, 0]) (by decide +kernel) 0 rfl h9) (t1_ds0 c i arg2 arg3 arg4 arg5 arg6 arg7 arg11 arg12 arg14 n hn k0_h2 k f2 f3 f4 f5 f6 f7 D R0 C0 hR h2 h3 h4 h5 h6 h7 hC hv))
    (is_dk_tile D 1 R0 C0 (is_cast <| load_rows arg2.view f2 (k0_off7_inb i k k0_h2) R0 1 (t1_off7 i k R0 hR) h2) (load_blk32 arg9.view f9 (off := ![0, 128]) (by decide +kernel) 1 rfl h9) (t1_ds1 c i arg2 arg3 arg4 arg5 arg6 arg7 arg11 arg12 arg14 n hn k0_h2 k f2 f3 f4 f5 f6 f7 D R0 C0 hR h2 h3 h4 h5 h6 h7 hC hv)) h9).congr
      fun r y hr _ => if_pos ⟨Nat.zero_le _, by omega⟩

/-- What the trip leaves in the values' gradient. -/
theorem t1_dv {A : ℕ → ℕ → ℝ} (h10 : Is2 (arg10.view.read (Elt Ideal) f10) A) :
    Is2 (arg10.view.read (Elt Ideal) (arg10.view.writes (Elt Ideal) f10 (trip1 (F := Ideal) c i arg2 harg2 arg3 harg3 arg4 harg4 arg5 harg5 arg6 harg6 arg7 harg7 arg8 harg8 arg9 harg9 arg10 harg10 arg11 harg11 arg12 harg12 arg13 harg13 arg14 harg14 (BitVec.ofNat 32 n) v8 v188 v191 v193 k0_h2 v374 k f2 f3 f4 f5 f6 f7 f8 f9 f10).1.2.2))
      (fun x y => A x y + ∑ j ∈ Finset.range 384, D.pr (y / 128) (R0 + j) (C0 + x) * D.o (R0 + j) y) := by
  unfold trip1
  exact (is_store arg10.view f10 0 _ rfl _ rfl _ _ []
    (is_dv_tile D 0 R0 C0 (is_cast <| load_rows arg5.view f5 (k0_off5_inb i k k0_h2) R0 0 (t1_off5 i k R0 hR) h5) (load_blk32 arg10.view f10 (off := ![0, 0]) (by decide +kernel) 0 rfl h10) (t1_p0 c i arg2 arg3 arg6 arg11 arg13 n hn k0_h2 k f2 f3 f6 D R0 C0 hR h2 h3 h6 hC hv))
    (is_dv_tile D 1 R0 C0 (is_cast <| load_rows arg5.view f5 (k0_off7_inb i k k0_h2) R0 1 (t1_off7 i k R0 hR) h5) (load_blk32 arg10.view f10 (off := ![0, 128]) (by decide +kernel) 1 rfl h10) (t1_p1 c i arg2 arg3 arg6 arg11 arg13 n hn k0_h2 k f2 f3 f6 D R0 C0 hR h2 h3 h6 hC hv)) h10).congr
      fun r y hr _ => if_pos ⟨Nat.zero_le _, by omega⟩

end

end Cert.KernelIdeal.Hand
-- ==== Proof.Value.Tables.lean ====
/-
  Hand-written, untrusted. The three gradients after some of the query blocks of one key block, as tables of reals.
-/
module

public import proofs.«01_k».proof.Proof.Value.Pair

@[expose] public section

set_option maxRecDepth 16384

noncomputable section

namespace Cert.KernelIdeal.Hand

namespace Pair

variable (D : Pair) (A : ℕ → ℕ → ℝ) (C0 : ℕ)

/-- What one key block adds to row `x` of the queries' gradient. -/
def addQ (x y : ℕ) : ℝ := (∑ j ∈ Finset.range 384, D.ds (y / 128) x (C0 + j) * D.k (C0 + j) y) * cScale

/-- The queries' gradient after the rows from `a` to `a + m`. -/
def tabQ (a m : ℕ) (x y : ℕ) : ℝ := if a ≤ x ∧ x < a + m then A x y + D.addQ C0 x y else A x y

/-- The keys' gradient after the rows from `a` to `a + m`, not yet scaled. -/
def tabK (a m : ℕ) (x y : ℕ) : ℝ := A x y + ∑ j ∈ Finset.range m, D.ds (y / 128) (a + j) (C0 + x) * D.q (a + j) y

/-- The values' gradient after the rows from `a` to `a + m`. -/
def tabV (a m : ℕ) (x y : ℕ) : ℝ := A x y + ∑ j ∈ Finset.range m, D.pr (y / 128) (a + j) (C0 + x) * D.o (a + j) y

theorem tabQ_zero (a : ℕ) : D.tabQ A C0 a 0 = A := by
  funext x y; rw [tabQ, if_neg (by omega)]

theorem tabK_zero (a : ℕ) : D.tabK A C0 a 0 = A := by
  funext x y; rw [tabK, Finset.sum_range_zero, add_zero]

theorem tabV_zero (a : ℕ) : D.tabV A C0 a 0 = A := by
  funext x y; rw [tabV, Finset.sum_range_zero, add_zero]

theorem tabQ_add (a m l : ℕ) : D.tabQ (D.tabQ A C0 a m) C0 (a + m) l = D.tabQ A C0 a (m + l) := by
  funext x y
  unfold tabQ
  by_cases h1 : a ≤ x ∧ x < a + m
  · rw [if_neg (by omega), if_pos h1, if_pos (by omega)]
  · by_cases h2 : a + m ≤ x ∧ x < a + m + l
    · rw [if_pos h2, if_neg h1, if_pos (by omega)]
    · rw [if_neg h2, if_neg h1, if_neg (by omega)]

theorem tabK_add (a m l : ℕ) : D.tabK (D.tabK A C0 a m) C0 (a + m) l = D.tabK A C0 a (m + l) := by
  funext x y
  unfold tabK
  rw [Finset.sum_range_add, add_assoc]
  simp only [Nat.add_assoc]

theorem tabV_add (a m l : ℕ) : D.tabV (D.tabV A C0 a m) C0 (a + m) l = D.tabV A C0 a (m + l) := by
  funext x y
  unfold tabV
  rw [Finset.sum_range_add, add_assoc]
  simp only [Nat.add_assoc]

/-- Rows above the key block get nothing from it. -/
theorem addQ_of_lt {x : ℕ} (y : ℕ) (h : x < C0) : D.addQ C0 x y = 0 := by
  rw [addQ, Finset.sum_eq_zero fun j _ => by rw [D.ds_of_lt (by omega), zero_mul], zero_mul]

/-- Over all the rows from the block's own on, the queries' gradient. -/
theorem tabQ_all {m x : ℕ} (y : ℕ) (hx : x < C0 + m) : D.tabQ A C0 C0 m x y = A x y + D.addQ C0 x y := by
  unfold tabQ
  by_cases h : C0 ≤ x
  · rw [if_pos ⟨h, hx⟩]
  · rw [if_neg (by omega), D.addQ_of_lt C0 y (by omega), add_zero]

/-- Over all the rows from the block's own on, the keys' gradient. -/
theorem tabK_all {m : ℕ} (x y : ℕ) : D.tabK A C0 C0 m x y = A x y + ∑ r ∈ Finset.range (C0 + m), D.ds (y / 128) r (C0 + x) * D.q r y := by
  rw [tabK, Finset.sum_range_add, Finset.sum_eq_zero (s := Finset.range C0), zero_add]
  intro r hr
  rw [D.ds_of_lt (by have := Finset.mem_range.mp hr; omega), zero_mul]

/-- Over all the rows from the block's own on, the values' gradient. -/
theorem tabV_all {m : ℕ} (x y : ℕ) : D.tabV A C0 C0 m x y = A x y + ∑ r ∈ Finset.range (C0 + m), D.pr (y / 128) r (C0 + x) * D.o r y := by
  rw [tabV, Finset.sum_range_add, Finset.sum_eq_zero (s := Finset.range C0), zero_add]
  intro r hr
  rw [D.pr_of_lt (by have := Finset.mem_range.mp hr; omega), zero_mul]

end Pair

end Cert.KernelIdeal.Hand
-- ==== Proof.Value.Loop1.lean ====
/-
  Hand-written, untrusted. The loop below the diagonal of the first key block: what it adds to the three gradients.
-/
module

public import proofs.«01_k».proof.Proof.Value.Trip1
public import proofs.«01_k».proof.Proof.Value.Tables
public import proofs.«01_k».proof.Proof.KernelIdeal.Loops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (c : Dev nD) (i : grid0.Coords) (arg2 : Memref sig .tc .vmem S4224x256 .bf16) (harg2 : arg2.IsWhole) (arg3 : Memref sig .tc .vmem S384x256 .bf16) (harg3 : arg3.IsWhole) (arg4 : Memref sig .tc .vmem S384x256 .bf16) (harg4 : arg4.IsWhole) (arg5 : Memref sig .tc .vmem S4224x256 .bf16) (harg5 : arg5.IsWhole) (arg6 : Memref sig .tc .vmem S2x4224x1 .f32) (harg6 : arg6.IsWhole) (arg7 : Memref sig .tc .vmem S2x4224x1 .f32) (harg7 : arg7.IsWhole) (arg8 : Memref sig .tc .vmem S4224x256 .f32) (harg8 : arg8.IsWhole) (arg9 : Memref sig .tc .vmem S384x256 .f32) (harg9 : arg9.IsWhole) (arg10 : Memref sig .tc .vmem S384x256 .f32) (harg10 : arg10.IsWhole) (arg11 : Memref sig .tc .vmem S2x384x384 .f32) (harg11 : arg11.IsWhole) (arg12 : Memref sig .tc .vmem S2x384x384 .f32) (harg12 : arg12.IsWhole) (arg13 : Memref sig .tc .vmem S2x384x384 .bf16) (harg13 : arg13.IsWhole) (arg14 : Memref sig .tc .vmem S2x384x384 .bf16) (harg14 : arg14.IsWhole)
  (n : ℕ) (hn : n < 11) (v8 : BitVec 32) (v188 : FVec Ideal S384x128 .bf16) (v191 : FVec Ideal S384x128 .bf16) (v193 : FVec Ideal S384x128 .bf16) (k0_h2 : k0_cond2 i = 1#1) (v374 : BitVec 32)
  (f2 : Ct (F := Ideal) c arg2) (f3 : Ct (F := Ideal) c arg3) (f4 : Ct (F := Ideal) c arg4) (f5 : Ct (F := Ideal) c arg5) (f6 : Ct (F := Ideal) c arg6) (f7 : Ct (F := Ideal) c arg7) (f8 : Ct (F := Ideal) c arg8) (f9 : Ct (F := Ideal) c arg9) (f10 : Ct (F := Ideal) c arg10)
  (D : Pair) (C0 : ℕ) (hi : C0 = 384 * (i 1).val)
  (h2 : Is2 (arg2.view.read (Elt Ideal) f2) D.q) (h3 : Is2 (arg3.view.read (Elt Ideal) f3) fun r d => D.k (C0 + r) d)
  (h4 : Is2 (arg4.view.read (Elt Ideal) f4) fun r d => D.v (C0 + r) d) (h5 : Is2 (arg5.view.read (Elt Ideal) f5) D.o)
  (h6 : IsH (arg6.view.read (Elt Ideal) f6) D.lse) (h7 : IsH (arg7.view.read (Elt Ideal) f7) D.del)
  (hC : C0 = 384 * n)
  {A8 A9 A10 : ℕ → ℕ → ℝ} (h8 : Is2 (arg8.view.read (Elt Ideal) f8) A8)
  (h9 : Is2 (arg9.view.read (Elt Ideal) f9) A9) (h10 : Is2 (arg10.view.read (Elt Ideal) f10) A10)

/-- The three gradients' pieces after `k` trips. -/
abbrev lp1 (k : ℕ) := upTo (stp1 (F := Ideal) c i arg2 harg2 arg3 harg3 arg4 harg4 arg5 harg5 arg6 harg6 arg7 harg7 arg8 harg8 arg9 harg9 arg10 harg10 arg11 harg11 arg12 harg12 arg13 harg13 arg14 harg14 (BitVec.ofNat 32 n) v8 v188 v191 v193 k0_h2 v374 f2 f3 f4 f5 f6 f7 f8 f9 f10) ([], [], []) k

include hi h2 h3 h4 h5 h6 h7 hn hC h8 h9 h10 in
/-- The three gradients after `k` trips. -/
theorem loop1 (k : ℕ) (hk : k ≤ (k0_t1_loop i).trips) :
    Is2 (arg8.view.read (Elt Ideal) (arg8.view.writes (Elt Ideal) f8 (lp1 c i arg2 harg2 arg3 harg3 arg4 harg4 arg5 harg5 arg6 harg6 arg7 harg7 arg8 harg8 arg9 harg9 arg10 harg10 arg11 harg11 arg12 harg12 arg13 harg13 arg14 harg14 n v8 v188 v191 v193 k0_h2 v374 f2 f3 f4 f5 f6 f7 f8 f9 f10 k).1)) (D.tabQ A8 C0 (C0 + 384) (384 * k)) ∧
    Is2 (arg9.view.read (Elt Ideal) (arg9.view.writes (Elt Ideal) f9 (lp1 c i arg2 harg2 arg3 harg3 arg4 harg4 arg5 harg5 arg6 harg6 arg7 harg7 arg8 harg8 arg9 harg9 arg10 harg10 arg11 harg11 arg12 harg12 arg13 harg13 arg14 harg14 n v8 v188 v191 v193 k0_h2 v374 f2 f3 f4 f5 f6 f7 f8 f9 f10 k).2.1)) (D.tabK A9 C0 (C0 + 384) (384 * k)) ∧
    Is2 (arg10.view.read (Elt Ideal) (arg10.view.writes (Elt Ideal) f10 (lp1 c i arg2 harg2 arg3 harg3 arg4 harg4 arg5 harg5 arg6 harg6 arg7 harg7 arg8 harg8 arg9 harg9 arg10 harg10 arg11 harg11 arg12 harg12 arg13 harg13 arg14 harg14 n v8 v188 v191 v193 k0_h2 v374 f2 f3 f4 f5 f6 f7 f8 f9 f10 k).2.2)) (D.tabV A10 C0 (C0 + 384) (384 * k)) := by
  induction k with
  | zero =>
    refine ⟨?_, ?_, ?_⟩
    · rw [Nat.mul_zero, D.tabQ_zero]; exact h8
    · rw [Nat.mul_zero, D.tabK_zero]; exact h9
    · rw [Nat.mul_zero, D.tabV_zero]; exact h10
  | succ k ih =>
    obtain ⟨i8, i9, i10⟩ := ih (by omega)
    have e : 384 * (k + 1) = 384 * k + 384 := by ring
    have hs := upTo_succ (stp1 (F := Ideal) c i arg2 harg2 arg3 harg3 arg4 harg4 arg5 harg5 arg6 harg6 arg7 harg7 arg8 harg8 arg9 harg9 arg10 harg10 arg11 harg11 arg12 harg12 arg13 harg13 arg14 harg14 (BitVec.ofNat 32 n) v8 v188 v191 v193 k0_h2 v374 f2 f3 f4 f5 f6 f7 f8 f9 f10) ([], [], []) ⟨k, hk⟩
    have hR : C0 + 384 + 384 * k = 384 * (i 1).val + 384 * (⟨k, hk⟩ : Fin (k0_t1_loop i).trips).val + 384 := by rw [hi]; ring
    unfold lp1 at i8 i9 i10 ⊢
    rw [show k + 1 = (⟨k, hk⟩ : Fin (k0_t1_loop i).trips).val + 1 from rfl, hs]
    refine ⟨?_, ?_, ?_⟩
    · rw [show 384 * ((⟨k, hk⟩ : Fin (k0_t1_loop i).trips).val + 1) = 384 * k + 384 from e, ← D.tabQ_add]
      unfold stp1
      dsimp only
      rw [View.writes_append]
      exact t1_dq c i arg2 harg2 arg3 harg3 arg4 harg4 arg5 harg5 arg6 harg6 arg7 harg7 arg8 harg8 arg9 harg9 arg10 harg10 arg11 harg11 arg12 harg12 arg13 harg13 arg14 harg14 n hn v8 v188 v191 v193 k0_h2 v374 ⟨k, hk⟩ f2 f3 f4 f5 f6 f7 _ _ _ D (C0 + 384 + 384 * k) C0 hR h2 h3 h4 h5 h6 h7 hC (by omega) i8
    · rw [show 384 * ((⟨k, hk⟩ : Fin (k0_t1_loop i).trips).val + 1) = 384 * k + 384 from e, ← D.tabK_add]
      unfold stp1
      dsimp only
      rw [View.writes_append]
      exact t1_dk c i arg2 harg2 arg3 harg3 arg4 harg4 arg5 harg5 arg6 harg6 arg7 harg7 arg8 harg8 arg9 harg9 arg10 harg10 arg11 harg11 arg12 harg12 arg13 harg13 arg14 harg14 n hn v8 v188 v191 v193 k0_h2 v374 ⟨k, hk⟩ f2 f3 f4 f5 f6 f7 _ _ _ D (C0 + 384 + 384 * k) C0 hR h2 h3 h4 h5 h6 h7 hC (by omega) i9
    · rw [show 384 * ((⟨k, hk⟩ : Fin (k0_t1_loop i).trips).val + 1) = 384 * k + 384 from e, ← D.tabV_add]
      unfold stp1
      dsimp only
      rw [View.writes_append]
      exact t1_dv c i arg2 harg2 arg3 harg3 arg4 harg4 arg5 harg5 arg6 harg6 arg7 harg7 arg8 harg8 arg9 harg9 arg10 harg10 arg11 harg11 arg12 harg12 arg13 harg13 arg14 harg14 n hn v8 v188 v191 v193 k0_h2 v374 ⟨k, hk⟩ f2 f3 f4 f5 f6 f7 _ _ _ D (C0 + 384 + 384 * k) C0 hR h2 h3 h4 h5 h6 h7 hC (by omega) i10

end Cert.KernelIdeal.Hand
-- ==== Proof.Value.BlockA.lean ====
/-
  Hand-written, untrusted. The diagonal tile of a first key block, and then the whole block: what it adds to the three gradients.
-/
module

public import proofs.«01_k».proof.Proof.Value.Reads2
public import proofs.«01_k».proof.Proof.Value.Loop1
public import proofs.«01_k».proof.Proof.KernelIdeal.BodyA

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (c : Dev nD) (i : grid0.Coords) (arg2 : Memref sig .tc .vmem S4224x256 .bf16) (harg2 : arg2.IsWhole) (arg3 : Memref sig .tc .vmem S384x256 .bf16) (harg3 : arg3.IsWhole) (arg4 : Memref sig .tc .vmem S384x256 .bf16) (harg4 : arg4.IsWhole) (arg5 : Memref sig .tc .vmem S4224x256 .bf16) (harg5 : arg5.IsWhole) (arg6 : Memref sig .tc .vmem S2x4224x1 .f32) (harg6 : arg6.IsWhole) (arg7 : Memref sig .tc .vmem S2x4224x1 .f32) (harg7 : arg7.IsWhole) (arg8 : Memref sig .tc .vmem S4224x256 .f32) (harg8 : arg8.IsWhole) (arg9 : Memref sig .tc .vmem S384x256 .f32) (harg9 : arg9.IsWhole) (arg10 : Memref sig .tc .vmem S384x256 .f32) (harg10 : arg10.IsWhole) (arg11 : Memref sig .tc .vmem S2x384x384 .f32) (harg11 : arg11.IsWhole) (arg12 : Memref sig .tc .vmem S2x384x384 .f32) (harg12 : arg12.IsWhole) (arg13 : Memref sig .tc .vmem S2x384x384 .bf16) (harg13 : arg13.IsWhole) (arg14 : Memref sig .tc .vmem S2x384x384 .bf16) (harg14 : arg14.IsWhole)
  (hc2 : k0_cond2 i = 1#1) (hc3 : ¬ k0_cond3 i = 1#1)
  (f2 : Ct (F := Ideal) c arg2) (f3 : Ct (F := Ideal) c arg3) (f4 : Ct (F := Ideal) c arg4) (f5 : Ct (F := Ideal) c arg5) (f6 : Ct (F := Ideal) c arg6) (f7 : Ct (F := Ideal) c arg7)
  (D : Pair) (C0 : ℕ) (hi : C0 = 384 * (i 1).val) (hn : (i 1).val < 11)
  (h2 : Is2 (arg2.view.read (Elt Ideal) f2) D.q) (h3 : Is2 (arg3.view.read (Elt Ideal) f3) fun r d => D.k (C0 + r) d)
  (h4 : Is2 (arg4.view.read (Elt Ideal) f4) fun r d => D.v (C0 + r) d) (h5 : Is2 (arg5.view.read (Elt Ideal) f5) D.o)
  (h6 : IsH (arg6.view.read (Elt Ideal) f6) D.lse) (h7 : IsH (arg7.view.read (Elt Ideal) f7) D.del)

include hi hn h2 h3 h6 in
/-- The weights of the diagonal tile, head 0. -/
theorem da_p0 : Is3 (bodyA.sl.v174 (F := Ideal) c i arg2 arg3 arg6 arg11 arg13 f2 f3 f6) fun r x => D.pr 0 (C0 + r) (C0 + x) := by
  have hq := load_rows arg2.view f2 (k0_off1_inb i) C0 0 (by rw [k0_off1_eq, hi]) h2
  have hk := load_blk arg3.view f3 (off := ![0, 0]) (by decide +kernel) C0 0 rfl h3
  have hs := is_sc D 0 C0 C0 hq hk
  have hl := load_col arg6.view f6 (k0_off2_inb i) C0 0 (by rw [k0_off2_eq, hi]) h6
  have hr := fun o inb inb' L ho => is_pr_diag D 0 o C0 C0 (i 1).val hn hi rfl ho (is_raw D arg11.view 0 o C0 C0 inb inb' L hs hl)
  exact is_head_of_strips arg13.view 0 _ _ _ _ _ _ _ _ (G := fun r x => D.pr 0 (C0 + r) (C0 + x))
    (is_strip (hr 0 _ _ _ (by decide))) (is_strip (hr 128 _ _ _ (by decide))) (is_strip (hr 256 _ _ _ (by decide)))

include hi hn h2 h3 h4 h5 h6 h7 in
/-- The gradient of the scores of the diagonal tile, head 0. -/
theorem da_ds0 : Is3 (bodyA.sl.v164 (F := Ideal) c i arg2 arg3 arg4 arg5 arg6 arg7 arg11 arg12 arg14 f2 f3 f4 f5 f6 f7) fun r x => D.ds 0 (C0 + r) (C0 + x) := by
  have hq := load_rows arg2.view f2 (k0_off1_inb i) C0 0 (by rw [k0_off1_eq, hi]) h2
  have hk := load_blk arg3.view f3 (off := ![0, 0]) (by decide +kernel) C0 0 rfl h3
  have hs := is_sc D 0 C0 C0 hq hk
  have hl := load_col arg6.view f6 (k0_off2_inb i) C0 0 (by rw [k0_off2_eq, hi]) h6
  have hr := fun o inb inb' L ho => is_pr_diag D 0 o C0 C0 (i 1).val hn hi rfl ho (is_raw D arg11.view 0 o C0 C0 inb inb' L hs hl)
  have ho := load_rows arg5.view f5 (k0_off1_inb i) C0 0 (by rw [k0_off1_eq, hi]) h5
  have hvv := load_blk arg4.view f4 (off := ![0, 0]) (by decide +kernel) C0 0 rfl h4
  have he := is_dp D 0 C0 C0 ho hvv
  have hd := load_col arg7.view f7 (k0_off2_inb i) C0 0 (by rw [k0_off2_eq, hi]) h7
  have hr' := fun o inb inb' L a b M ho => is_ds_strip D arg12.view 0 o C0 C0 a b M he hd (hr o inb inb' L ho)
  exact is_head_of_strips arg14.view 0 _ _ _ _ _ _ _ _ (G := fun r x => D.ds 0 (C0 + r) (C0 + x))
    (hr' 0 _ _ _ _ _ _ (by decide)) (hr' 128 _ _ _ _ _ _ (by decide)) (hr' 256 _ _ _ _ _ _ (by decide))

include hi hn h2 h3 h6 in
/-- The weights of the diagonal tile, head 1. -/
theorem da_p1 : Is3 (bodyA.sl.v351 (F := Ideal) c i arg2 arg3 arg6 arg11 arg13 f2 f3 f6) fun r x => D.pr 1 (C0 + r) (C0 + x) := by
  have hq := load_rows arg2.view f2 (k0_off3_inb i) C0 1 (by rw [k0_off3_eq, hi]) h2
  have hk := load_blk arg3.view f3 (off := ![0, 128]) (by decide +kernel) C0 1 rfl h3
  have hs := is_sc D 1 C0 C0 hq hk
  have hl := load_col arg6.view f6 (k0_off4_inb i) C0 1 (by rw [k0_off4_eq, hi]) h6
  have hr := fun o inb inb' L ho => is_pr_diag D 1 o C0 C0 (i 1).val hn hi rfl ho (is_raw D arg11.view 1 o C0 C0 inb inb' L hs hl)
  exact is_head_of_strips arg13.view 1 _ _ _ _ _ _ _ _ (G := fun r x => D.pr 1 (C0 + r) (C0 + x))
    (is_strip (hr 0 _ _ _ (by decide))) (is_strip (hr 128 _ _ _ (by decide))) (is_strip (hr 256 _ _ _ (by decide)))

include hi hn h2 h3 h4 h5 h6 h7 in
/-- The gradient of the scores of the diagonal tile, head 1. -/
theorem da_ds1 : Is3 (bodyA.sl.v341 (F := Ideal) c i arg2 arg3 arg4 arg5 arg6 arg7 arg11 arg12 arg14 f2 f3 f4 f5 f6 f7) fun r x => D.ds 1 (C0 + r) (C0 + x) := by
  have hq := load_rows arg2.view f2 (k0_off3_inb i) C0 1 (by rw [k0_off3_eq, hi]) h2
  have hk := load_blk arg3.view f3 (off := ![0, 128]) (by decide +kernel) C0 1 rfl h3
  have hs := is_sc D 1 C0 C0 hq hk
  have hl := load_col arg6.view f6 (k0_off4_inb i) C0 1 (by rw [k0_off4_eq, hi]) h6
  have hr := fun o inb inb' L ho => is_pr_diag D 1 o C0 C0 (i 1).val hn hi rfl ho (is_raw D arg11.view 1 o C0 C0 inb inb' L hs hl)
  have ho := load_rows arg5.view f5 (k0_off3_inb i) C0 1 (by rw [k0_off3_eq, hi]) h5
  have hvv := load_blk arg4.view f4 (off := ![0, 128]) (by decide +kernel) C0 1 rfl h4
  have he := is_dp D 1 C0 C0 ho hvv
  have hd := load_col arg7.view f7 (k0_off4_inb i) C0 1 (by rw [k0_off4_eq, hi]) h7
  have hr' := fun o inb inb' L a b M ho => is_ds_strip D arg12.view 1 o C0 C0 a b M he hd (hr o inb inb' L ho)
  exact is_head_of_strips arg14.view 1 _ _ _ _ _ _ _ _ (G := fun r x => D.ds 1 (C0 + r) (C0 + x))
    (hr' 0 _ _ _ _ _ _ (by decide)) (hr' 128 _ _ _ _ _ _ (by decide)) (hr' 256 _ _ _ _ _ _ (by decide))

include hi hn h2 h3 h4 h5 h6 h7 in
/-- The keys' gradient after the diagonal tile. -/
theorem da_dk : Is2 (arg9.view.read (Elt Ideal) (arg9.view.writes (Elt Ideal) arg9.view.junk
    (bodyA.sl.H9_3 (F := Ideal) c i arg2 arg3 arg4 arg5 arg6 arg7 arg9 arg11 arg12 arg14 f2 f3 f4 f5 f6 f7))) (D.tabK (fun _ _ => 0) C0 C0 384) := by
  have hz := is_zero_blk arg9.view arg9.view.junk (off := ![0, 0]) (by decide +kernel)
  exact (is_store arg9.view arg9.view.junk 0 _ rfl _ rfl _ _ _
    (is_dk_tile D 0 C0 C0 (is_cast <| load_rows arg2.view f2 (k0_off1_inb i) C0 0 (by rw [k0_off1_eq, hi]) h2) (load_blk32 arg9.view _ (off := ![0, 0]) (by decide +kernel) 0 rfl hz) (da_ds0 c i arg2 arg3 arg4 arg5 arg6 arg7 arg11 arg12 arg14 f2 f3 f4 f5 f6 f7 D C0 hi hn h2 h3 h4 h5 h6 h7))
    (is_dk_tile D 1 C0 C0 (is_cast <| load_rows arg2.view f2 (k0_off3_inb i) C0 1 (by rw [k0_off3_eq, hi]) h2)
      (load_skip arg9.view arg9.view.junk 0 (by decide +kernel) rfl (by decide +kernel) rfl _ _ hz) (da_ds1 c i arg2 arg3 arg4 arg5 arg6 arg7 arg11 arg12 arg14 f2 f3 f4 f5 f6 f7 D C0 hi hn h2 h3 h4 h5 h6 h7)) hz).congr
      fun r y hr _ => if_pos ⟨Nat.zero_le _, by omega⟩

include hi hn h2 h3 h5 h6 in
/-- The values' gradient after the diagonal tile. -/
theorem da_dv : Is2 (arg10.view.read (Elt Ideal) (arg10.view.writes (Elt Ideal) arg10.view.junk
    (bodyA.sl.H10_3 (F := Ideal) c i arg2 arg3 arg5 arg6 arg10 arg11 arg13 f2 f3 f5 f6))) (D.tabV (fun _ _ => 0) C0 C0 384) := by
  have hz := is_zero_blk arg10.view arg10.view.junk (off := ![0, 0]) (by decide +kernel)
  exact (is_store arg10.view arg10.view.junk 0 _ rfl _ rfl _ _ _
    (is_dv_tile D 0 C0 C0 (is_cast <| load_rows arg5.view f5 (k0_off1_inb i) C0 0 (by rw [k0_off1_eq, hi]) h5) (load_blk32 arg10.view _ (off := ![0, 0]) (by decide +kernel) 0 rfl hz) (da_p0 c i arg2 arg3 arg6 arg11 arg13 f2 f3 f6 D C0 hi hn h2 h3 h6))
    (is_dv_tile D 1 C0 C0 (is_cast <| load_rows arg5.view f5 (k0_off3_inb i) C0 1 (by rw [k0_off3_eq, hi]) h5)
      (load_skip arg10.view arg10.view.junk 0 (by decide +kernel) rfl (by decide +kernel) rfl _ _ hz) (da_p1 c i arg2 arg3 arg6 arg11 arg13 f2 f3 f6 D C0 hi hn h2 h3 h6)) hz).congr
      fun r y hr _ => if_pos ⟨Nat.zero_le _, by omega⟩

/-- The queries' gradient's pieces of the diagonal tile. -/
abbrev daL : List (View.Piece (Elt Ideal) S4224x256 .f32) := ⟨Rect.unit (s := S4224x256) (k0_off3 i) S384x128.size (k0_off3_inb i),
        k0_pay217 (bodyA.sl.r_9 (F := Ideal) c arg3 f3) (View.readAt (Elt Ideal) arg8.view (Rect.unit (s := S4224x256) (k0_off3 i) S384x128.size (k0_off3_inb i)).toLoadRect
            (arg8.view.writes (Elt Ideal) arg8.view.junk (bodyA.sl.H8_2 (F := Ideal) c i arg2 arg3 arg4 arg5 arg6 arg7 arg8 arg11 arg12 arg14 f2 f3 f4 f5 f6 f7)))
          (bodyA.sl.v341 (F := Ideal) c i arg2 arg3 arg4 arg5 arg6 arg7 arg11 arg12 arg14 f2 f3 f4 f5 f6 f7)⟩ ::
      bodyA.sl.H8_2 (F := Ideal) c i arg2 arg3 arg4 arg5 arg6 arg7 arg8 arg11 arg12 arg14 f2 f3 f4 f5 f6 f7

include hi hn h2 h3 h4 h5 h6 h7 in
/-- The queries' gradient after the diagonal tile. -/
theorem da_dq : Is2 (arg8.view.read (Elt Ideal) (arg8.view.writes (Elt Ideal) arg8.view.junk (daL c i arg2 arg3 arg4 arg5 arg6 arg7 arg8 arg11 arg12 arg14 f2 f3 f4 f5 f6 f7)))
    (D.tabQ (fun _ _ => 0) C0 C0 384) := by
  have hz := is_zero_all arg8.view arg8.view.junk (off := ![0, 0]) (by decide +kernel)
  exact is_store arg8.view arg8.view.junk C0 _ (by rw [k0_off1_eq, hi]) _ (by rw [k0_off3_eq, hi]) _ _ _
    (is_dq_tile D 0 C0 C0 (is_cast <| load_blk arg3.view f3 (off := ![0, 0]) (by decide +kernel) C0 0 rfl h3) (load_rows32 arg8.view _ (k0_off1_inb i) C0 0 (by rw [k0_off1_eq, hi]) hz) (da_ds0 c i arg2 arg3 arg4 arg5 arg6 arg7 arg11 arg12 arg14 f2 f3 f4 f5 f6 f7 D C0 hi hn h2 h3 h4 h5 h6 h7))
    (is_dq_tile D 1 C0 C0 (is_cast <| load_blk arg3.view f3 (off := ![0, 128]) (by decide +kernel) C0 1 rfl h3) (load_skip arg8.view arg8.view.junk C0 (k0_off1_inb i) (by rw [k0_off1_eq, hi]) (k0_off3_inb i) (by rw [k0_off3_eq, hi]) _ _ hz) (da_ds1 c i arg2 arg3 arg4 arg5 arg6 arg7 arg11 arg12 arg14 f2 f3 f4 f5 f6 f7 D C0 hi hn h2 h3 h4 h5 h6 h7)) hz

/-- The loop runs over the query blocks after the diagonal one. -/
theorem t1_trips : ∀ i : grid0.Coords, (k0_t1_loop i).trips = 10 - (i 1).val := by decide +kernel

include hi hn h2 h3 h4 h5 h6 h7 in
/-- The three gradients after the whole key block, the keys' not yet scaled. -/
theorem la :
    Is2 (arg8.view.read (Elt Ideal) (arg8.view.writes (Elt Ideal) (arg8.view.writes (Elt Ideal) arg8.view.junk (daL c i arg2 arg3 arg4 arg5 arg6 arg7 arg8 arg11 arg12 arg14 f2 f3 f4 f5 f6 f7))
      (lp1 c i arg2 harg2 arg3 harg3 arg4 harg4 arg5 harg5 arg6 harg6 arg7 harg7 arg8 harg8 arg9 harg9 arg10 harg10 arg11 harg11 arg12 harg12 arg13 harg13 arg14 harg14 (i 1).val (bodyA.sl.v7 i) (bodyA.sl.r_7 (F := Ideal) c i arg2 f2) (bodyA.sl.r_8 (F := Ideal) c i arg5 f5) (bodyA.sl.r_9 (F := Ideal) c arg3 f3) hc2 (bodyA.sl.v374_1 i) f2 f3 f4 f5 f6 f7 (arg8.view.writes (Elt Ideal) arg8.view.junk (daL c i arg2 arg3 arg4 arg5 arg6 arg7 arg8 arg11 arg12 arg14 f2 f3 f4 f5 f6 f7)) (arg9.view.writes (Elt Ideal) arg9.view.junk (bodyA.sl.H9_3 (F := Ideal) c i arg2 arg3 arg4 arg5 arg6 arg7 arg9 arg11 arg12 arg14 f2 f3 f4 f5 f6 f7)) (arg10.view.writes (Elt Ideal) arg10.view.junk (bodyA.sl.H10_3 (F := Ideal) c i arg2 arg3 arg5 arg6 arg10 arg11 arg13 f2 f3 f5 f6)) (k0_t1_loop i).trips).1))
      (D.tabQ (fun _ _ => 0) C0 C0 (4224 - C0)) ∧
    Is2 (arg9.view.read (Elt Ideal) (arg9.view.writes (Elt Ideal) (arg9.view.writes (Elt Ideal) arg9.view.junk (bodyA.sl.H9_3 (F := Ideal) c i arg2 arg3 arg4 arg5 arg6 arg7 arg9 arg11 arg12 arg14 f2 f3 f4 f5 f6 f7))
      (lp1 c i arg2 harg2 arg3 harg3 arg4 harg4 arg5 harg5 arg6 harg6 arg7 harg7 arg8 harg8 arg9 harg9 arg10 harg10 arg11 harg11 arg12 harg12 arg13 harg13 arg14 harg14 (i 1).val (bodyA.sl.v7 i) (bodyA.sl.r_7 (F := Ideal) c i arg2 f2) (bodyA.sl.r_8 (F := Ideal) c i arg5 f5) (bodyA.sl.r_9 (F := Ideal) c arg3 f3) hc2 (bodyA.sl.v374_1 i) f2 f3 f4 f5 f6 f7 (arg8.view.writes (Elt Ideal) arg8.view.junk (daL c i arg2 arg3 arg4 arg5 arg6 arg7 arg8 arg11 arg12 arg14 f2 f3 f4 f5 f6 f7)) (arg9.view.writes (Elt Ideal) arg9.view.junk (bodyA.sl.H9_3 (F := Ideal) c i arg2 arg3 arg4 arg5 arg6 arg7 arg9 arg11 arg12 arg14 f2 f3 f4 f5 f6 f7)) (arg10.view.writes (Elt Ideal) arg10.view.junk (bodyA.sl.H10_3 (F := Ideal) c i arg2 arg3 arg5 arg6 arg10 arg11 arg13 f2 f3 f5 f6)) (k0_t1_loop i).trips).2.1))
      (D.tabK (fun _ _ => 0) C0 C0 (4224 - C0)) ∧
    Is2 (arg10.view.read (Elt Ideal) (arg10.view.writes (Elt Ideal) (arg10.view.writes (Elt Ideal) arg10.view.junk (bodyA.sl.H10_3 (F := Ideal) c i arg2 arg3 arg5 arg6 arg10 arg11 arg13 f2 f3 f5 f6))
      (lp1 c i arg2 harg2 arg3 harg3 arg4 harg4 arg5 harg5 arg6 harg6 arg7 harg7 arg8 harg8 arg9 harg9 arg10 harg10 arg11 harg11 arg12 harg12 arg13 harg13 arg14 harg14 (i 1).val (bodyA.sl.v7 i) (bodyA.sl.r_7 (F := Ideal) c i arg2 f2) (bodyA.sl.r_8 (F := Ideal) c i arg5 f5) (bodyA.sl.r_9 (F := Ideal) c arg3 f3) hc2 (bodyA.sl.v374_1 i) f2 f3 f4 f5 f6 f7 (arg8.view.writes (Elt Ideal) arg8.view.junk (daL c i arg2 arg3 arg4 arg5 arg6 arg7 arg8 arg11 arg12 arg14 f2 f3 f4 f5 f6 f7)) (arg9.view.writes (Elt Ideal) arg9.view.junk (bodyA.sl.H9_3 (F := Ideal) c i arg2 arg3 arg4 arg5 arg6 arg7 arg9 arg11 arg12 arg14 f2 f3 f4 f5 f6 f7)) (arg10.view.writes (Elt Ideal) arg10.view.junk (bodyA.sl.H10_3 (F := Ideal) c i arg2 arg3 arg5 arg6 arg10 arg11 arg13 f2 f3 f5 f6)) (k0_t1_loop i).trips).2.2))
      (D.tabV (fun _ _ => 0) C0 C0 (4224 - C0)) := by
  have e := t1_trips i
  have e' : 4224 - C0 = 384 + 384 * (k0_t1_loop i).trips := by omega
  rw [e', ← D.tabQ_add, ← D.tabK_add, ← D.tabV_add]
  exact loop1 c i arg2 harg2 arg3 harg3 arg4 harg4 arg5 harg5 arg6 harg6 arg7 harg7 arg8 harg8 arg9 harg9 arg10 harg10 arg11 harg11 arg12 harg12 arg13 harg13 arg14 harg14 (i 1).val hn (bodyA.sl.v7 i) (bodyA.sl.r_7 (F := Ideal) c i arg2 f2) (bodyA.sl.r_8 (F := Ideal) c i arg5 f5) (bodyA.sl.r_9 (F := Ideal) c arg3 f3) hc2 (bodyA.sl.v374_1 i) f2 f3 f4 f5 f6 f7 _ _ _ D C0 hi h2 h3 h4 h5 h6 h7 hi
    (da_dq c i arg2 arg3 arg4 arg5 arg6 arg7 arg8 arg11 arg12 arg14 f2 f3 f4 f5 f6 f7 D C0 hi hn h2 h3 h4 h5 h6 h7)
    (da_dk c i arg2 arg3 arg4 arg5 arg6 arg7 arg9 arg11 arg12 arg14 f2 f3 f4 f5 f6 f7 D C0 hi hn h2 h3 h4 h5 h6 h7)
    (da_dv c i arg2 arg3 arg5 arg6 arg10 arg11 arg13 f2 f3 f5 f6 D C0 hi hn h2 h3 h5 h6) _ le_rfl

include hi hn h2 h3 h4 h5 h6 h7 in
/-- The queries' gradient the body leaves. -/
theorem ba_dq : Is2 (arg8.view.read (Elt Ideal) (bodyA (F := Ideal) c i arg2 harg2 arg3 harg3 arg4 harg4 arg5 harg5 arg6 harg6 arg7 harg7 arg8 harg8 arg9 harg9 arg10 harg10 arg11 harg11 arg12 harg12 arg13 harg13 arg14 harg14 hc2 hc3 f2 f3 f4 f5 f6 f7).1.1)
    (fun x y => D.addQ C0 x y) := by
  have h := (la c i arg2 harg2 arg3 harg3 arg4 harg4 arg5 harg5 arg6 harg6 arg7 harg7 arg8 harg8 arg9 harg9 arg10 harg10 arg11 harg11 arg12 harg12 arg13 harg13 arg14 harg14 hc2 f2 f3 f4 f5 f6 f7 D C0 hi hn h2 h3 h4 h5 h6 h7).1
  rw [← View.writes_append] at h
  unfold bodyA
  exact Is2.congr h fun x y hx _ => by rw [D.tabQ_all _ _ _ (by omega), zero_add]

include hi hn h2 h3 h4 h5 h6 h7 in
/-- The keys' gradient the body leaves. -/
theorem ba_dk : Is2 (arg9.view.read (Elt Ideal) (bodyA (F := Ideal) c i arg2 harg2 arg3 harg3 arg4 harg4 arg5 harg5 arg6 harg6 arg7 harg7 arg8 harg8 arg9 harg9 arg10 harg10 arg11 harg11 arg12 harg12 arg13 harg13 arg14 harg14 hc2 hc3 f2 f3 f4 f5 f6 f7).1.2.1)
    (fun x y => (∑ r ∈ Finset.range 4224, D.ds (y / 128) r (C0 + x) * D.q r y) * cScale) := by
  have h := (la c i arg2 harg2 arg3 harg3 arg4 harg4 arg5 harg5 arg6 harg6 arg7 harg7 arg8 harg8 arg9 harg9 arg10 harg10 arg11 harg11 arg12 harg12 arg13 harg13 arg14 harg14 hc2 f2 f3 f4 f5 f6 f7 D C0 hi hn h2 h3 h4 h5 h6 h7).2.1
  rw [← View.writes_append] at h
  have e : C0 + (4224 - C0) = 4224 := by omega
  unfold bodyA
  exact Is2.congr (is_fin_store arg9.view arg9.view.junk (by decide +kernel) (by decide +kernel) _ _ h) fun x y hx _ => by rw [D.tabK_all, zero_add, e]

set_option maxHeartbeats 2000000 in
include hi hn h2 h3 h4 h5 h6 h7 in
/-- The values' gradient the body leaves. -/
theorem ba_dv : Is2 (arg10.view.read (Elt Ideal) (bodyA (F := Ideal) c i arg2 harg2 arg3 harg3 arg4 harg4 arg5 harg5 arg6 harg6 arg7 harg7 arg8 harg8 arg9 harg9 arg10 harg10 arg11 harg11 arg12 harg12 arg13 harg13 arg14 harg14 hc2 hc3 f2 f3 f4 f5 f6 f7).1.2.2)
    (fun x y => ∑ r ∈ Finset.range 4224, D.pr (y / 128) r (C0 + x) * D.o r y) := by
  have h := (la c i arg2 harg2 arg3 harg3 arg4 harg4 arg5 harg5 arg6 harg6 arg7 harg7 arg8 harg8 arg9 harg9 arg10 harg10 arg11 harg11 arg12 harg12 arg13 harg13 arg14 harg14 hc2 f2 f3 f4 f5 f6 f7 D C0 hi hn h2 h3 h4 h5 h6 h7).2.2
  rw [← View.writes_append] at h
  have e : C0 + (4224 - C0) = 4224 := by omega
  unfold bodyA
  exact Is2.congr h fun x y hx _ => by rw [D.tabV_all, zero_add, e]

end Cert.KernelIdeal.Hand
-- ==== Proof.Value.Trip3.lean ====
/-
  Hand-written, untrusted. One trip of the loop below the diagonal of a later key block: what it adds to the three gradients.
-/
module

public import proofs.«01_k».proof.Proof.Value.Pair
public import proofs.«01_k».proof.Proof.KernelIdeal.Trip3

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (c : Dev nD) (i : grid0.Coords) (arg2 : Memref sig .tc .vmem S4224x256 .bf16) (harg2 : arg2.IsWhole) (arg3 : Memref sig .tc .vmem S384x256 .bf16) (harg3 : arg3.IsWhole) (arg4 : Memref sig .tc .vmem S384x256 .bf16) (harg4 : arg4.IsWhole) (arg5 : Memref sig .tc .vmem S4224x256 .bf16) (harg5 : arg5.IsWhole) (arg6 : Memref sig .tc .vmem S2x4224x1 .f32) (harg6 : arg6.IsWhole) (arg7 : Memref sig .tc .vmem S2x4224x1 .f32) (harg7 : arg7.IsWhole) (arg8 : Memref sig .tc .vmem S4224x256 .f32) (harg8 : arg8.IsWhole) (arg9 : Memref sig .tc .vmem S384x256 .f32) (harg9 : arg9.IsWhole) (arg10 : Memref sig .tc .vmem S384x256 .f32) (harg10 : arg10.IsWhole) (arg11 : Memref sig .tc .vmem S2x384x384 .f32) (harg11 : arg11.IsWhole) (arg12 : Memref sig .tc .vmem S2x384x384 .f32) (harg12 : arg12.IsWhole) (arg13 : Memref sig .tc .vmem S2x384x384 .bf16) (harg13 : arg13.IsWhole) (arg14 : Memref sig .tc .vmem S2x384x384 .bf16) (harg14 : arg14.IsWhole)
  (k0_h3 : k0_cond3 i = 1#1) (v374 : BitVec 32) (k : Fin (k0_t3_loop i).trips)
  (f2 : Ct (F := Ideal) c arg2) (f3 : Ct (F := Ideal) c arg3) (f4 : Ct (F := Ideal) c arg4) (f5 : Ct (F := Ideal) c arg5) (f6 : Ct (F := Ideal) c arg6) (f7 : Ct (F := Ideal) c arg7) (f8 : Ct (F := Ideal) c arg8) (f9 : Ct (F := Ideal) c arg9) (f10 : Ct (F := Ideal) c arg10)
  (D : Pair) (R0 C0 : ℕ) (hR : R0 = 384 * (i 1).val + 384 * k.val + 384)
  (h2 : Is2 (arg2.view.read (Elt Ideal) f2) D.q) (h3 : Is2 (arg3.view.read (Elt Ideal) f3) fun r d => D.k (C0 + r) d)
  (h4 : Is2 (arg4.view.read (Elt Ideal) f4) fun r d => D.v (C0 + r) d) (h5 : Is2 (arg5.view.read (Elt Ideal) f5) D.o)
  (h6 : IsH (arg6.view.read (Elt Ideal) f6) D.lse) (h7 : IsH (arg7.view.read (Elt Ideal) f7) D.del)
  (hv : ∀ r c, r < 384 → c < 384 → Pair.vis (R0 + r) (C0 + c))

section
include hR

theorem t3_off13 : k0_off13 i k = ![R0, 0] := by rw [k0_off13_eq, hR]
theorem t3_off15 : k0_off15 i k = ![R0, 128] := by rw [k0_off15_eq, hR]
theorem t3_off14 : k0_off14 i k = ![0, R0, 0] := by rw [k0_off14_eq, hR]
theorem t3_off16 : k0_off16 i k = ![1, R0, 0] := by rw [k0_off16_eq, hR]

end

section
include hR h2 h3 h6 hv in
/-- The weights of the trip's tile, head 0. -/
theorem t3_p0 : Is3 (trip3.sl.v481 (F := Ideal) c i arg2 arg3 arg6 arg11 arg13 k0_h3 k f2 f3 f6) fun r x => D.pr 0 (R0 + r) (C0 + x) := by
  have hq := load_rows arg2.view f2 (k0_off13_inb i k k0_h3) R0 0 (t3_off13 i k R0 hR) h2
  have hk := load_blk arg3.view f3 (off := ![0, 0]) (by decide +kernel) C0 0 rfl h3
  have hs := is_sc D 0 R0 C0 hq hk
  have hl := load_col arg6.view f6 (k0_off14_inb i k k0_h3) R0 0 (t3_off14 i k R0 hR) h6
  have hr := fun o inb inb' L ho => is_pr_free D 0 o R0 C0 hv ho (is_raw D arg11.view 0 o R0 C0 inb inb' L hs hl)
  exact is_head_of_strips arg13.view 0 _ _ _ _ _ _ _ _ (G := fun r x => D.pr 0 (R0 + r) (C0 + x))
    (is_strip (hr 0 _ _ _ (by decide))) (is_strip (hr 128 _ _ _ (by decide))) (is_strip (hr 256 _ _ _ (by decide)))

include h4 h5 h7 hR h2 h3 h6 hv in
/-- The gradient of the scores of the trip's tile, head 0. -/
theorem t3_ds0 : Is3 (trip3.sl.v471 (F := Ideal) c i arg2 arg3 arg4 arg5 arg6 arg7 arg11 arg12 arg14 k0_h3 k f2 f3 f4 f5 f6 f7) fun r x => D.ds 0 (R0 + r) (C0 + x) := by
  have hq := load_rows arg2.view f2 (k0_off13_inb i k k0_h3) R0 0 (t3_off13 i k R0 hR) h2
  have hk := load_blk arg3.view f3 (off := ![0, 0]) (by decide +kernel) C0 0 rfl h3
  have hs := is_sc D 0 R0 C0 hq hk
  have hl := load_col arg6.view f6 (k0_off14_inb i k k0_h3) R0 0 (t3_off14 i k R0 hR) h6
  have hr := fun o inb inb' L ho => is_pr_free D 0 o R0 C0 hv ho (is_raw D arg11.view 0 o R0 C0 inb inb' L hs hl)
  have ho := load_rows arg5.view f5 (k0_off13_inb i k k0_h3) R0 0 (t3_off13 i k R0 hR) h5
  have hvv := load_blk arg4.view f4 (off := ![0, 0]) (by decide +kernel) C0 0 rfl h4
  have he := is_dp D 0 R0 C0 ho hvv
  have hd := load_col arg7.view f7 (k0_off14_inb i k k0_h3) R0 0 (t3_off14 i k R0 hR) h7
  have hr' := fun o inb inb' L a b M ho => is_ds_strip D arg12.view 0 o R0 C0 a b M he hd (hr o inb inb' L ho)
  exact is_head_of_strips arg14.view 0 _ _ _ _ _ _ _ _ (G := fun r x => D.ds 0 (R0 + r) (C0 + x))
    (hr' 0 _ _ _ _ _ _ (by decide)) (hr' 128 _ _ _ _ _ _ (by decide)) (hr' 256 _ _ _ _ _ _ (by decide))
end

section
include hR h2 h3 h6 hv in
/-- The weights of the trip's tile, head 1. -/
theorem t3_p1 : Is3 (trip3.sl.v592 (F := Ideal) c i arg2 arg3 arg6 arg11 arg13 k0_h3 k f2 f3 f6) fun r x => D.pr 1 (R0 + r) (C0 + x) := by
  have hq := load_rows arg2.view f2 (k0_off15_inb i k k0_h3) R0 1 (t3_off15 i k R0 hR) h2
  have hk := load_blk arg3.view f3 (off := ![0, 128]) (by decide +kernel) C0 1 rfl h3
  have hs := is_sc D 1 R0 C0 hq hk
  have hl := load_col arg6.view f6 (k0_off16_inb i k k0_h3) R0 1 (t3_off16 i k R0 hR) h6
  have hr := fun o inb inb' L ho => is_pr_free D 1 o R0 C0 hv ho (is_raw D arg11.view 1 o R0 C0 inb inb' L hs hl)
  exact is_head_of_strips arg13.view 1 _ _ _ _ _ _ _ _ (G := fun r x => D.pr 1 (R0 + r) (C0 + x))
    (is_strip (hr 0 _ _ _ (by decide))) (is_strip (hr 128 _ _ _ (by decide))) (is_strip (hr 256 _ _ _ (by decide)))

include h4 h5 h7 hR h2 h3 h6 hv in
/-- The gradient of the scores of the trip's tile, head 1. -/
theorem t3_ds1 : Is3 (trip3.sl.v582 (F := Ideal) c i arg2 arg3 arg4 arg5 arg6 arg7 arg11 arg12 arg14 k0_h3 k f2 f3 f4 f5 f6 f7) fun r x => D.ds 1 (R0 + r) (C0 + x) := by
  have hq := load_rows arg2.view f2 (k0_off15_inb i k k0_h3) R0 1 (t3_off15 i k R0 hR) h2
  have hk := load_blk arg3.view f3 (off := ![0, 128]) (by decide +kernel) C0 1 rfl h3
  have hs := is_sc D 1 R0 C0 hq hk
  have hl := load_col arg6.view f6 (k0_off16_inb i k k0_h3) R0 1 (t3_off16 i k R0 hR) h6
  have hr := fun o inb inb' L ho => is_pr_free D 1 o R0 C0 hv ho (is_raw D arg11.view 1 o R0 C0 inb inb' L hs hl)
  have ho := load_rows arg5.view f5 (k0_off15_inb i k k0_h3) R0 1 (t3_off15 i k R0 hR) h5
  have hvv := load_blk arg4.view f4 (off := ![0, 128]) (by decide +kernel) C0 1 rfl h4
  have he := is_dp D 1 R0 C0 ho hvv
  have hd := load_col arg7.view f7 (k0_off16_inb i k k0_h3) R0 1 (t3_off16 i k R0 hR) h7
  have hr' := fun o inb inb' L a b M ho => is_ds_strip D arg12.view 1 o R0 C0 a b M he hd (hr o inb inb' L ho)
  exact is_head_of_strips arg14.view 1 _ _ _ _ _ _ _ _ (G := fun r x => D.ds 1 (R0 + r) (C0 + x))
    (hr' 0 _ _ _ _ _ _ (by decide)) (hr' 128 _ _ _ _ _ _ (by decide)) (hr' 256 _ _ _ _ _ _ (by decide))
end

section
include hR h2 h3 h4 h5 h6 h7 hv

/-- What the trip leaves in the queries' gradient. -/
theorem t3_dq {A : ℕ → ℕ → ℝ} (h8 : Is2 (arg8.view.read (Elt Ideal) f8) A) :
    Is2 (arg8.view.read (Elt Ideal) (arg8.view.writes (Elt Ideal) f8 (trip3 (F := Ideal) c i arg2 harg2 arg3 harg3 arg4 harg4 arg5 harg5 arg6 harg6 arg7 harg7 arg8 harg8 arg9 harg9 arg10 harg10 arg11 harg11 arg12 harg12 arg13 harg13 arg14 harg14 k0_h3 v374 k f2 f3 f4 f5 f6 f7 f8 f9 f10).1.1))
      (fun x y => if R0 ≤ x ∧ x < R0 + 384 then A x y + (∑ j ∈ Finset.range 384, D.ds (y / 128) x (C0 + j) * D.k (C0 + j) y) * cScale else A x y) := by
  unfold trip3
  exact is_store arg8.view f8 R0 _ (t3_off13 i k R0 hR) _ (t3_off15 i k R0 hR) _ _ []
    (is_dq_tile D 0 R0 C0 (is_cast <| load_blk arg3.view f3 (off := ![0, 0]) (by decide +kernel) C0 0 rfl h3) (load_rows32 arg8.view f8 (k0_off13_inb i k k0_h3) R0 0 (t3_off13 i k R0 hR) h8) (t3_ds0 c i arg2 arg3 arg4 arg5 arg6 arg7 arg11 arg12 arg14 k0_h3 k f2 f3 f4 f5 f6 f7 D R0 C0 hR h2 h3 h4 h5 h6 h7 hv))
    (is_dq_tile D 1 R0 C0 (is_cast <| load_blk arg3.view f3 (off := ![0, 128]) (by decide +kernel) C0 1 rfl h3) (load_rows32 arg8.view f8 (k0_off15_inb i k k0_h3) R0 1 (t3_off15 i k R0 hR) h8) (t3_ds1 c i arg2 arg3 arg4 arg5 arg6 arg7 arg11 arg12 arg14 k0_h3 k f2 f3 f4 f5 f6 f7 D R0 C0 hR h2 h3 h4 h5 h6 h7 hv)) h8

/-- What the trip leaves in the keys' gradient. -/
theorem t3_dk {A : ℕ → ℕ → ℝ} (h9 : Is2 (arg9.view.read (Elt Ideal) f9) A) :
    Is2 (arg9.view.read (Elt Ideal) (arg9.view.writes (Elt Ideal) f9 (trip3 (F := Ideal) c i arg2 harg2 arg3 harg3 arg4 harg4 arg5 harg5 arg6 harg6 arg7 harg7 arg8 harg8 arg9 harg9 arg10 harg10 arg11 harg11 arg12 harg12 arg13 harg13 arg14 harg14 k0_h3 v374 k f2 f3 f4 f5 f6 f7 f8 f9 f10).1.2.1))
      (fun x y => A x y + ∑ j ∈ Finset.range 384, D.ds (y / 128) (R0 + j) (C0 + x) * D.q (R0 + j) y) := by
  unfold trip3
  exact (is_store arg9.view f9 0 _ rfl _ rfl _ _ []
    (is_dk_tile D 0 R0 C0 (is_cast <| load_rows arg2.view f2 (k0_off13_inb i k k0_h3) R0 0 (t3_off13 i k R0 hR) h2) (load_blk32 arg9.view f9 (off := ![0, 0]) (by decide +kernel) 0 rfl h9) (t3_ds0 c i arg2 arg3 arg4 arg5 arg6 arg7 arg11 arg12 arg14 k0_h3 k f2 f3 f4 f5 f6 f7 D R0 C0 hR h2 h3 h4 h5 h6 h7 hv))
    (is_dk_tile D 1 R0 C0 (is_cast <| load_rows arg2.view f2 (k0_off15_inb i k k0_h3) R0 1 (t3_off15 i k R0 hR) h2) (load_blk32 arg9.view f9 (off := ![0, 128]) (by decide +kernel) 1 rfl h9) (t3_ds1 c i arg2 arg3 arg4 arg5 arg6 arg7 arg11 arg12 arg14 k0_h3 k f2 f3 f4 f5 f6 f7 D R0 C0 hR h2 h3 h4 h5 h6 h7 hv)) h9).congr
      fun r y hr _ => if_pos ⟨Nat.zero_le _, by omega⟩

/-- What the trip leaves in the values' gradient. -/
theorem t3_dv {A : ℕ → ℕ → ℝ} (h10 : Is2 (arg10.view.read (Elt Ideal) f10) A) :
    Is2 (arg10.view.read (Elt Ideal) (arg10.view.writes (Elt Ideal) f10 (trip3 (F := Ideal) c i arg2 harg2 arg3 harg3 arg4 harg4 arg5 harg5 arg6 harg6 arg7 harg7 arg8 harg8 arg9 harg9 arg10 harg10 arg11 harg11 arg12 harg12 arg13 harg13 arg14 harg14 k0_h3 v374 k f2 f3 f4 f5 f6 f7 f8 f9 f10).1.2.2))
      (fun x y => A x y + ∑ j ∈ Finset.range 384, D.pr (y / 128) (R0 + j) (C0 + x) * D.o (R0 + j) y) := by
  unfold trip3
  exact (is_store arg10.view f10 0 _ rfl _ rfl _ _ []
    (is_dv_tile D 0 R0 C0 (is_cast <| load_rows arg5.view f5 (k0_off13_inb i k k0_h3) R0 0 (t3_off13 i k R0 hR) h5) (load_blk32 arg10.view f10 (off := ![0, 0]) (by decide +kernel) 0 rfl h10) (t3_p0 c i arg2 arg3 arg6 arg11 arg13 k0_h3 k f2 f3 f6 D R0 C0 hR h2 h3 h6 hv))
    (is_dv_tile D 1 R0 C0 (is_cast <| load_rows arg5.view f5 (k0_off15_inb i k k0_h3) R0 1 (t3_off15 i k R0 hR) h5) (load_blk32 arg10.view f10 (off := ![0, 128]) (by decide +kernel) 1 rfl h10) (t3_p1 c i arg2 arg3 arg6 arg11 arg13 k0_h3 k f2 f3 f6 D R0 C0 hR h2 h3 h6 hv)) h10).congr
      fun r y hr _ => if_pos ⟨Nat.zero_le _, by omega⟩

end

end Cert.KernelIdeal.Hand
-- ==== Proof.Value.Loop3.lean ====
/-
  Hand-written, untrusted. The loop below the diagonal of a later key block: what it adds to the three gradients.
-/
module

public import proofs.«01_k».proof.Proof.Value.Trip3
public import proofs.«01_k».proof.Proof.Value.Tables
public import proofs.«01_k».proof.Proof.KernelIdeal.Loops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (c : Dev nD) (i : grid0.Coords) (arg2 : Memref sig .tc .vmem S4224x256 .bf16) (harg2 : arg2.IsWhole) (arg3 : Memref sig .tc .vmem S384x256 .bf16) (harg3 : arg3.IsWhole) (arg4 : Memref sig .tc .vmem S384x256 .bf16) (harg4 : arg4.IsWhole) (arg5 : Memref sig .tc .vmem S4224x256 .bf16) (harg5 : arg5.IsWhole) (arg6 : Memref sig .tc .vmem S2x4224x1 .f32) (harg6 : arg6.IsWhole) (arg7 : Memref sig .tc .vmem S2x4224x1 .f32) (harg7 : arg7.IsWhole) (arg8 : Memref sig .tc .vmem S4224x256 .f32) (harg8 : arg8.IsWhole) (arg9 : Memref sig .tc .vmem S384x256 .f32) (harg9 : arg9.IsWhole) (arg10 : Memref sig .tc .vmem S384x256 .f32) (harg10 : arg10.IsWhole) (arg11 : Memref sig .tc .vmem S2x384x384 .f32) (harg11 : arg11.IsWhole) (arg12 : Memref sig .tc .vmem S2x384x384 .f32) (harg12 : arg12.IsWhole) (arg13 : Memref sig .tc .vmem S2x384x384 .bf16) (harg13 : arg13.IsWhole) (arg14 : Memref sig .tc .vmem S2x384x384 .bf16) (harg14 : arg14.IsWhole)
  (k0_h3 : k0_cond3 i = 1#1) (v374 : BitVec 32)
  (f2 : Ct (F := Ideal) c arg2) (f3 : Ct (F := Ideal) c arg3) (f4 : Ct (F := Ideal) c arg4) (f5 : Ct (F := Ideal) c arg5) (f6 : Ct (F := Ideal) c arg6) (f7 : Ct (F := Ideal) c arg7) (f8 : Ct (F := Ideal) c arg8) (f9 : Ct (F := Ideal) c arg9) (f10 : Ct (F := Ideal) c arg10)
  (D : Pair) (C0 : ℕ) (hi : C0 = 384 * (i 1).val)
  (h2 : Is2 (arg2.view.read (Elt Ideal) f2) D.q) (h3 : Is2 (arg3.view.read (Elt Ideal) f3) fun r d => D.k (C0 + r) d)
  (h4 : Is2 (arg4.view.read (Elt Ideal) f4) fun r d => D.v (C0 + r) d) (h5 : Is2 (arg5.view.read (Elt Ideal) f5) D.o)
  (h6 : IsH (arg6.view.read (Elt Ideal) f6) D.lse) (h7 : IsH (arg7.view.read (Elt Ideal) f7) D.del)
  (hv : ∀ r c, C0 + 384 ≤ r → c < 384 → Pair.vis r (C0 + c))
  {A8 A9 A10 : ℕ → ℕ → ℝ} (h8 : Is2 (arg8.view.read (Elt Ideal) f8) A8)
  (h9 : Is2 (arg9.view.read (Elt Ideal) f9) A9) (h10 : Is2 (arg10.view.read (Elt Ideal) f10) A10)

/-- The three gradients' pieces after `k` trips. -/
abbrev lp3 (k : ℕ) := upTo (stp3 (F := Ideal) c i arg2 harg2 arg3 harg3 arg4 harg4 arg5 harg5 arg6 harg6 arg7 harg7 arg8 harg8 arg9 harg9 arg10 harg10 arg11 harg11 arg12 harg12 arg13 harg13 arg14 harg14 k0_h3 v374 f2 f3 f4 f5 f6 f7 f8 f9 f10) ([], [], []) k

include hi h2 h3 h4 h5 h6 h7 hv h8 h9 h10 in
/-- The three gradients after `k` trips. -/
theorem loop3 (k : ℕ) (hk : k ≤ (k0_t3_loop i).trips) :
    Is2 (arg8.view.read (Elt Ideal) (arg8.view.writes (Elt Ideal) f8 (lp3 c i arg2 harg2 arg3 harg3 arg4 harg4 arg5 harg5 arg6 harg6 arg7 harg7 arg8 harg8 arg9 harg9 arg10 harg10 arg11 harg11 arg12 harg12 arg13 harg13 arg14 harg14 k0_h3 v374 f2 f3 f4 f5 f6 f7 f8 f9 f10 k).1)) (D.tabQ A8 C0 (C0 + 384) (384 * k)) ∧
    Is2 (arg9.view.read (Elt Ideal) (arg9.view.writes (Elt Ideal) f9 (lp3 c i arg2 harg2 arg3 harg3 arg4 harg4 arg5 harg5 arg6 harg6 arg7 harg7 arg8 harg8 arg9 harg9 arg10 harg10 arg11 harg11 arg12 harg12 arg13 harg13 arg14 harg14 k0_h3 v374 f2 f3 f4 f5 f6 f7 f8 f9 f10 k).2.1)) (D.tabK A9 C0 (C0 + 384) (384 * k)) ∧
    Is2 (arg10.view.read (Elt Ideal) (arg10.view.writes (Elt Ideal) f10 (lp3 c i arg2 harg2 arg3 harg3 arg4 harg4 arg5 harg5 arg6 harg6 arg7 harg7 arg8 harg8 arg9 harg9 arg10 harg10 arg11 harg11 arg12 harg12 arg13 harg13 arg14 harg14 k0_h3 v374 f2 f3 f4 f5 f6 f7 f8 f9 f10 k).2.2)) (D.tabV A10 C0 (C0 + 384) (384 * k)) := by
  induction k with
  | zero =>
    refine ⟨?_, ?_, ?_⟩
    · rw [Nat.mul_zero, D.tabQ_zero]; exact h8
    · rw [Nat.mul_zero, D.tabK_zero]; exact h9
    · rw [Nat.mul_zero, D.tabV_zero]; exact h10
  | succ k ih =>
    obtain ⟨i8, i9, i10⟩ := ih (by omega)
    have e : 384 * (k + 1) = 384 * k + 384 := by ring
    have hs := upTo_succ (stp3 (F := Ideal) c i arg2 harg2 arg3 harg3 arg4 harg4 arg5 harg5 arg6 harg6 arg7 harg7 arg8 harg8 arg9 harg9 arg10 harg10 arg11 harg11 arg12 harg12 arg13 harg13 arg14 harg14 k0_h3 v374 f2 f3 f4 f5 f6 f7 f8 f9 f10) ([], [], []) ⟨k, hk⟩
    have hR : C0 + 384 + 384 * k = 384 * (i 1).val + 384 * (⟨k, hk⟩ : Fin (k0_t3_loop i).trips).val + 384 := by rw [hi]; ring
    unfold lp3 at i8 i9 i10 ⊢
    rw [show k + 1 = (⟨k, hk⟩ : Fin (k0_t3_loop i).trips).val + 1 from rfl, hs]
    refine ⟨?_, ?_, ?_⟩
    · rw [show 384 * ((⟨k, hk⟩ : Fin (k0_t3_loop i).trips).val + 1) = 384 * k + 384 from e, ← D.tabQ_add]
      unfold stp3
      dsimp only
      rw [View.writes_append]
      exact t3_dq c i arg2 harg2 arg3 harg3 arg4 harg4 arg5 harg5 arg6 harg6 arg7 harg7 arg8 harg8 arg9 harg9 arg10 harg10 arg11 harg11 arg12 harg12 arg13 harg13 arg14 harg14 k0_h3 v374 ⟨k, hk⟩ f2 f3 f4 f5 f6 f7 _ _ _ D (C0 + 384 + 384 * k) C0 hR h2 h3 h4 h5 h6 h7 (fun r x _ hx => hv _ _ (by omega) hx) i8
    · rw [show 384 * ((⟨k, hk⟩ : Fin (k0_t3_loop i).trips).val + 1) = 384 * k + 384 from e, ← D.tabK_add]
      unfold stp3
      dsimp only
      rw [View.writes_append]
      exact t3_dk c i arg2 harg2 arg3 harg3 arg4 harg4 arg5 harg5 arg6 harg6 arg7 harg7 arg8 harg8 arg9 harg9 arg10 harg10 arg11 harg11 arg12 harg12 arg13 harg13 arg14 harg14 k0_h3 v374 ⟨k, hk⟩ f2 f3 f4 f5 f6 f7 _ _ _ D (C0 + 384 + 384 * k) C0 hR h2 h3 h4 h5 h6 h7 (fun r x _ hx => hv _ _ (by omega) hx) i9
    · rw [show 384 * ((⟨k, hk⟩ : Fin (k0_t3_loop i).trips).val + 1) = 384 * k + 384 from e, ← D.tabV_add]
      unfold stp3
      dsimp only
      rw [View.writes_append]
      exact t3_dv c i arg2 harg2 arg3 harg3 arg4 harg4 arg5 harg5 arg6 harg6 arg7 harg7 arg8 harg8 arg9 harg9 arg10 harg10 arg11 harg11 arg12 harg12 arg13 harg13 arg14 harg14 k0_h3 v374 ⟨k, hk⟩ f2 f3 f4 f5 f6 f7 _ _ _ D (C0 + 384 + 384 * k) C0 hR h2 h3 h4 h5 h6 h7 (fun r x _ hx => hv _ _ (by omega) hx) i10

end Cert.KernelIdeal.Hand
-- ==== Proof.Value.BlockB.lean ====
/-
  Hand-written, untrusted. The diagonal tile of a later key block, and then the whole block: what it adds to the three gradients.
-/
module

public import proofs.«01_k».proof.Proof.Value.Reads2
public import proofs.«01_k».proof.Proof.Value.Loop3
public import proofs.«01_k».proof.Proof.KernelIdeal.BodyB

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (c : Dev nD) (i : grid0.Coords) (arg2 : Memref sig .tc .vmem S4224x256 .bf16) (harg2 : arg2.IsWhole) (arg3 : Memref sig .tc .vmem S384x256 .bf16) (harg3 : arg3.IsWhole) (arg4 : Memref sig .tc .vmem S384x256 .bf16) (harg4 : arg4.IsWhole) (arg5 : Memref sig .tc .vmem S4224x256 .bf16) (harg5 : arg5.IsWhole) (arg6 : Memref sig .tc .vmem S2x4224x1 .f32) (harg6 : arg6.IsWhole) (arg7 : Memref sig .tc .vmem S2x4224x1 .f32) (harg7 : arg7.IsWhole) (arg8 : Memref sig .tc .vmem S4224x256 .f32) (harg8 : arg8.IsWhole) (arg9 : Memref sig .tc .vmem S384x256 .f32) (harg9 : arg9.IsWhole) (arg10 : Memref sig .tc .vmem S384x256 .f32) (harg10 : arg10.IsWhole) (arg11 : Memref sig .tc .vmem S2x384x384 .f32) (harg11 : arg11.IsWhole) (arg12 : Memref sig .tc .vmem S2x384x384 .f32) (harg12 : arg12.IsWhole) (arg13 : Memref sig .tc .vmem S2x384x384 .bf16) (harg13 : arg13.IsWhole) (arg14 : Memref sig .tc .vmem S2x384x384 .bf16) (harg14 : arg14.IsWhole)
  (hc2 : ¬ k0_cond2 i = 1#1) (hc3 : k0_cond3 i = 1#1)
  (f2 : Ct (F := Ideal) c arg2) (f3 : Ct (F := Ideal) c arg3) (f4 : Ct (F := Ideal) c arg4) (f5 : Ct (F := Ideal) c arg5) (f6 : Ct (F := Ideal) c arg6) (f7 : Ct (F := Ideal) c arg7) (f8 : Ct (F := Ideal) c arg8)
  (D : Pair) (C0 : ℕ) (hi : C0 = 384 * (i 1).val) (hn : (i 1).val < 11)
  (h2 : Is2 (arg2.view.read (Elt Ideal) f2) D.q) (h3 : Is2 (arg3.view.read (Elt Ideal) f3) fun r d => D.k (C0 + r) d)
  (h4 : Is2 (arg4.view.read (Elt Ideal) f4) fun r d => D.v (C0 + r) d) (h5 : Is2 (arg5.view.read (Elt Ideal) f5) D.o)
  (h6 : IsH (arg6.view.read (Elt Ideal) f6) D.lse) (h7 : IsH (arg7.view.read (Elt Ideal) f7) D.del)
  {A8 : ℕ → ℕ → ℝ} (h8 : Is2 (arg8.view.read (Elt Ideal) f8) A8)

include hi hn h2 h3 h6 in
/-- The weights of the diagonal tile, head 0. -/
theorem db_p0 : Is3 (bodyB.sl.v174 (F := Ideal) c i arg2 arg3 arg6 arg11 arg13 f2 f3 f6) fun r x => D.pr 0 (C0 + r) (C0 + x) := by
  have hq := load_rows arg2.view f2 (k0_off1_inb i) C0 0 (by rw [k0_off1_eq, hi]) h2
  have hk := load_blk arg3.view f3 (off := ![0, 0]) (by decide +kernel) C0 0 rfl h3
  have hs := is_sc D 0 C0 C0 hq hk
  have hl := load_col arg6.view f6 (k0_off2_inb i) C0 0 (by rw [k0_off2_eq, hi]) h6
  have hr := fun o inb inb' L ho => is_pr_diag D 0 o C0 C0 (i 1).val hn hi rfl ho (is_raw D arg11.view 0 o C0 C0 inb inb' L hs hl)
  exact is_head_of_strips arg13.view 0 _ _ _ _ _ _ _ _ (G := fun r x => D.pr 0 (C0 + r) (C0 + x))
    (is_strip (hr 0 _ _ _ (by decide))) (is_strip (hr 128 _ _ _ (by decide))) (is_strip (hr 256 _ _ _ (by decide)))

include hi hn h2 h3 h4 h5 h6 h7 in
/-- The gradient of the scores of the diagonal tile, head 0. -/
theorem db_ds0 : Is3 (bodyB.sl.v164 (F := Ideal) c i arg2 arg3 arg4 arg5 arg6 arg7 arg11 arg12 arg14 f2 f3 f4 f5 f6 f7) fun r x => D.ds 0 (C0 + r) (C0 + x) := by
  have hq := load_rows arg2.view f2 (k0_off1_inb i) C0 0 (by rw [k0_off1_eq, hi]) h2
  have hk := load_blk arg3.view f3 (off := ![0, 0]) (by decide +kernel) C0 0 rfl h3
  have hs := is_sc D 0 C0 C0 hq hk
  have hl := load_col arg6.view f6 (k0_off2_inb i) C0 0 (by rw [k0_off2_eq, hi]) h6
  have hr := fun o inb inb' L ho => is_pr_diag D 0 o C0 C0 (i 1).val hn hi rfl ho (is_raw D arg11.view 0 o C0 C0 inb inb' L hs hl)
  have ho := load_rows arg5.view f5 (k0_off1_inb i) C0 0 (by rw [k0_off1_eq, hi]) h5
  have hvv := load_blk arg4.view f4 (off := ![0, 0]) (by decide +kernel) C0 0 rfl h4
  have he := is_dp D 0 C0 C0 ho hvv
  have hd := load_col arg7.view f7 (k0_off2_inb i) C0 0 (by rw [k0_off2_eq, hi]) h7
  have hr' := fun o inb inb' L a b M ho => is_ds_strip D arg12.view 0 o C0 C0 a b M he hd (hr o inb inb' L ho)
  exact is_head_of_strips arg14.view 0 _ _ _ _ _ _ _ _ (G := fun r x => D.ds 0 (C0 + r) (C0 + x))
    (hr' 0 _ _ _ _ _ _ (by decide)) (hr' 128 _ _ _ _ _ _ (by decide)) (hr' 256 _ _ _ _ _ _ (by decide))

include hi hn h2 h3 h6 in
/-- The weights of the diagonal tile, head 1. -/
theorem db_p1 : Is3 (bodyB.sl.v351 (F := Ideal) c i arg2 arg3 arg6 arg11 arg13 f2 f3 f6) fun r x => D.pr 1 (C0 + r) (C0 + x) := by
  have hq := load_rows arg2.view f2 (k0_off3_inb i) C0 1 (by rw [k0_off3_eq, hi]) h2
  have hk := load_blk arg3.view f3 (off := ![0, 128]) (by decide +kernel) C0 1 rfl h3
  have hs := is_sc D 1 C0 C0 hq hk
  have hl := load_col arg6.view f6 (k0_off4_inb i) C0 1 (by rw [k0_off4_eq, hi]) h6
  have hr := fun o inb inb' L ho => is_pr_diag D 1 o C0 C0 (i 1).val hn hi rfl ho (is_raw D arg11.view 1 o C0 C0 inb inb' L hs hl)
  exact is_head_of_strips arg13.view 1 _ _ _ _ _ _ _ _ (G := fun r x => D.pr 1 (C0 + r) (C0 + x))
    (is_strip (hr 0 _ _ _ (by decide))) (is_strip (hr 128 _ _ _ (by decide))) (is_strip (hr 256 _ _ _ (by decide)))

include hi hn h2 h3 h4 h5 h6 h7 in
/-- The gradient of the scores of the diagonal tile, head 1. -/
theorem db_ds1 : Is3 (bodyB.sl.v341 (F := Ideal) c i arg2 arg3 arg4 arg5 arg6 arg7 arg11 arg12 arg14 f2 f3 f4 f5 f6 f7) fun r x => D.ds 1 (C0 + r) (C0 + x) := by
  have hq := load_rows arg2.view f2 (k0_off3_inb i) C0 1 (by rw [k0_off3_eq, hi]) h2
  have hk := load_blk arg3.view f3 (off := ![0, 128]) (by decide +kernel) C0 1 rfl h3
  have hs := is_sc D 1 C0 C0 hq hk
  have hl := load_col arg6.view f6 (k0_off4_inb i) C0 1 (by rw [k0_off4_eq, hi]) h6
  have hr := fun o inb inb' L ho => is_pr_diag D 1 o C0 C0 (i 1).val hn hi rfl ho (is_raw D arg11.view 1 o C0 C0 inb inb' L hs hl)
  have ho := load_rows arg5.view f5 (k0_off3_inb i) C0 1 (by rw [k0_off3_eq, hi]) h5
  have hvv := load_blk arg4.view f4 (off := ![0, 128]) (by decide +kernel) C0 1 rfl h4
  have he := is_dp D 1 C0 C0 ho hvv
  have hd := load_col arg7.view f7 (k0_off4_inb i) C0 1 (by rw [k0_off4_eq, hi]) h7
  have hr' := fun o inb inb' L a b M ho => is_ds_strip D arg12.view 1 o C0 C0 a b M he hd (hr o inb inb' L ho)
  exact is_head_of_strips arg14.view 1 _ _ _ _ _ _ _ _ (G := fun r x => D.ds 1 (C0 + r) (C0 + x))
    (hr' 0 _ _ _ _ _ _ (by decide)) (hr' 128 _ _ _ _ _ _ (by decide)) (hr' 256 _ _ _ _ _ _ (by decide))

include hi hn h2 h3 h4 h5 h6 h7 in
/-- The keys' gradient after the diagonal tile. -/
theorem db_dk : Is2 (arg9.view.read (Elt Ideal) (arg9.view.writes (Elt Ideal) arg9.view.junk
    (bodyB.sl.H9_3 (F := Ideal) c i arg2 arg3 arg4 arg5 arg6 arg7 arg9 arg11 arg12 arg14 f2 f3 f4 f5 f6 f7))) (D.tabK (fun _ _ => 0) C0 C0 384) := by
  have hz := is_zero_blk arg9.view arg9.view.junk (off := ![0, 0]) (by decide +kernel)
  exact (is_store arg9.view arg9.view.junk 0 _ rfl _ rfl _ _ _
    (is_dk_tile D 0 C0 C0 (is_cast <| load_rows arg2.view f2 (k0_off1_inb i) C0 0 (by rw [k0_off1_eq, hi]) h2) (load_blk32 arg9.view _ (off := ![0, 0]) (by decide +kernel) 0 rfl hz) (db_ds0 c i arg2 arg3 arg4 arg5 arg6 arg7 arg11 arg12 arg14 f2 f3 f4 f5 f6 f7 D C0 hi hn h2 h3 h4 h5 h6 h7))
    (is_dk_tile D 1 C0 C0 (is_cast <| load_rows arg2.view f2 (k0_off3_inb i) C0 1 (by rw [k0_off3_eq, hi]) h2)
      (load_skip arg9.view arg9.view.junk 0 (by decide +kernel) rfl (by decide +kernel) rfl _ _ hz) (db_ds1 c i arg2 arg3 arg4 arg5 arg6 arg7 arg11 arg12 arg14 f2 f3 f4 f5 f6 f7 D C0 hi hn h2 h3 h4 h5 h6 h7)) hz).congr
      fun r y hr _ => if_pos ⟨Nat.zero_le _, by omega⟩

include hi hn h2 h3 h5 h6 in
/-- The values' gradient after the diagonal tile. -/
theorem db_dv : Is2 (arg10.view.read (Elt Ideal) (arg10.view.writes (Elt Ideal) arg10.view.junk
    (bodyB.sl.H10_3 (F := Ideal) c i arg2 arg3 arg5 arg6 arg10 arg11 arg13 f2 f3 f5 f6))) (D.tabV (fun _ _ => 0) C0 C0 384) := by
  have hz := is_zero_blk arg10.view arg10.view.junk (off := ![0, 0]) (by decide +kernel)
  exact (is_store arg10.view arg10.view.junk 0 _ rfl _ rfl _ _ _
    (is_dv_tile D 0 C0 C0 (is_cast <| load_rows arg5.view f5 (k0_off1_inb i) C0 0 (by rw [k0_off1_eq, hi]) h5) (load_blk32 arg10.view _ (off := ![0, 0]) (by decide +kernel) 0 rfl hz) (db_p0 c i arg2 arg3 arg6 arg11 arg13 f2 f3 f6 D C0 hi hn h2 h3 h6))
    (is_dv_tile D 1 C0 C0 (is_cast <| load_rows arg5.view f5 (k0_off3_inb i) C0 1 (by rw [k0_off3_eq, hi]) h5)
      (load_skip arg10.view arg10.view.junk 0 (by decide +kernel) rfl (by decide +kernel) rfl _ _ hz) (db_p1 c i arg2 arg3 arg6 arg11 arg13 f2 f3 f6 D C0 hi hn h2 h3 h6)) hz).congr
      fun r y hr _ => if_pos ⟨Nat.zero_le _, by omega⟩

/-- The queries' gradient's pieces of the diagonal tile. -/
abbrev dbL : List (View.Piece (Elt Ideal) S4224x256 .f32) := [⟨Rect.unit (s := S4224x256) (k0_off3 i) S384x128.size (k0_off3_inb i),
        k0_pay217 (bodyB.sl.r_9 (F := Ideal) c arg3 f3) (bodyB.sl.v339 (F := Ideal) c i arg8 f8)
          (bodyB.sl.v341 (F := Ideal) c i arg2 arg3 arg4 arg5 arg6 arg7 arg11 arg12 arg14 f2 f3 f4 f5 f6 f7)⟩,
      ⟨Rect.unit (s := S4224x256) (k0_off1 i) S384x128.size (k0_off1_inb i),
        k0_pay195 (bodyB.sl.v16 (F := Ideal) c arg3 f3) (View.readAt (Elt Ideal) arg8.view (Rect.unit (s := S4224x256) (k0_off1 i) S384x128.size (k0_off1_inb i)).toLoadRect f8)
          (bodyB.sl.v164 (F := Ideal) c i arg2 arg3 arg4 arg5 arg6 arg7 arg11 arg12 arg14 f2 f3 f4 f5 f6 f7)⟩]

include hi hn h2 h3 h4 h5 h6 h7 h8 in
/-- The queries' gradient after the diagonal tile. -/
theorem db_dq : Is2 (arg8.view.read (Elt Ideal) (arg8.view.writes (Elt Ideal) f8 (dbL c i arg2 arg3 arg4 arg5 arg6 arg7 arg8 arg11 arg12 arg14 f2 f3 f4 f5 f6 f7 f8)))
    (D.tabQ A8 C0 C0 384) := by
  exact is_store arg8.view f8 C0 _ (by rw [k0_off1_eq, hi]) _ (by rw [k0_off3_eq, hi]) _ _ []
    (is_dq_tile D 0 C0 C0 (is_cast <| load_blk arg3.view f3 (off := ![0, 0]) (by decide +kernel) C0 0 rfl h3) (load_rows32 arg8.view f8 (k0_off1_inb i) C0 0 (by rw [k0_off1_eq, hi]) h8) (db_ds0 c i arg2 arg3 arg4 arg5 arg6 arg7 arg11 arg12 arg14 f2 f3 f4 f5 f6 f7 D C0 hi hn h2 h3 h4 h5 h6 h7))
    (is_dq_tile D 1 C0 C0 (is_cast <| load_blk arg3.view f3 (off := ![0, 128]) (by decide +kernel) C0 1 rfl h3) (load_rows32 arg8.view f8 (k0_off3_inb i) C0 1 (by rw [k0_off3_eq, hi]) h8) (db_ds1 c i arg2 arg3 arg4 arg5 arg6 arg7 arg11 arg12 arg14 f2 f3 f4 f5 f6 f7 D C0 hi hn h2 h3 h4 h5 h6 h7)) h8

/-- The first key block's condition. -/
theorem k0c2_of : ∀ i : grid0.Coords, (i 1).val = 0 → k0_cond2 i = 1#1 := by decide +kernel

/-- The loop runs over the query blocks after the diagonal one. -/
theorem t3_trips : ∀ i : grid0.Coords, (k0_t3_loop i).trips = 10 - (i 1).val := by decide +kernel

include hc2 hi hn h2 h3 h4 h5 h6 h7 h8 in
/-- The three gradients after the whole key block, the keys' not yet scaled. -/
theorem lb :
    Is2 (arg8.view.read (Elt Ideal) (arg8.view.writes (Elt Ideal) (arg8.view.writes (Elt Ideal) f8 (dbL c i arg2 arg3 arg4 arg5 arg6 arg7 arg8 arg11 arg12 arg14 f2 f3 f4 f5 f6 f7 f8))
      (lp3 c i arg2 harg2 arg3 harg3 arg4 harg4 arg5 harg5 arg6 harg6 arg7 harg7 arg8 harg8 arg9 harg9 arg10 harg10 arg11 harg11 arg12 harg12 arg13 harg13 arg14 harg14 hc3 (bodyB.sl.v374 i) f2 f3 f4 f5 f6 f7 (arg8.view.writes (Elt Ideal) f8 (dbL c i arg2 arg3 arg4 arg5 arg6 arg7 arg8 arg11 arg12 arg14 f2 f3 f4 f5 f6 f7 f8)) (arg9.view.writes (Elt Ideal) arg9.view.junk (bodyB.sl.H9_3 (F := Ideal) c i arg2 arg3 arg4 arg5 arg6 arg7 arg9 arg11 arg12 arg14 f2 f3 f4 f5 f6 f7)) (arg10.view.writes (Elt Ideal) arg10.view.junk (bodyB.sl.H10_3 (F := Ideal) c i arg2 arg3 arg5 arg6 arg10 arg11 arg13 f2 f3 f5 f6)) (k0_t3_loop i).trips).1))
      (D.tabQ A8 C0 C0 (4224 - C0)) ∧
    Is2 (arg9.view.read (Elt Ideal) (arg9.view.writes (Elt Ideal) (arg9.view.writes (Elt Ideal) arg9.view.junk (bodyB.sl.H9_3 (F := Ideal) c i arg2 arg3 arg4 arg5 arg6 arg7 arg9 arg11 arg12 arg14 f2 f3 f4 f5 f6 f7))
      (lp3 c i arg2 harg2 arg3 harg3 arg4 harg4 arg5 harg5 arg6 harg6 arg7 harg7 arg8 harg8 arg9 harg9 arg10 harg10 arg11 harg11 arg12 harg12 arg13 harg13 arg14 harg14 hc3 (bodyB.sl.v374 i) f2 f3 f4 f5 f6 f7 (arg8.view.writes (Elt Ideal) f8 (dbL c i arg2 arg3 arg4 arg5 arg6 arg7 arg8 arg11 arg12 arg14 f2 f3 f4 f5 f6 f7 f8)) (arg9.view.writes (Elt Ideal) arg9.view.junk (bodyB.sl.H9_3 (F := Ideal) c i arg2 arg3 arg4 arg5 arg6 arg7 arg9 arg11 arg12 arg14 f2 f3 f4 f5 f6 f7)) (arg10.view.writes (Elt Ideal) arg10.view.junk (bodyB.sl.H10_3 (F := Ideal) c i arg2 arg3 arg5 arg6 arg10 arg11 arg13 f2 f3 f5 f6)) (k0_t3_loop i).trips).2.1))
      (D.tabK (fun _ _ => 0) C0 C0 (4224 - C0)) ∧
    Is2 (arg10.view.read (Elt Ideal) (arg10.view.writes (Elt Ideal) (arg10.view.writes (Elt Ideal) arg10.view.junk (bodyB.sl.H10_3 (F := Ideal) c i arg2 arg3 arg5 arg6 arg10 arg11 arg13 f2 f3 f5 f6))
      (lp3 c i arg2 harg2 arg3 harg3 arg4 harg4 arg5 harg5 arg6 harg6 arg7 harg7 arg8 harg8 arg9 harg9 arg10 harg10 arg11 harg11 arg12 harg12 arg13 harg13 arg14 harg14 hc3 (bodyB.sl.v374 i) f2 f3 f4 f5 f6 f7 (arg8.view.writes (Elt Ideal) f8 (dbL c i arg2 arg3 arg4 arg5 arg6 arg7 arg8 arg11 arg12 arg14 f2 f3 f4 f5 f6 f7 f8)) (arg9.view.writes (Elt Ideal) arg9.view.junk (bodyB.sl.H9_3 (F := Ideal) c i arg2 arg3 arg4 arg5 arg6 arg7 arg9 arg11 arg12 arg14 f2 f3 f4 f5 f6 f7)) (arg10.view.writes (Elt Ideal) arg10.view.junk (bodyB.sl.H10_3 (F := Ideal) c i arg2 arg3 arg5 arg6 arg10 arg11 arg13 f2 f3 f5 f6)) (k0_t3_loop i).trips).2.2))
      (D.tabV (fun _ _ => 0) C0 C0 (4224 - C0)) := by
  have e := t3_trips i
  have h1 : 1 ≤ (i 1).val := by
    by_contra hlt
    exact hc2 (k0c2_of i (by omega))
  have e' : 4224 - C0 = 384 + 384 * (k0_t3_loop i).trips := by omega
  rw [e', ← D.tabQ_add, ← D.tabK_add, ← D.tabV_add]
  exact loop3 c i arg2 harg2 arg3 harg3 arg4 harg4 arg5 harg5 arg6 harg6 arg7 harg7 arg8 harg8 arg9 harg9 arg10 harg10 arg11 harg11 arg12 harg12 arg13 harg13 arg14 harg14 hc3 (bodyB.sl.v374 i) f2 f3 f4 f5 f6 f7 _ _ _ D C0 hi h2 h3 h4 h5 h6 h7 (fun r x hr hx => ⟨by omega, .inl (by omega)⟩)
    (db_dq c i arg2 arg3 arg4 arg5 arg6 arg7 arg8 arg11 arg12 arg14 f2 f3 f4 f5 f6 f7 f8 D C0 hi hn h2 h3 h4 h5 h6 h7 h8)
    (db_dk c i arg2 arg3 arg4 arg5 arg6 arg7 arg9 arg11 arg12 arg14 f2 f3 f4 f5 f6 f7 D C0 hi hn h2 h3 h4 h5 h6 h7)
    (db_dv c i arg2 arg3 arg5 arg6 arg10 arg11 arg13 f2 f3 f5 f6 D C0 hi hn h2 h3 h5 h6) _ le_rfl

include hi hn h2 h3 h4 h5 h6 h7 h8 in
/-- The queries' gradient the body leaves. -/
theorem bb_dq : Is2 (arg8.view.read (Elt Ideal) (bodyB (F := Ideal) c i arg2 harg2 arg3 harg3 arg4 harg4 arg5 harg5 arg6 harg6 arg7 harg7 arg8 harg8 arg9 harg9 arg10 harg10 arg11 harg11 arg12 harg12 arg13 harg13 arg14 harg14 hc2 hc3 f2 f3 f4 f5 f6 f7 f8).1.1)
    (fun x y => A8 x y + D.addQ C0 x y) := by
  have h := (lb c i arg2 harg2 arg3 harg3 arg4 harg4 arg5 harg5 arg6 harg6 arg7 harg7 arg8 harg8 arg9 harg9 arg10 harg10 arg11 harg11 arg12 harg12 arg13 harg13 arg14 harg14 hc2 hc3 f2 f3 f4 f5 f6 f7 f8 D C0 hi hn h2 h3 h4 h5 h6 h7 h8).1
  rw [← View.writes_append] at h
  unfold bodyB
  exact Is2.congr h fun x y hx _ => by rw [D.tabQ_all _ _ _ (by omega)]

include hi hn h2 h3 h4 h5 h6 h7 h8 in
/-- The keys' gradient the body leaves. -/
theorem bb_dk : Is2 (arg9.view.read (Elt Ideal) (bodyB (F := Ideal) c i arg2 harg2 arg3 harg3 arg4 harg4 arg5 harg5 arg6 harg6 arg7 harg7 arg8 harg8 arg9 harg9 arg10 harg10 arg11 harg11 arg12 harg12 arg13 harg13 arg14 harg14 hc2 hc3 f2 f3 f4 f5 f6 f7 f8).1.2.1)
    (fun x y => (∑ r ∈ Finset.range 4224, D.ds (y / 128) r (C0 + x) * D.q r y) * cScale) := by
  have h := (lb c i arg2 harg2 arg3 harg3 arg4 harg4 arg5 harg5 arg6 harg6 arg7 harg7 arg8 harg8 arg9 harg9 arg10 harg10 arg11 harg11 arg12 harg12 arg13 harg13 arg14 harg14 hc2 hc3 f2 f3 f4 f5 f6 f7 f8 D C0 hi hn h2 h3 h4 h5 h6 h7 h8).2.1
  rw [← View.writes_append] at h
  have e : C0 + (4224 - C0) = 4224 := by omega
  unfold bodyB
  exact Is2.congr (is_fin_store arg9.view arg9.view.junk (by decide +kernel) (by decide +kernel) _ _ h) fun x y hx _ => by rw [D.tabK_all, zero_add, e]

set_option maxHeartbeats 2000000 in
include hi hn h2 h3 h4 h5 h6 h7 h8 in
/-- The values' gradient the body leaves. -/
theorem bb_dv : Is2 (arg10.view.read (Elt Ideal) (bodyB (F := Ideal) c i arg2 harg2 arg3 harg3 arg4 harg4 arg5 harg5 arg6 harg6 arg7 harg7 arg8 harg8 arg9 harg9 arg10 harg10 arg11 harg11 arg12 harg12 arg13 harg13 arg14 harg14 hc2 hc3 f2 f3 f4 f5 f6 f7 f8).1.2.2)
    (fun x y => ∑ r ∈ Finset.range 4224, D.pr (y / 128) r (C0 + x) * D.o r y) := by
  have h := (lb c i arg2 harg2 arg3 harg3 arg4 harg4 arg5 harg5 arg6 harg6 arg7 harg7 arg8 harg8 arg9 harg9 arg10 harg10 arg11 harg11 arg12 harg12 arg13 harg13 arg14 harg14 hc2 hc3 f2 f3 f4 f5 f6 f7 f8 D C0 hi hn h2 h3 h4 h5 h6 h7 h8).2.2
  rw [← View.writes_append] at h
  have e : C0 + (4224 - C0) = 4224 := by omega
  unfold bodyB
  exact Is2.congr h fun x y hx _ => by rw [D.tabV_all, zero_add, e]

end Cert.KernelIdeal.Hand
-- ==== Proof.Value.Point.lean ====
/-
  Hand-written, untrusted. What one grid point leaves, and the queries' gradient over the points of a pair of heads.
-/
module

public import proofs.«01_k».proof.Proof.Value.BlockA
public import proofs.«01_k».proof.Proof.Value.BlockB
public import proofs.«01_k».proof.Proof.KernelIdeal.Launch

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- What a key block at column `C0` must leave: the queries' gradient on top of `A`, the keys' and the values' whole. -/
structure Left (D : Pair) (A : ℕ → ℕ → ℝ) (C0 : ℕ) (R : Vec Ideal S4224x256 .f32 × Vec Ideal S384x256 .f32 × Vec Ideal S384x256 .f32) : Prop where
  dq : Is2 R.1 (fun x y => A x y + D.addQ C0 x y)
  dk : Is2 R.2.1 (fun x y => (∑ r ∈ Finset.range 4224, D.ds (y / 128) r (C0 + x) * D.q r y) * cScale)
  dv : Is2 R.2.2 (fun x y => ∑ r ∈ Finset.range 4224, D.pr (y / 128) r (C0 + x) * D.o r y)

/-- What the operand windows must hold at the key block at column `C0`. -/
structure Holds (D : Pair) (C0 : ℕ) (x2 : Vec Ideal S4224x256 .bf16) (x3 : Vec Ideal S384x256 .bf16) (x4 : Vec Ideal S384x256 .bf16)
    (x5 : Vec Ideal S4224x256 .bf16) (x6 : Vec Ideal S2x4224x1 .f32) (x7 : Vec Ideal S2x4224x1 .f32) : Prop where
  q : Is2 x2 D.q
  k : Is2 x3 fun r d => D.k (C0 + r) d
  v : Is2 x4 fun r d => D.v (C0 + r) d
  o : Is2 x5 D.o
  lse : IsH x6 D.lse
  del : IsH x7 D.del

section
variable (c : Dev nD) (i : grid0.Coords) (arg2 : Memref sig .tc .vmem S4224x256 .bf16) (harg2 : arg2.IsWhole) (arg3 : Memref sig .tc .vmem S384x256 .bf16) (harg3 : arg3.IsWhole) (arg4 : Memref sig .tc .vmem S384x256 .bf16) (harg4 : arg4.IsWhole) (arg5 : Memref sig .tc .vmem S4224x256 .bf16) (harg5 : arg5.IsWhole) (arg6 : Memref sig .tc .vmem S2x4224x1 .f32) (harg6 : arg6.IsWhole) (arg7 : Memref sig .tc .vmem S2x4224x1 .f32) (harg7 : arg7.IsWhole) (arg8 : Memref sig .tc .vmem S4224x256 .f32) (harg8 : arg8.IsWhole) (arg9 : Memref sig .tc .vmem S384x256 .f32) (harg9 : arg9.IsWhole) (arg10 : Memref sig .tc .vmem S384x256 .f32) (harg10 : arg10.IsWhole) (arg11 : Memref sig .tc .vmem S2x384x384 .f32) (harg11 : arg11.IsWhole) (arg12 : Memref sig .tc .vmem S2x384x384 .f32) (harg12 : arg12.IsWhole) (arg13 : Memref sig .tc .vmem S2x384x384 .bf16) (harg13 : arg13.IsWhole) (arg14 : Memref sig .tc .vmem S2x384x384 .bf16) (harg14 : arg14.IsWhole)

/-- The first key block's results. -/
theorem left_A (hc2 : k0_cond2 i = 1#1) (hc3 : ¬ k0_cond3 i = 1#1) (x2 : Vec Ideal S4224x256 .bf16) (x3 : Vec Ideal S384x256 .bf16) (x4 : Vec Ideal S384x256 .bf16) (x5 : Vec Ideal S4224x256 .bf16) (x6 : Vec Ideal S2x4224x1 .f32) (x7 : Vec Ideal S2x4224x1 .f32) (D : Pair) (C0 : ℕ) (hi : C0 = 384 * (i 1).val) (hn : (i 1).val < 11)
    (H : Holds D C0 x2 x3 x4 x5 x6 x7) :
    Left D (fun _ _ => 0) C0 (resA c i arg2 harg2 arg3 harg3 arg4 harg4 arg5 harg5 arg6 harg6 arg7 harg7 arg8 harg8 arg9 harg9 arg10 harg10 arg11 harg11 arg12 harg12 arg13 harg13 arg14 harg14 hc2 hc3 x2 x3 x4 x5 x6 x7) where
  dq := Is2.congr (ba_dq c i arg2 harg2 arg3 harg3 arg4 harg4 arg5 harg5 arg6 harg6 arg7 harg7 arg8 harg8 arg9 harg9 arg10 harg10 arg11 harg11 arg12 harg12 arg13 harg13 arg14 harg14 hc2 hc3 (harg2.unread x2) (harg3.unread x3) (harg4.unread x4) (harg5.unread x5) (harg6.unread x6) (harg7.unread x7) D C0 hi hn (by rw [harg2.read_unread]; exact H.q) (by rw [harg3.read_unread]; exact H.k) (by rw [harg4.read_unread]; exact H.v) (by rw [harg5.read_unread]; exact H.o) (by rw [harg6.read_unread]; exact H.lse) (by rw [harg7.read_unread]; exact H.del)) fun x y _ _ => (zero_add _).symm
  dk := ba_dk c i arg2 harg2 arg3 harg3 arg4 harg4 arg5 harg5 arg6 harg6 arg7 harg7 arg8 harg8 arg9 harg9 arg10 harg10 arg11 harg11 arg12 harg12 arg13 harg13 arg14 harg14 hc2 hc3 (harg2.unread x2) (harg3.unread x3) (harg4.unread x4) (harg5.unread x5) (harg6.unread x6) (harg7.unread x7) D C0 hi hn (by rw [harg2.read_unread]; exact H.q) (by rw [harg3.read_unread]; exact H.k) (by rw [harg4.read_unread]; exact H.v) (by rw [harg5.read_unread]; exact H.o) (by rw [harg6.read_unread]; exact H.lse) (by rw [harg7.read_unread]; exact H.del)
  dv := ba_dv c i arg2 harg2 arg3 harg3 arg4 harg4 arg5 harg5 arg6 harg6 arg7 harg7 arg8 harg8 arg9 harg9 arg10 harg10 arg11 harg11 arg12 harg12 arg13 harg13 arg14 harg14 hc2 hc3 (harg2.unread x2) (harg3.unread x3) (harg4.unread x4) (harg5.unread x5) (harg6.unread x6) (harg7.unread x7) D C0 hi hn (by rw [harg2.read_unread]; exact H.q) (by rw [harg3.read_unread]; exact H.k) (by rw [harg4.read_unread]; exact H.v) (by rw [harg5.read_unread]; exact H.o) (by rw [harg6.read_unread]; exact H.lse) (by rw [harg7.read_unread]; exact H.del)

/-- A later key block's results. -/
theorem left_B (hc2 : ¬ k0_cond2 i = 1#1) (hc3 : k0_cond3 i = 1#1) (x2 : Vec Ideal S4224x256 .bf16) (x3 : Vec Ideal S384x256 .bf16) (x4 : Vec Ideal S384x256 .bf16) (x5 : Vec Ideal S4224x256 .bf16) (x6 : Vec Ideal S2x4224x1 .f32) (x7 : Vec Ideal S2x4224x1 .f32) (x8 : Vec Ideal S4224x256 .f32) (D : Pair) (C0 : ℕ) (hi : C0 = 384 * (i 1).val) (hn : (i 1).val < 11)
    (H : Holds D C0 x2 x3 x4 x5 x6 x7) {A8 : ℕ → ℕ → ℝ} (h8 : Is2 x8 A8) :
    Left D A8 C0 (resB c i arg2 harg2 arg3 harg3 arg4 harg4 arg5 harg5 arg6 harg6 arg7 harg7 arg8 harg8 arg9 harg9 arg10 harg10 arg11 harg11 arg12 harg12 arg13 harg13 arg14 harg14 hc2 hc3 x2 x3 x4 x5 x6 x7 x8) where
  dq := bb_dq c i arg2 harg2 arg3 harg3 arg4 harg4 arg5 harg5 arg6 harg6 arg7 harg7 arg8 harg8 arg9 harg9 arg10 harg10 arg11 harg11 arg12 harg12 arg13 harg13 arg14 harg14 hc2 hc3 (harg2.unread x2) (harg3.unread x3) (harg4.unread x4) (harg5.unread x5) (harg6.unread x6) (harg7.unread x7) (harg8.unread x8) D C0 hi hn (by rw [harg2.read_unread]; exact H.q) (by rw [harg3.read_unread]; exact H.k) (by rw [harg4.read_unread]; exact H.v) (by rw [harg5.read_unread]; exact H.o) (by rw [harg6.read_unread]; exact H.lse) (by rw [harg7.read_unread]; exact H.del) (by rw [harg8.read_unread]; exact h8)
  dk := bb_dk c i arg2 harg2 arg3 harg3 arg4 harg4 arg5 harg5 arg6 harg6 arg7 harg7 arg8 harg8 arg9 harg9 arg10 harg10 arg11 harg11 arg12 harg12 arg13 harg13 arg14 harg14 hc2 hc3 (harg2.unread x2) (harg3.unread x3) (harg4.unread x4) (harg5.unread x5) (harg6.unread x6) (harg7.unread x7) (harg8.unread x8) D C0 hi hn (by rw [harg2.read_unread]; exact H.q) (by rw [harg3.read_unread]; exact H.k) (by rw [harg4.read_unread]; exact H.v) (by rw [harg5.read_unread]; exact H.o) (by rw [harg6.read_unread]; exact H.lse) (by rw [harg7.read_unread]; exact H.del) (by rw [harg8.read_unread]; exact h8)
  dv := bb_dv c i arg2 harg2 arg3 harg3 arg4 harg4 arg5 harg5 arg6 harg6 arg7 harg7 arg8 harg8 arg9 harg9 arg10 harg10 arg11 harg11 arg12 harg12 arg13 harg13 arg14 harg14 hc2 hc3 (harg2.unread x2) (harg3.unread x3) (harg4.unread x4) (harg5.unread x5) (harg6.unread x6) (harg7.unread x7) (harg8.unread x8) D C0 hi hn (by rw [harg2.read_unread]; exact H.q) (by rw [harg3.read_unread]; exact H.k) (by rw [harg4.read_unread]; exact H.v) (by rw [harg5.read_unread]; exact H.o) (by rw [harg6.read_unread]; exact H.lse) (by rw [harg7.read_unread]; exact H.del) (by rw [harg8.read_unread]; exact h8)

end

variable (m : (ℓ : Loc nD τ sig) → Buf (Elt Ideal) ℓ) (c : Dev nD)

/-- The key block of a point. -/
theorem coord1 : ∀ t : Fin grid0.N, (grid0.coords t 1).val = t.val % 11 := by decide +kernel

/-- The pairs' operands are in the windows at every point. -/
def Fed (P : ℕ → Pair) : Prop := ∀ t : Fin cfg0.N, Holds (P (t.val / 11)) (384 * (t.val % 11)) (iblk m c 0 t) (iblk m c 1 t) (iblk m c 2 t) (iblk m c 3 t) (iblk m c 4 t) (iblk m c 5 t)

variable {P : ℕ → Pair} (hP : Fed m c P)

include hP in
/-- What a point leaves. -/
theorem left_pt (t : Fin cfg0.N) (prev : Vec Ideal S4224x256 .f32) {A : ℕ → ℕ → ℝ} (hA : ¬ t.val % 11 = 0 → Is2 prev A)
    (h0 : t.val % 11 = 0 → A = fun _ _ => 0) : Left (P (t.val / 11)) A (384 * (t.val % 11)) (res m c t prev) := by
  have e := coord1 t
  have hlt : t.val % 11 < 11 := Nat.mod_lt _ (by decide)
  unfold res
  by_cases h : t.val % 11 = 0
  · rw [dif_pos h, h0 h]
    exact left_A c (grid0.coords t) _ _ _ _ _ _ _ _ _ _ _ _ _ _ _ _ _ _ _ _ _ _ _ _ _ _ _ _ _ _ _ _ _ _ _ _ (by rw [e]) (by omega) (hP t)
  · rw [dif_neg h]
    exact left_B c (grid0.coords t) _ _ _ _ _ _ _ _ _ _ _ _ _ _ _ _ _ _ _ _ _ _ _ _ _ _ _ _ _ _ _ _ _ _ _ _ _ (by rw [e]) (by omega) (hP t) (hA h)

/-- The queries' gradient after the key blocks before `n` of a pair. -/
def Pair.sofar (D : Pair) (n : ℕ) (x y : ℕ) : ℝ := ∑ j ∈ Finset.range n, D.addQ (384 * j) x y

include hP in
/-- The queries' gradient's window through the points of a pair. -/
theorem acc_pt : ∀ n, (hn : n < cfg0.N) → Is2 (acc m c (n + 1)) ((P (n / 11)).sofar (n % 11 + 1)) := by
  intro n
  induction n with
  | zero =>
    intro hn
    rw [acc_succ m c ⟨0, hn⟩]
    refine Is2.congr (left_pt m c hP ⟨0, hn⟩ _ (A := fun _ _ => 0) (fun h => absurd rfl h) fun _ => rfl).dq fun x y _ _ => ?_
    simp [Pair.sofar]
  | succ n ih =>
    intro hn
    rw [acc_succ m c ⟨n + 1, hn⟩]
    by_cases h : (n + 1) % 11 = 0
    · refine Is2.congr (left_pt m c hP ⟨n + 1, hn⟩ _ (A := fun _ _ => 0) (fun h' => absurd h h') fun _ => rfl).dq fun x y _ _ => ?_
      show 0 + (P ((n + 1) / 11)).addQ (384 * ((n + 1) % 11)) x y = (P ((n + 1) / 11)).sofar ((n + 1) % 11 + 1) x y
      rw [h, Pair.sofar, Finset.sum_range_one, zero_add]
    · refine Is2.congr (left_pt m c hP ⟨n + 1, hn⟩ _ (fun _ => ih (by omega)) fun h' => absurd h' h).dq fun x y _ _ => ?_
      show (P (n / 11)).sofar (n % 11 + 1) x y + (P ((n + 1) / 11)).addQ (384 * ((n + 1) % 11)) x y = (P ((n + 1) / 11)).sofar ((n + 1) % 11 + 1) x y
      rw [show n / 11 = (n + 1) / 11 by omega, show n % 11 + 1 = (n + 1) % 11 by omega, Pair.sofar, Pair.sofar, Finset.sum_range_succ]

/-- All the key blocks of a pair. -/
theorem sofar_all (D : Pair) (x y : ℕ) : D.sofar 11 x y = (∑ j ∈ Finset.range 4224, D.ds (y / 128) x j * D.k j y) * cScale := by
  have h : ∀ n, D.sofar n x y = (∑ j ∈ Finset.range (384 * n), D.ds (y / 128) x j * D.k j y) * cScale := by
    intro n
    induction n with
    | zero => simp [Pair.sofar]
    | succ n ih =>
      rw [show 384 * (n + 1) = 384 * n + 384 by ring, Finset.sum_range_add, add_mul, ← ih, Pair.sofar, Finset.sum_range_succ]
      rfl
  exact h 11

end Cert.KernelIdeal.Hand
-- ==== Proof.Value.Blocks.lean ====
/-
  Hand-written, untrusted. The call's blocks, and the arrays it leaves.
-/
module

public import proofs.«01_k».proof.Proof.Value.Soft
public import proofs.«01_k».proof.Proof.Value.Point

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- Where the windows' blocks lie. -/
theorem where_lie : ∀ t : Fin cfg0.N, win0_0.index t = ![0, t.val / 11] ∧ win0_1.index t = ![t.val % 11, t.val / 11] ∧ win0_2.index t = ![t.val % 11, t.val / 11]
    ∧ win0_3.index t = ![0, t.val / 11] ∧ win0_4.index t = ![t.val / 11, 0, 0] ∧ win0_5.index t = ![t.val / 11, 0, 0] ∧ win0_6.index t = ![0, t.val / 11]
    ∧ win0_7.index t = ![t.val % 11, t.val / 11] ∧ win0_8.index t = ![t.val % 11, t.val / 11] :=
  (by decide +kernel : ∀ t : Fin grid0.N, _)

variable {m : (ℓ : Loc nD τ sig) → Buf (Elt Ideal) ℓ} {c : Dev nD} {a : Attn}

theorem fed_q {A : ℕ → ℕ → ℝ} (h : Is2 (V m c main_v42 : FVec Ideal S4224x2048 .bf16) A) (t : Fin cfg0.N) :
    Is2 (iblk m c 0 t : FVec Ideal S4224x256 .bf16) fun r y => A r (256 * (t.val / 11) + y) := by
  intro r y
  have e := h r ⟨256 * (t.val / 11) + y.val, by have := t.isLt; have := y.isLt; simp only [show cfg0.N = 88 from rfl] at *; omega⟩
  refine Eq.trans ?_ e
  have hw := where_lie t
  blk_ext [iblk, hw]

theorem fed_k {A : ℕ → ℕ → ℝ} (h : Is2 (V m c main_v46 : FVec Ideal S4224x2048 .bf16) A) (t : Fin cfg0.N) :
    Is2 (iblk m c 1 t : FVec Ideal S384x256 .bf16) fun r y => A (384 * (t.val % 11) + r) (256 * (t.val / 11) + y) := by
  intro r y
  have e := h ⟨384 * (t.val % 11) + r.val, by have := r.isLt; omega⟩ ⟨256 * (t.val / 11) + y.val, by have := t.isLt; have := y.isLt; simp only [show cfg0.N = 88 from rfl] at *; omega⟩
  refine Eq.trans ?_ e
  have hw := where_lie t
  blk_ext [iblk, hw]

theorem fed_v {A : ℕ → ℕ → ℝ} (h : Is2 (V m c main_v47 : FVec Ideal S4224x2048 .bf16) A) (t : Fin cfg0.N) :
    Is2 (iblk m c 2 t : FVec Ideal S384x256 .bf16) fun r y => A (384 * (t.val % 11) + r) (256 * (t.val / 11) + y) := by
  intro r y
  have e := h ⟨384 * (t.val % 11) + r.val, by have := r.isLt; omega⟩ ⟨256 * (t.val / 11) + y.val, by have := t.isLt; have := y.isLt; simp only [show cfg0.N = 88 from rfl] at *; omega⟩
  refine Eq.trans ?_ e
  have hw := where_lie t
  blk_ext [iblk, hw]

theorem fed_o {A : ℕ → ℕ → ℝ} (h : Is2 (V m c main_v51 : FVec Ideal S4224x2048 .bf16) A) (t : Fin cfg0.N) :
    Is2 (iblk m c 3 t : FVec Ideal S4224x256 .bf16) fun r y => A r (256 * (t.val / 11) + y) := by
  intro r y
  have e := h r ⟨256 * (t.val / 11) + y.val, by have := t.isLt; have := y.isLt; simp only [show cfg0.N = 88 from rfl] at *; omega⟩
  refine Eq.trans ?_ e
  have hw := where_lie t
  blk_ext [iblk, hw]

theorem fed_lse {L : ℕ → ℕ → ℝ} (h : IsT (V m c main_v52 : FVec Ideal S16x4224x1 .f32) L) (t : Fin cfg0.N) :
    IsH (iblk m c 4 t : FVec Ideal S2x4224x1 .f32) fun h r => L (2 * (t.val / 11) + h) r := by
  intro g r
  have e := h ⟨2 * (t.val / 11) + g.val, by have := t.isLt; have := g.isLt; simp only [show cfg0.N = 88 from rfl] at *; omega⟩ r
  refine Eq.trans ?_ e
  have hw := where_lie t
  blk_ext [iblk, hw]

theorem fed_del {L : ℕ → ℕ → ℝ} (h : IsT (V m c main_v53 : FVec Ideal S16x4224x1 .f32) L) (t : Fin cfg0.N) :
    IsH (iblk m c 5 t : FVec Ideal S2x4224x1 .f32) fun h r => L (2 * (t.val / 11) + h) r := by
  intro g r
  have e := h ⟨2 * (t.val / 11) + g.val, by have := t.isLt; have := g.isLt; simp only [show cfg0.N = 88 from rfl] at *; omega⟩ r
  refine Eq.trans ?_ e
  have hw := where_lie t
  blk_ext [iblk, hw]

/-- The call reads the attention's operands. -/
theorem fed (G : Given m c a) : ∃ vv : ℕ → ℕ → ℝ, (∀ r y, r < 4224 → y < 2048 → y % 128 < 64 → vv r y = slotted 64 a.v r y) ∧ Fed m c (a.pair vv) := by
  obtain ⟨vv, hA, hv⟩ := is_slotOne G.v
  obtain ⟨hl, hd⟩ := stats G
  refine ⟨vv, hv, fun t => ⟨fed_q (A := slotted 96 a.q) ?_ t, fed_k (A := slotted 96 a.k) ?_ t, fed_v (A := vv) ?_ t, fed_o (A := slotted 64 a.o) ?_ t, fed_lse hl t, fed_del hd t⟩⟩
  · rw [V_main_v42]; exact is_slot96 G.q
  · rw [V_main_v46]; exact is_slot96 G.k
  · rw [V_main_v47]; exact hA
  · rw [V_main_v51]; exact is_slot64 G.o

/-- An array of slots, under 112 rows of zeros. -/
def slots (n : ℕ) (x : ℕ → ℕ → ℕ → ℝ) : FVec Ideal S4224x2048 .f32 := fun i => ((slotted n x (i 0).val (i 1).val : ℝ) : EReal)

theorem pair_lt (t : Fin cfg0.N) : t.val / 11 < 8 := by
  have := t.isLt
  simp only [show cfg0.N = 88 from rfl] at this
  omega

/-- The queries' gradient the call leaves. -/
theorem final_dq (G : Given m c a) : (dats m 0 c).arrAt 6 (cfgs 0).N = slots 96 a.dq := by
  obtain ⟨vv, hv, hF⟩ := fed G
  refine (dats m 0 c).arrAt_eq_of_covers 6 _ (by decide +kernel) fun t hf y => ?_
  have h10 := (flush0_6 t).mp hf
  have hw := where_lie t
  have h := acc_pt m c hF t.val t.isLt
  rw [h10] at h
  blk_simp
  rw [after0_6]
  unfold slots
  blk_simp [hw]
  idx_vars y
  rw [Nat.mul_comm (t.val / 11) 256, ← a.pair_dq vv hv (t.val / 11) (pair_lt t) _ _ y0.isLt y1.isLt, ← sofar_all]
  exact h y0 y1

/-- What a point leaves after the points before it. -/
theorem left_now {P : ℕ → Pair} (hP : Fed m c P) (t : Fin cfg0.N) : ∃ A, Left (P (t.val / 11)) A (384 * (t.val % 11)) (res m c t (acc m c t.val)) := by
  by_cases h : t.val % 11 = 0
  · exact ⟨_, left_pt m c hP t _ (fun h' => absurd h h') fun _ => rfl⟩
  · have ht : t.val - 1 + 1 = t.val := by omega
    have := acc_pt m c hP (t.val - 1) (by have := t.isLt; omega)
    rw [ht] at this
    exact ⟨_, left_pt m c hP t _ (fun _ => this) fun h' => absurd h' h⟩

/-- The keys' gradient the call leaves. -/
theorem final_dk (G : Given m c a) : (dats m 0 c).arrAt 7 (cfgs 0).N = slots 96 a.dk := by
  obtain ⟨vv, hv, hF⟩ := fed G
  refine (dats m 0 c).arrAt_eq_of_covers 7 _ (by decide +kernel) fun t hf y => ?_
  have hw := where_lie t
  obtain ⟨A, h⟩ := left_now hF t
  blk_simp
  rw [after0_7]
  unfold slots
  blk_simp [hw]
  idx_vars y
  rw [Nat.mul_comm (t.val / 11) 256, Nat.mul_comm (t.val % 11) 384, ← a.pair_dk vv hv (t.val / 11) (pair_lt t) _ _ (by have := y0.isLt; omega) y1.isLt]
  exact h.dk y0 y1

/-- The values' gradient the call leaves. -/
theorem final_dv (G : Given m c a) : (dats m 0 c).arrAt 8 (cfgs 0).N = slots 64 a.dv := by
  obtain ⟨vv, hv, hF⟩ := fed G
  refine (dats m 0 c).arrAt_eq_of_covers 8 _ (by decide +kernel) fun t hf y => ?_
  have hw := where_lie t
  obtain ⟨A, h⟩ := left_now hF t
  blk_simp
  rw [after0_8]
  unfold slots
  blk_simp [hw]
  idx_vars y
  rw [Nat.mul_comm (t.val / 11) 256, Nat.mul_comm (t.val % 11) 384, ← a.pair_dv vv (t.val / 11) _ _ (by have := y0.isLt; omega) y1.isLt]
  exact h.dv y0 y1

end Cert.KernelIdeal.Hand
-- ==== Proof.Value.RefTerms.lean ====
/-
  Hand-written, untrusted. The reference's results, in named steps.
-/
module

public import proofs.«01_k».proof.Proof.Gen.ReferenceIdeal.Run
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic

/-- Where a key is not after the query. -/
def rK : IVec S1x16x4112x4112 1 :=
  broadcastInDim S1x16x4112x4112 ![2, 3] bcast_S4112x4112_S1x16x4112x4112_2_3
    (cmpi .sle (broadcastInDim S4112x4112 ![0, 1] bcast_S1x4112_S4112x4112_0_1 (broadcastInDim S1x4112 ![1] bcast_S4112_S1x4112_1 (iotaInDim S4112 32 0)))
      (broadcastInDim S4112x4112 ![0, 1] bcast_S4112x1_S4112x4112_0_1 (broadcastInDim S4112x1 ![0] bcast_S4112_S4112x1_0 (iotaInDim S4112 32 0))))
/-- The scores. -/
def rS (X0 X1 : FVec Ideal S1x4112x16x96 .f32) : FVec Ideal S1x16x4112x4112 .f32 :=
  select rK (mulf (Host.dotGeneral dot_S1x4112x16x96_S1x4112x16x96_S1x16x4112x4112_3_3_1_1_02_02 none X0 X1)
      (broadcastInDim S1x16x4112x4112 ![] bcast_S_S1x16x4112x4112 (constant S_ .f32 0x3DD105EC#32)))
    (broadcastInDim S1x16x4112x4112 ![] bcast_S_S1x16x4112x4112 (id (constant S_ .f32 0xFF800000#32)))
/-- The largest score of a query. -/
def rM0 (S : FVec Ideal S1x16x4112x4112 .f32) : FVec Ideal S1x16x4112 .f32 :=
  Host.reduce FloatOps.maximumf S (constant S_ .f32 0xFF800000#32) reducesTo_S1x16x4112x4112_S1x16x4112_d3 h_S_
/-- Minus infinity for every query. -/
def rBot : FVec Ideal S1x16x4112 .f32 := broadcastInDim S1x16x4112 ![] bcast_S_S1x16x4112 (constant S_ .f32 0xFF800000#32)
/-- The largest of the score and minus infinity. -/
def rM (S : FVec Ideal S1x16x4112x4112 .f32) : FVec Ideal S1x16x4112 .f32 := maximumf rBot (rM0 S)
/-- A statistic of the queries, along the keys. -/
def rB (X : FVec Ideal S1x16x4112x1 .f32) : FVec Ideal S1x16x4112x4112 .f32 :=
  broadcastInDim S1x16x4112x4112 ![0, 1, 2, 3] bcast_S1x16x4112x1_S1x16x4112x4112_0_1_2_3 X
/-- The weights before they are normalised. -/
def rE (S : FVec Ideal S1x16x4112x4112 .f32) (Mx : FVec Ideal S1x16x4112 .f32) : FVec Ideal S1x16x4112x4112 .f32 :=
  Host.exp (subf S (rB (broadcastInDim S1x16x4112x1 ![0, 1, 2] bcast_S1x16x4112_S1x16x4112x1_0_1_2 Mx)))
/-- Their sums. -/
def rL (E : FVec Ideal S1x16x4112x4112 .f32) : FVec Ideal S1x16x4112x1 .f32 :=
  broadcastInDim S1x16x4112x1 ![0, 1, 2] bcast_S1x16x4112_S1x16x4112x1_0_1_2
    (Host.reduceAdd E (constant S_ .f32 0x00000000#32) reducesTo_S1x16x4112x4112_S1x16x4112_d3 h_S_)
/-- The cotangent, with the queries last. -/
def rO (X3 : FVec Ideal S1x4112x16x64 .f32) : FVec Ideal S1x16x64x4112 .f32 :=
  transpose S1x16x64x4112 [0, 2, 3, 1] X3 transposes_S1x4112x16x64_S1x16x64x4112_0_2_3_1
/-- The gradient of the weights. -/
def rG (X2 X3 : FVec Ideal S1x4112x16x64 .f32) : FVec Ideal S1x16x4112x4112 .f32 :=
  Host.dotGeneral dot_S1x16x64x4112_S1x4112x16x64_S1x16x4112x4112_2_3_3_1_01_02 none (rO X3) X2
/-- The gradient through a query's sum. -/
def rN (G E : FVec Ideal S1x16x4112x4112 .f32) (Ls : FVec Ideal S1x16x4112x1 .f32) : FVec Ideal S1x16x4112 .f32 :=
  broadcastInDim S1x16x4112 ![1, 2] bcast_S16x4112_S1x16x4112_1_2 (Host.reduceAdd (Host.negf (shapeCast S1x16x4112x1 (Host.reduceAdd
    (mulf (mulf G (rB (Host.divf (broadcastInDim S1x16x4112x1 ![] bcast_S_S1x16x4112x1 (constant S_ .f32 0x3F800000#32)) (mulf Ls Ls)))) E)
    (constant S_ .f32 0x00000000#32) reducesTo_S1x16x4112x4112_S1x16x4112_d3 h_S_) shapeCasts_S1x16x4112_S1x16x4112x1))
    (constant S_ .f32 0x00000000#32) reducesTo_S1x16x4112x1_S16x4112_d0_3 h_S_)
/-- The gradient of the scores, scaled. -/
def rT (G E : FVec Ideal S1x16x4112x4112 .f32) (Ls : FVec Ideal S1x16x4112x1 .f32) (N : FVec Ideal S1x16x4112 .f32) : FVec Ideal S1x16x4112x4112 .f32 :=
  mulf (select rK (mulf (addf (Host.divf G (rB Ls)) (broadcastInDim S1x16x4112x4112 ![0, 1, 2] bcast_S1x16x4112_S1x16x4112x4112_0_1_2 N)) E)
      (broadcastInDim S1x16x4112x4112 ![] bcast_S_S1x16x4112x4112 (constant S_ .f32 0x00000000#32)))
    (broadcastInDim S1x16x4112x4112 ![] bcast_S_S1x16x4112x4112 (constant S_ .f32 0x3DD105EC#32))
/-- The queries' gradient. -/
def rDq (T : FVec Ideal S1x16x4112x4112 .f32) (X1 : FVec Ideal S1x4112x16x96 .f32) : FVec Ideal S1x4112x16x96 .f32 :=
  transpose S1x4112x16x96 [0, 2, 1, 3] (Host.dotGeneral dot_S1x16x4112x4112_S1x4112x16x96_S1x16x4112x96_3_1_2_3_01_02 none T X1) transposes_S1x16x4112x96_S1x4112x16x96_0_2_1_3
/-- The keys' gradient. -/
def rDk (T : FVec Ideal S1x16x4112x4112 .f32) (X0 : FVec Ideal S1x4112x16x96 .f32) : FVec Ideal S1x4112x16x96 .f32 :=
  transpose S1x4112x16x96 [0, 2, 1, 3] (Host.dotGeneral dot_S1x16x4112x4112_S1x4112x16x96_S1x16x4112x96_2_1_3_3_01_02 none T X0) transposes_S1x16x4112x96_S1x4112x16x96_0_2_1_3
/-- The values' gradient. -/
def rDv (E : FVec Ideal S1x16x4112x4112 .f32) (Ls : FVec Ideal S1x16x4112x1 .f32) (X3 : FVec Ideal S1x4112x16x64 .f32) : FVec Ideal S1x4112x16x64 .f32 :=
  transpose S1x4112x16x64 [0, 3, 1, 2] (Host.dotGeneral dot_S1x16x64x4112_S1x16x4112x4112_S1x16x64x4112_3_2_2_3_01_01 none (rO X3) (Host.divf E (rB Ls)))
    transposes_S1x16x64x4112_S1x4112x16x64_0_3_1_2
/-- The slots of 128 lanes of an array with 96 lanes a head. -/
def rSlot96 (X : FVec Ideal S1x4112x16x96 .f32) : FVec Ideal S4224x2048 .f32 :=
  shapeCast S4224x2048 (pad S4224x16x128 ![112, 0, 0] ![0, 0, 32] ![0, 0, 0] (shapeCast S4112x16x96 X shapeCasts_S1x4112x16x96_S4112x16x96) (sitofp .f32 (constantI S_ 32 0#32))
    pads_S4112x16x96_S4224x16x128_11200_000_0320 h_S_) shapeCasts_S4224x16x128_S4224x2048
/-- The slots of 128 lanes of an array with 64 lanes a head. -/
def rSlot64 (X : FVec Ideal S1x4112x16x64 .f32) : FVec Ideal S4224x2048 .f32 :=
  shapeCast S4224x2048 (pad S4224x16x128 ![112, 0, 0] ![0, 0, 64] ![0, 0, 0] (shapeCast S4112x16x64 X shapeCasts_S1x4112x16x64_S4112x16x64) (sitofp .f32 (constantI S_ 32 0#32))
    pads_S4112x16x64_S4224x16x128_11200_000_0640 h_S_) shapeCasts_S4224x16x128_S4224x2048

variable (m : (ℓ : Loc nD τ sig) → Buf (Elt Ideal) ℓ) (c : Dev nD)

abbrev xq : FVec Ideal S1x4112x16x96 .f32 := m ((c.tc : Thread nD τ).loc main_arg0)
abbrev xk : FVec Ideal S1x4112x16x96 .f32 := m ((c.tc : Thread nD τ).loc main_arg1)
abbrev xv : FVec Ideal S1x4112x16x64 .f32 := m ((c.tc : Thread nD τ).loc main_arg2)
abbrev xo : FVec Ideal S1x4112x16x64 .f32 := m ((c.tc : Thread nD τ).loc main_arg3)
/-- The weights before they are normalised. -/
abbrev tE : FVec Ideal S1x16x4112x4112 .f32 := rE (rS (xq m c) (xk m c)) (rM (rS (xq m c) (xk m c)))
/-- The gradient of the scores, scaled. -/
abbrev tT : FVec Ideal S1x16x4112x4112 .f32 := rT (rG (xv m c) (xo m c)) (tE m c) (rL (tE m c)) (rN (rG (xv m c) (xo m c)) (tE m c) (rL (tE m c)))

theorem out0 : Value.res_out0 m c = rSlot96 (rDq (tT m c) (xk m c)) := rfl
theorem out1 : Value.res_out1 m c = rSlot96 (rDk (tT m c) (xq m c)) := rfl
theorem out2 : Value.res_out2 m c = rSlot64 (rDv (tE m c) (rL (tE m c)) (xo m c)) := rfl

end Cert.ReferenceIdeal.Hand
-- ==== Proof.Value.Ref.lean ====
/-
  Hand-written, untrusted. The reference's results, index by index.
-/
module

public import proofs.«01_k».proof.Proof.Value.Blocks
public import proofs.«01_k».proof.Proof.Value.RefTerms

@[expose] public section

set_option maxRecDepth 16384

noncomputable section

namespace Cert.ReferenceIdeal.Hand

open Cert.ReferenceIdeal Cert.ReferenceIdeal.Gen
open Cert.KernelIdeal.Hand (Attn Is4 Is2 slotted slots is_slot96 is_slot64 pick fold_max table2 sum_coe bits_bot bits_scale div_real cScale)
open Idealize.ShloMosaic Idealize.ShloMosaic.TcCoe Idealize.ShloMosaic.Tactic
variable {a : Attn} {X0 X1 : FVec Ideal S1x4112x16x96 .f32} {X2 X3 : FVec Ideal S1x4112x16x64 .f32} {Mr : ℕ → ℕ → ℝ}

theorem is_rS (hq : Is4 X0 a.q) (hk : Is4 X1 a.k) (h : Fin 16) (i j : Fin 4112) : rS X0 X1 (ix4 0 h i j) = a.sm h i j := by
  pointwise [rS, rK]
  rw [pick _ _ i.isLt j.isLt, Attn.sm]
  refine if_congr Iff.rfl ?_ bits_bot
  rw [sum_coe _ (fun d => a.q i h d * a.k j h d) (fun d => by rw [hq, hk, EReal.coe_mul]), bits_scale, Attn.s, EReal.coe_mul]

theorem is_rM0 {S : FVec Ideal S1x16x4112x4112 .f32} (hS : ∀ h i j, S (ix4 0 h i j) = a.sm h i j) :
    ∃ Mr : ℕ → ℕ → ℝ, ∀ (h : Fin 16) (i : Fin 4112), rM0 S (ix3 0 h i) = ((Mr h i : ℝ) : EReal) := by
  refine table2 _ fun h i => ?_
  pointwise [rM0]
  rw [bits_bot]
  exact a.sm_max h i _ fun j => hS h i j

theorem max_at (X Y : FVec Ideal S1x16x4112 .f32) (i : S1x16x4112.Idx) : maximumf X Y i = max (X i) (Y i) := rfl

theorem rBot_at (h : Fin 16) (i : Fin 4112) : rBot (ix3 0 h i) = (⊥ : EReal) := by
  pointwise [rBot]
  exact bits_bot

theorem is_rM {S : FVec Ideal S1x16x4112x4112 .f32} (hM : ∀ (h : Fin 16) (i : Fin 4112), rM0 S (ix3 0 h i) = ((Mr h i : ℝ) : EReal)) (h : Fin 16) (i : Fin 4112) :
    rM S (ix3 0 h i) = ((Mr h i : ℝ) : EReal) := by
  unfold rM
  rw [max_at, rBot_at, hM]
  exact max_eq_right bot_le

theorem is_rE {S : FVec Ideal S1x16x4112x4112 .f32} {Mx : FVec Ideal S1x16x4112 .f32} (hS : ∀ h i j, S (ix4 0 h i j) = a.sm h i j)
    (hM : ∀ (h : Fin 16) (i : Fin 4112), Mx (ix3 0 h i) = ((Mr h i : ℝ) : EReal)) (h : Fin 16) (i j : Fin 4112) :
    rE S Mx (ix4 0 h i j) = ((a.e Mr h i j : ℝ) : EReal) := by
  pointwise [rE, rB]
  rw [hS, hM]
  exact a.sm_exp Mr h i j

variable {E : FVec Ideal S1x16x4112x4112 .f32} (hE : ∀ (h : Fin 16) (i j : Fin 4112), E (ix4 0 h i j) = ((a.e Mr h i j : ℝ) : EReal))

/-- The sum of a query's weights. -/
def sumE (a : Attn) (Mr : ℕ → ℕ → ℝ) (h i : ℕ) : ℝ := ∑ j ∈ Finset.range 4112, a.e Mr h i j

include hE in
theorem is_rL (h : Fin 16) (i : Fin 4112) : rL E (ix4 0 h i 0) = ((sumE a Mr h i : ℝ) : EReal) := by
  pointwise [rL]
  exact sum_coe _ (fun j => a.e Mr h i j) fun j => hE h i j

theorem is_rG (hv : Is4 X2 a.v) (ho : Is4 X3 a.o) (h : Fin 16) (i j : Fin 4112) : rG X2 X3 (ix4 0 h i j) = ((a.dp h i j : ℝ) : EReal) := by
  pointwise [rG, rO]
  exact sum_coe _ (fun d => a.o i h d * a.v j h d) fun d => by rw [ho, hv, EReal.coe_mul]

/-- A sum over the first and the last axis, of one element each. -/
theorem sum_ends {n1 n2 : ℕ} (h : (⟨4, ![1, n1, n2, 1]⟩ : Shape).ReducesTo [0, 3] ⟨2, ![n1, n2]⟩) (v : (⟨4, ![1, n1, n2, 1]⟩ : Shape).Idx → EReal) (init : EReal)
    (p : Fin n1) (q : Fin n2) : Ideal.hostReduceAdd h v init (ix2 p q) = init + v (ix4 0 p q 0) := by
  unfold Ideal.hostReduceAdd
  refine congrArg (init + ·) (Finset.sum_eq_single (ix4 0 p q 0) (fun b hb hne => (hne ?_).elim) fun hn => (hn ?_).elim)
  · have hd := (Finset.mem_filter.mp hb).2
    have h0 : b 1 = p := congrFun hd 0
    have h1 : b 2 = q := congrFun hd 1
    funext k
    match k with
    | ⟨0, _⟩ => exact Subsingleton.elim (α := Fin 1) _ _
    | ⟨1, _⟩ => exact h0
    | ⟨2, _⟩ => exact h1
    | ⟨3, _⟩ => exact Subsingleton.elim (α := Fin 1) _ _
  · refine Finset.mem_filter.mpr ⟨Finset.mem_univ _, ?_⟩
    funext k
    match k with
    | ⟨0, _⟩ => rfl
    | ⟨1, _⟩ => rfl

variable {Ls : FVec Ideal S1x16x4112x1 .f32} (hL : ∀ (h : Fin 16) (i : Fin 4112), Ls (ix4 0 h i 0) = ((sumE a Mr h i : ℝ) : EReal))
  {G : FVec Ideal S1x16x4112x4112 .f32} (hG : ∀ (h : Fin 16) (i j : Fin 4112), G (ix4 0 h i j) = ((a.dp h i j : ℝ) : EReal))

theorem sumE_ne (h : ℕ) (i : Fin 4112) : sumE a Mr h i ≠ 0 := (a.e_sum_pos Mr h i i.isLt).ne'

include hE hL hG in
theorem is_rN (h : Fin 16) (i : Fin 4112) :
    rN G E Ls (ix3 0 h i) = ((-(∑ j ∈ Finset.range 4112, a.dp h i j * (1 / (sumE a Mr h i * sumE a Mr h i)) * a.e Mr h i j) : ℝ) : EReal) := by
  pointwise [rN, rB]
  rw [sum_ends, zero_add]
  pointwise
  refine (congrArg Neg.neg (sum_coe _ (fun j => a.dp h i j * (1 / (sumE a Mr h i * sumE a Mr h i)) * a.e Mr h i j) fun j => ?_)).trans (EReal.coe_neg _).symm
  rw [hG, hE, hL, ← EReal.coe_mul, ← EReal.coe_one, div_real _ _ (mul_ne_zero (sumE_ne h i) (sumE_ne h i)), ← EReal.coe_mul, ← EReal.coe_mul]

/-- The gradient of a score in the reference's form. -/
theorem ds_form (h i j : ℕ) (hi : i < 4112) :
    (a.dp h i j / sumE a Mr h i + -(∑ j ∈ Finset.range 4112, a.dp h i j * (1 / (sumE a Mr h i * sumE a Mr h i)) * a.e Mr h i j)) * a.e Mr h i j = a.ds h i j := by
  have hz : sumE a Mr h i ≠ 0 := sumE_ne h ⟨i, hi⟩
  have e : ∀ j, a.p h i j = a.e Mr h i j / sumE a Mr h i := fun j => (a.e_div Mr h i j).symm
  have h1 : ∑ j ∈ Finset.range 4112, a.dp h i j * (1 / (sumE a Mr h i * sumE a Mr h i)) * a.e Mr h i j = a.del h i / sumE a Mr h i := by
    rw [Attn.del, Finset.sum_div]
    refine Finset.sum_congr rfl fun j _ => ?_
    rw [e]
    field_simp
  rw [h1, Attn.ds, e]
  field_simp
  ring

variable {N : FVec Ideal S1x16x4112 .f32}
  (hN : ∀ (h : Fin 16) (i : Fin 4112), N (ix3 0 h i) = ((-(∑ j ∈ Finset.range 4112, a.dp h i j * (1 / (sumE a Mr h i * sumE a Mr h i)) * a.e Mr h i j) : ℝ) : EReal))

include hE hL hG hN in
theorem is_rT (h : Fin 16) (i j : Fin 4112) : rT G E Ls N (ix4 0 h i j) = ((a.ds h i j * cScale : ℝ) : EReal) := by
  pointwise [rT, rK, rB]
  rw [pick _ _ i.isLt j.isLt, hG, hL, hN, hE, div_real _ _ (sumE_ne h i), ← EReal.coe_add, ← EReal.coe_mul, bits_scale, ds_form h i j i.isLt, EReal.coe_mul]
  split_ifs with hj
  · rfl
  · rw [show a.ds h i j = 0 by rw [Attn.ds, Attn.p, Attn.w, if_neg hj, zero_div, zero_mul]]
    simp

variable {T : FVec Ideal S1x16x4112x4112 .f32} (hT : ∀ (h : Fin 16) (i j : Fin 4112), T (ix4 0 h i j) = ((a.ds h i j * cScale : ℝ) : EReal))

include hT in
theorem is_rDq (hk : Is4 X1 a.k) : Is4 (rDq T X1) a.dq := by
  intro i h d
  pointwise [rDq]
  refine (sum_coe _ (fun j => a.ds h i j * cScale * a.k j h d) fun j => by rw [hT, hk, EReal.coe_mul _ (a.k _ _ _)]).trans ?_
  rw [Attn.dq, Finset.sum_mul]
  exact congrArg _ (Finset.sum_congr rfl fun j _ => by ring)

include hT in
theorem is_rDk (hq : Is4 X0 a.q) : Is4 (rDk T X0) a.dk := by
  intro j h d
  pointwise [rDk]
  refine (sum_coe _ (fun i => a.ds h i j * cScale * a.q i h d) fun i => by rw [hT, hq, EReal.coe_mul _ (a.q _ _ _)]).trans ?_
  rw [Attn.dk, Finset.sum_mul]
  exact congrArg _ (Finset.sum_congr rfl fun i _ => by ring)

include hE hL in
theorem is_rDv (ho : Is4 X3 a.o) : Is4 (rDv E Ls X3) a.dv := by
  intro j h d
  pointwise [rDv, rO, rB]
  refine (sum_coe _ (fun i => a.o i h d * a.p h i j) fun i => by rw [ho, hE, hL, div_real _ _ (sumE_ne h i), sumE, a.e_div, EReal.coe_mul]).trans ?_
  rw [Attn.dv]
  exact congrArg _ (Finset.sum_congr rfl fun i _ => mul_comm _ _)

theorem slots_of {n : ℕ} {x : FVec Ideal S4224x2048 .f32} {t : ℕ → ℕ → ℕ → ℝ} (h : Is2 x (slotted n t)) : x = slots n t := by
  funext i
  idx_vars i
  exact h _ _

variable (m : (ℓ : Loc nD τ sig) → Buf (Elt Ideal) ℓ) (c : Dev nD)

/-- The reference's results are the gradients. -/
theorem results (hq : Is4 (xq m c) a.q) (hk : Is4 (xk m c) a.k) (hv : Is4 (xv m c) a.v) (ho : Is4 (xo m c) a.o) :
    Value.res_out0 m c = slots 96 a.dq ∧ Value.res_out1 m c = slots 96 a.dk ∧ Value.res_out2 m c = slots 64 a.dv := by
  have hS := is_rS hq hk
  obtain ⟨Mr, hM0⟩ := is_rM0 hS
  have hM := is_rM hM0
  have hE := is_rE hS hM
  have hL := is_rL hE
  have hG := is_rG hv ho
  have hN := is_rN hE hL hG
  have hT := is_rT hE hL hG hN
  rw [out0, out1, out2]
  exact ⟨slots_of (is_slot96 (is_rDq hT hk)), slots_of (is_slot96 (is_rDk hT hq)), slots_of (is_slot64 (is_rDv hE hL ho))⟩

end Cert.ReferenceIdeal.Hand
-- ==== Proof.Value.Agree.lean ====
/- The two results of the algebraic claim (hand-written, untrusted). -/
module

public import proofs.«01_k».proof.Defs
public import proofs.«01_k».proof.Proof.Value.Finite
public import proofs.«01_k».proof.Proof.Value.Ref
public import proofs.«01_k».proof.Proof.KernelIdeal.Launch
public import proofs.«01_k».proof.Proof.Gen.ReferenceIdeal.Run

@[expose] public section

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The kernel's three results on finite arguments: the gradients of the attention, in the slots of the array the call returns. -/
theorem finals (a : Dev nD → Attn) (G : ∀ c, Given m c (a c)) : θ_run (defs (F := Ideal)) (onTc (τ := τ) (main (F := Ideal))) ⟨m, fun _ => 0, ρ⟩ (fun r => ∀ c : Dev nD,
      r.2.mem ((c.tc : Thread nD τ).loc main_v54_0) = slots 96 (a c).dq
      ∧ r.2.mem ((c.tc : Thread nD τ).loc main_v54_1) = slots 96 (a c).dk
      ∧ r.2.mem ((c.tc : Thread nD τ).loc main_v54_2) = slots 64 (a c).dv
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1.out_eq c 6).trans (final_dq (G c)), (h.1.out_eq c 7).trans (final_dk (G c)), (h.1.out_eq c 8).trans (final_dv (G c)), h.2.1 c⟩)
    (θ_run_and (run_main m ρ) (frame m ρ))

/-- Equal arrays hold the same reals. -/
theorem is4_eq {a b d : ℕ} {x y : (⟨4, ![1, a, b, d]⟩ : Shape).Idx → EReal} {q : ℕ → ℕ → ℕ → ℝ} (e : y = x) (h : Is4 x q) : Is4 y q := e ▸ h

/-- On finite arguments the kernel and the reference end with the same gradients. -/
theorem algebraic : Cert.algebraic_KernelIdeal_ReferenceIdeal_pre_finite (hPre_finite := Cert.Pre_finite.Hand.facts) := by
  intro m g m' g' hpre hargs
  choose a h0 h1 h2 h3 using fun c => @Cert.Pre_finite.Hand.tables Cert.Pre_finite.Hand.facts _ _ _ _ (hpre c)
  refine ⟨fun c => slots 96 (a c).dq, fun c => slots 96 (a c).dk, fun c => slots 64 (a c).dv, finals m g a fun c => ⟨h0 c, h1 c, h2 c, h3 c⟩, ?_⟩
  refine (θ_run Cert.ReferenceIdeal.defs _ _).mono (fun r h c => ?_) (Cert.ReferenceIdeal.Value.run m' g')
  obtain ⟨e0, e1, e2, e3⟩ := hargs c
  obtain ⟨r0, r1, r2⟩ := Cert.ReferenceIdeal.Hand.results (a := a c) m' c (is4_eq e0 (h0 c)) (is4_eq e1 (h1 c)) (is4_eq e2 (h2 c)) (is4_eq e3 (h3 c))
  exact ⟨(h c).1.trans r0, (h c).2.1.trans r1, (h c).2.2.1.trans r2, (h c).2.2.2⟩

end Cert.KernelIdeal.Hand

end
-- ==== Proof.Mlp.Dx.lean ====
/-
  Hand-written, untrusted. The gradient of the squared ReLU: a product whose result is scaled by twice the clamped input.
-/
module

public import proofs.«01_k».proof.Defs
public import proofs.«01_k».proof.Proof.Gen.DownDxIdeal.Frame
public import proofs.«01_k».proof.Proof.Gen.DownDxReferenceIdeal.Run
public import Idealize.ShloMosaic.Lib.Pipeline.ValueKit
public import Idealize.ShloMosaic.Lib.Claim

@[expose] public section

set_option maxRecDepth 16384

noncomputable section

namespace Cert.DownDxReferenceIdeal.Hand

open Cert.DownDxReferenceIdeal Cert.DownDxReferenceIdeal.Gen
open Idealize.ShloMosaic

/-- The reference's gradient over its arguments. -/
def grad (a0 : FVec Ideal S4224x1024 .f32) (a1 : FVec Ideal S4x4096x1024 .f32) (a2 : FVec Ideal S4224x4096 .f32) : FVec Ideal S4224x4096 .bf16 :=
  truncf .bf16 (select (cmpf .ogt a2 (broadcastInDim S4224x4096 ![] bcast_S_S4224x4096 (constant S_ .f32 0x00000000#32))) (mulf (Host.dotGeneral dot_S4224x1024_S4096x1024_S4224x4096_1_1_0_0_n_n none a0 (shapeCast _ (extractStridedSlice S1x4096x1024 ![3, 0, 0] a1 slices_S4x4096x1024_S1x4096x1024_3_0_0) shapeCasts_S1x4096x1024_S4096x1024)) (mulf (broadcastInDim S4224x4096 ![] bcast_S_S4224x4096 (constant S_ .f32 0x40000000#32)) (maximumf a2 (broadcastInDim S4224x4096 ![] bcast_S_S4224x4096 (constant S_ .f32 0x00000000#32))))) (broadcastInDim S4224x4096 ![] bcast_S_S4224x4096 (constant S_ .f32 0x00000000#32))) bitsLt_bf16_f32

/-- Equal arguments, equal arrays. -/
theorem grad_congr {a0 b0 : FVec Ideal S4224x1024 .f32} (h0 : a0 = b0) {a1 b1 : FVec Ideal S4x4096x1024 .f32} (h1 : a1 = b1) {a2 b2 : FVec Ideal S4224x4096 .f32} (h2 : a2 = b2) :
    grad a0 a1 a2 = grad b0 b1 b2 := by
  subst h0; subst h1; subst h2; rfl

end Cert.DownDxReferenceIdeal.Hand

namespace Cert.DownDxIdeal.Hand

open Cert.DownDxIdeal Cert.DownDxIdeal.Gen
open Cert.DownDxReferenceIdeal.Hand (grad grad_congr)
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- Argument 0 at the run's start. -/
abbrev arg0 (c : Dev nD) : FVec Ideal S4224x1024 .f32 := m ((c : Thread nD τ).loc main_arg0)

/-- Argument 1 at the run's start. -/
abbrev arg1 (c : Dev nD) : FVec Ideal S4x4096x1024 .f32 := m ((c : Thread nD τ).loc main_arg1)

/-- Argument 2 at the run's start. -/
abbrev arg2 (c : Dev nD) : FVec Ideal S4224x4096 .f32 := m ((c : Thread nD τ).loc main_arg2)

/-- The block of every window at every point. -/
theorem idx_val : ∀ t : Fin cfg0.N, win0_0.index t = ![t.val / 4, 0]
    ∧ win0_1.index t = ![1, t.val % 4, 0]
    ∧ win0_2.index t = ![t.val / 4, t.val % 4]
    ∧ win0_3.index t = ![t.val / 4, t.val % 4] :=
  (by decide +kernel : ∀ t : Fin grid0.N, _)

/-- The two spellings of two. -/
theorem two : Ideal.ofBits .bf16 16384#16 = Ideal.ofBits .f32 1073741824#32 := by
  simp [Ideal.ofBits, Ideal.ieee]
  rw [← EReal.coe_mul, ← EReal.coe_mul]
  norm_num

/-- Twice the clamped input is zero exactly where the reference selects zero. -/
theorem gate (s b u : EReal) [Decidable (0 < u)] : s * (b * max u 0) = if 0 < u then s * (b * max u 0) else 0 := by
  split_ifs with h
  · rfl
  · rw [max_eq_right (not_lt.1 h), mul_zero, mul_zero]

/-- The product's result times twice the clamped input, entry by entry. -/
theorem point (c : Dev nD) (t : Fin cfg0.N) (y : S1408x1024.Idx) : k0_pay3 (F := Ideal) (k0_pay2 (F := Ideal) (iblk m c 0 t) (k0_pay1 (F := Ideal)) (iblk m c 1 t)) (iblk m c 2 t) y
    = grad (arg0 m c) (arg1 m c) (arg2 m c) (((cfg0.win 3).blk t).view.emb y) := by
  pointwise [k0_pay1, k0_pay2, k0_pay3, grad]
  rw [two, ← gate]
  blk_point [iblk, V, idx_val t]

/-- The array after the run. -/
theorem final (c : Dev nD) : (dats m 0 c).arrAt 3 (cfgs 0).N = grad (arg0 m c) (arg1 m c) (arg2 m c) := by
  refine (dats m 0 c).arrAt_eq_of_covers 3 _ (by decide +kernel) fun t _ y => ?_
  blk_simp; rw [after0_3]; unfold outsAt0; frame_out
  exact point m c t y

/-- The kernel and the reference end with the same arrays. -/
theorem algebraic : Cert.algebraic_DownDxIdeal_DownDxReferenceIdeal := by
  intro m g m' g' _ hargs
  refine ⟨fun c => grad (arg0 m c) (arg1 m c) (arg2 m c),
    (θ_run (defs (F := Ideal)) _ _).mono (fun _ h c => ⟨(h.1.out_eq c 3).trans (final m c), h.2.1 c⟩) (θ_run_and (run_main m g) (frame m g)),
    (θ_run Cert.DownDxReferenceIdeal.defs _ _).mono (fun _ h c => ?_) (Cert.DownDxReferenceIdeal.Value.run m' g')⟩
  obtain ⟨e0, e1, e2⟩ := hargs c
  exact ⟨(h c).1.trans (grad_congr e0 e1 e2), (h c).2⟩

end Cert.DownDxIdeal.Hand

end
-- ==== Proof.Mlp.Dw.lean ====
/-
  Hand-written, untrusted. The gradient of the second MLP matrix: a product over all rows, written into its slab of the gradients.
-/
module

public import proofs.«01_k».proof.Defs
public import proofs.«01_k».proof.Proof.Gen.DownDwIdeal.Frame
public import proofs.«01_k».proof.Proof.Gen.DownDwReferenceIdeal.Run
public import Idealize.ShloMosaic.Lib.Pipeline.ValueKit
public import Idealize.ShloMosaic.Lib.Claim
public import Idealize.ShloMosaic.Lib.Pipeline.ReadBack

@[expose] public section

set_option maxRecDepth 16384

noncomputable section

namespace Cert.DownDwReferenceIdeal.Hand

open Cert.DownDwReferenceIdeal Cert.DownDwReferenceIdeal.Gen
open Idealize.ShloMosaic

/-- The reference's gradient over its arguments. -/
def grad (a0 : FVec Ideal S4224x4096 .f32) (a1 : FVec Ideal S4224x1024 .f32) (a2 : FVec Ideal S2x4096x1024 .f32) : FVec Ideal S2x4096x1024 .f32 :=
  concatenate S2x4096x1024 0 [⟨S1x4096x1024, (broadcastInDim S1x4096x1024 ![1, 2] bcast_S4096x1024_S1x4096x1024_1_2 (transpose S4096x1024 [1, 0] (Host.dotGeneral dot_S4224x1024_S4224x4096_S1024x4096_0_0_1_1_n_n none a1 (mulf (maximumf a0 (broadcastInDim S4224x4096 ![] bcast_S_S4224x4096 (constant S_ .f32 0x00000000#32))) (maximumf a0 (broadcastInDim S4224x4096 ![] bcast_S_S4224x4096 (constant S_ .f32 0x00000000#32))))) transposes_S1024x4096_S4096x1024_1_0))⟩, ⟨S1x4096x1024, (broadcastInDim S1x4096x1024 ![1, 2] bcast_S4096x1024_S1x4096x1024_1_2 (shapeCast _ (extractStridedSlice S1x4096x1024 ![1, 0, 0] a2 slices_S2x4096x1024_S1x4096x1024_1_0_0) shapeCasts_S1x4096x1024_S4096x1024))⟩] concatenates_S1x4096x1024_S1x4096x1024_S2x4096x1024_d0

/-- Equal arguments, equal arrays. -/
theorem grad_congr {a0 b0 : FVec Ideal S4224x4096 .f32} (h0 : a0 = b0) {a1 b1 : FVec Ideal S4224x1024 .f32} (h1 : a1 = b1) {a2 b2 : FVec Ideal S2x4096x1024 .f32} (h2 : a2 = b2) :
    grad a0 a1 a2 = grad b0 b1 b2 := by
  subst h0; subst h1; subst h2; rfl

end Cert.DownDwReferenceIdeal.Hand

namespace Cert.DownDwIdeal.Hand

open Cert.DownDwIdeal Cert.DownDwIdeal.Gen
open Cert.DownDwReferenceIdeal.Hand (grad grad_congr)
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- Argument 0 at the run's start. -/
abbrev arg0 (c : Dev nD) : FVec Ideal S4224x4096 .f32 := m ((c : Thread nD τ).loc main_arg0)

/-- Argument 1 at the run's start. -/
abbrev arg1 (c : Dev nD) : FVec Ideal S4224x1024 .f32 := m ((c : Thread nD τ).loc main_arg1)

/-- Argument 2 at the run's start. -/
abbrev arg2 (c : Dev nD) : FVec Ideal S2x4096x1024 .f32 := m ((c : Thread nD τ).loc main_arg2)

/-- The block of every window at every point. -/
theorem idx_val : ∀ t : Fin cfg0.N, win0_0.index t = ![t.val % 3, t.val / 3] ∧ win0_1.index t = ![t.val % 3, 0] ∧ win0_2.index t = ![0, t.val / 3, 0] :=
  (by decide +kernel : ∀ t : Fin grid0.N, _)

/-- The accumulator starts at zero. -/
theorem zero (j) : k0_pay1 (F := Ideal) j = 0 := by pointwise [k0_pay1]

/-- One step of the accumulation. -/
theorem step (acc : FVec Ideal S1024x1024 .f32) (x : FVec Ideal S1408x1024 .bf16) (d : FVec Ideal S1408x1024 .f32) (j : S1024x1024.Idx) :
    k0_pay2 (F := Ideal) x acc d j = acc j + ∑ k : Fin 1408, (max (x (ix2 k (j 0))) 0 * max (x (ix2 k (j 0))) 0) * d (ix2 k (j 1)) := by
  pointwise [k0_pay2]

/-- What is written back is the accumulator, under a slab axis. -/
theorem out_at (acc : FVec Ideal S1024x1024 .f32) (y : S1x1024x1024.Idx) : k0_pay3 (F := Ideal) acc y = acc (ix2 (y 1) (y 2)) := by
  pointwise [k0_pay3]
  blk_ext

/-- The reference's gradient at the slab that is written. -/
theorem grad_at (a0 : FVec Ideal Cert.DownDwReferenceIdeal.S4224x4096 .f32) (a1 : FVec Ideal Cert.DownDwReferenceIdeal.S4224x1024 .f32) (a2 : FVec Ideal Cert.DownDwReferenceIdeal.S2x4096x1024 .f32) (i : Cert.DownDwReferenceIdeal.S2x4096x1024.Idx) :
    grad a0 a1 a2 i = if (i 0 : ℕ) < 1 then ∑ k : Fin 4224, (max (a0 (ix2 k (i 1))) 0 * max (a0 (ix2 k (i 1))) 0) * a1 (ix2 k (i 2)) else a2 i := by
  pointwise [grad]
  split_ifs with h
  · exact Finset.sum_congr rfl fun _ _ => mul_comm _ _
  · blk_ext

/-- The accumulator after the last point of a run: the sum over the run's points. -/
theorem run_sum (c : Dev nD) (t : Fin cfg0.N) (ht : t.val % 3 = 2) (j : S1024x1024.Idx) :
    (outsAt0 m c t.val t.isLt).2 j = (0 : EReal) + ∑ s : Fin 3, ∑ k : Fin 1408,
      (max ((show FVec Ideal S1408x1024 .bf16 from iblk m c 0 ⟨3 * (t.val / 3) + s.val, Pipeline.run_point_lt_of_flush t ht s⟩) (ix2 k (j 0))) 0
        * max ((show FVec Ideal S1408x1024 .bf16 from iblk m c 0 ⟨3 * (t.val / 3) + s.val, Pipeline.run_point_lt_of_flush t ht s⟩) (ix2 k (j 0))) 0)
        * (show FVec Ideal S1408x1024 .f32 from iblk m c 1 ⟨3 * (t.val / 3) + s.val, Pipeline.run_point_lt_of_flush t ht s⟩) (ix2 k (j 1)) := by
  refine Pipeline.eq_sum_fin_of_reset_step_apply_of_flush (fun n h => (outsAt0 m c n h).2) 3 (fun _ => 0)
    (fun p j => ∑ k : Fin 1408, (max ((show FVec Ideal S1408x1024 .bf16 from iblk m c 0 p) (ix2 k (j 0))) 0 * max ((show FVec Ideal S1408x1024 .bf16 from iblk m c 0 p) (ix2 k (j 0))) 0)
        * (show FVec Ideal S1408x1024 .f32 from iblk m c 1 p) (ix2 k (j 1))) (fun t h j => ?_) (fun t h j => ?_) t ht j
  · dsimp only
    rw [outsAt0_A m c t h (by omega)]; frame_out; rw [step, zero]
  · dsimp only
    by_cases h' : t.val % 3 = 2
    · rw [outsAt0_C m c t h h']; frame_out; rw [step]; exact congrArg (fun z : EReal => z + _) (congrFun (read_unread_whole cc0_scratch0 _ _) j)
    · rw [outsAt0_B m c t h h']; frame_out; rw [step]; exact congrArg (fun z : EReal => z + _) (congrFun (read_unread_whole cc0_scratch0 _ _) j)

/-- What a run leaves in the buffer that is written back. -/
theorem written (c : Dev nD) (t : Fin cfg0.N) (ht : t.val % 3 = 2) (y : S1x1024x1024.Idx) :
    (outsAt0 m c t.val t.isLt).1 y = (outsAt0 m c t.val t.isLt).2 (ix2 (y 1) (y 2)) := by
  rw [outsAt0_C m c t (by omega) ht]; frame_out; rw [out_at]

/-- The reference's sum over all rows is the sum over the tiles of rows. -/
theorem point (c : Dev nD) (t : Fin cfg0.N) (ht : t.val % 3 = 2) (y : S1x1024x1024.Idx) :
    (outsAt0 m c t.val t.isLt).1 y = grad (arg0 m c) (arg1 m c) (arg2 m c) (((cfg0.win 2).blk t).view.emb y) := by
  rw [written m c t ht, run_sum m c t ht, zero_add, grad_at, if_pos (by blk_simp [idx_val t]; omega)]
  refine Fin.sum_mul_add_congr fun s k hl => ?_
  blk_point [iblk, V, idx_val ⟨3 * (t.val / 3) + s.val, Pipeline.run_point_lt_of_flush t ht s⟩, idx_val t]

/-- The array after the run: the slab is the gradient, the other keeps its entry contents. -/
theorem final (c : Dev nD) : (dats m 0 c).arrAt 2 (cfgs 0).N = grad (arg0 m c) (arg1 m c) (arg2 m c) := by
  refine ((dats m 0 c).arrAt_eq_of_coversWhere 2 (grad (arg0 m c) (arg1 m c) (arg2 m c)) (fun β => β (0 : Fin 3) = 0) (P := fun i => (i (0 : Fin 3) : ℕ) / 1 = 0) (by decide +kernel) (fun t hf y => ?_) (fun j => Iff.rfl)).trans ?_
  · blk_simp; rw [after0_2]
    exact point m c t ((flush0_2 t).mp hf) y
  · funext i
    split_ifs with h
    · rfl
    · show V m c main_v1 i = _
      rw [grad_at, if_neg (by omega)]
      entry_read
      rfl

/-- The kernel and the reference end with the same arrays. -/
theorem algebraic : Cert.algebraic_DownDwIdeal_DownDwReferenceIdeal := by
  intro m g m' g' _ hargs
  refine ⟨fun c => grad (arg0 m c) (arg1 m c) (arg2 m c),
    (θ_run (defs (F := Ideal)) _ _).mono (fun _ h c => ⟨(h.1.out_eq c 2).trans (final m c), h.2.1 c⟩) (θ_run_and (run_main m g) (frame m g)),
    (θ_run Cert.DownDwReferenceIdeal.defs _ _).mono (fun _ h c => ?_) (Cert.DownDwReferenceIdeal.Value.run m' g')⟩
  obtain ⟨e0, e1, e2⟩ := hargs c
  exact ⟨(h c).1.trans (grad_congr e0 e1 e2), (h c).2⟩

end Cert.DownDwIdeal.Hand

end
-- ==== Proof.Mlp.Norm.lean ====
/-
  Hand-written, untrusted. A row's norm and its gradient, and sums with zeros in front or behind.
-/
module

public import Idealize.ShloMosaic.Lib.Pipeline.ValueKit
public import Idealize.ShloMosaic.Lib.Claim

@[expose] public section

noncomputable section

namespace Cert.Norm.Hand

open Idealize.ShloMosaic Idealize.ShloMosaic.Tactic

/-- The mean of a row's squares, with the norm's epsilon. -/
def q (x : Fin 1024 → EReal) : EReal := Ideal.div (∑ j, x j * x j) (Ideal.ofBits .f32 1149239296#32) + Ideal.ofBits .f32 897988541#32

/-- The gradient's share along the row itself. -/
def along (x d g : Fin 1024 → EReal) : EReal :=
  Ideal.div ((∑ j, x j * (d j * g j)) * (Ideal.ofBits .f32 3204448256#32 * Ideal.div (Ideal.rsqrt (q x)) (q x))) (Ideal.ofBits .f32 1149239296#32)

/-- The gradient of one row's norm, added to what passes by. -/
def row (x d g : Fin 1024 → EReal) (r : EReal) (j : Fin 1024) : EReal :=
  r + (d j * g j * Ideal.rsqrt (q x) + x j * along x d g + along x d g * x j)

/-- Rows with equal contents have equal gradients. -/
theorem row_congr {x x' d d' g g' : Fin 1024 → EReal} {r r' : EReal} {j j' : Fin 1024} (hx : x = x') (hd : d = d') (hg : g = g') (hr : r = r') (hj : j = j') :
    row x d g r j = row x' d' g' r' j' := by
  subst hx; subst hd; subst hg; subst hr; subst hj; rfl

/-- The norm of a row. -/
def rowNorm (x g : Fin 1024 → EReal) (j : Fin 1024) : EReal :=
  x j * Ideal.rsqrt (Ideal.div (∑ j, x j * x j) (Ideal.ofBits .f32 1149239296#32) + Ideal.ofBits .f32 897988541#32) * g j

/-- Rows with equal contents have equal norms. -/
theorem rowNorm_congr {x x' g g' : Fin 1024 → EReal} {j j' : Fin 1024} (hx : x = x') (hg : g = g') (hj : j = j') : rowNorm x g j = rowNorm x' g' j' := by
  subst hx; subst hg; subst hj; rfl

/-- A converted zero. -/
theorem sz : (FloatOps.sitofp .f32 (0#32 : BitVec 32) : Ideal .f32) = 0 := by
  simp [FloatOps.sitofp]

/-- A sum continued by zeros is the sum. -/
theorem extend {K P : ℕ} (f : Fin K → EReal) : ∑ l : Fin (K + P), (if h : l.val < K then f ⟨l.val, h⟩ else 0) = ∑ l, f l := by
  rw [Fin.sum_univ_add, Finset.sum_congr rfl (fun l _ => dif_pos (show (Fin.castAdd P l).val < K from l.isLt)),
    Finset.sum_eq_zero (s := (Finset.univ : Finset (Fin P))) (fun l _ => dif_neg (show ¬(Fin.natAdd K l).val < K from by simp)), add_zero]
  rfl

/-- A sum preceded by zeros is the sum. -/
theorem shift {K P : ℕ} (f : Fin P → EReal) : ∑ l : Fin (K + P), (if h : K ≤ l.val then f ⟨l.val - K, by omega⟩ else 0) = ∑ l, f l := by
  have e : ∀ l : Fin K, (if h : K ≤ (Fin.castAdd P l).val then f ⟨(Fin.castAdd P l).val - K, by omega⟩ else 0) = 0 := fun l => dif_neg (by simp)
  rw [Fin.sum_univ_add, Finset.sum_eq_zero (fun l _ => e l), zero_add]
  exact Finset.sum_congr rfl fun l _ => (dif_pos (show K ≤ (Fin.natAdd K l).val from by simp)).trans (congrArg f (Fin.ext (by simp)))

/-- The comparison of a row's number with the padding. -/
theorem cmp : ∀ (n : Fin 6) (r : Fin 704), IntOp.cmpi CmpIPredicate.sge (IntOp.addi (Scalar.muli (BitVec.ofNat 32 n.val) 704#32) (BitVec.ofNat 32 r.val)) 112#32
    = if 112 ≤ n.val * 704 + r.val then 1#1 else 0#1 := by decide +kernel

end Cert.Norm.Hand

end
-- ==== Proof.Mlp.UpDx.lean ====
/-
  Hand-written, untrusted. The gradient through the first MLP matrix and the norm in front of it.
-/
module

public import proofs.«01_k».proof.Defs
public import proofs.«01_k».proof.Proof.Mlp.Norm
public import proofs.«01_k».proof.Proof.Gen.UpDxIdeal.Frame
public import proofs.«01_k».proof.Proof.Gen.UpDxReferenceIdeal.Run
public import Idealize.ShloMosaic.Lib.Pipeline.ValueKit
public import Idealize.ShloMosaic.Lib.Claim
public import Idealize.ShloMosaic.Lib.Pipeline.ReadBack

@[expose] public section

set_option maxRecDepth 16384

noncomputable section

namespace Cert.UpDxReferenceIdeal.Hand

open Cert.UpDxReferenceIdeal Cert.UpDxReferenceIdeal.Gen
open Idealize.ShloMosaic

/-- The reference's gradient over its arguments. -/
def grad (a0 : FVec Ideal S4112x4096 .f32) (a1 : FVec Ideal S4112x1024 .f32) (a2 : FVec Ideal S4112x1024 .f32) (a3 : FVec Ideal S1024 .f32) (a4 : FVec Ideal S2x1024x4096 .f32) : FVec Ideal S4224x1024 .f32 :=
  pad S4224x1024 ![112, 0] ![0, 0] ![0, 0] (addf (addf (addf a1 (mulf (mulf (Host.dotGeneral dot_S4112x4096_S1024x4096_S4112x1024_1_1_0_0_n_n none a0 (shapeCast _ (extractStridedSlice S1x1024x4096 ![0, 0, 0] a4 slices_S2x1024x4096_S1x1024x4096_0_0_0) shapeCasts_S1x1024x4096_S1024x4096)) (broadcastInDim S4112x1024 ![0, 1] bcast_S1x1024_S4112x1024_0_1 (broadcastInDim S1x1024 ![1] bcast_S1024_S1x1024_1 a3))) (broadcastInDim S4112x1024 ![0, 1] bcast_S4112x1_S4112x1024_0_1 (Host.rsqrt (addf (Host.divf (broadcastInDim S4112x1 ![0] bcast_S4112_S4112x1_0 (Host.reduceAdd (mulf a2 a2) (constant S_ .f32 0x00000000#32) reducesTo_S4112x1024_S4112_d1 h_S_)) (broadcastInDim S4112x1 ![] bcast_S_S4112x1 (constant S_ .f32 0x44800000#32))) (broadcastInDim S4112x1 ![] bcast_S_S4112x1 (constant S_ .f32 0x358637BD#32))))))) (mulf a2 (broadcastInDim S4112x1024 ![0] bcast_S4112_S4112x1024_0 (Host.reduceAdd (Host.divf (mulf (shapeCast _ (Host.reduceAdd (mulf a2 (mulf (Host.dotGeneral dot_S4112x4096_S1024x4096_S4112x1024_1_1_0_0_n_n none a0 (shapeCast _ (extractStridedSlice S1x1024x4096 ![0, 0, 0] a4 slices_S2x1024x4096_S1x1024x4096_0_0_0) shapeCasts_S1x1024x4096_S1024x4096)) (broadcastInDim S4112x1024 ![0, 1] bcast_S1x1024_S4112x1024_0_1 (broadcastInDim S1x1024 ![1] bcast_S1024_S1x1024_1 a3)))) (constant S_ .f32 0x00000000#32) reducesTo_S4112x1024_S4112_d1 h_S_) shapeCasts_S4112_S4112x1) (mulf (broadcastInDim S4112x1 ![] bcast_S_S4112x1 (constant S_ .f32 0xBF000000#32)) (Host.divf (Host.rsqrt (addf (Host.divf (broadcastInDim S4112x1 ![0] bcast_S4112_S4112x1_0 (Host.reduceAdd (mulf a2 a2) (constant S_ .f32 0x00000000#32) reducesTo_S4112x1024_S4112_d1 h_S_)) (broadcastInDim S4112x1 ![] bcast_S_S4112x1 (constant S_ .f32 0x44800000#32))) (broadcastInDim S4112x1 ![] bcast_S_S4112x1 (constant S_ .f32 0x358637BD#32)))) (addf (Host.divf (broadcastInDim S4112x1 ![0] bcast_S4112_S4112x1_0 (Host.reduceAdd (mulf a2 a2) (constant S_ .f32 0x00000000#32) reducesTo_S4112x1024_S4112_d1 h_S_)) (broadcastInDim S4112x1 ![] bcast_S_S4112x1 (constant S_ .f32 0x44800000#32))) (broadcastInDim S4112x1 ![] bcast_S_S4112x1 (constant S_ .f32 0x358637BD#32)))))) (broadcastInDim S4112x1 ![] bcast_S_S4112x1 (constant S_ .f32 0x44800000#32))) (constant S_ .f32 0x00000000#32) reducesTo_S4112x1_S4112_d1 h_S_)))) (mulf (broadcastInDim S4112x1024 ![0] bcast_S4112_S4112x1024_0 (Host.reduceAdd (Host.divf (mulf (shapeCast _ (Host.reduceAdd (mulf a2 (mulf (Host.dotGeneral dot_S4112x4096_S1024x4096_S4112x1024_1_1_0_0_n_n none a0 (shapeCast _ (extractStridedSlice S1x1024x4096 ![0, 0, 0] a4 slices_S2x1024x4096_S1x1024x4096_0_0_0) shapeCasts_S1x1024x4096_S1024x4096)) (broadcastInDim S4112x1024 ![0, 1] bcast_S1x1024_S4112x1024_0_1 (broadcastInDim S1x1024 ![1] bcast_S1024_S1x1024_1 a3)))) (constant S_ .f32 0x00000000#32) reducesTo_S4112x1024_S4112_d1 h_S_) shapeCasts_S4112_S4112x1) (mulf (broadcastInDim S4112x1 ![] bcast_S_S4112x1 (constant S_ .f32 0xBF000000#32)) (Host.divf (Host.rsqrt (addf (Host.divf (broadcastInDim S4112x1 ![0] bcast_S4112_S4112x1_0 (Host.reduceAdd (mulf a2 a2) (constant S_ .f32 0x00000000#32) reducesTo_S4112x1024_S4112_d1 h_S_)) (broadcastInDim S4112x1 ![] bcast_S_S4112x1 (constant S_ .f32 0x44800000#32))) (broadcastInDim S4112x1 ![] bcast_S_S4112x1 (constant S_ .f32 0x358637BD#32)))) (addf (Host.divf (broadcastInDim S4112x1 ![0] bcast_S4112_S4112x1_0 (Host.reduceAdd (mulf a2 a2) (constant S_ .f32 0x00000000#32) reducesTo_S4112x1024_S4112_d1 h_S_)) (broadcastInDim S4112x1 ![] bcast_S_S4112x1 (constant S_ .f32 0x44800000#32))) (broadcastInDim S4112x1 ![] bcast_S_S4112x1 (constant S_ .f32 0x358637BD#32)))))) (broadcastInDim S4112x1 ![] bcast_S_S4112x1 (constant S_ .f32 0x44800000#32))) (constant S_ .f32 0x00000000#32) reducesTo_S4112x1_S4112_d1 h_S_)) a2)) (sitofp .f32 (constantI S_ 32 0#32)) pads_S4112x1024_S4224x1024_11200_000 h_S_

/-- Equal arguments, equal arrays. -/
theorem grad_congr {a0 b0 : FVec Ideal S4112x4096 .f32} (h0 : a0 = b0) {a1 b1 : FVec Ideal S4112x1024 .f32} (h1 : a1 = b1) {a2 b2 : FVec Ideal S4112x1024 .f32} (h2 : a2 = b2) {a3 b3 : FVec Ideal S1024 .f32} (h3 : a3 = b3) {a4 b4 : FVec Ideal S2x1024x4096 .f32} (h4 : a4 = b4) :
    grad a0 a1 a2 a3 a4 = grad b0 b1 b2 b3 b4 := by
  subst h0; subst h1; subst h2; subst h3; subst h4; rfl

/-- The reference's gradient over its arguments. -/
def gain (a0 : FVec Ideal S4112x4096 .f32) (a1 : FVec Ideal S4112x1024 .f32) (a2 : FVec Ideal S4112x1024 .f32) (a3 : FVec Ideal S1024 .f32) (a4 : FVec Ideal S2x1024x4096 .f32) : FVec Ideal S1x1024 .f32 :=
  shapeCast _ (Host.reduceAdd (shapeCast _ (Host.reduceAdd (mulf (mulf a2 (broadcastInDim S4112x1024 ![0, 1] bcast_S4112x1_S4112x1024_0_1 (Host.rsqrt (addf (Host.divf (broadcastInDim S4112x1 ![0] bcast_S4112_S4112x1_0 (Host.reduceAdd (mulf a2 a2) (constant S_ .f32 0x00000000#32) reducesTo_S4112x1024_S4112_d1 h_S_)) (broadcastInDim S4112x1 ![] bcast_S_S4112x1 (constant S_ .f32 0x44800000#32))) (broadcastInDim S4112x1 ![] bcast_S_S4112x1 (constant S_ .f32 0x358637BD#32)))))) (Host.dotGeneral dot_S4112x4096_S1024x4096_S4112x1024_1_1_0_0_n_n none a0 (shapeCast _ (extractStridedSlice S1x1024x4096 ![0, 0, 0] a4 slices_S2x1024x4096_S1x1024x4096_0_0_0) shapeCasts_S1x1024x4096_S1024x4096))) (constant S_ .f32 0x00000000#32) reducesTo_S4112x1024_S1024_d0 h_S_) shapeCasts_S1024_S1x1024) (constant S_ .f32 0x00000000#32) reducesTo_S1x1024_S1024_d0 h_S_) shapeCasts_S1024_S1x1024

/-- Equal arguments, equal arrays. -/
theorem gain_congr {a0 b0 : FVec Ideal S4112x4096 .f32} (h0 : a0 = b0) {a1 b1 : FVec Ideal S4112x1024 .f32} (h1 : a1 = b1) {a2 b2 : FVec Ideal S4112x1024 .f32} (h2 : a2 = b2) {a3 b3 : FVec Ideal S1024 .f32} (h3 : a3 = b3) {a4 b4 : FVec Ideal S2x1024x4096 .f32} (h4 : a4 = b4) :
    gain a0 a1 a2 a3 a4 = gain b0 b1 b2 b3 b4 := by
  subst h0; subst h1; subst h2; subst h3; subst h4; rfl

end Cert.UpDxReferenceIdeal.Hand

namespace Cert.UpDxIdeal.Hand

open Cert.UpDxIdeal Cert.UpDxIdeal.Gen
open Cert.UpDxReferenceIdeal.Hand (grad grad_congr gain gain_congr)
open Cert.Norm.Hand (q along row row_congr sz shift cmp)
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- Argument 0 at the run's start. -/
abbrev arg0 (c : Dev nD) : FVec Ideal S4112x4096 .f32 := m ((c : Thread nD τ).loc main_arg0)

/-- Argument 1 at the run's start. -/
abbrev arg1 (c : Dev nD) : FVec Ideal S4112x1024 .f32 := m ((c : Thread nD τ).loc main_arg1)

/-- Argument 2 at the run's start. -/
abbrev arg2 (c : Dev nD) : FVec Ideal S4112x1024 .f32 := m ((c : Thread nD τ).loc main_arg2)

/-- Argument 3 at the run's start. -/
abbrev arg3 (c : Dev nD) : FVec Ideal S1024 .f32 := m ((c : Thread nD τ).loc main_arg3)

/-- Argument 4 at the run's start. -/
abbrev arg4 (c : Dev nD) : FVec Ideal S2x1024x4096 .f32 := m ((c : Thread nD τ).loc main_arg4)

/-- The block of every window at every point. -/
theorem idx_val : ∀ t : Fin cfg0.N, win0_0.index t = ![t.val / 4, t.val % 4]
    ∧ win0_1.index t = ![0, 0, t.val % 4]
    ∧ win0_2.index t = ![t.val / 4, 0]
    ∧ win0_3.index t = ![t.val / 4, 0]
    ∧ win0_4.index t = ![0, 0]
    ∧ win0_5.index t = ![t.val / 4, 0]
    ∧ win0_6.index t = ![0, 0] :=
  (by decide +kernel : ∀ t : Fin grid0.N, _)

/-- The kernel's gradient of a row. -/
theorem kernel_row (x acc r : FVec Ideal S704x1024 .f32) (g : FVec Ideal S1x1024 .f32) (y : S704x1024.Idx) :
    k0_pay9 (F := Ideal) x g acc r y = row (fun j => x (ix2 (y 0) j)) (fun j => acc (ix2 (y 0) j)) (fun j => g (ix2 (0 : Fin 1) j)) (r y) (y 1) := by
  unfold row along q
  pointwise [k0_pay9, k0_pay7, k0_pay6, k0_pay5]
  simp only [Fin.sum_univ_one, Finset.univ_unique, Finset.sum_singleton]

/-- The kernel's sum of the gain's gradient over a tile of rows. -/
theorem kernel_gain (x acc : FVec Ideal S704x1024 .f32) (y : S1x1024.Idx) :
    k0_pay8 (F := Ideal) x acc y = ∑ k : Fin 704, x (ix2 k (y 1)) * Ideal.rsqrt (q fun j => x (ix2 k j)) * acc (ix2 k (y 1)) := by
  unfold q
  pointwise [k0_pay8, k0_pay7, k0_pay6, k0_pay5]

/-- The reference's gradient of a row. -/
theorem grad_at (a0 : FVec Ideal Cert.UpDxReferenceIdeal.S4112x4096 .f32) (a1 : FVec Ideal Cert.UpDxReferenceIdeal.S4112x1024 .f32) (a2 : FVec Ideal Cert.UpDxReferenceIdeal.S4112x1024 .f32) (a3 : FVec Ideal Cert.UpDxReferenceIdeal.S1024 .f32) (a4 : FVec Ideal Cert.UpDxReferenceIdeal.S2x1024x4096 .f32) (i : Cert.UpDxReferenceIdeal.S4224x1024.Idx) :
    grad a0 a1 a2 a3 a4 i = if h : 112 ≤ (i 0 : ℕ) then row (fun j => a2 (ix2 ⟨(i 0 : ℕ) - 112, by have := (i 0).isLt; simp at this; omega⟩ j))
      (fun j => ∑ k : Fin 4096, a0 (ix2 ⟨(i 0 : ℕ) - 112, by have := (i 0).isLt; simp at this; omega⟩ k) * a4 (ix3 (0 : Fin 2) j k))
      (fun j => a3 (ix1 j)) (a1 (ix2 ⟨(i 0 : ℕ) - 112, by have := (i 0).isLt; simp at this; omega⟩ (i 1))) (i 1) else 0 := by
  unfold row along q
  pointwise [grad]
  by_cases h : 112 ≤ (i 0 : ℕ)
  · have := (i 0).isLt
    rw [dif_pos ⟨h, by simp at this; omega⟩, dif_pos h]
    simp only [Finset.univ_unique, Finset.sum_singleton, add_assoc]
  · rw [dif_neg (fun h' => h h'.1), dif_neg h]
    exact sz

/-- The reference's gradient of the gain. -/
theorem gain_at (a0 : FVec Ideal Cert.UpDxReferenceIdeal.S4112x4096 .f32) (a1 : FVec Ideal Cert.UpDxReferenceIdeal.S4112x1024 .f32) (a2 : FVec Ideal Cert.UpDxReferenceIdeal.S4112x1024 .f32) (a3 : FVec Ideal Cert.UpDxReferenceIdeal.S1024 .f32) (a4 : FVec Ideal Cert.UpDxReferenceIdeal.S2x1024x4096 .f32) (i : Cert.UpDxReferenceIdeal.S1x1024.Idx) :
    gain a0 a1 a2 a3 a4 i = ∑ r : Fin 4112, a2 (ix2 r (i 1)) * Ideal.rsqrt (q fun j => a2 (ix2 r j))
      * ∑ k : Fin 4096, a0 (ix2 r k) * a4 (ix3 (0 : Fin 2) (i 1) k) := by
  unfold q
  pointwise [gain]
  simp only [Finset.univ_unique, Finset.sum_singleton]

/-- One step of the accumulation. -/
theorem step (acc : FVec Ideal S704x1024 .f32) (x : FVec Ideal S704x1024 .bf16) (w : FVec Ideal S1x1024x1024 .bf16) (j : S704x1024.Idx) :
    k0_pay2 (F := Ideal) acc x w j = acc j + ∑ k : Fin 1024, x (ix2 (j 0) k) * w (ix3 (0 : Fin 1) (j 1) k) := by
  pointwise [k0_pay2]

/-- The accumulator starts at zero. -/
theorem zero (j) : k0_pay1 (F := Ideal) j = 0 := by pointwise [k0_pay1]

/-- The argument at entry: zero rows in front. -/
theorem cot_at (c : Dev nD) (i : S4224x4096.Idx) : V m c main_v1 i
    = if h : 112 ≤ (i 0 : ℕ) then (arg0 m c) (ix2 ⟨(i 0 : ℕ) - 112, by have := (i 0).isLt; simp at this; omega⟩ (i 1)) else 0 := by
  unfold V
  simp only [hostOps0, hostOps0_1, hostOps0_2, hostOps0_3, hostOps0_4, hostOps0_5, hostOps0_6, List.flatten_cons, List.flatten_nil, List.append_nil, List.cons_append, List.nil_append]
  entry_read
  try simp -implicitDefEqProofs only [StableHlo.TRef.ofBuf, StableHlo.TRef.toBuf, cast_cast, cast_eq]
  pointwise []
  by_cases h : 112 ≤ (i 0 : ℕ)
  · have := (i 0).isLt
    rw [dif_pos ⟨h, by simp at this; omega⟩, dif_pos h]
  · rw [dif_neg (fun h' => h h'.1), dif_neg h]
    exact sz

/-- The norm's input at entry: zero rows in front. -/
theorem x_at (c : Dev nD) (i : S4224x1024.Idx) : V m c main_v3 i
    = if h : 112 ≤ (i 0 : ℕ) then (arg2 m c) (ix2 ⟨(i 0 : ℕ) - 112, by have := (i 0).isLt; simp at this; omega⟩ (i 1)) else 0 := by
  unfold V
  simp only [hostOps0, hostOps0_1, hostOps0_2, hostOps0_3, hostOps0_4, hostOps0_5, hostOps0_6, List.flatten_cons, List.flatten_nil, List.append_nil, List.cons_append, List.nil_append]
  entry_read
  try simp -implicitDefEqProofs only [StableHlo.TRef.ofBuf, StableHlo.TRef.toBuf, cast_cast, cast_eq]
  pointwise []
  by_cases h : 112 ≤ (i 0 : ℕ)
  · have := (i 0).isLt
    rw [dif_pos ⟨h, by simp at this; omega⟩, dif_pos h]
  · rw [dif_neg (fun h' => h h'.1), dif_neg h]
    exact sz

/-- What passes by, at entry: zero rows in front. -/
theorem r_at (c : Dev nD) (i : S4224x1024.Idx) : V m c main_v4 i
    = if h : 112 ≤ (i 0 : ℕ) then (arg1 m c) (ix2 ⟨(i 0 : ℕ) - 112, by have := (i 0).isLt; simp at this; omega⟩ (i 1)) else 0 := by
  unfold V
  simp only [hostOps0, hostOps0_1, hostOps0_2, hostOps0_3, hostOps0_4, hostOps0_5, hostOps0_6, List.flatten_cons, List.flatten_nil, List.append_nil, List.cons_append, List.nil_append]
  entry_read
  try simp -implicitDefEqProofs only [StableHlo.TRef.ofBuf, StableHlo.TRef.toBuf, cast_cast, cast_eq]
  pointwise []
  by_cases h : 112 ≤ (i 0 : ℕ)
  · have := (i 0).isLt
    rw [dif_pos ⟨h, by simp at this; omega⟩, dif_pos h]
  · rw [dif_neg (fun h' => h h'.1), dif_neg h]
    exact sz

/-- The gain at entry. -/
theorem g_at (c : Dev nD) (j : Fin 1024) : V m c main_v5 (ix2 (0 : Fin 1) j) = (arg3 m c) (ix1 j) := by
  unfold V
  simp only [hostOps0, hostOps0_1, hostOps0_2, hostOps0_3, hostOps0_4, hostOps0_5, hostOps0_6, List.flatten_cons, List.flatten_nil, List.append_nil, List.cons_append, List.nil_append]
  entry_read
  try simp -implicitDefEqProofs only [StableHlo.TRef.ofBuf, StableHlo.TRef.toBuf, cast_cast, cast_eq]
  pointwise []

/-- The weights at entry. -/
theorem weight_at (c : Dev nD) (j : Fin 1024) (k : Fin 4096) :
    V m c main_v2 (ix3 (0 : Fin 2) j k) = (arg4 m c) (ix3 (0 : Fin 2) j k) := by
  unfold V
  simp only [hostOps0, hostOps0_1, hostOps0_2, hostOps0_3, hostOps0_4, hostOps0_5, hostOps0_6, List.flatten_cons, List.flatten_nil, List.append_nil, List.cons_append, List.nil_append]
  entry_read
  try simp -implicitDefEqProofs only [StableHlo.TRef.ofBuf, StableHlo.TRef.toBuf, cast_cast, cast_eq]
  pointwise []

/-- The tile of rows of a point. -/
theorem coord : ∀ t : Fin cfg0.N, ((grid0.coords t 0 : Fin _) : ℕ) = t.val / 4 :=
  (by decide +kernel : ∀ t : Fin grid0.N, _)

/-- The written row gradient keeps the rows past the padding and clears the others. -/
theorem mask (z : FVec Ideal S704x1024 .f32) (n : Fin 6) (y : S704x1024.Idx) :
    k0_pay3 (F := Ideal) z (Scalar.muli (BitVec.ofNat 32 n.val) 704#32) (iota Kind.tc S704x1 32 [0] iota_S704x1_d0_w32) y = if 112 ≤ n.val * 704 + (y 0 : ℕ) then z y else 0 := by
  pointwise [k0_pay3]
  have e := cmp n ⟨(y 0 : ℕ), (y 0).isLt⟩
  dsimp only at e
  rw [e]
  split_ifs with h
  · have : (FloatOps.sitofp .f32 (BitVec.setWidth 32 1#1) : Ideal .f32) = 1 := by simp [FloatOps.sitofp]
    rw [this, mul_one]
  · have : (FloatOps.sitofp .f32 (BitVec.setWidth 32 0#1) : Ideal .f32) = 0 := by simp [FloatOps.sitofp]
    rw [this, mul_zero]

/-- What the last point of a run writes as row gradients. -/
theorem written (c : Dev nD) (t : Fin cfg0.N) (ht : t.val % 4 = 3) (i : Fin 6) (hi : t.val / 4 = i.val) (y : S704x1024.Idx) :
    (outsAt0 m c t.val t.isLt).1 y = if 112 ≤ i.val * 704 + (y 0 : ℕ) then
      k0_pay9 (F := Ideal) (iblk m c 2 t) (iblk m c 4 t) (outsAt0 m c t.val t.isLt).2.2 (iblk m c 3 t) y else 0 := by
  by_cases h : t.val < 4
  · rw [outsAt0_C m c t (by omega) ht h (by omega)]; frame_out
    rw [coord t, hi]
    exact mask _ i y
  · rw [outsAt0_D m c t (by omega) ht h (by omega)]; frame_out
    rw [coord t, hi]
    exact mask _ i y

/-- The gain's gradient after the first run. -/
theorem gain_first (c : Dev nD) (t : Fin cfg0.N) (ht : t.val % 4 = 3) (h : t.val < 4) (y : S1x1024.Idx) :
    (outsAt0 m c t.val t.isLt).2.1 y = k0_pay8 (F := Ideal) (iblk m c 2 t) (outsAt0 m c t.val t.isLt).2.2 y := by
  rw [outsAt0_C m c t (by omega) ht h (by omega)]; frame_out

/-- The gain's gradient after a later run. -/
theorem gain_next (c : Dev nD) (t : Fin cfg0.N) (ht : t.val % 4 = 3) (h : ¬t.val < 4) (y : S1x1024.Idx) :
    (outsAt0 m c t.val t.isLt).2.1 y = (outsAt0 m c (t.val - 1) (Nat.lt_of_le_of_lt (Nat.sub_le _ _) t.isLt)).2.1 y
      + k0_pay8 (F := Ideal) (iblk m c 2 t) (outsAt0 m c t.val t.isLt).2.2 y := by
  rw [outsAt0_D m c t (by omega) ht h (by omega)]; frame_out
  pointwise [k0_pay4]

/-- Every other point leaves the gain's gradient as it is. -/
theorem gain_keep (c : Dev nD) (t : Fin cfg0.N) (ht : ¬t.val % 4 = 3) :
    (outsAt0 m c t.val t.isLt).2.1 = (outsAt0 m c (t.val - 1) (Nat.lt_of_le_of_lt (Nat.sub_le _ _) t.isLt)).2.1 := by
  by_cases h : t.val % 4 = 0
  · rw [outsAt0_A m c t h ht]; rfl
  · rw [outsAt0_B m c t h ht]; rfl

/-- A block of the argument. -/
theorem cot_blk (c : Dev nD) (t : Fin cfg0.N) (i : Fin 6) (s : Fin 4) (hi : t.val / 4 = i.val) (hs : t.val % 4 = s.val) (a : Fin 704) (b : Fin 1024) :
    (show FVec Ideal S704x1024 .bf16 from iblk m c 0 t) (ix2 a b) = if h : 112 ≤ i.val * 704 + a.val then
      (arg0 m c) (ix2 ⟨i.val * 704 + a.val - 112, by omega⟩ ⟨s.val * 1024 + b.val, by omega⟩) else 0 := by
  obtain ⟨i, hi'⟩ := i; dsimp only at hi; subst hi
  obtain ⟨s, hs'⟩ := s; dsimp only at hs; subst hs
  show V m c main_v1 (((cfg0.win 0).blk t).view.emb (ix2 a b)) = _
  rw [cot_at]
  blk_simp [idx_val t]
  split_ifs
  · blk_ext [idx_val t]
  · rfl

/-- A block of the norm's input. -/
theorem x_blk (c : Dev nD) (t : Fin cfg0.N) (i : Fin 6) (hi : t.val / 4 = i.val) (a : Fin 704) (b : Fin 1024) :
    (show FVec Ideal S704x1024 .f32 from iblk m c 2 t) (ix2 a b) = if h : 112 ≤ i.val * 704 + a.val then
      (arg2 m c) (ix2 ⟨i.val * 704 + a.val - 112, by omega⟩ b) else 0 := by
  obtain ⟨i, hi'⟩ := i; dsimp only at hi; subst hi
  show V m c main_v3 (((cfg0.win 2).blk t).view.emb (ix2 a b)) = _
  rw [x_at]
  blk_simp [idx_val t]
  split_ifs
  · blk_ext [idx_val t]
  · rfl

/-- A block of what passes by. -/
theorem r_blk (c : Dev nD) (t : Fin cfg0.N) (i : Fin 6) (hi : t.val / 4 = i.val) (a : Fin 704) (b : Fin 1024) :
    (show FVec Ideal S704x1024 .f32 from iblk m c 3 t) (ix2 a b) = if h : 112 ≤ i.val * 704 + a.val then
      (arg1 m c) (ix2 ⟨i.val * 704 + a.val - 112, by omega⟩ b) else 0 := by
  obtain ⟨i, hi'⟩ := i; dsimp only at hi; subst hi
  show V m c main_v4 (((cfg0.win 3).blk t).view.emb (ix2 a b)) = _
  rw [r_at]
  blk_simp [idx_val t]
  split_ifs
  · blk_ext [idx_val t]
  · rfl

/-- The block of the gain. -/
theorem g_blk (c : Dev nD) (t : Fin cfg0.N) (b : Fin 1024) :
    (show FVec Ideal S1x1024 .f32 from iblk m c 4 t) (ix2 (0 : Fin 1) b) = (arg3 m c) (ix1 b) := by
  show V m c main_v5 (((cfg0.win 4).blk t).view.emb (ix2 (0 : Fin 1) b)) = _
  rw [← g_at m c b]
  blk_ext [idx_val t]

/-- A block of the weights. -/
theorem weight_blk (c : Dev nD) (t : Fin cfg0.N) (s : Fin 4) (hs : t.val % 4 = s.val) (a : Fin 1024) (b : Fin 1024) :
    (show FVec Ideal S1x1024x1024 .bf16 from iblk m c 1 t) (ix3 (0 : Fin 1) a b) = (arg4 m c) (ix3 (0 : Fin 2) a ⟨s.val * 1024 + b.val, by omega⟩) := by
  obtain ⟨s, hs'⟩ := s; dsimp only at hs; subst hs
  show V m c main_v2 (((cfg0.win 1).blk t).view.emb (ix3 (0 : Fin 1) a b)) = _
  rw [← weight_at m c a ⟨t.val % 4 * 1024 + b.val, by omega⟩]
  blk_ext [idx_val t]

/-- The accumulator after the last point of a run: the sum over the run's points. -/
theorem run_sum (c : Dev nD) (t : Fin cfg0.N) (ht : t.val % 4 = 3) (j : S704x1024.Idx) :
    (outsAt0 m c t.val t.isLt).2.2 j = (0 : EReal) + ∑ s : Fin 4, ∑ k : Fin 1024,
      (show FVec Ideal S704x1024 .bf16 from iblk m c 0 ⟨4 * (t.val / 4) + s.val, Pipeline.run_point_lt_of_flush t ht s⟩) (ix2 (j 0) k)
        * (show FVec Ideal S1x1024x1024 .bf16 from iblk m c 1 ⟨4 * (t.val / 4) + s.val, Pipeline.run_point_lt_of_flush t ht s⟩) (ix3 (0 : Fin 1) (j 1) k) := by
  refine Pipeline.eq_sum_fin_of_reset_step_apply_of_flush (fun n h => (outsAt0 m c n h).2.2) 4 (fun _ => 0)
    (fun p j => ∑ k : Fin 1024, (show FVec Ideal S704x1024 .bf16 from iblk m c 0 p) (ix2 (j 0) k)
        * (show FVec Ideal S1x1024x1024 .bf16 from iblk m c 1 p) (ix3 (0 : Fin 1) (j 1) k)) (fun t h j => ?_) (fun t h j => ?_) t ht j
  · dsimp only
    rw [outsAt0_A m c t h (by omega)]; frame_out; rw [step, zero]
  · dsimp only
    by_cases h' : t.val % 4 = 3
    · by_cases h'' : t.val < 4
      · rw [outsAt0_C m c t h h' h'' (by omega)]; frame_out; rw [step]; exact congrArg (fun z : EReal => z + _) (congrFun (read_unread_whole cc0_scratch0 _ _) j)
      · rw [outsAt0_D m c t h h' h'' (by omega)]; frame_out; rw [step]; exact congrArg (fun z : EReal => z + _) (congrFun (read_unread_whole cc0_scratch0 _ _) j)
    · rw [outsAt0_B m c t h h']; frame_out; rw [step]; exact congrArg (fun z : EReal => z + _) (congrFun (read_unread_whole cc0_scratch0 _ _) j)

/-- The accumulator after the last point of a run: rows of the argument times the weights. -/
theorem acc_at (c : Dev nD) (t : Fin cfg0.N) (ht : t.val % 4 = 3) (i : Fin 6) (hi : t.val / 4 = i.val) (a : Fin 704) (b : Fin 1024) :
    (outsAt0 m c t.val t.isLt).2.2 (ix2 a b) = if h : 112 ≤ i.val * 704 + a.val then
      ∑ k : Fin 4096, (arg0 m c) (ix2 ⟨i.val * 704 + a.val - 112, by omega⟩ k) * (arg4 m c) (ix3 (0 : Fin 2) b k) else 0 := by
  rw [run_sum m c t ht, zero_add]
  have e : ∀ (s : Fin 4) (k : Fin 1024), _ := fun s k => congrArg₂ (· * ·)
    (cot_blk m c ⟨4 * (t.val / 4) + s.val, Pipeline.run_point_lt_of_flush t ht s⟩ i s (by dsimp only; omega) (by dsimp only; omega) a k)
    (weight_blk m c ⟨4 * (t.val / 4) + s.val, Pipeline.run_point_lt_of_flush t ht s⟩ s (by dsimp only; omega) b k)
  refine (Finset.sum_congr rfl fun s _ => Finset.sum_congr rfl fun k _ => e s k).trans ?_
  clear e
  by_cases h : 112 ≤ i.val * 704 + a.val
  · simp only [dif_pos h]
    exact Fin.sum_mul_add_congr fun s k hl => rfl
  · simp only [dif_neg h, zero_mul, Finset.sum_const_zero]

/-- A row's share of the gain's gradient. -/
def share (c : Dev nD) (r : Fin 4112) (j : Fin 1024) : EReal :=
  (arg2 m c) (ix2 r j) * Ideal.rsqrt (q fun j => (arg2 m c) (ix2 r j))
      * ∑ k : Fin 4096, (arg0 m c) (ix2 r k) * (arg4 m c) (ix3 (0 : Fin 2) j k)

/-- A tile's share of the gain's gradient. -/
def tile (c : Dev nD) (i : Fin 6) (j : Fin 1024) : EReal :=
  ∑ k : Fin 704, if h : 112 ≤ i.val * 704 + k.val then share m c ⟨i.val * 704 + k.val - 112, by omega⟩ j else 0

/-- What a run adds to the gain's gradient. -/
theorem tile_at (c : Dev nD) (t : Fin cfg0.N) (ht : t.val % 4 = 3) (i : Fin 6) (hi : t.val / 4 = i.val) (y : S1x1024.Idx) :
    k0_pay8 (F := Ideal) (iblk m c 2 t) (outsAt0 m c t.val t.isLt).2.2 y = tile m c i (y 1) := by
  rw [kernel_gain]
  unfold tile
  refine Finset.sum_congr rfl fun k _ => ?_
  rw [acc_at m c t ht i hi k (y 1)]
  by_cases h : 112 ≤ i.val * 704 + k.val
  · rw [dif_pos h, dif_pos h]
    unfold share
    have e : ∀ j, (show FVec Ideal S704x1024 .f32 from iblk m c 2 t) (ix2 k j) = _ := fun j => (x_blk m c t i hi k j).trans (dif_pos h)
    exact congrArg (fun z : EReal => z * _) (congrArg₂ (fun u v : EReal => u * v) (e (y 1)) (congrArg (fun z => Ideal.rsqrt (q z)) (funext e)))
  · rw [dif_neg h, dif_neg h, mul_zero]

/-- Between two runs' ends the gain's gradient stays. -/
theorem gain_stay (c : Dev nD) (i d : ℕ) (hd : d < 4) (h : 4 * i + 3 + d < cfg0.N) (h' : 4 * i + 3 < cfg0.N) :
    (outsAt0 m c (4 * i + 3 + d) h).2.1 = (outsAt0 m c (4 * i + 3) h').2.1 := by
  induction d with
  | zero => rfl
  | succ d ih =>
    have e := gain_keep m c ⟨4 * i + 3 + (d + 1), h⟩ (by dsimp only; omega)
    exact e.trans (ih (by omega) (by omega))

/-- The gain's gradient after the runs up to one of them. -/
theorem gain_sum (c : Dev nD) (y : S1x1024.Idx) : ∀ (i : ℕ) (hi : i < 6) (h : 4 * i + 3 < cfg0.N),
    (outsAt0 m c (4 * i + 3) h).2.1 y = ∑ p : Fin (i + 1), tile m c ⟨p.val, by omega⟩ (y 1)
  | 0, hi, h => by
    refine (gain_first m c ⟨4 * 0 + 3, h⟩ (by dsimp only) (by dsimp only; omega) y).trans ?_
    rw [tile_at m c ⟨4 * 0 + 3, h⟩ (by dsimp only) ⟨0, hi⟩ (by dsimp only)]
    exact (Fin.sum_univ_one (fun p : Fin 1 => tile m c ⟨p.val, by omega⟩ (y 1))).symm
  | i + 1, hi, h => by
    refine (gain_next m c ⟨4 * (i + 1) + 3, h⟩ (by dsimp only; omega) (by dsimp only; omega) y).trans ?_
    rw [tile_at m c ⟨4 * (i + 1) + 3, h⟩ (by dsimp only; omega) ⟨i + 1, hi⟩ (by dsimp only; omega), Fin.sum_univ_castSucc]
    have e := congrFun (gain_stay m c i 3 (by omega) (by omega) (by omega)) y
    exact congrArg (fun z : EReal => z + _) (e.trans (gain_sum c y i (by omega) (by omega)))

/-- The row gradients a run writes are the reference's. -/
theorem point5 (c : Dev nD) (t : Fin cfg0.N) (ht : t.val % 4 = 3) (y : S704x1024.Idx) :
    (outsAt0 m c t.val t.isLt).1 y = grad (arg0 m c) (arg1 m c) (arg2 m c) (arg3 m c) (arg4 m c) (((cfg0.win 5).blk t).view.emb y) := by
  have hN : t.val < 24 := t.isLt
  have e0 : (((((cfg0.win 5).blk t).view.emb y) 0 : Fin _) : ℕ) = t.val / 4 * 704 + (y 0 : ℕ) := by blk_simp [idx_val t]
  have e1 : (((((cfg0.win 5).blk t).view.emb y) 1 : Fin _) : ℕ) = (y 1 : ℕ) := by blk_simp [idx_val t]
  rw [written m c t ht ⟨t.val / 4, by omega⟩ rfl, grad_at]
  by_cases h : 112 ≤ t.val / 4 * 704 + (y 0 : ℕ)
  · rw [if_pos h, dif_pos (by rw [e0]; exact h), kernel_row]
    refine row_congr (funext fun j => ?_) (funext fun j => ?_) (funext fun j => g_blk m c t j) ?_ (Fin.ext e1.symm)
    · refine ((x_blk m c t ⟨t.val / 4, by omega⟩ rfl (y 0) j).trans (dif_pos h)).trans (congrArg _ ?_)
      exact congrArg (fun z => ix2 z j) (Fin.ext (by dsimp only; rw [e0]))
    · refine ((acc_at m c t ht ⟨t.val / 4, by omega⟩ rfl (y 0) j).trans (dif_pos h)).trans (Finset.sum_congr rfl fun k _ => ?_)
      exact congrArg (fun z => (arg0 m c) (ix2 z k) * _) (Fin.ext (by dsimp only; rw [e0]))
    · have ey : y = ix2 (y 0) (y 1) := by blk_ext
      refine (congrArg (show FVec Ideal S704x1024 .f32 from iblk m c 3 t) ey).trans (((r_blk m c t ⟨t.val / 4, by omega⟩ rfl (y 0) (y 1)).trans (dif_pos h)).trans ?_)
      blk_ext [idx_val t]
  · rw [if_neg h, dif_neg (by rw [e0]; exact h)]

/-- The row gradients after the run. -/
theorem final5 (c : Dev nD) : (dats m 0 c).arrAt 5 (cfgs 0).N = grad (arg0 m c) (arg1 m c) (arg2 m c) (arg3 m c) (arg4 m c) := by
  refine (dats m 0 c).arrAt_eq_of_covers 5 _ (by decide +kernel) fun t hf y => ?_
  blk_simp; rw [after0_5]
  exact point5 m c t ((flush0_5 t).mp hf) y

/-- The gain's gradient after the run. -/
theorem final6 (c : Dev nD) : (dats m 0 c).arrAt 6 (cfgs 0).N = gain (arg0 m c) (arg1 m c) (arg2 m c) (arg3 m c) (arg4 m c) := by
  refine (dats m 0 c).arrAt_eq_of_covers 6 _ (by decide +kernel) fun t hf y => ?_
  blk_simp; rw [after0_6]
  have ht := (flush0_6 t).mp hf
  have e1 : (((((cfg0.win 6).blk t).view.emb y) 1 : Fin _)) = y 1 := Fin.ext (by blk_simp [idx_val t])
  rw [gain_at]
  obtain ⟨n, hn⟩ := t
  have hN : n < 24 := hn
  obtain rfl : n = 4 * 5 + 3 := by dsimp only at ht; omega
  refine (gain_sum m c y 5 (by omega) _).trans ?_
  unfold tile
  refine Eq.trans ?_ ((shift (K := 112) (P := 4112) (fun r => share m c r (y 1))).trans ?_)
  · exact Fin.sum_mul_add_congr (fun s k hl => rfl)
  · rw [← e1]; rfl

/-- The kernel and the reference end with the same arrays. -/
theorem algebraic : Cert.algebraic_UpDxIdeal_UpDxReferenceIdeal := by
  intro m g m' g' _ hargs
  refine ⟨fun c => grad (arg0 m c) (arg1 m c) (arg2 m c) (arg3 m c) (arg4 m c), fun c => gain (arg0 m c) (arg1 m c) (arg2 m c) (arg3 m c) (arg4 m c),
    (θ_run (defs (F := Ideal)) _ _).mono (fun _ h c => ⟨(h.1.out_eq c 5).trans (final5 m c), (h.1.out_eq c 6).trans (final6 m c), h.2.1 c⟩) (θ_run_and (run_main m g) (frame m g)),
    (θ_run Cert.UpDxReferenceIdeal.defs _ _).mono (fun _ h c => ?_) (Cert.UpDxReferenceIdeal.Value.run m' g')⟩
  obtain ⟨e0, e1, e2, e3, e4⟩ := hargs c
  exact ⟨(h c).1.trans (grad_congr e0 e1 e2 e3 e4), (h c).2.1.trans (gain_congr e0 e1 e2 e3 e4), (h c).2.2⟩

end Cert.UpDxIdeal.Hand

end
-- ==== Proof.Mlp.UpDxOne.lean ====
/-
  Hand-written, untrusted. The gradient through the first MLP matrix and the norm in front of it.
-/
module

public import proofs.«01_k».proof.Defs
public import proofs.«01_k».proof.Proof.Mlp.Norm
public import proofs.«01_k».proof.Proof.Gen.UpDxOneIdeal.Frame
public import proofs.«01_k».proof.Proof.Gen.UpDxOneReferenceIdeal.Run
public import Idealize.ShloMosaic.Lib.Pipeline.ValueKit
public import Idealize.ShloMosaic.Lib.Claim
public import Idealize.ShloMosaic.Lib.Pipeline.ReadBack

@[expose] public section

set_option maxRecDepth 16384

noncomputable section

namespace Cert.UpDxOneReferenceIdeal.Hand

open Cert.UpDxOneReferenceIdeal Cert.UpDxOneReferenceIdeal.Gen
open Idealize.ShloMosaic

/-- The reference's gradient over its arguments. -/
def grad (a0 : FVec Ideal S4112x4096 .f32) (a1 : FVec Ideal S4112x1024 .f32) (a2 : FVec Ideal S4112x1024 .f32) (a3 : FVec Ideal S1024 .f32) (a4 : FVec Ideal S1x1024x4096 .f32) : FVec Ideal S4224x1024 .f32 :=
  pad S4224x1024 ![112, 0] ![0, 0] ![0, 0] (addf (addf (addf a1 (mulf (mulf (Host.dotGeneral dot_S4112x4096_S1024x4096_S4112x1024_1_1_0_0_n_n none a0 (shapeCast _ a4 shapeCasts_S1x1024x4096_S1024x4096)) (broadcastInDim S4112x1024 ![0, 1] bcast_S1x1024_S4112x1024_0_1 (broadcastInDim S1x1024 ![1] bcast_S1024_S1x1024_1 a3))) (broadcastInDim S4112x1024 ![0, 1] bcast_S4112x1_S4112x1024_0_1 (Host.rsqrt (addf (Host.divf (broadcastInDim S4112x1 ![0] bcast_S4112_S4112x1_0 (Host.reduceAdd (mulf a2 a2) (constant S_ .f32 0x00000000#32) reducesTo_S4112x1024_S4112_d1 h_S_)) (broadcastInDim S4112x1 ![] bcast_S_S4112x1 (constant S_ .f32 0x44800000#32))) (broadcastInDim S4112x1 ![] bcast_S_S4112x1 (constant S_ .f32 0x358637BD#32))))))) (mulf a2 (broadcastInDim S4112x1024 ![0] bcast_S4112_S4112x1024_0 (Host.reduceAdd (Host.divf (mulf (shapeCast _ (Host.reduceAdd (mulf a2 (mulf (Host.dotGeneral dot_S4112x4096_S1024x4096_S4112x1024_1_1_0_0_n_n none a0 (shapeCast _ a4 shapeCasts_S1x1024x4096_S1024x4096)) (broadcastInDim S4112x1024 ![0, 1] bcast_S1x1024_S4112x1024_0_1 (broadcastInDim S1x1024 ![1] bcast_S1024_S1x1024_1 a3)))) (constant S_ .f32 0x00000000#32) reducesTo_S4112x1024_S4112_d1 h_S_) shapeCasts_S4112_S4112x1) (mulf (broadcastInDim S4112x1 ![] bcast_S_S4112x1 (constant S_ .f32 0xBF000000#32)) (Host.divf (Host.rsqrt (addf (Host.divf (broadcastInDim S4112x1 ![0] bcast_S4112_S4112x1_0 (Host.reduceAdd (mulf a2 a2) (constant S_ .f32 0x00000000#32) reducesTo_S4112x1024_S4112_d1 h_S_)) (broadcastInDim S4112x1 ![] bcast_S_S4112x1 (constant S_ .f32 0x44800000#32))) (broadcastInDim S4112x1 ![] bcast_S_S4112x1 (constant S_ .f32 0x358637BD#32)))) (addf (Host.divf (broadcastInDim S4112x1 ![0] bcast_S4112_S4112x1_0 (Host.reduceAdd (mulf a2 a2) (constant S_ .f32 0x00000000#32) reducesTo_S4112x1024_S4112_d1 h_S_)) (broadcastInDim S4112x1 ![] bcast_S_S4112x1 (constant S_ .f32 0x44800000#32))) (broadcastInDim S4112x1 ![] bcast_S_S4112x1 (constant S_ .f32 0x358637BD#32)))))) (broadcastInDim S4112x1 ![] bcast_S_S4112x1 (constant S_ .f32 0x44800000#32))) (constant S_ .f32 0x00000000#32) reducesTo_S4112x1_S4112_d1 h_S_)))) (mulf (broadcastInDim S4112x1024 ![0] bcast_S4112_S4112x1024_0 (Host.reduceAdd (Host.divf (mulf (shapeCast _ (Host.reduceAdd (mulf a2 (mulf (Host.dotGeneral dot_S4112x4096_S1024x4096_S4112x1024_1_1_0_0_n_n none a0 (shapeCast _ a4 shapeCasts_S1x1024x4096_S1024x4096)) (broadcastInDim S4112x1024 ![0, 1] bcast_S1x1024_S4112x1024_0_1 (broadcastInDim S1x1024 ![1] bcast_S1024_S1x1024_1 a3)))) (constant S_ .f32 0x00000000#32) reducesTo_S4112x1024_S4112_d1 h_S_) shapeCasts_S4112_S4112x1) (mulf (broadcastInDim S4112x1 ![] bcast_S_S4112x1 (constant S_ .f32 0xBF000000#32)) (Host.divf (Host.rsqrt (addf (Host.divf (broadcastInDim S4112x1 ![0] bcast_S4112_S4112x1_0 (Host.reduceAdd (mulf a2 a2) (constant S_ .f32 0x00000000#32) reducesTo_S4112x1024_S4112_d1 h_S_)) (broadcastInDim S4112x1 ![] bcast_S_S4112x1 (constant S_ .f32 0x44800000#32))) (broadcastInDim S4112x1 ![] bcast_S_S4112x1 (constant S_ .f32 0x358637BD#32)))) (addf (Host.divf (broadcastInDim S4112x1 ![0] bcast_S4112_S4112x1_0 (Host.reduceAdd (mulf a2 a2) (constant S_ .f32 0x00000000#32) reducesTo_S4112x1024_S4112_d1 h_S_)) (broadcastInDim S4112x1 ![] bcast_S_S4112x1 (constant S_ .f32 0x44800000#32))) (broadcastInDim S4112x1 ![] bcast_S_S4112x1 (constant S_ .f32 0x358637BD#32)))))) (broadcastInDim S4112x1 ![] bcast_S_S4112x1 (constant S_ .f32 0x44800000#32))) (constant S_ .f32 0x00000000#32) reducesTo_S4112x1_S4112_d1 h_S_)) a2)) (sitofp .f32 (constantI S_ 32 0#32)) pads_S4112x1024_S4224x1024_11200_000 h_S_

/-- Equal arguments, equal arrays. -/
theorem grad_congr {a0 b0 : FVec Ideal S4112x4096 .f32} (h0 : a0 = b0) {a1 b1 : FVec Ideal S4112x1024 .f32} (h1 : a1 = b1) {a2 b2 : FVec Ideal S4112x1024 .f32} (h2 : a2 = b2) {a3 b3 : FVec Ideal S1024 .f32} (h3 : a3 = b3) {a4 b4 : FVec Ideal S1x1024x4096 .f32} (h4 : a4 = b4) :
    grad a0 a1 a2 a3 a4 = grad b0 b1 b2 b3 b4 := by
  subst h0; subst h1; subst h2; subst h3; subst h4; rfl

/-- The reference's gradient over its arguments. -/
def gain (a0 : FVec Ideal S4112x4096 .f32) (a1 : FVec Ideal S4112x1024 .f32) (a2 : FVec Ideal S4112x1024 .f32) (a3 : FVec Ideal S1024 .f32) (a4 : FVec Ideal S1x1024x4096 .f32) : FVec Ideal S1x1024 .f32 :=
  shapeCast _ (Host.reduceAdd (shapeCast _ (Host.reduceAdd (mulf (mulf a2 (broadcastInDim S4112x1024 ![0, 1] bcast_S4112x1_S4112x1024_0_1 (Host.rsqrt (addf (Host.divf (broadcastInDim S4112x1 ![0] bcast_S4112_S4112x1_0 (Host.reduceAdd (mulf a2 a2) (constant S_ .f32 0x00000000#32) reducesTo_S4112x1024_S4112_d1 h_S_)) (broadcastInDim S4112x1 ![] bcast_S_S4112x1 (constant S_ .f32 0x44800000#32))) (broadcastInDim S4112x1 ![] bcast_S_S4112x1 (constant S_ .f32 0x358637BD#32)))))) (Host.dotGeneral dot_S4112x4096_S1024x4096_S4112x1024_1_1_0_0_n_n none a0 (shapeCast _ a4 shapeCasts_S1x1024x4096_S1024x4096))) (constant S_ .f32 0x00000000#32) reducesTo_S4112x1024_S1024_d0 h_S_) shapeCasts_S1024_S1x1024) (constant S_ .f32 0x00000000#32) reducesTo_S1x1024_S1024_d0 h_S_) shapeCasts_S1024_S1x1024

/-- Equal arguments, equal arrays. -/
theorem gain_congr {a0 b0 : FVec Ideal S4112x4096 .f32} (h0 : a0 = b0) {a1 b1 : FVec Ideal S4112x1024 .f32} (h1 : a1 = b1) {a2 b2 : FVec Ideal S4112x1024 .f32} (h2 : a2 = b2) {a3 b3 : FVec Ideal S1024 .f32} (h3 : a3 = b3) {a4 b4 : FVec Ideal S1x1024x4096 .f32} (h4 : a4 = b4) :
    gain a0 a1 a2 a3 a4 = gain b0 b1 b2 b3 b4 := by
  subst h0; subst h1; subst h2; subst h3; subst h4; rfl

end Cert.UpDxOneReferenceIdeal.Hand

namespace Cert.UpDxOneIdeal.Hand

open Cert.UpDxOneIdeal Cert.UpDxOneIdeal.Gen
open Cert.UpDxOneReferenceIdeal.Hand (grad grad_congr gain gain_congr)
open Cert.Norm.Hand (q along row row_congr sz shift cmp)
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- Argument 0 at the run's start. -/
abbrev arg0 (c : Dev nD) : FVec Ideal S4112x4096 .f32 := m ((c : Thread nD τ).loc main_arg0)

/-- Argument 1 at the run's start. -/
abbrev arg1 (c : Dev nD) : FVec Ideal S4112x1024 .f32 := m ((c : Thread nD τ).loc main_arg1)

/-- Argument 2 at the run's start. -/
abbrev arg2 (c : Dev nD) : FVec Ideal S4112x1024 .f32 := m ((c : Thread nD τ).loc main_arg2)

/-- Argument 3 at the run's start. -/
abbrev arg3 (c : Dev nD) : FVec Ideal S1024 .f32 := m ((c : Thread nD τ).loc main_arg3)

/-- Argument 4 at the run's start. -/
abbrev arg4 (c : Dev nD) : FVec Ideal S1x1024x4096 .f32 := m ((c : Thread nD τ).loc main_arg4)

/-- The block of every window at every point. -/
theorem idx_val : ∀ t : Fin cfg0.N, win0_0.index t = ![t.val / 4, t.val % 4]
    ∧ win0_1.index t = ![0, 0, t.val % 4]
    ∧ win0_2.index t = ![t.val / 4, 0]
    ∧ win0_3.index t = ![t.val / 4, 0]
    ∧ win0_4.index t = ![0, 0]
    ∧ win0_5.index t = ![t.val / 4, 0]
    ∧ win0_6.index t = ![0, 0] :=
  (by decide +kernel : ∀ t : Fin grid0.N, _)

/-- The kernel's gradient of a row. -/
theorem kernel_row (x acc r : FVec Ideal S704x1024 .f32) (g : FVec Ideal S1x1024 .f32) (y : S704x1024.Idx) :
    k0_pay9 (F := Ideal) x g acc r y = row (fun j => x (ix2 (y 0) j)) (fun j => acc (ix2 (y 0) j)) (fun j => g (ix2 (0 : Fin 1) j)) (r y) (y 1) := by
  unfold row along q
  pointwise [k0_pay9, k0_pay7, k0_pay6, k0_pay5]
  simp only [Fin.sum_univ_one, Finset.univ_unique, Finset.sum_singleton]

/-- The kernel's sum of the gain's gradient over a tile of rows. -/
theorem kernel_gain (x acc : FVec Ideal S704x1024 .f32) (y : S1x1024.Idx) :
    k0_pay8 (F := Ideal) x acc y = ∑ k : Fin 704, x (ix2 k (y 1)) * Ideal.rsqrt (q fun j => x (ix2 k j)) * acc (ix2 k (y 1)) := by
  unfold q
  pointwise [k0_pay8, k0_pay7, k0_pay6, k0_pay5]

/-- The reference's gradient of a row. -/
theorem grad_at (a0 : FVec Ideal Cert.UpDxOneReferenceIdeal.S4112x4096 .f32) (a1 : FVec Ideal Cert.UpDxOneReferenceIdeal.S4112x1024 .f32) (a2 : FVec Ideal Cert.UpDxOneReferenceIdeal.S4112x1024 .f32) (a3 : FVec Ideal Cert.UpDxOneReferenceIdeal.S1024 .f32) (a4 : FVec Ideal Cert.UpDxOneReferenceIdeal.S1x1024x4096 .f32) (i : Cert.UpDxOneReferenceIdeal.S4224x1024.Idx) :
    grad a0 a1 a2 a3 a4 i = if h : 112 ≤ (i 0 : ℕ) then row (fun j => a2 (ix2 ⟨(i 0 : ℕ) - 112, by have := (i 0).isLt; simp at this; omega⟩ j))
      (fun j => ∑ k : Fin 4096, a0 (ix2 ⟨(i 0 : ℕ) - 112, by have := (i 0).isLt; simp at this; omega⟩ k) * a4 (ix3 (0 : Fin 1) j k))
      (fun j => a3 (ix1 j)) (a1 (ix2 ⟨(i 0 : ℕ) - 112, by have := (i 0).isLt; simp at this; omega⟩ (i 1))) (i 1) else 0 := by
  unfold row along q
  pointwise [grad]
  by_cases h : 112 ≤ (i 0 : ℕ)
  · have := (i 0).isLt
    rw [dif_pos ⟨h, by simp at this; omega⟩, dif_pos h]
    simp only [Finset.univ_unique, Finset.sum_singleton, add_assoc]
  · rw [dif_neg (fun h' => h h'.1), dif_neg h]
    exact sz

/-- The reference's gradient of the gain. -/
theorem gain_at (a0 : FVec Ideal Cert.UpDxOneReferenceIdeal.S4112x4096 .f32) (a1 : FVec Ideal Cert.UpDxOneReferenceIdeal.S4112x1024 .f32) (a2 : FVec Ideal Cert.UpDxOneReferenceIdeal.S4112x1024 .f32) (a3 : FVec Ideal Cert.UpDxOneReferenceIdeal.S1024 .f32) (a4 : FVec Ideal Cert.UpDxOneReferenceIdeal.S1x1024x4096 .f32) (i : Cert.UpDxOneReferenceIdeal.S1x1024.Idx) :
    gain a0 a1 a2 a3 a4 i = ∑ r : Fin 4112, a2 (ix2 r (i 1)) * Ideal.rsqrt (q fun j => a2 (ix2 r j))
      * ∑ k : Fin 4096, a0 (ix2 r k) * a4 (ix3 (0 : Fin 1) (i 1) k) := by
  unfold q
  pointwise [gain]
  simp only [Finset.univ_unique, Finset.sum_singleton]

/-- One step of the accumulation. -/
theorem step (acc : FVec Ideal S704x1024 .f32) (x : FVec Ideal S704x1024 .bf16) (w : FVec Ideal S1x1024x1024 .bf16) (j : S704x1024.Idx) :
    k0_pay2 (F := Ideal) acc x w j = acc j + ∑ k : Fin 1024, x (ix2 (j 0) k) * w (ix3 (0 : Fin 1) (j 1) k) := by
  pointwise [k0_pay2]

/-- The accumulator starts at zero. -/
theorem zero (j) : k0_pay1 (F := Ideal) j = 0 := by pointwise [k0_pay1]

/-- The argument at entry: zero rows in front. -/
theorem cot_at (c : Dev nD) (i : S4224x4096.Idx) : V m c main_v1 i
    = if h : 112 ≤ (i 0 : ℕ) then (arg0 m c) (ix2 ⟨(i 0 : ℕ) - 112, by have := (i 0).isLt; simp at this; omega⟩ (i 1)) else 0 := by
  unfold V
  simp only [hostOps0, hostOps0_1, hostOps0_2, hostOps0_3, hostOps0_4, hostOps0_5, hostOps0_6, List.flatten_cons, List.flatten_nil, List.append_nil, List.cons_append, List.nil_append]
  entry_read
  try simp -implicitDefEqProofs only [StableHlo.TRef.ofBuf, StableHlo.TRef.toBuf, cast_cast, cast_eq]
  pointwise []
  by_cases h : 112 ≤ (i 0 : ℕ)
  · have := (i 0).isLt
    rw [dif_pos ⟨h, by simp at this; omega⟩, dif_pos h]
  · rw [dif_neg (fun h' => h h'.1), dif_neg h]
    exact sz

/-- The norm's input at entry: zero rows in front. -/
theorem x_at (c : Dev nD) (i : S4224x1024.Idx) : V m c main_v3 i
    = if h : 112 ≤ (i 0 : ℕ) then (arg2 m c) (ix2 ⟨(i 0 : ℕ) - 112, by have := (i 0).isLt; simp at this; omega⟩ (i 1)) else 0 := by
  unfold V
  simp only [hostOps0, hostOps0_1, hostOps0_2, hostOps0_3, hostOps0_4, hostOps0_5, hostOps0_6, List.flatten_cons, List.flatten_nil, List.append_nil, List.cons_append, List.nil_append]
  entry_read
  try simp -implicitDefEqProofs only [StableHlo.TRef.ofBuf, StableHlo.TRef.toBuf, cast_cast, cast_eq]
  pointwise []
  by_cases h : 112 ≤ (i 0 : ℕ)
  · have := (i 0).isLt
    rw [dif_pos ⟨h, by simp at this; omega⟩, dif_pos h]
  · rw [dif_neg (fun h' => h h'.1), dif_neg h]
    exact sz

/-- What passes by, at entry: zero rows in front. -/
theorem r_at (c : Dev nD) (i : S4224x1024.Idx) : V m c main_v4 i
    = if h : 112 ≤ (i 0 : ℕ) then (arg1 m c) (ix2 ⟨(i 0 : ℕ) - 112, by have := (i 0).isLt; simp at this; omega⟩ (i 1)) else 0 := by
  unfold V
  simp only [hostOps0, hostOps0_1, hostOps0_2, hostOps0_3, hostOps0_4, hostOps0_5, hostOps0_6, List.flatten_cons, List.flatten_nil, List.append_nil, List.cons_append, List.nil_append]
  entry_read
  try simp -implicitDefEqProofs only [StableHlo.TRef.ofBuf, StableHlo.TRef.toBuf, cast_cast, cast_eq]
  pointwise []
  by_cases h : 112 ≤ (i 0 : ℕ)
  · have := (i 0).isLt
    rw [dif_pos ⟨h, by simp at this; omega⟩, dif_pos h]
  · rw [dif_neg (fun h' => h h'.1), dif_neg h]
    exact sz

/-- The gain at entry. -/
theorem g_at (c : Dev nD) (j : Fin 1024) : V m c main_v5 (ix2 (0 : Fin 1) j) = (arg3 m c) (ix1 j) := by
  unfold V
  simp only [hostOps0, hostOps0_1, hostOps0_2, hostOps0_3, hostOps0_4, hostOps0_5, hostOps0_6, List.flatten_cons, List.flatten_nil, List.append_nil, List.cons_append, List.nil_append]
  entry_read
  try simp -implicitDefEqProofs only [StableHlo.TRef.ofBuf, StableHlo.TRef.toBuf, cast_cast, cast_eq]
  pointwise []

/-- The weights at entry. -/
theorem weight_at (c : Dev nD) (j : Fin 1024) (k : Fin 4096) :
    V m c main_v2 (ix3 (0 : Fin 1) j k) = (arg4 m c) (ix3 (0 : Fin 1) j k) := by
  unfold V
  simp only [hostOps0, hostOps0_1, hostOps0_2, hostOps0_3, hostOps0_4, hostOps0_5, hostOps0_6, List.flatten_cons, List.flatten_nil, List.append_nil, List.cons_append, List.nil_append]
  entry_read
  try simp -implicitDefEqProofs only [StableHlo.TRef.ofBuf, StableHlo.TRef.toBuf, cast_cast, cast_eq]
  pointwise []

/-- The tile of rows of a point. -/
theorem coord : ∀ t : Fin cfg0.N, ((grid0.coords t 0 : Fin _) : ℕ) = t.val / 4 :=
  (by decide +kernel : ∀ t : Fin grid0.N, _)

/-- The written row gradient keeps the rows past the padding and clears the others. -/
theorem mask (z : FVec Ideal S704x1024 .f32) (n : Fin 6) (y : S704x1024.Idx) :
    k0_pay3 (F := Ideal) z (Scalar.muli (BitVec.ofNat 32 n.val) 704#32) (iota Kind.tc S704x1 32 [0] iota_S704x1_d0_w32) y = if 112 ≤ n.val * 704 + (y 0 : ℕ) then z y else 0 := by
  pointwise [k0_pay3]
  have e := cmp n ⟨(y 0 : ℕ), (y 0).isLt⟩
  dsimp only at e
  rw [e]
  split_ifs with h
  · have : (FloatOps.sitofp .f32 (BitVec.setWidth 32 1#1) : Ideal .f32) = 1 := by simp [FloatOps.sitofp]
    rw [this, mul_one]
  · have : (FloatOps.sitofp .f32 (BitVec.setWidth 32 0#1) : Ideal .f32) = 0 := by simp [FloatOps.sitofp]
    rw [this, mul_zero]

/-- What the last point of a run writes as row gradients. -/
theorem written (c : Dev nD) (t : Fin cfg0.N) (ht : t.val % 4 = 3) (i : Fin 6) (hi : t.val / 4 = i.val) (y : S704x1024.Idx) :
    (outsAt0 m c t.val t.isLt).1 y = if 112 ≤ i.val * 704 + (y 0 : ℕ) then
      k0_pay9 (F := Ideal) (iblk m c 2 t) (iblk m c 4 t) (outsAt0 m c t.val t.isLt).2.2 (iblk m c 3 t) y else 0 := by
  by_cases h : t.val < 4
  · rw [outsAt0_C m c t (by omega) ht h (by omega)]; frame_out
    rw [coord t, hi]
    exact mask _ i y
  · rw [outsAt0_D m c t (by omega) ht h (by omega)]; frame_out
    rw [coord t, hi]
    exact mask _ i y

/-- The gain's gradient after the first run. -/
theorem gain_first (c : Dev nD) (t : Fin cfg0.N) (ht : t.val % 4 = 3) (h : t.val < 4) (y : S1x1024.Idx) :
    (outsAt0 m c t.val t.isLt).2.1 y = k0_pay8 (F := Ideal) (iblk m c 2 t) (outsAt0 m c t.val t.isLt).2.2 y := by
  rw [outsAt0_C m c t (by omega) ht h (by omega)]; frame_out

/-- The gain's gradient after a later run. -/
theorem gain_next (c : Dev nD) (t : Fin cfg0.N) (ht : t.val % 4 = 3) (h : ¬t.val < 4) (y : S1x1024.Idx) :
    (outsAt0 m c t.val t.isLt).2.1 y = (outsAt0 m c (t.val - 1) (Nat.lt_of_le_of_lt (Nat.sub_le _ _) t.isLt)).2.1 y
      + k0_pay8 (F := Ideal) (iblk m c 2 t) (outsAt0 m c t.val t.isLt).2.2 y := by
  rw [outsAt0_D m c t (by omega) ht h (by omega)]; frame_out
  pointwise [k0_pay4]

/-- Every other point leaves the gain's gradient as it is. -/
theorem gain_keep (c : Dev nD) (t : Fin cfg0.N) (ht : ¬t.val % 4 = 3) :
    (outsAt0 m c t.val t.isLt).2.1 = (outsAt0 m c (t.val - 1) (Nat.lt_of_le_of_lt (Nat.sub_le _ _) t.isLt)).2.1 := by
  by_cases h : t.val % 4 = 0
  · rw [outsAt0_A m c t h ht]; rfl
  · rw [outsAt0_B m c t h ht]; rfl

/-- A block of the argument. -/
theorem cot_blk (c : Dev nD) (t : Fin cfg0.N) (i : Fin 6) (s : Fin 4) (hi : t.val / 4 = i.val) (hs : t.val % 4 = s.val) (a : Fin 704) (b : Fin 1024) :
    (show FVec Ideal S704x1024 .bf16 from iblk m c 0 t) (ix2 a b) = if h : 112 ≤ i.val * 704 + a.val then
      (arg0 m c) (ix2 ⟨i.val * 704 + a.val - 112, by omega⟩ ⟨s.val * 1024 + b.val, by omega⟩) else 0 := by
  obtain ⟨i, hi'⟩ := i; dsimp only at hi; subst hi
  obtain ⟨s, hs'⟩ := s; dsimp only at hs; subst hs
  show V m c main_v1 (((cfg0.win 0).blk t).view.emb (ix2 a b)) = _
  rw [cot_at]
  blk_simp [idx_val t]
  split_ifs
  · blk_ext [idx_val t]
  · rfl

/-- A block of the norm's input. -/
theorem x_blk (c : Dev nD) (t : Fin cfg0.N) (i : Fin 6) (hi : t.val / 4 = i.val) (a : Fin 704) (b : Fin 1024) :
    (show FVec Ideal S704x1024 .f32 from iblk m c 2 t) (ix2 a b) = if h : 112 ≤ i.val * 704 + a.val then
      (arg2 m c) (ix2 ⟨i.val * 704 + a.val - 112, by omega⟩ b) else 0 := by
  obtain ⟨i, hi'⟩ := i; dsimp only at hi; subst hi
  show V m c main_v3 (((cfg0.win 2).blk t).view.emb (ix2 a b)) = _
  rw [x_at]
  blk_simp [idx_val t]
  split_ifs
  · blk_ext [idx_val t]
  · rfl

/-- A block of what passes by. -/
theorem r_blk (c : Dev nD) (t : Fin cfg0.N) (i : Fin 6) (hi : t.val / 4 = i.val) (a : Fin 704) (b : Fin 1024) :
    (show FVec Ideal S704x1024 .f32 from iblk m c 3 t) (ix2 a b) = if h : 112 ≤ i.val * 704 + a.val then
      (arg1 m c) (ix2 ⟨i.val * 704 + a.val - 112, by omega⟩ b) else 0 := by
  obtain ⟨i, hi'⟩ := i; dsimp only at hi; subst hi
  show V m c main_v4 (((cfg0.win 3).blk t).view.emb (ix2 a b)) = _
  rw [r_at]
  blk_simp [idx_val t]
  split_ifs
  · blk_ext [idx_val t]
  · rfl

/-- The block of the gain. -/
theorem g_blk (c : Dev nD) (t : Fin cfg0.N) (b : Fin 1024) :
    (show FVec Ideal S1x1024 .f32 from iblk m c 4 t) (ix2 (0 : Fin 1) b) = (arg3 m c) (ix1 b) := by
  show V m c main_v5 (((cfg0.win 4).blk t).view.emb (ix2 (0 : Fin 1) b)) = _
  rw [← g_at m c b]
  blk_ext [idx_val t]

/-- A block of the weights. -/
theorem weight_blk (c : Dev nD) (t : Fin cfg0.N) (s : Fin 4) (hs : t.val % 4 = s.val) (a : Fin 1024) (b : Fin 1024) :
    (show FVec Ideal S1x1024x1024 .bf16 from iblk m c 1 t) (ix3 (0 : Fin 1) a b) = (arg4 m c) (ix3 (0 : Fin 1) a ⟨s.val * 1024 + b.val, by omega⟩) := by
  obtain ⟨s, hs'⟩ := s; dsimp only at hs; subst hs
  show V m c main_v2 (((cfg0.win 1).blk t).view.emb (ix3 (0 : Fin 1) a b)) = _
  rw [← weight_at m c a ⟨t.val % 4 * 1024 + b.val, by omega⟩]
  blk_ext [idx_val t]

/-- The accumulator after the last point of a run: the sum over the run's points. -/
theorem run_sum (c : Dev nD) (t : Fin cfg0.N) (ht : t.val % 4 = 3) (j : S704x1024.Idx) :
    (outsAt0 m c t.val t.isLt).2.2 j = (0 : EReal) + ∑ s : Fin 4, ∑ k : Fin 1024,
      (show FVec Ideal S704x1024 .bf16 from iblk m c 0 ⟨4 * (t.val / 4) + s.val, Pipeline.run_point_lt_of_flush t ht s⟩) (ix2 (j 0) k)
        * (show FVec Ideal S1x1024x1024 .bf16 from iblk m c 1 ⟨4 * (t.val / 4) + s.val, Pipeline.run_point_lt_of_flush t ht s⟩) (ix3 (0 : Fin 1) (j 1) k) := by
  refine Pipeline.eq_sum_fin_of_reset_step_apply_of_flush (fun n h => (outsAt0 m c n h).2.2) 4 (fun _ => 0)
    (fun p j => ∑ k : Fin 1024, (show FVec Ideal S704x1024 .bf16 from iblk m c 0 p) (ix2 (j 0) k)
        * (show FVec Ideal S1x1024x1024 .bf16 from iblk m c 1 p) (ix3 (0 : Fin 1) (j 1) k)) (fun t h j => ?_) (fun t h j => ?_) t ht j
  · dsimp only
    rw [outsAt0_A m c t h (by omega)]; frame_out; rw [step, zero]
  · dsimp only
    by_cases h' : t.val % 4 = 3
    · by_cases h'' : t.val < 4
      · rw [outsAt0_C m c t h h' h'' (by omega)]; frame_out; rw [step]; exact congrArg (fun z : EReal => z + _) (congrFun (read_unread_whole cc0_scratch0 _ _) j)
      · rw [outsAt0_D m c t h h' h'' (by omega)]; frame_out; rw [step]; exact congrArg (fun z : EReal => z + _) (congrFun (read_unread_whole cc0_scratch0 _ _) j)
    · rw [outsAt0_B m c t h h']; frame_out; rw [step]; exact congrArg (fun z : EReal => z + _) (congrFun (read_unread_whole cc0_scratch0 _ _) j)

/-- The accumulator after the last point of a run: rows of the argument times the weights. -/
theorem acc_at (c : Dev nD) (t : Fin cfg0.N) (ht : t.val % 4 = 3) (i : Fin 6) (hi : t.val / 4 = i.val) (a : Fin 704) (b : Fin 1024) :
    (outsAt0 m c t.val t.isLt).2.2 (ix2 a b) = if h : 112 ≤ i.val * 704 + a.val then
      ∑ k : Fin 4096, (arg0 m c) (ix2 ⟨i.val * 704 + a.val - 112, by omega⟩ k) * (arg4 m c) (ix3 (0 : Fin 1) b k) else 0 := by
  rw [run_sum m c t ht, zero_add]
  have e : ∀ (s : Fin 4) (k : Fin 1024), _ := fun s k => congrArg₂ (· * ·)
    (cot_blk m c ⟨4 * (t.val / 4) + s.val, Pipeline.run_point_lt_of_flush t ht s⟩ i s (by dsimp only; omega) (by dsimp only; omega) a k)
    (weight_blk m c ⟨4 * (t.val / 4) + s.val, Pipeline.run_point_lt_of_flush t ht s⟩ s (by dsimp only; omega) b k)
  refine (Finset.sum_congr rfl fun s _ => Finset.sum_congr rfl fun k _ => e s k).trans ?_
  clear e
  by_cases h : 112 ≤ i.val * 704 + a.val
  · simp only [dif_pos h]
    exact Fin.sum_mul_add_congr fun s k hl => rfl
  · simp only [dif_neg h, zero_mul, Finset.sum_const_zero]

/-- A row's share of the gain's gradient. -/
def share (c : Dev nD) (r : Fin 4112) (j : Fin 1024) : EReal :=
  (arg2 m c) (ix2 r j) * Ideal.rsqrt (q fun j => (arg2 m c) (ix2 r j))
      * ∑ k : Fin 4096, (arg0 m c) (ix2 r k) * (arg4 m c) (ix3 (0 : Fin 1) j k)

/-- A tile's share of the gain's gradient. -/
def tile (c : Dev nD) (i : Fin 6) (j : Fin 1024) : EReal :=
  ∑ k : Fin 704, if h : 112 ≤ i.val * 704 + k.val then share m c ⟨i.val * 704 + k.val - 112, by omega⟩ j else 0

/-- What a run adds to the gain's gradient. -/
theorem tile_at (c : Dev nD) (t : Fin cfg0.N) (ht : t.val % 4 = 3) (i : Fin 6) (hi : t.val / 4 = i.val) (y : S1x1024.Idx) :
    k0_pay8 (F := Ideal) (iblk m c 2 t) (outsAt0 m c t.val t.isLt).2.2 y = tile m c i (y 1) := by
  rw [kernel_gain]
  unfold tile
  refine Finset.sum_congr rfl fun k _ => ?_
  rw [acc_at m c t ht i hi k (y 1)]
  by_cases h : 112 ≤ i.val * 704 + k.val
  · rw [dif_pos h, dif_pos h]
    unfold share
    have e : ∀ j, (show FVec Ideal S704x1024 .f32 from iblk m c 2 t) (ix2 k j) = _ := fun j => (x_blk m c t i hi k j).trans (dif_pos h)
    exact congrArg (fun z : EReal => z * _) (congrArg₂ (fun u v : EReal => u * v) (e (y 1)) (congrArg (fun z => Ideal.rsqrt (q z)) (funext e)))
  · rw [dif_neg h, dif_neg h, mul_zero]

/-- Between two runs' ends the gain's gradient stays. -/
theorem gain_stay (c : Dev nD) (i d : ℕ) (hd : d < 4) (h : 4 * i + 3 + d < cfg0.N) (h' : 4 * i + 3 < cfg0.N) :
    (outsAt0 m c (4 * i + 3 + d) h).2.1 = (outsAt0 m c (4 * i + 3) h').2.1 := by
  induction d with
  | zero => rfl
  | succ d ih =>
    have e := gain_keep m c ⟨4 * i + 3 + (d + 1), h⟩ (by dsimp only; omega)
    exact e.trans (ih (by omega) (by omega))

/-- The gain's gradient after the runs up to one of them. -/
theorem gain_sum (c : Dev nD) (y : S1x1024.Idx) : ∀ (i : ℕ) (hi : i < 6) (h : 4 * i + 3 < cfg0.N),
    (outsAt0 m c (4 * i + 3) h).2.1 y = ∑ p : Fin (i + 1), tile m c ⟨p.val, by omega⟩ (y 1)
  | 0, hi, h => by
    refine (gain_first m c ⟨4 * 0 + 3, h⟩ (by dsimp only) (by dsimp only; omega) y).trans ?_
    rw [tile_at m c ⟨4 * 0 + 3, h⟩ (by dsimp only) ⟨0, hi⟩ (by dsimp only)]
    exact (Fin.sum_univ_one (fun p : Fin 1 => tile m c ⟨p.val, by omega⟩ (y 1))).symm
  | i + 1, hi, h => by
    refine (gain_next m c ⟨4 * (i + 1) + 3, h⟩ (by dsimp only; omega) (by dsimp only; omega) y).trans ?_
    rw [tile_at m c ⟨4 * (i + 1) + 3, h⟩ (by dsimp only; omega) ⟨i + 1, hi⟩ (by dsimp only; omega), Fin.sum_univ_castSucc]
    have e := congrFun (gain_stay m c i 3 (by omega) (by omega) (by omega)) y
    exact congrArg (fun z : EReal => z + _) (e.trans (gain_sum c y i (by omega) (by omega)))

/-- The row gradients a run writes are the reference's. -/
theorem point5 (c : Dev nD) (t : Fin cfg0.N) (ht : t.val % 4 = 3) (y : S704x1024.Idx) :
    (outsAt0 m c t.val t.isLt).1 y = grad (arg0 m c) (arg1 m c) (arg2 m c) (arg3 m c) (arg4 m c) (((cfg0.win 5).blk t).view.emb y) := by
  have hN : t.val < 24 := t.isLt
  have e0 : (((((cfg0.win 5).blk t).view.emb y) 0 : Fin _) : ℕ) = t.val / 4 * 704 + (y 0 : ℕ) := by blk_simp [idx_val t]
  have e1 : (((((cfg0.win 5).blk t).view.emb y) 1 : Fin _) : ℕ) = (y 1 : ℕ) := by blk_simp [idx_val t]
  rw [written m c t ht ⟨t.val / 4, by omega⟩ rfl, grad_at]
  by_cases h : 112 ≤ t.val / 4 * 704 + (y 0 : ℕ)
  · rw [if_pos h, dif_pos (by rw [e0]; exact h), kernel_row]
    refine row_congr (funext fun j => ?_) (funext fun j => ?_) (funext fun j => g_blk m c t j) ?_ (Fin.ext e1.symm)
    · refine ((x_blk m c t ⟨t.val / 4, by omega⟩ rfl (y 0) j).trans (dif_pos h)).trans (congrArg _ ?_)
      exact congrArg (fun z => ix2 z j) (Fin.ext (by dsimp only; rw [e0]))
    · refine ((acc_at m c t ht ⟨t.val / 4, by omega⟩ rfl (y 0) j).trans (dif_pos h)).trans (Finset.sum_congr rfl fun k _ => ?_)
      exact congrArg (fun z => (arg0 m c) (ix2 z k) * _) (Fin.ext (by dsimp only; rw [e0]))
    · have ey : y = ix2 (y 0) (y 1) := by blk_ext
      refine (congrArg (show FVec Ideal S704x1024 .f32 from iblk m c 3 t) ey).trans (((r_blk m c t ⟨t.val / 4, by omega⟩ rfl (y 0) (y 1)).trans (dif_pos h)).trans ?_)
      blk_ext [idx_val t]
  · rw [if_neg h, dif_neg (by rw [e0]; exact h)]

/-- The row gradients after the run. -/
theorem final5 (c : Dev nD) : (dats m 0 c).arrAt 5 (cfgs 0).N = grad (arg0 m c) (arg1 m c) (arg2 m c) (arg3 m c) (arg4 m c) := by
  refine (dats m 0 c).arrAt_eq_of_covers 5 _ (by decide +kernel) fun t hf y => ?_
  blk_simp; rw [after0_5]
  exact point5 m c t ((flush0_5 t).mp hf) y

/-- The gain's gradient after the run. -/
theorem final6 (c : Dev nD) : (dats m 0 c).arrAt 6 (cfgs 0).N = gain (arg0 m c) (arg1 m c) (arg2 m c) (arg3 m c) (arg4 m c) := by
  refine (dats m 0 c).arrAt_eq_of_covers 6 _ (by decide +kernel) fun t hf y => ?_
  blk_simp; rw [after0_6]
  have ht := (flush0_6 t).mp hf
  have e1 : (((((cfg0.win 6).blk t).view.emb y) 1 : Fin _)) = y 1 := Fin.ext (by blk_simp [idx_val t])
  rw [gain_at]
  obtain ⟨n, hn⟩ := t
  have hN : n < 24 := hn
  obtain rfl : n = 4 * 5 + 3 := by dsimp only at ht; omega
  refine (gain_sum m c y 5 (by omega) _).trans ?_
  unfold tile
  refine Eq.trans ?_ ((shift (K := 112) (P := 4112) (fun r => share m c r (y 1))).trans ?_)
  · exact Fin.sum_mul_add_congr (fun s k hl => rfl)
  · rw [← e1]; rfl

/-- The kernel and the reference end with the same arrays. -/
theorem algebraic : Cert.algebraic_UpDxOneIdeal_UpDxOneReferenceIdeal := by
  intro m g m' g' _ hargs
  refine ⟨fun c => grad (arg0 m c) (arg1 m c) (arg2 m c) (arg3 m c) (arg4 m c), fun c => gain (arg0 m c) (arg1 m c) (arg2 m c) (arg3 m c) (arg4 m c),
    (θ_run (defs (F := Ideal)) _ _).mono (fun _ h c => ⟨(h.1.out_eq c 5).trans (final5 m c), (h.1.out_eq c 6).trans (final6 m c), h.2.1 c⟩) (θ_run_and (run_main m g) (frame m g)),
    (θ_run Cert.UpDxOneReferenceIdeal.defs _ _).mono (fun _ h c => ?_) (Cert.UpDxOneReferenceIdeal.Value.run m' g')⟩
  obtain ⟨e0, e1, e2, e3, e4⟩ := hargs c
  exact ⟨(h c).1.trans (grad_congr e0 e1 e2 e3 e4), (h c).2.1.trans (gain_congr e0 e1 e2 e3 e4), (h c).2.2⟩

end Cert.UpDxOneIdeal.Hand

end
-- ==== Proof.Mlp.UpDxTop.lean ====
/-
  Hand-written, untrusted. The gradient through the first MLP matrix and the norm in front of it.
-/
module

public import proofs.«01_k».proof.Defs
public import proofs.«01_k».proof.Proof.Mlp.Norm
public import proofs.«01_k».proof.Proof.Gen.UpDxTopIdeal.Frame
public import proofs.«01_k».proof.Proof.Gen.UpDxTopReferenceIdeal.Run
public import Idealize.ShloMosaic.Lib.Pipeline.ValueKit
public import Idealize.ShloMosaic.Lib.Claim
public import Idealize.ShloMosaic.Lib.Pipeline.ReadBack

@[expose] public section

set_option maxRecDepth 16384

noncomputable section

namespace Cert.UpDxTopReferenceIdeal.Hand

open Cert.UpDxTopReferenceIdeal Cert.UpDxTopReferenceIdeal.Gen
open Idealize.ShloMosaic

/-- The reference's gradient over its arguments. -/
def grad (a0 : FVec Ideal S4112x4096 .f32) (a1 : FVec Ideal S4112x1024 .f32) (a2 : FVec Ideal S4112x1024 .f32) (a3 : FVec Ideal S1024 .f32) (a4 : FVec Ideal S2x1024x4096 .f32) : FVec Ideal S4224x1024 .f32 :=
  pad S4224x1024 ![112, 0] ![0, 0] ![0, 0] (addf (addf (addf a1 (mulf (mulf (Host.dotGeneral dot_S4112x4096_S1024x4096_S4112x1024_1_1_0_0_n_n none a0 (shapeCast _ (extractStridedSlice S1x1024x4096 ![1, 0, 0] a4 slices_S2x1024x4096_S1x1024x4096_1_0_0) shapeCasts_S1x1024x4096_S1024x4096)) (broadcastInDim S4112x1024 ![0, 1] bcast_S1x1024_S4112x1024_0_1 (broadcastInDim S1x1024 ![1] bcast_S1024_S1x1024_1 a3))) (broadcastInDim S4112x1024 ![0, 1] bcast_S4112x1_S4112x1024_0_1 (Host.rsqrt (addf (Host.divf (broadcastInDim S4112x1 ![0] bcast_S4112_S4112x1_0 (Host.reduceAdd (mulf a2 a2) (constant S_ .f32 0x00000000#32) reducesTo_S4112x1024_S4112_d1 h_S_)) (broadcastInDim S4112x1 ![] bcast_S_S4112x1 (constant S_ .f32 0x44800000#32))) (broadcastInDim S4112x1 ![] bcast_S_S4112x1 (constant S_ .f32 0x358637BD#32))))))) (mulf a2 (broadcastInDim S4112x1024 ![0] bcast_S4112_S4112x1024_0 (Host.reduceAdd (Host.divf (mulf (shapeCast _ (Host.reduceAdd (mulf a2 (mulf (Host.dotGeneral dot_S4112x4096_S1024x4096_S4112x1024_1_1_0_0_n_n none a0 (shapeCast _ (extractStridedSlice S1x1024x4096 ![1, 0, 0] a4 slices_S2x1024x4096_S1x1024x4096_1_0_0) shapeCasts_S1x1024x4096_S1024x4096)) (broadcastInDim S4112x1024 ![0, 1] bcast_S1x1024_S4112x1024_0_1 (broadcastInDim S1x1024 ![1] bcast_S1024_S1x1024_1 a3)))) (constant S_ .f32 0x00000000#32) reducesTo_S4112x1024_S4112_d1 h_S_) shapeCasts_S4112_S4112x1) (mulf (broadcastInDim S4112x1 ![] bcast_S_S4112x1 (constant S_ .f32 0xBF000000#32)) (Host.divf (Host.rsqrt (addf (Host.divf (broadcastInDim S4112x1 ![0] bcast_S4112_S4112x1_0 (Host.reduceAdd (mulf a2 a2) (constant S_ .f32 0x00000000#32) reducesTo_S4112x1024_S4112_d1 h_S_)) (broadcastInDim S4112x1 ![] bcast_S_S4112x1 (constant S_ .f32 0x44800000#32))) (broadcastInDim S4112x1 ![] bcast_S_S4112x1 (constant S_ .f32 0x358637BD#32)))) (addf (Host.divf (broadcastInDim S4112x1 ![0] bcast_S4112_S4112x1_0 (Host.reduceAdd (mulf a2 a2) (constant S_ .f32 0x00000000#32) reducesTo_S4112x1024_S4112_d1 h_S_)) (broadcastInDim S4112x1 ![] bcast_S_S4112x1 (constant S_ .f32 0x44800000#32))) (broadcastInDim S4112x1 ![] bcast_S_S4112x1 (constant S_ .f32 0x358637BD#32)))))) (broadcastInDim S4112x1 ![] bcast_S_S4112x1 (constant S_ .f32 0x44800000#32))) (constant S_ .f32 0x00000000#32) reducesTo_S4112x1_S4112_d1 h_S_)))) (mulf (broadcastInDim S4112x1024 ![0] bcast_S4112_S4112x1024_0 (Host.reduceAdd (Host.divf (mulf (shapeCast _ (Host.reduceAdd (mulf a2 (mulf (Host.dotGeneral dot_S4112x4096_S1024x4096_S4112x1024_1_1_0_0_n_n none a0 (shapeCast _ (extractStridedSlice S1x1024x4096 ![1, 0, 0] a4 slices_S2x1024x4096_S1x1024x4096_1_0_0) shapeCasts_S1x1024x4096_S1024x4096)) (broadcastInDim S4112x1024 ![0, 1] bcast_S1x1024_S4112x1024_0_1 (broadcastInDim S1x1024 ![1] bcast_S1024_S1x1024_1 a3)))) (constant S_ .f32 0x00000000#32) reducesTo_S4112x1024_S4112_d1 h_S_) shapeCasts_S4112_S4112x1) (mulf (broadcastInDim S4112x1 ![] bcast_S_S4112x1 (constant S_ .f32 0xBF000000#32)) (Host.divf (Host.rsqrt (addf (Host.divf (broadcastInDim S4112x1 ![0] bcast_S4112_S4112x1_0 (Host.reduceAdd (mulf a2 a2) (constant S_ .f32 0x00000000#32) reducesTo_S4112x1024_S4112_d1 h_S_)) (broadcastInDim S4112x1 ![] bcast_S_S4112x1 (constant S_ .f32 0x44800000#32))) (broadcastInDim S4112x1 ![] bcast_S_S4112x1 (constant S_ .f32 0x358637BD#32)))) (addf (Host.divf (broadcastInDim S4112x1 ![0] bcast_S4112_S4112x1_0 (Host.reduceAdd (mulf a2 a2) (constant S_ .f32 0x00000000#32) reducesTo_S4112x1024_S4112_d1 h_S_)) (broadcastInDim S4112x1 ![] bcast_S_S4112x1 (constant S_ .f32 0x44800000#32))) (broadcastInDim S4112x1 ![] bcast_S_S4112x1 (constant S_ .f32 0x358637BD#32)))))) (broadcastInDim S4112x1 ![] bcast_S_S4112x1 (constant S_ .f32 0x44800000#32))) (constant S_ .f32 0x00000000#32) reducesTo_S4112x1_S4112_d1 h_S_)) a2)) (sitofp .f32 (constantI S_ 32 0#32)) pads_S4112x1024_S4224x1024_11200_000 h_S_

/-- Equal arguments, equal arrays. -/
theorem grad_congr {a0 b0 : FVec Ideal S4112x4096 .f32} (h0 : a0 = b0) {a1 b1 : FVec Ideal S4112x1024 .f32} (h1 : a1 = b1) {a2 b2 : FVec Ideal S4112x1024 .f32} (h2 : a2 = b2) {a3 b3 : FVec Ideal S1024 .f32} (h3 : a3 = b3) {a4 b4 : FVec Ideal S2x1024x4096 .f32} (h4 : a4 = b4) :
    grad a0 a1 a2 a3 a4 = grad b0 b1 b2 b3 b4 := by
  subst h0; subst h1; subst h2; subst h3; subst h4; rfl

/-- The reference's gradient over its arguments. -/
def gain (a0 : FVec Ideal S4112x4096 .f32) (a1 : FVec Ideal S4112x1024 .f32) (a2 : FVec Ideal S4112x1024 .f32) (a3 : FVec Ideal S1024 .f32) (a4 : FVec Ideal S2x1024x4096 .f32) : FVec Ideal S1x1024 .f32 :=
  shapeCast _ (Host.reduceAdd (shapeCast _ (Host.reduceAdd (mulf (mulf a2 (broadcastInDim S4112x1024 ![0, 1] bcast_S4112x1_S4112x1024_0_1 (Host.rsqrt (addf (Host.divf (broadcastInDim S4112x1 ![0] bcast_S4112_S4112x1_0 (Host.reduceAdd (mulf a2 a2) (constant S_ .f32 0x00000000#32) reducesTo_S4112x1024_S4112_d1 h_S_)) (broadcastInDim S4112x1 ![] bcast_S_S4112x1 (constant S_ .f32 0x44800000#32))) (broadcastInDim S4112x1 ![] bcast_S_S4112x1 (constant S_ .f32 0x358637BD#32)))))) (Host.dotGeneral dot_S4112x4096_S1024x4096_S4112x1024_1_1_0_0_n_n none a0 (shapeCast _ (extractStridedSlice S1x1024x4096 ![1, 0, 0] a4 slices_S2x1024x4096_S1x1024x4096_1_0_0) shapeCasts_S1x1024x4096_S1024x4096))) (constant S_ .f32 0x00000000#32) reducesTo_S4112x1024_S1024_d0 h_S_) shapeCasts_S1024_S1x1024) (constant S_ .f32 0x00000000#32) reducesTo_S1x1024_S1024_d0 h_S_) shapeCasts_S1024_S1x1024

/-- Equal arguments, equal arrays. -/
theorem gain_congr {a0 b0 : FVec Ideal S4112x4096 .f32} (h0 : a0 = b0) {a1 b1 : FVec Ideal S4112x1024 .f32} (h1 : a1 = b1) {a2 b2 : FVec Ideal S4112x1024 .f32} (h2 : a2 = b2) {a3 b3 : FVec Ideal S1024 .f32} (h3 : a3 = b3) {a4 b4 : FVec Ideal S2x1024x4096 .f32} (h4 : a4 = b4) :
    gain a0 a1 a2 a3 a4 = gain b0 b1 b2 b3 b4 := by
  subst h0; subst h1; subst h2; subst h3; subst h4; rfl

end Cert.UpDxTopReferenceIdeal.Hand

namespace Cert.UpDxTopIdeal.Hand

open Cert.UpDxTopIdeal Cert.UpDxTopIdeal.Gen
open Cert.UpDxTopReferenceIdeal.Hand (grad grad_congr gain gain_congr)
open Cert.Norm.Hand (q along row row_congr sz shift cmp)
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- Argument 0 at the run's start. -/
abbrev arg0 (c : Dev nD) : FVec Ideal S4112x4096 .f32 := m ((c : Thread nD τ).loc main_arg0)

/-- Argument 1 at the run's start. -/
abbrev arg1 (c : Dev nD) : FVec Ideal S4112x1024 .f32 := m ((c : Thread nD τ).loc main_arg1)

/-- Argument 2 at the run's start. -/
abbrev arg2 (c : Dev nD) : FVec Ideal S4112x1024 .f32 := m ((c : Thread nD τ).loc main_arg2)

/-- Argument 3 at the run's start. -/
abbrev arg3 (c : Dev nD) : FVec Ideal S1024 .f32 := m ((c : Thread nD τ).loc main_arg3)

/-- Argument 4 at the run's start. -/
abbrev arg4 (c : Dev nD) : FVec Ideal S2x1024x4096 .f32 := m ((c : Thread nD τ).loc main_arg4)

/-- The block of every window at every point. -/
theorem idx_val : ∀ t : Fin cfg0.N, win0_0.index t = ![t.val / 4, t.val % 4]
    ∧ win0_1.index t = ![1, 0, t.val % 4]
    ∧ win0_2.index t = ![t.val / 4, 0]
    ∧ win0_3.index t = ![t.val / 4, 0]
    ∧ win0_4.index t = ![0, 0]
    ∧ win0_5.index t = ![t.val / 4, 0]
    ∧ win0_6.index t = ![0, 0] :=
  (by decide +kernel : ∀ t : Fin grid0.N, _)

/-- The kernel's gradient of a row. -/
theorem kernel_row (x acc r : FVec Ideal S704x1024 .f32) (g : FVec Ideal S1x1024 .f32) (y : S704x1024.Idx) :
    k0_pay9 (F := Ideal) x g acc r y = row (fun j => x (ix2 (y 0) j)) (fun j => acc (ix2 (y 0) j)) (fun j => g (ix2 (0 : Fin 1) j)) (r y) (y 1) := by
  unfold row along q
  pointwise [k0_pay9, k0_pay7, k0_pay6, k0_pay5]
  simp only [Fin.sum_univ_one, Finset.univ_unique, Finset.sum_singleton]

/-- The kernel's sum of the gain's gradient over a tile of rows. -/
theorem kernel_gain (x acc : FVec Ideal S704x1024 .f32) (y : S1x1024.Idx) :
    k0_pay8 (F := Ideal) x acc y = ∑ k : Fin 704, x (ix2 k (y 1)) * Ideal.rsqrt (q fun j => x (ix2 k j)) * acc (ix2 k (y 1)) := by
  unfold q
  pointwise [k0_pay8, k0_pay7, k0_pay6, k0_pay5]

/-- The reference's gradient of a row. -/
theorem grad_at (a0 : FVec Ideal Cert.UpDxTopReferenceIdeal.S4112x4096 .f32) (a1 : FVec Ideal Cert.UpDxTopReferenceIdeal.S4112x1024 .f32) (a2 : FVec Ideal Cert.UpDxTopReferenceIdeal.S4112x1024 .f32) (a3 : FVec Ideal Cert.UpDxTopReferenceIdeal.S1024 .f32) (a4 : FVec Ideal Cert.UpDxTopReferenceIdeal.S2x1024x4096 .f32) (i : Cert.UpDxTopReferenceIdeal.S4224x1024.Idx) :
    grad a0 a1 a2 a3 a4 i = if h : 112 ≤ (i 0 : ℕ) then row (fun j => a2 (ix2 ⟨(i 0 : ℕ) - 112, by have := (i 0).isLt; simp at this; omega⟩ j))
      (fun j => ∑ k : Fin 4096, a0 (ix2 ⟨(i 0 : ℕ) - 112, by have := (i 0).isLt; simp at this; omega⟩ k) * a4 (ix3 (1 : Fin 2) j k))
      (fun j => a3 (ix1 j)) (a1 (ix2 ⟨(i 0 : ℕ) - 112, by have := (i 0).isLt; simp at this; omega⟩ (i 1))) (i 1) else 0 := by
  unfold row along q
  pointwise [grad]
  by_cases h : 112 ≤ (i 0 : ℕ)
  · have := (i 0).isLt
    rw [dif_pos ⟨h, by simp at this; omega⟩, dif_pos h]
    simp only [Finset.univ_unique, Finset.sum_singleton, add_assoc]
  · rw [dif_neg (fun h' => h h'.1), dif_neg h]
    exact sz

/-- The reference's gradient of the gain. -/
theorem gain_at (a0 : FVec Ideal Cert.UpDxTopReferenceIdeal.S4112x4096 .f32) (a1 : FVec Ideal Cert.UpDxTopReferenceIdeal.S4112x1024 .f32) (a2 : FVec Ideal Cert.UpDxTopReferenceIdeal.S4112x1024 .f32) (a3 : FVec Ideal Cert.UpDxTopReferenceIdeal.S1024 .f32) (a4 : FVec Ideal Cert.UpDxTopReferenceIdeal.S2x1024x4096 .f32) (i : Cert.UpDxTopReferenceIdeal.S1x1024.Idx) :
    gain a0 a1 a2 a3 a4 i = ∑ r : Fin 4112, a2 (ix2 r (i 1)) * Ideal.rsqrt (q fun j => a2 (ix2 r j))
      * ∑ k : Fin 4096, a0 (ix2 r k) * a4 (ix3 (1 : Fin 2) (i 1) k) := by
  unfold q
  pointwise [gain]
  simp only [Finset.univ_unique, Finset.sum_singleton]

/-- One step of the accumulation. -/
theorem step (acc : FVec Ideal S704x1024 .f32) (x : FVec Ideal S704x1024 .bf16) (w : FVec Ideal S1x1024x1024 .bf16) (j : S704x1024.Idx) :
    k0_pay2 (F := Ideal) acc x w j = acc j + ∑ k : Fin 1024, x (ix2 (j 0) k) * w (ix3 (0 : Fin 1) (j 1) k) := by
  pointwise [k0_pay2]

/-- The accumulator starts at zero. -/
theorem zero (j) : k0_pay1 (F := Ideal) j = 0 := by pointwise [k0_pay1]

/-- The argument at entry: zero rows in front. -/
theorem cot_at (c : Dev nD) (i : S4224x4096.Idx) : V m c main_v1 i
    = if h : 112 ≤ (i 0 : ℕ) then (arg0 m c) (ix2 ⟨(i 0 : ℕ) - 112, by have := (i 0).isLt; simp at this; omega⟩ (i 1)) else 0 := by
  unfold V
  simp only [hostOps0, hostOps0_1, hostOps0_2, hostOps0_3, hostOps0_4, hostOps0_5, hostOps0_6, List.flatten_cons, List.flatten_nil, List.append_nil, List.cons_append, List.nil_append]
  entry_read
  try simp -implicitDefEqProofs only [StableHlo.TRef.ofBuf, StableHlo.TRef.toBuf, cast_cast, cast_eq]
  pointwise []
  by_cases h : 112 ≤ (i 0 : ℕ)
  · have := (i 0).isLt
    rw [dif_pos ⟨h, by simp at this; omega⟩, dif_pos h]
  · rw [dif_neg (fun h' => h h'.1), dif_neg h]
    exact sz

/-- The norm's input at entry: zero rows in front. -/
theorem x_at (c : Dev nD) (i : S4224x1024.Idx) : V m c main_v3 i
    = if h : 112 ≤ (i 0 : ℕ) then (arg2 m c) (ix2 ⟨(i 0 : ℕ) - 112, by have := (i 0).isLt; simp at this; omega⟩ (i 1)) else 0 := by
  unfold V
  simp only [hostOps0, hostOps0_1, hostOps0_2, hostOps0_3, hostOps0_4, hostOps0_5, hostOps0_6, List.flatten_cons, List.flatten_nil, List.append_nil, List.cons_append, List.nil_append]
  entry_read
  try simp -implicitDefEqProofs only [StableHlo.TRef.ofBuf, StableHlo.TRef.toBuf, cast_cast, cast_eq]
  pointwise []
  by_cases h : 112 ≤ (i 0 : ℕ)
  · have := (i 0).isLt
    rw [dif_pos ⟨h, by simp at this; omega⟩, dif_pos h]
  · rw [dif_neg (fun h' => h h'.1), dif_neg h]
    exact sz

/-- What passes by, at entry: zero rows in front. -/
theorem r_at (c : Dev nD) (i : S4224x1024.Idx) : V m c main_v4 i
    = if h : 112 ≤ (i 0 : ℕ) then (arg1 m c) (ix2 ⟨(i 0 : ℕ) - 112, by have := (i 0).isLt; simp at this; omega⟩ (i 1)) else 0 := by
  unfold V
  simp only [hostOps0, hostOps0_1, hostOps0_2, hostOps0_3, hostOps0_4, hostOps0_5, hostOps0_6, List.flatten_cons, List.flatten_nil, List.append_nil, List.cons_append, List.nil_append]
  entry_read
  try simp -implicitDefEqProofs only [StableHlo.TRef.ofBuf, StableHlo.TRef.toBuf, cast_cast, cast_eq]
  pointwise []
  by_cases h : 112 ≤ (i 0 : ℕ)
  · have := (i 0).isLt
    rw [dif_pos ⟨h, by simp at this; omega⟩, dif_pos h]
  · rw [dif_neg (fun h' => h h'.1), dif_neg h]
    exact sz

/-- The gain at entry. -/
theorem g_at (c : Dev nD) (j : Fin 1024) : V m c main_v5 (ix2 (0 : Fin 1) j) = (arg3 m c) (ix1 j) := by
  unfold V
  simp only [hostOps0, hostOps0_1, hostOps0_2, hostOps0_3, hostOps0_4, hostOps0_5, hostOps0_6, List.flatten_cons, List.flatten_nil, List.append_nil, List.cons_append, List.nil_append]
  entry_read
  try simp -implicitDefEqProofs only [StableHlo.TRef.ofBuf, StableHlo.TRef.toBuf, cast_cast, cast_eq]
  pointwise []

/-- The weights at entry. -/
theorem weight_at (c : Dev nD) (j : Fin 1024) (k : Fin 4096) :
    V m c main_v2 (ix3 (1 : Fin 2) j k) = (arg4 m c) (ix3 (1 : Fin 2) j k) := by
  unfold V
  simp only [hostOps0, hostOps0_1, hostOps0_2, hostOps0_3, hostOps0_4, hostOps0_5, hostOps0_6, List.flatten_cons, List.flatten_nil, List.append_nil, List.cons_append, List.nil_append]
  entry_read
  try simp -implicitDefEqProofs only [StableHlo.TRef.ofBuf, StableHlo.TRef.toBuf, cast_cast, cast_eq]
  pointwise []

/-- The tile of rows of a point. -/
theorem coord : ∀ t : Fin cfg0.N, ((grid0.coords t 0 : Fin _) : ℕ) = t.val / 4 :=
  (by decide +kernel : ∀ t : Fin grid0.N, _)

/-- The written row gradient keeps the rows past the padding and clears the others. -/
theorem mask (z : FVec Ideal S704x1024 .f32) (n : Fin 6) (y : S704x1024.Idx) :
    k0_pay3 (F := Ideal) z (Scalar.muli (BitVec.ofNat 32 n.val) 704#32) (iota Kind.tc S704x1 32 [0] iota_S704x1_d0_w32) y = if 112 ≤ n.val * 704 + (y 0 : ℕ) then z y else 0 := by
  pointwise [k0_pay3]
  have e := cmp n ⟨(y 0 : ℕ), (y 0).isLt⟩
  dsimp only at e
  rw [e]
  split_ifs with h
  · have : (FloatOps.sitofp .f32 (BitVec.setWidth 32 1#1) : Ideal .f32) = 1 := by simp [FloatOps.sitofp]
    rw [this, mul_one]
  · have : (FloatOps.sitofp .f32 (BitVec.setWidth 32 0#1) : Ideal .f32) = 0 := by simp [FloatOps.sitofp]
    rw [this, mul_zero]

/-- What the last point of a run writes as row gradients. -/
theorem written (c : Dev nD) (t : Fin cfg0.N) (ht : t.val % 4 = 3) (i : Fin 6) (hi : t.val / 4 = i.val) (y : S704x1024.Idx) :
    (outsAt0 m c t.val t.isLt).1 y = if 112 ≤ i.val * 704 + (y 0 : ℕ) then
      k0_pay9 (F := Ideal) (iblk m c 2 t) (iblk m c 4 t) (outsAt0 m c t.val t.isLt).2.2 (iblk m c 3 t) y else 0 := by
  by_cases h : t.val < 4
  · rw [outsAt0_C m c t (by omega) ht h (by omega)]; frame_out
    rw [coord t, hi]
    exact mask _ i y
  · rw [outsAt0_D m c t (by omega) ht h (by omega)]; frame_out
    rw [coord t, hi]
    exact mask _ i y

/-- The gain's gradient after the first run. -/
theorem gain_first (c : Dev nD) (t : Fin cfg0.N) (ht : t.val % 4 = 3) (h : t.val < 4) (y : S1x1024.Idx) :
    (outsAt0 m c t.val t.isLt).2.1 y = k0_pay8 (F := Ideal) (iblk m c 2 t) (outsAt0 m c t.val t.isLt).2.2 y := by
  rw [outsAt0_C m c t (by omega) ht h (by omega)]; frame_out

/-- The gain's gradient after a later run. -/
theorem gain_next (c : Dev nD) (t : Fin cfg0.N) (ht : t.val % 4 = 3) (h : ¬t.val < 4) (y : S1x1024.Idx) :
    (outsAt0 m c t.val t.isLt).2.1 y = (outsAt0 m c (t.val - 1) (Nat.lt_of_le_of_lt (Nat.sub_le _ _) t.isLt)).2.1 y
      + k0_pay8 (F := Ideal) (iblk m c 2 t) (outsAt0 m c t.val t.isLt).2.2 y := by
  rw [outsAt0_D m c t (by omega) ht h (by omega)]; frame_out
  pointwise [k0_pay4]

/-- Every other point leaves the gain's gradient as it is. -/
theorem gain_keep (c : Dev nD) (t : Fin cfg0.N) (ht : ¬t.val % 4 = 3) :
    (outsAt0 m c t.val t.isLt).2.1 = (outsAt0 m c (t.val - 1) (Nat.lt_of_le_of_lt (Nat.sub_le _ _) t.isLt)).2.1 := by
  by_cases h : t.val % 4 = 0
  · rw [outsAt0_A m c t h ht]; rfl
  · rw [outsAt0_B m c t h ht]; rfl

/-- A block of the argument. -/
theorem cot_blk (c : Dev nD) (t : Fin cfg0.N) (i : Fin 6) (s : Fin 4) (hi : t.val / 4 = i.val) (hs : t.val % 4 = s.val) (a : Fin 704) (b : Fin 1024) :
    (show FVec Ideal S704x1024 .bf16 from iblk m c 0 t) (ix2 a b) = if h : 112 ≤ i.val * 704 + a.val then
      (arg0 m c) (ix2 ⟨i.val * 704 + a.val - 112, by omega⟩ ⟨s.val * 1024 + b.val, by omega⟩) else 0 := by
  obtain ⟨i, hi'⟩ := i; dsimp only at hi; subst hi
  obtain ⟨s, hs'⟩ := s; dsimp only at hs; subst hs
  show V m c main_v1 (((cfg0.win 0).blk t).view.emb (ix2 a b)) = _
  rw [cot_at]
  blk_simp [idx_val t]
  split_ifs
  · blk_ext [idx_val t]
  · rfl

/-- A block of the norm's input. -/
theorem x_blk (c : Dev nD) (t : Fin cfg0.N) (i : Fin 6) (hi : t.val / 4 = i.val) (a : Fin 704) (b : Fin 1024) :
    (show FVec Ideal S704x1024 .f32 from iblk m c 2 t) (ix2 a b) = if h : 112 ≤ i.val * 704 + a.val then
      (arg2 m c) (ix2 ⟨i.val * 704 + a.val - 112, by omega⟩ b) else 0 := by
  obtain ⟨i, hi'⟩ := i; dsimp only at hi; subst hi
  show V m c main_v3 (((cfg0.win 2).blk t).view.emb (ix2 a b)) = _
  rw [x_at]
  blk_simp [idx_val t]
  split_ifs
  · blk_ext [idx_val t]
  · rfl

/-- A block of what passes by. -/
theorem r_blk (c : Dev nD) (t : Fin cfg0.N) (i : Fin 6) (hi : t.val / 4 = i.val) (a : Fin 704) (b : Fin 1024) :
    (show FVec Ideal S704x1024 .f32 from iblk m c 3 t) (ix2 a b) = if h : 112 ≤ i.val * 704 + a.val then
      (arg1 m c) (ix2 ⟨i.val * 704 + a.val - 112, by omega⟩ b) else 0 := by
  obtain ⟨i, hi'⟩ := i; dsimp only at hi; subst hi
  show V m c main_v4 (((cfg0.win 3).blk t).view.emb (ix2 a b)) = _
  rw [r_at]
  blk_simp [idx_val t]
  split_ifs
  · blk_ext [idx_val t]
  · rfl

/-- The block of the gain. -/
theorem g_blk (c : Dev nD) (t : Fin cfg0.N) (b : Fin 1024) :
    (show FVec Ideal S1x1024 .f32 from iblk m c 4 t) (ix2 (0 : Fin 1) b) = (arg3 m c) (ix1 b) := by
  show V m c main_v5 (((cfg0.win 4).blk t).view.emb (ix2 (0 : Fin 1) b)) = _
  rw [← g_at m c b]
  blk_ext [idx_val t]

/-- A block of the weights. -/
theorem weight_blk (c : Dev nD) (t : Fin cfg0.N) (s : Fin 4) (hs : t.val % 4 = s.val) (a : Fin 1024) (b : Fin 1024) :
    (show FVec Ideal S1x1024x1024 .bf16 from iblk m c 1 t) (ix3 (0 : Fin 1) a b) = (arg4 m c) (ix3 (1 : Fin 2) a ⟨s.val * 1024 + b.val, by omega⟩) := by
  obtain ⟨s, hs'⟩ := s; dsimp only at hs; subst hs
  show V m c main_v2 (((cfg0.win 1).blk t).view.emb (ix3 (0 : Fin 1) a b)) = _
  rw [← weight_at m c a ⟨t.val % 4 * 1024 + b.val, by omega⟩]
  blk_ext [idx_val t]

/-- The accumulator after the last point of a run: the sum over the run's points. -/
theorem run_sum (c : Dev nD) (t : Fin cfg0.N) (ht : t.val % 4 = 3) (j : S704x1024.Idx) :
    (outsAt0 m c t.val t.isLt).2.2 j = (0 : EReal) + ∑ s : Fin 4, ∑ k : Fin 1024,
      (show FVec Ideal S704x1024 .bf16 from iblk m c 0 ⟨4 * (t.val / 4) + s.val, Pipeline.run_point_lt_of_flush t ht s⟩) (ix2 (j 0) k)
        * (show FVec Ideal S1x1024x1024 .bf16 from iblk m c 1 ⟨4 * (t.val / 4) + s.val, Pipeline.run_point_lt_of_flush t ht s⟩) (ix3 (0 : Fin 1) (j 1) k) := by
  refine Pipeline.eq_sum_fin_of_reset_step_apply_of_flush (fun n h => (outsAt0 m c n h).2.2) 4 (fun _ => 0)
    (fun p j => ∑ k : Fin 1024, (show FVec Ideal S704x1024 .bf16 from iblk m c 0 p) (ix2 (j 0) k)
        * (show FVec Ideal S1x1024x1024 .bf16 from iblk m c 1 p) (ix3 (0 : Fin 1) (j 1) k)) (fun t h j => ?_) (fun t h j => ?_) t ht j
  · dsimp only
    rw [outsAt0_A m c t h (by omega)]; frame_out; rw [step, zero]
  · dsimp only
    by_cases h' : t.val % 4 = 3
    · by_cases h'' : t.val < 4
      · rw [outsAt0_C m c t h h' h'' (by omega)]; frame_out; rw [step]; exact congrArg (fun z : EReal => z + _) (congrFun (read_unread_whole cc0_scratch0 _ _) j)
      · rw [outsAt0_D m c t h h' h'' (by omega)]; frame_out; rw [step]; exact congrArg (fun z : EReal => z + _) (congrFun (read_unread_whole cc0_scratch0 _ _) j)
    · rw [outsAt0_B m c t h h']; frame_out; rw [step]; exact congrArg (fun z : EReal => z + _) (congrFun (read_unread_whole cc0_scratch0 _ _) j)

/-- The accumulator after the last point of a run: rows of the argument times the weights. -/
theorem acc_at (c : Dev nD) (t : Fin cfg0.N) (ht : t.val % 4 = 3) (i : Fin 6) (hi : t.val / 4 = i.val) (a : Fin 704) (b : Fin 1024) :
    (outsAt0 m c t.val t.isLt).2.2 (ix2 a b) = if h : 112 ≤ i.val * 704 + a.val then
      ∑ k : Fin 4096, (arg0 m c) (ix2 ⟨i.val * 704 + a.val - 112, by omega⟩ k) * (arg4 m c) (ix3 (1 : Fin 2) b k) else 0 := by
  rw [run_sum m c t ht, zero_add]
  have e : ∀ (s : Fin 4) (k : Fin 1024), _ := fun s k => congrArg₂ (· * ·)
    (cot_blk m c ⟨4 * (t.val / 4) + s.val, Pipeline.run_point_lt_of_flush t ht s⟩ i s (by dsimp only; omega) (by dsimp only; omega) a k)
    (weight_blk m c ⟨4 * (t.val / 4) + s.val, Pipeline.run_point_lt_of_flush t ht s⟩ s (by dsimp only; omega) b k)
  refine (Finset.sum_congr rfl fun s _ => Finset.sum_congr rfl fun k _ => e s k).trans ?_
  clear e
  by_cases h : 112 ≤ i.val * 704 + a.val
  · simp only [dif_pos h]
    exact Fin.sum_mul_add_congr fun s k hl => rfl
  · simp only [dif_neg h, zero_mul, Finset.sum_const_zero]

/-- A row's share of the gain's gradient. -/
def share (c : Dev nD) (r : Fin 4112) (j : Fin 1024) : EReal :=
  (arg2 m c) (ix2 r j) * Ideal.rsqrt (q fun j => (arg2 m c) (ix2 r j))
      * ∑ k : Fin 4096, (arg0 m c) (ix2 r k) * (arg4 m c) (ix3 (1 : Fin 2) j k)

/-- A tile's share of the gain's gradient. -/
def tile (c : Dev nD) (i : Fin 6) (j : Fin 1024) : EReal :=
  ∑ k : Fin 704, if h : 112 ≤ i.val * 704 + k.val then share m c ⟨i.val * 704 + k.val - 112, by omega⟩ j else 0

/-- What a run adds to the gain's gradient. -/
theorem tile_at (c : Dev nD) (t : Fin cfg0.N) (ht : t.val % 4 = 3) (i : Fin 6) (hi : t.val / 4 = i.val) (y : S1x1024.Idx) :
    k0_pay8 (F := Ideal) (iblk m c 2 t) (outsAt0 m c t.val t.isLt).2.2 y = tile m c i (y 1) := by
  rw [kernel_gain]
  unfold tile
  refine Finset.sum_congr rfl fun k _ => ?_
  rw [acc_at m c t ht i hi k (y 1)]
  by_cases h : 112 ≤ i.val * 704 + k.val
  · rw [dif_pos h, dif_pos h]
    unfold share
    have e : ∀ j, (show FVec Ideal S704x1024 .f32 from iblk m c 2 t) (ix2 k j) = _ := fun j => (x_blk m c t i hi k j).trans (dif_pos h)
    exact congrArg (fun z : EReal => z * _) (congrArg₂ (fun u v : EReal => u * v) (e (y 1)) (congrArg (fun z => Ideal.rsqrt (q z)) (funext e)))
  · rw [dif_neg h, dif_neg h, mul_zero]

/-- Between two runs' ends the gain's gradient stays. -/
theorem gain_stay (c : Dev nD) (i d : ℕ) (hd : d < 4) (h : 4 * i + 3 + d < cfg0.N) (h' : 4 * i + 3 < cfg0.N) :
    (outsAt0 m c (4 * i + 3 + d) h).2.1 = (outsAt0 m c (4 * i + 3) h').2.1 := by
  induction d with
  | zero => rfl
  | succ d ih =>
    have e := gain_keep m c ⟨4 * i + 3 + (d + 1), h⟩ (by dsimp only; omega)
    exact e.trans (ih (by omega) (by omega))

/-- The gain's gradient after the runs up to one of them. -/
theorem gain_sum (c : Dev nD) (y : S1x1024.Idx) : ∀ (i : ℕ) (hi : i < 6) (h : 4 * i + 3 < cfg0.N),
    (outsAt0 m c (4 * i + 3) h).2.1 y = ∑ p : Fin (i + 1), tile m c ⟨p.val, by omega⟩ (y 1)
  | 0, hi, h => by
    refine (gain_first m c ⟨4 * 0 + 3, h⟩ (by dsimp only) (by dsimp only; omega) y).trans ?_
    rw [tile_at m c ⟨4 * 0 + 3, h⟩ (by dsimp only) ⟨0, hi⟩ (by dsimp only)]
    exact (Fin.sum_univ_one (fun p : Fin 1 => tile m c ⟨p.val, by omega⟩ (y 1))).symm
  | i + 1, hi, h => by
    refine (gain_next m c ⟨4 * (i + 1) + 3, h⟩ (by dsimp only; omega) (by dsimp only; omega) y).trans ?_
    rw [tile_at m c ⟨4 * (i + 1) + 3, h⟩ (by dsimp only; omega) ⟨i + 1, hi⟩ (by dsimp only; omega), Fin.sum_univ_castSucc]
    have e := congrFun (gain_stay m c i 3 (by omega) (by omega) (by omega)) y
    exact congrArg (fun z : EReal => z + _) (e.trans (gain_sum c y i (by omega) (by omega)))

/-- The row gradients a run writes are the reference's. -/
theorem point5 (c : Dev nD) (t : Fin cfg0.N) (ht : t.val % 4 = 3) (y : S704x1024.Idx) :
    (outsAt0 m c t.val t.isLt).1 y = grad (arg0 m c) (arg1 m c) (arg2 m c) (arg3 m c) (arg4 m c) (((cfg0.win 5).blk t).view.emb y) := by
  have hN : t.val < 24 := t.isLt
  have e0 : (((((cfg0.win 5).blk t).view.emb y) 0 : Fin _) : ℕ) = t.val / 4 * 704 + (y 0 : ℕ) := by blk_simp [idx_val t]
  have e1 : (((((cfg0.win 5).blk t).view.emb y) 1 : Fin _) : ℕ) = (y 1 : ℕ) := by blk_simp [idx_val t]
  rw [written m c t ht ⟨t.val / 4, by omega⟩ rfl, grad_at]
  by_cases h : 112 ≤ t.val / 4 * 704 + (y 0 : ℕ)
  · rw [if_pos h, dif_pos (by rw [e0]; exact h), kernel_row]
    refine row_congr (funext fun j => ?_) (funext fun j => ?_) (funext fun j => g_blk m c t j) ?_ (Fin.ext e1.symm)
    · refine ((x_blk m c t ⟨t.val / 4, by omega⟩ rfl (y 0) j).trans (dif_pos h)).trans (congrArg _ ?_)
      exact congrArg (fun z => ix2 z j) (Fin.ext (by dsimp only; rw [e0]))
    · refine ((acc_at m c t ht ⟨t.val / 4, by omega⟩ rfl (y 0) j).trans (dif_pos h)).trans (Finset.sum_congr rfl fun k _ => ?_)
      exact congrArg (fun z => (arg0 m c) (ix2 z k) * _) (Fin.ext (by dsimp only; rw [e0]))
    · have ey : y = ix2 (y 0) (y 1) := by blk_ext
      refine (congrArg (show FVec Ideal S704x1024 .f32 from iblk m c 3 t) ey).trans (((r_blk m c t ⟨t.val / 4, by omega⟩ rfl (y 0) (y 1)).trans (dif_pos h)).trans ?_)
      blk_ext [idx_val t]
  · rw [if_neg h, dif_neg (by rw [e0]; exact h)]

/-- The row gradients after the run. -/
theorem final5 (c : Dev nD) : (dats m 0 c).arrAt 5 (cfgs 0).N = grad (arg0 m c) (arg1 m c) (arg2 m c) (arg3 m c) (arg4 m c) := by
  refine (dats m 0 c).arrAt_eq_of_covers 5 _ (by decide +kernel) fun t hf y => ?_
  blk_simp; rw [after0_5]
  exact point5 m c t ((flush0_5 t).mp hf) y

/-- The gain's gradient after the run. -/
theorem final6 (c : Dev nD) : (dats m 0 c).arrAt 6 (cfgs 0).N = gain (arg0 m c) (arg1 m c) (arg2 m c) (arg3 m c) (arg4 m c) := by
  refine (dats m 0 c).arrAt_eq_of_covers 6 _ (by decide +kernel) fun t hf y => ?_
  blk_simp; rw [after0_6]
  have ht := (flush0_6 t).mp hf
  have e1 : (((((cfg0.win 6).blk t).view.emb y) 1 : Fin _)) = y 1 := Fin.ext (by blk_simp [idx_val t])
  rw [gain_at]
  obtain ⟨n, hn⟩ := t
  have hN : n < 24 := hn
  obtain rfl : n = 4 * 5 + 3 := by dsimp only at ht; omega
  refine (gain_sum m c y 5 (by omega) _).trans ?_
  unfold tile
  refine Eq.trans ?_ ((shift (K := 112) (P := 4112) (fun r => share m c r (y 1))).trans ?_)
  · exact Fin.sum_mul_add_congr (fun s k hl => rfl)
  · rw [← e1]; rfl

/-- The kernel and the reference end with the same arrays. -/
theorem algebraic : Cert.algebraic_UpDxTopIdeal_UpDxTopReferenceIdeal := by
  intro m g m' g' _ hargs
  refine ⟨fun c => grad (arg0 m c) (arg1 m c) (arg2 m c) (arg3 m c) (arg4 m c), fun c => gain (arg0 m c) (arg1 m c) (arg2 m c) (arg3 m c) (arg4 m c),
    (θ_run (defs (F := Ideal)) _ _).mono (fun _ h c => ⟨(h.1.out_eq c 5).trans (final5 m c), (h.1.out_eq c 6).trans (final6 m c), h.2.1 c⟩) (θ_run_and (run_main m g) (frame m g)),
    (θ_run Cert.UpDxTopReferenceIdeal.defs _ _).mono (fun _ h c => ?_) (Cert.UpDxTopReferenceIdeal.Value.run m' g')⟩
  obtain ⟨e0, e1, e2, e3, e4⟩ := hargs c
  exact ⟨(h c).1.trans (grad_congr e0 e1 e2 e3 e4), (h c).2.1.trans (gain_congr e0 e1 e2 e3 e4), (h c).2.2⟩

end Cert.UpDxTopIdeal.Hand

end
-- ==== Proof.Mlp.UpDw.lean ====
/-
  Hand-written, untrusted. The gradient of the first MLP matrix: a product over all rows, written into its slab of the gradients.
-/
module

public import proofs.«01_k».proof.Defs
public import proofs.«01_k».proof.Proof.Gen.UpDwIdeal.Frame
public import proofs.«01_k».proof.Proof.Gen.UpDwReferenceIdeal.Run
public import Idealize.ShloMosaic.Lib.Pipeline.ValueKit
public import Idealize.ShloMosaic.Lib.Claim
public import Idealize.ShloMosaic.Lib.Pipeline.ReadBack

@[expose] public section

set_option maxRecDepth 16384

noncomputable section

namespace Cert.UpDwReferenceIdeal.Hand

open Cert.UpDwReferenceIdeal Cert.UpDwReferenceIdeal.Gen
open Idealize.ShloMosaic

/-- The reference's gradient over its arguments. -/
def grad (a0 : FVec Ideal S4224x1024 .f32) (a1 : FVec Ideal S4224x4096 .f32) (a2 : FVec Ideal S2x1024x4096 .f32) : FVec Ideal S2x1024x4096 .f32 :=
  concatenate S2x1024x4096 0 [⟨S1x1024x4096, (broadcastInDim S1x1024x4096 ![1, 2] bcast_S1024x4096_S1x1024x4096_1_2 (transpose S1024x4096 [1, 0] (Host.dotGeneral dot_S4224x4096_S4224x1024_S4096x1024_0_0_1_1_n_n none a1 a0) transposes_S4096x1024_S1024x4096_1_0))⟩, ⟨S1x1024x4096, (broadcastInDim S1x1024x4096 ![1, 2] bcast_S1024x4096_S1x1024x4096_1_2 (shapeCast _ (extractStridedSlice S1x1024x4096 ![1, 0, 0] a2 slices_S2x1024x4096_S1x1024x4096_1_0_0) shapeCasts_S1x1024x4096_S1024x4096))⟩] concatenates_S1x1024x4096_S1x1024x4096_S2x1024x4096_d0

/-- Equal arguments, equal arrays. -/
theorem grad_congr {a0 b0 : FVec Ideal S4224x1024 .f32} (h0 : a0 = b0) {a1 b1 : FVec Ideal S4224x4096 .f32} (h1 : a1 = b1) {a2 b2 : FVec Ideal S2x1024x4096 .f32} (h2 : a2 = b2) :
    grad a0 a1 a2 = grad b0 b1 b2 := by
  subst h0; subst h1; subst h2; rfl

end Cert.UpDwReferenceIdeal.Hand

namespace Cert.UpDwIdeal.Hand

open Cert.UpDwIdeal Cert.UpDwIdeal.Gen
open Cert.UpDwReferenceIdeal.Hand (grad grad_congr)
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- Argument 0 at the run's start. -/
abbrev arg0 (c : Dev nD) : FVec Ideal S4224x1024 .f32 := m ((c : Thread nD τ).loc main_arg0)

/-- Argument 1 at the run's start. -/
abbrev arg1 (c : Dev nD) : FVec Ideal S4224x4096 .f32 := m ((c : Thread nD τ).loc main_arg1)

/-- Argument 2 at the run's start. -/
abbrev arg2 (c : Dev nD) : FVec Ideal S2x1024x4096 .f32 := m ((c : Thread nD τ).loc main_arg2)

/-- The block of every window at every point. -/
theorem idx_val : ∀ t : Fin cfg0.N, win0_0.index t = ![t.val % 3, 0] ∧ win0_1.index t = ![t.val % 3, t.val / 3] ∧ win0_2.index t = ![0, 0, t.val / 3] :=
  (by decide +kernel : ∀ t : Fin grid0.N, _)

/-- The accumulator starts at zero. -/
theorem zero (j) : k0_pay1 (F := Ideal) j = 0 := by pointwise [k0_pay1]

/-- One step of the accumulation. -/
theorem step (acc : FVec Ideal S1024x1024 .f32) (x : FVec Ideal S1408x1024 .bf16) (d : FVec Ideal S1408x1024 .bf16) (j : S1024x1024.Idx) :
    k0_pay2 (F := Ideal) x acc d j = acc j + ∑ k : Fin 1408, x (ix2 k (j 0)) * d (ix2 k (j 1)) := by
  pointwise [k0_pay2]

/-- What is written back is the accumulator, under a slab axis. -/
theorem out_at (acc : FVec Ideal S1024x1024 .f32) (y : S1x1024x1024.Idx) : k0_pay3 (F := Ideal) acc y = acc (ix2 (y 1) (y 2)) := by
  pointwise [k0_pay3]
  blk_ext

/-- The reference's gradient, entry by entry. -/
theorem grad_at (a0 : FVec Ideal Cert.UpDwReferenceIdeal.S4224x1024 .f32) (a1 : FVec Ideal Cert.UpDwReferenceIdeal.S4224x4096 .f32) (a2 : FVec Ideal Cert.UpDwReferenceIdeal.S2x1024x4096 .f32) (i : Cert.UpDwReferenceIdeal.S2x1024x4096.Idx) :
    grad a0 a1 a2 i = if (i 0 : ℕ) < 1 then ∑ k : Fin 4224, a0 (ix2 k (i 1)) * a1 (ix2 k (i 2)) else a2 i := by
  pointwise [grad]
  split_ifs with h
  · exact Finset.sum_congr rfl fun _ _ => mul_comm _ _
  · blk_ext

/-- The accumulator after the last point of a run: the sum over the run's points. -/
theorem run_sum (c : Dev nD) (t : Fin cfg0.N) (ht : t.val % 3 = 2) (j : S1024x1024.Idx) :
    (outsAt0 m c t.val t.isLt).2 j = (0 : EReal) + ∑ s : Fin 3, ∑ k : Fin 1408,
      (show FVec Ideal S1408x1024 .bf16 from iblk m c 0 ⟨3 * (t.val / 3) + s.val, Pipeline.run_point_lt_of_flush t ht s⟩) (ix2 k (j 0))
        * (show FVec Ideal S1408x1024 .bf16 from iblk m c 1 ⟨3 * (t.val / 3) + s.val, Pipeline.run_point_lt_of_flush t ht s⟩) (ix2 k (j 1)) := by
  refine Pipeline.eq_sum_fin_of_reset_step_apply_of_flush (fun n h => (outsAt0 m c n h).2) 3 (fun _ => 0)
    (fun p j => ∑ k : Fin 1408, (show FVec Ideal S1408x1024 .bf16 from iblk m c 0 p) (ix2 k (j 0))
        * (show FVec Ideal S1408x1024 .bf16 from iblk m c 1 p) (ix2 k (j 1))) (fun t h j => ?_) (fun t h j => ?_) t ht j
  · dsimp only
    rw [outsAt0_A m c t h (by omega)]; frame_out; rw [step, zero]
  · dsimp only
    by_cases h' : t.val % 3 = 2
    · rw [outsAt0_C m c t h h']; frame_out; rw [step]; exact congrArg (fun z : EReal => z + _) (congrFun (read_unread_whole cc0_scratch0 _ _) j)
    · rw [outsAt0_B m c t h h']; frame_out; rw [step]; exact congrArg (fun z : EReal => z + _) (congrFun (read_unread_whole cc0_scratch0 _ _) j)

/-- What a run leaves in the buffer that is written back. -/
theorem written (c : Dev nD) (t : Fin cfg0.N) (ht : t.val % 3 = 2) (y : S1x1024x1024.Idx) :
    (outsAt0 m c t.val t.isLt).1 y = (outsAt0 m c t.val t.isLt).2 (ix2 (y 1) (y 2)) := by
  rw [outsAt0_C m c t (by omega) ht]; frame_out; rw [out_at]

/-- The reference's sum over all rows is the sum over the tiles of rows. -/
theorem point (c : Dev nD) (t : Fin cfg0.N) (ht : t.val % 3 = 2) (y : S1x1024x1024.Idx) :
    (outsAt0 m c t.val t.isLt).1 y = grad (arg0 m c) (arg1 m c) (arg2 m c) (((cfg0.win 2).blk t).view.emb y) := by
  rw [written m c t ht, run_sum m c t ht, zero_add, grad_at, if_pos (by blk_simp [idx_val t]; omega)]
  refine Fin.sum_mul_add_congr fun s k hl => ?_
  blk_point [iblk, V, idx_val ⟨3 * (t.val / 3) + s.val, Pipeline.run_point_lt_of_flush t ht s⟩, idx_val t]

/-- The array after the run: the slab is the gradient, the other keeps its entry contents. -/
theorem final (c : Dev nD) : (dats m 0 c).arrAt 2 (cfgs 0).N = grad (arg0 m c) (arg1 m c) (arg2 m c) := by
  refine ((dats m 0 c).arrAt_eq_of_coversWhere 2 (grad (arg0 m c) (arg1 m c) (arg2 m c)) (fun β => β (0 : Fin 3) = 0) (P := fun i => (i (0 : Fin 3) : ℕ) / 1 = 0) (by decide +kernel) (fun t hf y => ?_) (fun j => Iff.rfl)).trans ?_
  · blk_simp; rw [after0_2]
    exact point m c t ((flush0_2 t).mp hf) y
  · funext i
    split_ifs with h
    · rfl
    · show V m c main_v2 i = _
      rw [grad_at, if_neg (by omega)]
      entry_read
      rfl

/-- The kernel and the reference end with the same arrays. -/
theorem algebraic : Cert.algebraic_UpDwIdeal_UpDwReferenceIdeal := by
  intro m g m' g' _ hargs
  refine ⟨fun c => grad (arg0 m c) (arg1 m c) (arg2 m c),
    (θ_run (defs (F := Ideal)) _ _).mono (fun _ h c => ⟨(h.1.out_eq c 2).trans (final m c), h.2.1 c⟩) (θ_run_and (run_main m g) (frame m g)),
    (θ_run Cert.UpDwReferenceIdeal.defs _ _).mono (fun _ h c => ?_) (Cert.UpDwReferenceIdeal.Value.run m' g')⟩
  obtain ⟨e0, e1, e2⟩ := hargs c
  exact ⟨(h c).1.trans (grad_congr e0 e1 e2), (h c).2⟩

end Cert.UpDwIdeal.Hand

end
-- ==== Proof.Mlp.DownDxOne.lean ====
/-
  Hand-written, untrusted. The gradient of the squared ReLU: a product whose result is scaled by twice the clamped input.
-/
module

public import proofs.«01_k».proof.Defs
public import proofs.«01_k».proof.Proof.Gen.DownDxOneIdeal.Frame
public import proofs.«01_k».proof.Proof.Gen.DownDxOneReferenceIdeal.Run
public import Idealize.ShloMosaic.Lib.Pipeline.ValueKit
public import Idealize.ShloMosaic.Lib.Claim
public import Idealize.ShloMosaic.Lib.Pipeline.ReadBack

@[expose] public section

set_option maxRecDepth 16384

noncomputable section

namespace Cert.DownDxOneReferenceIdeal.Hand

open Cert.DownDxOneReferenceIdeal Cert.DownDxOneReferenceIdeal.Gen
open Idealize.ShloMosaic

/-- The reference's gradient over its arguments. -/
def grad (a0 : FVec Ideal S4224x1024 .f32) (a1 : FVec Ideal S1x4096x1024 .f32) (a2 : FVec Ideal S4224x4096 .f32) : FVec Ideal S4224x4096 .bf16 :=
  truncf .bf16 (select (cmpf .ogt a2 (broadcastInDim S4224x4096 ![] bcast_S_S4224x4096 (constant S_ .f32 0x00000000#32))) (mulf (Host.dotGeneral dot_S4224x1024_S4096x1024_S4224x4096_1_1_0_0_n_n none a0 (shapeCast _ a1 shapeCasts_S1x4096x1024_S4096x1024)) (mulf (broadcastInDim S4224x4096 ![] bcast_S_S4224x4096 (constant S_ .f32 0x40000000#32)) (maximumf a2 (broadcastInDim S4224x4096 ![] bcast_S_S4224x4096 (constant S_ .f32 0x00000000#32))))) (broadcastInDim S4224x4096 ![] bcast_S_S4224x4096 (constant S_ .f32 0x00000000#32))) bitsLt_bf16_f32

/-- Equal arguments, equal arrays. -/
theorem grad_congr {a0 b0 : FVec Ideal S4224x1024 .f32} (h0 : a0 = b0) {a1 b1 : FVec Ideal S1x4096x1024 .f32} (h1 : a1 = b1) {a2 b2 : FVec Ideal S4224x4096 .f32} (h2 : a2 = b2) :
    grad a0 a1 a2 = grad b0 b1 b2 := by
  subst h0; subst h1; subst h2; rfl

end Cert.DownDxOneReferenceIdeal.Hand

namespace Cert.DownDxOneIdeal.Hand

open Cert.DownDxOneIdeal Cert.DownDxOneIdeal.Gen
open Cert.DownDxOneReferenceIdeal.Hand (grad grad_congr)
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- Argument 0 at the run's start. -/
abbrev arg0 (c : Dev nD) : FVec Ideal S4224x1024 .f32 := m ((c : Thread nD τ).loc main_arg0)

/-- Argument 1 at the run's start. -/
abbrev arg1 (c : Dev nD) : FVec Ideal S1x4096x1024 .f32 := m ((c : Thread nD τ).loc main_arg1)

/-- Argument 2 at the run's start. -/
abbrev arg2 (c : Dev nD) : FVec Ideal S4224x4096 .f32 := m ((c : Thread nD τ).loc main_arg2)

/-- The block of every window at every point. -/
theorem idx_val : ∀ t : Fin cfg0.N, win0_0.index t = ![t.val / 4, 0]
    ∧ win0_1.index t = ![0, t.val % 4, 0]
    ∧ win0_2.index t = ![t.val / 4, t.val % 4]
    ∧ win0_3.index t = ![t.val / 4, t.val % 4] :=
  (by decide +kernel : ∀ t : Fin grid0.N, _)

/-- The two spellings of two. -/
theorem two : Ideal.ofBits .bf16 16384#16 = Ideal.ofBits .f32 1073741824#32 := by
  simp [Ideal.ofBits, Ideal.ieee]
  rw [← EReal.coe_mul, ← EReal.coe_mul]
  norm_num

/-- Twice the clamped input is zero exactly where the reference selects zero. -/
theorem gate (s b u : EReal) [Decidable (0 < u)] : s * (b * max u 0) = if 0 < u then s * (b * max u 0) else 0 := by
  split_ifs with h
  · rfl
  · rw [max_eq_right (not_lt.1 h), mul_zero, mul_zero]

/-- The product's result times twice the clamped input, entry by entry. -/
theorem point (c : Dev nD) (t : Fin cfg0.N) (y : S1408x1024.Idx) : k0_pay3 (F := Ideal) (k0_pay2 (F := Ideal) (iblk m c 0 t) (k0_pay1 (F := Ideal)) (iblk m c 1 t)) (iblk m c 2 t) y
    = grad (arg0 m c) (arg1 m c) (arg2 m c) (((cfg0.win 3).blk t).view.emb y) := by
  pointwise [k0_pay1, k0_pay2, k0_pay3, grad]
  rw [two, ← gate]
  blk_point [iblk, V, idx_val t]

/-- The array after the run. -/
theorem final (c : Dev nD) : (dats m 0 c).arrAt 3 (cfgs 0).N = grad (arg0 m c) (arg1 m c) (arg2 m c) := by
  refine (dats m 0 c).arrAt_eq_of_covers 3 _ (by decide +kernel) fun t _ y => ?_
  blk_simp; rw [after0_3]; unfold outsAt0; frame_out
  exact point m c t y

/-- The kernel and the reference end with the same arrays. -/
theorem algebraic : Cert.algebraic_DownDxOneIdeal_DownDxOneReferenceIdeal := by
  intro m g m' g' _ hargs
  refine ⟨fun c => grad (arg0 m c) (arg1 m c) (arg2 m c),
    (θ_run (defs (F := Ideal)) _ _).mono (fun _ h c => ⟨(h.1.out_eq c 3).trans (final m c), h.2.1 c⟩) (θ_run_and (run_main m g) (frame m g)),
    (θ_run Cert.DownDxOneReferenceIdeal.defs _ _).mono (fun _ h c => ?_) (Cert.DownDxOneReferenceIdeal.Value.run m' g')⟩
  obtain ⟨e0, e1, e2⟩ := hargs c
  exact ⟨(h c).1.trans (grad_congr e0 e1 e2), (h c).2⟩

end Cert.DownDxOneIdeal.Hand

end
-- ==== Proof.Mlp.DownDxTwo.lean ====
/-
  Hand-written, untrusted. The gradient of the squared ReLU: a product whose result is scaled by twice the clamped input.
-/
module

public import proofs.«01_k».proof.Defs
public import proofs.«01_k».proof.Proof.Gen.DownDxTwoIdeal.Frame
public import proofs.«01_k».proof.Proof.Gen.DownDxTwoReferenceIdeal.Run
public import Idealize.ShloMosaic.Lib.Pipeline.ValueKit
public import Idealize.ShloMosaic.Lib.Claim
public import Idealize.ShloMosaic.Lib.Pipeline.ReadBack

@[expose] public section

set_option maxRecDepth 16384

noncomputable section

namespace Cert.DownDxTwoReferenceIdeal.Hand

open Cert.DownDxTwoReferenceIdeal Cert.DownDxTwoReferenceIdeal.Gen
open Idealize.ShloMosaic

/-- The reference's gradient over its arguments. -/
def grad (a0 : FVec Ideal S4224x1024 .f32) (a1 : FVec Ideal S2x4096x1024 .f32) (a2 : FVec Ideal S4224x4096 .f32) : FVec Ideal S4224x4096 .bf16 :=
  truncf .bf16 (select (cmpf .ogt a2 (broadcastInDim S4224x4096 ![] bcast_S_S4224x4096 (constant S_ .f32 0x00000000#32))) (mulf (Host.dotGeneral dot_S4224x1024_S4096x1024_S4224x4096_1_1_0_0_n_n none a0 (shapeCast _ (extractStridedSlice S1x4096x1024 ![0, 0, 0] a1 slices_S2x4096x1024_S1x4096x1024_0_0_0) shapeCasts_S1x4096x1024_S4096x1024)) (mulf (broadcastInDim S4224x4096 ![] bcast_S_S4224x4096 (constant S_ .f32 0x40000000#32)) (maximumf a2 (broadcastInDim S4224x4096 ![] bcast_S_S4224x4096 (constant S_ .f32 0x00000000#32))))) (broadcastInDim S4224x4096 ![] bcast_S_S4224x4096 (constant S_ .f32 0x00000000#32))) bitsLt_bf16_f32

/-- Equal arguments, equal arrays. -/
theorem grad_congr {a0 b0 : FVec Ideal S4224x1024 .f32} (h0 : a0 = b0) {a1 b1 : FVec Ideal S2x4096x1024 .f32} (h1 : a1 = b1) {a2 b2 : FVec Ideal S4224x4096 .f32} (h2 : a2 = b2) :
    grad a0 a1 a2 = grad b0 b1 b2 := by
  subst h0; subst h1; subst h2; rfl

end Cert.DownDxTwoReferenceIdeal.Hand

namespace Cert.DownDxTwoIdeal.Hand

open Cert.DownDxTwoIdeal Cert.DownDxTwoIdeal.Gen
open Cert.DownDxTwoReferenceIdeal.Hand (grad grad_congr)
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- Argument 0 at the run's start. -/
abbrev arg0 (c : Dev nD) : FVec Ideal S4224x1024 .f32 := m ((c : Thread nD τ).loc main_arg0)

/-- Argument 1 at the run's start. -/
abbrev arg1 (c : Dev nD) : FVec Ideal S2x4096x1024 .f32 := m ((c : Thread nD τ).loc main_arg1)

/-- Argument 2 at the run's start. -/
abbrev arg2 (c : Dev nD) : FVec Ideal S4224x4096 .f32 := m ((c : Thread nD τ).loc main_arg2)

/-- The block of every window at every point. -/
theorem idx_val : ∀ t : Fin cfg0.N, win0_0.index t = ![t.val / 4, 0]
    ∧ win0_1.index t = ![0, t.val % 4, 0]
    ∧ win0_2.index t = ![t.val / 4, t.val % 4]
    ∧ win0_3.index t = ![t.val / 4, t.val % 4] :=
  (by decide +kernel : ∀ t : Fin grid0.N, _)

/-- The two spellings of two. -/
theorem two : Ideal.ofBits .bf16 16384#16 = Ideal.ofBits .f32 1073741824#32 := by
  simp [Ideal.ofBits, Ideal.ieee]
  rw [← EReal.coe_mul, ← EReal.coe_mul]
  norm_num

/-- Twice the clamped input is zero exactly where the reference selects zero. -/
theorem gate (s b u : EReal) [Decidable (0 < u)] : s * (b * max u 0) = if 0 < u then s * (b * max u 0) else 0 := by
  split_ifs with h
  · rfl
  · rw [max_eq_right (not_lt.1 h), mul_zero, mul_zero]

/-- The product's result times twice the clamped input, entry by entry. -/
theorem point (c : Dev nD) (t : Fin cfg0.N) (y : S1408x1024.Idx) : k0_pay3 (F := Ideal) (k0_pay2 (F := Ideal) (iblk m c 0 t) (k0_pay1 (F := Ideal)) (iblk m c 1 t)) (iblk m c 2 t) y
    = grad (arg0 m c) (arg1 m c) (arg2 m c) (((cfg0.win 3).blk t).view.emb y) := by
  pointwise [k0_pay1, k0_pay2, k0_pay3, grad]
  rw [two, ← gate]
  blk_point [iblk, V, idx_val t]

/-- The array after the run. -/
theorem final (c : Dev nD) : (dats m 0 c).arrAt 3 (cfgs 0).N = grad (arg0 m c) (arg1 m c) (arg2 m c) := by
  refine (dats m 0 c).arrAt_eq_of_covers 3 _ (by decide +kernel) fun t _ y => ?_
  blk_simp; rw [after0_3]; unfold outsAt0; frame_out
  exact point m c t y

/-- The kernel and the reference end with the same arrays. -/
theorem algebraic : Cert.algebraic_DownDxTwoIdeal_DownDxTwoReferenceIdeal := by
  intro m g m' g' _ hargs
  refine ⟨fun c => grad (arg0 m c) (arg1 m c) (arg2 m c),
    (θ_run (defs (F := Ideal)) _ _).mono (fun _ h c => ⟨(h.1.out_eq c 3).trans (final m c), h.2.1 c⟩) (θ_run_and (run_main m g) (frame m g)),
    (θ_run Cert.DownDxTwoReferenceIdeal.defs _ _).mono (fun _ h c => ?_) (Cert.DownDxTwoReferenceIdeal.Value.run m' g')⟩
  obtain ⟨e0, e1, e2⟩ := hargs c
  exact ⟨(h c).1.trans (grad_congr e0 e1 e2), (h c).2⟩

end Cert.DownDxTwoIdeal.Hand

end
-- ==== Proof.Mlp.InDx.lean ====
/-
  Hand-written, untrusted. The gradient through the first matrix of the recurrence layer and the norm in front of it.
-/
module

public import proofs.«01_k».proof.Defs
public import proofs.«01_k».proof.Proof.Mlp.Norm
public import proofs.«01_k».proof.Proof.Gen.InDxIdeal.Frame
public import proofs.«01_k».proof.Proof.Gen.InDxReferenceIdeal.Run
public import Idealize.ShloMosaic.Lib.Pipeline.ValueKit
public import Idealize.ShloMosaic.Lib.Claim
public import Idealize.ShloMosaic.Lib.Pipeline.ReadBack

@[expose] public section

set_option maxRecDepth 16384

noncomputable section

namespace Cert.InDxReferenceIdeal.Hand

open Cert.InDxReferenceIdeal Cert.InDxReferenceIdeal.Gen
open Idealize.ShloMosaic

/-- The reference's gradient over its arguments. -/
def grad (a0 : FVec Ideal S4112x6176 .f32) (a1 : FVec Ideal S4112x1024 .f32) (a2 : FVec Ideal S4112x1024 .f32) (a3 : FVec Ideal S1024 .f32) (a4 : FVec Ideal S1024x6176 .f32) : FVec Ideal S4224x1024 .f32 :=
  pad S4224x1024 ![112, 0] ![0, 0] ![0, 0] (addf (addf (addf a1 (mulf (mulf (Host.dotGeneral dot_S4112x6176_S1024x6176_S4112x1024_1_1_0_0_n_n none a0 a4) (broadcastInDim S4112x1024 ![0, 1] bcast_S1x1024_S4112x1024_0_1 (broadcastInDim S1x1024 ![1] bcast_S1024_S1x1024_1 a3))) (broadcastInDim S4112x1024 ![0, 1] bcast_S4112x1_S4112x1024_0_1 (Host.rsqrt (addf (Host.divf (broadcastInDim S4112x1 ![0] bcast_S4112_S4112x1_0 (Host.reduceAdd (mulf a2 a2) (constant S_ .f32 0x00000000#32) reducesTo_S4112x1024_S4112_d1 h_S_)) (broadcastInDim S4112x1 ![] bcast_S_S4112x1 (constant S_ .f32 0x44800000#32))) (broadcastInDim S4112x1 ![] bcast_S_S4112x1 (constant S_ .f32 0x358637BD#32))))))) (mulf a2 (broadcastInDim S4112x1024 ![0] bcast_S4112_S4112x1024_0 (Host.reduceAdd (Host.divf (mulf (shapeCast _ (Host.reduceAdd (mulf a2 (mulf (Host.dotGeneral dot_S4112x6176_S1024x6176_S4112x1024_1_1_0_0_n_n none a0 a4) (broadcastInDim S4112x1024 ![0, 1] bcast_S1x1024_S4112x1024_0_1 (broadcastInDim S1x1024 ![1] bcast_S1024_S1x1024_1 a3)))) (constant S_ .f32 0x00000000#32) reducesTo_S4112x1024_S4112_d1 h_S_) shapeCasts_S4112_S4112x1) (mulf (broadcastInDim S4112x1 ![] bcast_S_S4112x1 (constant S_ .f32 0xBF000000#32)) (Host.divf (Host.rsqrt (addf (Host.divf (broadcastInDim S4112x1 ![0] bcast_S4112_S4112x1_0 (Host.reduceAdd (mulf a2 a2) (constant S_ .f32 0x00000000#32) reducesTo_S4112x1024_S4112_d1 h_S_)) (broadcastInDim S4112x1 ![] bcast_S_S4112x1 (constant S_ .f32 0x44800000#32))) (broadcastInDim S4112x1 ![] bcast_S_S4112x1 (constant S_ .f32 0x358637BD#32)))) (addf (Host.divf (broadcastInDim S4112x1 ![0] bcast_S4112_S4112x1_0 (Host.reduceAdd (mulf a2 a2) (constant S_ .f32 0x00000000#32) reducesTo_S4112x1024_S4112_d1 h_S_)) (broadcastInDim S4112x1 ![] bcast_S_S4112x1 (constant S_ .f32 0x44800000#32))) (broadcastInDim S4112x1 ![] bcast_S_S4112x1 (constant S_ .f32 0x358637BD#32)))))) (broadcastInDim S4112x1 ![] bcast_S_S4112x1 (constant S_ .f32 0x44800000#32))) (constant S_ .f32 0x00000000#32) reducesTo_S4112x1_S4112_d1 h_S_)))) (mulf (broadcastInDim S4112x1024 ![0] bcast_S4112_S4112x1024_0 (Host.reduceAdd (Host.divf (mulf (shapeCast _ (Host.reduceAdd (mulf a2 (mulf (Host.dotGeneral dot_S4112x6176_S1024x6176_S4112x1024_1_1_0_0_n_n none a0 a4) (broadcastInDim S4112x1024 ![0, 1] bcast_S1x1024_S4112x1024_0_1 (broadcastInDim S1x1024 ![1] bcast_S1024_S1x1024_1 a3)))) (constant S_ .f32 0x00000000#32) reducesTo_S4112x1024_S4112_d1 h_S_) shapeCasts_S4112_S4112x1) (mulf (broadcastInDim S4112x1 ![] bcast_S_S4112x1 (constant S_ .f32 0xBF000000#32)) (Host.divf (Host.rsqrt (addf (Host.divf (broadcastInDim S4112x1 ![0] bcast_S4112_S4112x1_0 (Host.reduceAdd (mulf a2 a2) (constant S_ .f32 0x00000000#32) reducesTo_S4112x1024_S4112_d1 h_S_)) (broadcastInDim S4112x1 ![] bcast_S_S4112x1 (constant S_ .f32 0x44800000#32))) (broadcastInDim S4112x1 ![] bcast_S_S4112x1 (constant S_ .f32 0x358637BD#32)))) (addf (Host.divf (broadcastInDim S4112x1 ![0] bcast_S4112_S4112x1_0 (Host.reduceAdd (mulf a2 a2) (constant S_ .f32 0x00000000#32) reducesTo_S4112x1024_S4112_d1 h_S_)) (broadcastInDim S4112x1 ![] bcast_S_S4112x1 (constant S_ .f32 0x44800000#32))) (broadcastInDim S4112x1 ![] bcast_S_S4112x1 (constant S_ .f32 0x358637BD#32)))))) (broadcastInDim S4112x1 ![] bcast_S_S4112x1 (constant S_ .f32 0x44800000#32))) (constant S_ .f32 0x00000000#32) reducesTo_S4112x1_S4112_d1 h_S_)) a2)) (sitofp .f32 (constantI S_ 32 0#32)) pads_S4112x1024_S4224x1024_11200_000 h_S_

/-- Equal arguments, equal arrays. -/
theorem grad_congr {a0 b0 : FVec Ideal S4112x6176 .f32} (h0 : a0 = b0) {a1 b1 : FVec Ideal S4112x1024 .f32} (h1 : a1 = b1) {a2 b2 : FVec Ideal S4112x1024 .f32} (h2 : a2 = b2) {a3 b3 : FVec Ideal S1024 .f32} (h3 : a3 = b3) {a4 b4 : FVec Ideal S1024x6176 .f32} (h4 : a4 = b4) :
    grad a0 a1 a2 a3 a4 = grad b0 b1 b2 b3 b4 := by
  subst h0; subst h1; subst h2; subst h3; subst h4; rfl

/-- The reference's gradient over its arguments. -/
def gain (a0 : FVec Ideal S4112x6176 .f32) (a1 : FVec Ideal S4112x1024 .f32) (a2 : FVec Ideal S4112x1024 .f32) (a3 : FVec Ideal S1024 .f32) (a4 : FVec Ideal S1024x6176 .f32) : FVec Ideal S1x1024 .f32 :=
  shapeCast _ (Host.reduceAdd (shapeCast _ (Host.reduceAdd (mulf (mulf a2 (broadcastInDim S4112x1024 ![0, 1] bcast_S4112x1_S4112x1024_0_1 (Host.rsqrt (addf (Host.divf (broadcastInDim S4112x1 ![0] bcast_S4112_S4112x1_0 (Host.reduceAdd (mulf a2 a2) (constant S_ .f32 0x00000000#32) reducesTo_S4112x1024_S4112_d1 h_S_)) (broadcastInDim S4112x1 ![] bcast_S_S4112x1 (constant S_ .f32 0x44800000#32))) (broadcastInDim S4112x1 ![] bcast_S_S4112x1 (constant S_ .f32 0x358637BD#32)))))) (Host.dotGeneral dot_S4112x6176_S1024x6176_S4112x1024_1_1_0_0_n_n none a0 a4)) (constant S_ .f32 0x00000000#32) reducesTo_S4112x1024_S1024_d0 h_S_) shapeCasts_S1024_S1x1024) (constant S_ .f32 0x00000000#32) reducesTo_S1x1024_S1024_d0 h_S_) shapeCasts_S1024_S1x1024

/-- Equal arguments, equal arrays. -/
theorem gain_congr {a0 b0 : FVec Ideal S4112x6176 .f32} (h0 : a0 = b0) {a1 b1 : FVec Ideal S4112x1024 .f32} (h1 : a1 = b1) {a2 b2 : FVec Ideal S4112x1024 .f32} (h2 : a2 = b2) {a3 b3 : FVec Ideal S1024 .f32} (h3 : a3 = b3) {a4 b4 : FVec Ideal S1024x6176 .f32} (h4 : a4 = b4) :
    gain a0 a1 a2 a3 a4 = gain b0 b1 b2 b3 b4 := by
  subst h0; subst h1; subst h2; subst h3; subst h4; rfl

end Cert.InDxReferenceIdeal.Hand

namespace Cert.InDxIdeal.Hand

open Cert.InDxIdeal Cert.InDxIdeal.Gen
open Cert.InDxReferenceIdeal.Hand (grad grad_congr gain gain_congr)
open Cert.Norm.Hand (q along row row_congr sz extend shift cmp)
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- Argument 0 at the run's start. -/
abbrev arg0 (c : Dev nD) : FVec Ideal S4112x6176 .f32 := m ((c : Thread nD τ).loc main_arg0)

/-- Argument 1 at the run's start. -/
abbrev arg1 (c : Dev nD) : FVec Ideal S4112x1024 .f32 := m ((c : Thread nD τ).loc main_arg1)

/-- Argument 2 at the run's start. -/
abbrev arg2 (c : Dev nD) : FVec Ideal S4112x1024 .f32 := m ((c : Thread nD τ).loc main_arg2)

/-- Argument 3 at the run's start. -/
abbrev arg3 (c : Dev nD) : FVec Ideal S1024 .f32 := m ((c : Thread nD τ).loc main_arg3)

/-- Argument 4 at the run's start. -/
abbrev arg4 (c : Dev nD) : FVec Ideal S1024x6176 .f32 := m ((c : Thread nD τ).loc main_arg4)

/-- The block of every window at every point. -/
theorem idx_val : ∀ t : Fin cfg0.N, win0_0.index t = ![t.val / 7, t.val % 7]
    ∧ win0_1.index t = ![0, t.val % 7]
    ∧ win0_2.index t = ![t.val / 7, 0]
    ∧ win0_3.index t = ![t.val / 7, 0]
    ∧ win0_4.index t = ![0, 0]
    ∧ win0_5.index t = ![t.val / 7, 0]
    ∧ win0_6.index t = ![0, 0] :=
  (by decide +kernel : ∀ t : Fin grid0.N, _)

/-- The kernel's gradient of a row. -/
theorem kernel_row (x acc r : FVec Ideal S704x1024 .f32) (g : FVec Ideal S1x1024 .f32) (y : S704x1024.Idx) :
    k0_pay9 (F := Ideal) x g acc r y = row (fun j => x (ix2 (y 0) j)) (fun j => acc (ix2 (y 0) j)) (fun j => g (ix2 (0 : Fin 1) j)) (r y) (y 1) := by
  unfold row along q
  pointwise [k0_pay9, k0_pay7, k0_pay6, k0_pay5]
  simp only [Fin.sum_univ_one, Finset.univ_unique, Finset.sum_singleton]

/-- The kernel's sum of the gain's gradient over a tile of rows. -/
theorem kernel_gain (x acc : FVec Ideal S704x1024 .f32) (y : S1x1024.Idx) :
    k0_pay8 (F := Ideal) x acc y = ∑ k : Fin 704, x (ix2 k (y 1)) * Ideal.rsqrt (q fun j => x (ix2 k j)) * acc (ix2 k (y 1)) := by
  unfold q
  pointwise [k0_pay8, k0_pay7, k0_pay6, k0_pay5]

/-- The reference's gradient of a row. -/
theorem grad_at (a0 : FVec Ideal Cert.InDxReferenceIdeal.S4112x6176 .f32) (a1 : FVec Ideal Cert.InDxReferenceIdeal.S4112x1024 .f32) (a2 : FVec Ideal Cert.InDxReferenceIdeal.S4112x1024 .f32) (a3 : FVec Ideal Cert.InDxReferenceIdeal.S1024 .f32) (a4 : FVec Ideal Cert.InDxReferenceIdeal.S1024x6176 .f32) (i : Cert.InDxReferenceIdeal.S4224x1024.Idx) :
    grad a0 a1 a2 a3 a4 i = if h : 112 ≤ (i 0 : ℕ) then row (fun j => a2 (ix2 ⟨(i 0 : ℕ) - 112, by have := (i 0).isLt; simp at this; omega⟩ j))
      (fun j => ∑ k : Fin 6176, a0 (ix2 ⟨(i 0 : ℕ) - 112, by have := (i 0).isLt; simp at this; omega⟩ k) * a4 (ix2 j k))
      (fun j => a3 (ix1 j)) (a1 (ix2 ⟨(i 0 : ℕ) - 112, by have := (i 0).isLt; simp at this; omega⟩ (i 1))) (i 1) else 0 := by
  unfold row along q
  pointwise [grad]
  by_cases h : 112 ≤ (i 0 : ℕ)
  · have := (i 0).isLt
    rw [dif_pos ⟨h, by simp at this; omega⟩, dif_pos h]
    simp only [Finset.univ_unique, Finset.sum_singleton, add_assoc]
  · rw [dif_neg (fun h' => h h'.1), dif_neg h]
    exact sz

/-- The reference's gradient of the gain. -/
theorem gain_at (a0 : FVec Ideal Cert.InDxReferenceIdeal.S4112x6176 .f32) (a1 : FVec Ideal Cert.InDxReferenceIdeal.S4112x1024 .f32) (a2 : FVec Ideal Cert.InDxReferenceIdeal.S4112x1024 .f32) (a3 : FVec Ideal Cert.InDxReferenceIdeal.S1024 .f32) (a4 : FVec Ideal Cert.InDxReferenceIdeal.S1024x6176 .f32) (i : Cert.InDxReferenceIdeal.S1x1024.Idx) :
    gain a0 a1 a2 a3 a4 i = ∑ r : Fin 4112, a2 (ix2 r (i 1)) * Ideal.rsqrt (q fun j => a2 (ix2 r j))
      * ∑ k : Fin 6176, a0 (ix2 r k) * a4 (ix2 (i 1) k) := by
  unfold q
  pointwise [gain]
  simp only [Finset.univ_unique, Finset.sum_singleton]

/-- One step of the accumulation. -/
theorem step (acc : FVec Ideal S704x1024 .f32) (x : FVec Ideal S704x896 .bf16) (w : FVec Ideal S1024x896 .bf16) (j : S704x1024.Idx) :
    k0_pay2 (F := Ideal) acc x w j = acc j + ∑ k : Fin 896, x (ix2 (j 0) k) * w (ix2 (j 1) k) := by
  pointwise [k0_pay2]

/-- The accumulator starts at zero. -/
theorem zero (j) : k0_pay1 (F := Ideal) j = 0 := by pointwise [k0_pay1]

/-- The argument at entry: zero rows in front, zero columns behind. -/
theorem cot_at (c : Dev nD) (i : S4224x6272.Idx) : V m c main_v2 i
    = if h : 112 ≤ (i 0 : ℕ) ∧ (i 1 : ℕ) < 6176 then (arg0 m c) (ix2 ⟨(i 0 : ℕ) - 112, by have := (i 0).isLt; simp at this; omega⟩ ⟨(i 1 : ℕ), h.2⟩) else 0 := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  try simp -implicitDefEqProofs only [StableHlo.TRef.ofBuf, StableHlo.TRef.toBuf, cast_cast, cast_eq]
  pointwise []
  by_cases h : 112 ≤ (i 0 : ℕ)
  · have := (i 0).isLt
    have h2 : (i 0 : ℕ) - 112 < 4112 := by simp at this; omega
    rw [dif_pos ⟨h, h2⟩]
    by_cases h' : (i 1 : ℕ) < 6176
    · rw [dif_pos ⟨h2, h'⟩, dif_pos ⟨h, h'⟩]
    · rw [dif_neg (fun z => h' z.2), dif_neg (fun z => h' z.2)]
      exact sz
  · rw [dif_neg (fun z => h z.1), dif_neg (fun z => h z.1)]
    exact sz

/-- The norm's input at entry: zero rows in front. -/
theorem x_at (c : Dev nD) (i : S4224x1024.Idx) : V m c main_v5 i
    = if h : 112 ≤ (i 0 : ℕ) then (arg2 m c) (ix2 ⟨(i 0 : ℕ) - 112, by have := (i 0).isLt; simp at this; omega⟩ (i 1)) else 0 := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  try simp -implicitDefEqProofs only [StableHlo.TRef.ofBuf, StableHlo.TRef.toBuf, cast_cast, cast_eq]
  pointwise []
  by_cases h : 112 ≤ (i 0 : ℕ)
  · have := (i 0).isLt
    rw [dif_pos ⟨h, by simp at this; omega⟩, dif_pos h]
  · rw [dif_neg (fun h' => h h'.1), dif_neg h]
    exact sz

/-- What passes by, at entry: zero rows in front. -/
theorem r_at (c : Dev nD) (i : S4224x1024.Idx) : V m c main_v6 i
    = if h : 112 ≤ (i 0 : ℕ) then (arg1 m c) (ix2 ⟨(i 0 : ℕ) - 112, by have := (i 0).isLt; simp at this; omega⟩ (i 1)) else 0 := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  try simp -implicitDefEqProofs only [StableHlo.TRef.ofBuf, StableHlo.TRef.toBuf, cast_cast, cast_eq]
  pointwise []
  by_cases h : 112 ≤ (i 0 : ℕ)
  · have := (i 0).isLt
    rw [dif_pos ⟨h, by simp at this; omega⟩, dif_pos h]
  · rw [dif_neg (fun h' => h h'.1), dif_neg h]
    exact sz

/-- The gain at entry. -/
theorem g_at (c : Dev nD) (j : Fin 1024) : V m c main_v7 (ix2 (0 : Fin 1) j) = (arg3 m c) (ix1 j) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  try simp -implicitDefEqProofs only [StableHlo.TRef.ofBuf, StableHlo.TRef.toBuf, cast_cast, cast_eq]
  pointwise []

/-- The weights at entry. -/
theorem weight_at (c : Dev nD) (i : S1024x6272.Idx) :
    V m c main_v4 i = if h : (i 1 : ℕ) < 6176 then (arg4 m c) (ix2 (i 0) ⟨(i 1 : ℕ), h⟩) else 0 := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  try simp -implicitDefEqProofs only [StableHlo.TRef.ofBuf, StableHlo.TRef.toBuf, cast_cast, cast_eq]
  pointwise []
  split_ifs with h
  · rfl
  · exact sz

/-- The tile of rows of a point. -/
theorem coord : ∀ t : Fin cfg0.N, ((grid0.coords t 0 : Fin _) : ℕ) = t.val / 7 :=
  (by decide +kernel : ∀ t : Fin grid0.N, _)

/-- The written row gradient keeps the rows past the padding and clears the others. -/
theorem mask (z : FVec Ideal S704x1024 .f32) (n : Fin 6) (y : S704x1024.Idx) :
    k0_pay3 (F := Ideal) z (Scalar.muli (BitVec.ofNat 32 n.val) 704#32) (iota Kind.tc S704x1 32 [0] iota_S704x1_d0_w32) y = if 112 ≤ n.val * 704 + (y 0 : ℕ) then z y else 0 := by
  pointwise [k0_pay3]
  have e := cmp n ⟨(y 0 : ℕ), (y 0).isLt⟩
  dsimp only at e
  rw [e]
  split_ifs with h
  · have : (FloatOps.sitofp .f32 (BitVec.setWidth 32 1#1) : Ideal .f32) = 1 := by simp [FloatOps.sitofp]
    rw [this, mul_one]
  · have : (FloatOps.sitofp .f32 (BitVec.setWidth 32 0#1) : Ideal .f32) = 0 := by simp [FloatOps.sitofp]
    rw [this, mul_zero]

/-- What the last point of a run writes as row gradients. -/
theorem written (c : Dev nD) (t : Fin cfg0.N) (ht : t.val % 7 = 6) (i : Fin 6) (hi : t.val / 7 = i.val) (y : S704x1024.Idx) :
    (outsAt0 m c t.val t.isLt).1 y = if 112 ≤ i.val * 704 + (y 0 : ℕ) then
      k0_pay9 (F := Ideal) (iblk m c 2 t) (iblk m c 4 t) (outsAt0 m c t.val t.isLt).2.2 (iblk m c 3 t) y else 0 := by
  by_cases h : t.val < 7
  · rw [outsAt0_C m c t (by omega) ht h (by omega)]; frame_out
    rw [coord t, hi]
    exact mask _ i y
  · rw [outsAt0_D m c t (by omega) ht h (by omega)]; frame_out
    rw [coord t, hi]
    exact mask _ i y

/-- The gain's gradient after the first run. -/
theorem gain_first (c : Dev nD) (t : Fin cfg0.N) (ht : t.val % 7 = 6) (h : t.val < 7) (y : S1x1024.Idx) :
    (outsAt0 m c t.val t.isLt).2.1 y = k0_pay8 (F := Ideal) (iblk m c 2 t) (outsAt0 m c t.val t.isLt).2.2 y := by
  rw [outsAt0_C m c t (by omega) ht h (by omega)]; frame_out

/-- The gain's gradient after a later run. -/
theorem gain_next (c : Dev nD) (t : Fin cfg0.N) (ht : t.val % 7 = 6) (h : ¬t.val < 7) (y : S1x1024.Idx) :
    (outsAt0 m c t.val t.isLt).2.1 y = (outsAt0 m c (t.val - 1) (Nat.lt_of_le_of_lt (Nat.sub_le _ _) t.isLt)).2.1 y
      + k0_pay8 (F := Ideal) (iblk m c 2 t) (outsAt0 m c t.val t.isLt).2.2 y := by
  rw [outsAt0_D m c t (by omega) ht h (by omega)]; frame_out
  pointwise [k0_pay4]

/-- Every other point leaves the gain's gradient as it is. -/
theorem gain_keep (c : Dev nD) (t : Fin cfg0.N) (ht : ¬t.val % 7 = 6) :
    (outsAt0 m c t.val t.isLt).2.1 = (outsAt0 m c (t.val - 1) (Nat.lt_of_le_of_lt (Nat.sub_le _ _) t.isLt)).2.1 := by
  by_cases h : t.val % 7 = 0
  · rw [outsAt0_A m c t h ht]; rfl
  · rw [outsAt0_B m c t h ht]; rfl

/-- A block of the argument. -/
theorem cot_blk (c : Dev nD) (t : Fin cfg0.N) (i : Fin 6) (s : Fin 7) (hi : t.val / 7 = i.val) (hs : t.val % 7 = s.val) (a : Fin 704) (b : Fin 896) :
    (show FVec Ideal S704x896 .bf16 from iblk m c 0 t) (ix2 a b) = if h : 112 ≤ i.val * 704 + a.val ∧ s.val * 896 + b.val < 6176 then
      (arg0 m c) (ix2 ⟨i.val * 704 + a.val - 112, by omega⟩ ⟨s.val * 896 + b.val, by omega⟩) else 0 := by
  obtain ⟨i, hi'⟩ := i; dsimp only at hi; subst hi
  obtain ⟨s, hs'⟩ := s; dsimp only at hs; subst hs
  show V m c main_v2 (((cfg0.win 0).blk t).view.emb (ix2 a b)) = _
  rw [cot_at]
  blk_simp [idx_val t]

/-- A block of the norm's input. -/
theorem x_blk (c : Dev nD) (t : Fin cfg0.N) (i : Fin 6) (hi : t.val / 7 = i.val) (a : Fin 704) (b : Fin 1024) :
    (show FVec Ideal S704x1024 .f32 from iblk m c 2 t) (ix2 a b) = if h : 112 ≤ i.val * 704 + a.val then
      (arg2 m c) (ix2 ⟨i.val * 704 + a.val - 112, by omega⟩ b) else 0 := by
  obtain ⟨i, hi'⟩ := i; dsimp only at hi; subst hi
  show V m c main_v5 (((cfg0.win 2).blk t).view.emb (ix2 a b)) = _
  rw [x_at]
  blk_simp [idx_val t]
  split_ifs
  · blk_ext [idx_val t]
  · rfl

/-- A block of what passes by. -/
theorem r_blk (c : Dev nD) (t : Fin cfg0.N) (i : Fin 6) (hi : t.val / 7 = i.val) (a : Fin 704) (b : Fin 1024) :
    (show FVec Ideal S704x1024 .f32 from iblk m c 3 t) (ix2 a b) = if h : 112 ≤ i.val * 704 + a.val then
      (arg1 m c) (ix2 ⟨i.val * 704 + a.val - 112, by omega⟩ b) else 0 := by
  obtain ⟨i, hi'⟩ := i; dsimp only at hi; subst hi
  show V m c main_v6 (((cfg0.win 3).blk t).view.emb (ix2 a b)) = _
  rw [r_at]
  blk_simp [idx_val t]
  split_ifs
  · blk_ext [idx_val t]
  · rfl

/-- The block of the gain. -/
theorem g_blk (c : Dev nD) (t : Fin cfg0.N) (b : Fin 1024) :
    (show FVec Ideal S1x1024 .f32 from iblk m c 4 t) (ix2 (0 : Fin 1) b) = (arg3 m c) (ix1 b) := by
  show V m c main_v7 (((cfg0.win 4).blk t).view.emb (ix2 (0 : Fin 1) b)) = _
  rw [← g_at m c b]
  blk_ext [idx_val t]

/-- A block of the weights. -/
theorem weight_blk (c : Dev nD) (t : Fin cfg0.N) (s : Fin 7) (hs : t.val % 7 = s.val) (a : Fin 1024) (b : Fin 896) :
    (show FVec Ideal S1024x896 .bf16 from iblk m c 1 t) (ix2 a b) = if h : s.val * 896 + b.val < 6176 then (arg4 m c) (ix2 a ⟨s.val * 896 + b.val, h⟩) else 0 := by
  obtain ⟨s, hs'⟩ := s; dsimp only at hs; subst hs
  show V m c main_v4 (((cfg0.win 1).blk t).view.emb (ix2 a b)) = _
  rw [weight_at]
  blk_simp [idx_val t]
  split_ifs
  · blk_ext [idx_val t]
  · rfl

/-- The accumulator after the last point of a run: the sum over the run's points. -/
theorem run_sum (c : Dev nD) (t : Fin cfg0.N) (ht : t.val % 7 = 6) (j : S704x1024.Idx) :
    (outsAt0 m c t.val t.isLt).2.2 j = (0 : EReal) + ∑ s : Fin 7, ∑ k : Fin 896,
      (show FVec Ideal S704x896 .bf16 from iblk m c 0 ⟨7 * (t.val / 7) + s.val, Pipeline.run_point_lt_of_flush t ht s⟩) (ix2 (j 0) k)
        * (show FVec Ideal S1024x896 .bf16 from iblk m c 1 ⟨7 * (t.val / 7) + s.val, Pipeline.run_point_lt_of_flush t ht s⟩) (ix2 (j 1) k) := by
  refine Pipeline.eq_sum_fin_of_reset_step_apply_of_flush (fun n h => (outsAt0 m c n h).2.2) 7 (fun _ => 0)
    (fun p j => ∑ k : Fin 896, (show FVec Ideal S704x896 .bf16 from iblk m c 0 p) (ix2 (j 0) k)
        * (show FVec Ideal S1024x896 .bf16 from iblk m c 1 p) (ix2 (j 1) k)) (fun t h j => ?_) (fun t h j => ?_) t ht j
  · dsimp only
    rw [outsAt0_A m c t h (by omega)]; frame_out; rw [step, zero]
  · dsimp only
    by_cases h' : t.val % 7 = 6
    · by_cases h'' : t.val < 7
      · rw [outsAt0_C m c t h h' h'' (by omega)]; frame_out; rw [step]; exact congrArg (fun z : EReal => z + _) (congrFun (read_unread_whole cc0_scratch0 _ _) j)
      · rw [outsAt0_D m c t h h' h'' (by omega)]; frame_out; rw [step]; exact congrArg (fun z : EReal => z + _) (congrFun (read_unread_whole cc0_scratch0 _ _) j)
    · rw [outsAt0_B m c t h h']; frame_out; rw [step]; exact congrArg (fun z : EReal => z + _) (congrFun (read_unread_whole cc0_scratch0 _ _) j)

/-- The accumulator after the last point of a run: rows of the argument times the weights. -/
theorem acc_at (c : Dev nD) (t : Fin cfg0.N) (ht : t.val % 7 = 6) (i : Fin 6) (hi : t.val / 7 = i.val) (a : Fin 704) (b : Fin 1024) :
    (outsAt0 m c t.val t.isLt).2.2 (ix2 a b) = if h : 112 ≤ i.val * 704 + a.val then
      ∑ k : Fin 6176, (arg0 m c) (ix2 ⟨i.val * 704 + a.val - 112, by omega⟩ k) * (arg4 m c) (ix2 b k) else 0 := by
  rw [run_sum m c t ht, zero_add]
  have e : ∀ (s : Fin 7) (k : Fin 896), _ := fun s k => congrArg₂ (· * ·)
    (cot_blk m c ⟨7 * (t.val / 7) + s.val, Pipeline.run_point_lt_of_flush t ht s⟩ i s (by dsimp only; omega) (by dsimp only; omega) a k)
    (weight_blk m c ⟨7 * (t.val / 7) + s.val, Pipeline.run_point_lt_of_flush t ht s⟩ s (by dsimp only; omega) b k)
  refine (Finset.sum_congr rfl fun s _ => Finset.sum_congr rfl fun k _ => e s k).trans ?_
  clear e
  by_cases h : 112 ≤ i.val * 704 + a.val
  · rw [dif_pos h]
    refine Eq.trans ?_ (extend (K := 6176) (P := 96) _)
    refine Fin.sum_mul_add_congr fun s k hl => ?_
    by_cases h' : s.val * 896 + k.val < 6176
    · rw [dif_pos ⟨h, h'⟩, dif_pos h', dif_pos h']
    · rw [dif_neg (fun z => h' z.2), dif_neg h', dif_neg h', mul_zero]
  · rw [dif_neg h]
    refine Finset.sum_eq_zero fun s _ => Finset.sum_eq_zero fun k _ => ?_
    rw [dif_neg (fun z => h z.1), zero_mul]

/-- A row's share of the gain's gradient. -/
def share (c : Dev nD) (r : Fin 4112) (j : Fin 1024) : EReal :=
  (arg2 m c) (ix2 r j) * Ideal.rsqrt (q fun j => (arg2 m c) (ix2 r j))
      * ∑ k : Fin 6176, (arg0 m c) (ix2 r k) * (arg4 m c) (ix2 j k)

/-- A tile's share of the gain's gradient. -/
def tile (c : Dev nD) (i : Fin 6) (j : Fin 1024) : EReal :=
  ∑ k : Fin 704, if h : 112 ≤ i.val * 704 + k.val then share m c ⟨i.val * 704 + k.val - 112, by omega⟩ j else 0

/-- What a run adds to the gain's gradient. -/
theorem tile_at (c : Dev nD) (t : Fin cfg0.N) (ht : t.val % 7 = 6) (i : Fin 6) (hi : t.val / 7 = i.val) (y : S1x1024.Idx) :
    k0_pay8 (F := Ideal) (iblk m c 2 t) (outsAt0 m c t.val t.isLt).2.2 y = tile m c i (y 1) := by
  rw [kernel_gain]
  unfold tile
  refine Finset.sum_congr rfl fun k _ => ?_
  rw [acc_at m c t ht i hi k (y 1)]
  by_cases h : 112 ≤ i.val * 704 + k.val
  · rw [dif_pos h, dif_pos h]
    unfold share
    have e : ∀ j, (show FVec Ideal S704x1024 .f32 from iblk m c 2 t) (ix2 k j) = _ := fun j => (x_blk m c t i hi k j).trans (dif_pos h)
    exact congrArg (fun z : EReal => z * _) (congrArg₂ (fun u v : EReal => u * v) (e (y 1)) (congrArg (fun z => Ideal.rsqrt (q z)) (funext e)))
  · rw [dif_neg h, dif_neg h, mul_zero]

/-- Between two runs' ends the gain's gradient stays. -/
theorem gain_stay (c : Dev nD) (i d : ℕ) (hd : d < 7) (h : 7 * i + 6 + d < cfg0.N) (h' : 7 * i + 6 < cfg0.N) :
    (outsAt0 m c (7 * i + 6 + d) h).2.1 = (outsAt0 m c (7 * i + 6) h').2.1 := by
  induction d with
  | zero => rfl
  | succ d ih =>
    have e := gain_keep m c ⟨7 * i + 6 + (d + 1), h⟩ (by dsimp only; omega)
    exact e.trans (ih (by omega) (by omega))

/-- The gain's gradient after the runs up to one of them. -/
theorem gain_sum (c : Dev nD) (y : S1x1024.Idx) : ∀ (i : ℕ) (hi : i < 6) (h : 7 * i + 6 < cfg0.N),
    (outsAt0 m c (7 * i + 6) h).2.1 y = ∑ p : Fin (i + 1), tile m c ⟨p.val, by omega⟩ (y 1)
  | 0, hi, h => by
    refine (gain_first m c ⟨7 * 0 + 6, h⟩ (by dsimp only) (by dsimp only; omega) y).trans ?_
    rw [tile_at m c ⟨7 * 0 + 6, h⟩ (by dsimp only) ⟨0, hi⟩ (by dsimp only)]
    exact (Fin.sum_univ_one (fun p : Fin 1 => tile m c ⟨p.val, by omega⟩ (y 1))).symm
  | i + 1, hi, h => by
    refine (gain_next m c ⟨7 * (i + 1) + 6, h⟩ (by dsimp only; omega) (by dsimp only; omega) y).trans ?_
    rw [tile_at m c ⟨7 * (i + 1) + 6, h⟩ (by dsimp only; omega) ⟨i + 1, hi⟩ (by dsimp only; omega), Fin.sum_univ_castSucc]
    have e := congrFun (gain_stay m c i 6 (by omega) (by omega) (by omega)) y
    exact congrArg (fun z : EReal => z + _) (e.trans (gain_sum c y i (by omega) (by omega)))

/-- The row gradients a run writes are the reference's. -/
theorem point5 (c : Dev nD) (t : Fin cfg0.N) (ht : t.val % 7 = 6) (y : S704x1024.Idx) :
    (outsAt0 m c t.val t.isLt).1 y = grad (arg0 m c) (arg1 m c) (arg2 m c) (arg3 m c) (arg4 m c) (((cfg0.win 5).blk t).view.emb y) := by
  have hN : t.val < 42 := t.isLt
  have e0 : (((((cfg0.win 5).blk t).view.emb y) 0 : Fin _) : ℕ) = t.val / 7 * 704 + (y 0 : ℕ) := by blk_simp [idx_val t]
  have e1 : (((((cfg0.win 5).blk t).view.emb y) 1 : Fin _) : ℕ) = (y 1 : ℕ) := by blk_simp [idx_val t]
  rw [written m c t ht ⟨t.val / 7, by omega⟩ rfl, grad_at]
  by_cases h : 112 ≤ t.val / 7 * 704 + (y 0 : ℕ)
  · rw [if_pos h, dif_pos (by rw [e0]; exact h), kernel_row]
    refine row_congr (funext fun j => ?_) (funext fun j => ?_) (funext fun j => g_blk m c t j) ?_ (Fin.ext e1.symm)
    · refine ((x_blk m c t ⟨t.val / 7, by omega⟩ rfl (y 0) j).trans (dif_pos h)).trans (congrArg _ ?_)
      exact congrArg (fun z => ix2 z j) (Fin.ext (by dsimp only; rw [e0]))
    · refine ((acc_at m c t ht ⟨t.val / 7, by omega⟩ rfl (y 0) j).trans (dif_pos h)).trans (Finset.sum_congr rfl fun k _ => ?_)
      exact congrArg (fun z => (arg0 m c) (ix2 z k) * _) (Fin.ext (by dsimp only; rw [e0]))
    · have ey : y = ix2 (y 0) (y 1) := by blk_ext
      refine (congrArg (show FVec Ideal S704x1024 .f32 from iblk m c 3 t) ey).trans (((r_blk m c t ⟨t.val / 7, by omega⟩ rfl (y 0) (y 1)).trans (dif_pos h)).trans ?_)
      blk_ext [idx_val t]
  · rw [if_neg h, dif_neg (by rw [e0]; exact h)]

/-- The row gradients after the run. -/
theorem final5 (c : Dev nD) : (dats m 0 c).arrAt 5 (cfgs 0).N = grad (arg0 m c) (arg1 m c) (arg2 m c) (arg3 m c) (arg4 m c) := by
  refine (dats m 0 c).arrAt_eq_of_covers 5 _ (by decide +kernel) fun t hf y => ?_
  blk_simp; rw [after0_5]
  exact point5 m c t ((flush0_5 t).mp hf) y

/-- The gain's gradient after the run. -/
theorem final6 (c : Dev nD) : (dats m 0 c).arrAt 6 (cfgs 0).N = gain (arg0 m c) (arg1 m c) (arg2 m c) (arg3 m c) (arg4 m c) := by
  refine (dats m 0 c).arrAt_eq_of_covers 6 _ (by decide +kernel) fun t hf y => ?_
  blk_simp; rw [after0_6]
  have ht := (flush0_6 t).mp hf
  have e1 : (((((cfg0.win 6).blk t).view.emb y) 1 : Fin _)) = y 1 := Fin.ext (by blk_simp [idx_val t])
  rw [gain_at]
  obtain ⟨n, hn⟩ := t
  have hN : n < 42 := hn
  obtain rfl : n = 7 * 5 + 6 := by dsimp only at ht; omega
  refine (gain_sum m c y 5 (by omega) _).trans ?_
  unfold tile
  refine Eq.trans ?_ ((shift (K := 112) (P := 4112) (fun r => share m c r (y 1))).trans ?_)
  · exact Fin.sum_mul_add_congr (fun s k hl => rfl)
  · rw [← e1]; rfl

/-- The kernel and the reference end with the same arrays. -/
theorem algebraic : Cert.algebraic_InDxIdeal_InDxReferenceIdeal := by
  intro m g m' g' _ hargs
  refine ⟨fun c => grad (arg0 m c) (arg1 m c) (arg2 m c) (arg3 m c) (arg4 m c), fun c => gain (arg0 m c) (arg1 m c) (arg2 m c) (arg3 m c) (arg4 m c),
    (θ_run (defs (F := Ideal)) _ _).mono (fun _ h c => ⟨(h.1.out_eq c 5).trans (final5 m c), (h.1.out_eq c 6).trans (final6 m c), h.2.1 c⟩) (θ_run_and (run_main m g) (frame m g)),
    (θ_run Cert.InDxReferenceIdeal.defs _ _).mono (fun _ h c => ?_) (Cert.InDxReferenceIdeal.Value.run m' g')⟩
  obtain ⟨e0, e1, e2, e3, e4⟩ := hargs c
  exact ⟨(h c).1.trans (grad_congr e0 e1 e2 e3 e4), (h c).2.1.trans (gain_congr e0 e1 e2 e3 e4), (h c).2.2⟩

end Cert.InDxIdeal.Hand

end
-- ==== Proof.Mlp.InDw.lean ====
/-
  Hand-written, untrusted. The gradient of the SSD input matrix: a product over all rows.
-/
module

public import proofs.«01_k».proof.Defs
public import proofs.«01_k».proof.Proof.Mlp.Norm
public import proofs.«01_k».proof.Proof.Gen.InDwIdeal.Frame
public import proofs.«01_k».proof.Proof.Gen.InDwReferenceIdeal.Run
public import Idealize.ShloMosaic.Lib.Pipeline.ValueKit
public import Idealize.ShloMosaic.Lib.Claim
public import Idealize.ShloMosaic.Lib.Pipeline.ReadBack

@[expose] public section

set_option maxRecDepth 16384

noncomputable section

namespace Cert.InDwReferenceIdeal.Hand

open Cert.InDwReferenceIdeal Cert.InDwReferenceIdeal.Gen
open Idealize.ShloMosaic

/-- The reference's gradient over its arguments. -/
def grad (a0 : FVec Ideal S4224x1024 .f32) (a1 : FVec Ideal S4224x6176 .f32) : FVec Ideal S1x1024x6272 .f32 :=
  broadcastInDim S1x1024x6272 ![1, 2] bcast_S1024x6272_S1x1024x6272_1_2 (pad S1024x6272 ![0, 0] ![0, 96] ![0, 0] (transpose S1024x6176 [1, 0] (Host.dotGeneral dot_S4224x6176_S4224x1024_S6176x1024_0_0_1_1_n_n none a1 a0) transposes_S6176x1024_S1024x6176_1_0) (sitofp .f32 (constantI S_ 32 0#32)) pads_S1024x6176_S1024x6272_000_0960 h_S_)

/-- Equal arguments, equal arrays. -/
theorem grad_congr {a0 b0 : FVec Ideal S4224x1024 .f32} (h0 : a0 = b0) {a1 b1 : FVec Ideal S4224x6176 .f32} (h1 : a1 = b1) :
    grad a0 a1 = grad b0 b1 := by
  subst h0; subst h1; rfl

end Cert.InDwReferenceIdeal.Hand

namespace Cert.InDwIdeal.Hand

open Cert.InDwIdeal Cert.InDwIdeal.Gen
open Cert.InDwReferenceIdeal.Hand (grad grad_congr)
open Cert.Norm.Hand (sz)
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- Argument 0 at the run's start. -/
abbrev arg0 (c : Dev nD) : FVec Ideal S4224x1024 .f32 := m ((c : Thread nD τ).loc main_arg0)

/-- Argument 1 at the run's start. -/
abbrev arg1 (c : Dev nD) : FVec Ideal S4224x6176 .f32 := m ((c : Thread nD τ).loc main_arg1)

/-- The block of every window at every point. -/
theorem idx_val : ∀ t : Fin cfg0.N, win0_0.index t = ![t.val % 3, 0] ∧ win0_1.index t = ![t.val % 3, t.val / 3] ∧ win0_2.index t = ![0, 0, t.val / 3] :=
  (by decide +kernel : ∀ t : Fin grid0.N, _)

/-- The accumulator starts at zero. -/
theorem zero (j) : k0_pay1 (F := Ideal) j = 0 := by pointwise [k0_pay1]

/-- One step of the accumulation. -/
theorem step (acc : FVec Ideal S1024x896 .f32) (x : FVec Ideal S1408x1024 .bf16) (d : FVec Ideal S1408x896 .bf16) (j : S1024x896.Idx) :
    k0_pay2 (F := Ideal) x acc d j = acc j + ∑ k : Fin 1408, x (ix2 k (j 0)) * d (ix2 k (j 1)) := by
  pointwise [k0_pay2]

/-- What is written back is the accumulator, under a slab axis. -/
theorem out_at (acc : FVec Ideal S1024x896 .f32) (y : S1x1024x896.Idx) : k0_pay3 (F := Ideal) acc y = acc (ix2 (y 1) (y 2)) := by
  pointwise [k0_pay3]
  blk_ext

/-- The second operand at entry: the argument, with zero columns behind it. -/
theorem right_at (c : Dev nD) (i : S4224x6272.Idx) :
    V m c main_v2 i = if h : (i 1 : ℕ) < 6176 then (arg1 m c) (ix2 (i 0) ⟨(i 1 : ℕ), h⟩) else 0 := by
  unfold V
  simp only [hostOps0, hostOps0_1, hostOps0_2, List.flatten_cons, List.flatten_nil, List.append_nil, List.cons_append, List.nil_append]
  entry_read
  simp -implicitDefEqProofs only [StableHlo.TRef.ofBuf, StableHlo.TRef.toBuf, cast_cast, cast_eq]
  pointwise []
  split_ifs with h
  · rfl
  · exact sz

/-- The reference's gradient, entry by entry. -/
theorem grad_at (a0 : FVec Ideal Cert.InDwReferenceIdeal.S4224x1024 .f32) (a1 : FVec Ideal Cert.InDwReferenceIdeal.S4224x6176 .f32) (i : Cert.InDwReferenceIdeal.S1x1024x6272.Idx) :
    grad a0 a1 i = ∑ k : Fin 4224, a0 (ix2 k (i 1)) * (if h : (i 2 : ℕ) < 6176 then a1 (ix2 k ⟨(i 2 : ℕ), h⟩) else 0) := by
  pointwise [grad]
  split_ifs with h
  · exact Finset.sum_congr rfl fun _ _ => mul_comm _ _
  · rw [sz]; simp

/-- The accumulator after the last point of a run: the sum over the run's points. -/
theorem run_sum (c : Dev nD) (t : Fin cfg0.N) (ht : t.val % 3 = 2) (j : S1024x896.Idx) :
    (outsAt0 m c t.val t.isLt).2 j = (0 : EReal) + ∑ s : Fin 3, ∑ k : Fin 1408,
      (show FVec Ideal S1408x1024 .bf16 from iblk m c 0 ⟨3 * (t.val / 3) + s.val, Pipeline.run_point_lt_of_flush t ht s⟩) (ix2 k (j 0))
        * (show FVec Ideal S1408x896 .bf16 from iblk m c 1 ⟨3 * (t.val / 3) + s.val, Pipeline.run_point_lt_of_flush t ht s⟩) (ix2 k (j 1)) := by
  refine Pipeline.eq_sum_fin_of_reset_step_apply_of_flush (fun n h => (outsAt0 m c n h).2) 3 (fun _ => 0)
    (fun p j => ∑ k : Fin 1408, (show FVec Ideal S1408x1024 .bf16 from iblk m c 0 p) (ix2 k (j 0))
        * (show FVec Ideal S1408x896 .bf16 from iblk m c 1 p) (ix2 k (j 1))) (fun t h j => ?_) (fun t h j => ?_) t ht j
  · dsimp only
    rw [outsAt0_A m c t h (by omega)]; frame_out; rw [step, zero]
  · dsimp only
    by_cases h' : t.val % 3 = 2
    · rw [outsAt0_C m c t h h']; frame_out; rw [step]; exact congrArg (fun z : EReal => z + _) (congrFun (read_unread_whole cc0_scratch0 _ _) j)
    · rw [outsAt0_B m c t h h']; frame_out; rw [step]; exact congrArg (fun z : EReal => z + _) (congrFun (read_unread_whole cc0_scratch0 _ _) j)

/-- What a run leaves in the buffer that is written back. -/
theorem written (c : Dev nD) (t : Fin cfg0.N) (ht : t.val % 3 = 2) (y : S1x1024x896.Idx) :
    (outsAt0 m c t.val t.isLt).1 y = (outsAt0 m c t.val t.isLt).2 (ix2 (y 1) (y 2)) := by
  rw [outsAt0_C m c t (by omega) ht]; frame_out; rw [out_at]

/-- The reference's sum over all rows is the sum over the tiles of rows. -/
theorem point (c : Dev nD) (t : Fin cfg0.N) (ht : t.val % 3 = 2) (y : S1x1024x896.Idx) :
    (outsAt0 m c t.val t.isLt).1 y = grad (arg0 m c) (arg1 m c) (((cfg0.win 2).blk t).view.emb y) := by
  rw [written m c t ht, run_sum m c t ht, zero_add, grad_at]
  refine Fin.sum_mul_add_congr fun s k hl => ?_
  blk_point [iblk, V, idx_val ⟨3 * (t.val / 3) + s.val, Pipeline.run_point_lt_of_flush t ht s⟩, idx_val t]
  · rename_i h _ _ _
    blk_simp [idx_val t] at h
    rw [right_at]
    blk_simp [idx_val ⟨3 * (t.val / 3) + s.val, Pipeline.run_point_lt_of_flush t ht s⟩]
    rw [dif_pos (by dsimp only; omega)]
    blk_ext [idx_val ⟨3 * (t.val / 3) + s.val, Pipeline.run_point_lt_of_flush t ht s⟩]
  · rename_i h _ _ _
    blk_simp [idx_val t] at h
    rw [right_at]
    blk_simp [idx_val ⟨3 * (t.val / 3) + s.val, Pipeline.run_point_lt_of_flush t ht s⟩]
    rw [dif_neg (by dsimp only; omega)]

/-- The array after the run. -/
theorem final (c : Dev nD) : (dats m 0 c).arrAt 2 (cfgs 0).N = grad (arg0 m c) (arg1 m c) := by
  refine (dats m 0 c).arrAt_eq_of_covers 2 _ (by decide +kernel) fun t hf y => ?_
  blk_simp; rw [after0_2]
  exact point m c t ((flush0_2 t).mp hf) y

/-- The kernel and the reference end with the same arrays. -/
theorem algebraic : Cert.algebraic_InDwIdeal_InDwReferenceIdeal := by
  intro m g m' g' _ hargs
  refine ⟨fun c => grad (arg0 m c) (arg1 m c),
    (θ_run (defs (F := Ideal)) _ _).mono (fun _ h c => ⟨(h.1.out_eq c 2).trans (final m c), h.2.1 c⟩) (θ_run_and (run_main m g) (frame m g)),
    (θ_run Cert.InDwReferenceIdeal.defs _ _).mono (fun _ h c => ?_) (Cert.InDwReferenceIdeal.Value.run m' g')⟩
  obtain ⟨e0, e1⟩ := hargs c
  exact ⟨(h c).1.trans (grad_congr e0 e1), (h c).2⟩

end Cert.InDwIdeal.Hand

end
-- ==== Proof.Mlp.OutDw.lean ====
/-
  Hand-written, untrusted. The gradient of the SSD output matrix: a product over all rows.
-/
module

public import proofs.«01_k».proof.Defs
public import proofs.«01_k».proof.Proof.Gen.OutDwIdeal.Frame
public import proofs.«01_k».proof.Proof.Gen.OutDwReferenceIdeal.Run
public import Idealize.ShloMosaic.Lib.Pipeline.ValueKit
public import Idealize.ShloMosaic.Lib.Claim
public import Idealize.ShloMosaic.Lib.Pipeline.ReadBack

@[expose] public section

set_option maxRecDepth 16384

noncomputable section

namespace Cert.OutDwReferenceIdeal.Hand

open Cert.OutDwReferenceIdeal Cert.OutDwReferenceIdeal.Gen
open Idealize.ShloMosaic

/-- The reference's gradient over its arguments. -/
def grad (a0 : FVec Ideal S4224x2048 .f32) (a1 : FVec Ideal S4224x1024 .f32) : FVec Ideal S1x2048x1024 .f32 :=
  broadcastInDim S1x2048x1024 ![1, 2] bcast_S2048x1024_S1x2048x1024_1_2 (transpose S2048x1024 [1, 0] (Host.dotGeneral dot_S4224x1024_S4224x2048_S1024x2048_0_0_1_1_n_n none a1 a0) transposes_S1024x2048_S2048x1024_1_0)

/-- Equal arguments, equal arrays. -/
theorem grad_congr {a0 b0 : FVec Ideal S4224x2048 .f32} (h0 : a0 = b0) {a1 b1 : FVec Ideal S4224x1024 .f32} (h1 : a1 = b1) :
    grad a0 a1 = grad b0 b1 := by
  subst h0; subst h1; rfl

end Cert.OutDwReferenceIdeal.Hand

namespace Cert.OutDwIdeal.Hand

open Cert.OutDwIdeal Cert.OutDwIdeal.Gen
open Cert.OutDwReferenceIdeal.Hand (grad grad_congr)
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- Argument 0 at the run's start. -/
abbrev arg0 (c : Dev nD) : FVec Ideal S4224x2048 .f32 := m ((c : Thread nD τ).loc main_arg0)

/-- Argument 1 at the run's start. -/
abbrev arg1 (c : Dev nD) : FVec Ideal S4224x1024 .f32 := m ((c : Thread nD τ).loc main_arg1)

/-- The block of every window at every point. -/
theorem idx_val : ∀ t : Fin cfg0.N, win0_0.index t = ![t.val % 3, t.val / 3] ∧ win0_1.index t = ![t.val % 3, 0] ∧ win0_2.index t = ![0, t.val / 3, 0] :=
  (by decide +kernel : ∀ t : Fin grid0.N, _)

/-- The accumulator starts at zero. -/
theorem zero (j) : k0_pay1 (F := Ideal) j = 0 := by pointwise [k0_pay1]

/-- One step of the accumulation. -/
theorem step (acc : FVec Ideal S1024x1024 .f32) (x : FVec Ideal S1408x1024 .bf16) (d : FVec Ideal S1408x1024 .f32) (j : S1024x1024.Idx) :
    k0_pay2 (F := Ideal) x acc d j = acc j + ∑ k : Fin 1408, x (ix2 k (j 0)) * d (ix2 k (j 1)) := by
  pointwise [k0_pay2]

/-- What is written back is the accumulator, under a slab axis. -/
theorem out_at (acc : FVec Ideal S1024x1024 .f32) (y : S1x1024x1024.Idx) : k0_pay3 (F := Ideal) acc y = acc (ix2 (y 1) (y 2)) := by
  pointwise [k0_pay3]
  blk_ext

/-- The reference's gradient, entry by entry. -/
theorem grad_at (a0 : FVec Ideal Cert.OutDwReferenceIdeal.S4224x2048 .f32) (a1 : FVec Ideal Cert.OutDwReferenceIdeal.S4224x1024 .f32) (i : Cert.OutDwReferenceIdeal.S1x2048x1024.Idx) :
    grad a0 a1 i = ∑ k : Fin 4224, a0 (ix2 k (i 1)) * a1 (ix2 k (i 2)) := by
  pointwise [grad]
  exact Finset.sum_congr rfl fun _ _ => mul_comm _ _

/-- The accumulator after the last point of a run: the sum over the run's points. -/
theorem run_sum (c : Dev nD) (t : Fin cfg0.N) (ht : t.val % 3 = 2) (j : S1024x1024.Idx) :
    (outsAt0 m c t.val t.isLt).2 j = (0 : EReal) + ∑ s : Fin 3, ∑ k : Fin 1408,
      (show FVec Ideal S1408x1024 .bf16 from iblk m c 0 ⟨3 * (t.val / 3) + s.val, Pipeline.run_point_lt_of_flush t ht s⟩) (ix2 k (j 0))
        * (show FVec Ideal S1408x1024 .f32 from iblk m c 1 ⟨3 * (t.val / 3) + s.val, Pipeline.run_point_lt_of_flush t ht s⟩) (ix2 k (j 1)) := by
  refine Pipeline.eq_sum_fin_of_reset_step_apply_of_flush (fun n h => (outsAt0 m c n h).2) 3 (fun _ => 0)
    (fun p j => ∑ k : Fin 1408, (show FVec Ideal S1408x1024 .bf16 from iblk m c 0 p) (ix2 k (j 0))
        * (show FVec Ideal S1408x1024 .f32 from iblk m c 1 p) (ix2 k (j 1))) (fun t h j => ?_) (fun t h j => ?_) t ht j
  · dsimp only
    rw [outsAt0_A m c t h (by omega)]; frame_out; rw [step, zero]
  · dsimp only
    by_cases h' : t.val % 3 = 2
    · rw [outsAt0_C m c t h h']; frame_out; rw [step]; exact congrArg (fun z : EReal => z + _) (congrFun (read_unread_whole cc0_scratch0 _ _) j)
    · rw [outsAt0_B m c t h h']; frame_out; rw [step]; exact congrArg (fun z : EReal => z + _) (congrFun (read_unread_whole cc0_scratch0 _ _) j)

/-- What a run leaves in the buffer that is written back. -/
theorem written (c : Dev nD) (t : Fin cfg0.N) (ht : t.val % 3 = 2) (y : S1x1024x1024.Idx) :
    (outsAt0 m c t.val t.isLt).1 y = (outsAt0 m c t.val t.isLt).2 (ix2 (y 1) (y 2)) := by
  rw [outsAt0_C m c t (by omega) ht]; frame_out; rw [out_at]

/-- The reference's sum over all rows is the sum over the tiles of rows. -/
theorem point (c : Dev nD) (t : Fin cfg0.N) (ht : t.val % 3 = 2) (y : S1x1024x1024.Idx) :
    (outsAt0 m c t.val t.isLt).1 y = grad (arg0 m c) (arg1 m c) (((cfg0.win 2).blk t).view.emb y) := by
  rw [written m c t ht, run_sum m c t ht, zero_add, grad_at]
  refine Fin.sum_mul_add_congr fun s k hl => ?_
  blk_point [iblk, V, idx_val ⟨3 * (t.val / 3) + s.val, Pipeline.run_point_lt_of_flush t ht s⟩, idx_val t]

/-- The array after the run. -/
theorem final (c : Dev nD) : (dats m 0 c).arrAt 2 (cfgs 0).N = grad (arg0 m c) (arg1 m c) := by
  refine (dats m 0 c).arrAt_eq_of_covers 2 _ (by decide +kernel) fun t hf y => ?_
  blk_simp; rw [after0_2]
  exact point m c t ((flush0_2 t).mp hf) y

/-- The kernel and the reference end with the same arrays. -/
theorem algebraic : Cert.algebraic_OutDwIdeal_OutDwReferenceIdeal := by
  intro m g m' g' _ hargs
  refine ⟨fun c => grad (arg0 m c) (arg1 m c),
    (θ_run (defs (F := Ideal)) _ _).mono (fun _ h c => ⟨(h.1.out_eq c 2).trans (final m c), h.2.1 c⟩) (θ_run_and (run_main m g) (frame m g)),
    (θ_run Cert.OutDwReferenceIdeal.defs _ _).mono (fun _ h c => ?_) (Cert.OutDwReferenceIdeal.Value.run m' g')⟩
  obtain ⟨e0, e1⟩ := hargs c
  exact ⟨(h c).1.trans (grad_congr e0 e1), (h c).2⟩

end Cert.OutDwIdeal.Hand

end
-- ==== Proof.Mlp.OutDx.lean ====
/-
  Hand-written, untrusted. The gradient through the recurrence's output matrix.
-/
module

public import proofs.«01_k».proof.Defs
public import proofs.«01_k».proof.Proof.Gen.OutDxIdeal.Frame
public import proofs.«01_k».proof.Proof.Gen.OutDxReferenceIdeal.Run
public import Idealize.ShloMosaic.Lib.Pipeline.ValueKit
public import Idealize.ShloMosaic.Lib.Claim
public import Idealize.ShloMosaic.Lib.Pipeline.ReadBack

@[expose] public section

set_option maxRecDepth 16384

noncomputable section

namespace Cert.OutDxReferenceIdeal.Hand

open Cert.OutDxReferenceIdeal Cert.OutDxReferenceIdeal.Gen
open Idealize.ShloMosaic

/-- The reference's gradient over its arguments. -/
def grad (a0 : FVec Ideal S4224x1024 .f32) (a1 : FVec Ideal S1x2048x1024 .f32) : FVec Ideal S4224x2048 .f32 :=
  Host.dotGeneral dot_S4224x1024_S2048x1024_S4224x2048_1_1_0_0_n_n none a0 (shapeCast _ a1 shapeCasts_S1x2048x1024_S2048x1024)

/-- Equal arguments, equal arrays. -/
theorem grad_congr {a0 b0 : FVec Ideal S4224x1024 .f32} (h0 : a0 = b0) {a1 b1 : FVec Ideal S1x2048x1024 .f32} (h1 : a1 = b1) :
    grad a0 a1 = grad b0 b1 := by
  subst h0; subst h1; rfl

end Cert.OutDxReferenceIdeal.Hand

namespace Cert.OutDxIdeal.Hand

open Cert.OutDxIdeal Cert.OutDxIdeal.Gen
open Cert.OutDxReferenceIdeal.Hand (grad grad_congr)
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- Argument 0 at the run's start. -/
abbrev arg0 (c : Dev nD) : FVec Ideal S4224x1024 .f32 := m ((c : Thread nD τ).loc main_arg0)

/-- Argument 1 at the run's start. -/
abbrev arg1 (c : Dev nD) : FVec Ideal S1x2048x1024 .f32 := m ((c : Thread nD τ).loc main_arg1)

/-- The block of every window at every point. -/
theorem idx_val : ∀ t : Fin cfg0.N, win0_0.index t = ![t.val / 2, 0]
    ∧ win0_1.index t = ![0, t.val % 2, 0]
    ∧ win0_2.index t = ![t.val / 2, t.val % 2] :=
  (by decide +kernel : ∀ t : Fin grid0.N, _)

/-- One block of the product, entry by entry. -/
theorem point (c : Dev nD) (t : Fin cfg0.N) (y : S1408x1024.Idx) : k0_pay2 (F := Ideal) (iblk m c 0 t) (k0_pay1 (F := Ideal)) (iblk m c 1 t) y
    = grad (arg0 m c) (arg1 m c) (((cfg0.win 2).blk t).view.emb y) := by
  pointwise [k0_pay1, k0_pay2, grad]
  blk_point [iblk, V, idx_val t]

/-- The array after the run. -/
theorem final (c : Dev nD) : (dats m 0 c).arrAt 2 (cfgs 0).N = grad (arg0 m c) (arg1 m c) := by
  refine (dats m 0 c).arrAt_eq_of_covers 2 _ (by decide +kernel) fun t _ y => ?_
  blk_simp; rw [after0_2]; unfold outsAt0; frame_out
  exact point m c t y

/-- The kernel and the reference end with the same arrays. -/
theorem algebraic : Cert.algebraic_OutDxIdeal_OutDxReferenceIdeal := by
  intro m g m' g' _ hargs
  refine ⟨fun c => grad (arg0 m c) (arg1 m c),
    (θ_run (defs (F := Ideal)) _ _).mono (fun _ h c => ⟨(h.1.out_eq c 2).trans (final m c), h.2.1 c⟩) (θ_run_and (run_main m g) (frame m g)),
    (θ_run Cert.OutDxReferenceIdeal.defs _ _).mono (fun _ h c => ?_) (Cert.OutDxReferenceIdeal.Value.run m' g')⟩
  obtain ⟨e0, e1⟩ := hargs c
  exact ⟨(h c).1.trans (grad_congr e0 e1), (h c).2⟩

end Cert.OutDxIdeal.Hand

end
-- ==== Proof.Mlp.SsdIn.lean ====
/-
  Hand-written, untrusted. The product with the first matrix of the recurrence layer.
-/
module

public import proofs.«01_k».proof.Defs
public import proofs.«01_k».proof.Proof.Mlp.Norm
public import proofs.«01_k».proof.Proof.Gen.SsdInIdeal.Frame
public import proofs.«01_k».proof.Proof.Gen.SsdInReferenceIdeal.Run
public import Idealize.ShloMosaic.Lib.Pipeline.ValueKit
public import Idealize.ShloMosaic.Lib.Claim
public import Idealize.ShloMosaic.Lib.Pipeline.ReadBack

@[expose] public section

set_option maxRecDepth 16384

noncomputable section

namespace Cert.SsdInReferenceIdeal.Hand

open Cert.SsdInReferenceIdeal Cert.SsdInReferenceIdeal.Gen
open Idealize.ShloMosaic

/-- The reference's product over its arguments. -/
def prod (a0 : FVec Ideal S4224x1024 .f32) (a1 : FVec Ideal S1024x6176 .f32) : FVec Ideal S4224x6272 .f32 :=
  pad S4224x6272 ![0, 0] ![0, 96] ![0, 0] (Host.dotGeneral dot_S4224x1024_S1024x6176_S4224x6176_1_0_0_1_n_n none a0 a1) (sitofp .f32 (constantI S_ 32 0#32)) pads_S4224x6176_S4224x6272_000_0960 h_S_

/-- Equal arguments, equal arrays. -/
theorem prod_congr {a0 b0 : FVec Ideal S4224x1024 .f32} (h0 : a0 = b0) {a1 b1 : FVec Ideal S1024x6176 .f32} (h1 : a1 = b1) :
    prod a0 a1 = prod b0 b1 := by
  subst h0; subst h1; rfl

end Cert.SsdInReferenceIdeal.Hand

namespace Cert.SsdInIdeal.Hand

open Cert.SsdInIdeal Cert.SsdInIdeal.Gen
open Cert.SsdInReferenceIdeal.Hand (prod prod_congr)
open Cert.Norm.Hand (sz)
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- Argument 0 at the run's start. -/
abbrev arg0 (c : Dev nD) : FVec Ideal S4224x1024 .f32 := m ((c : Thread nD τ).loc main_arg0)

/-- Argument 1 at the run's start. -/
abbrev arg1 (c : Dev nD) : FVec Ideal S1024x6176 .f32 := m ((c : Thread nD τ).loc main_arg1)

/-- The block of every window at every point. -/
theorem idx_val : ∀ t : Fin cfg0.N, win0_0.index t = ![t.val / 7, 0]
    ∧ win0_1.index t = ![0, t.val % 7]
    ∧ win0_2.index t = ![t.val / 7, t.val % 7] :=
  (by decide +kernel : ∀ t : Fin grid0.N, _)

/-- The matrix at entry: the argument, with zero columns behind it. -/
theorem right_at (c : Dev nD) (i : S1024x6272.Idx) :
    V m c main_v2 i = if h : (i 1 : ℕ) < 6176 then (arg1 m c) (ix2 (i 0) ⟨(i 1 : ℕ), h⟩) else 0 := by
  unfold V
  simp only [hostOps0, hostOps0_1, hostOps0_2, List.flatten_cons, List.flatten_nil, List.append_nil, List.cons_append, List.nil_append]
  entry_read
  simp -implicitDefEqProofs only [StableHlo.TRef.ofBuf, StableHlo.TRef.toBuf, cast_cast, cast_eq]
  pointwise []
  split_ifs with h
  · rfl
  · exact sz

/-- One block of the product, entry by entry. -/
theorem point (c : Dev nD) (t : Fin cfg0.N) (y : S1408x896.Idx) : k0_pay2 (F := Ideal) (iblk m c 0 t) (k0_pay1 (F := Ideal)) (iblk m c 1 t) y
    = prod (arg0 m c) (arg1 m c) (((cfg0.win 2).blk t).view.emb y) := by
  pointwise [k0_pay1, k0_pay2, prod]
  blk_point [iblk, V, idx_val t]
  · rename_i h _ _
    blk_simp [idx_val t] at h
    rw [right_at]
    blk_simp [idx_val t]
    rw [dif_pos (by dsimp only; omega)]
    blk_ext [idx_val t]
  · rename_i h _
    blk_simp [idx_val t] at h
    rw [sz]
    refine (Finset.sum_eq_zero fun k _ => ?_).symm
    rw [right_at]
    blk_simp [idx_val t]
    rw [dif_neg (by dsimp only; omega), mul_zero]

/-- The array after the run. -/
theorem final (c : Dev nD) : (dats m 0 c).arrAt 2 (cfgs 0).N = prod (arg0 m c) (arg1 m c) := by
  refine (dats m 0 c).arrAt_eq_of_covers 2 _ (by decide +kernel) fun t _ y => ?_
  blk_simp; rw [after0_2]; unfold outsAt0; frame_out
  exact point m c t y

/-- The kernel and the reference end with the same arrays. -/
theorem algebraic : Cert.algebraic_SsdInIdeal_SsdInReferenceIdeal := by
  intro m g m' g' _ hargs
  refine ⟨fun c => prod (arg0 m c) (arg1 m c),
    (θ_run (defs (F := Ideal)) _ _).mono (fun _ h c => ⟨(h.1.out_eq c 2).trans (final m c), h.2.1 c⟩) (θ_run_and (run_main m g) (frame m g)),
    (θ_run Cert.SsdInReferenceIdeal.defs _ _).mono (fun _ h c => ?_) (Cert.SsdInReferenceIdeal.Value.run m' g')⟩
  obtain ⟨e0, e1⟩ := hargs c
  exact ⟨(h c).1.trans (prod_congr e0 e1), (h c).2⟩

end Cert.SsdInIdeal.Hand

end
-- ==== Proof.Mlp.SsdOut.lean ====
/-
  Hand-written, untrusted. The product with the last matrix of the recurrence layer, added to the residual stream, and the norm of the sum.
-/
module

public import proofs.«01_k».proof.Defs
public import proofs.«01_k».proof.Proof.Mlp.Norm
public import proofs.«01_k».proof.Proof.Gen.SsdOutIdeal.Frame
public import proofs.«01_k».proof.Proof.Gen.SsdOutReferenceIdeal.Run
public import Idealize.ShloMosaic.Lib.Pipeline.ValueKit
public import Idealize.ShloMosaic.Lib.Claim
public import Idealize.ShloMosaic.Lib.Pipeline.ReadBack

@[expose] public section

set_option maxRecDepth 16384

noncomputable section

namespace Cert.SsdOutReferenceIdeal.Hand

open Cert.SsdOutReferenceIdeal Cert.SsdOutReferenceIdeal.Gen
open Idealize.ShloMosaic

/-- The reference's result over its arguments. -/
def total (a0 : FVec Ideal S4224x2048 .f32) (a1 : FVec Ideal S1x2048x1024 .f32) (a2 : FVec Ideal S4224x1024 .f32) (a3 : FVec Ideal S1024 .f32) : FVec Ideal S4224x1024 .f32 :=
  addf a2 (Host.dotGeneral dot_S4224x2048_S2048x1024_S4224x1024_1_0_0_1_n_n none a0 (shapeCast _ a1 shapeCasts_S1x2048x1024_S2048x1024))

/-- Equal arguments, equal arrays. -/
theorem total_congr {a0 b0 : FVec Ideal S4224x2048 .f32} (h0 : a0 = b0) {a1 b1 : FVec Ideal S1x2048x1024 .f32} (h1 : a1 = b1) {a2 b2 : FVec Ideal S4224x1024 .f32} (h2 : a2 = b2) {a3 b3 : FVec Ideal S1024 .f32} (h3 : a3 = b3) :
    total a0 a1 a2 a3 = total b0 b1 b2 b3 := by
  subst h0; subst h1; subst h2; subst h3; rfl

/-- The reference's result over its arguments. -/
def normed (a0 : FVec Ideal S4224x2048 .f32) (a1 : FVec Ideal S1x2048x1024 .f32) (a2 : FVec Ideal S4224x1024 .f32) (a3 : FVec Ideal S1024 .f32) : FVec Ideal S4224x1024 .bf16 :=
  truncf .bf16 (mulf (mulf (addf a2 (Host.dotGeneral dot_S4224x2048_S2048x1024_S4224x1024_1_0_0_1_n_n none a0 (shapeCast _ a1 shapeCasts_S1x2048x1024_S2048x1024))) (broadcastInDim S4224x1024 ![0, 1] bcast_S4224x1_S4224x1024_0_1 (Host.rsqrt (addf (Host.divf (broadcastInDim S4224x1 ![0] bcast_S4224_S4224x1_0 (Host.reduceAdd (mulf (addf a2 (Host.dotGeneral dot_S4224x2048_S2048x1024_S4224x1024_1_0_0_1_n_n none a0 (shapeCast _ a1 shapeCasts_S1x2048x1024_S2048x1024))) (addf a2 (Host.dotGeneral dot_S4224x2048_S2048x1024_S4224x1024_1_0_0_1_n_n none a0 (shapeCast _ a1 shapeCasts_S1x2048x1024_S2048x1024)))) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (broadcastInDim S4224x1024 ![0, 1] bcast_S1x1024_S4224x1024_0_1 (broadcastInDim S1x1024 ![1] bcast_S1024_S1x1024_1 a3))) bitsLt_bf16_f32

/-- Equal arguments, equal arrays. -/
theorem normed_congr {a0 b0 : FVec Ideal S4224x2048 .f32} (h0 : a0 = b0) {a1 b1 : FVec Ideal S1x2048x1024 .f32} (h1 : a1 = b1) {a2 b2 : FVec Ideal S4224x1024 .f32} (h2 : a2 = b2) {a3 b3 : FVec Ideal S1024 .f32} (h3 : a3 = b3) :
    normed a0 a1 a2 a3 = normed b0 b1 b2 b3 := by
  subst h0; subst h1; subst h2; subst h3; rfl

end Cert.SsdOutReferenceIdeal.Hand

namespace Cert.SsdOutIdeal.Hand

open Cert.SsdOutIdeal Cert.SsdOutIdeal.Gen
open Cert.SsdOutReferenceIdeal.Hand (total total_congr normed normed_congr)
open Cert.Norm.Hand (rowNorm rowNorm_congr)
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- Argument 0 at the run's start. -/
abbrev arg0 (c : Dev nD) : FVec Ideal S4224x2048 .f32 := m ((c : Thread nD τ).loc main_arg0)

/-- Argument 1 at the run's start. -/
abbrev arg1 (c : Dev nD) : FVec Ideal S1x2048x1024 .f32 := m ((c : Thread nD τ).loc main_arg1)

/-- Argument 2 at the run's start. -/
abbrev arg2 (c : Dev nD) : FVec Ideal S4224x1024 .f32 := m ((c : Thread nD τ).loc main_arg2)

/-- Argument 3 at the run's start. -/
abbrev arg3 (c : Dev nD) : FVec Ideal S1024 .f32 := m ((c : Thread nD τ).loc main_arg3)

/-- The block of every window at every point. -/
theorem idx_val : ∀ t : Fin cfg0.N, win0_0.index t = ![t.val / 2, t.val % 2]
    ∧ win0_1.index t = ![0, t.val % 2, 0]
    ∧ win0_2.index t = ![t.val / 2, 0]
    ∧ win0_3.index t = ![0, 0]
    ∧ win0_4.index t = ![t.val / 2, 0]
    ∧ win0_5.index t = ![t.val / 2, 0] :=
  (by decide +kernel : ∀ t : Fin grid0.N, _)

/-- The accumulator starts at zero. -/
theorem zero (j) : k0_pay1 (F := Ideal) j = 0 := by pointwise [k0_pay1]

/-- One step of the accumulation. -/
theorem step (acc : FVec Ideal S704x1024 .f32) (x : FVec Ideal S704x1024 .bf16) (w : FVec Ideal S1x1024x1024 .bf16) (j : S704x1024.Idx) :
    k0_pay2 (F := Ideal) x acc w j = acc j + ∑ k : Fin 1024, x (ix2 (j 0) k) * w (ix3 (0 : Fin 1) k (j 1)) := by
  pointwise [k0_pay2]

/-- The accumulator after the last point of a run: the sum over the run's points. -/
theorem run_sum (c : Dev nD) (t : Fin cfg0.N) (ht : t.val % 2 = 1) (j : S704x1024.Idx) :
    (outsAt0 m c t.val t.isLt).2.2 j = (0 : EReal) + ∑ s : Fin 2, ∑ k : Fin 1024,
      (show FVec Ideal S704x1024 .bf16 from iblk m c 0 ⟨2 * (t.val / 2) + s.val, Pipeline.run_point_lt_of_flush t ht s⟩) (ix2 (j 0) k)
        * (show FVec Ideal S1x1024x1024 .bf16 from iblk m c 1 ⟨2 * (t.val / 2) + s.val, Pipeline.run_point_lt_of_flush t ht s⟩) (ix3 (0 : Fin 1) k (j 1)) := by
  refine Pipeline.eq_sum_fin_of_reset_step_apply_of_flush (fun n h => (outsAt0 m c n h).2.2) 2 (fun _ => 0)
    (fun p j => ∑ k : Fin 1024, (show FVec Ideal S704x1024 .bf16 from iblk m c 0 p) (ix2 (j 0) k)
        * (show FVec Ideal S1x1024x1024 .bf16 from iblk m c 1 p) (ix3 (0 : Fin 1) k (j 1))) (fun t h j => ?_) (fun t h j => ?_) t ht j
  · dsimp only
    rw [outsAt0_A m c t h (by omega)]; frame_out; rw [step, zero]
  · dsimp only
    rw [outsAt0_B m c t h (by omega)]; frame_out; rw [step]; exact congrArg (fun z : EReal => z + _) (congrFun (read_unread_whole cc0_scratch0 _ _) j)

/-- The accumulator after the last point of a run: the product over all columns. -/
theorem acc_at (c : Dev nD) (t : Fin cfg0.N) (ht : t.val % 2 = 1) (a : Fin 704) (b : Fin 1024) :
    (outsAt0 m c t.val t.isLt).2.2 (ix2 a b) = ∑ k : Fin 2048, (arg0 m c) (ix2 ⟨t.val / 2 * 704 + a.val, by have : t.val < 12 := t.isLt; omega⟩ k) * (arg1 m c) (ix3 (0 : Fin 1) k b) := by
  rw [run_sum m c t ht, zero_add]
  refine Fin.sum_mul_add_congr fun s k hl => ?_
  blk_point [iblk, V, idx_val ⟨2 * (t.val / 2) + s.val, Pipeline.run_point_lt_of_flush t ht s⟩]

/-- A block of the residual stream. -/
theorem h_blk (c : Dev nD) (t : Fin cfg0.N) (a : Fin 704) (b : Fin 1024) :
    (show FVec Ideal S704x1024 .f32 from iblk m c 2 t) (ix2 a b) = (arg2 m c) (ix2 ⟨t.val / 2 * 704 + a.val, by have : t.val < 12 := t.isLt; omega⟩ b) := by
  blk_point [iblk, V, idx_val t]

/-- The reference's sum, entry by entry. -/
theorem sum_at (a0 : FVec Ideal Cert.SsdOutReferenceIdeal.S4224x2048 .f32) (a1 : FVec Ideal Cert.SsdOutReferenceIdeal.S1x2048x1024 .f32) (a2 : FVec Ideal Cert.SsdOutReferenceIdeal.S4224x1024 .f32) (a3 : FVec Ideal Cert.SsdOutReferenceIdeal.S1024 .f32) (i : Cert.SsdOutReferenceIdeal.S4224x1024.Idx) :
    total a0 a1 a2 a3 i = a2 i + ∑ k : Fin 2048, a0 (ix2 (i 0) k) * a1 (ix3 (0 : Fin 1) k (i 1)) := by
  pointwise [total]

/-- The kernel's sum, entry by entry. -/
theorem out_at (acc h : FVec Ideal S704x1024 .f32) (y : S704x1024.Idx) :
    k0_pay3 (F := Ideal) acc h y = h (ix2 (y 0) (y 1)) + acc (ix2 (y 0) (y 1)) := by
  obtain ⟨a, b, rfl⟩ : ∃ (a : Fin 704) (b : Fin 1024), y = ix2 a b := ⟨y 0, y 1, by blk_ext⟩
  pointwise [k0_pay3]

/-- What the last point of a run writes. -/
theorem point (c : Dev nD) (t : Fin cfg0.N) (ht : t.val % 2 = 1) (y : S704x1024.Idx) :
    (outsAt0 m c t.val t.isLt).1 y = total (arg0 m c) (arg1 m c) (arg2 m c) (arg3 m c) (((cfg0.win 4).blk t).view.emb y) := by
  have e : (outsAt0 m c t.val t.isLt).1 y = k0_pay3 (F := Ideal) (outsAt0 m c t.val t.isLt).2.2 (iblk m c 2 t) y := by
    rw [outsAt0_B m c t (by omega) ht]; frame_out
  have e0 : (((cfg0.win 4).blk t).view.emb y) = (ix2 ⟨t.val / 2 * 704 + (y 0).val, by have : t.val < 12 := t.isLt; have := (y 0).isLt; simp at this; omega⟩ (y 1) : S4224x1024.Idx) := by blk_ext [idx_val t]
  rw [e, out_at, e0, sum_at]
  exact congrArg₂ (fun u v : EReal => u + v) (h_blk m c t (y 0) (y 1)) (acc_at m c t ht (y 0) (y 1))

/-- The array after the run. -/
theorem final (c : Dev nD) : (dats m 0 c).arrAt 4 (cfgs 0).N = total (arg0 m c) (arg1 m c) (arg2 m c) (arg3 m c) := by
  refine (dats m 0 c).arrAt_eq_of_covers 4 _ (by decide +kernel) fun t hf y => ?_
  blk_simp; rw [after0_4]
  exact point m c t ((flush0_4 t).mp hf) y

/-- The kernel's norm of a row. -/
theorem kernel_norm (acc h : FVec Ideal S704x1024 .f32) (g : FVec Ideal S1x1024 .f32) (y : S704x1024.Idx) :
    k0_pay4 (F := Ideal) acc h g y = rowNorm (fun j => h (ix2 (y 0) j) + acc (ix2 (y 0) j)) (fun j => g (ix2 (0 : Fin 1) j)) (y 1) := by
  unfold rowNorm
  pointwise [k0_pay4, k0_pay3]

/-- The reference's norm of a row. -/
theorem norm_at (a0 : FVec Ideal Cert.SsdOutReferenceIdeal.S4224x2048 .f32) (a1 : FVec Ideal Cert.SsdOutReferenceIdeal.S1x2048x1024 .f32) (a2 : FVec Ideal Cert.SsdOutReferenceIdeal.S4224x1024 .f32) (a3 : FVec Ideal Cert.SsdOutReferenceIdeal.S1024 .f32) (i : Cert.SsdOutReferenceIdeal.S4224x1024.Idx) :
    normed a0 a1 a2 a3 i = rowNorm (fun j => a2 (ix2 (i 0) j) + ∑ k : Fin 2048, a0 (ix2 (i 0) k) * a1 (ix3 (0 : Fin 1) k j)) (fun j => a3 (ix1 j)) (i 1) := by
  unfold rowNorm
  pointwise [normed]

/-- The gain at entry. -/
theorem g_at (c : Dev nD) (j : Fin 1024) : V m c main_v2 (ix2 (0 : Fin 1) j) = (arg3 m c) (ix1 j) := by
  unfold V
  entry_read
  try simp -implicitDefEqProofs only [StableHlo.TRef.ofBuf, StableHlo.TRef.toBuf, cast_cast, cast_eq]
  pointwise []

/-- The block of the gain. -/
theorem g_blk (c : Dev nD) (t : Fin cfg0.N) (b : Fin 1024) :
    (show FVec Ideal S1x1024 .f32 from iblk m c 3 t) (ix2 (0 : Fin 1) b) = (arg3 m c) (ix1 b) := by
  show V m c main_v2 (((cfg0.win 3).blk t).view.emb (ix2 (0 : Fin 1) b)) = _
  rw [← g_at m c b]
  blk_ext [idx_val t]

/-- What the last point of a run writes as norms. -/
theorem point5 (c : Dev nD) (t : Fin cfg0.N) (ht : t.val % 2 = 1) (y : S704x1024.Idx) :
    (outsAt0 m c t.val t.isLt).2.1 y = normed (arg0 m c) (arg1 m c) (arg2 m c) (arg3 m c) (((cfg0.win 5).blk t).view.emb y) := by
  have e : (outsAt0 m c t.val t.isLt).2.1 y = k0_pay4 (F := Ideal) (outsAt0 m c t.val t.isLt).2.2 (iblk m c 2 t) (iblk m c 3 t) y := by
    rw [outsAt0_B m c t (by omega) ht]; frame_out
  have e0 : (((cfg0.win 5).blk t).view.emb y) = (ix2 ⟨t.val / 2 * 704 + (y 0).val, by have : t.val < 12 := t.isLt; have := (y 0).isLt; simp at this; omega⟩ (y 1) : S4224x1024.Idx) := by blk_ext [idx_val t]
  rw [e, kernel_norm, e0, norm_at]
  exact rowNorm_congr (funext fun j => congrArg₂ (fun u v : EReal => u + v) (h_blk m c t (y 0) j) (acc_at m c t ht (y 0) j)) (funext fun j => g_blk m c t j) rfl

/-- The norms after the run. -/
theorem final5 (c : Dev nD) : (dats m 0 c).arrAt 5 (cfgs 0).N = normed (arg0 m c) (arg1 m c) (arg2 m c) (arg3 m c) := by
  refine (dats m 0 c).arrAt_eq_of_covers 5 _ (by decide +kernel) fun t hf y => ?_
  blk_simp; rw [after0_5]
  exact point5 m c t ((flush0_5 t).mp hf) y

/-- The kernel and the reference end with the same arrays. -/
theorem algebraic : Cert.algebraic_SsdOutIdeal_SsdOutReferenceIdeal := by
  intro m g m' g' _ hargs
  refine ⟨fun c => total (arg0 m c) (arg1 m c) (arg2 m c) (arg3 m c), fun c => normed (arg0 m c) (arg1 m c) (arg2 m c) (arg3 m c),
    (θ_run (defs (F := Ideal)) _ _).mono (fun _ h c => ⟨(h.1.out_eq c 4).trans (final m c), (h.1.out_eq c 5).trans (final5 m c), h.2.1 c⟩) (θ_run_and (run_main m g) (frame m g)),
    (θ_run Cert.SsdOutReferenceIdeal.defs _ _).mono (fun _ h c => ?_) (Cert.SsdOutReferenceIdeal.Value.run m' g')⟩
  obtain ⟨e0, e1, e2, e3⟩ := hargs c
  exact ⟨(h c).1.trans (total_congr e0 e1 e2 e3), (h c).2.1.trans (normed_congr e0 e1 e2 e3), (h c).2.2⟩

end Cert.SsdOutIdeal.Hand

end
-- ==== Proof.Mlp.MlpUpOne.lean ====
/-
  Hand-written, untrusted. The first half of the MLP: a product with a matrix.
-/
module

public import proofs.«01_k».proof.Defs
public import proofs.«01_k».proof.Proof.Gen.MlpUpOneIdeal.Frame
public import proofs.«01_k».proof.Proof.Gen.MlpUpOneReferenceIdeal.Run
public import Idealize.ShloMosaic.Lib.Pipeline.ValueKit
public import Idealize.ShloMosaic.Lib.Claim
public import Idealize.ShloMosaic.Lib.Pipeline.ReadBack

@[expose] public section

set_option maxRecDepth 16384

noncomputable section

namespace Cert.MlpUpOneReferenceIdeal.Hand

open Cert.MlpUpOneReferenceIdeal Cert.MlpUpOneReferenceIdeal.Gen
open Idealize.ShloMosaic

/-- The reference's product over its arguments. -/
def prod (a0 : FVec Ideal S4224x1024 .f32) (a1 : FVec Ideal S1x1024x4096 .f32) : FVec Ideal S4224x4096 .bf16 :=
  truncf .bf16 (Host.dotGeneral dot_S4224x1024_S1024x4096_S4224x4096_1_0_0_1_n_n none a0 (shapeCast _ a1 shapeCasts_S1x1024x4096_S1024x4096)) bitsLt_bf16_f32

/-- Equal arguments, equal arrays. -/
theorem prod_congr {a0 b0 : FVec Ideal S4224x1024 .f32} (h0 : a0 = b0) {a1 b1 : FVec Ideal S1x1024x4096 .f32} (h1 : a1 = b1) :
    prod a0 a1 = prod b0 b1 := by
  subst h0; subst h1; rfl

end Cert.MlpUpOneReferenceIdeal.Hand

namespace Cert.MlpUpOneIdeal.Hand

open Cert.MlpUpOneIdeal Cert.MlpUpOneIdeal.Gen
open Cert.MlpUpOneReferenceIdeal.Hand (prod prod_congr)
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- Argument 0 at the run's start. -/
abbrev arg0 (c : Dev nD) : FVec Ideal S4224x1024 .f32 := m ((c : Thread nD τ).loc main_arg0)

/-- Argument 1 at the run's start. -/
abbrev arg1 (c : Dev nD) : FVec Ideal S1x1024x4096 .f32 := m ((c : Thread nD τ).loc main_arg1)

/-- The block of every window at every point. -/
theorem idx_val : ∀ t : Fin cfg0.N, win0_0.index t = ![t.val / 4, 0]
    ∧ win0_1.index t = ![0, 0, t.val % 4]
    ∧ win0_2.index t = ![t.val / 4, t.val % 4] :=
  (by decide +kernel : ∀ t : Fin grid0.N, _)

/-- One block of the product, entry by entry. -/
theorem point (c : Dev nD) (t : Fin cfg0.N) (y : S1408x1024.Idx) : k0_pay3 (F := Ideal) (k0_pay2 (F := Ideal) (iblk m c 0 t) (k0_pay1 (F := Ideal)) (iblk m c 1 t)) y
    = prod (arg0 m c) (arg1 m c) (((cfg0.win 2).blk t).view.emb y) := by
  pointwise [k0_pay1, k0_pay2, k0_pay3, prod]
  blk_point [iblk, V, idx_val t]

/-- The array after the run. -/
theorem final (c : Dev nD) : (dats m 0 c).arrAt 2 (cfgs 0).N = prod (arg0 m c) (arg1 m c) := by
  refine (dats m 0 c).arrAt_eq_of_covers 2 _ (by decide +kernel) fun t _ y => ?_
  blk_simp; rw [after0_2]; unfold outsAt0; frame_out
  exact point m c t y

/-- The kernel and the reference end with the same arrays. -/
theorem algebraic : Cert.algebraic_MlpUpOneIdeal_MlpUpOneReferenceIdeal := by
  intro m g m' g' _ hargs
  refine ⟨fun c => prod (arg0 m c) (arg1 m c),
    (θ_run (defs (F := Ideal)) _ _).mono (fun _ h c => ⟨(h.1.out_eq c 2).trans (final m c), h.2.1 c⟩) (θ_run_and (run_main m g) (frame m g)),
    (θ_run Cert.MlpUpOneReferenceIdeal.defs _ _).mono (fun _ h c => ?_) (Cert.MlpUpOneReferenceIdeal.Value.run m' g')⟩
  obtain ⟨e0, e1⟩ := hargs c
  exact ⟨(h c).1.trans (prod_congr e0 e1), (h c).2⟩

end Cert.MlpUpOneIdeal.Hand

end
-- ==== Proof.Mlp.MlpUpTwo.lean ====
/-
  Hand-written, untrusted. The first half of the MLP: a product with a matrix.
-/
module

public import proofs.«01_k».proof.Defs
public import proofs.«01_k».proof.Proof.Gen.MlpUpTwoIdeal.Frame
public import proofs.«01_k».proof.Proof.Gen.MlpUpTwoReferenceIdeal.Run
public import Idealize.ShloMosaic.Lib.Pipeline.ValueKit
public import Idealize.ShloMosaic.Lib.Claim
public import Idealize.ShloMosaic.Lib.Pipeline.ReadBack

@[expose] public section

set_option maxRecDepth 16384

noncomputable section

namespace Cert.MlpUpTwoReferenceIdeal.Hand

open Cert.MlpUpTwoReferenceIdeal Cert.MlpUpTwoReferenceIdeal.Gen
open Idealize.ShloMosaic

/-- The reference's product over its arguments. -/
def prod (a0 : FVec Ideal S4224x1024 .f32) (a1 : FVec Ideal S2x1024x4096 .f32) : FVec Ideal S4224x4096 .bf16 :=
  truncf .bf16 (Host.dotGeneral dot_S4224x1024_S1024x4096_S4224x4096_1_0_0_1_n_n none a0 (shapeCast _ (extractStridedSlice S1x1024x4096 ![0, 0, 0] a1 slices_S2x1024x4096_S1x1024x4096_0_0_0) shapeCasts_S1x1024x4096_S1024x4096)) bitsLt_bf16_f32

/-- Equal arguments, equal arrays. -/
theorem prod_congr {a0 b0 : FVec Ideal S4224x1024 .f32} (h0 : a0 = b0) {a1 b1 : FVec Ideal S2x1024x4096 .f32} (h1 : a1 = b1) :
    prod a0 a1 = prod b0 b1 := by
  subst h0; subst h1; rfl

end Cert.MlpUpTwoReferenceIdeal.Hand

namespace Cert.MlpUpTwoIdeal.Hand

open Cert.MlpUpTwoIdeal Cert.MlpUpTwoIdeal.Gen
open Cert.MlpUpTwoReferenceIdeal.Hand (prod prod_congr)
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- Argument 0 at the run's start. -/
abbrev arg0 (c : Dev nD) : FVec Ideal S4224x1024 .f32 := m ((c : Thread nD τ).loc main_arg0)

/-- Argument 1 at the run's start. -/
abbrev arg1 (c : Dev nD) : FVec Ideal S2x1024x4096 .f32 := m ((c : Thread nD τ).loc main_arg1)

/-- The block of every window at every point. -/
theorem idx_val : ∀ t : Fin cfg0.N, win0_0.index t = ![t.val / 4, 0]
    ∧ win0_1.index t = ![0, 0, t.val % 4]
    ∧ win0_2.index t = ![t.val / 4, t.val % 4] :=
  (by decide +kernel : ∀ t : Fin grid0.N, _)

/-- One block of the product, entry by entry. -/
theorem point (c : Dev nD) (t : Fin cfg0.N) (y : S1408x1024.Idx) : k0_pay3 (F := Ideal) (k0_pay2 (F := Ideal) (iblk m c 0 t) (k0_pay1 (F := Ideal)) (iblk m c 1 t)) y
    = prod (arg0 m c) (arg1 m c) (((cfg0.win 2).blk t).view.emb y) := by
  pointwise [k0_pay1, k0_pay2, k0_pay3, prod]
  blk_point [iblk, V, idx_val t]

/-- The array after the run. -/
theorem final (c : Dev nD) : (dats m 0 c).arrAt 2 (cfgs 0).N = prod (arg0 m c) (arg1 m c) := by
  refine (dats m 0 c).arrAt_eq_of_covers 2 _ (by decide +kernel) fun t _ y => ?_
  blk_simp; rw [after0_2]; unfold outsAt0; frame_out
  exact point m c t y

/-- The kernel and the reference end with the same arrays. -/
theorem algebraic : Cert.algebraic_MlpUpTwoIdeal_MlpUpTwoReferenceIdeal := by
  intro m g m' g' _ hargs
  refine ⟨fun c => prod (arg0 m c) (arg1 m c),
    (θ_run (defs (F := Ideal)) _ _).mono (fun _ h c => ⟨(h.1.out_eq c 2).trans (final m c), h.2.1 c⟩) (θ_run_and (run_main m g) (frame m g)),
    (θ_run Cert.MlpUpTwoReferenceIdeal.defs _ _).mono (fun _ h c => ?_) (Cert.MlpUpTwoReferenceIdeal.Value.run m' g')⟩
  obtain ⟨e0, e1⟩ := hargs c
  exact ⟨(h c).1.trans (prod_congr e0 e1), (h c).2⟩

end Cert.MlpUpTwoIdeal.Hand

end
-- ==== Proof.Mlp.MlpUpTop.lean ====
/-
  Hand-written, untrusted. The first half of the MLP: a product with a matrix.
-/
module

public import proofs.«01_k».proof.Defs
public import proofs.«01_k».proof.Proof.Gen.MlpUpTopIdeal.Frame
public import proofs.«01_k».proof.Proof.Gen.MlpUpTopReferenceIdeal.Run
public import Idealize.ShloMosaic.Lib.Pipeline.ValueKit
public import Idealize.ShloMosaic.Lib.Claim
public import Idealize.ShloMosaic.Lib.Pipeline.ReadBack

@[expose] public section

set_option maxRecDepth 16384

noncomputable section

namespace Cert.MlpUpTopReferenceIdeal.Hand

open Cert.MlpUpTopReferenceIdeal Cert.MlpUpTopReferenceIdeal.Gen
open Idealize.ShloMosaic

/-- The reference's product over its arguments. -/
def prod (a0 : FVec Ideal S4224x1024 .f32) (a1 : FVec Ideal S2x1024x4096 .f32) : FVec Ideal S4224x4096 .bf16 :=
  truncf .bf16 (Host.dotGeneral dot_S4224x1024_S1024x4096_S4224x4096_1_0_0_1_n_n none a0 (shapeCast _ (extractStridedSlice S1x1024x4096 ![1, 0, 0] a1 slices_S2x1024x4096_S1x1024x4096_1_0_0) shapeCasts_S1x1024x4096_S1024x4096)) bitsLt_bf16_f32

/-- Equal arguments, equal arrays. -/
theorem prod_congr {a0 b0 : FVec Ideal S4224x1024 .f32} (h0 : a0 = b0) {a1 b1 : FVec Ideal S2x1024x4096 .f32} (h1 : a1 = b1) :
    prod a0 a1 = prod b0 b1 := by
  subst h0; subst h1; rfl

end Cert.MlpUpTopReferenceIdeal.Hand

namespace Cert.MlpUpTopIdeal.Hand

open Cert.MlpUpTopIdeal Cert.MlpUpTopIdeal.Gen
open Cert.MlpUpTopReferenceIdeal.Hand (prod prod_congr)
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- Argument 0 at the run's start. -/
abbrev arg0 (c : Dev nD) : FVec Ideal S4224x1024 .f32 := m ((c : Thread nD τ).loc main_arg0)

/-- Argument 1 at the run's start. -/
abbrev arg1 (c : Dev nD) : FVec Ideal S2x1024x4096 .f32 := m ((c : Thread nD τ).loc main_arg1)

/-- The block of every window at every point. -/
theorem idx_val : ∀ t : Fin cfg0.N, win0_0.index t = ![t.val / 4, 0]
    ∧ win0_1.index t = ![1, 0, t.val % 4]
    ∧ win0_2.index t = ![t.val / 4, t.val % 4] :=
  (by decide +kernel : ∀ t : Fin grid0.N, _)

/-- One block of the product, entry by entry. -/
theorem point (c : Dev nD) (t : Fin cfg0.N) (y : S1408x1024.Idx) : k0_pay3 (F := Ideal) (k0_pay2 (F := Ideal) (iblk m c 0 t) (k0_pay1 (F := Ideal)) (iblk m c 1 t)) y
    = prod (arg0 m c) (arg1 m c) (((cfg0.win 2).blk t).view.emb y) := by
  pointwise [k0_pay1, k0_pay2, k0_pay3, prod]
  blk_point [iblk, V, idx_val t]

/-- The array after the run. -/
theorem final (c : Dev nD) : (dats m 0 c).arrAt 2 (cfgs 0).N = prod (arg0 m c) (arg1 m c) := by
  refine (dats m 0 c).arrAt_eq_of_covers 2 _ (by decide +kernel) fun t _ y => ?_
  blk_simp; rw [after0_2]; unfold outsAt0; frame_out
  exact point m c t y

/-- The kernel and the reference end with the same arrays. -/
theorem algebraic : Cert.algebraic_MlpUpTopIdeal_MlpUpTopReferenceIdeal := by
  intro m g m' g' _ hargs
  refine ⟨fun c => prod (arg0 m c) (arg1 m c),
    (θ_run (defs (F := Ideal)) _ _).mono (fun _ h c => ⟨(h.1.out_eq c 2).trans (final m c), h.2.1 c⟩) (θ_run_and (run_main m g) (frame m g)),
    (θ_run Cert.MlpUpTopReferenceIdeal.defs _ _).mono (fun _ h c => ?_) (Cert.MlpUpTopReferenceIdeal.Value.run m' g')⟩
  obtain ⟨e0, e1⟩ := hargs c
  exact ⟨(h c).1.trans (prod_congr e0 e1), (h c).2⟩

end Cert.MlpUpTopIdeal.Hand

end
-- ==== Proof.Mlp.MlpDownOne.lean ====
/-
  Hand-written, untrusted. The second half of the MLP, added to the residual stream, and the norm of the sum.
-/
module

public import proofs.«01_k».proof.Defs
public import proofs.«01_k».proof.Proof.Mlp.Norm
public import proofs.«01_k».proof.Proof.Gen.MlpDownOneIdeal.Frame
public import proofs.«01_k».proof.Proof.Gen.MlpDownOneReferenceIdeal.Run
public import Idealize.ShloMosaic.Lib.Pipeline.ValueKit
public import Idealize.ShloMosaic.Lib.Claim
public import Idealize.ShloMosaic.Lib.Pipeline.ReadBack

@[expose] public section

set_option maxRecDepth 16384

noncomputable section

namespace Cert.MlpDownOneReferenceIdeal.Hand

open Cert.MlpDownOneReferenceIdeal Cert.MlpDownOneReferenceIdeal.Gen
open Idealize.ShloMosaic

/-- The reference's result over its arguments. -/
def total (a0 : FVec Ideal S4224x4096 .f32) (a1 : FVec Ideal S1x4096x1024 .f32) (a2 : FVec Ideal S4224x1024 .f32) (a3 : FVec Ideal S1024 .f32) : FVec Ideal S4224x1024 .f32 :=
  addf a2 (Host.dotGeneral dot_S4224x4096_S4096x1024_S4224x1024_1_0_0_1_n_n none (mulf (maximumf a0 (broadcastInDim S4224x4096 ![] bcast_S_S4224x4096 (constant S_ .f32 0x00000000#32))) (maximumf a0 (broadcastInDim S4224x4096 ![] bcast_S_S4224x4096 (constant S_ .f32 0x00000000#32)))) (shapeCast _ a1 shapeCasts_S1x4096x1024_S4096x1024))

/-- Equal arguments, equal arrays. -/
theorem total_congr {a0 b0 : FVec Ideal S4224x4096 .f32} (h0 : a0 = b0) {a1 b1 : FVec Ideal S1x4096x1024 .f32} (h1 : a1 = b1) {a2 b2 : FVec Ideal S4224x1024 .f32} (h2 : a2 = b2) {a3 b3 : FVec Ideal S1024 .f32} (h3 : a3 = b3) :
    total a0 a1 a2 a3 = total b0 b1 b2 b3 := by
  subst h0; subst h1; subst h2; subst h3; rfl

/-- The reference's result over its arguments. -/
def normed (a0 : FVec Ideal S4224x4096 .f32) (a1 : FVec Ideal S1x4096x1024 .f32) (a2 : FVec Ideal S4224x1024 .f32) (a3 : FVec Ideal S1024 .f32) : FVec Ideal S4224x1024 .bf16 :=
  truncf .bf16 (mulf (mulf (addf a2 (Host.dotGeneral dot_S4224x4096_S4096x1024_S4224x1024_1_0_0_1_n_n none (mulf (maximumf a0 (broadcastInDim S4224x4096 ![] bcast_S_S4224x4096 (constant S_ .f32 0x00000000#32))) (maximumf a0 (broadcastInDim S4224x4096 ![] bcast_S_S4224x4096 (constant S_ .f32 0x00000000#32)))) (shapeCast _ a1 shapeCasts_S1x4096x1024_S4096x1024))) (broadcastInDim S4224x1024 ![0, 1] bcast_S4224x1_S4224x1024_0_1 (Host.rsqrt (addf (Host.divf (broadcastInDim S4224x1 ![0] bcast_S4224_S4224x1_0 (Host.reduceAdd (mulf (addf a2 (Host.dotGeneral dot_S4224x4096_S4096x1024_S4224x1024_1_0_0_1_n_n none (mulf (maximumf a0 (broadcastInDim S4224x4096 ![] bcast_S_S4224x4096 (constant S_ .f32 0x00000000#32))) (maximumf a0 (broadcastInDim S4224x4096 ![] bcast_S_S4224x4096 (constant S_ .f32 0x00000000#32)))) (shapeCast _ a1 shapeCasts_S1x4096x1024_S4096x1024))) (addf a2 (Host.dotGeneral dot_S4224x4096_S4096x1024_S4224x1024_1_0_0_1_n_n none (mulf (maximumf a0 (broadcastInDim S4224x4096 ![] bcast_S_S4224x4096 (constant S_ .f32 0x00000000#32))) (maximumf a0 (broadcastInDim S4224x4096 ![] bcast_S_S4224x4096 (constant S_ .f32 0x00000000#32)))) (shapeCast _ a1 shapeCasts_S1x4096x1024_S4096x1024)))) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (broadcastInDim S4224x1024 ![0, 1] bcast_S1x1024_S4224x1024_0_1 (broadcastInDim S1x1024 ![1] bcast_S1024_S1x1024_1 a3))) bitsLt_bf16_f32

/-- Equal arguments, equal arrays. -/
theorem normed_congr {a0 b0 : FVec Ideal S4224x4096 .f32} (h0 : a0 = b0) {a1 b1 : FVec Ideal S1x4096x1024 .f32} (h1 : a1 = b1) {a2 b2 : FVec Ideal S4224x1024 .f32} (h2 : a2 = b2) {a3 b3 : FVec Ideal S1024 .f32} (h3 : a3 = b3) :
    normed a0 a1 a2 a3 = normed b0 b1 b2 b3 := by
  subst h0; subst h1; subst h2; subst h3; rfl

end Cert.MlpDownOneReferenceIdeal.Hand

namespace Cert.MlpDownOneIdeal.Hand

open Cert.MlpDownOneIdeal Cert.MlpDownOneIdeal.Gen
open Cert.MlpDownOneReferenceIdeal.Hand (total total_congr normed normed_congr)
open Cert.Norm.Hand (rowNorm rowNorm_congr)
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- Argument 0 at the run's start. -/
abbrev arg0 (c : Dev nD) : FVec Ideal S4224x4096 .f32 := m ((c : Thread nD τ).loc main_arg0)

/-- Argument 1 at the run's start. -/
abbrev arg1 (c : Dev nD) : FVec Ideal S1x4096x1024 .f32 := m ((c : Thread nD τ).loc main_arg1)

/-- Argument 2 at the run's start. -/
abbrev arg2 (c : Dev nD) : FVec Ideal S4224x1024 .f32 := m ((c : Thread nD τ).loc main_arg2)

/-- Argument 3 at the run's start. -/
abbrev arg3 (c : Dev nD) : FVec Ideal S1024 .f32 := m ((c : Thread nD τ).loc main_arg3)

/-- The block of every window at every point. -/
theorem idx_val : ∀ t : Fin cfg0.N, win0_0.index t = ![t.val / 4, t.val % 4]
    ∧ win0_1.index t = ![0, t.val % 4, 0]
    ∧ win0_2.index t = ![t.val / 4, 0]
    ∧ win0_3.index t = ![0, 0]
    ∧ win0_4.index t = ![t.val / 4, 0]
    ∧ win0_5.index t = ![t.val / 4, 0] :=
  (by decide +kernel : ∀ t : Fin grid0.N, _)

/-- The accumulator starts at zero. -/
theorem zero (j) : k0_pay1 (F := Ideal) j = 0 := by pointwise [k0_pay1]

/-- One step of the accumulation. -/
theorem step (acc : FVec Ideal S704x1024 .f32) (x : FVec Ideal S704x1024 .bf16) (w : FVec Ideal S1x1024x1024 .bf16) (j : S704x1024.Idx) :
    k0_pay2 (F := Ideal) x acc w j = acc j + ∑ k : Fin 1024, (max (x (ix2 (j 0) k)) 0 * max (x (ix2 (j 0) k)) 0) * w (ix3 (0 : Fin 1) k (j 1)) := by
  pointwise [k0_pay2]

/-- The accumulator after the last point of a run: the sum over the run's points. -/
theorem run_sum (c : Dev nD) (t : Fin cfg0.N) (ht : t.val % 4 = 3) (j : S704x1024.Idx) :
    (outsAt0 m c t.val t.isLt).2.2 j = (0 : EReal) + ∑ s : Fin 4, ∑ k : Fin 1024,
      (max ((show FVec Ideal S704x1024 .bf16 from iblk m c 0 ⟨4 * (t.val / 4) + s.val, Pipeline.run_point_lt_of_flush t ht s⟩) (ix2 (j 0) k)) 0 * max ((show FVec Ideal S704x1024 .bf16 from iblk m c 0 ⟨4 * (t.val / 4) + s.val, Pipeline.run_point_lt_of_flush t ht s⟩) (ix2 (j 0) k)) 0)
        * (show FVec Ideal S1x1024x1024 .bf16 from iblk m c 1 ⟨4 * (t.val / 4) + s.val, Pipeline.run_point_lt_of_flush t ht s⟩) (ix3 (0 : Fin 1) k (j 1)) := by
  refine Pipeline.eq_sum_fin_of_reset_step_apply_of_flush (fun n h => (outsAt0 m c n h).2.2) 4 (fun _ => 0)
    (fun p j => ∑ k : Fin 1024, (max ((show FVec Ideal S704x1024 .bf16 from iblk m c 0 p) (ix2 (j 0) k)) 0 * max ((show FVec Ideal S704x1024 .bf16 from iblk m c 0 p) (ix2 (j 0) k)) 0)
        * (show FVec Ideal S1x1024x1024 .bf16 from iblk m c 1 p) (ix3 (0 : Fin 1) k (j 1))) (fun t h j => ?_) (fun t h j => ?_) t ht j
  · dsimp only
    rw [outsAt0_A m c t h (by omega)]; frame_out; rw [step, zero]
  · dsimp only
    by_cases h' : t.val % 4 = 3
    · rw [outsAt0_C m c t h h']; frame_out; rw [step]; exact congrArg (fun z : EReal => z + _) (congrFun (read_unread_whole cc0_scratch0 _ _) j)
    · rw [outsAt0_B m c t h h']; frame_out; rw [step]; exact congrArg (fun z : EReal => z + _) (congrFun (read_unread_whole cc0_scratch0 _ _) j)

/-- The accumulator after the last point of a run: the product over all columns. -/
theorem acc_at (c : Dev nD) (t : Fin cfg0.N) (ht : t.val % 4 = 3) (a : Fin 704) (b : Fin 1024) :
    (outsAt0 m c t.val t.isLt).2.2 (ix2 a b) = ∑ k : Fin 4096, (max ((arg0 m c) (ix2 ⟨t.val / 4 * 704 + a.val, by have : t.val < 24 := t.isLt; omega⟩ k)) 0 * max ((arg0 m c) (ix2 ⟨t.val / 4 * 704 + a.val, by have : t.val < 24 := t.isLt; omega⟩ k)) 0) * (arg1 m c) (ix3 (0 : Fin 1) k b) := by
  rw [run_sum m c t ht, zero_add]
  refine Fin.sum_mul_add_congr fun s k hl => ?_
  blk_point [iblk, V, idx_val ⟨4 * (t.val / 4) + s.val, Pipeline.run_point_lt_of_flush t ht s⟩]

/-- A block of the residual stream. -/
theorem h_blk (c : Dev nD) (t : Fin cfg0.N) (a : Fin 704) (b : Fin 1024) :
    (show FVec Ideal S704x1024 .f32 from iblk m c 2 t) (ix2 a b) = (arg2 m c) (ix2 ⟨t.val / 4 * 704 + a.val, by have : t.val < 24 := t.isLt; omega⟩ b) := by
  blk_point [iblk, V, idx_val t]

/-- The reference's sum, entry by entry. -/
theorem sum_at (a0 : FVec Ideal Cert.MlpDownOneReferenceIdeal.S4224x4096 .f32) (a1 : FVec Ideal Cert.MlpDownOneReferenceIdeal.S1x4096x1024 .f32) (a2 : FVec Ideal Cert.MlpDownOneReferenceIdeal.S4224x1024 .f32) (a3 : FVec Ideal Cert.MlpDownOneReferenceIdeal.S1024 .f32) (i : Cert.MlpDownOneReferenceIdeal.S4224x1024.Idx) :
    total a0 a1 a2 a3 i = a2 i + ∑ k : Fin 4096, (max (a0 (ix2 (i 0) k)) 0 * max (a0 (ix2 (i 0) k)) 0) * a1 (ix3 (0 : Fin 1) k (i 1)) := by
  pointwise [total]

/-- The kernel's sum, entry by entry. -/
theorem out_at (acc h : FVec Ideal S704x1024 .f32) (y : S704x1024.Idx) :
    k0_pay3 (F := Ideal) acc h y = h (ix2 (y 0) (y 1)) + acc (ix2 (y 0) (y 1)) := by
  obtain ⟨a, b, rfl⟩ : ∃ (a : Fin 704) (b : Fin 1024), y = ix2 a b := ⟨y 0, y 1, by blk_ext⟩
  pointwise [k0_pay3]

/-- What the last point of a run writes. -/
theorem point (c : Dev nD) (t : Fin cfg0.N) (ht : t.val % 4 = 3) (y : S704x1024.Idx) :
    (outsAt0 m c t.val t.isLt).1 y = total (arg0 m c) (arg1 m c) (arg2 m c) (arg3 m c) (((cfg0.win 4).blk t).view.emb y) := by
  have e : (outsAt0 m c t.val t.isLt).1 y = k0_pay3 (F := Ideal) (outsAt0 m c t.val t.isLt).2.2 (iblk m c 2 t) y := by
    rw [outsAt0_C m c t (by omega) ht]; frame_out
  have e0 : (((cfg0.win 4).blk t).view.emb y) = (ix2 ⟨t.val / 4 * 704 + (y 0).val, by have : t.val < 24 := t.isLt; have := (y 0).isLt; simp at this; omega⟩ (y 1) : S4224x1024.Idx) := by blk_ext [idx_val t]
  rw [e, out_at, e0, sum_at]
  exact congrArg₂ (fun u v : EReal => u + v) (h_blk m c t (y 0) (y 1)) (acc_at m c t ht (y 0) (y 1))

/-- The array after the run. -/
theorem final (c : Dev nD) : (dats m 0 c).arrAt 4 (cfgs 0).N = total (arg0 m c) (arg1 m c) (arg2 m c) (arg3 m c) := by
  refine (dats m 0 c).arrAt_eq_of_covers 4 _ (by decide +kernel) fun t hf y => ?_
  blk_simp; rw [after0_4]
  exact point m c t ((flush0_4 t).mp hf) y

/-- The kernel's norm of a row. -/
theorem kernel_norm (acc h : FVec Ideal S704x1024 .f32) (g : FVec Ideal S1x1024 .f32) (y : S704x1024.Idx) :
    k0_pay4 (F := Ideal) acc h g y = rowNorm (fun j => h (ix2 (y 0) j) + acc (ix2 (y 0) j)) (fun j => g (ix2 (0 : Fin 1) j)) (y 1) := by
  unfold rowNorm
  pointwise [k0_pay4, k0_pay3]

/-- The reference's norm of a row. -/
theorem norm_at (a0 : FVec Ideal Cert.MlpDownOneReferenceIdeal.S4224x4096 .f32) (a1 : FVec Ideal Cert.MlpDownOneReferenceIdeal.S1x4096x1024 .f32) (a2 : FVec Ideal Cert.MlpDownOneReferenceIdeal.S4224x1024 .f32) (a3 : FVec Ideal Cert.MlpDownOneReferenceIdeal.S1024 .f32) (i : Cert.MlpDownOneReferenceIdeal.S4224x1024.Idx) :
    normed a0 a1 a2 a3 i = rowNorm (fun j => a2 (ix2 (i 0) j) + ∑ k : Fin 4096, (max (a0 (ix2 (i 0) k)) 0 * max (a0 (ix2 (i 0) k)) 0) * a1 (ix3 (0 : Fin 1) k j)) (fun j => a3 (ix1 j)) (i 1) := by
  unfold rowNorm
  pointwise [normed]

/-- The gain at entry. -/
theorem g_at (c : Dev nD) (j : Fin 1024) : V m c main_v2 (ix2 (0 : Fin 1) j) = (arg3 m c) (ix1 j) := by
  unfold V
  entry_read
  try simp -implicitDefEqProofs only [StableHlo.TRef.ofBuf, StableHlo.TRef.toBuf, cast_cast, cast_eq]
  pointwise []

/-- The block of the gain. -/
theorem g_blk (c : Dev nD) (t : Fin cfg0.N) (b : Fin 1024) :
    (show FVec Ideal S1x1024 .f32 from iblk m c 3 t) (ix2 (0 : Fin 1) b) = (arg3 m c) (ix1 b) := by
  show V m c main_v2 (((cfg0.win 3).blk t).view.emb (ix2 (0 : Fin 1) b)) = _
  rw [← g_at m c b]
  blk_ext [idx_val t]

/-- What the last point of a run writes as norms. -/
theorem point5 (c : Dev nD) (t : Fin cfg0.N) (ht : t.val % 4 = 3) (y : S704x1024.Idx) :
    (outsAt0 m c t.val t.isLt).2.1 y = normed (arg0 m c) (arg1 m c) (arg2 m c) (arg3 m c) (((cfg0.win 5).blk t).view.emb y) := by
  have e : (outsAt0 m c t.val t.isLt).2.1 y = k0_pay4 (F := Ideal) (outsAt0 m c t.val t.isLt).2.2 (iblk m c 2 t) (iblk m c 3 t) y := by
    rw [outsAt0_C m c t (by omega) ht]; frame_out
  have e0 : (((cfg0.win 5).blk t).view.emb y) = (ix2 ⟨t.val / 4 * 704 + (y 0).val, by have : t.val < 24 := t.isLt; have := (y 0).isLt; simp at this; omega⟩ (y 1) : S4224x1024.Idx) := by blk_ext [idx_val t]
  rw [e, kernel_norm, e0, norm_at]
  exact rowNorm_congr (funext fun j => congrArg₂ (fun u v : EReal => u + v) (h_blk m c t (y 0) j) (acc_at m c t ht (y 0) j)) (funext fun j => g_blk m c t j) rfl

/-- The norms after the run. -/
theorem final5 (c : Dev nD) : (dats m 0 c).arrAt 5 (cfgs 0).N = normed (arg0 m c) (arg1 m c) (arg2 m c) (arg3 m c) := by
  refine (dats m 0 c).arrAt_eq_of_covers 5 _ (by decide +kernel) fun t hf y => ?_
  blk_simp; rw [after0_5]
  exact point5 m c t ((flush0_5 t).mp hf) y

/-- The kernel and the reference end with the same arrays. -/
theorem algebraic : Cert.algebraic_MlpDownOneIdeal_MlpDownOneReferenceIdeal := by
  intro m g m' g' _ hargs
  refine ⟨fun c => total (arg0 m c) (arg1 m c) (arg2 m c) (arg3 m c), fun c => normed (arg0 m c) (arg1 m c) (arg2 m c) (arg3 m c),
    (θ_run (defs (F := Ideal)) _ _).mono (fun _ h c => ⟨(h.1.out_eq c 4).trans (final m c), (h.1.out_eq c 5).trans (final5 m c), h.2.1 c⟩) (θ_run_and (run_main m g) (frame m g)),
    (θ_run Cert.MlpDownOneReferenceIdeal.defs _ _).mono (fun _ h c => ?_) (Cert.MlpDownOneReferenceIdeal.Value.run m' g')⟩
  obtain ⟨e0, e1, e2, e3⟩ := hargs c
  exact ⟨(h c).1.trans (total_congr e0 e1 e2 e3), (h c).2.1.trans (normed_congr e0 e1 e2 e3), (h c).2.2⟩

end Cert.MlpDownOneIdeal.Hand

end
-- ==== Proof.Mlp.MlpDownTwo.lean ====
/-
  Hand-written, untrusted. The second half of the MLP, added to the residual stream, and the norm of the sum.
-/
module

public import proofs.«01_k».proof.Defs
public import proofs.«01_k».proof.Proof.Mlp.Norm
public import proofs.«01_k».proof.Proof.Gen.MlpDownTwoIdeal.Frame
public import proofs.«01_k».proof.Proof.Gen.MlpDownTwoReferenceIdeal.Run
public import Idealize.ShloMosaic.Lib.Pipeline.ValueKit
public import Idealize.ShloMosaic.Lib.Claim
public import Idealize.ShloMosaic.Lib.Pipeline.ReadBack

@[expose] public section

set_option maxRecDepth 16384

noncomputable section

namespace Cert.MlpDownTwoReferenceIdeal.Hand

open Cert.MlpDownTwoReferenceIdeal Cert.MlpDownTwoReferenceIdeal.Gen
open Idealize.ShloMosaic

/-- The reference's result over its arguments. -/
def total (a0 : FVec Ideal S4224x4096 .f32) (a1 : FVec Ideal S2x4096x1024 .f32) (a2 : FVec Ideal S4224x1024 .f32) (a3 : FVec Ideal S1024 .f32) : FVec Ideal S4224x1024 .f32 :=
  addf a2 (Host.dotGeneral dot_S4224x4096_S4096x1024_S4224x1024_1_0_0_1_n_n none (mulf (maximumf a0 (broadcastInDim S4224x4096 ![] bcast_S_S4224x4096 (constant S_ .f32 0x00000000#32))) (maximumf a0 (broadcastInDim S4224x4096 ![] bcast_S_S4224x4096 (constant S_ .f32 0x00000000#32)))) (shapeCast _ (extractStridedSlice S1x4096x1024 ![0, 0, 0] a1 slices_S2x4096x1024_S1x4096x1024_0_0_0) shapeCasts_S1x4096x1024_S4096x1024))

/-- Equal arguments, equal arrays. -/
theorem total_congr {a0 b0 : FVec Ideal S4224x4096 .f32} (h0 : a0 = b0) {a1 b1 : FVec Ideal S2x4096x1024 .f32} (h1 : a1 = b1) {a2 b2 : FVec Ideal S4224x1024 .f32} (h2 : a2 = b2) {a3 b3 : FVec Ideal S1024 .f32} (h3 : a3 = b3) :
    total a0 a1 a2 a3 = total b0 b1 b2 b3 := by
  subst h0; subst h1; subst h2; subst h3; rfl

/-- The reference's result over its arguments. -/
def normed (a0 : FVec Ideal S4224x4096 .f32) (a1 : FVec Ideal S2x4096x1024 .f32) (a2 : FVec Ideal S4224x1024 .f32) (a3 : FVec Ideal S1024 .f32) : FVec Ideal S4224x1024 .bf16 :=
  truncf .bf16 (mulf (mulf (addf a2 (Host.dotGeneral dot_S4224x4096_S4096x1024_S4224x1024_1_0_0_1_n_n none (mulf (maximumf a0 (broadcastInDim S4224x4096 ![] bcast_S_S4224x4096 (constant S_ .f32 0x00000000#32))) (maximumf a0 (broadcastInDim S4224x4096 ![] bcast_S_S4224x4096 (constant S_ .f32 0x00000000#32)))) (shapeCast _ (extractStridedSlice S1x4096x1024 ![0, 0, 0] a1 slices_S2x4096x1024_S1x4096x1024_0_0_0) shapeCasts_S1x4096x1024_S4096x1024))) (broadcastInDim S4224x1024 ![0, 1] bcast_S4224x1_S4224x1024_0_1 (Host.rsqrt (addf (Host.divf (broadcastInDim S4224x1 ![0] bcast_S4224_S4224x1_0 (Host.reduceAdd (mulf (addf a2 (Host.dotGeneral dot_S4224x4096_S4096x1024_S4224x1024_1_0_0_1_n_n none (mulf (maximumf a0 (broadcastInDim S4224x4096 ![] bcast_S_S4224x4096 (constant S_ .f32 0x00000000#32))) (maximumf a0 (broadcastInDim S4224x4096 ![] bcast_S_S4224x4096 (constant S_ .f32 0x00000000#32)))) (shapeCast _ (extractStridedSlice S1x4096x1024 ![0, 0, 0] a1 slices_S2x4096x1024_S1x4096x1024_0_0_0) shapeCasts_S1x4096x1024_S4096x1024))) (addf a2 (Host.dotGeneral dot_S4224x4096_S4096x1024_S4224x1024_1_0_0_1_n_n none (mulf (maximumf a0 (broadcastInDim S4224x4096 ![] bcast_S_S4224x4096 (constant S_ .f32 0x00000000#32))) (maximumf a0 (broadcastInDim S4224x4096 ![] bcast_S_S4224x4096 (constant S_ .f32 0x00000000#32)))) (shapeCast _ (extractStridedSlice S1x4096x1024 ![0, 0, 0] a1 slices_S2x4096x1024_S1x4096x1024_0_0_0) shapeCasts_S1x4096x1024_S4096x1024)))) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (broadcastInDim S4224x1024 ![0, 1] bcast_S1x1024_S4224x1024_0_1 (broadcastInDim S1x1024 ![1] bcast_S1024_S1x1024_1 a3))) bitsLt_bf16_f32

/-- Equal arguments, equal arrays. -/
theorem normed_congr {a0 b0 : FVec Ideal S4224x4096 .f32} (h0 : a0 = b0) {a1 b1 : FVec Ideal S2x4096x1024 .f32} (h1 : a1 = b1) {a2 b2 : FVec Ideal S4224x1024 .f32} (h2 : a2 = b2) {a3 b3 : FVec Ideal S1024 .f32} (h3 : a3 = b3) :
    normed a0 a1 a2 a3 = normed b0 b1 b2 b3 := by
  subst h0; subst h1; subst h2; subst h3; rfl

end Cert.MlpDownTwoReferenceIdeal.Hand

namespace Cert.MlpDownTwoIdeal.Hand

open Cert.MlpDownTwoIdeal Cert.MlpDownTwoIdeal.Gen
open Cert.MlpDownTwoReferenceIdeal.Hand (total total_congr normed normed_congr)
open Cert.Norm.Hand (rowNorm rowNorm_congr)
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- Argument 0 at the run's start. -/
abbrev arg0 (c : Dev nD) : FVec Ideal S4224x4096 .f32 := m ((c : Thread nD τ).loc main_arg0)

/-- Argument 1 at the run's start. -/
abbrev arg1 (c : Dev nD) : FVec Ideal S2x4096x1024 .f32 := m ((c : Thread nD τ).loc main_arg1)

/-- Argument 2 at the run's start. -/
abbrev arg2 (c : Dev nD) : FVec Ideal S4224x1024 .f32 := m ((c : Thread nD τ).loc main_arg2)

/-- Argument 3 at the run's start. -/
abbrev arg3 (c : Dev nD) : FVec Ideal S1024 .f32 := m ((c : Thread nD τ).loc main_arg3)

/-- The block of every window at every point. -/
theorem idx_val : ∀ t : Fin cfg0.N, win0_0.index t = ![t.val / 4, t.val % 4]
    ∧ win0_1.index t = ![0, t.val % 4, 0]
    ∧ win0_2.index t = ![t.val / 4, 0]
    ∧ win0_3.index t = ![0, 0]
    ∧ win0_4.index t = ![t.val / 4, 0]
    ∧ win0_5.index t = ![t.val / 4, 0] :=
  (by decide +kernel : ∀ t : Fin grid0.N, _)

/-- The accumulator starts at zero. -/
theorem zero (j) : k0_pay1 (F := Ideal) j = 0 := by pointwise [k0_pay1]

/-- One step of the accumulation. -/
theorem step (acc : FVec Ideal S704x1024 .f32) (x : FVec Ideal S704x1024 .bf16) (w : FVec Ideal S1x1024x1024 .bf16) (j : S704x1024.Idx) :
    k0_pay2 (F := Ideal) x acc w j = acc j + ∑ k : Fin 1024, (max (x (ix2 (j 0) k)) 0 * max (x (ix2 (j 0) k)) 0) * w (ix3 (0 : Fin 1) k (j 1)) := by
  pointwise [k0_pay2]

/-- The accumulator after the last point of a run: the sum over the run's points. -/
theorem run_sum (c : Dev nD) (t : Fin cfg0.N) (ht : t.val % 4 = 3) (j : S704x1024.Idx) :
    (outsAt0 m c t.val t.isLt).2.2 j = (0 : EReal) + ∑ s : Fin 4, ∑ k : Fin 1024,
      (max ((show FVec Ideal S704x1024 .bf16 from iblk m c 0 ⟨4 * (t.val / 4) + s.val, Pipeline.run_point_lt_of_flush t ht s⟩) (ix2 (j 0) k)) 0 * max ((show FVec Ideal S704x1024 .bf16 from iblk m c 0 ⟨4 * (t.val / 4) + s.val, Pipeline.run_point_lt_of_flush t ht s⟩) (ix2 (j 0) k)) 0)
        * (show FVec Ideal S1x1024x1024 .bf16 from iblk m c 1 ⟨4 * (t.val / 4) + s.val, Pipeline.run_point_lt_of_flush t ht s⟩) (ix3 (0 : Fin 1) k (j 1)) := by
  refine Pipeline.eq_sum_fin_of_reset_step_apply_of_flush (fun n h => (outsAt0 m c n h).2.2) 4 (fun _ => 0)
    (fun p j => ∑ k : Fin 1024, (max ((show FVec Ideal S704x1024 .bf16 from iblk m c 0 p) (ix2 (j 0) k)) 0 * max ((show FVec Ideal S704x1024 .bf16 from iblk m c 0 p) (ix2 (j 0) k)) 0)
        * (show FVec Ideal S1x1024x1024 .bf16 from iblk m c 1 p) (ix3 (0 : Fin 1) k (j 1))) (fun t h j => ?_) (fun t h j => ?_) t ht j
  · dsimp only
    rw [outsAt0_A m c t h (by omega)]; frame_out; rw [step, zero]
  · dsimp only
    by_cases h' : t.val % 4 = 3
    · rw [outsAt0_C m c t h h']; frame_out; rw [step]; exact congrArg (fun z : EReal => z + _) (congrFun (read_unread_whole cc0_scratch0 _ _) j)
    · rw [outsAt0_B m c t h h']; frame_out; rw [step]; exact congrArg (fun z : EReal => z + _) (congrFun (read_unread_whole cc0_scratch0 _ _) j)

/-- The accumulator after the last point of a run: the product over all columns. -/
theorem acc_at (c : Dev nD) (t : Fin cfg0.N) (ht : t.val % 4 = 3) (a : Fin 704) (b : Fin 1024) :
    (outsAt0 m c t.val t.isLt).2.2 (ix2 a b) = ∑ k : Fin 4096, (max ((arg0 m c) (ix2 ⟨t.val / 4 * 704 + a.val, by have : t.val < 24 := t.isLt; omega⟩ k)) 0 * max ((arg0 m c) (ix2 ⟨t.val / 4 * 704 + a.val, by have : t.val < 24 := t.isLt; omega⟩ k)) 0) * (arg1 m c) (ix3 (0 : Fin 2) k b) := by
  rw [run_sum m c t ht, zero_add]
  refine Fin.sum_mul_add_congr fun s k hl => ?_
  blk_point [iblk, V, idx_val ⟨4 * (t.val / 4) + s.val, Pipeline.run_point_lt_of_flush t ht s⟩]

/-- A block of the residual stream. -/
theorem h_blk (c : Dev nD) (t : Fin cfg0.N) (a : Fin 704) (b : Fin 1024) :
    (show FVec Ideal S704x1024 .f32 from iblk m c 2 t) (ix2 a b) = (arg2 m c) (ix2 ⟨t.val / 4 * 704 + a.val, by have : t.val < 24 := t.isLt; omega⟩ b) := by
  blk_point [iblk, V, idx_val t]

/-- The reference's sum, entry by entry. -/
theorem sum_at (a0 : FVec Ideal Cert.MlpDownTwoReferenceIdeal.S4224x4096 .f32) (a1 : FVec Ideal Cert.MlpDownTwoReferenceIdeal.S2x4096x1024 .f32) (a2 : FVec Ideal Cert.MlpDownTwoReferenceIdeal.S4224x1024 .f32) (a3 : FVec Ideal Cert.MlpDownTwoReferenceIdeal.S1024 .f32) (i : Cert.MlpDownTwoReferenceIdeal.S4224x1024.Idx) :
    total a0 a1 a2 a3 i = a2 i + ∑ k : Fin 4096, (max (a0 (ix2 (i 0) k)) 0 * max (a0 (ix2 (i 0) k)) 0) * a1 (ix3 (0 : Fin 2) k (i 1)) := by
  pointwise [total]

/-- The kernel's sum, entry by entry. -/
theorem out_at (acc h : FVec Ideal S704x1024 .f32) (y : S704x1024.Idx) :
    k0_pay3 (F := Ideal) acc h y = h (ix2 (y 0) (y 1)) + acc (ix2 (y 0) (y 1)) := by
  obtain ⟨a, b, rfl⟩ : ∃ (a : Fin 704) (b : Fin 1024), y = ix2 a b := ⟨y 0, y 1, by blk_ext⟩
  pointwise [k0_pay3]

/-- What the last point of a run writes. -/
theorem point (c : Dev nD) (t : Fin cfg0.N) (ht : t.val % 4 = 3) (y : S704x1024.Idx) :
    (outsAt0 m c t.val t.isLt).1 y = total (arg0 m c) (arg1 m c) (arg2 m c) (arg3 m c) (((cfg0.win 4).blk t).view.emb y) := by
  have e : (outsAt0 m c t.val t.isLt).1 y = k0_pay3 (F := Ideal) (outsAt0 m c t.val t.isLt).2.2 (iblk m c 2 t) y := by
    rw [outsAt0_C m c t (by omega) ht]; frame_out
  have e0 : (((cfg0.win 4).blk t).view.emb y) = (ix2 ⟨t.val / 4 * 704 + (y 0).val, by have : t.val < 24 := t.isLt; have := (y 0).isLt; simp at this; omega⟩ (y 1) : S4224x1024.Idx) := by blk_ext [idx_val t]
  rw [e, out_at, e0, sum_at]
  exact congrArg₂ (fun u v : EReal => u + v) (h_blk m c t (y 0) (y 1)) (acc_at m c t ht (y 0) (y 1))

/-- The array after the run. -/
theorem final (c : Dev nD) : (dats m 0 c).arrAt 4 (cfgs 0).N = total (arg0 m c) (arg1 m c) (arg2 m c) (arg3 m c) := by
  refine (dats m 0 c).arrAt_eq_of_covers 4 _ (by decide +kernel) fun t hf y => ?_
  blk_simp; rw [after0_4]
  exact point m c t ((flush0_4 t).mp hf) y

/-- The kernel's norm of a row. -/
theorem kernel_norm (acc h : FVec Ideal S704x1024 .f32) (g : FVec Ideal S1x1024 .f32) (y : S704x1024.Idx) :
    k0_pay4 (F := Ideal) acc h g y = rowNorm (fun j => h (ix2 (y 0) j) + acc (ix2 (y 0) j)) (fun j => g (ix2 (0 : Fin 1) j)) (y 1) := by
  unfold rowNorm
  pointwise [k0_pay4, k0_pay3]

/-- The reference's norm of a row. -/
theorem norm_at (a0 : FVec Ideal Cert.MlpDownTwoReferenceIdeal.S4224x4096 .f32) (a1 : FVec Ideal Cert.MlpDownTwoReferenceIdeal.S2x4096x1024 .f32) (a2 : FVec Ideal Cert.MlpDownTwoReferenceIdeal.S4224x1024 .f32) (a3 : FVec Ideal Cert.MlpDownTwoReferenceIdeal.S1024 .f32) (i : Cert.MlpDownTwoReferenceIdeal.S4224x1024.Idx) :
    normed a0 a1 a2 a3 i = rowNorm (fun j => a2 (ix2 (i 0) j) + ∑ k : Fin 4096, (max (a0 (ix2 (i 0) k)) 0 * max (a0 (ix2 (i 0) k)) 0) * a1 (ix3 (0 : Fin 2) k j)) (fun j => a3 (ix1 j)) (i 1) := by
  unfold rowNorm
  pointwise [normed]

/-- The gain at entry. -/
theorem g_at (c : Dev nD) (j : Fin 1024) : V m c main_v2 (ix2 (0 : Fin 1) j) = (arg3 m c) (ix1 j) := by
  unfold V
  entry_read
  try simp -implicitDefEqProofs only [StableHlo.TRef.ofBuf, StableHlo.TRef.toBuf, cast_cast, cast_eq]
  pointwise []

/-- The block of the gain. -/
theorem g_blk (c : Dev nD) (t : Fin cfg0.N) (b : Fin 1024) :
    (show FVec Ideal S1x1024 .f32 from iblk m c 3 t) (ix2 (0 : Fin 1) b) = (arg3 m c) (ix1 b) := by
  show V m c main_v2 (((cfg0.win 3).blk t).view.emb (ix2 (0 : Fin 1) b)) = _
  rw [← g_at m c b]
  blk_ext [idx_val t]

/-- What the last point of a run writes as norms. -/
theorem point5 (c : Dev nD) (t : Fin cfg0.N) (ht : t.val % 4 = 3) (y : S704x1024.Idx) :
    (outsAt0 m c t.val t.isLt).2.1 y = normed (arg0 m c) (arg1 m c) (arg2 m c) (arg3 m c) (((cfg0.win 5).blk t).view.emb y) := by
  have e : (outsAt0 m c t.val t.isLt).2.1 y = k0_pay4 (F := Ideal) (outsAt0 m c t.val t.isLt).2.2 (iblk m c 2 t) (iblk m c 3 t) y := by
    rw [outsAt0_C m c t (by omega) ht]; frame_out
  have e0 : (((cfg0.win 5).blk t).view.emb y) = (ix2 ⟨t.val / 4 * 704 + (y 0).val, by have : t.val < 24 := t.isLt; have := (y 0).isLt; simp at this; omega⟩ (y 1) : S4224x1024.Idx) := by blk_ext [idx_val t]
  rw [e, kernel_norm, e0, norm_at]
  exact rowNorm_congr (funext fun j => congrArg₂ (fun u v : EReal => u + v) (h_blk m c t (y 0) j) (acc_at m c t ht (y 0) j)) (funext fun j => g_blk m c t j) rfl

/-- The norms after the run. -/
theorem final5 (c : Dev nD) : (dats m 0 c).arrAt 5 (cfgs 0).N = normed (arg0 m c) (arg1 m c) (arg2 m c) (arg3 m c) := by
  refine (dats m 0 c).arrAt_eq_of_covers 5 _ (by decide +kernel) fun t hf y => ?_
  blk_simp; rw [after0_5]
  exact point5 m c t ((flush0_5 t).mp hf) y

/-- The kernel and the reference end with the same arrays. -/
theorem algebraic : Cert.algebraic_MlpDownTwoIdeal_MlpDownTwoReferenceIdeal := by
  intro m g m' g' _ hargs
  refine ⟨fun c => total (arg0 m c) (arg1 m c) (arg2 m c) (arg3 m c), fun c => normed (arg0 m c) (arg1 m c) (arg2 m c) (arg3 m c),
    (θ_run (defs (F := Ideal)) _ _).mono (fun _ h c => ⟨(h.1.out_eq c 4).trans (final m c), (h.1.out_eq c 5).trans (final5 m c), h.2.1 c⟩) (θ_run_and (run_main m g) (frame m g)),
    (θ_run Cert.MlpDownTwoReferenceIdeal.defs _ _).mono (fun _ h c => ?_) (Cert.MlpDownTwoReferenceIdeal.Value.run m' g')⟩
  obtain ⟨e0, e1, e2, e3⟩ := hargs c
  exact ⟨(h c).1.trans (total_congr e0 e1 e2 e3), (h c).2.1.trans (normed_congr e0 e1 e2 e3), (h c).2.2⟩

end Cert.MlpDownTwoIdeal.Hand

end
-- ==== Proof.Mlp.MlpDownTop.lean ====
/-
  Hand-written, untrusted. The second half of the MLP, added to the residual stream.
-/
module

public import proofs.«01_k».proof.Defs
public import proofs.«01_k».proof.Proof.Gen.MlpDownTopIdeal.Frame
public import proofs.«01_k».proof.Proof.Gen.MlpDownTopReferenceIdeal.Run
public import Idealize.ShloMosaic.Lib.Pipeline.ValueKit
public import Idealize.ShloMosaic.Lib.Claim
public import Idealize.ShloMosaic.Lib.Pipeline.ReadBack

@[expose] public section

set_option maxRecDepth 16384

noncomputable section

namespace Cert.MlpDownTopReferenceIdeal.Hand

open Cert.MlpDownTopReferenceIdeal Cert.MlpDownTopReferenceIdeal.Gen
open Idealize.ShloMosaic

/-- The reference's result over its arguments. -/
def total (a0 : FVec Ideal S4224x4096 .f32) (a1 : FVec Ideal S2x4096x1024 .f32) (a2 : FVec Ideal S4224x1024 .f32) : FVec Ideal S4224x1024 .f32 :=
  addf a2 (Host.dotGeneral dot_S4224x4096_S4096x1024_S4224x1024_1_0_0_1_n_n none (mulf (maximumf a0 (broadcastInDim S4224x4096 ![] bcast_S_S4224x4096 (constant S_ .f32 0x00000000#32))) (maximumf a0 (broadcastInDim S4224x4096 ![] bcast_S_S4224x4096 (constant S_ .f32 0x00000000#32)))) (shapeCast _ (extractStridedSlice S1x4096x1024 ![1, 0, 0] a1 slices_S2x4096x1024_S1x4096x1024_1_0_0) shapeCasts_S1x4096x1024_S4096x1024))

/-- Equal arguments, equal arrays. -/
theorem total_congr {a0 b0 : FVec Ideal S4224x4096 .f32} (h0 : a0 = b0) {a1 b1 : FVec Ideal S2x4096x1024 .f32} (h1 : a1 = b1) {a2 b2 : FVec Ideal S4224x1024 .f32} (h2 : a2 = b2) :
    total a0 a1 a2 = total b0 b1 b2 := by
  subst h0; subst h1; subst h2; rfl

end Cert.MlpDownTopReferenceIdeal.Hand

namespace Cert.MlpDownTopIdeal.Hand

open Cert.MlpDownTopIdeal Cert.MlpDownTopIdeal.Gen
open Cert.MlpDownTopReferenceIdeal.Hand (total total_congr)
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- Argument 0 at the run's start. -/
abbrev arg0 (c : Dev nD) : FVec Ideal S4224x4096 .f32 := m ((c : Thread nD τ).loc main_arg0)

/-- Argument 1 at the run's start. -/
abbrev arg1 (c : Dev nD) : FVec Ideal S2x4096x1024 .f32 := m ((c : Thread nD τ).loc main_arg1)

/-- Argument 2 at the run's start. -/
abbrev arg2 (c : Dev nD) : FVec Ideal S4224x1024 .f32 := m ((c : Thread nD τ).loc main_arg2)

/-- The block of every window at every point. -/
theorem idx_val : ∀ t : Fin cfg0.N, win0_0.index t = ![t.val / 4, t.val % 4]
    ∧ win0_1.index t = ![1, t.val % 4, 0]
    ∧ win0_2.index t = ![t.val / 4, 0]
    ∧ win0_3.index t = ![t.val / 4, 0] :=
  (by decide +kernel : ∀ t : Fin grid0.N, _)

/-- The accumulator starts at zero. -/
theorem zero (j) : k0_pay1 (F := Ideal) j = 0 := by pointwise [k0_pay1]

/-- One step of the accumulation. -/
theorem step (acc : FVec Ideal S1408x1024 .f32) (x : FVec Ideal S1408x1024 .bf16) (w : FVec Ideal S1x1024x1024 .bf16) (j : S1408x1024.Idx) :
    k0_pay2 (F := Ideal) x acc w j = acc j + ∑ k : Fin 1024, (max (x (ix2 (j 0) k)) 0 * max (x (ix2 (j 0) k)) 0) * w (ix3 (0 : Fin 1) k (j 1)) := by
  pointwise [k0_pay2]

/-- The accumulator after the last point of a run: the sum over the run's points. -/
theorem run_sum (c : Dev nD) (t : Fin cfg0.N) (ht : t.val % 4 = 3) (j : S1408x1024.Idx) :
    (outsAt0 m c t.val t.isLt).2 j = (0 : EReal) + ∑ s : Fin 4, ∑ k : Fin 1024,
      (max ((show FVec Ideal S1408x1024 .bf16 from iblk m c 0 ⟨4 * (t.val / 4) + s.val, Pipeline.run_point_lt_of_flush t ht s⟩) (ix2 (j 0) k)) 0 * max ((show FVec Ideal S1408x1024 .bf16 from iblk m c 0 ⟨4 * (t.val / 4) + s.val, Pipeline.run_point_lt_of_flush t ht s⟩) (ix2 (j 0) k)) 0)
        * (show FVec Ideal S1x1024x1024 .bf16 from iblk m c 1 ⟨4 * (t.val / 4) + s.val, Pipeline.run_point_lt_of_flush t ht s⟩) (ix3 (0 : Fin 1) k (j 1)) := by
  refine Pipeline.eq_sum_fin_of_reset_step_apply_of_flush (fun n h => (outsAt0 m c n h).2) 4 (fun _ => 0)
    (fun p j => ∑ k : Fin 1024, (max ((show FVec Ideal S1408x1024 .bf16 from iblk m c 0 p) (ix2 (j 0) k)) 0 * max ((show FVec Ideal S1408x1024 .bf16 from iblk m c 0 p) (ix2 (j 0) k)) 0)
        * (show FVec Ideal S1x1024x1024 .bf16 from iblk m c 1 p) (ix3 (0 : Fin 1) k (j 1))) (fun t h j => ?_) (fun t h j => ?_) t ht j
  · dsimp only
    rw [outsAt0_A m c t h (by omega)]; frame_out; rw [step, zero]
  · dsimp only
    by_cases h' : t.val % 4 = 3
    · rw [outsAt0_C m c t h h']; frame_out; rw [step]; exact congrArg (fun z : EReal => z + _) (congrFun (read_unread_whole cc0_scratch0 _ _) j)
    · rw [outsAt0_B m c t h h']; frame_out; rw [step]; exact congrArg (fun z : EReal => z + _) (congrFun (read_unread_whole cc0_scratch0 _ _) j)

/-- The accumulator after the last point of a run: the product over all columns. -/
theorem acc_at (c : Dev nD) (t : Fin cfg0.N) (ht : t.val % 4 = 3) (a : Fin 1408) (b : Fin 1024) :
    (outsAt0 m c t.val t.isLt).2 (ix2 a b) = ∑ k : Fin 4096, (max ((arg0 m c) (ix2 ⟨t.val / 4 * 1408 + a.val, by have : t.val < 12 := t.isLt; omega⟩ k)) 0 * max ((arg0 m c) (ix2 ⟨t.val / 4 * 1408 + a.val, by have : t.val < 12 := t.isLt; omega⟩ k)) 0) * (arg1 m c) (ix3 (1 : Fin 2) k b) := by
  rw [run_sum m c t ht, zero_add]
  refine Fin.sum_mul_add_congr fun s k hl => ?_
  blk_point [iblk, V, idx_val ⟨4 * (t.val / 4) + s.val, Pipeline.run_point_lt_of_flush t ht s⟩]

/-- A block of the residual stream. -/
theorem h_blk (c : Dev nD) (t : Fin cfg0.N) (a : Fin 1408) (b : Fin 1024) :
    (show FVec Ideal S1408x1024 .f32 from iblk m c 2 t) (ix2 a b) = (arg2 m c) (ix2 ⟨t.val / 4 * 1408 + a.val, by have : t.val < 12 := t.isLt; omega⟩ b) := by
  blk_point [iblk, V, idx_val t]

/-- The reference's sum, entry by entry. -/
theorem sum_at (a0 : FVec Ideal Cert.MlpDownTopReferenceIdeal.S4224x4096 .f32) (a1 : FVec Ideal Cert.MlpDownTopReferenceIdeal.S2x4096x1024 .f32) (a2 : FVec Ideal Cert.MlpDownTopReferenceIdeal.S4224x1024 .f32) (i : Cert.MlpDownTopReferenceIdeal.S4224x1024.Idx) :
    total a0 a1 a2 i = a2 i + ∑ k : Fin 4096, (max (a0 (ix2 (i 0) k)) 0 * max (a0 (ix2 (i 0) k)) 0) * a1 (ix3 (1 : Fin 2) k (i 1)) := by
  pointwise [total]

/-- The kernel's sum, entry by entry. -/
theorem out_at (acc h : FVec Ideal S1408x1024 .f32) (y : S1408x1024.Idx) :
    k0_pay3 (F := Ideal) acc h y = h (ix2 (y 0) (y 1)) + acc (ix2 (y 0) (y 1)) := by
  obtain ⟨a, b, rfl⟩ : ∃ (a : Fin 1408) (b : Fin 1024), y = ix2 a b := ⟨y 0, y 1, by blk_ext⟩
  pointwise [k0_pay3]

/-- What the last point of a run writes. -/
theorem point (c : Dev nD) (t : Fin cfg0.N) (ht : t.val % 4 = 3) (y : S1408x1024.Idx) :
    (outsAt0 m c t.val t.isLt).1 y = total (arg0 m c) (arg1 m c) (arg2 m c) (((cfg0.win 3).blk t).view.emb y) := by
  have e : (outsAt0 m c t.val t.isLt).1 y = k0_pay3 (F := Ideal) (outsAt0 m c t.val t.isLt).2 (iblk m c 2 t) y := by
    rw [outsAt0_C m c t (by omega) ht]; frame_out
  have e0 : (((cfg0.win 3).blk t).view.emb y) = (ix2 ⟨t.val / 4 * 1408 + (y 0).val, by have : t.val < 12 := t.isLt; have := (y 0).isLt; simp at this; omega⟩ (y 1) : S4224x1024.Idx) := by blk_ext [idx_val t]
  rw [e, out_at, e0, sum_at]
  exact congrArg₂ (fun u v : EReal => u + v) (h_blk m c t (y 0) (y 1)) (acc_at m c t ht (y 0) (y 1))

/-- The array after the run. -/
theorem final (c : Dev nD) : (dats m 0 c).arrAt 3 (cfgs 0).N = total (arg0 m c) (arg1 m c) (arg2 m c) := by
  refine (dats m 0 c).arrAt_eq_of_covers 3 _ (by decide +kernel) fun t hf y => ?_
  blk_simp; rw [after0_3]
  exact point m c t ((flush0_3 t).mp hf) y

/-- The kernel and the reference end with the same arrays. -/
theorem algebraic : Cert.algebraic_MlpDownTopIdeal_MlpDownTopReferenceIdeal := by
  intro m g m' g' _ hargs
  refine ⟨fun c => total (arg0 m c) (arg1 m c) (arg2 m c),
    (θ_run (defs (F := Ideal)) _ _).mono (fun _ h c => ⟨(h.1.out_eq c 3).trans (final m c), h.2.1 c⟩) (θ_run_and (run_main m g) (frame m g)),
    (θ_run Cert.MlpDownTopReferenceIdeal.defs _ _).mono (fun _ h c => ?_) (Cert.MlpDownTopReferenceIdeal.Value.run m' g')⟩
  obtain ⟨e0, e1, e2⟩ := hargs c
  exact ⟨(h c).1.trans (total_congr e0 e1 e2), (h c).2⟩

end Cert.MlpDownTopIdeal.Hand

end
-- ==== Proof.Mlp.UpDwTop.lean ====
/-
  Hand-written, untrusted. The gradient of the first matrix of layer 3's MLP.
-/
module

public import proofs.«01_k».proof.Defs
public import proofs.«01_k».proof.Proof.Gen.UpDwTopIdeal.Frame
public import proofs.«01_k».proof.Proof.Gen.UpDwTopReferenceIdeal.Run
public import Idealize.ShloMosaic.Lib.Pipeline.ValueKit
public import Idealize.ShloMosaic.Lib.Claim
public import Idealize.ShloMosaic.Lib.Pipeline.ReadBack

@[expose] public section

set_option maxRecDepth 16384

noncomputable section

namespace Cert.UpDwTopReferenceIdeal.Hand

open Cert.UpDwTopReferenceIdeal Cert.UpDwTopReferenceIdeal.Gen
open Idealize.ShloMosaic

/-- The reference's gradient over its arguments. -/
def grad (a0 : FVec Ideal S4224x1024 .f32) (a1 : FVec Ideal S4224x4096 .f32) : FVec Ideal S1024x4096 .f32 :=
  transpose S1024x4096 [1, 0] (Host.dotGeneral dot_S4224x4096_S4224x1024_S4096x1024_0_0_1_1_n_n none a1 a0) transposes_S4096x1024_S1024x4096_1_0

/-- Equal arguments, equal arrays. -/
theorem grad_congr {a0 b0 : FVec Ideal S4224x1024 .f32} (h0 : a0 = b0) {a1 b1 : FVec Ideal S4224x4096 .f32} (h1 : a1 = b1) :
    grad a0 a1 = grad b0 b1 := by
  subst h0; subst h1; rfl

end Cert.UpDwTopReferenceIdeal.Hand

namespace Cert.UpDwTopIdeal.Hand

open Cert.UpDwTopIdeal Cert.UpDwTopIdeal.Gen
open Cert.UpDwTopReferenceIdeal.Hand (grad grad_congr)
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- Argument 0 at the run's start. -/
abbrev arg0 (c : Dev nD) : FVec Ideal S4224x1024 .f32 := m ((c : Thread nD τ).loc main_arg0)

/-- Argument 1 at the run's start. -/
abbrev arg1 (c : Dev nD) : FVec Ideal S4224x4096 .f32 := m ((c : Thread nD τ).loc main_arg1)

/-- The block of every window at every point. -/
theorem idx_val : ∀ t : Fin cfg0.N, win0_0.index t = ![t.val % 3, 0] ∧ win0_1.index t = ![t.val % 3, t.val / 3] ∧ win0_2.index t = ![1, 0, t.val / 3] :=
  (by decide +kernel : ∀ t : Fin grid0.N, _)

/-- The accumulator starts at zero. -/
theorem zero (j) : k0_pay1 (F := Ideal) j = 0 := by pointwise [k0_pay1]

/-- One step of the accumulation. -/
theorem step (acc : FVec Ideal S1024x1024 .f32) (x : FVec Ideal S1408x1024 .bf16) (d : FVec Ideal S1408x1024 .bf16) (j : S1024x1024.Idx) :
    k0_pay2 (F := Ideal) x acc d j = acc j + ∑ k : Fin 1408, x (ix2 k (j 0)) * d (ix2 k (j 1)) := by
  pointwise [k0_pay2]

/-- What is written back is the accumulator, under a slab axis. -/
theorem out_at (acc : FVec Ideal S1024x1024 .f32) (y : S1x1024x1024.Idx) : k0_pay3 (F := Ideal) acc y = acc (ix2 (y 1) (y 2)) := by
  pointwise [k0_pay3]
  blk_ext

/-- The reference's gradient, entry by entry. -/
theorem grad_at (a0 : FVec Ideal Cert.UpDwTopReferenceIdeal.S4224x1024 .f32) (a1 : FVec Ideal Cert.UpDwTopReferenceIdeal.S4224x4096 .f32) (i : Cert.UpDwTopReferenceIdeal.S1024x4096.Idx) :
    grad a0 a1 i = ∑ k : Fin 4224, a0 (ix2 k (i 0)) * a1 (ix2 k (i 1)) := by
  pointwise [grad]
  exact Finset.sum_congr rfl fun _ _ => mul_comm _ _

/-- The accumulator after the last point of a run: the sum over the run's points. -/
theorem run_sum (c : Dev nD) (t : Fin cfg0.N) (ht : t.val % 3 = 2) (j : S1024x1024.Idx) :
    (outsAt0 m c t.val t.isLt).2 j = (0 : EReal) + ∑ s : Fin 3, ∑ k : Fin 1408,
      (show FVec Ideal S1408x1024 .bf16 from iblk m c 0 ⟨3 * (t.val / 3) + s.val, Pipeline.run_point_lt_of_flush t ht s⟩) (ix2 k (j 0))
        * (show FVec Ideal S1408x1024 .bf16 from iblk m c 1 ⟨3 * (t.val / 3) + s.val, Pipeline.run_point_lt_of_flush t ht s⟩) (ix2 k (j 1)) := by
  refine Pipeline.eq_sum_fin_of_reset_step_apply_of_flush (fun n h => (outsAt0 m c n h).2) 3 (fun _ => 0)
    (fun p j => ∑ k : Fin 1408, (show FVec Ideal S1408x1024 .bf16 from iblk m c 0 p) (ix2 k (j 0))
        * (show FVec Ideal S1408x1024 .bf16 from iblk m c 1 p) (ix2 k (j 1))) (fun t h j => ?_) (fun t h j => ?_) t ht j
  · dsimp only
    rw [outsAt0_A m c t h (by omega)]; frame_out; rw [step, zero]
  · dsimp only
    by_cases h' : t.val % 3 = 2
    · rw [outsAt0_C m c t h h']; frame_out; rw [step]; exact congrArg (fun z : EReal => z + _) (congrFun (read_unread_whole cc0_scratch0 _ _) j)
    · rw [outsAt0_B m c t h h']; frame_out; rw [step]; exact congrArg (fun z : EReal => z + _) (congrFun (read_unread_whole cc0_scratch0 _ _) j)

/-- The gradient, under a slab axis. -/
def both (a0 : FVec Ideal S4224x1024 .f32) (a1 : FVec Ideal S4224x4096 .f32) : FVec Ideal S2x1024x4096 .f32 :=
  fun i => ∑ k : Fin 4224, a0 (ix2 k (i 1)) * a1 (ix2 k (i 2))

/-- What a run leaves in the buffer that is written back. -/
theorem written (c : Dev nD) (t : Fin cfg0.N) (ht : t.val % 3 = 2) (y : S1x1024x1024.Idx) :
    (outsAt0 m c t.val t.isLt).1 y = (outsAt0 m c t.val t.isLt).2 (ix2 (y 1) (y 2)) := by
  rw [outsAt0_C m c t (by omega) ht]; frame_out; rw [out_at]

/-- What the last point of a run writes. -/
theorem point (c : Dev nD) (t : Fin cfg0.N) (ht : t.val % 3 = 2) (y : S1x1024x1024.Idx) :
    (outsAt0 m c t.val t.isLt).1 y = (both (arg0 m c) (arg1 m c)) (((cfg0.win 2).blk t).view.emb y) := by
  rw [written m c t ht, run_sum m c t ht, zero_add]
  unfold both
  refine Fin.sum_mul_add_congr fun s k hl => ?_
  blk_point [iblk, V, idx_val ⟨3 * (t.val / 3) + s.val, Pipeline.run_point_lt_of_flush t ht s⟩, idx_val t]

/-- The second slab after the run. -/
theorem slab (c : Dev nD) (i : S1024x4096.Idx) : (show FVec Ideal S2x1024x4096 .f32 from (dats m 0 c).arrAt 2 (cfgs 0).N) (ix3 (1 : Fin 2) (i 0) (i 1))
    = grad (arg0 m c) (arg1 m c) i := by
  refine ((dats m 0 c).arrAt_apply_of_coversWhere 2 (both (arg0 m c) (arg1 m c)) (fun β => β (0 : Fin 3) = 1) (P := fun i => (i (0 : Fin 3) : ℕ) / 1 = 1) (by decide +kernel) (fun t hf y => ?_) (fun j => Iff.rfl) (ix3 (1 : Fin 2) (i 0) (i 1))).trans ?_
  · blk_simp; rw [after0_2]
    exact point m c t ((flush0_2 t).mp hf) y
  · refine (if_pos (show ((1 : Fin 2) : ℕ) / 1 = 1 from rfl)).trans ?_
    rw [grad_at]; rfl

/-- The result: the slab, read by the lines after the call. -/
theorem final (c : Dev nD) : Pipeline.afterTail₀ cfgs (dats m) 0 (V0 m) [hostOps1] c main_v4 = grad (arg0 m c) (arg1 m c) := by
  have hw : Pipeline.withArrays (cfgs 0).spec c (V0 m c) (fun w => (dats m 0 c).arrAt w (cfgs 0).N) (Proc.devRef .tc main_v2) = (dats m 0 c).arrAt 2 (cfgs 0).N :=
    Pipeline.withArrays_arr (cfgs 0).spec (by decide +kernel) c (V0 m c) _ 2
  unfold Pipeline.afterTail₀
  simp only [hostOps1, List.flatten_cons, List.flatten_nil, List.append_nil]
  entry_read
  rw [hw]
  funext i
  rw [← slab m c i]
  pointwise []

/-- The kernel and the reference end with the same arrays. -/
theorem algebraic : Cert.algebraic_UpDwTopIdeal_UpDwTopReferenceIdeal := by
  intro m g m' g' _ hargs
  refine ⟨fun c => grad (arg0 m c) (arg1 m c),
    (θ_run (defs (F := Ideal)) _ _).mono (fun _ h c => ⟨(h.1.rest_eq c main_v4 (by decide +kernel)).trans (final m c), h.2.1 c⟩) (θ_run_and (run_main m g) (frame m g)),
    (θ_run Cert.UpDwTopReferenceIdeal.defs _ _).mono (fun _ h c => ?_) (Cert.UpDwTopReferenceIdeal.Value.run m' g')⟩
  obtain ⟨e0, e1⟩ := hargs c
  exact ⟨(h c).1.trans (grad_congr e0 e1), (h c).2⟩

end Cert.UpDwTopIdeal.Hand

end
-- ==== Proof.Mlp.DownDwTop.lean ====
/-
  Hand-written, untrusted. The gradient of the second matrix of layer 3's MLP.
-/
module

public import proofs.«01_k».proof.Defs
public import proofs.«01_k».proof.Proof.Gen.DownDwTopIdeal.Frame
public import proofs.«01_k».proof.Proof.Gen.DownDwTopReferenceIdeal.Run
public import Idealize.ShloMosaic.Lib.Pipeline.ValueKit
public import Idealize.ShloMosaic.Lib.Claim
public import Idealize.ShloMosaic.Lib.Pipeline.ReadBack

@[expose] public section

set_option maxRecDepth 16384

noncomputable section

namespace Cert.DownDwTopReferenceIdeal.Hand

open Cert.DownDwTopReferenceIdeal Cert.DownDwTopReferenceIdeal.Gen
open Idealize.ShloMosaic

/-- The reference's gradient over its arguments. -/
def grad (a0 : FVec Ideal S4224x4096 .f32) (a1 : FVec Ideal S4224x1024 .f32) : FVec Ideal S4096x1024 .f32 :=
  transpose S4096x1024 [1, 0] (Host.dotGeneral dot_S4224x1024_S4224x4096_S1024x4096_0_0_1_1_n_n none a1 (mulf (maximumf a0 (broadcastInDim S4224x4096 ![] bcast_S_S4224x4096 (constant S_ .f32 0x00000000#32))) (maximumf a0 (broadcastInDim S4224x4096 ![] bcast_S_S4224x4096 (constant S_ .f32 0x00000000#32))))) transposes_S1024x4096_S4096x1024_1_0

/-- Equal arguments, equal arrays. -/
theorem grad_congr {a0 b0 : FVec Ideal S4224x4096 .f32} (h0 : a0 = b0) {a1 b1 : FVec Ideal S4224x1024 .f32} (h1 : a1 = b1) :
    grad a0 a1 = grad b0 b1 := by
  subst h0; subst h1; rfl

end Cert.DownDwTopReferenceIdeal.Hand

namespace Cert.DownDwTopIdeal.Hand

open Cert.DownDwTopIdeal Cert.DownDwTopIdeal.Gen
open Cert.DownDwTopReferenceIdeal.Hand (grad grad_congr)
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- Argument 0 at the run's start. -/
abbrev arg0 (c : Dev nD) : FVec Ideal S4224x4096 .f32 := m ((c : Thread nD τ).loc main_arg0)

/-- Argument 1 at the run's start. -/
abbrev arg1 (c : Dev nD) : FVec Ideal S4224x1024 .f32 := m ((c : Thread nD τ).loc main_arg1)

/-- The block of every window at every point. -/
theorem idx_val : ∀ t : Fin cfg0.N, win0_0.index t = ![t.val % 3, t.val / 3] ∧ win0_1.index t = ![t.val % 3, 0] ∧ win0_2.index t = ![1, t.val / 3, 0] :=
  (by decide +kernel : ∀ t : Fin grid0.N, _)

/-- The accumulator starts at zero. -/
theorem zero (j) : k0_pay1 (F := Ideal) j = 0 := by pointwise [k0_pay1]

/-- One step of the accumulation. -/
theorem step (acc : FVec Ideal S1024x1024 .f32) (x : FVec Ideal S1408x1024 .bf16) (d : FVec Ideal S1408x1024 .f32) (j : S1024x1024.Idx) :
    k0_pay2 (F := Ideal) x acc d j = acc j + ∑ k : Fin 1408, (max (x (ix2 k (j 0))) 0 * max (x (ix2 k (j 0))) 0) * d (ix2 k (j 1)) := by
  pointwise [k0_pay2]

/-- What is written back is the accumulator, under a slab axis. -/
theorem out_at (acc : FVec Ideal S1024x1024 .f32) (y : S1x1024x1024.Idx) : k0_pay3 (F := Ideal) acc y = acc (ix2 (y 1) (y 2)) := by
  pointwise [k0_pay3]
  blk_ext

/-- The reference's gradient, entry by entry. -/
theorem grad_at (a0 : FVec Ideal Cert.DownDwTopReferenceIdeal.S4224x4096 .f32) (a1 : FVec Ideal Cert.DownDwTopReferenceIdeal.S4224x1024 .f32) (i : Cert.DownDwTopReferenceIdeal.S4096x1024.Idx) :
    grad a0 a1 i = ∑ k : Fin 4224, (max (a0 (ix2 k (i 0))) 0 * max (a0 (ix2 k (i 0))) 0) * a1 (ix2 k (i 1)) := by
  pointwise [grad]
  exact Finset.sum_congr rfl fun _ _ => mul_comm _ _

/-- The accumulator after the last point of a run: the sum over the run's points. -/
theorem run_sum (c : Dev nD) (t : Fin cfg0.N) (ht : t.val % 3 = 2) (j : S1024x1024.Idx) :
    (outsAt0 m c t.val t.isLt).2 j = (0 : EReal) + ∑ s : Fin 3, ∑ k : Fin 1408,
      (max ((show FVec Ideal S1408x1024 .bf16 from iblk m c 0 ⟨3 * (t.val / 3) + s.val, Pipeline.run_point_lt_of_flush t ht s⟩) (ix2 k (j 0))) 0 * max ((show FVec Ideal S1408x1024 .bf16 from iblk m c 0 ⟨3 * (t.val / 3) + s.val, Pipeline.run_point_lt_of_flush t ht s⟩) (ix2 k (j 0))) 0)
        * (show FVec Ideal S1408x1024 .f32 from iblk m c 1 ⟨3 * (t.val / 3) + s.val, Pipeline.run_point_lt_of_flush t ht s⟩) (ix2 k (j 1)) := by
  refine Pipeline.eq_sum_fin_of_reset_step_apply_of_flush (fun n h => (outsAt0 m c n h).2) 3 (fun _ => 0)
    (fun p j => ∑ k : Fin 1408, (max ((show FVec Ideal S1408x1024 .bf16 from iblk m c 0 p) (ix2 k (j 0))) 0 * max ((show FVec Ideal S1408x1024 .bf16 from iblk m c 0 p) (ix2 k (j 0))) 0)
        * (show FVec Ideal S1408x1024 .f32 from iblk m c 1 p) (ix2 k (j 1))) (fun t h j => ?_) (fun t h j => ?_) t ht j
  · dsimp only
    rw [outsAt0_A m c t h (by omega)]; frame_out; rw [step, zero]
  · dsimp only
    by_cases h' : t.val % 3 = 2
    · rw [outsAt0_C m c t h h']; frame_out; rw [step]; exact congrArg (fun z : EReal => z + _) (congrFun (read_unread_whole cc0_scratch0 _ _) j)
    · rw [outsAt0_B m c t h h']; frame_out; rw [step]; exact congrArg (fun z : EReal => z + _) (congrFun (read_unread_whole cc0_scratch0 _ _) j)

/-- The gradient, under a slab axis. -/
def both (a0 : FVec Ideal S4224x4096 .f32) (a1 : FVec Ideal S4224x1024 .f32) : FVec Ideal S2x4096x1024 .f32 :=
  fun i => ∑ k : Fin 4224, (max (a0 (ix2 k (i 1))) 0 * max (a0 (ix2 k (i 1))) 0) * a1 (ix2 k (i 2))

/-- What a run leaves in the buffer that is written back. -/
theorem written (c : Dev nD) (t : Fin cfg0.N) (ht : t.val % 3 = 2) (y : S1x1024x1024.Idx) :
    (outsAt0 m c t.val t.isLt).1 y = (outsAt0 m c t.val t.isLt).2 (ix2 (y 1) (y 2)) := by
  rw [outsAt0_C m c t (by omega) ht]; frame_out; rw [out_at]

/-- What the last point of a run writes. -/
theorem point (c : Dev nD) (t : Fin cfg0.N) (ht : t.val % 3 = 2) (y : S1x1024x1024.Idx) :
    (outsAt0 m c t.val t.isLt).1 y = (both (arg0 m c) (arg1 m c)) (((cfg0.win 2).blk t).view.emb y) := by
  rw [written m c t ht, run_sum m c t ht, zero_add]
  unfold both
  refine Fin.sum_mul_add_congr fun s k hl => ?_
  blk_point [iblk, V, idx_val ⟨3 * (t.val / 3) + s.val, Pipeline.run_point_lt_of_flush t ht s⟩, idx_val t]

/-- The second slab after the run. -/
theorem slab (c : Dev nD) (i : S4096x1024.Idx) : (show FVec Ideal S2x4096x1024 .f32 from (dats m 0 c).arrAt 2 (cfgs 0).N) (ix3 (1 : Fin 2) (i 0) (i 1))
    = grad (arg0 m c) (arg1 m c) i := by
  refine ((dats m 0 c).arrAt_apply_of_coversWhere 2 (both (arg0 m c) (arg1 m c)) (fun β => β (0 : Fin 3) = 1) (P := fun i => (i (0 : Fin 3) : ℕ) / 1 = 1) (by decide +kernel) (fun t hf y => ?_) (fun j => Iff.rfl) (ix3 (1 : Fin 2) (i 0) (i 1))).trans ?_
  · blk_simp; rw [after0_2]
    exact point m c t ((flush0_2 t).mp hf) y
  · refine (if_pos (show ((1 : Fin 2) : ℕ) / 1 = 1 from rfl)).trans ?_
    rw [grad_at]; rfl

/-- The result: the slab, read by the lines after the call. -/
theorem final (c : Dev nD) : Pipeline.afterTail₀ cfgs (dats m) 0 (V0 m) [hostOps1] c main_v3 = grad (arg0 m c) (arg1 m c) := by
  have hw : Pipeline.withArrays (cfgs 0).spec c (V0 m c) (fun w => (dats m 0 c).arrAt w (cfgs 0).N) (Proc.devRef .tc main_v1) = (dats m 0 c).arrAt 2 (cfgs 0).N :=
    Pipeline.withArrays_arr (cfgs 0).spec (by decide +kernel) c (V0 m c) _ 2
  unfold Pipeline.afterTail₀
  simp only [hostOps1, List.flatten_cons, List.flatten_nil, List.append_nil]
  entry_read
  rw [hw]
  funext i
  rw [← slab m c i]
  pointwise []

/-- The kernel and the reference end with the same arrays. -/
theorem algebraic : Cert.algebraic_DownDwTopIdeal_DownDwTopReferenceIdeal := by
  intro m g m' g' _ hargs
  refine ⟨fun c => grad (arg0 m c) (arg1 m c),
    (θ_run (defs (F := Ideal)) _ _).mono (fun _ h c => ⟨(h.1.rest_eq c main_v3 (by decide +kernel)).trans (final m c), h.2.1 c⟩) (θ_run_and (run_main m g) (frame m g)),
    (θ_run Cert.DownDwTopReferenceIdeal.defs _ _).mono (fun _ h c => ?_) (Cert.DownDwTopReferenceIdeal.Value.run m' g')⟩
  obtain ⟨e0, e1⟩ := hargs c
  exact ⟨(h c).1.trans (grad_congr e0 e1), (h c).2⟩

end Cert.DownDwTopIdeal.Hand

end
-- ==== Proof.lean ====
module

public import proofs.«01_k».proof.Defs
public import proofs.«01_k».proof.Proof.Kernel.Launch
public import proofs.«01_k».proof.Proof.KernelIdeal.Launch
public import proofs.«01_k».proof.Proof.Value.Agree
public import proofs.«01_k».proof.Proof.Mlp.Dx
public import proofs.«01_k».proof.Proof.Gen.DownDx.Frame
public import proofs.«01_k».proof.Proof.Gen.DownDx
public import proofs.«01_k».proof.Proof.Gen.DownDxIdeal
public import proofs.«01_k».proof.Proof.Gen.DownDxReferenceIdeal
public import proofs.«01_k».proof.Proof.Mlp.Dw
public import proofs.«01_k».proof.Proof.Gen.DownDw.Frame
public import proofs.«01_k».proof.Proof.Gen.DownDw
public import proofs.«01_k».proof.Proof.Gen.DownDwIdeal
public import proofs.«01_k».proof.Proof.Gen.DownDwReferenceIdeal
public import proofs.«01_k».proof.Proof.Mlp.UpDx
public import proofs.«01_k».proof.Proof.Gen.UpDx.Frame
public import proofs.«01_k».proof.Proof.Gen.UpDx
public import proofs.«01_k».proof.Proof.Gen.UpDxIdeal
public import proofs.«01_k».proof.Proof.Gen.UpDxReferenceIdeal
public import proofs.«01_k».proof.Proof.Mlp.UpDxOne
public import proofs.«01_k».proof.Proof.Gen.UpDxOne.Frame
public import proofs.«01_k».proof.Proof.Gen.UpDxOne
public import proofs.«01_k».proof.Proof.Gen.UpDxOneIdeal
public import proofs.«01_k».proof.Proof.Gen.UpDxOneReferenceIdeal
public import proofs.«01_k».proof.Proof.Mlp.UpDxTop
public import proofs.«01_k».proof.Proof.Gen.UpDxTop.Frame
public import proofs.«01_k».proof.Proof.Gen.UpDxTop
public import proofs.«01_k».proof.Proof.Gen.UpDxTopIdeal
public import proofs.«01_k».proof.Proof.Gen.UpDxTopReferenceIdeal
public import proofs.«01_k».proof.Proof.Mlp.UpDw
public import proofs.«01_k».proof.Proof.Gen.UpDw.Frame
public import proofs.«01_k».proof.Proof.Gen.UpDw
public import proofs.«01_k».proof.Proof.Gen.UpDwIdeal
public import proofs.«01_k».proof.Proof.Gen.UpDwReferenceIdeal
public import proofs.«01_k».proof.Proof.Mlp.DownDxOne
public import proofs.«01_k».proof.Proof.Gen.DownDxOne.Frame
public import proofs.«01_k».proof.Proof.Gen.DownDxOne
public import proofs.«01_k».proof.Proof.Gen.DownDxOneIdeal
public import proofs.«01_k».proof.Proof.Gen.DownDxOneReferenceIdeal
public import proofs.«01_k».proof.Proof.Mlp.DownDxTwo
public import proofs.«01_k».proof.Proof.Gen.DownDxTwo.Frame
public import proofs.«01_k».proof.Proof.Gen.DownDxTwo
public import proofs.«01_k».proof.Proof.Gen.DownDxTwoIdeal
public import proofs.«01_k».proof.Proof.Gen.DownDxTwoReferenceIdeal
public import proofs.«01_k».proof.Proof.Mlp.InDx
public import proofs.«01_k».proof.Proof.Gen.InDx.Frame
public import proofs.«01_k».proof.Proof.Gen.InDx
public import proofs.«01_k».proof.Proof.Gen.InDxIdeal
public import proofs.«01_k».proof.Proof.Gen.InDxReferenceIdeal
public import proofs.«01_k».proof.Proof.Mlp.InDw
public import proofs.«01_k».proof.Proof.Gen.InDw.Frame
public import proofs.«01_k».proof.Proof.Gen.InDw
public import proofs.«01_k».proof.Proof.Gen.InDwIdeal
public import proofs.«01_k».proof.Proof.Gen.InDwReferenceIdeal
public import proofs.«01_k».proof.Proof.Mlp.OutDw
public import proofs.«01_k».proof.Proof.Gen.OutDw.Frame
public import proofs.«01_k».proof.Proof.Gen.OutDw
public import proofs.«01_k».proof.Proof.Gen.OutDwIdeal
public import proofs.«01_k».proof.Proof.Gen.OutDwReferenceIdeal
public import proofs.«01_k».proof.Proof.Mlp.OutDx
public import proofs.«01_k».proof.Proof.Gen.OutDx.Frame
public import proofs.«01_k».proof.Proof.Gen.OutDx
public import proofs.«01_k».proof.Proof.Gen.OutDxIdeal
public import proofs.«01_k».proof.Proof.Gen.OutDxReferenceIdeal
public import proofs.«01_k».proof.Proof.Mlp.SsdIn
public import proofs.«01_k».proof.Proof.Gen.SsdIn.Frame
public import proofs.«01_k».proof.Proof.Gen.SsdIn
public import proofs.«01_k».proof.Proof.Gen.SsdInIdeal
public import proofs.«01_k».proof.Proof.Gen.SsdInReferenceIdeal
public import proofs.«01_k».proof.Proof.Mlp.SsdOut
public import proofs.«01_k».proof.Proof.Gen.SsdOut.Frame
public import proofs.«01_k».proof.Proof.Gen.SsdOut
public import proofs.«01_k».proof.Proof.Gen.SsdOutIdeal
public import proofs.«01_k».proof.Proof.Gen.SsdOutReferenceIdeal
public import proofs.«01_k».proof.Proof.Mlp.MlpUpOne
public import proofs.«01_k».proof.Proof.Gen.MlpUpOne.Frame
public import proofs.«01_k».proof.Proof.Gen.MlpUpOne
public import proofs.«01_k».proof.Proof.Gen.MlpUpOneIdeal
public import proofs.«01_k».proof.Proof.Gen.MlpUpOneReferenceIdeal
public import proofs.«01_k».proof.Proof.Mlp.MlpUpTwo
public import proofs.«01_k».proof.Proof.Gen.MlpUpTwo.Frame
public import proofs.«01_k».proof.Proof.Gen.MlpUpTwo
public import proofs.«01_k».proof.Proof.Gen.MlpUpTwoIdeal
public import proofs.«01_k».proof.Proof.Gen.MlpUpTwoReferenceIdeal
public import proofs.«01_k».proof.Proof.Mlp.MlpUpTop
public import proofs.«01_k».proof.Proof.Gen.MlpUpTop.Frame
public import proofs.«01_k».proof.Proof.Gen.MlpUpTop
public import proofs.«01_k».proof.Proof.Gen.MlpUpTopIdeal
public import proofs.«01_k».proof.Proof.Gen.MlpUpTopReferenceIdeal
public import proofs.«01_k».proof.Proof.Mlp.MlpDownOne
public import proofs.«01_k».proof.Proof.Gen.MlpDownOne.Frame
public import proofs.«01_k».proof.Proof.Gen.MlpDownOne
public import proofs.«01_k».proof.Proof.Gen.MlpDownOneIdeal
public import proofs.«01_k».proof.Proof.Gen.MlpDownOneReferenceIdeal
public import proofs.«01_k».proof.Proof.Mlp.MlpDownTwo
public import proofs.«01_k».proof.Proof.Gen.MlpDownTwo.Frame
public import proofs.«01_k».proof.Proof.Gen.MlpDownTwo
public import proofs.«01_k».proof.Proof.Gen.MlpDownTwoIdeal
public import proofs.«01_k».proof.Proof.Gen.MlpDownTwoReferenceIdeal
public import proofs.«01_k».proof.Proof.Mlp.MlpDownTop
public import proofs.«01_k».proof.Proof.Gen.MlpDownTop.Frame
public import proofs.«01_k».proof.Proof.Gen.MlpDownTop
public import proofs.«01_k».proof.Proof.Gen.MlpDownTopIdeal
public import proofs.«01_k».proof.Proof.Gen.MlpDownTopReferenceIdeal
public import proofs.«01_k».proof.Proof.Mlp.UpDwTop
public import proofs.«01_k».proof.Proof.Gen.UpDwTop.Frame
public import proofs.«01_k».proof.Proof.Gen.UpDwTop
public import proofs.«01_k».proof.Proof.Gen.UpDwTopIdeal
public import proofs.«01_k».proof.Proof.Gen.UpDwTopReferenceIdeal
public import proofs.«01_k».proof.Proof.Mlp.DownDwTop
public import proofs.«01_k».proof.Proof.Gen.DownDwTop.Frame
public import proofs.«01_k».proof.Proof.Gen.DownDwTop
public import proofs.«01_k».proof.Proof.Gen.DownDwTopIdeal
public import proofs.«01_k».proof.Proof.Gen.DownDwTopReferenceIdeal
public import proofs.«01_k».proof.Proof.Gen.ReferenceIdeal.Run
public import proofs.«01_k».proof.Proof.Gen.ReferenceIdeal

@[expose] public section

noncomputable section

namespace Cert.Proof

open Idealize.ShloMosaic Idealize.SL.Sem

/-- The kernel's run at the machine's floats: it terminates, the arguments end as they began, every counter is zero. -/
theorem quiescent_kernel : Cert.quiescent_Kernel := fun m g _ => Cert.Kernel.Hand.frame m g

/-- The same of the program with the named constants. -/
theorem quiescent_ideal : Cert.quiescent_KernelIdeal := fun m g _ => Cert.KernelIdeal.Hand.frame m g

/-- The same of the reference, a list of host operations: it declares no counter. -/
theorem quiescent_reference : Cert.quiescent_ReferenceIdeal := fun m g _ =>
  (θ_run Cert.ReferenceIdeal.defs _ _).mono (fun r h => ⟨fun c => (h c).2.2.2,
    Idealize.ShloMosaic.sem_eq_zero_of_no_sems (by decide) r.2⟩) (Cert.ReferenceIdeal.Value.run m g)

/-- The three named constants have the values the table gives them. -/
theorem preserves : Cert.preserves_Kernel_KernelIdeal :=
  ⟨IdealRules.named_const.statement Cert.KernelIdeal.κ "log2e" .f32 _ _ rfl,
   IdealRules.named_const.statement Cert.KernelIdeal.κ "exp2_scale" .f32 _ _ rfl,
   IdealRules.named_const.statement Cert.KernelIdeal.κ "scale" .f32 _ _ rfl⟩

/-- The claims made under the precondition follow from those made without it. -/
theorem quiescent_ideal_pre : Cert.quiescent_KernelIdeal_pre_finite (hPre_finite := Cert.Pre_finite.Hand.facts) := fun m g _ => Cert.KernelIdeal.Hand.frame m g

/-- The same of the reference. -/
theorem quiescent_reference_pre : Cert.quiescent_ReferenceIdeal_pre_finite (hPre_finite := Cert.Pre_finite.Hand.facts) := fun m g _ =>
  quiescent_reference m g trivial

/-- The run of the gradient of layer 3's squared ReLU, at the machine's floats. -/
theorem quiescent_downDx : Cert.quiescent_DownDx := fun m g _ => Cert.DownDx.Gen.frame m g

/-- The same in the extended reals. -/
theorem quiescent_downDx_ideal : Cert.quiescent_DownDxIdeal := fun m g _ => Cert.DownDxIdeal.Gen.frame m g

/-- The same of its reference. -/
theorem quiescent_downDx_reference : Cert.quiescent_DownDxReferenceIdeal := fun m g _ =>
  (θ_run Cert.DownDxReferenceIdeal.defs _ _).mono (fun r h => ⟨fun c => (h c).2,
    Idealize.ShloMosaic.sem_eq_zero_of_no_sems (by decide) r.2⟩) (Cert.DownDxReferenceIdeal.Value.run m g)

/-- The run of the gradient of layer 2's second MLP matrix, at the machine's floats. -/
theorem quiescent_downDw : Cert.quiescent_DownDw := fun m g _ => Cert.DownDw.Gen.frame m g

/-- The same in the extended reals. -/
theorem quiescent_downDw_ideal : Cert.quiescent_DownDwIdeal := fun m g _ => Cert.DownDwIdeal.Gen.frame m g

/-- The same of its reference. -/
theorem quiescent_downDw_reference : Cert.quiescent_DownDwReferenceIdeal := fun m g _ =>
  (θ_run Cert.DownDwReferenceIdeal.defs _ _).mono (fun r h => ⟨fun c => (h c).2,
    Idealize.ShloMosaic.sem_eq_zero_of_no_sems (by decide) r.2⟩) (Cert.DownDwReferenceIdeal.Value.run m g)

/-- The run of the gradient through layer 2's first MLP matrix and its norm, at the machine's floats. -/
theorem quiescent_upDx : Cert.quiescent_UpDx := fun m g _ => Cert.UpDx.Gen.frame m g

/-- The same in the extended reals. -/
theorem quiescent_upDx_ideal : Cert.quiescent_UpDxIdeal := fun m g _ => Cert.UpDxIdeal.Gen.frame m g

/-- The same of its reference. -/
theorem quiescent_upDx_reference : Cert.quiescent_UpDxReferenceIdeal := fun m g _ =>
  (θ_run Cert.UpDxReferenceIdeal.defs _ _).mono (fun r h => ⟨fun c => (h c).2.2,
    Idealize.ShloMosaic.sem_eq_zero_of_no_sems (by decide) r.2⟩) (Cert.UpDxReferenceIdeal.Value.run m g)

/-- The run of the gradient through a layer's first MLP matrix, held in a stack of one, and its norm, at the machine's floats. -/
theorem quiescent_upDxOne : Cert.quiescent_UpDxOne := fun m g _ => Cert.UpDxOne.Gen.frame m g

/-- The same in the extended reals. -/
theorem quiescent_upDxOne_ideal : Cert.quiescent_UpDxOneIdeal := fun m g _ => Cert.UpDxOneIdeal.Gen.frame m g

/-- The same of its reference. -/
theorem quiescent_upDxOne_reference : Cert.quiescent_UpDxOneReferenceIdeal := fun m g _ =>
  (θ_run Cert.UpDxOneReferenceIdeal.defs _ _).mono (fun r h => ⟨fun c => (h c).2.2,
    Idealize.ShloMosaic.sem_eq_zero_of_no_sems (by decide) r.2⟩) (Cert.UpDxOneReferenceIdeal.Value.run m g)

/-- The run of the gradient through layer 3's first MLP matrix and its norm, at the machine's floats. -/
theorem quiescent_upDxTop : Cert.quiescent_UpDxTop := fun m g _ => Cert.UpDxTop.Gen.frame m g

/-- The same in the extended reals. -/
theorem quiescent_upDxTop_ideal : Cert.quiescent_UpDxTopIdeal := fun m g _ => Cert.UpDxTopIdeal.Gen.frame m g

/-- The same of its reference. -/
theorem quiescent_upDxTop_reference : Cert.quiescent_UpDxTopReferenceIdeal := fun m g _ =>
  (θ_run Cert.UpDxTopReferenceIdeal.defs _ _).mono (fun r h => ⟨fun c => (h c).2.2,
    Idealize.ShloMosaic.sem_eq_zero_of_no_sems (by decide) r.2⟩) (Cert.UpDxTopReferenceIdeal.Value.run m g)

/-- The run of the gradient of layer 2's first MLP matrix, at the machine's floats. -/
theorem quiescent_upDw : Cert.quiescent_UpDw := fun m g _ => Cert.UpDw.Gen.frame m g

/-- The same in the extended reals. -/
theorem quiescent_upDw_ideal : Cert.quiescent_UpDwIdeal := fun m g _ => Cert.UpDwIdeal.Gen.frame m g

/-- The same of its reference. -/
theorem quiescent_upDw_reference : Cert.quiescent_UpDwReferenceIdeal := fun m g _ =>
  (θ_run Cert.UpDwReferenceIdeal.defs _ _).mono (fun r h => ⟨fun c => (h c).2,
    Idealize.ShloMosaic.sem_eq_zero_of_no_sems (by decide) r.2⟩) (Cert.UpDwReferenceIdeal.Value.run m g)

/-- The run of the gradient of a layer's squared ReLU, its matrix held in a stack of one, at the machine's floats. -/
theorem quiescent_downDxOne : Cert.quiescent_DownDxOne := fun m g _ => Cert.DownDxOne.Gen.frame m g

/-- The same in the extended reals. -/
theorem quiescent_downDxOne_ideal : Cert.quiescent_DownDxOneIdeal := fun m g _ => Cert.DownDxOneIdeal.Gen.frame m g

/-- The same of its reference. -/
theorem quiescent_downDxOne_reference : Cert.quiescent_DownDxOneReferenceIdeal := fun m g _ =>
  (θ_run Cert.DownDxOneReferenceIdeal.defs _ _).mono (fun r h => ⟨fun c => (h c).2,
    Idealize.ShloMosaic.sem_eq_zero_of_no_sems (by decide) r.2⟩) (Cert.DownDxOneReferenceIdeal.Value.run m g)

/-- The run of the gradient of layer 2's squared ReLU, at the machine's floats. -/
theorem quiescent_downDxTwo : Cert.quiescent_DownDxTwo := fun m g _ => Cert.DownDxTwo.Gen.frame m g

/-- The same in the extended reals. -/
theorem quiescent_downDxTwo_ideal : Cert.quiescent_DownDxTwoIdeal := fun m g _ => Cert.DownDxTwoIdeal.Gen.frame m g

/-- The same of its reference. -/
theorem quiescent_downDxTwo_reference : Cert.quiescent_DownDxTwoReferenceIdeal := fun m g _ =>
  (θ_run Cert.DownDxTwoReferenceIdeal.defs _ _).mono (fun r h => ⟨fun c => (h c).2,
    Idealize.ShloMosaic.sem_eq_zero_of_no_sems (by decide) r.2⟩) (Cert.DownDxTwoReferenceIdeal.Value.run m g)

/-- The run of the gradient through layer 2's recurrence input matrix and its norm, at the machine's floats. -/
theorem quiescent_inDx : Cert.quiescent_InDx := fun m g _ => Cert.InDx.Gen.frame m g

/-- The same in the extended reals. -/
theorem quiescent_inDx_ideal : Cert.quiescent_InDxIdeal := fun m g _ => Cert.InDxIdeal.Gen.frame m g

/-- The same of its reference. -/
theorem quiescent_inDx_reference : Cert.quiescent_InDxReferenceIdeal := fun m g _ =>
  (θ_run Cert.InDxReferenceIdeal.defs _ _).mono (fun r h => ⟨fun c => (h c).2.2,
    Idealize.ShloMosaic.sem_eq_zero_of_no_sems (by decide) r.2⟩) (Cert.InDxReferenceIdeal.Value.run m g)

/-- The run of the gradient of layer 2's recurrence input matrix, at the machine's floats. -/
theorem quiescent_inDw : Cert.quiescent_InDw := fun m g _ => Cert.InDw.Gen.frame m g

/-- The same in the extended reals. -/
theorem quiescent_inDw_ideal : Cert.quiescent_InDwIdeal := fun m g _ => Cert.InDwIdeal.Gen.frame m g

/-- The same of its reference. -/
theorem quiescent_inDw_reference : Cert.quiescent_InDwReferenceIdeal := fun m g _ =>
  (θ_run Cert.InDwReferenceIdeal.defs _ _).mono (fun r h => ⟨fun c => (h c).2,
    Idealize.ShloMosaic.sem_eq_zero_of_no_sems (by decide) r.2⟩) (Cert.InDwReferenceIdeal.Value.run m g)

/-- The run of the gradient of layer 2's recurrence output matrix, at the machine's floats. -/
theorem quiescent_outDw : Cert.quiescent_OutDw := fun m g _ => Cert.OutDw.Gen.frame m g

/-- The same in the extended reals. -/
theorem quiescent_outDw_ideal : Cert.quiescent_OutDwIdeal := fun m g _ => Cert.OutDwIdeal.Gen.frame m g

/-- The same of its reference. -/
theorem quiescent_outDw_reference : Cert.quiescent_OutDwReferenceIdeal := fun m g _ =>
  (θ_run Cert.OutDwReferenceIdeal.defs _ _).mono (fun r h => ⟨fun c => (h c).2,
    Idealize.ShloMosaic.sem_eq_zero_of_no_sems (by decide) r.2⟩) (Cert.OutDwReferenceIdeal.Value.run m g)

/-- The run of the gradient through layer 2's recurrence output matrix, at the machine's floats. -/
theorem quiescent_outDx : Cert.quiescent_OutDx := fun m g _ => Cert.OutDx.Gen.frame m g

/-- The same in the extended reals. -/
theorem quiescent_outDx_ideal : Cert.quiescent_OutDxIdeal := fun m g _ => Cert.OutDxIdeal.Gen.frame m g

/-- The same of its reference. -/
theorem quiescent_outDx_reference : Cert.quiescent_OutDxReferenceIdeal := fun m g _ =>
  (θ_run Cert.OutDxReferenceIdeal.defs _ _).mono (fun r h => ⟨fun c => (h c).2,
    Idealize.ShloMosaic.sem_eq_zero_of_no_sems (by decide) r.2⟩) (Cert.OutDxReferenceIdeal.Value.run m g)

/-- The run of the product with layer 2's recurrence input matrix, at the machine's floats. -/
theorem quiescent_ssdIn : Cert.quiescent_SsdIn := fun m g _ => Cert.SsdIn.Gen.frame m g

/-- The same in the extended reals. -/
theorem quiescent_ssdIn_ideal : Cert.quiescent_SsdInIdeal := fun m g _ => Cert.SsdInIdeal.Gen.frame m g

/-- The same of its reference. -/
theorem quiescent_ssdIn_reference : Cert.quiescent_SsdInReferenceIdeal := fun m g _ =>
  (θ_run Cert.SsdInReferenceIdeal.defs _ _).mono (fun r h => ⟨fun c => (h c).2,
    Idealize.ShloMosaic.sem_eq_zero_of_no_sems (by decide) r.2⟩) (Cert.SsdInReferenceIdeal.Value.run m g)

/-- The run of the product with layer 2's recurrence output matrix, the residual stream and its norm, at the machine's floats. -/
theorem quiescent_ssdOut : Cert.quiescent_SsdOut := fun m g _ => Cert.SsdOut.Gen.frame m g

/-- The same in the extended reals. -/
theorem quiescent_ssdOut_ideal : Cert.quiescent_SsdOutIdeal := fun m g _ => Cert.SsdOutIdeal.Gen.frame m g

/-- The same of its reference. -/
theorem quiescent_ssdOut_reference : Cert.quiescent_SsdOutReferenceIdeal := fun m g _ =>
  (θ_run Cert.SsdOutReferenceIdeal.defs _ _).mono (fun r h => ⟨fun c => (h c).2.2,
    Idealize.ShloMosaic.sem_eq_zero_of_no_sems (by decide) r.2⟩) (Cert.SsdOutReferenceIdeal.Value.run m g)

/-- The run of the product with a layer's first MLP matrix, held in a stack of one, at the machine's floats. -/
theorem quiescent_mlpUpOne : Cert.quiescent_MlpUpOne := fun m g _ => Cert.MlpUpOne.Gen.frame m g

/-- The same in the extended reals. -/
theorem quiescent_mlpUpOne_ideal : Cert.quiescent_MlpUpOneIdeal := fun m g _ => Cert.MlpUpOneIdeal.Gen.frame m g

/-- The same of its reference. -/
theorem quiescent_mlpUpOne_reference : Cert.quiescent_MlpUpOneReferenceIdeal := fun m g _ =>
  (θ_run Cert.MlpUpOneReferenceIdeal.defs _ _).mono (fun r h => ⟨fun c => (h c).2,
    Idealize.ShloMosaic.sem_eq_zero_of_no_sems (by decide) r.2⟩) (Cert.MlpUpOneReferenceIdeal.Value.run m g)

/-- The run of the product with layer 2's first MLP matrix, at the machine's floats. -/
theorem quiescent_mlpUpTwo : Cert.quiescent_MlpUpTwo := fun m g _ => Cert.MlpUpTwo.Gen.frame m g

/-- The same in the extended reals. -/
theorem quiescent_mlpUpTwo_ideal : Cert.quiescent_MlpUpTwoIdeal := fun m g _ => Cert.MlpUpTwoIdeal.Gen.frame m g

/-- The same of its reference. -/
theorem quiescent_mlpUpTwo_reference : Cert.quiescent_MlpUpTwoReferenceIdeal := fun m g _ =>
  (θ_run Cert.MlpUpTwoReferenceIdeal.defs _ _).mono (fun r h => ⟨fun c => (h c).2,
    Idealize.ShloMosaic.sem_eq_zero_of_no_sems (by decide) r.2⟩) (Cert.MlpUpTwoReferenceIdeal.Value.run m g)

/-- The run of the product with layer 3's first MLP matrix, at the machine's floats. -/
theorem quiescent_mlpUpTop : Cert.quiescent_MlpUpTop := fun m g _ => Cert.MlpUpTop.Gen.frame m g

/-- The same in the extended reals. -/
theorem quiescent_mlpUpTop_ideal : Cert.quiescent_MlpUpTopIdeal := fun m g _ => Cert.MlpUpTopIdeal.Gen.frame m g

/-- The same of its reference. -/
theorem quiescent_mlpUpTop_reference : Cert.quiescent_MlpUpTopReferenceIdeal := fun m g _ =>
  (θ_run Cert.MlpUpTopReferenceIdeal.defs _ _).mono (fun r h => ⟨fun c => (h c).2,
    Idealize.ShloMosaic.sem_eq_zero_of_no_sems (by decide) r.2⟩) (Cert.MlpUpTopReferenceIdeal.Value.run m g)

/-- The run of a layer's second MLP matrix, held in a stack of one, the residual stream and its norm, at the machine's floats. -/
theorem quiescent_mlpDownOne : Cert.quiescent_MlpDownOne := fun m g _ => Cert.MlpDownOne.Gen.frame m g

/-- The same in the extended reals. -/
theorem quiescent_mlpDownOne_ideal : Cert.quiescent_MlpDownOneIdeal := fun m g _ => Cert.MlpDownOneIdeal.Gen.frame m g

/-- The same of its reference. -/
theorem quiescent_mlpDownOne_reference : Cert.quiescent_MlpDownOneReferenceIdeal := fun m g _ =>
  (θ_run Cert.MlpDownOneReferenceIdeal.defs _ _).mono (fun r h => ⟨fun c => (h c).2.2,
    Idealize.ShloMosaic.sem_eq_zero_of_no_sems (by decide) r.2⟩) (Cert.MlpDownOneReferenceIdeal.Value.run m g)

/-- The run of layer 2's second MLP matrix, the residual stream and its norm, at the machine's floats. -/
theorem quiescent_mlpDownTwo : Cert.quiescent_MlpDownTwo := fun m g _ => Cert.MlpDownTwo.Gen.frame m g

/-- The same in the extended reals. -/
theorem quiescent_mlpDownTwo_ideal : Cert.quiescent_MlpDownTwoIdeal := fun m g _ => Cert.MlpDownTwoIdeal.Gen.frame m g

/-- The same of its reference. -/
theorem quiescent_mlpDownTwo_reference : Cert.quiescent_MlpDownTwoReferenceIdeal := fun m g _ =>
  (θ_run Cert.MlpDownTwoReferenceIdeal.defs _ _).mono (fun r h => ⟨fun c => (h c).2.2,
    Idealize.ShloMosaic.sem_eq_zero_of_no_sems (by decide) r.2⟩) (Cert.MlpDownTwoReferenceIdeal.Value.run m g)

/-- The run of layer 3's second MLP matrix and the residual stream, at the machine's floats. -/
theorem quiescent_mlpDownTop : Cert.quiescent_MlpDownTop := fun m g _ => Cert.MlpDownTop.Gen.frame m g

/-- The same in the extended reals. -/
theorem quiescent_mlpDownTop_ideal : Cert.quiescent_MlpDownTopIdeal := fun m g _ => Cert.MlpDownTopIdeal.Gen.frame m g

/-- The same of its reference. -/
theorem quiescent_mlpDownTop_reference : Cert.quiescent_MlpDownTopReferenceIdeal := fun m g _ =>
  (θ_run Cert.MlpDownTopReferenceIdeal.defs _ _).mono (fun r h => ⟨fun c => (h c).2,
    Idealize.ShloMosaic.sem_eq_zero_of_no_sems (by decide) r.2⟩) (Cert.MlpDownTopReferenceIdeal.Value.run m g)

/-- The run of the gradient of layer 3's first MLP matrix, at the machine's floats. -/
theorem quiescent_upDwTop : Cert.quiescent_UpDwTop := fun m g _ => Cert.UpDwTop.Gen.frame m g

/-- The same in the extended reals. -/
theorem quiescent_upDwTop_ideal : Cert.quiescent_UpDwTopIdeal := fun m g _ => Cert.UpDwTopIdeal.Gen.frame m g

/-- The same of its reference. -/
theorem quiescent_upDwTop_reference : Cert.quiescent_UpDwTopReferenceIdeal := fun m g _ =>
  (θ_run Cert.UpDwTopReferenceIdeal.defs _ _).mono (fun r h => ⟨fun c => (h c).2,
    Idealize.ShloMosaic.sem_eq_zero_of_no_sems (by decide) r.2⟩) (Cert.UpDwTopReferenceIdeal.Value.run m g)

/-- The run of the gradient of layer 3's second MLP matrix, at the machine's floats. -/
theorem quiescent_downDwTop : Cert.quiescent_DownDwTop := fun m g _ => Cert.DownDwTop.Gen.frame m g

/-- The same in the extended reals. -/
theorem quiescent_downDwTop_ideal : Cert.quiescent_DownDwTopIdeal := fun m g _ => Cert.DownDwTopIdeal.Gen.frame m g

/-- The same of its reference. -/
theorem quiescent_downDwTop_reference : Cert.quiescent_DownDwTopReferenceIdeal := fun m g _ =>
  (θ_run Cert.DownDwTopReferenceIdeal.defs _ _).mono (fun r h => ⟨fun c => (h c).2,
    Idealize.ShloMosaic.sem_eq_zero_of_no_sems (by decide) r.2⟩) (Cert.DownDwTopReferenceIdeal.Value.run m g)

/-- Everything claimed: the frames, the named constants, and that the kernels' arrays are the references'. -/
theorem claim : Cert.Claim := ⟨Cert.Kernel.Gen.facts, Cert.KernelIdeal.Gen.facts, Cert.ReferenceIdeal.Gen.facts,
  Cert.DownDx.Gen.facts, Cert.DownDxIdeal.Gen.facts, Cert.DownDxReferenceIdeal.Gen.facts, Cert.DownDw.Gen.facts, Cert.DownDwIdeal.Gen.facts, Cert.DownDwReferenceIdeal.Gen.facts, Cert.UpDx.Gen.facts, Cert.UpDxIdeal.Gen.facts, Cert.UpDxReferenceIdeal.Gen.facts, Cert.UpDxOne.Gen.facts, Cert.UpDxOneIdeal.Gen.facts, Cert.UpDxOneReferenceIdeal.Gen.facts, Cert.UpDxTop.Gen.facts, Cert.UpDxTopIdeal.Gen.facts, Cert.UpDxTopReferenceIdeal.Gen.facts, Cert.UpDw.Gen.facts, Cert.UpDwIdeal.Gen.facts, Cert.UpDwReferenceIdeal.Gen.facts, Cert.DownDxOne.Gen.facts, Cert.DownDxOneIdeal.Gen.facts, Cert.DownDxOneReferenceIdeal.Gen.facts, Cert.DownDxTwo.Gen.facts, Cert.DownDxTwoIdeal.Gen.facts, Cert.DownDxTwoReferenceIdeal.Gen.facts, Cert.InDx.Gen.facts, Cert.InDxIdeal.Gen.facts, Cert.InDxReferenceIdeal.Gen.facts, Cert.InDw.Gen.facts, Cert.InDwIdeal.Gen.facts, Cert.InDwReferenceIdeal.Gen.facts, Cert.OutDw.Gen.facts, Cert.OutDwIdeal.Gen.facts, Cert.OutDwReferenceIdeal.Gen.facts, Cert.OutDx.Gen.facts, Cert.OutDxIdeal.Gen.facts, Cert.OutDxReferenceIdeal.Gen.facts, Cert.SsdIn.Gen.facts, Cert.SsdInIdeal.Gen.facts, Cert.SsdInReferenceIdeal.Gen.facts, Cert.SsdOut.Gen.facts, Cert.SsdOutIdeal.Gen.facts, Cert.SsdOutReferenceIdeal.Gen.facts, Cert.MlpUpOne.Gen.facts, Cert.MlpUpOneIdeal.Gen.facts, Cert.MlpUpOneReferenceIdeal.Gen.facts, Cert.MlpUpTwo.Gen.facts, Cert.MlpUpTwoIdeal.Gen.facts, Cert.MlpUpTwoReferenceIdeal.Gen.facts, Cert.MlpUpTop.Gen.facts, Cert.MlpUpTopIdeal.Gen.facts, Cert.MlpUpTopReferenceIdeal.Gen.facts, Cert.MlpDownOne.Gen.facts, Cert.MlpDownOneIdeal.Gen.facts, Cert.MlpDownOneReferenceIdeal.Gen.facts, Cert.MlpDownTwo.Gen.facts, Cert.MlpDownTwoIdeal.Gen.facts, Cert.MlpDownTwoReferenceIdeal.Gen.facts, Cert.MlpDownTop.Gen.facts, Cert.MlpDownTopIdeal.Gen.facts, Cert.MlpDownTopReferenceIdeal.Gen.facts, Cert.UpDwTop.Gen.facts, Cert.UpDwTopIdeal.Gen.facts, Cert.UpDwTopReferenceIdeal.Gen.facts, Cert.DownDwTop.Gen.facts, Cert.DownDwTopIdeal.Gen.facts, Cert.DownDwTopReferenceIdeal.Gen.facts,
  Cert.Pre_finite.Hand.facts,
  quiescent_kernel, quiescent_ideal, quiescent_ideal_pre, quiescent_reference, quiescent_reference_pre,
  quiescent_downDx, quiescent_downDx_ideal, quiescent_downDx_reference, quiescent_downDw, quiescent_downDw_ideal, quiescent_downDw_reference, quiescent_upDx, quiescent_upDx_ideal, quiescent_upDx_reference, quiescent_upDxOne, quiescent_upDxOne_ideal, quiescent_upDxOne_reference, quiescent_upDxTop, quiescent_upDxTop_ideal, quiescent_upDxTop_reference, quiescent_upDw, quiescent_upDw_ideal, quiescent_upDw_reference, quiescent_downDxOne, quiescent_downDxOne_ideal, quiescent_downDxOne_reference, quiescent_downDxTwo, quiescent_downDxTwo_ideal, quiescent_downDxTwo_reference, quiescent_inDx, quiescent_inDx_ideal, quiescent_inDx_reference, quiescent_inDw, quiescent_inDw_ideal, quiescent_inDw_reference, quiescent_outDw, quiescent_outDw_ideal, quiescent_outDw_reference, quiescent_outDx, quiescent_outDx_ideal, quiescent_outDx_reference, quiescent_ssdIn, quiescent_ssdIn_ideal, quiescent_ssdIn_reference, quiescent_ssdOut, quiescent_ssdOut_ideal, quiescent_ssdOut_reference, quiescent_mlpUpOne, quiescent_mlpUpOne_ideal, quiescent_mlpUpOne_reference, quiescent_mlpUpTwo, quiescent_mlpUpTwo_ideal, quiescent_mlpUpTwo_reference, quiescent_mlpUpTop, quiescent_mlpUpTop_ideal, quiescent_mlpUpTop_reference, quiescent_mlpDownOne, quiescent_mlpDownOne_ideal, quiescent_mlpDownOne_reference, quiescent_mlpDownTwo, quiescent_mlpDownTwo_ideal, quiescent_mlpDownTwo_reference, quiescent_mlpDownTop, quiescent_mlpDownTop_ideal, quiescent_mlpDownTop_reference, quiescent_upDwTop, quiescent_upDwTop_ideal, quiescent_upDwTop_reference, quiescent_downDwTop, quiescent_downDwTop_ideal, quiescent_downDwTop_reference,
  preserves, Cert.KernelIdeal.Hand.algebraic,
  trivial, Cert.DownDxIdeal.Hand.algebraic, trivial, Cert.DownDwIdeal.Hand.algebraic, trivial, Cert.UpDxIdeal.Hand.algebraic, trivial, Cert.UpDxOneIdeal.Hand.algebraic, trivial, Cert.UpDxTopIdeal.Hand.algebraic, trivial, Cert.UpDwIdeal.Hand.algebraic, trivial, Cert.DownDxOneIdeal.Hand.algebraic, trivial, Cert.DownDxTwoIdeal.Hand.algebraic, trivial, Cert.InDxIdeal.Hand.algebraic, trivial, Cert.InDwIdeal.Hand.algebraic, trivial, Cert.OutDwIdeal.Hand.algebraic, trivial, Cert.OutDxIdeal.Hand.algebraic, trivial, Cert.SsdInIdeal.Hand.algebraic, trivial, Cert.SsdOutIdeal.Hand.algebraic, trivial, Cert.MlpUpOneIdeal.Hand.algebraic, trivial, Cert.MlpUpTwoIdeal.Hand.algebraic, trivial, Cert.MlpUpTopIdeal.Hand.algebraic, trivial, Cert.MlpDownOneIdeal.Hand.algebraic, trivial, Cert.MlpDownTwoIdeal.Hand.algebraic, trivial, Cert.MlpDownTopIdeal.Hand.algebraic, trivial, Cert.UpDwTopIdeal.Hand.algebraic, trivial, Cert.DownDwTopIdeal.Hand.algebraic⟩

end Cert.Proof

end
